-- ==== Defs.lean ====
def Pre_Kernel [hPre_positions : Cert.Pre_positions.Facts] (m : (ℓ : Loc Cert.Kernel.nD Cert.Kernel.τ Cert.Kernel.sig) → Buf (Elt Bits) ℓ) : Prop :=
  ∀ c : Dev Cert.Kernel.nD,
    (Cert.Pre_positions.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Reference (m : (ℓ : Loc Cert.Reference.nD Cert.Reference.τ Cert.Reference.sig) → Buf (Elt Bits) ℓ) : Prop :=
  True

def Pre_Reference_positions [hPre_positions : Cert.Pre_positions.Facts] (m : (ℓ : Loc Cert.Reference.nD Cert.Reference.τ Cert.Reference.sig) → Buf (Elt Bits) ℓ) : Prop :=
  ∀ c : Dev Cert.Reference.nD,
    (Cert.Pre_positions.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite [hPre_finite : Cert.Pre_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvReferenceIdeal (m : (ℓ : Loc Cert.ShortConvReferenceIdeal.nD Cert.ShortConvReferenceIdeal.τ Cert.ShortConvReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] [hPre_positions : Cert.Pre_positions.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Reference_pre_positions [hReference : Cert.Reference.Facts] [hPre_positions : Cert.Pre_positions.Facts] : Prop :=
  ∀ (m : (ℓ : Loc Cert.Reference.nD Cert.Reference.τ Cert.Reference.sig) → Buf (Elt Bits) ℓ) (g : Dev Cert.Reference.nD → PrngReg), Pre_Reference_positions m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_AttentionReferenceIdeal_pre_finite [hAttentionReferenceIdeal : Cert.AttentionReferenceIdeal.Facts] [hPre_finite : Cert.Pre_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2)
      ∧ r.2.mem ((c.tc : Thread Cert.ShortConv.nD Cert.ShortConv.τ).loc Cert.ShortConv.main_arg3) = m ((c.tc : Thread Cert.ShortConv.nD Cert.ShortConv.τ).loc Cert.ShortConv.main_arg3)
      ∧ r.2.mem ((c.tc : Thread Cert.ShortConv.nD Cert.ShortConv.τ).loc Cert.ShortConv.main_arg4) = m ((c.tc : Thread Cert.ShortConv.nD Cert.ShortConv.τ).loc Cert.ShortConv.main_arg4)
      ∧ r.2.mem ((c.tc : Thread Cert.ShortConv.nD Cert.ShortConv.τ).loc Cert.ShortConv.main_arg5) = m ((c.tc : Thread Cert.ShortConv.nD Cert.ShortConv.τ).loc Cert.ShortConv.main_arg5)
      ∧ r.2.mem ((c.tc : Thread Cert.ShortConv.nD Cert.ShortConv.τ).loc Cert.ShortConv.main_arg6) = m ((c.tc : Thread Cert.ShortConv.nD Cert.ShortConv.τ).loc Cert.ShortConv.main_arg6)
      ∧ r.2.mem ((c.tc : Thread Cert.ShortConv.nD Cert.ShortConv.τ).loc Cert.ShortConv.main_arg7) = m ((c.tc : Thread Cert.ShortConv.nD Cert.ShortConv.τ).loc Cert.ShortConv.main_arg7)
      ∧ r.2.mem ((c.tc : Thread Cert.ShortConv.nD Cert.ShortConv.τ).loc Cert.ShortConv.main_arg8) = m ((c.tc : Thread Cert.ShortConv.nD Cert.ShortConv.τ).loc Cert.ShortConv.main_arg8))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
      ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
      ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4)
      ∧ r.2.mem ((c.tc : Thread Cert.ShortConvIdeal.nD Cert.ShortConvIdeal.τ).loc Cert.ShortConvIdeal.main_arg5) = m ((c.tc : Thread Cert.ShortConvIdeal.nD Cert.ShortConvIdeal.τ).loc Cert.ShortConvIdeal.main_arg5)
      ∧ r.2.mem ((c.tc : Thread Cert.ShortConvIdeal.nD Cert.ShortConvIdeal.τ).loc Cert.ShortConvIdeal.main_arg6) = m ((c.tc : Thread Cert.ShortConvIdeal.nD Cert.ShortConvIdeal.τ).loc Cert.ShortConvIdeal.main_arg6)
      ∧ r.2.mem ((c.tc : Thread Cert.ShortConvIdeal.nD Cert.ShortConvIdeal.τ).loc Cert.ShortConvIdeal.main_arg7) = m ((c.tc : Thread Cert.ShortConvIdeal.nD Cert.ShortConvIdeal.τ).loc Cert.ShortConvIdeal.main_arg7)
      ∧ r.2.mem ((c.tc : Thread Cert.ShortConvIdeal.nD Cert.ShortConvIdeal.τ).loc Cert.ShortConvIdeal.main_arg8) = m ((c.tc : Thread Cert.ShortConvIdeal.nD Cert.ShortConvIdeal.τ).loc Cert.ShortConvIdeal.main_arg8))
      ∧ r.2.sem = fun _ => 0)

def quiescent_ShortConvReferenceIdeal [hShortConvReferenceIdeal : Cert.ShortConvReferenceIdeal.Facts] : Prop :=
  ∀ (m : (ℓ : Loc Cert.ShortConvReferenceIdeal.nD Cert.ShortConvReferenceIdeal.τ Cert.ShortConvReferenceIdeal.sig) → Buf (Elt Ideal) ℓ) (g : Dev Cert.ShortConvReferenceIdeal.nD → PrngReg), Pre_ShortConvReferenceIdeal m →
    θ_run (Cert.ShortConvReferenceIdeal.defs (F := Ideal)) (onTc (τ := Cert.ShortConvReferenceIdeal.τ) (Cert.ShortConvReferenceIdeal.main (F := Ideal))) ⟨m, fun _ => 0, g⟩ (fun r => (∀ c : Dev Cert.ShortConvReferenceIdeal.nD,
      r.2.mem ((c.tc : Thread Cert.ShortConvReferenceIdeal.nD Cert.ShortConvReferenceIdeal.τ).loc Cert.ShortConvReferenceIdeal.main_arg0) = m ((c.tc : Thread Cert.ShortConvReferenceIdeal.nD Cert.ShortConvReferenceIdeal.τ).loc Cert.ShortConvReferenceIdeal.main_arg0)
      ∧ r.2.mem ((c.tc : Thread Cert.ShortConvReferenceIdeal.nD Cert.ShortConvReferenceIdeal.τ).loc Cert.ShortConvReferenceIdeal.main_arg1) = m ((c.tc : Thread Cert.ShortConvReferenceIdeal.nD Cert.ShortConvReferenceIdeal.τ).loc Cert.ShortConvReferenceIdeal.main_arg1)
      ∧ r.2.mem ((c.tc : Thread Cert.ShortConvReferenceIdeal.nD Cert.ShortConvReferenceIdeal.τ).loc Cert.ShortConvReferenceIdeal.main_arg2) = m ((c.tc : Thread Cert.ShortConvReferenceIdeal.nD Cert.ShortConvReferenceIdeal.τ).loc Cert.ShortConvReferenceIdeal.main_arg2)
      ∧ r.2.mem ((c.tc : Thread Cert.ShortConvReferenceIdeal.nD Cert.ShortConvReferenceIdeal.τ).loc Cert.ShortConvReferenceIdeal.main_arg3) = m ((c.tc : Thread Cert.ShortConvReferenceIdeal.nD Cert.ShortConvReferenceIdeal.τ).loc Cert.ShortConvReferenceIdeal.main_arg3)
      ∧ r.2.mem ((c.tc : Thread Cert.ShortConvReferenceIdeal.nD Cert.ShortConvReferenceIdeal.τ).loc Cert.ShortConvReferenceIdeal.main_arg4) = m ((c.tc : Thread Cert.ShortConvReferenceIdeal.nD Cert.ShortConvReferenceIdeal.τ).loc Cert.ShortConvReferenceIdeal.main_arg4)
      ∧ r.2.mem ((c.tc : Thread Cert.ShortConvReferenceIdeal.nD Cert.ShortConvReferenceIdeal.τ).loc Cert.ShortConvReferenceIdeal.main_arg5) = m ((c.tc : Thread Cert.ShortConvReferenceIdeal.nD Cert.ShortConvReferenceIdeal.τ).loc Cert.ShortConvReferenceIdeal.main_arg5)
      ∧ r.2.mem ((c.tc : Thread Cert.ShortConvReferenceIdeal.nD Cert.ShortConvReferenceIdeal.τ).loc Cert.ShortConvReferenceIdeal.main_arg6) = m ((c.tc : Thread Cert.ShortConvReferenceIdeal.nD Cert.ShortConvReferenceIdeal.τ).loc Cert.ShortConvReferenceIdeal.main_arg6)
      ∧ r.2.mem ((c.tc : Thread Cert.ShortConvReferenceIdeal.nD Cert.ShortConvReferenceIdeal.τ).loc Cert.ShortConvReferenceIdeal.main_arg7) = m ((c.tc : Thread Cert.ShortConvReferenceIdeal.nD Cert.ShortConvReferenceIdeal.τ).loc Cert.ShortConvReferenceIdeal.main_arg7)
      ∧ r.2.mem ((c.tc : Thread Cert.ShortConvReferenceIdeal.nD Cert.ShortConvReferenceIdeal.τ).loc Cert.ShortConvReferenceIdeal.main_arg8) = m ((c.tc : Thread Cert.ShortConvReferenceIdeal.nD Cert.ShortConvReferenceIdeal.τ).loc Cert.ShortConvReferenceIdeal.main_arg8))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def bitexact_Kernel_Reference [hKernel : Cert.Kernel.Facts] [hReference : Cert.Reference.Facts] [hPre_positions : Cert.Pre_positions.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v29) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Attention_AttentionIdeal : Prop :=
  True

def algebraic_AttentionIdeal_AttentionReferenceIdeal_pre_finite [hAttentionIdeal : Cert.AttentionIdeal.Facts] [hAttentionReferenceIdeal : Cert.AttentionReferenceIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v21)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v21) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v19) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def preserves_Experts_ExpertsIdeal : Prop :=
  IdealRules.bf16_pair.Statement Cert.ExpertsIdeal.S1024x512 Cert.ExpertsIdeal.S512x512
  ∧ IdealRules.bf16_pair.Statement Cert.ExpertsIdeal.S1024x1024 Cert.ExpertsIdeal.S512x1024
  ∧ IdealRules.bf16_pack.Statement Cert.ExpertsIdeal.S512x1024

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v10)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v10) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v75) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_ShortConv_ShortConvIdeal : Prop :=
  IdealRules.bf16_pair.Statement Cert.ShortConvIdeal.S1024x512 Cert.ShortConvIdeal.S512x512
  ∧ IdealRules.bf16_pack.Statement Cert.ShortConvIdeal.S512x512

def algebraic_ShortConvIdeal_ShortConvReferenceIdeal [hShortConvIdeal : Cert.ShortConvIdeal.Facts] [hShortConvReferenceIdeal : Cert.ShortConvReferenceIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvReferenceIdeal.nD Cert.ShortConvReferenceIdeal.τ Cert.ShortConvReferenceIdeal.sig) → Buf (Elt Ideal) ℓ) (g' : Dev Cert.ShortConvReferenceIdeal.nD → PrngReg), Pre_ShortConvIdeal m →
    (∀ c : Dev Cert.ShortConvIdeal.nD,
      m' ((c.tc : Thread Cert.ShortConvReferenceIdeal.nD Cert.ShortConvReferenceIdeal.τ).loc Cert.ShortConvReferenceIdeal.main_arg0) = m ((c.tc : Thread Cert.ShortConvIdeal.nD Cert.ShortConvIdeal.τ).loc Cert.ShortConvIdeal.main_arg0)
      ∧ m' ((c.tc : Thread Cert.ShortConvReferenceIdeal.nD Cert.ShortConvReferenceIdeal.τ).loc Cert.ShortConvReferenceIdeal.main_arg1) = m ((c.tc : Thread Cert.ShortConvIdeal.nD Cert.ShortConvIdeal.τ).loc Cert.ShortConvIdeal.main_arg1)
      ∧ m' ((c.tc : Thread Cert.ShortConvReferenceIdeal.nD Cert.ShortConvReferenceIdeal.τ).loc Cert.ShortConvReferenceIdeal.main_arg2) = m ((c.tc : Thread Cert.ShortConvIdeal.nD Cert.ShortConvIdeal.τ).loc Cert.ShortConvIdeal.main_arg2)
      ∧ m' ((c.tc : Thread Cert.ShortConvReferenceIdeal.nD Cert.ShortConvReferenceIdeal.τ).loc Cert.ShortConvReferenceIdeal.main_arg3) = m ((c.tc : Thread Cert.ShortConvIdeal.nD Cert.ShortConvIdeal.τ).loc Cert.ShortConvIdeal.main_arg3)
      ∧ m' ((c.tc : Thread Cert.ShortConvReferenceIdeal.nD Cert.ShortConvReferenceIdeal.τ).loc Cert.ShortConvReferenceIdeal.main_arg4) = m ((c.tc : Thread Cert.ShortConvIdeal.nD Cert.ShortConvIdeal.τ).loc Cert.ShortConvIdeal.main_arg4)
      ∧ m' ((c.tc : Thread Cert.ShortConvReferenceIdeal.nD Cert.ShortConvReferenceIdeal.τ).loc Cert.ShortConvReferenceIdeal.main_arg5) = m ((c.tc : Thread Cert.ShortConvIdeal.nD Cert.ShortConvIdeal.τ).loc Cert.ShortConvIdeal.main_arg5)
      ∧ m' ((c.tc : Thread Cert.ShortConvReferenceIdeal.nD Cert.ShortConvReferenceIdeal.τ).loc Cert.ShortConvReferenceIdeal.main_arg6) = m ((c.tc : Thread Cert.ShortConvIdeal.nD Cert.ShortConvIdeal.τ).loc Cert.ShortConvIdeal.main_arg6)
      ∧ m' ((c.tc : Thread Cert.ShortConvReferenceIdeal.nD Cert.ShortConvReferenceIdeal.τ).loc Cert.ShortConvReferenceIdeal.main_arg7) = m ((c.tc : Thread Cert.ShortConvIdeal.nD Cert.ShortConvIdeal.τ).loc Cert.ShortConvIdeal.main_arg7)
      ∧ m' ((c.tc : Thread Cert.ShortConvReferenceIdeal.nD Cert.ShortConvReferenceIdeal.τ).loc Cert.ShortConvReferenceIdeal.main_arg8) = m ((c.tc : Thread Cert.ShortConvIdeal.nD Cert.ShortConvIdeal.τ).loc Cert.ShortConvIdeal.main_arg8)) →
    ∃ (v0 : (c : Dev Cert.ShortConvIdeal.nD) → Buf (Elt Ideal) ((c.tc : Thread Cert.ShortConvIdeal.nD Cert.ShortConvIdeal.τ).loc Cert.ShortConvIdeal.main_v9_0)) (v1 : (c : Dev Cert.ShortConvIdeal.nD) → Buf (Elt Ideal) ((c.tc : Thread Cert.ShortConvIdeal.nD Cert.ShortConvIdeal.τ).loc Cert.ShortConvIdeal.main_v9_1)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v9_0) = v0 c
          ∧ r.2.mem ((c.tc : Thread Cert.ShortConvIdeal.nD Cert.ShortConvIdeal.τ).loc Cert.ShortConvIdeal.main_v9_1) = v1 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2)
          ∧ r.2.mem ((c.tc : Thread Cert.ShortConvIdeal.nD Cert.ShortConvIdeal.τ).loc Cert.ShortConvIdeal.main_arg3) = m ((c.tc : Thread Cert.ShortConvIdeal.nD Cert.ShortConvIdeal.τ).loc Cert.ShortConvIdeal.main_arg3)
          ∧ r.2.mem ((c.tc : Thread Cert.ShortConvIdeal.nD Cert.ShortConvIdeal.τ).loc Cert.ShortConvIdeal.main_arg4) = m ((c.tc : Thread Cert.ShortConvIdeal.nD Cert.ShortConvIdeal.τ).loc Cert.ShortConvIdeal.main_arg4)
          ∧ r.2.mem ((c.tc : Thread Cert.ShortConvIdeal.nD Cert.ShortConvIdeal.τ).loc Cert.ShortConvIdeal.main_arg5) = m ((c.tc : Thread Cert.ShortConvIdeal.nD Cert.ShortConvIdeal.τ).loc Cert.ShortConvIdeal.main_arg5)
          ∧ r.2.mem ((c.tc : Thread Cert.ShortConvIdeal.nD Cert.ShortConvIdeal.τ).loc Cert.ShortConvIdeal.main_arg6) = m ((c.tc : Thread Cert.ShortConvIdeal.nD Cert.ShortConvIdeal.τ).loc Cert.ShortConvIdeal.main_arg6)
          ∧ r.2.mem ((c.tc : Thread Cert.ShortConvIdeal.nD Cert.ShortConvIdeal.τ).loc Cert.ShortConvIdeal.main_arg7) = m ((c.tc : Thread Cert.ShortConvIdeal.nD Cert.ShortConvIdeal.τ).loc Cert.ShortConvIdeal.main_arg7)
          ∧ r.2.mem ((c.tc : Thread Cert.ShortConvIdeal.nD Cert.ShortConvIdeal.τ).loc Cert.ShortConvIdeal.main_arg8) = m ((c.tc : Thread Cert.ShortConvIdeal.nD Cert.ShortConvIdeal.τ).loc Cert.ShortConvIdeal.main_arg8))
      ∧ θ_run (Cert.ShortConvReferenceIdeal.defs (F := Ideal)) (onTc (τ := Cert.ShortConvReferenceIdeal.τ) (Cert.ShortConvReferenceIdeal.main (F := Ideal))) ⟨m', fun _ => 0, g'⟩ (fun r => ∀ c : Dev Cert.ShortConvReferenceIdeal.nD,
          r.2.mem ((c.tc : Thread Cert.ShortConvReferenceIdeal.nD Cert.ShortConvReferenceIdeal.τ).loc Cert.ShortConvReferenceIdeal.main_v50) = v0 c
          ∧ r.2.mem ((c.tc : Thread Cert.ShortConvReferenceIdeal.nD Cert.ShortConvReferenceIdeal.τ).loc Cert.ShortConvReferenceIdeal.main_v52) = v1 c
          ∧ r.2.mem ((c.tc : Thread Cert.ShortConvReferenceIdeal.nD Cert.ShortConvReferenceIdeal.τ).loc Cert.ShortConvReferenceIdeal.main_arg0) = m' ((c.tc : Thread Cert.ShortConvReferenceIdeal.nD Cert.ShortConvReferenceIdeal.τ).loc Cert.ShortConvReferenceIdeal.main_arg0)
          ∧ r.2.mem ((c.tc : Thread Cert.ShortConvReferenceIdeal.nD Cert.ShortConvReferenceIdeal.τ).loc Cert.ShortConvReferenceIdeal.main_arg1) = m' ((c.tc : Thread Cert.ShortConvReferenceIdeal.nD Cert.ShortConvReferenceIdeal.τ).loc Cert.ShortConvReferenceIdeal.main_arg1)
          ∧ r.2.mem ((c.tc : Thread Cert.ShortConvReferenceIdeal.nD Cert.ShortConvReferenceIdeal.τ).loc Cert.ShortConvReferenceIdeal.main_arg2) = m' ((c.tc : Thread Cert.ShortConvReferenceIdeal.nD Cert.ShortConvReferenceIdeal.τ).loc Cert.ShortConvReferenceIdeal.main_arg2)
          ∧ r.2.mem ((c.tc : Thread Cert.ShortConvReferenceIdeal.nD Cert.ShortConvReferenceIdeal.τ).loc Cert.ShortConvReferenceIdeal.main_arg3) = m' ((c.tc : Thread Cert.ShortConvReferenceIdeal.nD Cert.ShortConvReferenceIdeal.τ).loc Cert.ShortConvReferenceIdeal.main_arg3)
          ∧ r.2.mem ((c.tc : Thread Cert.ShortConvReferenceIdeal.nD Cert.ShortConvReferenceIdeal.τ).loc Cert.ShortConvReferenceIdeal.main_arg4) = m' ((c.tc : Thread Cert.ShortConvReferenceIdeal.nD Cert.ShortConvReferenceIdeal.τ).loc Cert.ShortConvReferenceIdeal.main_arg4)
          ∧ r.2.mem ((c.tc : Thread Cert.ShortConvReferenceIdeal.nD Cert.ShortConvReferenceIdeal.τ).loc Cert.ShortConvReferenceIdeal.main_arg5) = m' ((c.tc : Thread Cert.ShortConvReferenceIdeal.nD Cert.ShortConvReferenceIdeal.τ).loc Cert.ShortConvReferenceIdeal.main_arg5)
          ∧ r.2.mem ((c.tc : Thread Cert.ShortConvReferenceIdeal.nD Cert.ShortConvReferenceIdeal.τ).loc Cert.ShortConvReferenceIdeal.main_arg6) = m' ((c.tc : Thread Cert.ShortConvReferenceIdeal.nD Cert.ShortConvReferenceIdeal.τ).loc Cert.ShortConvReferenceIdeal.main_arg6)
          ∧ r.2.mem ((c.tc : Thread Cert.ShortConvReferenceIdeal.nD Cert.ShortConvReferenceIdeal.τ).loc Cert.ShortConvReferenceIdeal.main_arg7) = m' ((c.tc : Thread Cert.ShortConvReferenceIdeal.nD Cert.ShortConvReferenceIdeal.τ).loc Cert.ShortConvReferenceIdeal.main_arg7)
          ∧ r.2.mem ((c.tc : Thread Cert.ShortConvReferenceIdeal.nD Cert.ShortConvReferenceIdeal.τ).loc Cert.ShortConvReferenceIdeal.main_arg8) = m' ((c.tc : Thread Cert.ShortConvReferenceIdeal.nD Cert.ShortConvReferenceIdeal.τ).loc Cert.ShortConvReferenceIdeal.main_arg8))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def Claim : Prop :=
  ∃ (hKernel : Cert.Kernel.Facts) (hReference : Cert.Reference.Facts) (hAttention : Cert.Attention.Facts) (hAttentionIdeal : Cert.AttentionIdeal.Facts) (hAttentionReferenceIdeal : Cert.AttentionReferenceIdeal.Facts) (hExperts : Cert.Experts.Facts) (hExpertsIdeal : Cert.ExpertsIdeal.Facts) (hExpertsReferenceIdeal : Cert.ExpertsReferenceIdeal.Facts) (hShortConv : Cert.ShortConv.Facts) (hShortConvIdeal : Cert.ShortConvIdeal.Facts) (hShortConvReferenceIdeal : Cert.ShortConvReferenceIdeal.Facts) (hModulation : Cert.Modulation.Facts) (hModulationIdeal : Cert.ModulationIdeal.Facts) (hModulationReferenceIdeal : Cert.ModulationReferenceIdeal.Facts) (hPre_positions : Cert.Pre_positions.Facts) (hPre_finite : Cert.Pre_finite.Facts) (hPre_routed : Cert.Pre_routed.Facts),
    quiescent_Kernel (hKernel := hKernel) (hPre_positions := hPre_positions)
    ∧ quiescent_Reference (hReference := hReference)
    ∧ quiescent_Reference_pre_positions (hReference := hReference) (hPre_positions := hPre_positions)
    ∧ quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionReferenceIdeal (hAttentionReferenceIdeal := hAttentionReferenceIdeal)
    ∧ quiescent_AttentionReferenceIdeal_pre_finite (hAttentionReferenceIdeal := hAttentionReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_ShortConv (hShortConv := hShortConv)
    ∧ quiescent_ShortConvIdeal (hShortConvIdeal := hShortConvIdeal)
    ∧ quiescent_ShortConvReferenceIdeal (hShortConvReferenceIdeal := hShortConvReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ bitexact_Kernel_Reference (hKernel := hKernel) (hReference := hReference) (hPre_positions := hPre_positions)
    ∧ preserves_Attention_AttentionIdeal
    ∧ algebraic_AttentionIdeal_AttentionReferenceIdeal_pre_finite (hAttentionIdeal := hAttentionIdeal) (hAttentionReferenceIdeal := hAttentionReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_ShortConv_ShortConvIdeal
    ∧ algebraic_ShortConvIdeal_ShortConvReferenceIdeal (hShortConvIdeal := hShortConvIdeal) (hShortConvReferenceIdeal := hShortConvReferenceIdeal)
    ∧ preserves_Modulation_ModulationIdeal
    ∧ algebraic_ModulationIdeal_ModulationReferenceIdeal (hModulationIdeal := hModulationIdeal) (hModulationReferenceIdeal := hModulationReferenceIdeal)
-- ==== Pre_finite.lean ====
abbrev S8x8192x2x4x64 : Shape := ⟨5, ![8, 8192, 2, 4, 64]⟩
abbrev S8x8448x2x64 : Shape := ⟨4, ![8, 8448, 2, 64]⟩
abbrev S_ : Shape := ⟨0, ![]⟩

class Facts : Prop where
  bcast_S_S8x8192x2x4x64 : S_.BroadcastsInDim S8x8192x2x4x64 (![] : Fin 0 → Fin S8x8192x2x4x64.rank)
  reducesTo_S8x8192x2x4x64_S_d0_1_2_3_4 : S8x8192x2x4x64.ReducesTo [0, 1, 2, 3, 4] S_
  h_S_ : 0 < S_.numel
  bcast_S_S8x8448x2x64 : S_.BroadcastsInDim S8x8448x2x64 (![] : Fin 0 → Fin S8x8448x2x64.rank)
  reducesTo_S8x8448x2x64_S_d0_1_2_3 : S8x8448x2x64.ReducesTo [0, 1, 2, 3] S_

variable [Facts]

def fn {F : FTy → Type} [FloatOps F] (main_arg0 : FVec F S8x8192x2x4x64 .f32) (main_arg1 : FVec F S8x8448x2x64 .f32) (main_arg2 : FVec F S8x8448x2x64 .f32) : IVec S_ 1 :=
  let main_v0 : FVec F S8x8192x2x4x64 .f32 := Host.absf main_arg0
  let main_cst : FVec F S_ .f32 := constant S_ .f32 0x7F800000#32
  let main_v1 : FVec F S8x8192x2x4x64 .f32 := broadcastInDim S8x8192x2x4x64 ![] bcast_S_S8x8192x2x4x64 main_cst
  let main_v2 : IVec S8x8192x2x4x64 1 := cmpf .olt main_v0 main_v1
  let main_c : IVec S_ 1 := constantI S_ 1 1#1
  let main_v3 : IVec S_ 1 := (fun x v => Host.reduce IntOp.andi x v reducesTo_S8x8192x2x4x64_S_d0_1_2_3_4 h_S_) main_v2 main_c
  let main_v4 : FVec F S8x8448x2x64 .f32 := Host.absf main_arg1
  let main_cst_0 : FVec F S_ .f32 := constant S_ .f32 0x7F800000#32
  let main_v5 : FVec F S8x8448x2x64 .f32 := broadcastInDim S8x8448x2x64 ![] bcast_S_S8x8448x2x64 main_cst_0
  let main_v6 : IVec S8x8448x2x64 1 := cmpf .olt main_v4 main_v5
  let main_c_1 : IVec S_ 1 := constantI S_ 1 1#1
  let main_v7 : IVec S_ 1 := (fun x v => Host.reduce IntOp.andi x v reducesTo_S8x8448x2x64_S_d0_1_2_3 h_S_) main_v6 main_c_1
  let main_v8 : IVec S_ 1 := andi main_v3 main_v7
  main_v8
-- ==== Pre_positions.lean ====
abbrev S65536 : Shape := ⟨1, ![65536]⟩
abbrev S65536x1024 : Shape := ⟨2, ![65536, 1024]⟩
abbrev S8x65536 : Shape := ⟨2, ![8, 65536]⟩
abbrev S8x1x1024 : Shape := ⟨3, ![8, 1, 1024]⟩
abbrev S79872x1024 : Shape := ⟨2, ![79872, 1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S65536 32) (main_arg1 : FVec F S65536x1024 .f32) (main_arg2 : FVec F S8x65536 .f32) (main_arg3 : FVec F S8x1x1024 .f32) (main_arg4 : IVec S79872x1024 32) : IVec S65536 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 79872#32
  let main_v2 : IVec S65536 32 := broadcastInDim S65536 ![] bcast_S_S65536 main_c_0
  let main_v3 : IVec S65536 1 := cmpi .slt main_arg0 main_v2
  let main_v4 : IVec S65536 1 := andi main_v1 main_v3
  main_v4
-- ==== Pre_routed.lean ====
abbrev S156 : Shape := ⟨1, ![156]⟩
abbrev S1 : Shape := ⟨1, ![1]⟩
abbrev S79872x1024 : Shape := ⟨2, ![79872, 1024]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S156 : S_.BroadcastsInDim S156 (![] : Fin 0 → Fin S156.rank)
  reducesTo_S156_S_d0 : S156.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S156 32) (main_arg1 : IVec S156 32) (main_arg2 : IVec S1 32) (main_arg3 : FVec F S79872x1024 .f32) (main_arg4 : FVec F S4x16x1024x512 .f32) (main_arg5 : FVec F S4x16x1024x512 .f32) (main_arg6 : FVec F S4x16x512x1024 .f32) : IVec S_ 1 :=
  let main_c : IVec S_ 32 := constantI S_ 32 0#32
  let main_v0 : IVec S156 32 := broadcastInDim S156 ![] bcast_S_S156 main_c
  let main_v1 : IVec S156 1 := cmpi .sge main_arg0 main_v0
  let main_c_0 : IVec S_ 32 := constantI S_ 32 16#32
  let main_v2 : IVec S156 32 := broadcastInDim S156 ![] bcast_S_S156 main_c_0
  let main_v3 : IVec S156 1 := cmpi .slt main_arg0 main_v2
  let main_v4 : IVec S156 1 := andi main_v1 main_v3
  let main_c_1 : IVec S_ 1 := constantI S_ 1 1#1
  let main_v5 : IVec S_ 1 := (fun x v => Host.reduce IntOp.andi x v reducesTo_S156_S_d0 h_S_) main_v4 main_c_1
  let main_c_2 : IVec S_ 32 := constantI S_ 32 0#32
  let main_v6 : IVec S156 32 := broadcastInDim S156 ![] bcast_S_S156 main_c_2
  let main_v7 : IVec S156 1 := cmpi .sge main_arg1 main_v6
  let main_c_3 : IVec S_ 32 := constantI S_ 32 16#32
  let main_v8 : IVec S156 32 := broadcastInDim S156 ![] bcast_S_S156 main_c_3
  let main_v9 : IVec S156 1 := cmpi .slt main_arg1 main_v8
  let main_v10 : IVec S156 1 := andi main_v7 main_v9
  let main_c_4 : IVec S_ 1 := constantI S_ 1 1#1
  let main_v11 : IVec S_ 1 := (fun x v => Host.reduce IntOp.andi x v reducesTo_S156_S_d0 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 1 := cmpi .sge main_arg2 main_v13
  let main_c_6 : IVec S_ 1 := constantI S_ 1 1#1
  let main_v15 : IVec S_ 1 := (fun x v => Host.reduce IntOp.andi x v reducesTo_S1_S_d0 h_S_) main_v14 main_c_6
  fn_part1 (F := F) main_v12 main_v15
-- ==== Kernel.lean ====
abbrev S65536 : Shape := ⟨1, ![65536]⟩
abbrev S65536x1024 : Shape := ⟨2, ![65536, 1024]⟩
abbrev S8x65536 : Shape := ⟨2, ![8, 65536]⟩
abbrev S8x1x1024 : Shape := ⟨3, ![8, 1, 1024]⟩
abbrev S79872x1024 : Shape := ⟨2, ![79872, 1024]⟩
abbrev S256x1024 : Shape := ⟨2, ![256, 1024]⟩
abbrev S8x256 : Shape := ⟨2, ![8, 256]⟩
abbrev S1x1x1024 : Shape := ⟨3, ![1, 1, 1024]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x1024 : Shape := ⟨2, ![1, 1024]⟩
abbrev S1x256x1024 : Shape := ⟨3, ![1, 256, 1024]⟩
abbrev S256x8 : Shape := ⟨2, ![256, 8]⟩
abbrev S256x1 : Shape := ⟨2, ![256, 1]⟩

abbrev nBuf : Space → Nat
  | .hbm => 5
  | .vmem => 9
  | .smem => 1
  | _ => 0

abbrev bufTy : (tb : Table) → Fin (tcTables nBuf tb) → BufTy
  | .hbm, ⟨0, _⟩ => ⟨S65536x1024, .f32⟩
  | .hbm, ⟨1, _⟩ => ⟨S8x65536, .f32⟩
  | .hbm, ⟨2, _⟩ => ⟨S8x1x1024, .f32⟩
  | .hbm, ⟨3, _⟩ => ⟨S79872x1024, .i32⟩
  | .hbm, ⟨4, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S8x256, .f32⟩
  | .local _ .vmem, ⟨3, _⟩ => ⟨S8x256, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S2x256x1024, .i32⟩
  | .local _ .smem, ⟨0, _⟩ => ⟨S65536, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v2373 : BitVec 32) : Fin 2 → Nat :=
  let c0_i32_1068 : BitVec 32 := 0#32
  ![v2373.toNat, 0]

def k0_chk1 (i : grid0.Coords) (v2373 : BitVec 32) : Prop :=
  (∀ (k0_h1 : k0_cond1 i = 1#1), ∀ a, (k0_off1 v2373) a + S1x1024.size a ≤ S79872x1024.size a)
theorem k0_off1_inb : ∀ (i : grid0.Coords) (v2373 : BitVec 32) (k0_hw1 : k0_chk1 i v2373), ∀ (k0_h1 : k0_cond1 i = 1#1), ∀ a, (k0_off1 v2373) a + S1x1024.size a ≤ S79872x1024.size a := fun i v2373 k0_hw1 k0_h1 => k0_hw1 k0_h1

def k0_off2 (v2379 : BitVec 32) : Fin 2 → Nat :=
  let c0_i32_1073 : BitVec 32 := 0#32
  ![v2379.toNat, 0]

def k0_chk2 (i : grid0.Coords) (v2379 : BitVec 32) : Prop :=
  (∀ (k0_h1 : k0_cond1 i = 1#1), ∀ a, (k0_off2 v2379) a + S1x1024.size a ≤ S79872x1024.size a)
theorem k0_off2_inb : ∀ (i : grid0.Coords) (v2379 : BitVec 32) (k0_hw2 : k0_chk2 i v2379), ∀ (k0_h1 : k0_cond1 i = 1#1), ∀ a, (k0_off2 v2379) a + S1x1024.size a ≤ S79872x1024.size a := fun i v2379 k0_hw2 k0_h1 => k0_hw2 k0_h1

def k0_off3 (v2385 : BitVec 32) : Fin 2 → Nat :=
  let c0_i32_1078 : BitVec 32 := 0#32
  ![v2385.toNat, 0]

def k0_chk3 (i : grid0.Coords) (v2385 : BitVec 32) : Prop :=
  (∀ (k0_h1 : k0_cond1 i = 1#1), ∀ a, (k0_off3 v2385) a + S1x1024.size a ≤ S79872x1024.size a)
theorem k0_off3_inb : ∀ (i : grid0.Coords) (v2385 : BitVec 32) (k0_hw3 : k0_chk3 i v2385), ∀ (k0_h1 : k0_cond1 i = 1#1), ∀ a, (k0_off3 v2385) a + S1x1024.size a ≤ S79872x1024.size a := fun i v2385 k0_hw3 k0_h1 => k0_hw3 k0_h1

def k0_off4 (v2391 : BitVec 32) : Fin 2 → Nat :=
  let c0_i32_1083 : BitVec 32 := 0#32
  ![v2391.toNat, 0]

def k0_chk4 (i : grid0.Coords) (v2391 : BitVec 32) : Prop :=
  (∀ (k0_h1 : k0_cond1 i = 1#1), ∀ a, (k0_off4 v2391) a + S1x1024.size a ≤ S79872x1024.size a)
theorem k0_off4_inb : ∀ (i : grid0.Coords) (v2391 : BitVec 32) (k0_hw4 : k0_chk4 i v2391), ∀ (k0_h1 : k0_cond1 i = 1#1), ∀ a, (k0_off4 v2391) a + S1x1024.size a ≤ S79872x1024.size a := fun i v2391 k0_hw4 k0_h1 => k0_hw4 k0_h1

def k0_off5 (v2397 : BitVec 32) : Fin 2 → Nat :=
  let c0_i32_1088 : BitVec 32 := 0#32
  ![v2397.toNat, 0]

def k0_chk5 (i : grid0.Coords) (v2397 : BitVec 32) : Prop :=
  (∀ (k0_h1 : k0_cond1 i = 1#1), ∀ a, (k0_off5 v2397) a + S1x1024.size a ≤ S79872x1024.size a)
theorem k0_off5_inb : ∀ (i : grid0.Coords) (v2397 : BitVec 32) (k0_hw5 : k0_chk5 i v2397), ∀ (k0_h1 : k0_cond1 i = 1#1), ∀ a, (k0_off5 v2397) a + S1x1024.size a ≤ S79872x1024.size a := fun i v2397 k0_hw5 k0_h1 => k0_hw5 k0_h1

def k0_off6 (v2403 : BitVec 32) : Fin 2 → Nat :=
  let c0_i32_1093 : BitVec 32 := 0#32
  ![v2403.toNat, 0]

def k0_chk6 (i : grid0.Coords) (v2403 : BitVec 32) : Prop :=
  (∀ (k0_h1 : k0_cond1 i = 1#1), ∀ a, (k0_off6 v2403) a + S1x1024.size a ≤ S79872x1024.size a)
theorem k0_off6_inb : ∀ (i : grid0.Coords) (v2403 : BitVec 32) (k0_hw6 : k0_chk6 i v2403), ∀ (k0_h1 : k0_cond1 i = 1#1), ∀ a, (k0_off6 v2403) a + S1x1024.size a ≤ S79872x1024.size a := fun i v2403 k0_hw6 k0_h1 => k0_hw6 k0_h1

def k0_off7 (v2409 : BitVec 32) : Fin 2 → Nat :=
  let c0_i32_1098 : BitVec 32 := 0#32
  ![v2409.toNat, 0]

def k0_chk7 (i : grid0.Coords) (v2409 : BitVec 32) : Prop :=
  (∀ (k0_h1 : k0_cond1 i = 1#1), ∀ a, (k0_off7 v2409) a + S1x1024.size a ≤ S79872x1024.size a)
theorem k0_off7_inb : ∀ (i : grid0.Coords) (v2409 : BitVec 32) (k0_hw7 : k0_chk7 i v2409), ∀ (k0_h1 : k0_cond1 i = 1#1), ∀ a, (k0_off7 v2409) a + S1x1024.size a ≤ S79872x1024.size a := fun i v2409 k0_hw7 k0_h1 => k0_hw7 k0_h1

def k0_off8 (v2415 : BitVec 32) : Fin 2 → Nat :=
  let c0_i32_1103 : BitVec 32 := 0#32
  ![v2415.toNat, 0]

def k0_chk8 (i : grid0.Coords) (v2415 : BitVec 32) : Prop :=
  (∀ (k0_h1 : k0_cond1 i = 1#1), ∀ a, (k0_off8 v2415) a + S1x1024.size a ≤ S79872x1024.size a)
theorem k0_off8_inb : ∀ (i : grid0.Coords) (v2415 : BitVec 32) (k0_hw8 : k0_chk8 i v2415), ∀ (k0_h1 : k0_cond1 i = 1#1), ∀ a, (k0_off8 v2415) a + S1x1024.size a ≤ S79872x1024.size a := fun i v2415 k0_hw8 k0_h1 => k0_hw8 k0_h1

def k0_off9 (v2421 : BitVec 32) : Fin 2 → Nat :=
  let c0_i32_1108 : BitVec 32 := 0#32
  ![v2421.toNat, 0]

def k0_chk9 (i : grid0.Coords) (v2421 : BitVec 32) : Prop :=
  (∀ (k0_h1 : k0_cond1 i = 1#1), ∀ a, (k0_off9 v2421) a + S1x1024.size a ≤ S79872x1024.size a)
theorem k0_off9_inb : ∀ (i : grid0.Coords) (v2421 : BitVec 32) (k0_hw9 : k0_chk9 i v2421), ∀ (k0_h1 : k0_cond1 i = 1#1), ∀ a, (k0_off9 v2421) a + S1x1024.size a ≤ S79872x1024.size a := fun i v2421 k0_hw9 k0_h1 => k0_hw9 k0_h1

def k0_off10 (v2427 : BitVec 32) : Fin 2 → Nat :=
  let c0_i32_1113 : BitVec 32 := 0#32
  ![v2427.toNat, 0]

def k0_chk10 (i : grid0.Coords) (v2427 : BitVec 32) : Prop :=
  (∀ (k0_h1 : k0_cond1 i = 1#1), ∀ a, (k0_off10 v2427) a + S1x1024.size a ≤ S79872x1024.size a)
theorem k0_off10_inb : ∀ (i : grid0.Coords) (v2427 : BitVec 32) (k0_hw10 : k0_chk10 i v2427), ∀ (k0_h1 : k0_cond1 i = 1#1), ∀ a, (k0_off10 v2427) a + S1x1024.size a ≤ S79872x1024.size a := fun i v2427 k0_hw10 k0_h1 => k0_hw10 k0_h1

def k0_off11 (v2433 : BitVec 32) : Fin 2 → Nat :=
  let c0_i32_1118 : BitVec 32 := 0#32
  ![v2433.toNat, 0]

def k0_chk11 (i : grid0.Coords) (v2433 : BitVec 32) : Prop :=
  (∀ (k0_h1 : k0_cond1 i = 1#1), ∀ a, (k0_off11 v2433) a + S1x1024.size a ≤ S79872x1024.size a)
theorem k0_off11_inb : ∀ (i : grid0.Coords) (v2433 : BitVec 32) (k0_hw11 : k0_chk11 i v2433), ∀ (k0_h1 : k0_cond1 i = 1#1), ∀ a, (k0_off11 v2433) a + S1x1024.size a ≤ S79872x1024.size a := fun i v2433 k0_hw11 k0_h1 => k0_hw11 k0_h1

def k0_off12 (v2439 : BitVec 32) : Fin 2 → Nat :=
  let c0_i32_1123 : BitVec 32 := 0#32
  ![v2439.toNat, 0]

def k0_chk12 (i : grid0.Coords) (v2439 : BitVec 32) : Prop :=
  (∀ (k0_h1 : k0_cond1 i = 1#1), ∀ a, (k0_off12 v2439) a + S1x1024.size a ≤ S79872x1024.size a)
theorem k0_off12_inb : ∀ (i : grid0.Coords) (v2439 : BitVec 32) (k0_hw12 : k0_chk12 i v2439), ∀ (k0_h1 : k0_cond1 i = 1#1), ∀ a, (k0_off12 v2439) a + S1x1024.size a ≤ S79872x1024.size a := fun i v2439 k0_hw12 k0_h1 => k0_hw12 k0_h1

def k0_off13 (v2445 : BitVec 32) : Fin 2 → Nat :=
  let c0_i32_1128 : BitVec 32 := 0#32
  ![v2445.toNat, 0]

def k0_chk13 (i : grid0.Coords) (v2445 : BitVec 32) : Prop :=
  (∀ (k0_h1 : k0_cond1 i = 1#1), ∀ a, (k0_off13 v2445) a + S1x1024.size a ≤ S79872x1024.size a)
theorem k0_off13_inb : ∀ (i : grid0.Coords) (v2445 : BitVec 32) (k0_hw13 : k0_chk13 i v2445), ∀ (k0_h1 : k0_cond1 i = 1#1), ∀ a, (k0_off13 v2445) a + S1x1024.size a ≤ S79872x1024.size a := fun i v2445 k0_hw13 k0_h1 => k0_hw13 k0_h1

def k0_off14 (v2451 : BitVec 32) : Fin 2 → Nat :=
  let c0_i32_1133 : BitVec 32 := 0#32
  ![v2451.toNat, 0]

def k0_chk14 (i : grid0.Coords) (v2451 : BitVec 32) : Prop :=
  (∀ (k0_h1 : k0_cond1 i = 1#1), ∀ a, (k0_off14 v2451) a + S1x1024.size a ≤ S79872x1024.size a)
theorem k0_off14_inb : ∀ (i : grid0.Coords) (v2451 : BitVec 32) (k0_hw14 : k0_chk14 i v2451), ∀ (k0_h1 : k0_cond1 i = 1#1), ∀ a, (k0_off14 v2451) a + S1x1024.size a ≤ S79872x1024.size a := fun i v2451 k0_hw14 k0_h1 => k0_hw14 k0_h1

def k0_off15 (v2457 : BitVec 32) : Fin 2 → Nat :=
  let c0_i32_1138 : BitVec 32 := 0#32
  ![v2457.toNat, 0]

def k0_chk15 (i : grid0.Coords) (v2457 : BitVec 32) : Prop :=
  (∀ (k0_h1 : k0_cond1 i = 1#1), ∀ a, (k0_off15 v2457) a + S1x1024.size a ≤ S79872x1024.size a)
theorem k0_off15_inb : ∀ (i : grid0.Coords) (v2457 : BitVec 32) (k0_hw15 : k0_chk15 i v2457), ∀ (k0_h1 : k0_cond1 i = 1#1), ∀ a, (k0_off15 v2457) a + S1x1024.size a ≤ S79872x1024.size a := fun i v2457 k0_hw15 k0_h1 => k0_hw15 k0_h1

def k0_off16 (v2463 : BitVec 32) : Fin 2 → Nat :=
  let c0_i32_1143 : BitVec 32 := 0#32
  ![v2463.toNat, 0]

def k0_chk16 (i : grid0.Coords) (v2463 : BitVec 32) : Prop :=
  (∀ (k0_h1 : k0_cond1 i = 1#1), ∀ a, (k0_off16 v2463) a + S1x1024.size a ≤ S79872x1024.size a)
theorem k0_off16_inb : ∀ (i : grid0.Coords) (v2463 : BitVec 32) (k0_hw16 : k0_chk16 i v2463), ∀ (k0_h1 : k0_cond1 i = 1#1), ∀ a, (k0_off16 v2463) a + S1x1024.size a ≤ S79872x1024.size a := fun i v2463 k0_hw16 k0_h1 => k0_hw16 k0_h1

def k0_off17 (v2469 : BitVec 32) : Fin 2 → Nat :=
  let c0_i32_1148 : BitVec 32 := 0#32
  ![v2469.toNat, 0]

def k0_chk17 (i : grid0.Coords) (v2469 : BitVec 32) : Prop :=
  (∀ (k0_h1 : k0_cond1 i = 1#1), ∀ a, (k0_off17 v2469) a + S1x1024.size a ≤ S79872x1024.size a)
theorem k0_off17_inb : ∀ (i : grid0.Coords) (v2469 : BitVec 32) (k0_hw17 : k0_chk17 i v2469), ∀ (k0_h1 : k0_cond1 i = 1#1), ∀ a, (k0_off17 v2469) a + S1x1024.size a ≤ S79872x1024.size a := fun i v2469 k0_hw17 k0_h1 => k0_hw17 k0_h1

def k0_off18 (v2475 : BitVec 32) : Fin 2 → Nat :=
  let c0_i32_1153 : BitVec 32 := 0#32
  ![v2475.toNat, 0]

def k0_chk18 (i : grid0.Coords) (v2475 : BitVec 32) : Prop :=
  (∀ (k0_h1 : k0_cond1 i = 1#1), ∀ a, (k0_off18 v2475) a + S1x1024.size a ≤ S79872x1024.size a)
theorem k0_off18_inb : ∀ (i : grid0.Coords) (v2475 : BitVec 32) (k0_hw18 : k0_chk18 i v2475), ∀ (k0_h1 : k0_cond1 i = 1#1), ∀ a, (k0_off18 v2475) a + S1x1024.size a ≤ S79872x1024.size a := fun i v2475 k0_hw18 k0_h1 => k0_hw18 k0_h1

def k0_off19 (v2481 : BitVec 32) : Fin 2 → Nat :=
  let c0_i32_1158 : BitVec 32 := 0#32
  ![v2481.toNat, 0]

def k0_chk19 (i : grid0.Coords) (v2481 : BitVec 32) : Prop :=
  (∀ (k0_h1 : k0_cond1 i = 1#1), ∀ a, (k0_off19 v2481) a + S1x1024.size a ≤ S79872x1024.size a)
theorem k0_off19_inb : ∀ (i : grid0.Coords) (v2481 : BitVec 32) (k0_hw19 : k0_chk19 i v2481), ∀ (k0_h1 : k0_cond1 i = 1#1), ∀ a, (k0_off19 v2481) a + S1x1024.size a ≤ S79872x1024.size a := fun i v2481 k0_hw19 k0_h1 => k0_hw19 k0_h1

def k0_off20 (v2487 : BitVec 32) : Fin 2 → Nat :=
  let c0_i32_1163 : BitVec 32 := 0#32
  ![v2487.toNat, 0]

def k0_chk20 (i : grid0.Coords) (v2487 : BitVec 32) : Prop :=
  (∀ (k0_h1 : k0_cond1 i = 1#1), ∀ a, (k0_off20 v2487) a + S1x1024.size a ≤ S79872x1024.size a)
theorem k0_off20_inb : ∀ (i : grid0.Coords) (v2487 : BitVec 32) (k0_hw20 : k0_chk20 i v2487), ∀ (k0_h1 : k0_cond1 i = 1#1), ∀ a, (k0_off20 v2487) a + S1x1024.size a ≤ S79872x1024.size a := fun i v2487 k0_hw20 k0_h1 => k0_hw20 k0_h1

def k0_off21 (v2493 : BitVec 32) : Fin 2 → Nat :=
  let c0_i32_1168 : BitVec 32 := 0#32
  ![v2493.toNat, 0]

def k0_chk21 (i : grid0.Coords) (v2493 : BitVec 32) : Prop :=
  (∀ (k0_h1 : k0_cond1 i = 1#1), ∀ a, (k0_off21 v2493) a + S1x1024.size a ≤ S79872x1024.size a)
theorem k0_off21_inb : ∀ (i : grid0.Coords) (v2493 : BitVec 32) (k0_hw21 : k0_chk21 i v2493), ∀ (k0_h1 : k0_cond1 i = 1#1), ∀ a, (k0_off21 v2493) a + S1x1024.size a ≤ S79872x1024.size a := fun i v2493 k0_hw21 k0_h1 => k0_hw21 k0_h1

def k0_off22 (v2499 : BitVec 32) : Fin 2 → Nat :=
  let c0_i32_1173 : BitVec 32 := 0#32
  ![v2499.toNat, 0]

def k0_chk22 (i : grid0.Coords) (v2499 : BitVec 32) : Prop :=
  (∀ (k0_h1 : k0_cond1 i = 1#1), ∀ a, (k0_off22 v2499) a + S1x1024.size a ≤ S79872x1024.size a)
theorem k0_off22_inb : ∀ (i : grid0.Coords) (v2499 : BitVec 32) (k0_hw22 : k0_chk22 i v2499), ∀ (k0_h1 : k0_cond1 i = 1#1), ∀ a, (k0_off22 v2499) a + S1x1024.size a ≤ S79872x1024.size a := fun i v2499 k0_hw22 k0_h1 => k0_hw22 k0_h1

def k0_off23 (v2505 : BitVec 32) : Fin 2 → Nat :=
  let c0_i32_1178 : BitVec 32 := 0#32
  ![v2505.toNat, 0]

def k0_chk23 (i : grid0.Coords) (v2505 : BitVec 32) : Prop :=
  (∀ (k0_h1 : k0_cond1 i = 1#1), ∀ a, (k0_off23 v2505) a + S1x1024.size a ≤ S79872x1024.size a)
theorem k0_off23_inb : ∀ (i : grid0.Coords) (v2505 : BitVec 32) (k0_hw23 : k0_chk23 i v2505), ∀ (k0_h1 : k0_cond1 i = 1#1), ∀ a, (k0_off23 v2505) a + S1x1024.size a ≤ S79872x1024.size a := fun i v2505 k0_hw23 k0_h1 => k0_hw23 k0_h1

def k0_off24 (v2511 : BitVec 32) : Fin 2 → Nat :=
  let c0_i32_1183 : BitVec 32 := 0#32
  ![v2511.toNat, 0]

def k0_chk24 (i : grid0.Coords) (v2511 : BitVec 32) : Prop :=
  (∀ (k0_h1 : k0_cond1 i = 1#1), ∀ a, (k0_off24 v2511) a + S1x1024.size a ≤ S79872x1024.size a)
theorem k0_off24_inb : ∀ (i : grid0.Coords) (v2511 : BitVec 32) (k0_hw24 : k0_chk24 i v2511), ∀ (k0_h1 : k0_cond1 i = 1#1), ∀ a, (k0_off24 v2511) a + S1x1024.size a ≤ S79872x1024.size a := fun i v2511 k0_hw24 k0_h1 => k0_hw24 k0_h1

def k0_off25 (v2517 : BitVec 32) : Fin 2 → Nat :=
  let c0_i32_1188 : BitVec 32 := 0#32
  ![v2517.toNat, 0]

def k0_chk25 (i : grid0.Coords) (v2517 : BitVec 32) : Prop :=
  (∀ (k0_h1 : k0_cond1 i = 1#1), ∀ a, (k0_off25 v2517) a + S1x1024.size a ≤ S79872x1024.size a)
theorem k0_off25_inb : ∀ (i : grid0.Coords) (v2517 : BitVec 32) (k0_hw25 : k0_chk25 i v2517), ∀ (k0_h1 : k0_cond1 i = 1#1), ∀ a, (k0_off25 v2517) a + S1x1024.size a ≤ S79872x1024.size a := fun i v2517 k0_hw25 k0_h1 => k0_hw25 k0_h1

def k0_off26 (v2523 : BitVec 32) : Fin 2 → Nat :=
  let c0_i32_1193 : BitVec 32 := 0#32
  ![v2523.toNat, 0]

def k0_chk26 (i : grid0.Coords) (v2523 : BitVec 32) : Prop :=
  (∀ (k0_h1 : k0_cond1 i = 1#1), ∀ a, (k0_off26 v2523) a + S1x1024.size a ≤ S79872x1024.size a)
theorem k0_off26_inb : ∀ (i : grid0.Coords) (v2523 : BitVec 32) (k0_hw26 : k0_chk26 i v2523), ∀ (k0_h1 : k0_cond1 i = 1#1), ∀ a, (k0_off26 v2523) a + S1x1024.size a ≤ S79872x1024.size a := fun i v2523 k0_hw26 k0_h1 => k0_hw26 k0_h1

def k0_off27 (v2529 : BitVec 32) : Fin 2 → Nat :=
  let c0_i32_1198 : BitVec 32 := 0#32
  ![v2529.toNat, 0]

def k0_chk27 (i : grid0.Coords) (v2529 : BitVec 32) : Prop :=
  (∀ (k0_h1 : k0_cond1 i = 1#1), ∀ a, (k0_off27 v2529) a + S1x1024.size a ≤ S79872x1024.size a)
theorem k0_off27_inb : ∀ (i : grid0.Coords) (v2529 : BitVec 32) (k0_hw27 : k0_chk27 i v2529), ∀ (k0_h1 : k0_cond1 i = 1#1), ∀ a, (k0_off27 v2529) a + S1x1024.size a ≤ S79872x1024.size a := fun i v2529 k0_hw27 k0_h1 => k0_hw27 k0_h1

def k0_off28 (v2535 : BitVec 32) : Fin 2 → Nat :=
  let c0_i32_1203 : BitVec 32 := 0#32
  ![v2535.toNat, 0]

def k0_chk28 (i : grid0.Coords) (v2535 : BitVec 32) : Prop :=
  (∀ (k0_h1 : k0_cond1 i = 1#1), ∀ a, (k0_off28 v2535) a + S1x1024.size a ≤ S79872x1024.size a)
theorem k0_off28_inb : ∀ (i : grid0.Coords) (v2535 : BitVec 32) (k0_hw28 : k0_chk28 i v2535), ∀ (k0_h1 : k0_cond1 i = 1#1), ∀ a, (k0_off28 v2535) a + S1x1024.size a ≤ S79872x1024.size a := fun i v2535 k0_hw28 k0_h1 => k0_hw28 k0_h1

def k0_off29 (v2541 : BitVec 32) : Fin 2 → Nat :=
  let c0_i32_1208 : BitVec 32 := 0#32
  ![v2541.toNat, 0]

def k0_chk29 (i : grid0.Coords) (v2541 : BitVec 32) : Prop :=
  (∀ (k0_h1 : k0_cond1 i = 1#1), ∀ a, (k0_off29 v2541) a + S1x1024.size a ≤ S79872x1024.size a)
theorem k0_off29_inb : ∀ (i : grid0.Coords) (v2541 : BitVec 32) (k0_hw29 : k0_chk29 i v2541), ∀ (k0_h1 : k0_cond1 i = 1#1), ∀ a, (k0_off29 v2541) a + S1x1024.size a ≤ S79872x1024.size a := fun i v2541 k0_hw29 k0_h1 => k0_hw29 k0_h1

def k0_off30 (v2547 : BitVec 32) : Fin 2 → Nat :=
  let c0_i32_1213 : BitVec 32 := 0#32
  ![v2547.toNat, 0]

def k0_chk30 (i : grid0.Coords) (v2547 : BitVec 32) : Prop :=
  (∀ (k0_h1 : k0_cond1 i = 1#1), ∀ a, (k0_off30 v2547) a + S1x1024.size a ≤ S79872x1024.size a)
theorem k0_off30_inb : ∀ (i : grid0.Coords) (v2547 : BitVec 32) (k0_hw30 : k0_chk30 i v2547), ∀ (k0_h1 : k0_cond1 i = 1#1), ∀ a, (k0_off30 v2547) a + S1x1024.size a ≤ S79872x1024.size a := fun i v2547 k0_hw30 k0_h1 => k0_hw30 k0_h1

def k0_off31 (v2553 : BitVec 32) : Fin 2 → Nat :=
  let c0_i32_1218 : BitVec 32 := 0#32
  ![v2553.toNat, 0]

def k0_chk31 (i : grid0.Coords) (v2553 : BitVec 32) : Prop :=
  (∀ (k0_h1 : k0_cond1 i = 1#1), ∀ a, (k0_off31 v2553) a + S1x1024.size a ≤ S79872x1024.size a)
theorem k0_off31_inb : ∀ (i : grid0.Coords) (v2553 : BitVec 32) (k0_hw31 : k0_chk31 i v2553), ∀ (k0_h1 : k0_cond1 i = 1#1), ∀ a, (k0_off31 v2553) a + S1x1024.size a ≤ S79872x1024.size a := fun i v2553 k0_hw31 k0_h1 => k0_hw31 k0_h1

def k0_off32 (v2559 : BitVec 32) : Fin 2 → Nat :=
  let c0_i32_1223 : BitVec 32 := 0#32
  ![v2559.toNat, 0]

def k0_chk32 (i : grid0.Coords) (v2559 : BitVec 32) : Prop :=
  (∀ (k0_h1 : k0_cond1 i = 1#1), ∀ a, (k0_off32 v2559) a + S1x1024.size a ≤ S79872x1024.size a)
theorem k0_off32_inb : ∀ (i : grid0.Coords) (v2559 : BitVec 32) (k0_hw32 : k0_chk32 i v2559), ∀ (k0_h1 : k0_cond1 i = 1#1), ∀ a, (k0_off32 v2559) a + S1x1024.size a ≤ S79872x1024.size a := fun i v2559 k0_hw32 k0_h1 => k0_hw32 k0_h1

def k0_off33 (v2565 : BitVec 32) : Fin 2 → Nat :=
  let c0_i32_1228 : BitVec 32 := 0#32
  ![v2565.toNat, 0]

def k0_chk33 (i : grid0.Coords) (v2565 : BitVec 32) : Prop :=
  (∀ (k0_h1 : k0_cond1 i = 1#1), ∀ a, (k0_off33 v2565) a + S1x1024.size a ≤ S79872x1024.size a)
theorem k0_off33_inb : ∀ (i : grid0.Coords) (v2565 : BitVec 32) (k0_hw33 : k0_chk33 i v2565), ∀ (k0_h1 : k0_cond1 i = 1#1), ∀ a, (k0_off33 v2565) a + S1x1024.size a ≤ S79872x1024.size a := fun i v2565 k0_hw33 k0_h1 => k0_hw33 k0_h1

def k0_off34 (v2571 : BitVec 32) : Fin 2 → Nat :=
  let c0_i32_1233 : BitVec 32 := 0#32
  ![v2571.toNat, 0]

def k0_chk34 (i : grid0.Coords) (v2571 : BitVec 32) : Prop :=
  (∀ (k0_h1 : k0_cond1 i = 1#1), ∀ a, (k0_off34 v2571) a + S1x1024.size a ≤ S79872x1024.size a)
theorem k0_off34_inb : ∀ (i : grid0.Coords) (v2571 : BitVec 32) (k0_hw34 : k0_chk34 i v2571), ∀ (k0_h1 : k0_cond1 i = 1#1), ∀ a, (k0_off34 v2571) a + S1x1024.size a ≤ S79872x1024.size a := fun i v2571 k0_hw34 k0_h1 => k0_hw34 k0_h1

def k0_off35 (v2577 : BitVec 32) : Fin 2 → Nat :=
  let c0_i32_1238 : BitVec 32 := 0#32
  ![v2577.toNat, 0]

def k0_chk35 (i : grid0.Coords) (v2577 : BitVec 32) : Prop :=
  (∀ (k0_h1 : k0_cond1 i = 1#1), ∀ a, (k0_off35 v2577) a + S1x1024.size a ≤ S79872x1024.size a)
theorem k0_off35_inb : ∀ (i : grid0.Coords) (v2577 : BitVec 32) (k0_hw35 : k0_chk35 i v2577), ∀ (k0_h1 : k0_cond1 i = 1#1), ∀ a, (k0_off35 v2577) a + S1x1024.size a ≤ S79872x1024.size a := fun i v2577 k0_hw35 k0_h1 => k0_hw35 k0_h1

def k0_off36 (v2583 : BitVec 32) : Fin 2 → Nat :=
  let c0_i32_1243 : BitVec 32 := 0#32
  ![v2583.toNat, 0]

def k0_chk36 (i : grid0.Coords) (v2583 : BitVec 32) : Prop :=
  (∀ (k0_h1 : k0_cond1 i = 1#1), ∀ a, (k0_off36 v2583) a + S1x1024.size a ≤ S79872x1024.size a)
theorem k0_off36_inb : ∀ (i : grid0.Coords) (v2583 : BitVec 32) (k0_hw36 : k0_chk36 i v2583), ∀ (k0_h1 : k0_cond1 i = 1#1), ∀ a, (k0_off36 v2583) a + S1x1024.size a ≤ S79872x1024.size a := fun i v2583 k0_hw36 k0_h1 => k0_hw36 k0_h1

def k0_off37 (v2589 : BitVec 32) : Fin 2 → Nat :=
  let c0_i32_1248 : BitVec 32 := 0#32
  ![v2589.toNat, 0]

def k0_chk37 (i : grid0.Coords) (v2589 : BitVec 32) : Prop :=
  (∀ (k0_h1 : k0_cond1 i = 1#1), ∀ a, (k0_off37 v2589) a + S1x1024.size a ≤ S79872x1024.size a)
theorem k0_off37_inb : ∀ (i : grid0.Coords) (v2589 : BitVec 32) (k0_hw37 : k0_chk37 i v2589), ∀ (k0_h1 : k0_cond1 i = 1#1), ∀ a, (k0_off37 v2589) a + S1x1024.size a ≤ S79872x1024.size a := fun i v2589 k0_hw37 k0_h1 => k0_hw37 k0_h1

def k0_off38 (v2595 : BitVec 32) : Fin 2 → Nat :=
  let c0_i32_1253 : BitVec 32 := 0#32
  ![v2595.toNat, 0]

def k0_chk38 (i : grid0.Coords) (v2595 : BitVec 32) : Prop :=
  (∀ (k0_h1 : k0_cond1 i = 1#1), ∀ a, (k0_off38 v2595) a + S1x1024.size a ≤ S79872x1024.size a)
theorem k0_off38_inb : ∀ (i : grid0.Coords) (v2595 : BitVec 32) (k0_hw38 : k0_chk38 i v2595), ∀ (k0_h1 : k0_cond1 i = 1#1), ∀ a, (k0_off38 v2595) a + S1x1024.size a ≤ S79872x1024.size a := fun i v2595 k0_hw38 k0_h1 => k0_hw38 k0_h1

def k0_off39 (v2601 : BitVec 32) : Fin 2 → Nat :=
  let c0_i32_1258 : BitVec 32 := 0#32
  ![v2601.toNat, 0]

def k0_chk39 (i : grid0.Coords) (v2601 : BitVec 32) : Prop :=
  (∀ (k0_h1 : k0_cond1 i = 1#1), ∀ a, (k0_off39 v2601) a + S1x1024.size a ≤ S79872x1024.size a)
theorem k0_off39_inb : ∀ (i : grid0.Coords) (v2601 : BitVec 32) (k0_hw39 : k0_chk39 i v2601), ∀ (k0_h1 : k0_cond1 i = 1#1), ∀ a, (k0_off39 v2601) a + S1x1024.size a ≤ S79872x1024.size a := fun i v2601 k0_hw39 k0_h1 => k0_hw39 k0_h1

def k0_off40 (v2607 : BitVec 32) : Fin 2 → Nat :=
  let c0_i32_1263 : BitVec 32 := 0#32
  ![v2607.toNat, 0]

def k0_chk40 (i : grid0.Coords) (v2607 : BitVec 32) : Prop :=
  (∀ (k0_h1 : k0_cond1 i = 1#1), ∀ a, (k0_off40 v2607) a + S1x1024.size a ≤ S79872x1024.size a)
theorem k0_off40_inb : ∀ (i : grid0.Coords) (v2607 : BitVec 32) (k0_hw40 : k0_chk40 i v2607), ∀ (k0_h1 : k0_cond1 i = 1#1), ∀ a, (k0_off40 v2607) a + S1x1024.size a ≤ S79872x1024.size a := fun i v2607 k0_hw40 k0_h1 => k0_hw40 k0_h1

def k0_off41 (v2613 : BitVec 32) : Fin 2 → Nat :=
  let c0_i32_1268 : BitVec 32 := 0#32
  ![v2613.toNat, 0]

def k0_chk41 (i : grid0.Coords) (v2613 : BitVec 32) : Prop :=
  (∀ (k0_h1 : k0_cond1 i = 1#1), ∀ a, (k0_off41 v2613) a + S1x1024.size a ≤ S79872x1024.size a)
theorem k0_off41_inb : ∀ (i : grid0.Coords) (v2613 : BitVec 32) (k0_hw41 : k0_chk41 i v2613), ∀ (k0_h1 : k0_cond1 i = 1#1), ∀ a, (k0_off41 v2613) a + S1x1024.size a ≤ S79872x1024.size a := fun i v2613 k0_hw41 k0_h1 => k0_hw41 k0_h1

def k0_off42 (v2619 : BitVec 32) : Fin 2 → Nat :=
  let c0_i32_1273 : BitVec 32 := 0#32
  ![v2619.toNat, 0]

def k0_chk42 (i : grid0.Coords) (v2619 : BitVec 32) : Prop :=
  (∀ (k0_h1 : k0_cond1 i = 1#1), ∀ a, (k0_off42 v2619) a + S1x1024.size a ≤ S79872x1024.size a)
theorem k0_off42_inb : ∀ (i : grid0.Coords) (v2619 : BitVec 32) (k0_hw42 : k0_chk42 i v2619), ∀ (k0_h1 : k0_cond1 i = 1#1), ∀ a, (k0_off42 v2619) a + S1x1024.size a ≤ S79872x1024.size a := fun i v2619 k0_hw42 k0_h1 => k0_hw42 k0_h1

def k0_off43 (v2625 : BitVec 32) : Fin 2 → Nat :=
  let c0_i32_1278 : BitVec 32 := 0#32
  ![v2625.toNat, 0]

def k0_chk43 (i : grid0.Coords) (v2625 : BitVec 32) : Prop :=
  (∀ (k0_h1 : k0_cond1 i = 1#1), ∀ a, (k0_off43 v2625) a + S1x1024.size a ≤ S79872x1024.size a)
theorem k0_off43_inb : ∀ (i : grid0.Coords) (v2625 : BitVec 32) (k0_hw43 : k0_chk43 i v2625), ∀ (k0_h1 : k0_cond1 i = 1#1), ∀ a, (k0_off43 v2625) a + S1x1024.size a ≤ S79872x1024.size a := fun i v2625 k0_hw43 k0_h1 => k0_hw43 k0_h1

def k0_off44 (v2631 : BitVec 32) : Fin 2 → Nat :=
  let c0_i32_1283 : BitVec 32 := 0#32
  ![v2631.toNat, 0]

def k0_chk44 (i : grid0.Coords) (v2631 : BitVec 32) : Prop :=
  (∀ (k0_h1 : k0_cond1 i = 1#1), ∀ a, (k0_off44 v2631) a + S1x1024.size a ≤ S79872x1024.size a)
theorem k0_off44_inb : ∀ (i : grid0.Coords) (v2631 : BitVec 32) (k0_hw44 : k0_chk44 i v2631), ∀ (k0_h1 : k0_cond1 i = 1#1), ∀ a, (k0_off44 v2631) a + S1x1024.size a ≤ S79872x1024.size a := fun i v2631 k0_hw44 k0_h1 => k0_hw44 k0_h1

def k0_off45 (v2637 : BitVec 32) : Fin 2 → Nat :=
  let c0_i32_1288 : BitVec 32 := 0#32
  ![v2637.toNat, 0]

def k0_chk45 (i : grid0.Coords) (v2637 : BitVec 32) : Prop :=
  (∀ (k0_h1 : k0_cond1 i = 1#1), ∀ a, (k0_off45 v2637) a + S1x1024.size a ≤ S79872x1024.size a)
theorem k0_off45_inb : ∀ (i : grid0.Coords) (v2637 : BitVec 32) (k0_hw45 : k0_chk45 i v2637), ∀ (k0_h1 : k0_cond1 i = 1#1), ∀ a, (k0_off45 v2637) a + S1x1024.size a ≤ S79872x1024.size a := fun i v2637 k0_hw45 k0_h1 => k0_hw45 k0_h1

def k0_off46 (v2643 : BitVec 32) : Fin 2 → Nat :=
  let c0_i32_1293 : BitVec 32 := 0#32
  ![v2643.toNat, 0]

def k0_chk46 (i : grid0.Coords) (v2643 : BitVec 32) : Prop :=
  (∀ (k0_h1 : k0_cond1 i = 1#1), ∀ a, (k0_off46 v2643) a + S1x1024.size a ≤ S79872x1024.size a)
theorem k0_off46_inb : ∀ (i : grid0.Coords) (v2643 : BitVec 32) (k0_hw46 : k0_chk46 i v2643), ∀ (k0_h1 : k0_cond1 i = 1#1), ∀ a, (k0_off46 v2643) a + S1x1024.size a ≤ S79872x1024.size a := fun i v2643 k0_hw46 k0_h1 => k0_hw46 k0_h1

def k0_off47 (v2649 : BitVec 32) : Fin 2 → Nat :=
  let c0_i32_1298 : BitVec 32 := 0#32
  ![v2649.toNat, 0]

def k0_chk47 (i : grid0.Coords) (v2649 : BitVec 32) : Prop :=
  (∀ (k0_h1 : k0_cond1 i = 1#1), ∀ a, (k0_off47 v2649) a + S1x1024.size a ≤ S79872x1024.size a)
theorem k0_off47_inb : ∀ (i : grid0.Coords) (v2649 : BitVec 32) (k0_hw47 : k0_chk47 i v2649), ∀ (k0_h1 : k0_cond1 i = 1#1), ∀ a, (k0_off47 v2649) a + S1x1024.size a ≤ S79872x1024.size a := fun i v2649 k0_hw47 k0_h1 => k0_hw47 k0_h1

def k0_off48 (v2655 : BitVec 32) : Fin 2 → Nat :=
  let c0_i32_1303 : BitVec 32 := 0#32
  ![v2655.toNat, 0]

def k0_chk48 (i : grid0.Coords) (v2655 : BitVec 32) : Prop :=
  (∀ (k0_h1 : k0_cond1 i = 1#1), ∀ a, (k0_off48 v2655) a + S1x1024.size a ≤ S79872x1024.size a)
theorem k0_off48_inb : ∀ (i : grid0.Coords) (v2655 : BitVec 32) (k0_hw48 : k0_chk48 i v2655), ∀ (k0_h1 : k0_cond1 i = 1#1), ∀ a, (k0_off48 v2655) a + S1x1024.size a ≤ S79872x1024.size a := fun i v2655 k0_hw48 k0_h1 => k0_hw48 k0_h1

def k0_off49 (v2661 : BitVec 32) : Fin 2 → Nat :=
  let c0_i32_1308 : BitVec 32 := 0#32
  ![v2661.toNat, 0]

def k0_chk49 (i : grid0.Coords) (v2661 : BitVec 32) : Prop :=
  (∀ (k0_h1 : k0_cond1 i = 1#1), ∀ a, (k0_off49 v2661) a + S1x1024.size a ≤ S79872x1024.size a)
theorem k0_off49_inb : ∀ (i : grid0.Coords) (v2661 : BitVec 32) (k0_hw49 : k0_chk49 i v2661), ∀ (k0_h1 : k0_cond1 i = 1#1), ∀ a, (k0_off49 v2661) a + S1x1024.size a ≤ S79872x1024.size a := fun i v2661 k0_hw49 k0_h1 => k0_hw49 k0_h1

def k0_off50 (v2667 : BitVec 32) : Fin 2 → Nat :=
  let c0_i32_1313 : BitVec 32 := 0#32
  ![v2667.toNat, 0]

def k0_chk50 (i : grid0.Coords) (v2667 : BitVec 32) : Prop :=
  (∀ (k0_h1 : k0_cond1 i = 1#1), ∀ a, (k0_off50 v2667) a + S1x1024.size a ≤ S79872x1024.size a)
theorem k0_off50_inb : ∀ (i : grid0.Coords) (v2667 : BitVec 32) (k0_hw50 : k0_chk50 i v2667), ∀ (k0_h1 : k0_cond1 i = 1#1), ∀ a, (k0_off50 v2667) a + S1x1024.size a ≤ S79872x1024.size a := fun i v2667 k0_hw50 k0_h1 => k0_hw50 k0_h1

def k0_off51 (v2673 : BitVec 32) : Fin 2 → Nat :=
  let c0_i32_1318 : BitVec 32 := 0#32
  ![v2673.toNat, 0]

def k0_chk51 (i : grid0.Coords) (v2673 : BitVec 32) : Prop :=
  (∀ (k0_h1 : k0_cond1 i = 1#1), ∀ a, (k0_off51 v2673) a + S1x1024.size a ≤ S79872x1024.size a)
theorem k0_off51_inb : ∀ (i : grid0.Coords) (v2673 : BitVec 32) (k0_hw51 : k0_chk51 i v2673), ∀ (k0_h1 : k0_cond1 i = 1#1), ∀ a, (k0_off51 v2673) a + S1x1024.size a ≤ S79872x1024.size a := fun i v2673 k0_hw51 k0_h1 => k0_hw51 k0_h1

def k0_off52 (v2679 : BitVec 32) : Fin 2 → Nat :=
  let c0_i32_1323 : BitVec 32 := 0#32
  ![v2679.toNat, 0]

def k0_chk52 (i : grid0.Coords) (v2679 : BitVec 32) : Prop :=
  (∀ (k0_h1 : k0_cond1 i = 1#1), ∀ a, (k0_off52 v2679) a + S1x1024.size a ≤ S79872x1024.size a)
theorem k0_off52_inb : ∀ (i : grid0.Coords) (v2679 : BitVec 32) (k0_hw52 : k0_chk52 i v2679), ∀ (k0_h1 : k0_cond1 i = 1#1), ∀ a, (k0_off52 v2679) a + S1x1024.size a ≤ S79872x1024.size a := fun i v2679 k0_hw52 k0_h1 => k0_hw52 k0_h1

def k0_off53 (v2685 : BitVec 32) : Fin 2 → Nat :=
  let c0_i32_1328 : BitVec 32 := 0#32
  ![v2685.toNat, 0]

def k0_chk53 (i : grid0.Coords) (v2685 : BitVec 32) : Prop :=
  (∀ (k0_h1 : k0_cond1 i = 1#1), ∀ a, (k0_off53 v2685) a + S1x1024.size a ≤ S79872x1024.size a)
theorem k0_off53_inb : ∀ (i : grid0.Coords) (v2685 : BitVec 32) (k0_hw53 : k0_chk53 i v2685), ∀ (k0_h1 : k0_cond1 i = 1#1), ∀ a, (k0_off53 v2685) a + S1x1024.size a ≤ S79872x1024.size a := fun i v2685 k0_hw53 k0_h1 => k0_hw53 k0_h1

def k0_off54 (v2691 : BitVec 32) : Fin 2 → Nat :=
  let c0_i32_1333 : BitVec 32 := 0#32
  ![v2691.toNat, 0]

def k0_chk54 (i : grid0.Coords) (v2691 : BitVec 32) : Prop :=
  (∀ (k0_h1 : k0_cond1 i = 1#1), ∀ a, (k0_off54 v2691) a + S1x1024.size a ≤ S79872x1024.size a)
theorem k0_off54_inb : ∀ (i : grid0.Coords) (v2691 : BitVec 32) (k0_hw54 : k0_chk54 i v2691), ∀ (k0_h1 : k0_cond1 i = 1#1), ∀ a, (k0_off54 v2691) a + S1x1024.size a ≤ S79872x1024.size a := fun i v2691 k0_hw54 k0_h1 => k0_hw54 k0_h1

def k0_off55 (v2697 : BitVec 32) : Fin 2 → Nat :=
  let c0_i32_1338 : BitVec 32 := 0#32
  ![v2697.toNat, 0]

def k0_chk55 (i : grid0.Coords) (v2697 : BitVec 32) : Prop :=
  (∀ (k0_h1 : k0_cond1 i = 1#1), ∀ a, (k0_off55 v2697) a + S1x1024.size a ≤ S79872x1024.size a)
theorem k0_off55_inb : ∀ (i : grid0.Coords) (v2697 : BitVec 32) (k0_hw55 : k0_chk55 i v2697), ∀ (k0_h1 : k0_cond1 i = 1#1), ∀ a, (k0_off55 v2697) a + S1x1024.size a ≤ S79872x1024.size a := fun i v2697 k0_hw55 k0_h1 => k0_hw55 k0_h1

def k0_off56 (v2703 : BitVec 32) : Fin 2 → Nat :=
  let c0_i32_1343 : BitVec 32 := 0#32
  ![v2703.toNat, 0]

def k0_chk56 (i : grid0.Coords) (v2703 : BitVec 32) : Prop :=
  (∀ (k0_h1 : k0_cond1 i = 1#1), ∀ a, (k0_off56 v2703) a + S1x1024.size a ≤ S79872x1024.size a)
theorem k0_off56_inb : ∀ (i : grid0.Coords) (v2703 : BitVec 32) (k0_hw56 : k0_chk56 i v2703), ∀ (k0_h1 : k0_cond1 i = 1#1), ∀ a, (k0_off56 v2703) a + S1x1024.size a ≤ S79872x1024.size a := fun i v2703 k0_hw56 k0_h1 => k0_hw56 k0_h1

def k0_off57 (v2709 : BitVec 32) : Fin 2 → Nat :=
  let c0_i32_1348 : BitVec 32 := 0#32
  ![v2709.toNat, 0]

def k0_chk57 (i : grid0.Coords) (v2709 : BitVec 32) : Prop :=
  (∀ (k0_h1 : k0_cond1 i = 1#1), ∀ a, (k0_off57 v2709) a + S1x1024.size a ≤ S79872x1024.size a)
theorem k0_off57_inb : ∀ (i : grid0.Coords) (v2709 : BitVec 32) (k0_hw57 : k0_chk57 i v2709), ∀ (k0_h1 : k0_cond1 i = 1#1), ∀ a, (k0_off57 v2709) a + S1x1024.size a ≤ S79872x1024.size a := fun i v2709 k0_hw57 k0_h1 => k0_hw57 k0_h1

def k0_off58 (v2715 : BitVec 32) : Fin 2 → Nat :=
  let c0_i32_1353 : BitVec 32 := 0#32
  ![v2715.toNat, 0]

def k0_chk58 (i : grid0.Coords) (v2715 : BitVec 32) : Prop :=
  (∀ (k0_h1 : k0_cond1 i = 1#1), ∀ a, (k0_off58 v2715) a + S1x1024.size a ≤ S79872x1024.size a)
theorem k0_off58_inb : ∀ (i : grid0.Coords) (v2715 : BitVec 32) (k0_hw58 : k0_chk58 i v2715), ∀ (k0_h1 : k0_cond1 i = 1#1), ∀ a, (k0_off58 v2715) a + S1x1024.size a ≤ S79872x1024.size a := fun i v2715 k0_hw58 k0_h1 => k0_hw58 k0_h1

def k0_off59 (v2721 : BitVec 32) : Fin 2 → Nat :=
  let c0_i32_1358 : BitVec 32 := 0#32
  ![v2721.toNat, 0]

def k0_chk59 (i : grid0.Coords) (v2721 : BitVec 32) : Prop :=
  (∀ (k0_h1 : k0_cond1 i = 1#1), ∀ a, (k0_off59 v2721) a + S1x1024.size a ≤ S79872x1024.size a)
theorem k0_off59_inb : ∀ (i : grid0.Coords) (v2721 : BitVec 32) (k0_hw59 : k0_chk59 i v2721), ∀ (k0_h1 : k0_cond1 i = 1#1), ∀ a, (k0_off59 v2721) a + S1x1024.size a ≤ S79872x1024.size a := fun i v2721 k0_hw59 k0_h1 => k0_hw59 k0_h1

def k0_off60 (v2727 : BitVec 32) : Fin 2 → Nat :=
  let c0_i32_1363 : BitVec 32 := 0#32
  ![v2727.toNat, 0]

def k0_chk60 (i : grid0.Coords) (v2727 : BitVec 32) : Prop :=
  (∀ (k0_h1 : k0_cond1 i = 1#1), ∀ a, (k0_off60 v2727) a + S1x1024.size a ≤ S79872x1024.size a)
theorem k0_off60_inb : ∀ (i : grid0.Coords) (v2727 : BitVec 32) (k0_hw60 : k0_chk60 i v2727), ∀ (k0_h1 : k0_cond1 i = 1#1), ∀ a, (k0_off60 v2727) a + S1x1024.size a ≤ S79872x1024.size a := fun i v2727 k0_hw60 k0_h1 => k0_hw60 k0_h1

def k0_off61 (v2733 : BitVec 32) : Fin 2 → Nat :=
  let c0_i32_1368 : BitVec 32 := 0#32
  ![v2733.toNat, 0]

def k0_chk61 (i : grid0.Coords) (v2733 : BitVec 32) : Prop :=
  (∀ (k0_h1 : k0_cond1 i = 1#1), ∀ a, (k0_off61 v2733) a + S1x1024.size a ≤ S79872x1024.size a)
theorem k0_off61_inb : ∀ (i : grid0.Coords) (v2733 : BitVec 32) (k0_hw61 : k0_chk61 i v2733), ∀ (k0_h1 : k0_cond1 i = 1#1), ∀ a, (k0_off61 v2733) a + S1x1024.size a ≤ S79872x1024.size a := fun i v2733 k0_hw61 k0_h1 => k0_hw61 k0_h1

def k0_off62 (v2739 : BitVec 32) : Fin 2 → Nat :=
  let c0_i32_1373 : BitVec 32 := 0#32
  ![v2739.toNat, 0]

def k0_chk62 (i : grid0.Coords) (v2739 : BitVec 32) : Prop :=
  (∀ (k0_h1 : k0_cond1 i = 1#1), ∀ a, (k0_off62 v2739) a + S1x1024.size a ≤ S79872x1024.size a)
theorem k0_off62_inb : ∀ (i : grid0.Coords) (v2739 : BitVec 32) (k0_hw62 : k0_chk62 i v2739), ∀ (k0_h1 : k0_cond1 i = 1#1), ∀ a, (k0_off62 v2739) a + S1x1024.size a ≤ S79872x1024.size a := fun i v2739 k0_hw62 k0_h1 => k0_hw62 k0_h1

def k0_off63 (v2745 : BitVec 32) : Fin 2 → Nat :=
  let c0_i32_1378 : BitVec 32 := 0#32
  ![v2745.toNat, 0]

def k0_chk63 (i : grid0.Coords) (v2745 : BitVec 32) : Prop :=
  (∀ (k0_h1 : k0_cond1 i = 1#1), ∀ a, (k0_off63 v2745) a + S1x1024.size a ≤ S79872x1024.size a)
theorem k0_off63_inb : ∀ (i : grid0.Coords) (v2745 : BitVec 32) (k0_hw63 : k0_chk63 i v2745), ∀ (k0_h1 : k0_cond1 i = 1#1), ∀ a, (k0_off63 v2745) a + S1x1024.size a ≤ S79872x1024.size a := fun i v2745 k0_hw63 k0_h1 => k0_hw63 k0_h1

def k0_off64 (v2751 : BitVec 32) : Fin 2 → Nat :=
  let c0_i32_1383 : BitVec 32 := 0#32
  ![v2751.toNat, 0]

def k0_chk64 (i : grid0.Coords) (v2751 : BitVec 32) : Prop :=
  (∀ (k0_h1 : k0_cond1 i = 1#1), ∀ a, (k0_off64 v2751) a + S1x1024.size a ≤ S79872x1024.size a)
theorem k0_off64_inb : ∀ (i : grid0.Coords) (v2751 : BitVec 32) (k0_hw64 : k0_chk64 i v2751), ∀ (k0_h1 : k0_cond1 i = 1#1), ∀ a, (k0_off64 v2751) a + S1x1024.size a ≤ S79872x1024.size a := fun i v2751 k0_hw64 k0_h1 => k0_hw64 k0_h1

def k0_off65 (v2757 : BitVec 32) : Fin 2 → Nat :=
  let c0_i32_1388 : BitVec 32 := 0#32
  ![v2757.toNat, 0]

def k0_chk65 (i : grid0.Coords) (v2757 : BitVec 32) : Prop :=
  (∀ (k0_h1 : k0_cond1 i = 1#1), ∀ a, (k0_off65 v2757) a + S1x1024.size a ≤ S79872x1024.size a)
theorem k0_off65_inb : ∀ (i : grid0.Coords) (v2757 : BitVec 32) (k0_hw65 : k0_chk65 i v2757), ∀ (k0_h1 : k0_cond1 i = 1#1), ∀ a, (k0_off65 v2757) a + S1x1024.size a ≤ S79872x1024.size a := fun i v2757 k0_hw65 k0_h1 => k0_hw65 k0_h1

def k0_off66 (v2763 : BitVec 32) : Fin 2 → Nat :=
  let c0_i32_1393 : BitVec 32 := 0#32
  ![v2763.toNat, 0]

def k0_chk66 (i : grid0.Coords) (v2763 : BitVec 32) : Prop :=
  (∀ (k0_h1 : k0_cond1 i = 1#1), ∀ a, (k0_off66 v2763) a + S1x1024.size a ≤ S79872x1024.size a)
theorem k0_off66_inb : ∀ (i : grid0.Coords) (v2763 : BitVec 32) (k0_hw66 : k0_chk66 i v2763), ∀ (k0_h1 : k0_cond1 i = 1#1), ∀ a, (k0_off66 v2763) a + S1x1024.size a ≤ S79872x1024.size a := fun i v2763 k0_hw66 k0_h1 => k0_hw66 k0_h1

def k0_off67 (v2769 : BitVec 32) : Fin 2 → Nat :=
  let c0_i32_1398 : BitVec 32 := 0#32
  ![v2769.toNat, 0]

def k0_chk67 (i : grid0.Coords) (v2769 : BitVec 32) : Prop :=
  (∀ (k0_h1 : k0_cond1 i = 1#1), ∀ a, (k0_off67 v2769) a + S1x1024.size a ≤ S79872x1024.size a)
theorem k0_off67_inb : ∀ (i : grid0.Coords) (v2769 : BitVec 32) (k0_hw67 : k0_chk67 i v2769), ∀ (k0_h1 : k0_cond1 i = 1#1), ∀ a, (k0_off67 v2769) a + S1x1024.size a ≤ S79872x1024.size a := fun i v2769 k0_hw67 k0_h1 => k0_hw67 k0_h1

def k0_off68 (v2775 : BitVec 32) : Fin 2 → Nat :=
  let c0_i32_1403 : BitVec 32 := 0#32
  ![v2775.toNat, 0]

def k0_chk68 (i : grid0.Coords) (v2775 : BitVec 32) : Prop :=
  (∀ (k0_h1 : k0_cond1 i = 1#1), ∀ a, (k0_off68 v2775) a + S1x1024.size a ≤ S79872x1024.size a)
theorem k0_off68_inb : ∀ (i : grid0.Coords) (v2775 : BitVec 32) (k0_hw68 : k0_chk68 i v2775), ∀ (k0_h1 : k0_cond1 i = 1#1), ∀ a, (k0_off68 v2775) a + S1x1024.size a ≤ S79872x1024.size a := fun i v2775 k0_hw68 k0_h1 => k0_hw68 k0_h1

def k0_off69 (v2781 : BitVec 32) : Fin 2 → Nat :=
  let c0_i32_1408 : BitVec 32 := 0#32
  ![v2781.toNat, 0]

def k0_chk69 (i : grid0.Coords) (v2781 : BitVec 32) : Prop :=
  (∀ (k0_h1 : k0_cond1 i = 1#1), ∀ a, (k0_off69 v2781) a + S1x1024.size a ≤ S79872x1024.size a)
theorem k0_off69_inb : ∀ (i : grid0.Coords) (v2781 : BitVec 32) (k0_hw69 : k0_chk69 i v2781), ∀ (k0_h1 : k0_cond1 i = 1#1), ∀ a, (k0_off69 v2781) a + S1x1024.size a ≤ S79872x1024.size a := fun i v2781 k0_hw69 k0_h1 => k0_hw69 k0_h1

def k0_off70 (v2787 : BitVec 32) : Fin 2 → Nat :=
  let c0_i32_1413 : BitVec 32 := 0#32
  ![v2787.toNat, 0]

def k0_chk70 (i : grid0.Coords) (v2787 : BitVec 32) : Prop :=
  (∀ (k0_h1 : k0_cond1 i = 1#1), ∀ a, (k0_off70 v2787) a + S1x1024.size a ≤ S79872x1024.size a)
theorem k0_off70_inb : ∀ (i : grid0.Coords) (v2787 : BitVec 32) (k0_hw70 : k0_chk70 i v2787), ∀ (k0_h1 : k0_cond1 i = 1#1), ∀ a, (k0_off70 v2787) a + S1x1024.size a ≤ S79872x1024.size a := fun i v2787 k0_hw70 k0_h1 => k0_hw70 k0_h1

def k0_off71 (v2793 : BitVec 32) : Fin 2 → Nat :=
  let c0_i32_1418 : BitVec 32 := 0#32
  ![v2793.toNat, 0]

def k0_chk71 (i : grid0.Coords) (v2793 : BitVec 32) : Prop :=
  (∀ (k0_h1 : k0_cond1 i = 1#1), ∀ a, (k0_off71 v2793) a + S1x1024.size a ≤ S79872x1024.size a)
theorem k0_off71_inb : ∀ (i : grid0.Coords) (v2793 : BitVec 32) (k0_hw71 : k0_chk71 i v2793), ∀ (k0_h1 : k0_cond1 i = 1#1), ∀ a, (k0_off71 v2793) a + S1x1024.size a ≤ S79872x1024.size a := fun i v2793 k0_hw71 k0_h1 => k0_hw71 k0_h1

def k0_off72 (v2799 : BitVec 32) : Fin 2 → Nat :=
  let c0_i32_1423 : BitVec 32 := 0#32
  ![v2799.toNat, 0]

def k0_chk72 (i : grid0.Coords) (v2799 : BitVec 32) : Prop :=
  (∀ (k0_h1 : k0_cond1 i = 1#1), ∀ a, (k0_off72 v2799) a + S1x1024.size a ≤ S79872x1024.size a)
theorem k0_off72_inb : ∀ (i : grid0.Coords) (v2799 : BitVec 32) (k0_hw72 : k0_chk72 i v2799), ∀ (k0_h1 : k0_cond1 i = 1#1), ∀ a, (k0_off72 v2799) a + S1x1024.size a ≤ S79872x1024.size a := fun i v2799 k0_hw72 k0_h1 => k0_hw72 k0_h1

def k0_off73 (v2805 : BitVec 32) : Fin 2 → Nat :=
  let c0_i32_1428 : BitVec 32 := 0#32
  ![v2805.toNat, 0]

def k0_chk73 (i : grid0.Coords) (v2805 : BitVec 32) : Prop :=
  (∀ (k0_h1 : k0_cond1 i = 1#1), ∀ a, (k0_off73 v2805) a + S1x1024.size a ≤ S79872x1024.size a)
theorem k0_off73_inb : ∀ (i : grid0.Coords) (v2805 : BitVec 32) (k0_hw73 : k0_chk73 i v2805), ∀ (k0_h1 : k0_cond1 i = 1#1), ∀ a, (k0_off73 v2805) a + S1x1024.size a ≤ S79872x1024.size a := fun i v2805 k0_hw73 k0_h1 => k0_hw73 k0_h1

def k0_off74 (v2811 : BitVec 32) : Fin 2 → Nat :=
  let c0_i32_1433 : BitVec 32 := 0#32
  ![v2811.toNat, 0]

def k0_chk74 (i : grid0.Coords) (v2811 : BitVec 32) : Prop :=
  (∀ (k0_h1 : k0_cond1 i = 1#1), ∀ a, (k0_off74 v2811) a + S1x1024.size a ≤ S79872x1024.size a)
theorem k0_off74_inb : ∀ (i : grid0.Coords) (v2811 : BitVec 32) (k0_hw74 : k0_chk74 i v2811), ∀ (k0_h1 : k0_cond1 i = 1#1), ∀ a, (k0_off74 v2811) a + S1x1024.size a ≤ S79872x1024.size a := fun i v2811 k0_hw74 k0_h1 => k0_hw74 k0_h1

def k0_off75 (v2817 : BitVec 32) : Fin 2 → Nat :=
  let c0_i32_1438 : BitVec 32 := 0#32
  ![v2817.toNat, 0]

def k0_chk75 (i : grid0.Coords) (v2817 : BitVec 32) : Prop :=
  (∀ (k0_h1 : k0_cond1 i = 1#1), ∀ a, (k0_off75 v2817) a + S1x1024.size a ≤ S79872x1024.size a)
theorem k0_off75_inb : ∀ (i : grid0.Coords) (v2817 : BitVec 32) (k0_hw75 : k0_chk75 i v2817), ∀ (k0_h1 : k0_cond1 i = 1#1), ∀ a, (k0_off75 v2817) a + S1x1024.size a ≤ S79872x1024.size a := fun i v2817 k0_hw75 k0_h1 => k0_hw75 k0_h1

def k0_off76 (v2823 : BitVec 32) : Fin 2 → Nat :=
  let c0_i32_1443 : BitVec 32 := 0#32
  ![v2823.toNat, 0]

def k0_chk76 (i : grid0.Coords) (v2823 : BitVec 32) : Prop :=
  (∀ (k0_h1 : k0_cond1 i = 1#1), ∀ a, (k0_off76 v2823) a + S1x1024.size a ≤ S79872x1024.size a)
theorem k0_off76_inb : ∀ (i : grid0.Coords) (v2823 : BitVec 32) (k0_hw76 : k0_chk76 i v2823), ∀ (k0_h1 : k0_cond1 i = 1#1), ∀ a, (k0_off76 v2823) a + S1x1024.size a ≤ S79872x1024.size a := fun i v2823 k0_hw76 k0_h1 => k0_hw76 k0_h1

def k0_off77 (v2829 : BitVec 32) : Fin 2 → Nat :=
  let c0_i32_1448 : BitVec 32 := 0#32
  ![v2829.toNat, 0]

def k0_chk77 (i : grid0.Coords) (v2829 : BitVec 32) : Prop :=
  (∀ (k0_h1 : k0_cond1 i = 1#1), ∀ a, (k0_off77 v2829) a + S1x1024.size a ≤ S79872x1024.size a)
theorem k0_off77_inb : ∀ (i : grid0.Coords) (v2829 : BitVec 32) (k0_hw77 : k0_chk77 i v2829), ∀ (k0_h1 : k0_cond1 i = 1#1), ∀ a, (k0_off77 v2829) a + S1x1024.size a ≤ S79872x1024.size a := fun i v2829 k0_hw77 k0_h1 => k0_hw77 k0_h1

def k0_off78 (v2835 : BitVec 32) : Fin 2 → Nat :=
  let c0_i32_1453 : BitVec 32 := 0#32
  ![v2835.toNat, 0]

def k0_chk78 (i : grid0.Coords) (v2835 : BitVec 32) : Prop :=
  (∀ (k0_h1 : k0_cond1 i = 1#1), ∀ a, (k0_off78 v2835) a + S1x1024.size a ≤ S79872x1024.size a)
theorem k0_off78_inb : ∀ (i : grid0.Coords) (v2835 : BitVec 32) (k0_hw78 : k0_chk78 i v2835), ∀ (k0_h1 : k0_cond1 i = 1#1), ∀ a, (k0_off78 v2835) a + S1x1024.size a ≤ S79872x1024.size a := fun i v2835 k0_hw78 k0_h1 => k0_hw78 k0_h1

def k0_off79 (v2841 : BitVec 32) : Fin 2 → Nat :=
  let c0_i32_1458 : BitVec 32 := 0#32
  ![v2841.toNat, 0]

def k0_chk79 (i : grid0.Coords) (v2841 : BitVec 32) : Prop :=
  (∀ (k0_h1 : k0_cond1 i = 1#1), ∀ a, (k0_off79 v2841) a + S1x1024.size a ≤ S79872x1024.size a)
theorem k0_off79_inb : ∀ (i : grid0.Coords) (v2841 : BitVec 32) (k0_hw79 : k0_chk79 i v2841), ∀ (k0_h1 : k0_cond1 i = 1#1), ∀ a, (k0_off79 v2841) a + S1x1024.size a ≤ S79872x1024.size a := fun i v2841 k0_hw79 k0_h1 => k0_hw79 k0_h1

def k0_off80 (v2847 : BitVec 32) : Fin 2 → Nat :=
  let c0_i32_1463 : BitVec 32 := 0#32
  ![v2847.toNat, 0]

def k0_chk80 (i : grid0.Coords) (v2847 : BitVec 32) : Prop :=
  (∀ (k0_h1 : k0_cond1 i = 1#1), ∀ a, (k0_off80 v2847) a + S1x1024.size a ≤ S79872x1024.size a)
theorem k0_off80_inb : ∀ (i : grid0.Coords) (v2847 : BitVec 32) (k0_hw80 : k0_chk80 i v2847), ∀ (k0_h1 : k0_cond1 i = 1#1), ∀ a, (k0_off80 v2847) a + S1x1024.size a ≤ S79872x1024.size a := fun i v2847 k0_hw80 k0_h1 => k0_hw80 k0_h1

def k0_off81 (v2853 : BitVec 32) : Fin 2 → Nat :=
  let c0_i32_1468 : BitVec 32 := 0#32
  ![v2853.toNat, 0]

def k0_chk81 (i : grid0.Coords) (v2853 : BitVec 32) : Prop :=
  (∀ (k0_h1 : k0_cond1 i = 1#1), ∀ a, (k0_off81 v2853) a + S1x1024.size a ≤ S79872x1024.size a)
theorem k0_off81_inb : ∀ (i : grid0.Coords) (v2853 : BitVec 32) (k0_hw81 : k0_chk81 i v2853), ∀ (k0_h1 : k0_cond1 i = 1#1), ∀ a, (k0_off81 v2853) a + S1x1024.size a ≤ S79872x1024.size a := fun i v2853 k0_hw81 k0_h1 => k0_hw81 k0_h1

def k0_off82 (v2859 : BitVec 32) : Fin 2 → Nat :=
  let c0_i32_1473 : BitVec 32 := 0#32
  ![v2859.toNat, 0]

def k0_chk82 (i : grid0.Coords) (v2859 : BitVec 32) : Prop :=
  (∀ (k0_h1 : k0_cond1 i = 1#1), ∀ a, (k0_off82 v2859) a + S1x1024.size a ≤ S79872x1024.size a)
theorem k0_off82_inb : ∀ (i : grid0.Coords) (v2859 : BitVec 32) (k0_hw82 : k0_chk82 i v2859), ∀ (k0_h1 : k0_cond1 i = 1#1), ∀ a, (k0_off82 v2859) a + S1x1024.size a ≤ S79872x1024.size a := fun i v2859 k0_hw82 k0_h1 => k0_hw82 k0_h1

def k0_off83 (v2865 : BitVec 32) : Fin 2 → Nat :=
  let c0_i32_1478 : BitVec 32 := 0#32
  ![v2865.toNat, 0]

def k0_chk83 (i : grid0.Coords) (v2865 : BitVec 32) : Prop :=
  (∀ (k0_h1 : k0_cond1 i = 1#1), ∀ a, (k0_off83 v2865) a + S1x1024.size a ≤ S79872x1024.size a)
theorem k0_off83_inb : ∀ (i : grid0.Coords) (v2865 : BitVec 32) (k0_hw83 : k0_chk83 i v2865), ∀ (k0_h1 : k0_cond1 i = 1#1), ∀ a, (k0_off83 v2865) a + S1x1024.size a ≤ S79872x1024.size a := fun i v2865 k0_hw83 k0_h1 => k0_hw83 k0_h1

def k0_off84 (v2871 : BitVec 32) : Fin 2 → Nat :=
  let c0_i32_1483 : BitVec 32 := 0#32
  ![v2871.toNat, 0]

def k0_chk84 (i : grid0.Coords) (v2871 : BitVec 32) : Prop :=
  (∀ (k0_h1 : k0_cond1 i = 1#1), ∀ a, (k0_off84 v2871) a + S1x1024.size a ≤ S79872x1024.size a)
theorem k0_off84_inb : ∀ (i : grid0.Coords) (v2871 : BitVec 32) (k0_hw84 : k0_chk84 i v2871), ∀ (k0_h1 : k0_cond1 i = 1#1), ∀ a, (k0_off84 v2871) a + S1x1024.size a ≤ S79872x1024.size a := fun i v2871 k0_hw84 k0_h1 => k0_hw84 k0_h1

def k0_off85 (v2877 : BitVec 32) : Fin 2 → Nat :=
  let c0_i32_1488 : BitVec 32 := 0#32
  ![v2877.toNat, 0]

def k0_chk85 (i : grid0.Coords) (v2877 : BitVec 32) : Prop :=
  (∀ (k0_h1 : k0_cond1 i = 1#1), ∀ a, (k0_off85 v2877) a + S1x1024.size a ≤ S79872x1024.size a)
theorem k0_off85_inb : ∀ (i : grid0.Coords) (v2877 : BitVec 32) (k0_hw85 : k0_chk85 i v2877), ∀ (k0_h1 : k0_cond1 i = 1#1), ∀ a, (k0_off85 v2877) a + S1x1024.size a ≤ S79872x1024.size a := fun i v2877 k0_hw85 k0_h1 => k0_hw85 k0_h1

def k0_off86 (v2883 : BitVec 32) : Fin 2 → Nat :=
  let c0_i32_1493 : BitVec 32 := 0#32
  ![v2883.toNat, 0]

def k0_chk86 (i : grid0.Coords) (v2883 : BitVec 32) : Prop :=
  (∀ (k0_h1 : k0_cond1 i = 1#1), ∀ a, (k0_off86 v2883) a + S1x1024.size a ≤ S79872x1024.size a)
theorem k0_off86_inb : ∀ (i : grid0.Coords) (v2883 : BitVec 32) (k0_hw86 : k0_chk86 i v2883), ∀ (k0_h1 : k0_cond1 i = 1#1), ∀ a, (k0_off86 v2883) a + S1x1024.size a ≤ S79872x1024.size a := fun i v2883 k0_hw86 k0_h1 => k0_hw86 k0_h1

def k0_off87 (v2889 : BitVec 32) : Fin 2 → Nat :=
  let c0_i32_1498 : BitVec 32 := 0#32
  ![v2889.toNat, 0]

def k0_chk87 (i : grid0.Coords) (v2889 : BitVec 32) : Prop :=
  (∀ (k0_h1 : k0_cond1 i = 1#1), ∀ a, (k0_off87 v2889) a + S1x1024.size a ≤ S79872x1024.size a)
theorem k0_off87_inb : ∀ (i : grid0.Coords) (v2889 : BitVec 32) (k0_hw87 : k0_chk87 i v2889), ∀ (k0_h1 : k0_cond1 i = 1#1), ∀ a, (k0_off87 v2889) a + S1x1024.size a ≤ S79872x1024.size a := fun i v2889 k0_hw87 k0_h1 => k0_hw87 k0_h1

def k0_off88 (v2895 : BitVec 32) : Fin 2 → Nat :=
  let c0_i32_1503 : BitVec 32 := 0#32
  ![v2895.toNat, 0]

def k0_chk88 (i : grid0.Coords) (v2895 : BitVec 32) : Prop :=
  (∀ (k0_h1 : k0_cond1 i = 1#1), ∀ a, (k0_off88 v2895) a + S1x1024.size a ≤ S79872x1024.size a)
theorem k0_off88_inb : ∀ (i : grid0.Coords) (v2895 : BitVec 32) (k0_hw88 : k0_chk88 i v2895), ∀ (k0_h1 : k0_cond1 i = 1#1), ∀ a, (k0_off88 v2895) a + S1x1024.size a ≤ S79872x1024.size a := fun i v2895 k0_hw88 k0_h1 => k0_hw88 k0_h1

def k0_off89 (v2901 : BitVec 32) : Fin 2 → Nat :=
  let c0_i32_1508 : BitVec 32 := 0#32
  ![v2901.toNat, 0]

def k0_chk89 (i : grid0.Coords) (v2901 : BitVec 32) : Prop :=
  (∀ (k0_h1 : k0_cond1 i = 1#1), ∀ a, (k0_off89 v2901) a + S1x1024.size a ≤ S79872x1024.size a)
theorem k0_off89_inb : ∀ (i : grid0.Coords) (v2901 : BitVec 32) (k0_hw89 : k0_chk89 i v2901), ∀ (k0_h1 : k0_cond1 i = 1#1), ∀ a, (k0_off89 v2901) a + S1x1024.size a ≤ S79872x1024.size a := fun i v2901 k0_hw89 k0_h1 => k0_hw89 k0_h1

def k0_off90 (v2907 : BitVec 32) : Fin 2 → Nat :=
  let c0_i32_1513 : BitVec 32 := 0#32
  ![v2907.toNat, 0]

def k0_chk90 (i : grid0.Coords) (v2907 : BitVec 32) : Prop :=
  (∀ (k0_h1 : k0_cond1 i = 1#1), ∀ a, (k0_off90 v2907) a + S1x1024.size a ≤ S79872x1024.size a)
theorem k0_off90_inb : ∀ (i : grid0.Coords) (v2907 : BitVec 32) (k0_hw90 : k0_chk90 i v2907), ∀ (k0_h1 : k0_cond1 i = 1#1), ∀ a, (k0_off90 v2907) a + S1x1024.size a ≤ S79872x1024.size a := fun i v2907 k0_hw90 k0_h1 => k0_hw90 k0_h1

def k0_off91 (v2913 : BitVec 32) : Fin 2 → Nat :=
  let c0_i32_1518 : BitVec 32 := 0#32
  ![v2913.toNat, 0]

def k0_chk91 (i : grid0.Coords) (v2913 : BitVec 32) : Prop :=
  (∀ (k0_h1 : k0_cond1 i = 1#1), ∀ a, (k0_off91 v2913) a + S1x1024.size a ≤ S79872x1024.size a)
theorem k0_off91_inb : ∀ (i : grid0.Coords) (v2913 : BitVec 32) (k0_hw91 : k0_chk91 i v2913), ∀ (k0_h1 : k0_cond1 i = 1#1), ∀ a, (k0_off91 v2913) a + S1x1024.size a ≤ S79872x1024.size a := fun i v2913 k0_hw91 k0_h1 => k0_hw91 k0_h1

def k0_off92 (v2919 : BitVec 32) : Fin 2 → Nat :=
  let c0_i32_1523 : BitVec 32 := 0#32
  ![v2919.toNat, 0]

def k0_chk92 (i : grid0.Coords) (v2919 : BitVec 32) : Prop :=
  (∀ (k0_h1 : k0_cond1 i = 1#1), ∀ a, (k0_off92 v2919) a + S1x1024.size a ≤ S79872x1024.size a)
theorem k0_off92_inb : ∀ (i : grid0.Coords) (v2919 : BitVec 32) (k0_hw92 : k0_chk92 i v2919), ∀ (k0_h1 : k0_cond1 i = 1#1), ∀ a, (k0_off92 v2919) a + S1x1024.size a ≤ S79872x1024.size a := fun i v2919 k0_hw92 k0_h1 => k0_hw92 k0_h1

def k0_off93 (v2925 : BitVec 32) : Fin 2 → Nat :=
  let c0_i32_1528 : BitVec 32 := 0#32
  ![v2925.toNat, 0]

def k0_chk93 (i : grid0.Coords) (v2925 : BitVec 32) : Prop :=
  (∀ (k0_h1 : k0_cond1 i = 1#1), ∀ a, (k0_off93 v2925) a + S1x1024.size a ≤ S79872x1024.size a)
theorem k0_off93_inb : ∀ (i : grid0.Coords) (v2925 : BitVec 32) (k0_hw93 : k0_chk93 i v2925), ∀ (k0_h1 : k0_cond1 i = 1#1), ∀ a, (k0_off93 v2925) a + S1x1024.size a ≤ S79872x1024.size a := fun i v2925 k0_hw93 k0_h1 => k0_hw93 k0_h1

def k0_off94 (v2931 : BitVec 32) : Fin 2 → Nat :=
  let c0_i32_1533 : BitVec 32 := 0#32
  ![v2931.toNat, 0]

def k0_chk94 (i : grid0.Coords) (v2931 : BitVec 32) : Prop :=
  (∀ (k0_h1 : k0_cond1 i = 1#1), ∀ a, (k0_off94 v2931) a + S1x1024.size a ≤ S79872x1024.size a)
theorem k0_off94_inb : ∀ (i : grid0.Coords) (v2931 : BitVec 32) (k0_hw94 : k0_chk94 i v2931), ∀ (k0_h1 : k0_cond1 i = 1#1), ∀ a, (k0_off94 v2931) a + S1x1024.size a ≤ S79872x1024.size a := fun i v2931 k0_hw94 k0_h1 => k0_hw94 k0_h1

def k0_off95 (v2937 : BitVec 32) : Fin 2 → Nat :=
  let c0_i32_1538 : BitVec 32 := 0#32
  ![v2937.toNat, 0]

def k0_chk95 (i : grid0.Coords) (v2937 : BitVec 32) : Prop :=
  (∀ (k0_h1 : k0_cond1 i = 1#1), ∀ a, (k0_off95 v2937) a + S1x1024.size a ≤ S79872x1024.size a)
theorem k0_off95_inb : ∀ (i : grid0.Coords) (v2937 : BitVec 32) (k0_hw95 : k0_chk95 i v2937), ∀ (k0_h1 : k0_cond1 i = 1#1), ∀ a, (k0_off95 v2937) a + S1x1024.size a ≤ S79872x1024.size a := fun i v2937 k0_hw95 k0_h1 => k0_hw95 k0_h1

def k0_off96 (v2943 : BitVec 32) : Fin 2 → Nat :=
  let c0_i32_1543 : BitVec 32 := 0#32
  ![v2943.toNat, 0]

def k0_chk96 (i : grid0.Coords) (v2943 : BitVec 32) : Prop :=
  (∀ (k0_h1 : k0_cond1 i = 1#1), ∀ a, (k0_off96 v2943) a + S1x1024.size a ≤ S79872x1024.size a)
theorem k0_off96_inb : ∀ (i : grid0.Coords) (v2943 : BitVec 32) (k0_hw96 : k0_chk96 i v2943), ∀ (k0_h1 : k0_cond1 i = 1#1), ∀ a, (k0_off96 v2943) a + S1x1024.size a ≤ S79872x1024.size a := fun i v2943 k0_hw96 k0_h1 => k0_hw96 k0_h1

def k0_off97 (v2949 : BitVec 32) : Fin 2 → Nat :=
  let c0_i32_1548 : BitVec 32 := 0#32
  ![v2949.toNat, 0]

def k0_chk97 (i : grid0.Coords) (v2949 : BitVec 32) : Prop :=
  (∀ (k0_h1 : k0_cond1 i = 1#1), ∀ a, (k0_off97 v2949) a + S1x1024.size a ≤ S79872x1024.size a)
theorem k0_off97_inb : ∀ (i : grid0.Coords) (v2949 : BitVec 32) (k0_hw97 : k0_chk97 i v2949), ∀ (k0_h1 : k0_cond1 i = 1#1), ∀ a, (k0_off97 v2949) a + S1x1024.size a ≤ S79872x1024.size a := fun i v2949 k0_hw97 k0_h1 => k0_hw97 k0_h1

def k0_off98 (v2955 : BitVec 32) : Fin 2 → Nat :=
  let c0_i32_1553 : BitVec 32 := 0#32
  ![v2955.toNat, 0]

def k0_chk98 (i : grid0.Coords) (v2955 : BitVec 32) : Prop :=
  (∀ (k0_h1 : k0_cond1 i = 1#1), ∀ a, (k0_off98 v2955) a + S1x1024.size a ≤ S79872x1024.size a)
theorem k0_off98_inb : ∀ (i : grid0.Coords) (v2955 : BitVec 32) (k0_hw98 : k0_chk98 i v2955), ∀ (k0_h1 : k0_cond1 i = 1#1), ∀ a, (k0_off98 v2955) a + S1x1024.size a ≤ S79872x1024.size a := fun i v2955 k0_hw98 k0_h1 => k0_hw98 k0_h1

def k0_off99 (v2961 : BitVec 32) : Fin 2 → Nat :=
  let c0_i32_1558 : BitVec 32 := 0#32
  ![v2961.toNat, 0]

def k0_chk99 (i : grid0.Coords) (v2961 : BitVec 32) : Prop :=
  (∀ (k0_h1 : k0_cond1 i = 1#1), ∀ a, (k0_off99 v2961) a + S1x1024.size a ≤ S79872x1024.size a)
theorem k0_off99_inb : ∀ (i : grid0.Coords) (v2961 : BitVec 32) (k0_hw99 : k0_chk99 i v2961), ∀ (k0_h1 : k0_cond1 i = 1#1), ∀ a, (k0_off99 v2961) a + S1x1024.size a ≤ S79872x1024.size a := fun i v2961 k0_hw99 k0_h1 => k0_hw99 k0_h1

def k0_off100 (v2967 : BitVec 32) : Fin 2 → Nat :=
  let c0_i32_1563 : BitVec 32 := 0#32
  ![v2967.toNat, 0]

def k0_chk100 (i : grid0.Coords) (v2967 : BitVec 32) : Prop :=
  (∀ (k0_h1 : k0_cond1 i = 1#1), ∀ a, (k0_off100 v2967) a + S1x1024.size a ≤ S79872x1024.size a)
theorem k0_off100_inb : ∀ (i : grid0.Coords) (v2967 : BitVec 32) (k0_hw100 : k0_chk100 i v2967), ∀ (k0_h1 : k0_cond1 i = 1#1), ∀ a, (k0_off100 v2967) a + S1x1024.size a ≤ S79872x1024.size a := fun i v2967 k0_hw100 k0_h1 => k0_hw100 k0_h1

def k0_off101 (v2973 : BitVec 32) : Fin 2 → Nat :=
  let c0_i32_1568 : BitVec 32 := 0#32
  ![v2973.toNat, 0]

def k0_chk101 (i : grid0.Coords) (v2973 : BitVec 32) : Prop :=
  (∀ (k0_h1 : k0_cond1 i = 1#1), ∀ a, (k0_off101 v2973) a + S1x1024.size a ≤ S79872x1024.size a)
theorem k0_off101_inb : ∀ (i : grid0.Coords) (v2973 : BitVec 32) (k0_hw101 : k0_chk101 i v2973), ∀ (k0_h1 : k0_cond1 i = 1#1), ∀ a, (k0_off101 v2973) a + S1x1024.size a ≤ S79872x1024.size a := fun i v2973 k0_hw101 k0_h1 => k0_hw101 k0_h1

def k0_off102 (v2979 : BitVec 32) : Fin 2 → Nat :=
  let c0_i32_1573 : BitVec 32 := 0#32
  ![v2979.toNat, 0]

def k0_chk102 (i : grid0.Coords) (v2979 : BitVec 32) : Prop :=
  (∀ (k0_h1 : k0_cond1 i = 1#1), ∀ a, (k0_off102 v2979) a + S1x1024.size a ≤ S79872x1024.size a)
theorem k0_off102_inb : ∀ (i : grid0.Coords) (v2979 : BitVec 32) (k0_hw102 : k0_chk102 i v2979), ∀ (k0_h1 : k0_cond1 i = 1#1), ∀ a, (k0_off102 v2979) a + S1x1024.size a ≤ S79872x1024.size a := fun i v2979 k0_hw102 k0_h1 => k0_hw102 k0_h1

def k0_off103 (v2985 : BitVec 32) : Fin 2 → Nat :=
  let c0_i32_1578 : BitVec 32 := 0#32
  ![v2985.toNat, 0]

def k0_chk103 (i : grid0.Coords) (v2985 : BitVec 32) : Prop :=
  (∀ (k0_h1 : k0_cond1 i = 1#1), ∀ a, (k0_off103 v2985) a + S1x1024.size a ≤ S79872x1024.size a)
theorem k0_off103_inb : ∀ (i : grid0.Coords) (v2985 : BitVec 32) (k0_hw103 : k0_chk103 i v2985), ∀ (k0_h1 : k0_cond1 i = 1#1), ∀ a, (k0_off103 v2985) a + S1x1024.size a ≤ S79872x1024.size a := fun i v2985 k0_hw103 k0_h1 => k0_hw103 k0_h1

def k0_off104 (v2991 : BitVec 32) : Fin 2 → Nat :=
  let c0_i32_1583 : BitVec 32 := 0#32
  ![v2991.toNat, 0]

def k0_chk104 (i : grid0.Coords) (v2991 : BitVec 32) : Prop :=
  (∀ (k0_h1 : k0_cond1 i = 1#1), ∀ a, (k0_off104 v2991) a + S1x1024.size a ≤ S79872x1024.size a)
theorem k0_off104_inb : ∀ (i : grid0.Coords) (v2991 : BitVec 32) (k0_hw104 : k0_chk104 i v2991), ∀ (k0_h1 : k0_cond1 i = 1#1), ∀ a, (k0_off104 v2991) a + S1x1024.size a ≤ S79872x1024.size a := fun i v2991 k0_hw104 k0_h1 => k0_hw104 k0_h1

def k0_off105 (v2997 : BitVec 32) : Fin 2 → Nat :=
  let c0_i32_1588 : BitVec 32 := 0#32
  ![v2997.toNat, 0]

def k0_chk105 (i : grid0.Coords) (v2997 : BitVec 32) : Prop :=
  (∀ (k0_h1 : k0_cond1 i = 1#1), ∀ a, (k0_off105 v2997) a + S1x1024.size a ≤ S79872x1024.size a)
theorem k0_off105_inb : ∀ (i : grid0.Coords) (v2997 : BitVec 32) (k0_hw105 : k0_chk105 i v2997), ∀ (k0_h1 : k0_cond1 i = 1#1), ∀ a, (k0_off105 v2997) a + S1x1024.size a ≤ S79872x1024.size a := fun i v2997 k0_hw105 k0_h1 => k0_hw105 k0_h1

def k0_off106 (v3003 : BitVec 32) : Fin 2 → Nat :=
  let c0_i32_1593 : BitVec 32 := 0#32
  ![v3003.toNat, 0]

def k0_chk106 (i : grid0.Coords) (v3003 : BitVec 32) : Prop :=
  (∀ (k0_h1 : k0_cond1 i = 1#1), ∀ a, (k0_off106 v3003) a + S1x1024.size a ≤ S79872x1024.size a)
theorem k0_off106_inb : ∀ (i : grid0.Coords) (v3003 : BitVec 32) (k0_hw106 : k0_chk106 i v3003), ∀ (k0_h1 : k0_cond1 i = 1#1), ∀ a, (k0_off106 v3003) a + S1x1024.size a ≤ S79872x1024.size a := fun i v3003 k0_hw106 k0_h1 => k0_hw106 k0_h1

def k0_off107 (v3009 : BitVec 32) : Fin 2 → Nat :=
  let c0_i32_1598 : BitVec 32 := 0#32
  ![v3009.toNat, 0]

def k0_chk107 (i : grid0.Coords) (v3009 : BitVec 32) : Prop :=
  (∀ (k0_h1 : k0_cond1 i = 1#1), ∀ a, (k0_off107 v3009) a + S1x1024.size a ≤ S79872x1024.size a)
theorem k0_off107_inb : ∀ (i : grid0.Coords) (v3009 : BitVec 32) (k0_hw107 : k0_chk107 i v3009), ∀ (k0_h1 : k0_cond1 i = 1#1), ∀ a, (k0_off107 v3009) a + S1x1024.size a ≤ S79872x1024.size a := fun i v3009 k0_hw107 k0_h1 => k0_hw107 k0_h1

def k0_off108 (v3015 : BitVec 32) : Fin 2 → Nat :=
  let c0_i32_1603 : BitVec 32 := 0#32
  ![v3015.toNat, 0]

def k0_chk108 (i : grid0.Coords) (v3015 : BitVec 32) : Prop :=
  (∀ (k0_h1 : k0_cond1 i = 1#1), ∀ a, (k0_off108 v3015) a + S1x1024.size a ≤ S79872x1024.size a)
theorem k0_off108_inb : ∀ (i : grid0.Coords) (v3015 : BitVec 32) (k0_hw108 : k0_chk108 i v3015), ∀ (k0_h1 : k0_cond1 i = 1#1), ∀ a, (k0_off108 v3015) a + S1x1024.size a ≤ S79872x1024.size a := fun i v3015 k0_hw108 k0_h1 => k0_hw108 k0_h1

def k0_off109 (v3021 : BitVec 32) : Fin 2 → Nat :=
  let c0_i32_1608 : BitVec 32 := 0#32
  ![v3021.toNat, 0]

def k0_chk109 (i : grid0.Coords) (v3021 : BitVec 32) : Prop :=
  (∀ (k0_h1 : k0_cond1 i = 1#1), ∀ a, (k0_off109 v3021) a + S1x1024.size a ≤ S79872x1024.size a)
theorem k0_off109_inb : ∀ (i : grid0.Coords) (v3021 : BitVec 32) (k0_hw109 : k0_chk109 i v3021), ∀ (k0_h1 : k0_cond1 i = 1#1), ∀ a, (k0_off109 v3021) a + S1x1024.size a ≤ S79872x1024.size a := fun i v3021 k0_hw109 k0_h1 => k0_hw109 k0_h1

def k0_off110 (v3027 : BitVec 32) : Fin 2 → Nat :=
  let c0_i32_1613 : BitVec 32 := 0#32
  ![v3027.toNat, 0]

def k0_chk110 (i : grid0.Coords) (v3027 : BitVec 32) : Prop :=
  (∀ (k0_h1 : k0_cond1 i = 1#1), ∀ a, (k0_off110 v3027) a + S1x1024.size a ≤ S79872x1024.size a)
theorem k0_off110_inb : ∀ (i : grid0.Coords) (v3027 : BitVec 32) (k0_hw110 : k0_chk110 i v3027), ∀ (k0_h1 : k0_cond1 i = 1#1), ∀ a, (k0_off110 v3027) a + S1x1024.size a ≤ S79872x1024.size a := fun i v3027 k0_hw110 k0_h1 => k0_hw110 k0_h1

def k0_off111 (v3033 : BitVec 32) : Fin 2 → Nat :=
  let c0_i32_1618 : BitVec 32 := 0#32
  ![v3033.toNat, 0]

def k0_chk111 (i : grid0.Coords) (v3033 : BitVec 32) : Prop :=
  (∀ (k0_h1 : k0_cond1 i = 1#1), ∀ a, (k0_off111 v3033) a + S1x1024.size a ≤ S79872x1024.size a)
theorem k0_off111_inb : ∀ (i : grid0.Coords) (v3033 : BitVec 32) (k0_hw111 : k0_chk111 i v3033), ∀ (k0_h1 : k0_cond1 i = 1#1), ∀ a, (k0_off111 v3033) a + S1x1024.size a ≤ S79872x1024.size a := fun i v3033 k0_hw111 k0_h1 => k0_hw111 k0_h1

def k0_off112 (v3039 : BitVec 32) : Fin 2 → Nat :=
  let c0_i32_1623 : BitVec 32 := 0#32
  ![v3039.toNat, 0]

def k0_chk112 (i : grid0.Coords) (v3039 : BitVec 32) : Prop :=
  (∀ (k0_h1 : k0_cond1 i = 1#1), ∀ a, (k0_off112 v3039) a + S1x1024.size a ≤ S79872x1024.size a)
theorem k0_off112_inb : ∀ (i : grid0.Coords) (v3039 : BitVec 32) (k0_hw112 : k0_chk112 i v3039), ∀ (k0_h1 : k0_cond1 i = 1#1), ∀ a, (k0_off112 v3039) a + S1x1024.size a ≤ S79872x1024.size a := fun i v3039 k0_hw112 k0_h1 => k0_hw112 k0_h1

def k0_off113 (v3045 : BitVec 32) : Fin 2 → Nat :=
  let c0_i32_1628 : BitVec 32 := 0#32
  ![v3045.toNat, 0]

def k0_chk113 (i : grid0.Coords) (v3045 : BitVec 32) : Prop :=
  (∀ (k0_h1 : k0_cond1 i = 1#1), ∀ a, (k0_off113 v3045) a + S1x1024.size a ≤ S79872x1024.size a)
theorem k0_off113_inb : ∀ (i : grid0.Coords) (v3045 : BitVec 32) (k0_hw113 : k0_chk113 i v3045), ∀ (k0_h1 : k0_cond1 i = 1#1), ∀ a, (k0_off113 v3045) a + S1x1024.size a ≤ S79872x1024.size a := fun i v3045 k0_hw113 k0_h1 => k0_hw113 k0_h1

def k0_off114 (v3051 : BitVec 32) : Fin 2 → Nat :=
  let c0_i32_1633 : BitVec 32 := 0#32
  ![v3051.toNat, 0]

def k0_chk114 (i : grid0.Coords) (v3051 : BitVec 32) : Prop :=
  (∀ (k0_h1 : k0_cond1 i = 1#1), ∀ a, (k0_off114 v3051) a + S1x1024.size a ≤ S79872x1024.size a)
theorem k0_off114_inb : ∀ (i : grid0.Coords) (v3051 : BitVec 32) (k0_hw114 : k0_chk114 i v3051), ∀ (k0_h1 : k0_cond1 i = 1#1), ∀ a, (k0_off114 v3051) a + S1x1024.size a ≤ S79872x1024.size a := fun i v3051 k0_hw114 k0_h1 => k0_hw114 k0_h1

def k0_off115 (v3057 : BitVec 32) : Fin 2 → Nat :=
  let c0_i32_1638 : BitVec 32 := 0#32
  ![v3057.toNat, 0]

def k0_chk115 (i : grid0.Coords) (v3057 : BitVec 32) : Prop :=
  (∀ (k0_h1 : k0_cond1 i = 1#1), ∀ a, (k0_off115 v3057) a + S1x1024.size a ≤ S79872x1024.size a)
theorem k0_off115_inb : ∀ (i : grid0.Coords) (v3057 : BitVec 32) (k0_hw115 : k0_chk115 i v3057), ∀ (k0_h1 : k0_cond1 i = 1#1), ∀ a, (k0_off115 v3057) a + S1x1024.size a ≤ S79872x1024.size a := fun i v3057 k0_hw115 k0_h1 => k0_hw115 k0_h1

def k0_off116 (v3063 : BitVec 32) : Fin 2 → Nat :=
  let c0_i32_1643 : BitVec 32 := 0#32
  ![v3063.toNat, 0]

def k0_chk116 (i : grid0.Coords) (v3063 : BitVec 32) : Prop :=
  (∀ (k0_h1 : k0_cond1 i = 1#1), ∀ a, (k0_off116 v3063) a + S1x1024.size a ≤ S79872x1024.size a)
theorem k0_off116_inb : ∀ (i : grid0.Coords) (v3063 : BitVec 32) (k0_hw116 : k0_chk116 i v3063), ∀ (k0_h1 : k0_cond1 i = 1#1), ∀ a, (k0_off116 v3063) a + S1x1024.size a ≤ S79872x1024.size a := fun i v3063 k0_hw116 k0_h1 => k0_hw116 k0_h1

def k0_off117 (v3069 : BitVec 32) : Fin 2 → Nat :=
  let c0_i32_1648 : BitVec 32 := 0#32
  ![v3069.toNat, 0]

def k0_chk117 (i : grid0.Coords) (v3069 : BitVec 32) : Prop :=
  (∀ (k0_h1 : k0_cond1 i = 1#1), ∀ a, (k0_off117 v3069) a + S1x1024.size a ≤ S79872x1024.size a)
theorem k0_off117_inb : ∀ (i : grid0.Coords) (v3069 : BitVec 32) (k0_hw117 : k0_chk117 i v3069), ∀ (k0_h1 : k0_cond1 i = 1#1), ∀ a, (k0_off117 v3069) a + S1x1024.size a ≤ S79872x1024.size a := fun i v3069 k0_hw117 k0_h1 => k0_hw117 k0_h1

def k0_off118 (v3075 : BitVec 32) : Fin 2 → Nat :=
  let c0_i32_1653 : BitVec 32 := 0#32
  ![v3075.toNat, 0]

def k0_chk118 (i : grid0.Coords) (v3075 : BitVec 32) : Prop :=
  (∀ (k0_h1 : k0_cond1 i = 1#1), ∀ a, (k0_off118 v3075) a + S1x1024.size a ≤ S79872x1024.size a)
theorem k0_off118_inb : ∀ (i : grid0.Coords) (v3075 : BitVec 32) (k0_hw118 : k0_chk118 i v3075), ∀ (k0_h1 : k0_cond1 i = 1#1), ∀ a, (k0_off118 v3075) a + S1x1024.size a ≤ S79872x1024.size a := fun i v3075 k0_hw118 k0_h1 => k0_hw118 k0_h1

def k0_off119 (v3081 : BitVec 32) : Fin 2 → Nat :=
  let c0_i32_1658 : BitVec 32 := 0#32
  ![v3081.toNat, 0]

def k0_chk119 (i : grid0.Coords) (v3081 : BitVec 32) : Prop :=
  (∀ (k0_h1 : k0_cond1 i = 1#1), ∀ a, (k0_off119 v3081) a + S1x1024.size a ≤ S79872x1024.size a)
theorem k0_off119_inb : ∀ (i : grid0.Coords) (v3081 : BitVec 32) (k0_hw119 : k0_chk119 i v3081), ∀ (k0_h1 : k0_cond1 i = 1#1), ∀ a, (k0_off119 v3081) a + S1x1024.size a ≤ S79872x1024.size a := fun i v3081 k0_hw119 k0_h1 => k0_hw119 k0_h1

def k0_off120 (v3087 : BitVec 32) : Fin 2 → Nat :=
  let c0_i32_1663 : BitVec 32 := 0#32
  ![v3087.toNat, 0]

def k0_chk120 (i : grid0.Coords) (v3087 : BitVec 32) : Prop :=
  (∀ (k0_h1 : k0_cond1 i = 1#1), ∀ a, (k0_off120 v3087) a + S1x1024.size a ≤ S79872x1024.size a)
theorem k0_off120_inb : ∀ (i : grid0.Coords) (v3087 : BitVec 32) (k0_hw120 : k0_chk120 i v3087), ∀ (k0_h1 : k0_cond1 i = 1#1), ∀ a, (k0_off120 v3087) a + S1x1024.size a ≤ S79872x1024.size a := fun i v3087 k0_hw120 k0_h1 => k0_hw120 k0_h1

def k0_off121 (v3093 : BitVec 32) : Fin 2 → Nat :=
  let c0_i32_1668 : BitVec 32 := 0#32
  ![v3093.toNat, 0]

def k0_chk121 (i : grid0.Coords) (v3093 : BitVec 32) : Prop :=
  (∀ (k0_h1 : k0_cond1 i = 1#1), ∀ a, (k0_off121 v3093) a + S1x1024.size a ≤ S79872x1024.size a)
theorem k0_off121_inb : ∀ (i : grid0.Coords) (v3093 : BitVec 32) (k0_hw121 : k0_chk121 i v3093), ∀ (k0_h1 : k0_cond1 i = 1#1), ∀ a, (k0_off121 v3093) a + S1x1024.size a ≤ S79872x1024.size a := fun i v3093 k0_hw121 k0_h1 => k0_hw121 k0_h1

def k0_off122 (v3099 : BitVec 32) : Fin 2 → Nat :=
  let c0_i32_1673 : BitVec 32 := 0#32
  ![v3099.toNat, 0]

def k0_chk122 (i : grid0.Coords) (v3099 : BitVec 32) : Prop :=
  (∀ (k0_h1 : k0_cond1 i = 1#1), ∀ a, (k0_off122 v3099) a + S1x1024.size a ≤ S79872x1024.size a)
theorem k0_off122_inb : ∀ (i : grid0.Coords) (v3099 : BitVec 32) (k0_hw122 : k0_chk122 i v3099), ∀ (k0_h1 : k0_cond1 i = 1#1), ∀ a, (k0_off122 v3099) a + S1x1024.size a ≤ S79872x1024.size a := fun i v3099 k0_hw122 k0_h1 => k0_hw122 k0_h1

def k0_off123 (v3105 : BitVec 32) : Fin 2 → Nat :=
  let c0_i32_1678 : BitVec 32 := 0#32
  ![v3105.toNat, 0]

def k0_chk123 (i : grid0.Coords) (v3105 : BitVec 32) : Prop :=
  (∀ (k0_h1 : k0_cond1 i = 1#1), ∀ a, (k0_off123 v3105) a + S1x1024.size a ≤ S79872x1024.size a)
theorem k0_off123_inb : ∀ (i : grid0.Coords) (v3105 : BitVec 32) (k0_hw123 : k0_chk123 i v3105), ∀ (k0_h1 : k0_cond1 i = 1#1), ∀ a, (k0_off123 v3105) a + S1x1024.size a ≤ S79872x1024.size a := fun i v3105 k0_hw123 k0_h1 => k0_hw123 k0_h1

def k0_off124 (v3111 : BitVec 32) : Fin 2 → Nat :=
  let c0_i32_1683 : BitVec 32 := 0#32
  ![v3111.toNat, 0]

def k0_chk124 (i : grid0.Coords) (v3111 : BitVec 32) : Prop :=
  (∀ (k0_h1 : k0_cond1 i = 1#1), ∀ a, (k0_off124 v3111) a + S1x1024.size a ≤ S79872x1024.size a)
theorem k0_off124_inb : ∀ (i : grid0.Coords) (v3111 : BitVec 32) (k0_hw124 : k0_chk124 i v3111), ∀ (k0_h1 : k0_cond1 i = 1#1), ∀ a, (k0_off124 v3111) a + S1x1024.size a ≤ S79872x1024.size a := fun i v3111 k0_hw124 k0_h1 => k0_hw124 k0_h1

def k0_off125 (v3117 : BitVec 32) : Fin 2 → Nat :=
  let c0_i32_1688 : BitVec 32 := 0#32
  ![v3117.toNat, 0]

def k0_chk125 (i : grid0.Coords) (v3117 : BitVec 32) : Prop :=
  (∀ (k0_h1 : k0_cond1 i = 1#1), ∀ a, (k0_off125 v3117) a + S1x1024.size a ≤ S79872x1024.size a)
theorem k0_off125_inb : ∀ (i : grid0.Coords) (v3117 : BitVec 32) (k0_hw125 : k0_chk125 i v3117), ∀ (k0_h1 : k0_cond1 i = 1#1), ∀ a, (k0_off125 v3117) a + S1x1024.size a ≤ S79872x1024.size a := fun i v3117 k0_hw125 k0_h1 => k0_hw125 k0_h1

def k0_off126 (v3123 : BitVec 32) : Fin 2 → Nat :=
  let c0_i32_1693 : BitVec 32 := 0#32
  ![v3123.toNat, 0]

def k0_chk126 (i : grid0.Coords) (v3123 : BitVec 32) : Prop :=
  (∀ (k0_h1 : k0_cond1 i = 1#1), ∀ a, (k0_off126 v3123) a + S1x1024.size a ≤ S79872x1024.size a)
theorem k0_off126_inb : ∀ (i : grid0.Coords) (v3123 : BitVec 32) (k0_hw126 : k0_chk126 i v3123), ∀ (k0_h1 : k0_cond1 i = 1#1), ∀ a, (k0_off126 v3123) a + S1x1024.size a ≤ S79872x1024.size a := fun i v3123 k0_hw126 k0_h1 => k0_hw126 k0_h1

def k0_off127 (v3129 : BitVec 32) : Fin 2 → Nat :=
  let c0_i32_1698 : BitVec 32 := 0#32
  ![v3129.toNat, 0]

def k0_chk127 (i : grid0.Coords) (v3129 : BitVec 32) : Prop :=
  (∀ (k0_h1 : k0_cond1 i = 1#1), ∀ a, (k0_off127 v3129) a + S1x1024.size a ≤ S79872x1024.size a)
theorem k0_off127_inb : ∀ (i : grid0.Coords) (v3129 : BitVec 32) (k0_hw127 : k0_chk127 i v3129), ∀ (k0_h1 : k0_cond1 i = 1#1), ∀ a, (k0_off127 v3129) a + S1x1024.size a ≤ S79872x1024.size a := fun i v3129 k0_hw127 k0_h1 => k0_hw127 k0_h1

def k0_off128 (v3135 : BitVec 32) : Fin 2 → Nat :=
  let c0_i32_1703 : BitVec 32 := 0#32
  ![v3135.toNat, 0]

def k0_chk128 (i : grid0.Coords) (v3135 : BitVec 32) : Prop :=
  (∀ (k0_h1 : k0_cond1 i = 1#1), ∀ a, (k0_off128 v3135) a + S1x1024.size a ≤ S79872x1024.size a)
theorem k0_off128_inb : ∀ (i : grid0.Coords) (v3135 : BitVec 32) (k0_hw128 : k0_chk128 i v3135), ∀ (k0_h1 : k0_cond1 i = 1#1), ∀ a, (k0_off128 v3135) a + S1x1024.size a ≤ S79872x1024.size a := fun i v3135 k0_hw128 k0_h1 => k0_hw128 k0_h1

def k0_off129 (v3141 : BitVec 32) : Fin 2 → Nat :=
  let c0_i32_1708 : BitVec 32 := 0#32
  ![v3141.toNat, 0]

def k0_chk129 (i : grid0.Coords) (v3141 : BitVec 32) : Prop :=
  (∀ (k0_h1 : k0_cond1 i = 1#1), ∀ a, (k0_off129 v3141) a + S1x1024.size a ≤ S79872x1024.size a)
theorem k0_off129_inb : ∀ (i : grid0.Coords) (v3141 : BitVec 32) (k0_hw129 : k0_chk129 i v3141), ∀ (k0_h1 : k0_cond1 i = 1#1), ∀ a, (k0_off129 v3141) a + S1x1024.size a ≤ S79872x1024.size a := fun i v3141 k0_hw129 k0_h1 => k0_hw129 k0_h1

def k0_off130 (v3147 : BitVec 32) : Fin 2 → Nat :=
  let c0_i32_1713 : BitVec 32 := 0#32
  ![v3147.toNat, 0]

def k0_chk130 (i : grid0.Coords) (v3147 : BitVec 32) : Prop :=
  (∀ (k0_h1 : k0_cond1 i = 1#1), ∀ a, (k0_off130 v3147) a + S1x1024.size a ≤ S79872x1024.size a)
theorem k0_off130_inb : ∀ (i : grid0.Coords) (v3147 : BitVec 32) (k0_hw130 : k0_chk130 i v3147), ∀ (k0_h1 : k0_cond1 i = 1#1), ∀ a, (k0_off130 v3147) a + S1x1024.size a ≤ S79872x1024.size a := fun i v3147 k0_hw130 k0_h1 => k0_hw130 k0_h1

def k0_off131 (v3153 : BitVec 32) : Fin 2 → Nat :=
  let c0_i32_1718 : BitVec 32 := 0#32
  ![v3153.toNat, 0]

def k0_chk131 (i : grid0.Coords) (v3153 : BitVec 32) : Prop :=
  (∀ (k0_h1 : k0_cond1 i = 1#1), ∀ a, (k0_off131 v3153) a + S1x1024.size a ≤ S79872x1024.size a)
theorem k0_off131_inb : ∀ (i : grid0.Coords) (v3153 : BitVec 32) (k0_hw131 : k0_chk131 i v3153), ∀ (k0_h1 : k0_cond1 i = 1#1), ∀ a, (k0_off131 v3153) a + S1x1024.size a ≤ S79872x1024.size a := fun i v3153 k0_hw131 k0_h1 => k0_hw131 k0_h1

def k0_off132 (v3159 : BitVec 32) : Fin 2 → Nat :=
  let c0_i32_1723 : BitVec 32 := 0#32
  ![v3159.toNat, 0]

def k0_chk132 (i : grid0.Coords) (v3159 : BitVec 32) : Prop :=
  (∀ (k0_h1 : k0_cond1 i = 1#1), ∀ a, (k0_off132 v3159) a + S1x1024.size a ≤ S79872x1024.size a)
theorem k0_off132_inb : ∀ (i : grid0.Coords) (v3159 : BitVec 32) (k0_hw132 : k0_chk132 i v3159), ∀ (k0_h1 : k0_cond1 i = 1#1), ∀ a, (k0_off132 v3159) a + S1x1024.size a ≤ S79872x1024.size a := fun i v3159 k0_hw132 k0_h1 => k0_hw132 k0_h1

def k0_off133 (v3165 : BitVec 32) : Fin 2 → Nat :=
  let c0_i32_1728 : BitVec 32 := 0#32
  ![v3165.toNat, 0]

def k0_chk133 (i : grid0.Coords) (v3165 : BitVec 32) : Prop :=
  (∀ (k0_h1 : k0_cond1 i = 1#1), ∀ a, (k0_off133 v3165) a + S1x1024.size a ≤ S79872x1024.size a)
theorem k0_off133_inb : ∀ (i : grid0.Coords) (v3165 : BitVec 32) (k0_hw133 : k0_chk133 i v3165), ∀ (k0_h1 : k0_cond1 i = 1#1), ∀ a, (k0_off133 v3165) a + S1x1024.size a ≤ S79872x1024.size a := fun i v3165 k0_hw133 k0_h1 => k0_hw133 k0_h1

def k0_off134 (v3171 : BitVec 32) : Fin 2 → Nat :=
  let c0_i32_1733 : BitVec 32 := 0#32
  ![v3171.toNat, 0]

def k0_chk134 (i : grid0.Coords) (v3171 : BitVec 32) : Prop :=
  (∀ (k0_h1 : k0_cond1 i = 1#1), ∀ a, (k0_off134 v3171) a + S1x1024.size a ≤ S79872x1024.size a)
theorem k0_off134_inb : ∀ (i : grid0.Coords) (v3171 : BitVec 32) (k0_hw134 : k0_chk134 i v3171), ∀ (k0_h1 : k0_cond1 i = 1#1), ∀ a, (k0_off134 v3171) a + S1x1024.size a ≤ S79872x1024.size a := fun i v3171 k0_hw134 k0_h1 => k0_hw134 k0_h1

def k0_off135 (v3177 : BitVec 32) : Fin 2 → Nat :=
  let c0_i32_1738 : BitVec 32 := 0#32
  ![v3177.toNat, 0]

def k0_chk135 (i : grid0.Coords) (v3177 : BitVec 32) : Prop :=
  (∀ (k0_h1 : k0_cond1 i = 1#1), ∀ a, (k0_off135 v3177) a + S1x1024.size a ≤ S79872x1024.size a)
theorem k0_off135_inb : ∀ (i : grid0.Coords) (v3177 : BitVec 32) (k0_hw135 : k0_chk135 i v3177), ∀ (k0_h1 : k0_cond1 i = 1#1), ∀ a, (k0_off135 v3177) a + S1x1024.size a ≤ S79872x1024.size a := fun i v3177 k0_hw135 k0_h1 => k0_hw135 k0_h1

def k0_off136 (v3183 : BitVec 32) : Fin 2 → Nat :=
  let c0_i32_1743 : BitVec 32 := 0#32
  ![v3183.toNat, 0]

def k0_chk136 (i : grid0.Coords) (v3183 : BitVec 32) : Prop :=
  (∀ (k0_h1 : k0_cond1 i = 1#1), ∀ a, (k0_off136 v3183) a + S1x1024.size a ≤ S79872x1024.size a)
theorem k0_off136_inb : ∀ (i : grid0.Coords) (v3183 : BitVec 32) (k0_hw136 : k0_chk136 i v3183), ∀ (k0_h1 : k0_cond1 i = 1#1), ∀ a, (k0_off136 v3183) a + S1x1024.size a ≤ S79872x1024.size a := fun i v3183 k0_hw136 k0_h1 => k0_hw136 k0_h1

def k0_off137 (v3189 : BitVec 32) : Fin 2 → Nat :=
  let c0_i32_1748 : BitVec 32 := 0#32
  ![v3189.toNat, 0]

def k0_chk137 (i : grid0.Coords) (v3189 : BitVec 32) : Prop :=
  (∀ (k0_h1 : k0_cond1 i = 1#1), ∀ a, (k0_off137 v3189) a + S1x1024.size a ≤ S79872x1024.size a)
theorem k0_off137_inb : ∀ (i : grid0.Coords) (v3189 : BitVec 32) (k0_hw137 : k0_chk137 i v3189), ∀ (k0_h1 : k0_cond1 i = 1#1), ∀ a, (k0_off137 v3189) a + S1x1024.size a ≤ S79872x1024.size a := fun i v3189 k0_hw137 k0_h1 => k0_hw137 k0_h1

def k0_off138 (v3195 : BitVec 32) : Fin 2 → Nat :=
  let c0_i32_1753 : BitVec 32 := 0#32
  ![v3195.toNat, 0]

def k0_chk138 (i : grid0.Coords) (v3195 : BitVec 32) : Prop :=
  (∀ (k0_h1 : k0_cond1 i = 1#1), ∀ a, (k0_off138 v3195) a + S1x1024.size a ≤ S79872x1024.size a)
theorem k0_off138_inb : ∀ (i : grid0.Coords) (v3195 : BitVec 32) (k0_hw138 : k0_chk138 i v3195), ∀ (k0_h1 : k0_cond1 i = 1#1), ∀ a, (k0_off138 v3195) a + S1x1024.size a ≤ S79872x1024.size a := fun i v3195 k0_hw138 k0_h1 => k0_hw138 k0_h1

def k0_off139 (v3201 : BitVec 32) : Fin 2 → Nat :=
  let c0_i32_1758 : BitVec 32 := 0#32
  ![v3201.toNat, 0]

def k0_chk139 (i : grid0.Coords) (v3201 : BitVec 32) : Prop :=
  (∀ (k0_h1 : k0_cond1 i = 1#1), ∀ a, (k0_off139 v3201) a + S1x1024.size a ≤ S79872x1024.size a)
theorem k0_off139_inb : ∀ (i : grid0.Coords) (v3201 : BitVec 32) (k0_hw139 : k0_chk139 i v3201), ∀ (k0_h1 : k0_cond1 i = 1#1), ∀ a, (k0_off139 v3201) a + S1x1024.size a ≤ S79872x1024.size a := fun i v3201 k0_hw139 k0_h1 => k0_hw139 k0_h1

def k0_off140 (v3207 : BitVec 32) : Fin 2 → Nat :=
  let c0_i32_1763 : BitVec 32 := 0#32
  ![v3207.toNat, 0]

def k0_chk140 (i : grid0.Coords) (v3207 : BitVec 32) : Prop :=
  (∀ (k0_h1 : k0_cond1 i = 1#1), ∀ a, (k0_off140 v3207) a + S1x1024.size a ≤ S79872x1024.size a)
theorem k0_off140_inb : ∀ (i : grid0.Coords) (v3207 : BitVec 32) (k0_hw140 : k0_chk140 i v3207), ∀ (k0_h1 : k0_cond1 i = 1#1), ∀ a, (k0_off140 v3207) a + S1x1024.size a ≤ S79872x1024.size a := fun i v3207 k0_hw140 k0_h1 => k0_hw140 k0_h1

def k0_off141 (v3213 : BitVec 32) : Fin 2 → Nat :=
  let c0_i32_1768 : BitVec 32 := 0#32
  ![v3213.toNat, 0]

def k0_chk141 (i : grid0.Coords) (v3213 : BitVec 32) : Prop :=
  (∀ (k0_h1 : k0_cond1 i = 1#1), ∀ a, (k0_off141 v3213) a + S1x1024.size a ≤ S79872x1024.size a)
theorem k0_off141_inb : ∀ (i : grid0.Coords) (v3213 : BitVec 32) (k0_hw141 : k0_chk141 i v3213), ∀ (k0_h1 : k0_cond1 i = 1#1), ∀ a, (k0_off141 v3213) a + S1x1024.size a ≤ S79872x1024.size a := fun i v3213 k0_hw141 k0_h1 => k0_hw141 k0_h1

def k0_off142 (v3219 : BitVec 32) : Fin 2 → Nat :=
  let c0_i32_1773 : BitVec 32 := 0#32
  ![v3219.toNat, 0]

def k0_chk142 (i : grid0.Coords) (v3219 : BitVec 32) : Prop :=
  (∀ (k0_h1 : k0_cond1 i = 1#1), ∀ a, (k0_off142 v3219) a + S1x1024.size a ≤ S79872x1024.size a)
theorem k0_off142_inb : ∀ (i : grid0.Coords) (v3219 : BitVec 32) (k0_hw142 : k0_chk142 i v3219), ∀ (k0_h1 : k0_cond1 i = 1#1), ∀ a, (k0_off142 v3219) a + S1x1024.size a ≤ S79872x1024.size a := fun i v3219 k0_hw142 k0_h1 => k0_hw142 k0_h1

def k0_off143 (v3225 : BitVec 32) : Fin 2 → Nat :=
  let c0_i32_1778 : BitVec 32 := 0#32
  ![v3225.toNat, 0]

def k0_chk143 (i : grid0.Coords) (v3225 : BitVec 32) : Prop :=
  (∀ (k0_h1 : k0_cond1 i = 1#1), ∀ a, (k0_off143 v3225) a + S1x1024.size a ≤ S79872x1024.size a)
theorem k0_off143_inb : ∀ (i : grid0.Coords) (v3225 : BitVec 32) (k0_hw143 : k0_chk143 i v3225), ∀ (k0_h1 : k0_cond1 i = 1#1), ∀ a, (k0_off143 v3225) a + S1x1024.size a ≤ S79872x1024.size a := fun i v3225 k0_hw143 k0_h1 => k0_hw143 k0_h1

def k0_off144 (v3231 : BitVec 32) : Fin 2 → Nat :=
  let c0_i32_1783 : BitVec 32 := 0#32
  ![v3231.toNat, 0]

def k0_chk144 (i : grid0.Coords) (v3231 : BitVec 32) : Prop :=
  (∀ (k0_h1 : k0_cond1 i = 1#1), ∀ a, (k0_off144 v3231) a + S1x1024.size a ≤ S79872x1024.size a)
theorem k0_off144_inb : ∀ (i : grid0.Coords) (v3231 : BitVec 32) (k0_hw144 : k0_chk144 i v3231), ∀ (k0_h1 : k0_cond1 i = 1#1), ∀ a, (k0_off144 v3231) a + S1x1024.size a ≤ S79872x1024.size a := fun i v3231 k0_hw144 k0_h1 => k0_hw144 k0_h1

def k0_off145 (v3237 : BitVec 32) : Fin 2 → Nat :=
  let c0_i32_1788 : BitVec 32 := 0#32
  ![v3237.toNat, 0]

def k0_chk145 (i : grid0.Coords) (v3237 : BitVec 32) : Prop :=
  (∀ (k0_h1 : k0_cond1 i = 1#1), ∀ a, (k0_off145 v3237) a + S1x1024.size a ≤ S79872x1024.size a)
theorem k0_off145_inb : ∀ (i : grid0.Coords) (v3237 : BitVec 32) (k0_hw145 : k0_chk145 i v3237), ∀ (k0_h1 : k0_cond1 i = 1#1), ∀ a, (k0_off145 v3237) a + S1x1024.size a ≤ S79872x1024.size a := fun i v3237 k0_hw145 k0_h1 => k0_hw145 k0_h1

def k0_off146 (v3243 : BitVec 32) : Fin 2 → Nat :=
  let c0_i32_1793 : BitVec 32 := 0#32
  ![v3243.toNat, 0]

def k0_chk146 (i : grid0.Coords) (v3243 : BitVec 32) : Prop :=
  (∀ (k0_h1 : k0_cond1 i = 1#1), ∀ a, (k0_off146 v3243) a + S1x1024.size a ≤ S79872x1024.size a)
theorem k0_off146_inb : ∀ (i : grid0.Coords) (v3243 : BitVec 32) (k0_hw146 : k0_chk146 i v3243), ∀ (k0_h1 : k0_cond1 i = 1#1), ∀ a, (k0_off146 v3243) a + S1x1024.size a ≤ S79872x1024.size a := fun i v3243 k0_hw146 k0_h1 => k0_hw146 k0_h1

def k0_off147 (v3249 : BitVec 32) : Fin 2 → Nat :=
  let c0_i32_1798 : BitVec 32 := 0#32
  ![v3249.toNat, 0]

def k0_chk147 (i : grid0.Coords) (v3249 : BitVec 32) : Prop :=
  (∀ (k0_h1 : k0_cond1 i = 1#1), ∀ a, (k0_off147 v3249) a + S1x1024.size a ≤ S79872x1024.size a)
theorem k0_off147_inb : ∀ (i : grid0.Coords) (v3249 : BitVec 32) (k0_hw147 : k0_chk147 i v3249), ∀ (k0_h1 : k0_cond1 i = 1#1), ∀ a, (k0_off147 v3249) a + S1x1024.size a ≤ S79872x1024.size a := fun i v3249 k0_hw147 k0_h1 => k0_hw147 k0_h1

def k0_off148 (v3255 : BitVec 32) : Fin 2 → Nat :=
  let c0_i32_1803 : BitVec 32 := 0#32
  ![v3255.toNat, 0]

def k0_chk148 (i : grid0.Coords) (v3255 : BitVec 32) : Prop :=
  (∀ (k0_h1 : k0_cond1 i = 1#1), ∀ a, (k0_off148 v3255) a + S1x1024.size a ≤ S79872x1024.size a)
theorem k0_off148_inb : ∀ (i : grid0.Coords) (v3255 : BitVec 32) (k0_hw148 : k0_chk148 i v3255), ∀ (k0_h1 : k0_cond1 i = 1#1), ∀ a, (k0_off148 v3255) a + S1x1024.size a ≤ S79872x1024.size a := fun i v3255 k0_hw148 k0_h1 => k0_hw148 k0_h1

def k0_off149 (v3261 : BitVec 32) : Fin 2 → Nat :=
  let c0_i32_1808 : BitVec 32 := 0#32
  ![v3261.toNat, 0]

def k0_chk149 (i : grid0.Coords) (v3261 : BitVec 32) : Prop :=
  (∀ (k0_h1 : k0_cond1 i = 1#1), ∀ a, (k0_off149 v3261) a + S1x1024.size a ≤ S79872x1024.size a)
theorem k0_off149_inb : ∀ (i : grid0.Coords) (v3261 : BitVec 32) (k0_hw149 : k0_chk149 i v3261), ∀ (k0_h1 : k0_cond1 i = 1#1), ∀ a, (k0_off149 v3261) a + S1x1024.size a ≤ S79872x1024.size a := fun i v3261 k0_hw149 k0_h1 => k0_hw149 k0_h1

def k0_off150 (v3267 : BitVec 32) : Fin 2 → Nat :=
  let c0_i32_1813 : BitVec 32 := 0#32
  ![v3267.toNat, 0]

def k0_chk150 (i : grid0.Coords) (v3267 : BitVec 32) : Prop :=
  (∀ (k0_h1 : k0_cond1 i = 1#1), ∀ a, (k0_off150 v3267) a + S1x1024.size a ≤ S79872x1024.size a)
theorem k0_off150_inb : ∀ (i : grid0.Coords) (v3267 : BitVec 32) (k0_hw150 : k0_chk150 i v3267), ∀ (k0_h1 : k0_cond1 i = 1#1), ∀ a, (k0_off150 v3267) a + S1x1024.size a ≤ S79872x1024.size a := fun i v3267 k0_hw150 k0_h1 => k0_hw150 k0_h1

def k0_off151 (v3273 : BitVec 32) : Fin 2 → Nat :=
  let c0_i32_1818 : BitVec 32 := 0#32
  ![v3273.toNat, 0]

def k0_chk151 (i : grid0.Coords) (v3273 : BitVec 32) : Prop :=
  (∀ (k0_h1 : k0_cond1 i = 1#1), ∀ a, (k0_off151 v3273) a + S1x1024.size a ≤ S79872x1024.size a)
theorem k0_off151_inb : ∀ (i : grid0.Coords) (v3273 : BitVec 32) (k0_hw151 : k0_chk151 i v3273), ∀ (k0_h1 : k0_cond1 i = 1#1), ∀ a, (k0_off151 v3273) a + S1x1024.size a ≤ S79872x1024.size a := fun i v3273 k0_hw151 k0_h1 => k0_hw151 k0_h1

def k0_off152 (v3279 : BitVec 32) : Fin 2 → Nat :=
  let c0_i32_1823 : BitVec 32 := 0#32
  ![v3279.toNat, 0]

def k0_chk152 (i : grid0.Coords) (v3279 : BitVec 32) : Prop :=
  (∀ (k0_h1 : k0_cond1 i = 1#1), ∀ a, (k0_off152 v3279) a + S1x1024.size a ≤ S79872x1024.size a)
theorem k0_off152_inb : ∀ (i : grid0.Coords) (v3279 : BitVec 32) (k0_hw152 : k0_chk152 i v3279), ∀ (k0_h1 : k0_cond1 i = 1#1), ∀ a, (k0_off152 v3279) a + S1x1024.size a ≤ S79872x1024.size a := fun i v3279 k0_hw152 k0_h1 => k0_hw152 k0_h1

def k0_off153 (v3285 : BitVec 32) : Fin 2 → Nat :=
  let c0_i32_1828 : BitVec 32 := 0#32
  ![v3285.toNat, 0]

def k0_chk153 (i : grid0.Coords) (v3285 : BitVec 32) : Prop :=
  (∀ (k0_h1 : k0_cond1 i = 1#1), ∀ a, (k0_off153 v3285) a + S1x1024.size a ≤ S79872x1024.size a)
theorem k0_off153_inb : ∀ (i : grid0.Coords) (v3285 : BitVec 32) (k0_hw153 : k0_chk153 i v3285), ∀ (k0_h1 : k0_cond1 i = 1#1), ∀ a, (k0_off153 v3285) a + S1x1024.size a ≤ S79872x1024.size a := fun i v3285 k0_hw153 k0_h1 => k0_hw153 k0_h1

def k0_off154 (v3291 : BitVec 32) : Fin 2 → Nat :=
  let c0_i32_1833 : BitVec 32 := 0#32
  ![v3291.toNat, 0]

def k0_chk154 (i : grid0.Coords) (v3291 : BitVec 32) : Prop :=
  (∀ (k0_h1 : k0_cond1 i = 1#1), ∀ a, (k0_off154 v3291) a + S1x1024.size a ≤ S79872x1024.size a)
theorem k0_off154_inb : ∀ (i : grid0.Coords) (v3291 : BitVec 32) (k0_hw154 : k0_chk154 i v3291), ∀ (k0_h1 : k0_cond1 i = 1#1), ∀ a, (k0_off154 v3291) a + S1x1024.size a ≤ S79872x1024.size a := fun i v3291 k0_hw154 k0_h1 => k0_hw154 k0_h1

def k0_off155 (v3297 : BitVec 32) : Fin 2 → Nat :=
  let c0_i32_1838 : BitVec 32 := 0#32
  ![v3297.toNat, 0]

def k0_chk155 (i : grid0.Coords) (v3297 : BitVec 32) : Prop :=
  (∀ (k0_h1 : k0_cond1 i = 1#1), ∀ a, (k0_off155 v3297) a + S1x1024.size a ≤ S79872x1024.size a)
theorem k0_off155_inb : ∀ (i : grid0.Coords) (v3297 : BitVec 32) (k0_hw155 : k0_chk155 i v3297), ∀ (k0_h1 : k0_cond1 i = 1#1), ∀ a, (k0_off155 v3297) a + S1x1024.size a ≤ S79872x1024.size a := fun i v3297 k0_hw155 k0_h1 => k0_hw155 k0_h1

def k0_off156 (v3303 : BitVec 32) : Fin 2 → Nat :=
  let c0_i32_1843 : BitVec 32 := 0#32
  ![v3303.toNat, 0]

def k0_chk156 (i : grid0.Coords) (v3303 : BitVec 32) : Prop :=
  (∀ (k0_h1 : k0_cond1 i = 1#1), ∀ a, (k0_off156 v3303) a + S1x1024.size a ≤ S79872x1024.size a)
theorem k0_off156_inb : ∀ (i : grid0.Coords) (v3303 : BitVec 32) (k0_hw156 : k0_chk156 i v3303), ∀ (k0_h1 : k0_cond1 i = 1#1), ∀ a, (k0_off156 v3303) a + S1x1024.size a ≤ S79872x1024.size a := fun i v3303 k0_hw156 k0_h1 => k0_hw156 k0_h1

def k0_off157 (v3309 : BitVec 32) : Fin 2 → Nat :=
  let c0_i32_1848 : BitVec 32 := 0#32
  ![v3309.toNat, 0]

def k0_chk157 (i : grid0.Coords) (v3309 : BitVec 32) : Prop :=
  (∀ (k0_h1 : k0_cond1 i = 1#1), ∀ a, (k0_off157 v3309) a + S1x1024.size a ≤ S79872x1024.size a)
theorem k0_off157_inb : ∀ (i : grid0.Coords) (v3309 : BitVec 32) (k0_hw157 : k0_chk157 i v3309), ∀ (k0_h1 : k0_cond1 i = 1#1), ∀ a, (k0_off157 v3309) a + S1x1024.size a ≤ S79872x1024.size a := fun i v3309 k0_hw157 k0_h1 => k0_hw157 k0_h1

def k0_off158 (v3315 : BitVec 32) : Fin 2 → Nat :=
  let c0_i32_1853 : BitVec 32 := 0#32
  ![v3315.toNat, 0]

def k0_chk158 (i : grid0.Coords) (v3315 : BitVec 32) : Prop :=
  (∀ (k0_h1 : k0_cond1 i = 1#1), ∀ a, (k0_off158 v3315) a + S1x1024.size a ≤ S79872x1024.size a)
theorem k0_off158_inb : ∀ (i : grid0.Coords) (v3315 : BitVec 32) (k0_hw158 : k0_chk158 i v3315), ∀ (k0_h1 : k0_cond1 i = 1#1), ∀ a, (k0_off158 v3315) a + S1x1024.size a ≤ S79872x1024.size a := fun i v3315 k0_hw158 k0_h1 => k0_hw158 k0_h1

def k0_off159 (v3321 : BitVec 32) : Fin 2 → Nat :=
  let c0_i32_1858 : BitVec 32 := 0#32
  ![v3321.toNat, 0]

def k0_chk159 (i : grid0.Coords) (v3321 : BitVec 32) : Prop :=
  (∀ (k0_h1 : k0_cond1 i = 1#1), ∀ a, (k0_off159 v3321) a + S1x1024.size a ≤ S79872x1024.size a)
theorem k0_off159_inb : ∀ (i : grid0.Coords) (v3321 : BitVec 32) (k0_hw159 : k0_chk159 i v3321), ∀ (k0_h1 : k0_cond1 i = 1#1), ∀ a, (k0_off159 v3321) a + S1x1024.size a ≤ S79872x1024.size a := fun i v3321 k0_hw159 k0_h1 => k0_hw159 k0_h1

def k0_off160 (v3327 : BitVec 32) : Fin 2 → Nat :=
  let c0_i32_1863 : BitVec 32 := 0#32
  ![v3327.toNat, 0]

def k0_chk160 (i : grid0.Coords) (v3327 : BitVec 32) : Prop :=
  (∀ (k0_h1 : k0_cond1 i = 1#1), ∀ a, (k0_off160 v3327) a + S1x1024.size a ≤ S79872x1024.size a)
theorem k0_off160_inb : ∀ (i : grid0.Coords) (v3327 : BitVec 32) (k0_hw160 : k0_chk160 i v3327), ∀ (k0_h1 : k0_cond1 i = 1#1), ∀ a, (k0_off160 v3327) a + S1x1024.size a ≤ S79872x1024.size a := fun i v3327 k0_hw160 k0_h1 => k0_hw160 k0_h1

def k0_off161 (v3333 : BitVec 32) : Fin 2 → Nat :=
  let c0_i32_1868 : BitVec 32 := 0#32
  ![v3333.toNat, 0]

def k0_chk161 (i : grid0.Coords) (v3333 : BitVec 32) : Prop :=
  (∀ (k0_h1 : k0_cond1 i = 1#1), ∀ a, (k0_off161 v3333) a + S1x1024.size a ≤ S79872x1024.size a)
theorem k0_off161_inb : ∀ (i : grid0.Coords) (v3333 : BitVec 32) (k0_hw161 : k0_chk161 i v3333), ∀ (k0_h1 : k0_cond1 i = 1#1), ∀ a, (k0_off161 v3333) a + S1x1024.size a ≤ S79872x1024.size a := fun i v3333 k0_hw161 k0_h1 => k0_hw161 k0_h1

def k0_off162 (v3339 : BitVec 32) : Fin 2 → Nat :=
  let c0_i32_1873 : BitVec 32 := 0#32
  ![v3339.toNat, 0]

def k0_chk162 (i : grid0.Coords) (v3339 : BitVec 32) : Prop :=
  (∀ (k0_h1 : k0_cond1 i = 1#1), ∀ a, (k0_off162 v3339) a + S1x1024.size a ≤ S79872x1024.size a)
theorem k0_off162_inb : ∀ (i : grid0.Coords) (v3339 : BitVec 32) (k0_hw162 : k0_chk162 i v3339), ∀ (k0_h1 : k0_cond1 i = 1#1), ∀ a, (k0_off162 v3339) a + S1x1024.size a ≤ S79872x1024.size a := fun i v3339 k0_hw162 k0_h1 => k0_hw162 k0_h1

def k0_off163 (v3345 : BitVec 32) : Fin 2 → Nat :=
  let c0_i32_1878 : BitVec 32 := 0#32
  ![v3345.toNat, 0]

def k0_chk163 (i : grid0.Coords) (v3345 : BitVec 32) : Prop :=
  (∀ (k0_h1 : k0_cond1 i = 1#1), ∀ a, (k0_off163 v3345) a + S1x1024.size a ≤ S79872x1024.size a)
theorem k0_off163_inb : ∀ (i : grid0.Coords) (v3345 : BitVec 32) (k0_hw163 : k0_chk163 i v3345), ∀ (k0_h1 : k0_cond1 i = 1#1), ∀ a, (k0_off163 v3345) a + S1x1024.size a ≤ S79872x1024.size a := fun i v3345 k0_hw163 k0_h1 => k0_hw163 k0_h1

def k0_off164 (v3351 : BitVec 32) : Fin 2 → Nat :=
  let c0_i32_1883 : BitVec 32 := 0#32
  ![v3351.toNat, 0]

def k0_chk164 (i : grid0.Coords) (v3351 : BitVec 32) : Prop :=
  (∀ (k0_h1 : k0_cond1 i = 1#1), ∀ a, (k0_off164 v3351) a + S1x1024.size a ≤ S79872x1024.size a)
theorem k0_off164_inb : ∀ (i : grid0.Coords) (v3351 : BitVec 32) (k0_hw164 : k0_chk164 i v3351), ∀ (k0_h1 : k0_cond1 i = 1#1), ∀ a, (k0_off164 v3351) a + S1x1024.size a ≤ S79872x1024.size a := fun i v3351 k0_hw164 k0_h1 => k0_hw164 k0_h1

def k0_off165 (v3357 : BitVec 32) : Fin 2 → Nat :=
  let c0_i32_1888 : BitVec 32 := 0#32
  ![v3357.toNat, 0]

def k0_chk165 (i : grid0.Coords) (v3357 : BitVec 32) : Prop :=
  (∀ (k0_h1 : k0_cond1 i = 1#1), ∀ a, (k0_off165 v3357) a + S1x1024.size a ≤ S79872x1024.size a)
theorem k0_off165_inb : ∀ (i : grid0.Coords) (v3357 : BitVec 32) (k0_hw165 : k0_chk165 i v3357), ∀ (k0_h1 : k0_cond1 i = 1#1), ∀ a, (k0_off165 v3357) a + S1x1024.size a ≤ S79872x1024.size a := fun i v3357 k0_hw165 k0_h1 => k0_hw165 k0_h1

def k0_off166 (v3363 : BitVec 32) : Fin 2 → Nat :=
  let c0_i32_1893 : BitVec 32 := 0#32
  ![v3363.toNat, 0]

def k0_chk166 (i : grid0.Coords) (v3363 : BitVec 32) : Prop :=
  (∀ (k0_h1 : k0_cond1 i = 1#1), ∀ a, (k0_off166 v3363) a + S1x1024.size a ≤ S79872x1024.size a)
theorem k0_off166_inb : ∀ (i : grid0.Coords) (v3363 : BitVec 32) (k0_hw166 : k0_chk166 i v3363), ∀ (k0_h1 : k0_cond1 i = 1#1), ∀ a, (k0_off166 v3363) a + S1x1024.size a ≤ S79872x1024.size a := fun i v3363 k0_hw166 k0_h1 => k0_hw166 k0_h1

def k0_off167 (v3369 : BitVec 32) : Fin 2 → Nat :=
  let c0_i32_1898 : BitVec 32 := 0#32
  ![v3369.toNat, 0]

def k0_chk167 (i : grid0.Coords) (v3369 : BitVec 32) : Prop :=
  (∀ (k0_h1 : k0_cond1 i = 1#1), ∀ a, (k0_off167 v3369) a + S1x1024.size a ≤ S79872x1024.size a)
theorem k0_off167_inb : ∀ (i : grid0.Coords) (v3369 : BitVec 32) (k0_hw167 : k0_chk167 i v3369), ∀ (k0_h1 : k0_cond1 i = 1#1), ∀ a, (k0_off167 v3369) a + S1x1024.size a ≤ S79872x1024.size a := fun i v3369 k0_hw167 k0_h1 => k0_hw167 k0_h1

def k0_off168 (v3375 : BitVec 32) : Fin 2 → Nat :=
  let c0_i32_1903 : BitVec 32 := 0#32
  ![v3375.toNat, 0]

def k0_chk168 (i : grid0.Coords) (v3375 : BitVec 32) : Prop :=
  (∀ (k0_h1 : k0_cond1 i = 1#1), ∀ a, (k0_off168 v3375) a + S1x1024.size a ≤ S79872x1024.size a)
theorem k0_off168_inb : ∀ (i : grid0.Coords) (v3375 : BitVec 32) (k0_hw168 : k0_chk168 i v3375), ∀ (k0_h1 : k0_cond1 i = 1#1), ∀ a, (k0_off168 v3375) a + S1x1024.size a ≤ S79872x1024.size a := fun i v3375 k0_hw168 k0_h1 => k0_hw168 k0_h1

def k0_off169 (v3381 : BitVec 32) : Fin 2 → Nat :=
  let c0_i32_1908 : BitVec 32 := 0#32
  ![v3381.toNat, 0]

def k0_chk169 (i : grid0.Coords) (v3381 : BitVec 32) : Prop :=
  (∀ (k0_h1 : k0_cond1 i = 1#1), ∀ a, (k0_off169 v3381) a + S1x1024.size a ≤ S79872x1024.size a)
theorem k0_off169_inb : ∀ (i : grid0.Coords) (v3381 : BitVec 32) (k0_hw169 : k0_chk169 i v3381), ∀ (k0_h1 : k0_cond1 i = 1#1), ∀ a, (k0_off169 v3381) a + S1x1024.size a ≤ S79872x1024.size a := fun i v3381 k0_hw169 k0_h1 => k0_hw169 k0_h1

def k0_off170 (v3387 : BitVec 32) : Fin 2 → Nat :=
  let c0_i32_1913 : BitVec 32 := 0#32
  ![v3387.toNat, 0]

def k0_chk170 (i : grid0.Coords) (v3387 : BitVec 32) : Prop :=
  (∀ (k0_h1 : k0_cond1 i = 1#1), ∀ a, (k0_off170 v3387) a + S1x1024.size a ≤ S79872x1024.size a)
theorem k0_off170_inb : ∀ (i : grid0.Coords) (v3387 : BitVec 32) (k0_hw170 : k0_chk170 i v3387), ∀ (k0_h1 : k0_cond1 i = 1#1), ∀ a, (k0_off170 v3387) a + S1x1024.size a ≤ S79872x1024.size a := fun i v3387 k0_hw170 k0_h1 => k0_hw170 k0_h1

def k0_off171 (v3393 : BitVec 32) : Fin 2 → Nat :=
  let c0_i32_1918 : BitVec 32 := 0#32
  ![v3393.toNat, 0]

def k0_chk171 (i : grid0.Coords) (v3393 : BitVec 32) : Prop :=
  (∀ (k0_h1 : k0_cond1 i = 1#1), ∀ a, (k0_off171 v3393) a + S1x1024.size a ≤ S79872x1024.size a)
theorem k0_off171_inb : ∀ (i : grid0.Coords) (v3393 : BitVec 32) (k0_hw171 : k0_chk171 i v3393), ∀ (k0_h1 : k0_cond1 i = 1#1), ∀ a, (k0_off171 v3393) a + S1x1024.size a ≤ S79872x1024.size a := fun i v3393 k0_hw171 k0_h1 => k0_hw171 k0_h1

def k0_off172 (v3399 : BitVec 32) : Fin 2 → Nat :=
  let c0_i32_1923 : BitVec 32 := 0#32
  ![v3399.toNat, 0]

def k0_chk172 (i : grid0.Coords) (v3399 : BitVec 32) : Prop :=
  (∀ (k0_h1 : k0_cond1 i = 1#1), ∀ a, (k0_off172 v3399) a + S1x1024.size a ≤ S79872x1024.size a)
theorem k0_off172_inb : ∀ (i : grid0.Coords) (v3399 : BitVec 32) (k0_hw172 : k0_chk172 i v3399), ∀ (k0_h1 : k0_cond1 i = 1#1), ∀ a, (k0_off172 v3399) a + S1x1024.size a ≤ S79872x1024.size a := fun i v3399 k0_hw172 k0_h1 => k0_hw172 k0_h1

def k0_off173 (v3405 : BitVec 32) : Fin 2 → Nat :=
  let c0_i32_1928 : BitVec 32 := 0#32
  ![v3405.toNat, 0]

def k0_chk173 (i : grid0.Coords) (v3405 : BitVec 32) : Prop :=
  (∀ (k0_h1 : k0_cond1 i = 1#1), ∀ a, (k0_off173 v3405) a + S1x1024.size a ≤ S79872x1024.size a)
theorem k0_off173_inb : ∀ (i : grid0.Coords) (v3405 : BitVec 32) (k0_hw173 : k0_chk173 i v3405), ∀ (k0_h1 : k0_cond1 i = 1#1), ∀ a, (k0_off173 v3405) a + S1x1024.size a ≤ S79872x1024.size a := fun i v3405 k0_hw173 k0_h1 => k0_hw173 k0_h1

def k0_off174 (v3411 : BitVec 32) : Fin 2 → Nat :=
  let c0_i32_1933 : BitVec 32 := 0#32
  ![v3411.toNat, 0]

def k0_chk174 (i : grid0.Coords) (v3411 : BitVec 32) : Prop :=
  (∀ (k0_h1 : k0_cond1 i = 1#1), ∀ a, (k0_off174 v3411) a + S1x1024.size a ≤ S79872x1024.size a)
theorem k0_off174_inb : ∀ (i : grid0.Coords) (v3411 : BitVec 32) (k0_hw174 : k0_chk174 i v3411), ∀ (k0_h1 : k0_cond1 i = 1#1), ∀ a, (k0_off174 v3411) a + S1x1024.size a ≤ S79872x1024.size a := fun i v3411 k0_hw174 k0_h1 => k0_hw174 k0_h1

def k0_off175 (v3417 : BitVec 32) : Fin 2 → Nat :=
  let c0_i32_1938 : BitVec 32 := 0#32
  ![v3417.toNat, 0]

def k0_chk175 (i : grid0.Coords) (v3417 : BitVec 32) : Prop :=
  (∀ (k0_h1 : k0_cond1 i = 1#1), ∀ a, (k0_off175 v3417) a + S1x1024.size a ≤ S79872x1024.size a)
theorem k0_off175_inb : ∀ (i : grid0.Coords) (v3417 : BitVec 32) (k0_hw175 : k0_chk175 i v3417), ∀ (k0_h1 : k0_cond1 i = 1#1), ∀ a, (k0_off175 v3417) a + S1x1024.size a ≤ S79872x1024.size a := fun i v3417 k0_hw175 k0_h1 => k0_hw175 k0_h1

def k0_off176 (v3423 : BitVec 32) : Fin 2 → Nat :=
  let c0_i32_1943 : BitVec 32 := 0#32
  ![v3423.toNat, 0]

def k0_chk176 (i : grid0.Coords) (v3423 : BitVec 32) : Prop :=
  (∀ (k0_h1 : k0_cond1 i = 1#1), ∀ a, (k0_off176 v3423) a + S1x1024.size a ≤ S79872x1024.size a)
theorem k0_off176_inb : ∀ (i : grid0.Coords) (v3423 : BitVec 32) (k0_hw176 : k0_chk176 i v3423), ∀ (k0_h1 : k0_cond1 i = 1#1), ∀ a, (k0_off176 v3423) a + S1x1024.size a ≤ S79872x1024.size a := fun i v3423 k0_hw176 k0_h1 => k0_hw176 k0_h1

def k0_off177 (v3429 : BitVec 32) : Fin 2 → Nat :=
  let c0_i32_1948 : BitVec 32 := 0#32
  ![v3429.toNat, 0]

def k0_chk177 (i : grid0.Coords) (v3429 : BitVec 32) : Prop :=
  (∀ (k0_h1 : k0_cond1 i = 1#1), ∀ a, (k0_off177 v3429) a + S1x1024.size a ≤ S79872x1024.size a)
theorem k0_off177_inb : ∀ (i : grid0.Coords) (v3429 : BitVec 32) (k0_hw177 : k0_chk177 i v3429), ∀ (k0_h1 : k0_cond1 i = 1#1), ∀ a, (k0_off177 v3429) a + S1x1024.size a ≤ S79872x1024.size a := fun i v3429 k0_hw177 k0_h1 => k0_hw177 k0_h1

def k0_off178 (v3435 : BitVec 32) : Fin 2 → Nat :=
  let c0_i32_1953 : BitVec 32 := 0#32
  ![v3435.toNat, 0]

def k0_chk178 (i : grid0.Coords) (v3435 : BitVec 32) : Prop :=
  (∀ (k0_h1 : k0_cond1 i = 1#1), ∀ a, (k0_off178 v3435) a + S1x1024.size a ≤ S79872x1024.size a)
theorem k0_off178_inb : ∀ (i : grid0.Coords) (v3435 : BitVec 32) (k0_hw178 : k0_chk178 i v3435), ∀ (k0_h1 : k0_cond1 i = 1#1), ∀ a, (k0_off178 v3435) a + S1x1024.size a ≤ S79872x1024.size a := fun i v3435 k0_hw178 k0_h1 => k0_hw178 k0_h1

def k0_off179 (v3441 : BitVec 32) : Fin 2 → Nat :=
  let c0_i32_1958 : BitVec 32 := 0#32
  ![v3441.toNat, 0]

def k0_chk179 (i : grid0.Coords) (v3441 : BitVec 32) : Prop :=
  (∀ (k0_h1 : k0_cond1 i = 1#1), ∀ a, (k0_off179 v3441) a + S1x1024.size a ≤ S79872x1024.size a)
theorem k0_off179_inb : ∀ (i : grid0.Coords) (v3441 : BitVec 32) (k0_hw179 : k0_chk179 i v3441), ∀ (k0_h1 : k0_cond1 i = 1#1), ∀ a, (k0_off179 v3441) a + S1x1024.size a ≤ S79872x1024.size a := fun i v3441 k0_hw179 k0_h1 => k0_hw179 k0_h1

def k0_off180 (v3447 : BitVec 32) : Fin 2 → Nat :=
  let c0_i32_1963 : BitVec 32 := 0#32
  ![v3447.toNat, 0]

def k0_chk180 (i : grid0.Coords) (v3447 : BitVec 32) : Prop :=
  (∀ (k0_h1 : k0_cond1 i = 1#1), ∀ a, (k0_off180 v3447) a + S1x1024.size a ≤ S79872x1024.size a)
theorem k0_off180_inb : ∀ (i : grid0.Coords) (v3447 : BitVec 32) (k0_hw180 : k0_chk180 i v3447), ∀ (k0_h1 : k0_cond1 i = 1#1), ∀ a, (k0_off180 v3447) a + S1x1024.size a ≤ S79872x1024.size a := fun i v3447 k0_hw180 k0_h1 => k0_hw180 k0_h1

def k0_off181 (v3453 : BitVec 32) : Fin 2 → Nat :=
  let c0_i32_1968 : BitVec 32 := 0#32
  ![v3453.toNat, 0]

def k0_chk181 (i : grid0.Coords) (v3453 : BitVec 32) : Prop :=
  (∀ (k0_h1 : k0_cond1 i = 1#1), ∀ a, (k0_off181 v3453) a + S1x1024.size a ≤ S79872x1024.size a)
theorem k0_off181_inb : ∀ (i : grid0.Coords) (v3453 : BitVec 32) (k0_hw181 : k0_chk181 i v3453), ∀ (k0_h1 : k0_cond1 i = 1#1), ∀ a, (k0_off181 v3453) a + S1x1024.size a ≤ S79872x1024.size a := fun i v3453 k0_hw181 k0_h1 => k0_hw181 k0_h1

def k0_off182 (v3459 : BitVec 32) : Fin 2 → Nat :=
  let c0_i32_1973 : BitVec 32 := 0#32
  ![v3459.toNat, 0]

def k0_chk182 (i : grid0.Coords) (v3459 : BitVec 32) : Prop :=
  (∀ (k0_h1 : k0_cond1 i = 1#1), ∀ a, (k0_off182 v3459) a + S1x1024.size a ≤ S79872x1024.size a)
theorem k0_off182_inb : ∀ (i : grid0.Coords) (v3459 : BitVec 32) (k0_hw182 : k0_chk182 i v3459), ∀ (k0_h1 : k0_cond1 i = 1#1), ∀ a, (k0_off182 v3459) a + S1x1024.size a ≤ S79872x1024.size a := fun i v3459 k0_hw182 k0_h1 => k0_hw182 k0_h1

def k0_off183 (v3465 : BitVec 32) : Fin 2 → Nat :=
  let c0_i32_1978 : BitVec 32 := 0#32
  ![v3465.toNat, 0]

def k0_chk183 (i : grid0.Coords) (v3465 : BitVec 32) : Prop :=
  (∀ (k0_h1 : k0_cond1 i = 1#1), ∀ a, (k0_off183 v3465) a + S1x1024.size a ≤ S79872x1024.size a)
theorem k0_off183_inb : ∀ (i : grid0.Coords) (v3465 : BitVec 32) (k0_hw183 : k0_chk183 i v3465), ∀ (k0_h1 : k0_cond1 i = 1#1), ∀ a, (k0_off183 v3465) a + S1x1024.size a ≤ S79872x1024.size a := fun i v3465 k0_hw183 k0_h1 => k0_hw183 k0_h1

def k0_off184 (v3471 : BitVec 32) : Fin 2 → Nat :=
  let c0_i32_1983 : BitVec 32 := 0#32
  ![v3471.toNat, 0]

def k0_chk184 (i : grid0.Coords) (v3471 : BitVec 32) : Prop :=
  (∀ (k0_h1 : k0_cond1 i = 1#1), ∀ a, (k0_off184 v3471) a + S1x1024.size a ≤ S79872x1024.size a)
theorem k0_off184_inb : ∀ (i : grid0.Coords) (v3471 : BitVec 32) (k0_hw184 : k0_chk184 i v3471), ∀ (k0_h1 : k0_cond1 i = 1#1), ∀ a, (k0_off184 v3471) a + S1x1024.size a ≤ S79872x1024.size a := fun i v3471 k0_hw184 k0_h1 => k0_hw184 k0_h1

def k0_off185 (v3477 : BitVec 32) : Fin 2 → Nat :=
  let c0_i32_1988 : BitVec 32 := 0#32
  ![v3477.toNat, 0]

def k0_chk185 (i : grid0.Coords) (v3477 : BitVec 32) : Prop :=
  (∀ (k0_h1 : k0_cond1 i = 1#1), ∀ a, (k0_off185 v3477) a + S1x1024.size a ≤ S79872x1024.size a)
theorem k0_off185_inb : ∀ (i : grid0.Coords) (v3477 : BitVec 32) (k0_hw185 : k0_chk185 i v3477), ∀ (k0_h1 : k0_cond1 i = 1#1), ∀ a, (k0_off185 v3477) a + S1x1024.size a ≤ S79872x1024.size a := fun i v3477 k0_hw185 k0_h1 => k0_hw185 k0_h1

def k0_off186 (v3483 : BitVec 32) : Fin 2 → Nat :=
  let c0_i32_1993 : BitVec 32 := 0#32
  ![v3483.toNat, 0]

def k0_chk186 (i : grid0.Coords) (v3483 : BitVec 32) : Prop :=
  (∀ (k0_h1 : k0_cond1 i = 1#1), ∀ a, (k0_off186 v3483) a + S1x1024.size a ≤ S79872x1024.size a)
theorem k0_off186_inb : ∀ (i : grid0.Coords) (v3483 : BitVec 32) (k0_hw186 : k0_chk186 i v3483), ∀ (k0_h1 : k0_cond1 i = 1#1), ∀ a, (k0_off186 v3483) a + S1x1024.size a ≤ S79872x1024.size a := fun i v3483 k0_hw186 k0_h1 => k0_hw186 k0_h1

def k0_off187 (v3489 : BitVec 32) : Fin 2 → Nat :=
  let c0_i32_1998 : BitVec 32 := 0#32
  ![v3489.toNat, 0]

def k0_chk187 (i : grid0.Coords) (v3489 : BitVec 32) : Prop :=
  (∀ (k0_h1 : k0_cond1 i = 1#1), ∀ a, (k0_off187 v3489) a + S1x1024.size a ≤ S79872x1024.size a)
theorem k0_off187_inb : ∀ (i : grid0.Coords) (v3489 : BitVec 32) (k0_hw187 : k0_chk187 i v3489), ∀ (k0_h1 : k0_cond1 i = 1#1), ∀ a, (k0_off187 v3489) a + S1x1024.size a ≤ S79872x1024.size a := fun i v3489 k0_hw187 k0_h1 => k0_hw187 k0_h1

def k0_off188 (v3495 : BitVec 32) : Fin 2 → Nat :=
  let c0_i32_2003 : BitVec 32 := 0#32
  ![v3495.toNat, 0]

def k0_chk188 (i : grid0.Coords) (v3495 : BitVec 32) : Prop :=
  (∀ (k0_h1 : k0_cond1 i = 1#1), ∀ a, (k0_off188 v3495) a + S1x1024.size a ≤ S79872x1024.size a)
theorem k0_off188_inb : ∀ (i : grid0.Coords) (v3495 : BitVec 32) (k0_hw188 : k0_chk188 i v3495), ∀ (k0_h1 : k0_cond1 i = 1#1), ∀ a, (k0_off188 v3495) a + S1x1024.size a ≤ S79872x1024.size a := fun i v3495 k0_hw188 k0_h1 => k0_hw188 k0_h1

def k0_off189 (v3501 : BitVec 32) : Fin 2 → Nat :=
  let c0_i32_2008 : BitVec 32 := 0#32
  ![v3501.toNat, 0]

def k0_chk189 (i : grid0.Coords) (v3501 : BitVec 32) : Prop :=
  (∀ (k0_h1 : k0_cond1 i = 1#1), ∀ a, (k0_off189 v3501) a + S1x1024.size a ≤ S79872x1024.size a)
theorem k0_off189_inb : ∀ (i : grid0.Coords) (v3501 : BitVec 32) (k0_hw189 : k0_chk189 i v3501), ∀ (k0_h1 : k0_cond1 i = 1#1), ∀ a, (k0_off189 v3501) a + S1x1024.size a ≤ S79872x1024.size a := fun i v3501 k0_hw189 k0_h1 => k0_hw189 k0_h1

def k0_off190 (v3507 : BitVec 32) : Fin 2 → Nat :=
  let c0_i32_2013 : BitVec 32 := 0#32
  ![v3507.toNat, 0]

def k0_chk190 (i : grid0.Coords) (v3507 : BitVec 32) : Prop :=
  (∀ (k0_h1 : k0_cond1 i = 1#1), ∀ a, (k0_off190 v3507) a + S1x1024.size a ≤ S79872x1024.size a)
theorem k0_off190_inb : ∀ (i : grid0.Coords) (v3507 : BitVec 32) (k0_hw190 : k0_chk190 i v3507), ∀ (k0_h1 : k0_cond1 i = 1#1), ∀ a, (k0_off190 v3507) a + S1x1024.size a ≤ S79872x1024.size a := fun i v3507 k0_hw190 k0_h1 => k0_hw190 k0_h1

def k0_off191 (v3513 : BitVec 32) : Fin 2 → Nat :=
  let c0_i32_2018 : BitVec 32 := 0#32
  ![v3513.toNat, 0]

def k0_chk191 (i : grid0.Coords) (v3513 : BitVec 32) : Prop :=
  (∀ (k0_h1 : k0_cond1 i = 1#1), ∀ a, (k0_off191 v3513) a + S1x1024.size a ≤ S79872x1024.size a)
theorem k0_off191_inb : ∀ (i : grid0.Coords) (v3513 : BitVec 32) (k0_hw191 : k0_chk191 i v3513), ∀ (k0_h1 : k0_cond1 i = 1#1), ∀ a, (k0_off191 v3513) a + S1x1024.size a ≤ S79872x1024.size a := fun i v3513 k0_hw191 k0_h1 => k0_hw191 k0_h1

def k0_off192 (v3519 : BitVec 32) : Fin 2 → Nat :=
  let c0_i32_2023 : BitVec 32 := 0#32
  ![v3519.toNat, 0]

def k0_chk192 (i : grid0.Coords) (v3519 : BitVec 32) : Prop :=
  (∀ (k0_h1 : k0_cond1 i = 1#1), ∀ a, (k0_off192 v3519) a + S1x1024.size a ≤ S79872x1024.size a)
theorem k0_off192_inb : ∀ (i : grid0.Coords) (v3519 : BitVec 32) (k0_hw192 : k0_chk192 i v3519), ∀ (k0_h1 : k0_cond1 i = 1#1), ∀ a, (k0_off192 v3519) a + S1x1024.size a ≤ S79872x1024.size a := fun i v3519 k0_hw192 k0_h1 => k0_hw192 k0_h1

def k0_off193 (v3525 : BitVec 32) : Fin 2 → Nat :=
  let c0_i32_2028 : BitVec 32 := 0#32
  ![v3525.toNat, 0]

def k0_chk193 (i : grid0.Coords) (v3525 : BitVec 32) : Prop :=
  (∀ (k0_h1 : k0_cond1 i = 1#1), ∀ a, (k0_off193 v3525) a + S1x1024.size a ≤ S79872x1024.size a)
theorem k0_off193_inb : ∀ (i : grid0.Coords) (v3525 : BitVec 32) (k0_hw193 : k0_chk193 i v3525), ∀ (k0_h1 : k0_cond1 i = 1#1), ∀ a, (k0_off193 v3525) a + S1x1024.size a ≤ S79872x1024.size a := fun i v3525 k0_hw193 k0_h1 => k0_hw193 k0_h1

def k0_off194 (v3531 : BitVec 32) : Fin 2 → Nat :=
  let c0_i32_2033 : BitVec 32 := 0#32
  ![v3531.toNat, 0]

def k0_chk194 (i : grid0.Coords) (v3531 : BitVec 32) : Prop :=
  (∀ (k0_h1 : k0_cond1 i = 1#1), ∀ a, (k0_off194 v3531) a + S1x1024.size a ≤ S79872x1024.size a)
theorem k0_off194_inb : ∀ (i : grid0.Coords) (v3531 : BitVec 32) (k0_hw194 : k0_chk194 i v3531), ∀ (k0_h1 : k0_cond1 i = 1#1), ∀ a, (k0_off194 v3531) a + S1x1024.size a ≤ S79872x1024.size a := fun i v3531 k0_hw194 k0_h1 => k0_hw194 k0_h1

def k0_off195 (v3537 : BitVec 32) : Fin 2 → Nat :=
  let c0_i32_2038 : BitVec 32 := 0#32
  ![v3537.toNat, 0]

def k0_chk195 (i : grid0.Coords) (v3537 : BitVec 32) : Prop :=
  (∀ (k0_h1 : k0_cond1 i = 1#1), ∀ a, (k0_off195 v3537) a + S1x1024.size a ≤ S79872x1024.size a)
theorem k0_off195_inb : ∀ (i : grid0.Coords) (v3537 : BitVec 32) (k0_hw195 : k0_chk195 i v3537), ∀ (k0_h1 : k0_cond1 i = 1#1), ∀ a, (k0_off195 v3537) a + S1x1024.size a ≤ S79872x1024.size a := fun i v3537 k0_hw195 k0_h1 => k0_hw195 k0_h1

def k0_off196 (v3543 : BitVec 32) : Fin 2 → Nat :=
  let c0_i32_2043 : BitVec 32 := 0#32
  ![v3543.toNat, 0]

def k0_chk196 (i : grid0.Coords) (v3543 : BitVec 32) : Prop :=
  (∀ (k0_h1 : k0_cond1 i = 1#1), ∀ a, (k0_off196 v3543) a + S1x1024.size a ≤ S79872x1024.size a)
theorem k0_off196_inb : ∀ (i : grid0.Coords) (v3543 : BitVec 32) (k0_hw196 : k0_chk196 i v3543), ∀ (k0_h1 : k0_cond1 i = 1#1), ∀ a, (k0_off196 v3543) a + S1x1024.size a ≤ S79872x1024.size a := fun i v3543 k0_hw196 k0_h1 => k0_hw196 k0_h1

def k0_off197 (v3549 : BitVec 32) : Fin 2 → Nat :=
  let c0_i32_2048 : BitVec 32 := 0#32
  ![v3549.toNat, 0]

def k0_chk197 (i : grid0.Coords) (v3549 : BitVec 32) : Prop :=
  (∀ (k0_h1 : k0_cond1 i = 1#1), ∀ a, (k0_off197 v3549) a + S1x1024.size a ≤ S79872x1024.size a)
theorem k0_off197_inb : ∀ (i : grid0.Coords) (v3549 : BitVec 32) (k0_hw197 : k0_chk197 i v3549), ∀ (k0_h1 : k0_cond1 i = 1#1), ∀ a, (k0_off197 v3549) a + S1x1024.size a ≤ S79872x1024.size a := fun i v3549 k0_hw197 k0_h1 => k0_hw197 k0_h1

def k0_off198 (v3555 : BitVec 32) : Fin 2 → Nat :=
  let c0_i32_2053 : BitVec 32 := 0#32
  ![v3555.toNat, 0]

def k0_chk198 (i : grid0.Coords) (v3555 : BitVec 32) : Prop :=
  (∀ (k0_h1 : k0_cond1 i = 1#1), ∀ a, (k0_off198 v3555) a + S1x1024.size a ≤ S79872x1024.size a)
theorem k0_off198_inb : ∀ (i : grid0.Coords) (v3555 : BitVec 32) (k0_hw198 : k0_chk198 i v3555), ∀ (k0_h1 : k0_cond1 i = 1#1), ∀ a, (k0_off198 v3555) a + S1x1024.size a ≤ S79872x1024.size a := fun i v3555 k0_hw198 k0_h1 => k0_hw198 k0_h1

def k0_off199 (v3561 : BitVec 32) : Fin 2 → Nat :=
  let c0_i32_2058 : BitVec 32 := 0#32
  ![v3561.toNat, 0]

def k0_chk199 (i : grid0.Coords) (v3561 : BitVec 32) : Prop :=
  (∀ (k0_h1 : k0_cond1 i = 1#1), ∀ a, (k0_off199 v3561) a + S1x1024.size a ≤ S79872x1024.size a)
theorem k0_off199_inb : ∀ (i : grid0.Coords) (v3561 : BitVec 32) (k0_hw199 : k0_chk199 i v3561), ∀ (k0_h1 : k0_cond1 i = 1#1), ∀ a, (k0_off199 v3561) a + S1x1024.size a ≤ S79872x1024.size a := fun i v3561 k0_hw199 k0_h1 => k0_hw199 k0_h1

def k0_off200 (v3567 : BitVec 32) : Fin 2 → Nat :=
  let c0_i32_2063 : BitVec 32 := 0#32
  ![v3567.toNat, 0]

def k0_chk200 (i : grid0.Coords) (v3567 : BitVec 32) : Prop :=
  (∀ (k0_h1 : k0_cond1 i = 1#1), ∀ a, (k0_off200 v3567) a + S1x1024.size a ≤ S79872x1024.size a)
theorem k0_off200_inb : ∀ (i : grid0.Coords) (v3567 : BitVec 32) (k0_hw200 : k0_chk200 i v3567), ∀ (k0_h1 : k0_cond1 i = 1#1), ∀ a, (k0_off200 v3567) a + S1x1024.size a ≤ S79872x1024.size a := fun i v3567 k0_hw200 k0_h1 => k0_hw200 k0_h1

def k0_off201 (v3573 : BitVec 32) : Fin 2 → Nat :=
  let c0_i32_2068 : BitVec 32 := 0#32
  ![v3573.toNat, 0]

def k0_chk201 (i : grid0.Coords) (v3573 : BitVec 32) : Prop :=
  (∀ (k0_h1 : k0_cond1 i = 1#1), ∀ a, (k0_off201 v3573) a + S1x1024.size a ≤ S79872x1024.size a)
theorem k0_off201_inb : ∀ (i : grid0.Coords) (v3573 : BitVec 32) (k0_hw201 : k0_chk201 i v3573), ∀ (k0_h1 : k0_cond1 i = 1#1), ∀ a, (k0_off201 v3573) a + S1x1024.size a ≤ S79872x1024.size a := fun i v3573 k0_hw201 k0_h1 => k0_hw201 k0_h1

def k0_off202 (v3579 : BitVec 32) : Fin 2 → Nat :=
  let c0_i32_2073 : BitVec 32 := 0#32
  ![v3579.toNat, 0]

def k0_chk202 (i : grid0.Coords) (v3579 : BitVec 32) : Prop :=
  (∀ (k0_h1 : k0_cond1 i = 1#1), ∀ a, (k0_off202 v3579) a + S1x1024.size a ≤ S79872x1024.size a)
theorem k0_off202_inb : ∀ (i : grid0.Coords) (v3579 : BitVec 32) (k0_hw202 : k0_chk202 i v3579), ∀ (k0_h1 : k0_cond1 i = 1#1), ∀ a, (k0_off202 v3579) a + S1x1024.size a ≤ S79872x1024.size a := fun i v3579 k0_hw202 k0_h1 => k0_hw202 k0_h1

def k0_off203 (v3585 : BitVec 32) : Fin 2 → Nat :=
  let c0_i32_2078 : BitVec 32 := 0#32
  ![v3585.toNat, 0]

def k0_chk203 (i : grid0.Coords) (v3585 : BitVec 32) : Prop :=
  (∀ (k0_h1 : k0_cond1 i = 1#1), ∀ a, (k0_off203 v3585) a + S1x1024.size a ≤ S79872x1024.size a)
theorem k0_off203_inb : ∀ (i : grid0.Coords) (v3585 : BitVec 32) (k0_hw203 : k0_chk203 i v3585), ∀ (k0_h1 : k0_cond1 i = 1#1), ∀ a, (k0_off203 v3585) a + S1x1024.size a ≤ S79872x1024.size a := fun i v3585 k0_hw203 k0_h1 => k0_hw203 k0_h1

def k0_off204 (v3591 : BitVec 32) : Fin 2 → Nat :=
  let c0_i32_2083 : BitVec 32 := 0#32
  ![v3591.toNat, 0]

def k0_chk204 (i : grid0.Coords) (v3591 : BitVec 32) : Prop :=
  (∀ (k0_h1 : k0_cond1 i = 1#1), ∀ a, (k0_off204 v3591) a + S1x1024.size a ≤ S79872x1024.size a)
theorem k0_off204_inb : ∀ (i : grid0.Coords) (v3591 : BitVec 32) (k0_hw204 : k0_chk204 i v3591), ∀ (k0_h1 : k0_cond1 i = 1#1), ∀ a, (k0_off204 v3591) a + S1x1024.size a ≤ S79872x1024.size a := fun i v3591 k0_hw204 k0_h1 => k0_hw204 k0_h1

def k0_off205 (v3597 : BitVec 32) : Fin 2 → Nat :=
  let c0_i32_2088 : BitVec 32 := 0#32
  ![v3597.toNat, 0]

def k0_chk205 (i : grid0.Coords) (v3597 : BitVec 32) : Prop :=
  (∀ (k0_h1 : k0_cond1 i = 1#1), ∀ a, (k0_off205 v3597) a + S1x1024.size a ≤ S79872x1024.size a)
theorem k0_off205_inb : ∀ (i : grid0.Coords) (v3597 : BitVec 32) (k0_hw205 : k0_chk205 i v3597), ∀ (k0_h1 : k0_cond1 i = 1#1), ∀ a, (k0_off205 v3597) a + S1x1024.size a ≤ S79872x1024.size a := fun i v3597 k0_hw205 k0_h1 => k0_hw205 k0_h1

def k0_off206 (v3603 : BitVec 32) : Fin 2 → Nat :=
  let c0_i32_2093 : BitVec 32 := 0#32
  ![v3603.toNat, 0]

def k0_chk206 (i : grid0.Coords) (v3603 : BitVec 32) : Prop :=
  (∀ (k0_h1 : k0_cond1 i = 1#1), ∀ a, (k0_off206 v3603) a + S1x1024.size a ≤ S79872x1024.size a)
theorem k0_off206_inb : ∀ (i : grid0.Coords) (v3603 : BitVec 32) (k0_hw206 : k0_chk206 i v3603), ∀ (k0_h1 : k0_cond1 i = 1#1), ∀ a, (k0_off206 v3603) a + S1x1024.size a ≤ S79872x1024.size a := fun i v3603 k0_hw206 k0_h1 => k0_hw206 k0_h1

def k0_off207 (v3609 : BitVec 32) : Fin 2 → Nat :=
  let c0_i32_2098 : BitVec 32 := 0#32
  ![v3609.toNat, 0]

def k0_chk207 (i : grid0.Coords) (v3609 : BitVec 32) : Prop :=
  (∀ (k0_h1 : k0_cond1 i = 1#1), ∀ a, (k0_off207 v3609) a + S1x1024.size a ≤ S79872x1024.size a)
theorem k0_off207_inb : ∀ (i : grid0.Coords) (v3609 : BitVec 32) (k0_hw207 : k0_chk207 i v3609), ∀ (k0_h1 : k0_cond1 i = 1#1), ∀ a, (k0_off207 v3609) a + S1x1024.size a ≤ S79872x1024.size a := fun i v3609 k0_hw207 k0_h1 => k0_hw207 k0_h1

def k0_off208 (v3615 : BitVec 32) : Fin 2 → Nat :=
  let c0_i32_2103 : BitVec 32 := 0#32
  ![v3615.toNat, 0]

def k0_chk208 (i : grid0.Coords) (v3615 : BitVec 32) : Prop :=
  (∀ (k0_h1 : k0_cond1 i = 1#1), ∀ a, (k0_off208 v3615) a + S1x1024.size a ≤ S79872x1024.size a)
theorem k0_off208_inb : ∀ (i : grid0.Coords) (v3615 : BitVec 32) (k0_hw208 : k0_chk208 i v3615), ∀ (k0_h1 : k0_cond1 i = 1#1), ∀ a, (k0_off208 v3615) a + S1x1024.size a ≤ S79872x1024.size a := fun i v3615 k0_hw208 k0_h1 => k0_hw208 k0_h1

def k0_off209 (v3621 : BitVec 32) : Fin 2 → Nat :=
  let c0_i32_2108 : BitVec 32 := 0#32
  ![v3621.toNat, 0]

def k0_chk209 (i : grid0.Coords) (v3621 : BitVec 32) : Prop :=
  (∀ (k0_h1 : k0_cond1 i = 1#1), ∀ a, (k0_off209 v3621) a + S1x1024.size a ≤ S79872x1024.size a)
theorem k0_off209_inb : ∀ (i : grid0.Coords) (v3621 : BitVec 32) (k0_hw209 : k0_chk209 i v3621), ∀ (k0_h1 : k0_cond1 i = 1#1), ∀ a, (k0_off209 v3621) a + S1x1024.size a ≤ S79872x1024.size a := fun i v3621 k0_hw209 k0_h1 => k0_hw209 k0_h1

def k0_off210 (v3627 : BitVec 32) : Fin 2 → Nat :=
  let c0_i32_2113 : BitVec 32 := 0#32
  ![v3627.toNat, 0]

def k0_chk210 (i : grid0.Coords) (v3627 : BitVec 32) : Prop :=
  (∀ (k0_h1 : k0_cond1 i = 1#1), ∀ a, (k0_off210 v3627) a + S1x1024.size a ≤ S79872x1024.size a)
theorem k0_off210_inb : ∀ (i : grid0.Coords) (v3627 : BitVec 32) (k0_hw210 : k0_chk210 i v3627), ∀ (k0_h1 : k0_cond1 i = 1#1), ∀ a, (k0_off210 v3627) a + S1x1024.size a ≤ S79872x1024.size a := fun i v3627 k0_hw210 k0_h1 => k0_hw210 k0_h1

def k0_off211 (v3633 : BitVec 32) : Fin 2 → Nat :=
  let c0_i32_2118 : BitVec 32 := 0#32
  ![v3633.toNat, 0]

def k0_chk211 (i : grid0.Coords) (v3633 : BitVec 32) : Prop :=
  (∀ (k0_h1 : k0_cond1 i = 1#1), ∀ a, (k0_off211 v3633) a + S1x1024.size a ≤ S79872x1024.size a)
theorem k0_off211_inb : ∀ (i : grid0.Coords) (v3633 : BitVec 32) (k0_hw211 : k0_chk211 i v3633), ∀ (k0_h1 : k0_cond1 i = 1#1), ∀ a, (k0_off211 v3633) a + S1x1024.size a ≤ S79872x1024.size a := fun i v3633 k0_hw211 k0_h1 => k0_hw211 k0_h1

def k0_off212 (v3639 : BitVec 32) : Fin 2 → Nat :=
  let c0_i32_2123 : BitVec 32 := 0#32
  ![v3639.toNat, 0]

def k0_chk212 (i : grid0.Coords) (v3639 : BitVec 32) : Prop :=
  (∀ (k0_h1 : k0_cond1 i = 1#1), ∀ a, (k0_off212 v3639) a + S1x1024.size a ≤ S79872x1024.size a)
theorem k0_off212_inb : ∀ (i : grid0.Coords) (v3639 : BitVec 32) (k0_hw212 : k0_chk212 i v3639), ∀ (k0_h1 : k0_cond1 i = 1#1), ∀ a, (k0_off212 v3639) a + S1x1024.size a ≤ S79872x1024.size a := fun i v3639 k0_hw212 k0_h1 => k0_hw212 k0_h1

def k0_off213 (v3645 : BitVec 32) : Fin 2 → Nat :=
  let c0_i32_2128 : BitVec 32 := 0#32
  ![v3645.toNat, 0]

def k0_chk213 (i : grid0.Coords) (v3645 : BitVec 32) : Prop :=
  (∀ (k0_h1 : k0_cond1 i = 1#1), ∀ a, (k0_off213 v3645) a + S1x1024.size a ≤ S79872x1024.size a)
theorem k0_off213_inb : ∀ (i : grid0.Coords) (v3645 : BitVec 32) (k0_hw213 : k0_chk213 i v3645), ∀ (k0_h1 : k0_cond1 i = 1#1), ∀ a, (k0_off213 v3645) a + S1x1024.size a ≤ S79872x1024.size a := fun i v3645 k0_hw213 k0_h1 => k0_hw213 k0_h1

def k0_off214 (v3651 : BitVec 32) : Fin 2 → Nat :=
  let c0_i32_2133 : BitVec 32 := 0#32
  ![v3651.toNat, 0]

def k0_chk214 (i : grid0.Coords) (v3651 : BitVec 32) : Prop :=
  (∀ (k0_h1 : k0_cond1 i = 1#1), ∀ a, (k0_off214 v3651) a + S1x1024.size a ≤ S79872x1024.size a)
theorem k0_off214_inb : ∀ (i : grid0.Coords) (v3651 : BitVec 32) (k0_hw214 : k0_chk214 i v3651), ∀ (k0_h1 : k0_cond1 i = 1#1), ∀ a, (k0_off214 v3651) a + S1x1024.size a ≤ S79872x1024.size a := fun i v3651 k0_hw214 k0_h1 => k0_hw214 k0_h1

def k0_off215 (v3657 : BitVec 32) : Fin 2 → Nat :=
  let c0_i32_2138 : BitVec 32 := 0#32
  ![v3657.toNat, 0]

def k0_chk215 (i : grid0.Coords) (v3657 : BitVec 32) : Prop :=
  (∀ (k0_h1 : k0_cond1 i = 1#1), ∀ a, (k0_off215 v3657) a + S1x1024.size a ≤ S79872x1024.size a)
theorem k0_off215_inb : ∀ (i : grid0.Coords) (v3657 : BitVec 32) (k0_hw215 : k0_chk215 i v3657), ∀ (k0_h1 : k0_cond1 i = 1#1), ∀ a, (k0_off215 v3657) a + S1x1024.size a ≤ S79872x1024.size a := fun i v3657 k0_hw215 k0_h1 => k0_hw215 k0_h1

def k0_off216 (v3663 : BitVec 32) : Fin 2 → Nat :=
  let c0_i32_2143 : BitVec 32 := 0#32
  ![v3663.toNat, 0]

def k0_chk216 (i : grid0.Coords) (v3663 : BitVec 32) : Prop :=
  (∀ (k0_h1 : k0_cond1 i = 1#1), ∀ a, (k0_off216 v3663) a + S1x1024.size a ≤ S79872x1024.size a)
theorem k0_off216_inb : ∀ (i : grid0.Coords) (v3663 : BitVec 32) (k0_hw216 : k0_chk216 i v3663), ∀ (k0_h1 : k0_cond1 i = 1#1), ∀ a, (k0_off216 v3663) a + S1x1024.size a ≤ S79872x1024.size a := fun i v3663 k0_hw216 k0_h1 => k0_hw216 k0_h1

def k0_off217 (v3669 : BitVec 32) : Fin 2 → Nat :=
  let c0_i32_2148 : BitVec 32 := 0#32
  ![v3669.toNat, 0]

def k0_chk217 (i : grid0.Coords) (v3669 : BitVec 32) : Prop :=
  (∀ (k0_h1 : k0_cond1 i = 1#1), ∀ a, (k0_off217 v3669) a + S1x1024.size a ≤ S79872x1024.size a)
theorem k0_off217_inb : ∀ (i : grid0.Coords) (v3669 : BitVec 32) (k0_hw217 : k0_chk217 i v3669), ∀ (k0_h1 : k0_cond1 i = 1#1), ∀ a, (k0_off217 v3669) a + S1x1024.size a ≤ S79872x1024.size a := fun i v3669 k0_hw217 k0_h1 => k0_hw217 k0_h1

def k0_off218 (v3675 : BitVec 32) : Fin 2 → Nat :=
  let c0_i32_2153 : BitVec 32 := 0#32
  ![v3675.toNat, 0]

def k0_chk218 (i : grid0.Coords) (v3675 : BitVec 32) : Prop :=
  (∀ (k0_h1 : k0_cond1 i = 1#1), ∀ a, (k0_off218 v3675) a + S1x1024.size a ≤ S79872x1024.size a)
theorem k0_off218_inb : ∀ (i : grid0.Coords) (v3675 : BitVec 32) (k0_hw218 : k0_chk218 i v3675), ∀ (k0_h1 : k0_cond1 i = 1#1), ∀ a, (k0_off218 v3675) a + S1x1024.size a ≤ S79872x1024.size a := fun i v3675 k0_hw218 k0_h1 => k0_hw218 k0_h1

def k0_off219 (v3681 : BitVec 32) : Fin 2 → Nat :=
  let c0_i32_2158 : BitVec 32 := 0#32
  ![v3681.toNat, 0]

def k0_chk219 (i : grid0.Coords) (v3681 : BitVec 32) : Prop :=
  (∀ (k0_h1 : k0_cond1 i = 1#1), ∀ a, (k0_off219 v3681) a + S1x1024.size a ≤ S79872x1024.size a)
theorem k0_off219_inb : ∀ (i : grid0.Coords) (v3681 : BitVec 32) (k0_hw219 : k0_chk219 i v3681), ∀ (k0_h1 : k0_cond1 i = 1#1), ∀ a, (k0_off219 v3681) a + S1x1024.size a ≤ S79872x1024.size a := fun i v3681 k0_hw219 k0_h1 => k0_hw219 k0_h1

def k0_off220 (v3687 : BitVec 32) : Fin 2 → Nat :=
  let c0_i32_2163 : BitVec 32 := 0#32
  ![v3687.toNat, 0]

def k0_chk220 (i : grid0.Coords) (v3687 : BitVec 32) : Prop :=
  (∀ (k0_h1 : k0_cond1 i = 1#1), ∀ a, (k0_off220 v3687) a + S1x1024.size a ≤ S79872x1024.size a)
theorem k0_off220_inb : ∀ (i : grid0.Coords) (v3687 : BitVec 32) (k0_hw220 : k0_chk220 i v3687), ∀ (k0_h1 : k0_cond1 i = 1#1), ∀ a, (k0_off220 v3687) a + S1x1024.size a ≤ S79872x1024.size a := fun i v3687 k0_hw220 k0_h1 => k0_hw220 k0_h1

def k0_off221 (v3693 : BitVec 32) : Fin 2 → Nat :=
  let c0_i32_2168 : BitVec 32 := 0#32
  ![v3693.toNat, 0]

def k0_chk221 (i : grid0.Coords) (v3693 : BitVec 32) : Prop :=
  (∀ (k0_h1 : k0_cond1 i = 1#1), ∀ a, (k0_off221 v3693) a + S1x1024.size a ≤ S79872x1024.size a)
theorem k0_off221_inb : ∀ (i : grid0.Coords) (v3693 : BitVec 32) (k0_hw221 : k0_chk221 i v3693), ∀ (k0_h1 : k0_cond1 i = 1#1), ∀ a, (k0_off221 v3693) a + S1x1024.size a ≤ S79872x1024.size a := fun i v3693 k0_hw221 k0_h1 => k0_hw221 k0_h1

def k0_off222 (v3699 : BitVec 32) : Fin 2 → Nat :=
  let c0_i32_2173 : BitVec 32 := 0#32
  ![v3699.toNat, 0]

def k0_chk222 (i : grid0.Coords) (v3699 : BitVec 32) : Prop :=
  (∀ (k0_h1 : k0_cond1 i = 1#1), ∀ a, (k0_off222 v3699) a + S1x1024.size a ≤ S79872x1024.size a)
theorem k0_off222_inb : ∀ (i : grid0.Coords) (v3699 : BitVec 32) (k0_hw222 : k0_chk222 i v3699), ∀ (k0_h1 : k0_cond1 i = 1#1), ∀ a, (k0_off222 v3699) a + S1x1024.size a ≤ S79872x1024.size a := fun i v3699 k0_hw222 k0_h1 => k0_hw222 k0_h1

def k0_off223 (v3705 : BitVec 32) : Fin 2 → Nat :=
  let c0_i32_2178 : BitVec 32 := 0#32
  ![v3705.toNat, 0]

def k0_chk223 (i : grid0.Coords) (v3705 : BitVec 32) : Prop :=
  (∀ (k0_h1 : k0_cond1 i = 1#1), ∀ a, (k0_off223 v3705) a + S1x1024.size a ≤ S79872x1024.size a)
theorem k0_off223_inb : ∀ (i : grid0.Coords) (v3705 : BitVec 32) (k0_hw223 : k0_chk223 i v3705), ∀ (k0_h1 : k0_cond1 i = 1#1), ∀ a, (k0_off223 v3705) a + S1x1024.size a ≤ S79872x1024.size a := fun i v3705 k0_hw223 k0_h1 => k0_hw223 k0_h1

def k0_off224 (v3711 : BitVec 32) : Fin 2 → Nat :=
  let c0_i32_2183 : BitVec 32 := 0#32
  ![v3711.toNat, 0]

def k0_chk224 (i : grid0.Coords) (v3711 : BitVec 32) : Prop :=
  (∀ (k0_h1 : k0_cond1 i = 1#1), ∀ a, (k0_off224 v3711) a + S1x1024.size a ≤ S79872x1024.size a)
theorem k0_off224_inb : ∀ (i : grid0.Coords) (v3711 : BitVec 32) (k0_hw224 : k0_chk224 i v3711), ∀ (k0_h1 : k0_cond1 i = 1#1), ∀ a, (k0_off224 v3711) a + S1x1024.size a ≤ S79872x1024.size a := fun i v3711 k0_hw224 k0_h1 => k0_hw224 k0_h1

def k0_off225 (v3717 : BitVec 32) : Fin 2 → Nat :=
  let c0_i32_2188 : BitVec 32 := 0#32
  ![v3717.toNat, 0]

def k0_chk225 (i : grid0.Coords) (v3717 : BitVec 32) : Prop :=
  (∀ (k0_h1 : k0_cond1 i = 1#1), ∀ a, (k0_off225 v3717) a + S1x1024.size a ≤ S79872x1024.size a)
theorem k0_off225_inb : ∀ (i : grid0.Coords) (v3717 : BitVec 32) (k0_hw225 : k0_chk225 i v3717), ∀ (k0_h1 : k0_cond1 i = 1#1), ∀ a, (k0_off225 v3717) a + S1x1024.size a ≤ S79872x1024.size a := fun i v3717 k0_hw225 k0_h1 => k0_hw225 k0_h1

def k0_off226 (v3723 : BitVec 32) : Fin 2 → Nat :=
  let c0_i32_2193 : BitVec 32 := 0#32
  ![v3723.toNat, 0]

def k0_chk226 (i : grid0.Coords) (v3723 : BitVec 32) : Prop :=
  (∀ (k0_h1 : k0_cond1 i = 1#1), ∀ a, (k0_off226 v3723) a + S1x1024.size a ≤ S79872x1024.size a)
theorem k0_off226_inb : ∀ (i : grid0.Coords) (v3723 : BitVec 32) (k0_hw226 : k0_chk226 i v3723), ∀ (k0_h1 : k0_cond1 i = 1#1), ∀ a, (k0_off226 v3723) a + S1x1024.size a ≤ S79872x1024.size a := fun i v3723 k0_hw226 k0_h1 => k0_hw226 k0_h1

def k0_off227 (v3729 : BitVec 32) : Fin 2 → Nat :=
  let c0_i32_2198 : BitVec 32 := 0#32
  ![v3729.toNat, 0]

def k0_chk227 (i : grid0.Coords) (v3729 : BitVec 32) : Prop :=
  (∀ (k0_h1 : k0_cond1 i = 1#1), ∀ a, (k0_off227 v3729) a + S1x1024.size a ≤ S79872x1024.size a)
theorem k0_off227_inb : ∀ (i : grid0.Coords) (v3729 : BitVec 32) (k0_hw227 : k0_chk227 i v3729), ∀ (k0_h1 : k0_cond1 i = 1#1), ∀ a, (k0_off227 v3729) a + S1x1024.size a ≤ S79872x1024.size a := fun i v3729 k0_hw227 k0_h1 => k0_hw227 k0_h1

def k0_off228 (v3735 : BitVec 32) : Fin 2 → Nat :=
  let c0_i32_2203 : BitVec 32 := 0#32
  ![v3735.toNat, 0]

def k0_chk228 (i : grid0.Coords) (v3735 : BitVec 32) : Prop :=
  (∀ (k0_h1 : k0_cond1 i = 1#1), ∀ a, (k0_off228 v3735) a + S1x1024.size a ≤ S79872x1024.size a)
theorem k0_off228_inb : ∀ (i : grid0.Coords) (v3735 : BitVec 32) (k0_hw228 : k0_chk228 i v3735), ∀ (k0_h1 : k0_cond1 i = 1#1), ∀ a, (k0_off228 v3735) a + S1x1024.size a ≤ S79872x1024.size a := fun i v3735 k0_hw228 k0_h1 => k0_hw228 k0_h1

def k0_off229 (v3741 : BitVec 32) : Fin 2 → Nat :=
  let c0_i32_2208 : BitVec 32 := 0#32
  ![v3741.toNat, 0]

def k0_chk229 (i : grid0.Coords) (v3741 : BitVec 32) : Prop :=
  (∀ (k0_h1 : k0_cond1 i = 1#1), ∀ a, (k0_off229 v3741) a + S1x1024.size a ≤ S79872x1024.size a)
theorem k0_off229_inb : ∀ (i : grid0.Coords) (v3741 : BitVec 32) (k0_hw229 : k0_chk229 i v3741), ∀ (k0_h1 : k0_cond1 i = 1#1), ∀ a, (k0_off229 v3741) a + S1x1024.size a ≤ S79872x1024.size a := fun i v3741 k0_hw229 k0_h1 => k0_hw229 k0_h1

def k0_off230 (v3747 : BitVec 32) : Fin 2 → Nat :=
  let c0_i32_2213 : BitVec 32 := 0#32
  ![v3747.toNat, 0]

def k0_chk230 (i : grid0.Coords) (v3747 : BitVec 32) : Prop :=
  (∀ (k0_h1 : k0_cond1 i = 1#1), ∀ a, (k0_off230 v3747) a + S1x1024.size a ≤ S79872x1024.size a)
theorem k0_off230_inb : ∀ (i : grid0.Coords) (v3747 : BitVec 32) (k0_hw230 : k0_chk230 i v3747), ∀ (k0_h1 : k0_cond1 i = 1#1), ∀ a, (k0_off230 v3747) a + S1x1024.size a ≤ S79872x1024.size a := fun i v3747 k0_hw230 k0_h1 => k0_hw230 k0_h1

def k0_off231 (v3753 : BitVec 32) : Fin 2 → Nat :=
  let c0_i32_2218 : BitVec 32 := 0#32
  ![v3753.toNat, 0]

def k0_chk231 (i : grid0.Coords) (v3753 : BitVec 32) : Prop :=
  (∀ (k0_h1 : k0_cond1 i = 1#1), ∀ a, (k0_off231 v3753) a + S1x1024.size a ≤ S79872x1024.size a)
theorem k0_off231_inb : ∀ (i : grid0.Coords) (v3753 : BitVec 32) (k0_hw231 : k0_chk231 i v3753), ∀ (k0_h1 : k0_cond1 i = 1#1), ∀ a, (k0_off231 v3753) a + S1x1024.size a ≤ S79872x1024.size a := fun i v3753 k0_hw231 k0_h1 => k0_hw231 k0_h1

def k0_off232 (v3759 : BitVec 32) : Fin 2 → Nat :=
  let c0_i32_2223 : BitVec 32 := 0#32
  ![v3759.toNat, 0]

def k0_chk232 (i : grid0.Coords) (v3759 : BitVec 32) : Prop :=
  (∀ (k0_h1 : k0_cond1 i = 1#1), ∀ a, (k0_off232 v3759) a + S1x1024.size a ≤ S79872x1024.size a)
theorem k0_off232_inb : ∀ (i : grid0.Coords) (v3759 : BitVec 32) (k0_hw232 : k0_chk232 i v3759), ∀ (k0_h1 : k0_cond1 i = 1#1), ∀ a, (k0_off232 v3759) a + S1x1024.size a ≤ S79872x1024.size a := fun i v3759 k0_hw232 k0_h1 => k0_hw232 k0_h1

def k0_off233 (v3765 : BitVec 32) : Fin 2 → Nat :=
  let c0_i32_2228 : BitVec 32 := 0#32
  ![v3765.toNat, 0]

def k0_chk233 (i : grid0.Coords) (v3765 : BitVec 32) : Prop :=
  (∀ (k0_h1 : k0_cond1 i = 1#1), ∀ a, (k0_off233 v3765) a + S1x1024.size a ≤ S79872x1024.size a)
theorem k0_off233_inb : ∀ (i : grid0.Coords) (v3765 : BitVec 32) (k0_hw233 : k0_chk233 i v3765), ∀ (k0_h1 : k0_cond1 i = 1#1), ∀ a, (k0_off233 v3765) a + S1x1024.size a ≤ S79872x1024.size a := fun i v3765 k0_hw233 k0_h1 => k0_hw233 k0_h1

def k0_off234 (v3771 : BitVec 32) : Fin 2 → Nat :=
  let c0_i32_2233 : BitVec 32 := 0#32
  ![v3771.toNat, 0]

def k0_chk234 (i : grid0.Coords) (v3771 : BitVec 32) : Prop :=
  (∀ (k0_h1 : k0_cond1 i = 1#1), ∀ a, (k0_off234 v3771) a + S1x1024.size a ≤ S79872x1024.size a)
theorem k0_off234_inb : ∀ (i : grid0.Coords) (v3771 : BitVec 32) (k0_hw234 : k0_chk234 i v3771), ∀ (k0_h1 : k0_cond1 i = 1#1), ∀ a, (k0_off234 v3771) a + S1x1024.size a ≤ S79872x1024.size a := fun i v3771 k0_hw234 k0_h1 => k0_hw234 k0_h1

def k0_off235 (v3777 : BitVec 32) : Fin 2 → Nat :=
  let c0_i32_2238 : BitVec 32 := 0#32
  ![v3777.toNat, 0]

def k0_chk235 (i : grid0.Coords) (v3777 : BitVec 32) : Prop :=
  (∀ (k0_h1 : k0_cond1 i = 1#1), ∀ a, (k0_off235 v3777) a + S1x1024.size a ≤ S79872x1024.size a)
theorem k0_off235_inb : ∀ (i : grid0.Coords) (v3777 : BitVec 32) (k0_hw235 : k0_chk235 i v3777), ∀ (k0_h1 : k0_cond1 i = 1#1), ∀ a, (k0_off235 v3777) a + S1x1024.size a ≤ S79872x1024.size a := fun i v3777 k0_hw235 k0_h1 => k0_hw235 k0_h1

def k0_off236 (v3783 : BitVec 32) : Fin 2 → Nat :=
  let c0_i32_2243 : BitVec 32 := 0#32
  ![v3783.toNat, 0]

def k0_chk236 (i : grid0.Coords) (v3783 : BitVec 32) : Prop :=
  (∀ (k0_h1 : k0_cond1 i = 1#1), ∀ a, (k0_off236 v3783) a + S1x1024.size a ≤ S79872x1024.size a)
theorem k0_off236_inb : ∀ (i : grid0.Coords) (v3783 : BitVec 32) (k0_hw236 : k0_chk236 i v3783), ∀ (k0_h1 : k0_cond1 i = 1#1), ∀ a, (k0_off236 v3783) a + S1x1024.size a ≤ S79872x1024.size a := fun i v3783 k0_hw236 k0_h1 => k0_hw236 k0_h1

def k0_off237 (v3789 : BitVec 32) : Fin 2 → Nat :=
  let c0_i32_2248 : BitVec 32 := 0#32
  ![v3789.toNat, 0]

def k0_chk237 (i : grid0.Coords) (v3789 : BitVec 32) : Prop :=
  (∀ (k0_h1 : k0_cond1 i = 1#1), ∀ a, (k0_off237 v3789) a + S1x1024.size a ≤ S79872x1024.size a)
theorem k0_off237_inb : ∀ (i : grid0.Coords) (v3789 : BitVec 32) (k0_hw237 : k0_chk237 i v3789), ∀ (k0_h1 : k0_cond1 i = 1#1), ∀ a, (k0_off237 v3789) a + S1x1024.size a ≤ S79872x1024.size a := fun i v3789 k0_hw237 k0_h1 => k0_hw237 k0_h1

def k0_off238 (v3795 : BitVec 32) : Fin 2 → Nat :=
  let c0_i32_2253 : BitVec 32 := 0#32
  ![v3795.toNat, 0]

def k0_chk238 (i : grid0.Coords) (v3795 : BitVec 32) : Prop :=
  (∀ (k0_h1 : k0_cond1 i = 1#1), ∀ a, (k0_off238 v3795) a + S1x1024.size a ≤ S79872x1024.size a)
theorem k0_off238_inb : ∀ (i : grid0.Coords) (v3795 : BitVec 32) (k0_hw238 : k0_chk238 i v3795), ∀ (k0_h1 : k0_cond1 i = 1#1), ∀ a, (k0_off238 v3795) a + S1x1024.size a ≤ S79872x1024.size a := fun i v3795 k0_hw238 k0_h1 => k0_hw238 k0_h1

def k0_off239 (v3801 : BitVec 32) : Fin 2 → Nat :=
  let c0_i32_2258 : BitVec 32 := 0#32
  ![v3801.toNat, 0]

def k0_chk239 (i : grid0.Coords) (v3801 : BitVec 32) : Prop :=
  (∀ (k0_h1 : k0_cond1 i = 1#1), ∀ a, (k0_off239 v3801) a + S1x1024.size a ≤ S79872x1024.size a)
theorem k0_off239_inb : ∀ (i : grid0.Coords) (v3801 : BitVec 32) (k0_hw239 : k0_chk239 i v3801), ∀ (k0_h1 : k0_cond1 i = 1#1), ∀ a, (k0_off239 v3801) a + S1x1024.size a ≤ S79872x1024.size a := fun i v3801 k0_hw239 k0_h1 => k0_hw239 k0_h1

def k0_off240 (v3807 : BitVec 32) : Fin 2 → Nat :=
  let c0_i32_2263 : BitVec 32 := 0#32
  ![v3807.toNat, 0]

def k0_chk240 (i : grid0.Coords) (v3807 : BitVec 32) : Prop :=
  (∀ (k0_h1 : k0_cond1 i = 1#1), ∀ a, (k0_off240 v3807) a + S1x1024.size a ≤ S79872x1024.size a)
theorem k0_off240_inb : ∀ (i : grid0.Coords) (v3807 : BitVec 32) (k0_hw240 : k0_chk240 i v3807), ∀ (k0_h1 : k0_cond1 i = 1#1), ∀ a, (k0_off240 v3807) a + S1x1024.size a ≤ S79872x1024.size a := fun i v3807 k0_hw240 k0_h1 => k0_hw240 k0_h1

def k0_off241 (v3813 : BitVec 32) : Fin 2 → Nat :=
  let c0_i32_2268 : BitVec 32 := 0#32
  ![v3813.toNat, 0]

def k0_chk241 (i : grid0.Coords) (v3813 : BitVec 32) : Prop :=
  (∀ (k0_h1 : k0_cond1 i = 1#1), ∀ a, (k0_off241 v3813) a + S1x1024.size a ≤ S79872x1024.size a)
theorem k0_off241_inb : ∀ (i : grid0.Coords) (v3813 : BitVec 32) (k0_hw241 : k0_chk241 i v3813), ∀ (k0_h1 : k0_cond1 i = 1#1), ∀ a, (k0_off241 v3813) a + S1x1024.size a ≤ S79872x1024.size a := fun i v3813 k0_hw241 k0_h1 => k0_hw241 k0_h1

def k0_off242 (v3819 : BitVec 32) : Fin 2 → Nat :=
  let c0_i32_2273 : BitVec 32 := 0#32
  ![v3819.toNat, 0]

def k0_chk242 (i : grid0.Coords) (v3819 : BitVec 32) : Prop :=
  (∀ (k0_h1 : k0_cond1 i = 1#1), ∀ a, (k0_off242 v3819) a + S1x1024.size a ≤ S79872x1024.size a)
theorem k0_off242_inb : ∀ (i : grid0.Coords) (v3819 : BitVec 32) (k0_hw242 : k0_chk242 i v3819), ∀ (k0_h1 : k0_cond1 i = 1#1), ∀ a, (k0_off242 v3819) a + S1x1024.size a ≤ S79872x1024.size a := fun i v3819 k0_hw242 k0_h1 => k0_hw242 k0_h1

def k0_off243 (v3825 : BitVec 32) : Fin 2 → Nat :=
  let c0_i32_2278 : BitVec 32 := 0#32
  ![v3825.toNat, 0]

def k0_chk243 (i : grid0.Coords) (v3825 : BitVec 32) : Prop :=
  (∀ (k0_h1 : k0_cond1 i = 1#1), ∀ a, (k0_off243 v3825) a + S1x1024.size a ≤ S79872x1024.size a)
theorem k0_off243_inb : ∀ (i : grid0.Coords) (v3825 : BitVec 32) (k0_hw243 : k0_chk243 i v3825), ∀ (k0_h1 : k0_cond1 i = 1#1), ∀ a, (k0_off243 v3825) a + S1x1024.size a ≤ S79872x1024.size a := fun i v3825 k0_hw243 k0_h1 => k0_hw243 k0_h1

def k0_off244 (v3831 : BitVec 32) : Fin 2 → Nat :=
  let c0_i32_2283 : BitVec 32 := 0#32
  ![v3831.toNat, 0]

def k0_chk244 (i : grid0.Coords) (v3831 : BitVec 32) : Prop :=
  (∀ (k0_h1 : k0_cond1 i = 1#1), ∀ a, (k0_off244 v3831) a + S1x1024.size a ≤ S79872x1024.size a)
theorem k0_off244_inb : ∀ (i : grid0.Coords) (v3831 : BitVec 32) (k0_hw244 : k0_chk244 i v3831), ∀ (k0_h1 : k0_cond1 i = 1#1), ∀ a, (k0_off244 v3831) a + S1x1024.size a ≤ S79872x1024.size a := fun i v3831 k0_hw244 k0_h1 => k0_hw244 k0_h1

def k0_off245 (v3837 : BitVec 32) : Fin 2 → Nat :=
  let c0_i32_2288 : BitVec 32 := 0#32
  ![v3837.toNat, 0]

def k0_chk245 (i : grid0.Coords) (v3837 : BitVec 32) : Prop :=
  (∀ (k0_h1 : k0_cond1 i = 1#1), ∀ a, (k0_off245 v3837) a + S1x1024.size a ≤ S79872x1024.size a)
theorem k0_off245_inb : ∀ (i : grid0.Coords) (v3837 : BitVec 32) (k0_hw245 : k0_chk245 i v3837), ∀ (k0_h1 : k0_cond1 i = 1#1), ∀ a, (k0_off245 v3837) a + S1x1024.size a ≤ S79872x1024.size a := fun i v3837 k0_hw245 k0_h1 => k0_hw245 k0_h1

def k0_off246 (v3843 : BitVec 32) : Fin 2 → Nat :=
  let c0_i32_2293 : BitVec 32 := 0#32
  ![v3843.toNat, 0]

def k0_chk246 (i : grid0.Coords) (v3843 : BitVec 32) : Prop :=
  (∀ (k0_h1 : k0_cond1 i = 1#1), ∀ a, (k0_off246 v3843) a + S1x1024.size a ≤ S79872x1024.size a)
theorem k0_off246_inb : ∀ (i : grid0.Coords) (v3843 : BitVec 32) (k0_hw246 : k0_chk246 i v3843), ∀ (k0_h1 : k0_cond1 i = 1#1), ∀ a, (k0_off246 v3843) a + S1x1024.size a ≤ S79872x1024.size a := fun i v3843 k0_hw246 k0_h1 => k0_hw246 k0_h1

def k0_off247 (v3849 : BitVec 32) : Fin 2 → Nat :=
  let c0_i32_2298 : BitVec 32 := 0#32
  ![v3849.toNat, 0]

def k0_chk247 (i : grid0.Coords) (v3849 : BitVec 32) : Prop :=
  (∀ (k0_h1 : k0_cond1 i = 1#1), ∀ a, (k0_off247 v3849) a + S1x1024.size a ≤ S79872x1024.size a)
theorem k0_off247_inb : ∀ (i : grid0.Coords) (v3849 : BitVec 32) (k0_hw247 : k0_chk247 i v3849), ∀ (k0_h1 : k0_cond1 i = 1#1), ∀ a, (k0_off247 v3849) a + S1x1024.size a ≤ S79872x1024.size a := fun i v3849 k0_hw247 k0_h1 => k0_hw247 k0_h1

def k0_off248 (v3855 : BitVec 32) : Fin 2 → Nat :=
  let c0_i32_2303 : BitVec 32 := 0#32
  ![v3855.toNat, 0]

def k0_chk248 (i : grid0.Coords) (v3855 : BitVec 32) : Prop :=
  (∀ (k0_h1 : k0_cond1 i = 1#1), ∀ a, (k0_off248 v3855) a + S1x1024.size a ≤ S79872x1024.size a)
theorem k0_off248_inb : ∀ (i : grid0.Coords) (v3855 : BitVec 32) (k0_hw248 : k0_chk248 i v3855), ∀ (k0_h1 : k0_cond1 i = 1#1), ∀ a, (k0_off248 v3855) a + S1x1024.size a ≤ S79872x1024.size a := fun i v3855 k0_hw248 k0_h1 => k0_hw248 k0_h1

def k0_off249 (v3861 : BitVec 32) : Fin 2 → Nat :=
  let c0_i32_2308 : BitVec 32 := 0#32
  ![v3861.toNat, 0]

def k0_chk249 (i : grid0.Coords) (v3861 : BitVec 32) : Prop :=
  (∀ (k0_h1 : k0_cond1 i = 1#1), ∀ a, (k0_off249 v3861) a + S1x1024.size a ≤ S79872x1024.size a)
theorem k0_off249_inb : ∀ (i : grid0.Coords) (v3861 : BitVec 32) (k0_hw249 : k0_chk249 i v3861), ∀ (k0_h1 : k0_cond1 i = 1#1), ∀ a, (k0_off249 v3861) a + S1x1024.size a ≤ S79872x1024.size a := fun i v3861 k0_hw249 k0_h1 => k0_hw249 k0_h1

def k0_off250 (v3867 : BitVec 32) : Fin 2 → Nat :=
  let c0_i32_2313 : BitVec 32 := 0#32
  ![v3867.toNat, 0]

def k0_chk250 (i : grid0.Coords) (v3867 : BitVec 32) : Prop :=
  (∀ (k0_h1 : k0_cond1 i = 1#1), ∀ a, (k0_off250 v3867) a + S1x1024.size a ≤ S79872x1024.size a)
theorem k0_off250_inb : ∀ (i : grid0.Coords) (v3867 : BitVec 32) (k0_hw250 : k0_chk250 i v3867), ∀ (k0_h1 : k0_cond1 i = 1#1), ∀ a, (k0_off250 v3867) a + S1x1024.size a ≤ S79872x1024.size a := fun i v3867 k0_hw250 k0_h1 => k0_hw250 k0_h1

def k0_off251 (v3873 : BitVec 32) : Fin 2 → Nat :=
  let c0_i32_2318 : BitVec 32 := 0#32
  ![v3873.toNat, 0]

def k0_chk251 (i : grid0.Coords) (v3873 : BitVec 32) : Prop :=
  (∀ (k0_h1 : k0_cond1 i = 1#1), ∀ a, (k0_off251 v3873) a + S1x1024.size a ≤ S79872x1024.size a)
theorem k0_off251_inb : ∀ (i : grid0.Coords) (v3873 : BitVec 32) (k0_hw251 : k0_chk251 i v3873), ∀ (k0_h1 : k0_cond1 i = 1#1), ∀ a, (k0_off251 v3873) a + S1x1024.size a ≤ S79872x1024.size a := fun i v3873 k0_hw251 k0_h1 => k0_hw251 k0_h1

def k0_off252 (v3879 : BitVec 32) : Fin 2 → Nat :=
  let c0_i32_2323 : BitVec 32 := 0#32
  ![v3879.toNat, 0]

def k0_chk252 (i : grid0.Coords) (v3879 : BitVec 32) : Prop :=
  (∀ (k0_h1 : k0_cond1 i = 1#1), ∀ a, (k0_off252 v3879) a + S1x1024.size a ≤ S79872x1024.size a)
theorem k0_off252_inb : ∀ (i : grid0.Coords) (v3879 : BitVec 32) (k0_hw252 : k0_chk252 i v3879), ∀ (k0_h1 : k0_cond1 i = 1#1), ∀ a, (k0_off252 v3879) a + S1x1024.size a ≤ S79872x1024.size a := fun i v3879 k0_hw252 k0_h1 => k0_hw252 k0_h1

def k0_off253 (v3885 : BitVec 32) : Fin 2 → Nat :=
  let c0_i32_2328 : BitVec 32 := 0#32
  ![v3885.toNat, 0]

def k0_chk253 (i : grid0.Coords) (v3885 : BitVec 32) : Prop :=
  (∀ (k0_h1 : k0_cond1 i = 1#1), ∀ a, (k0_off253 v3885) a + S1x1024.size a ≤ S79872x1024.size a)
theorem k0_off253_inb : ∀ (i : grid0.Coords) (v3885 : BitVec 32) (k0_hw253 : k0_chk253 i v3885), ∀ (k0_h1 : k0_cond1 i = 1#1), ∀ a, (k0_off253 v3885) a + S1x1024.size a ≤ S79872x1024.size a := fun i v3885 k0_hw253 k0_h1 => k0_hw253 k0_h1

def k0_off254 (v3891 : BitVec 32) : Fin 2 → Nat :=
  let c0_i32_2333 : BitVec 32 := 0#32
  ![v3891.toNat, 0]

def k0_chk254 (i : grid0.Coords) (v3891 : BitVec 32) : Prop :=
  (∀ (k0_h1 : k0_cond1 i = 1#1), ∀ a, (k0_off254 v3891) a + S1x1024.size a ≤ S79872x1024.size a)
theorem k0_off254_inb : ∀ (i : grid0.Coords) (v3891 : BitVec 32) (k0_hw254 : k0_chk254 i v3891), ∀ (k0_h1 : k0_cond1 i = 1#1), ∀ a, (k0_off254 v3891) a + S1x1024.size a ≤ S79872x1024.size a := fun i v3891 k0_hw254 k0_h1 => k0_hw254 k0_h1

def k0_off255 (v3897 : BitVec 32) : Fin 2 → Nat :=
  let c0_i32_2338 : BitVec 32 := 0#32
  ![v3897.toNat, 0]

def k0_chk255 (i : grid0.Coords) (v3897 : BitVec 32) : Prop :=
  (∀ (k0_h1 : k0_cond1 i = 1#1), ∀ a, (k0_off255 v3897) a + S1x1024.size a ≤ S79872x1024.size a)
theorem k0_off255_inb : ∀ (i : grid0.Coords) (v3897 : BitVec 32) (k0_hw255 : k0_chk255 i v3897), ∀ (k0_h1 : k0_cond1 i = 1#1), ∀ a, (k0_off255 v3897) a + S1x1024.size a ≤ S79872x1024.size a := fun i v3897 k0_hw255 k0_h1 => k0_hw255 k0_h1

def k0_off256 (v3903 : BitVec 32) : Fin 2 → Nat :=
  let c0_i32_2343 : BitVec 32 := 0#32
  ![v3903.toNat, 0]

def k0_chk256 (i : grid0.Coords) (v3903 : BitVec 32) : Prop :=
  (∀ (k0_h1 : k0_cond1 i = 1#1), ∀ a, (k0_off256 v3903) a + S1x1024.size a ≤ S79872x1024.size a)
theorem k0_off256_inb : ∀ (i : grid0.Coords) (v3903 : BitVec 32) (k0_hw256 : k0_chk256 i v3903), ∀ (k0_h1 : k0_cond1 i = 1#1), ∀ a, (k0_off256 v3903) a + S1x1024.size a ≤ S79872x1024.size a := fun i v3903 k0_hw256 k0_h1 => k0_hw256 k0_h1

def k0_off257 (i : grid0.Coords) : Fin 1 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off258 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![v12.toNat, 0, 0]
def k0_off259 (i : grid0.Coords) : Fin 3 → Nat :=
  let arg0 : BitVec 32 := BitVec.ofNat 32 (i 0).val
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi arg0 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let v28 : Index := Scalar.indexCast v27
  let c0 : Index := 0#32
  let c0_15 : Index := 0#32
  ![v28.toNat, 0, 0]
def k0_off260 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32 : BitVec 32 := 256#32
  let v66 : BitVec 32 := Scalar.muli v54 c256_i32
  let c0_i32_33 : BitVec 32 := 0#32
  let v67 : BitVec 32 := Scalar.addi v66 c0_i32_33
  let v68 : Index := Scalar.indexCast v67
  ![v68.toNat]
def k0_off261 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off262 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_34 : BitVec 32 := 0#32
  let c0_i32_35 : BitVec 32 := 0#32
  ![v65.toNat, 0, 0]
def k0_off263 (v69 : BitVec 32) : Fin 2 → Nat :=
  let c0_i32_36 : BitVec 32 := 0#32
  ![v69.toNat, 0]

def k0_chk257 (v69 : BitVec 32) : Prop :=
  (∀ a, (k0_off263 v69) a + S1x1024.size a ≤ S79872x1024.size a)
theorem k0_off263_inb : ∀ (v69 : BitVec 32) (k0_hw257 : k0_chk257 v69), ∀ a, (k0_off263 v69) a + S1x1024.size a ≤ S79872x1024.size a := fun v69 k0_hw257 => k0_hw257

def k0_off264 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_37 : BitVec 32 := 256#32
  let v75 : BitVec 32 := Scalar.muli v54 c256_i32_37
  let c1_i32_38 : BitVec 32 := 1#32
  let v76 : BitVec 32 := Scalar.addi v75 c1_i32_38
  let v77 : Index := Scalar.indexCast v76
  ![v77.toNat]
def k0_off265 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off266 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c1_i32_39 : BitVec 32 := 1#32
  let c0_i32_40 : BitVec 32 := 0#32
  ![v65.toNat, 1, 0]
def k0_off267 (v78 : BitVec 32) : Fin 2 → Nat :=
  let c0_i32_41 : BitVec 32 := 0#32
  ![v78.toNat, 0]

def k0_chk258 (v78 : BitVec 32) : Prop :=
  (∀ a, (k0_off267 v78) a + S1x1024.size a ≤ S79872x1024.size a)
theorem k0_off267_inb : ∀ (v78 : BitVec 32) (k0_hw258 : k0_chk258 v78), ∀ a, (k0_off267 v78) a + S1x1024.size a ≤ S79872x1024.size a := fun v78 k0_hw258 => k0_hw258

def k0_off268 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_42 : BitVec 32 := 256#32
  let v84 : BitVec 32 := Scalar.muli v54 c256_i32_42
  let c2_i32_43 : BitVec 32 := 2#32
  let v85 : BitVec 32 := Scalar.addi v84 c2_i32_43
  let v86 : Index := Scalar.indexCast v85
  ![v86.toNat]
def k0_off269 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off270 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_44 : BitVec 32 := 2#32
  let c0_i32_45 : BitVec 32 := 0#32
  ![v65.toNat, 2, 0]
def k0_off271 (v87 : BitVec 32) : Fin 2 → Nat :=
  let c0_i32_46 : BitVec 32 := 0#32
  ![v87.toNat, 0]

def k0_chk259 (v87 : BitVec 32) : Prop :=
  (∀ a, (k0_off271 v87) a + S1x1024.size a ≤ S79872x1024.size a)
theorem k0_off271_inb : ∀ (v87 : BitVec 32) (k0_hw259 : k0_chk259 v87), ∀ a, (k0_off271 v87) a + S1x1024.size a ≤ S79872x1024.size a := fun v87 k0_hw259 => k0_hw259

def k0_off272 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_47 : BitVec 32 := 256#32
  let v93 : BitVec 32 := Scalar.muli v54 c256_i32_47
  let c3_i32 : BitVec 32 := 3#32
  let v94 : BitVec 32 := Scalar.addi v93 c3_i32
  let v95 : Index := Scalar.indexCast v94
  ![v95.toNat]
def k0_off273 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off274 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c3_i32_48 : BitVec 32 := 3#32
  let c0_i32_49 : BitVec 32 := 0#32
  ![v65.toNat, 3, 0]
def k0_off275 (v96 : BitVec 32) : Fin 2 → Nat :=
  let c0_i32_50 : BitVec 32 := 0#32
  ![v96.toNat, 0]

def k0_chk260 (v96 : BitVec 32) : Prop :=
  (∀ a, (k0_off275 v96) a + S1x1024.size a ≤ S79872x1024.size a)
theorem k0_off275_inb : ∀ (v96 : BitVec 32) (k0_hw260 : k0_chk260 v96), ∀ a, (k0_off275 v96) a + S1x1024.size a ≤ S79872x1024.size a := fun v96 k0_hw260 => k0_hw260

def k0_off276 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_51 : BitVec 32 := 256#32
  let v102 : BitVec 32 := Scalar.muli v54 c256_i32_51
  let c4_i32 : BitVec 32 := 4#32
  let v103 : BitVec 32 := Scalar.addi v102 c4_i32
  let v104 : Index := Scalar.indexCast v103
  ![v104.toNat]
def k0_off277 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off278 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c4_i32_52 : BitVec 32 := 4#32
  let c0_i32_53 : BitVec 32 := 0#32
  ![v65.toNat, 4, 0]
def k0_off279 (v105 : BitVec 32) : Fin 2 → Nat :=
  let c0_i32_54 : BitVec 32 := 0#32
  ![v105.toNat, 0]

def k0_chk261 (v105 : BitVec 32) : Prop :=
  (∀ a, (k0_off279 v105) a + S1x1024.size a ≤ S79872x1024.size a)
theorem k0_off279_inb : ∀ (v105 : BitVec 32) (k0_hw261 : k0_chk261 v105), ∀ a, (k0_off279 v105) a + S1x1024.size a ≤ S79872x1024.size a := fun v105 k0_hw261 => k0_hw261

def k0_off280 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_55 : BitVec 32 := 256#32
  let v111 : BitVec 32 := Scalar.muli v54 c256_i32_55
  let c5_i32 : BitVec 32 := 5#32
  let v112 : BitVec 32 := Scalar.addi v111 c5_i32
  let v113 : Index := Scalar.indexCast v112
  ![v113.toNat]
def k0_off281 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off282 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c5_i32_56 : BitVec 32 := 5#32
  let c0_i32_57 : BitVec 32 := 0#32
  ![v65.toNat, 5, 0]
def k0_off283 (v114 : BitVec 32) : Fin 2 → Nat :=
  let c0_i32_58 : BitVec 32 := 0#32
  ![v114.toNat, 0]

def k0_chk262 (v114 : BitVec 32) : Prop :=
  (∀ a, (k0_off283 v114) a + S1x1024.size a ≤ S79872x1024.size a)
theorem k0_off283_inb : ∀ (v114 : BitVec 32) (k0_hw262 : k0_chk262 v114), ∀ a, (k0_off283 v114) a + S1x1024.size a ≤ S79872x1024.size a := fun v114 k0_hw262 => k0_hw262

def k0_off284 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_59 : BitVec 32 := 256#32
  let v120 : BitVec 32 := Scalar.muli v54 c256_i32_59
  let c6_i32 : BitVec 32 := 6#32
  let v121 : BitVec 32 := Scalar.addi v120 c6_i32
  let v122 : Index := Scalar.indexCast v121
  ![v122.toNat]
def k0_off285 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off286 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c6_i32_60 : BitVec 32 := 6#32
  let c0_i32_61 : BitVec 32 := 0#32
  ![v65.toNat, 6, 0]
def k0_off287 (v123 : BitVec 32) : Fin 2 → Nat :=
  let c0_i32_62 : BitVec 32 := 0#32
  ![v123.toNat, 0]

def k0_chk263 (v123 : BitVec 32) : Prop :=
  (∀ a, (k0_off287 v123) a + S1x1024.size a ≤ S79872x1024.size a)
theorem k0_off287_inb : ∀ (v123 : BitVec 32) (k0_hw263 : k0_chk263 v123), ∀ a, (k0_off287 v123) a + S1x1024.size a ≤ S79872x1024.size a := fun v123 k0_hw263 => k0_hw263

def k0_off288 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_63 : BitVec 32 := 256#32
  let v129 : BitVec 32 := Scalar.muli v54 c256_i32_63
  let c7_i32 : BitVec 32 := 7#32
  let v130 : BitVec 32 := Scalar.addi v129 c7_i32
  let v131 : Index := Scalar.indexCast v130
  ![v131.toNat]
def k0_off289 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off290 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c7_i32_64 : BitVec 32 := 7#32
  let c0_i32_65 : BitVec 32 := 0#32
  ![v65.toNat, 7, 0]
def k0_off291 (v132 : BitVec 32) : Fin 2 → Nat :=
  let c0_i32_66 : BitVec 32 := 0#32
  ![v132.toNat, 0]

def k0_chk264 (v132 : BitVec 32) : Prop :=
  (∀ a, (k0_off291 v132) a + S1x1024.size a ≤ S79872x1024.size a)
theorem k0_off291_inb : ∀ (v132 : BitVec 32) (k0_hw264 : k0_chk264 v132), ∀ a, (k0_off291 v132) a + S1x1024.size a ≤ S79872x1024.size a := fun v132 k0_hw264 => k0_hw264

def k0_off292 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_67 : BitVec 32 := 256#32
  let v138 : BitVec 32 := Scalar.muli v54 c256_i32_67
  let c8_i32 : BitVec 32 := 8#32
  let v139 : BitVec 32 := Scalar.addi v138 c8_i32
  let v140 : Index := Scalar.indexCast v139
  ![v140.toNat]
def k0_off293 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off294 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c8_i32_68 : BitVec 32 := 8#32
  let c0_i32_69 : BitVec 32 := 0#32
  ![v65.toNat, 8, 0]
def k0_off295 (v141 : BitVec 32) : Fin 2 → Nat :=
  let c0_i32_70 : BitVec 32 := 0#32
  ![v141.toNat, 0]

def k0_chk265 (v141 : BitVec 32) : Prop :=
  (∀ a, (k0_off295 v141) a + S1x1024.size a ≤ S79872x1024.size a)
theorem k0_off295_inb : ∀ (v141 : BitVec 32) (k0_hw265 : k0_chk265 v141), ∀ a, (k0_off295 v141) a + S1x1024.size a ≤ S79872x1024.size a := fun v141 k0_hw265 => k0_hw265

def k0_off296 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_71 : BitVec 32 := 256#32
  let v147 : BitVec 32 := Scalar.muli v54 c256_i32_71
  let c9_i32 : BitVec 32 := 9#32
  let v148 : BitVec 32 := Scalar.addi v147 c9_i32
  let v149 : Index := Scalar.indexCast v148
  ![v149.toNat]
def k0_off297 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off298 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c9_i32_72 : BitVec 32 := 9#32
  let c0_i32_73 : BitVec 32 := 0#32
  ![v65.toNat, 9, 0]
def k0_off299 (v150 : BitVec 32) : Fin 2 → Nat :=
  let c0_i32_74 : BitVec 32 := 0#32
  ![v150.toNat, 0]

def k0_chk266 (v150 : BitVec 32) : Prop :=
  (∀ a, (k0_off299 v150) a + S1x1024.size a ≤ S79872x1024.size a)
theorem k0_off299_inb : ∀ (v150 : BitVec 32) (k0_hw266 : k0_chk266 v150), ∀ a, (k0_off299 v150) a + S1x1024.size a ≤ S79872x1024.size a := fun v150 k0_hw266 => k0_hw266

def k0_off300 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_75 : BitVec 32 := 256#32
  let v156 : BitVec 32 := Scalar.muli v54 c256_i32_75
  let c10_i32 : BitVec 32 := 10#32
  let v157 : BitVec 32 := Scalar.addi v156 c10_i32
  let v158 : Index := Scalar.indexCast v157
  ![v158.toNat]
def k0_off301 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off302 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c10_i32_76 : BitVec 32 := 10#32
  let c0_i32_77 : BitVec 32 := 0#32
  ![v65.toNat, 10, 0]
def k0_off303 (v159 : BitVec 32) : Fin 2 → Nat :=
  let c0_i32_78 : BitVec 32 := 0#32
  ![v159.toNat, 0]

def k0_chk267 (v159 : BitVec 32) : Prop :=
  (∀ a, (k0_off303 v159) a + S1x1024.size a ≤ S79872x1024.size a)
theorem k0_off303_inb : ∀ (v159 : BitVec 32) (k0_hw267 : k0_chk267 v159), ∀ a, (k0_off303 v159) a + S1x1024.size a ≤ S79872x1024.size a := fun v159 k0_hw267 => k0_hw267

def k0_off304 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_79 : BitVec 32 := 256#32
  let v165 : BitVec 32 := Scalar.muli v54 c256_i32_79
  let c11_i32 : BitVec 32 := 11#32
  let v166 : BitVec 32 := Scalar.addi v165 c11_i32
  let v167 : Index := Scalar.indexCast v166
  ![v167.toNat]
def k0_off305 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off306 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c11_i32_80 : BitVec 32 := 11#32
  let c0_i32_81 : BitVec 32 := 0#32
  ![v65.toNat, 11, 0]
def k0_off307 (v168 : BitVec 32) : Fin 2 → Nat :=
  let c0_i32_82 : BitVec 32 := 0#32
  ![v168.toNat, 0]

def k0_chk268 (v168 : BitVec 32) : Prop :=
  (∀ a, (k0_off307 v168) a + S1x1024.size a ≤ S79872x1024.size a)
theorem k0_off307_inb : ∀ (v168 : BitVec 32) (k0_hw268 : k0_chk268 v168), ∀ a, (k0_off307 v168) a + S1x1024.size a ≤ S79872x1024.size a := fun v168 k0_hw268 => k0_hw268

def k0_off308 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_83 : BitVec 32 := 256#32
  let v174 : BitVec 32 := Scalar.muli v54 c256_i32_83
  let c12_i32 : BitVec 32 := 12#32
  let v175 : BitVec 32 := Scalar.addi v174 c12_i32
  let v176 : Index := Scalar.indexCast v175
  ![v176.toNat]
def k0_off309 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off310 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c12_i32_84 : BitVec 32 := 12#32
  let c0_i32_85 : BitVec 32 := 0#32
  ![v65.toNat, 12, 0]
def k0_off311 (v177 : BitVec 32) : Fin 2 → Nat :=
  let c0_i32_86 : BitVec 32 := 0#32
  ![v177.toNat, 0]

def k0_chk269 (v177 : BitVec 32) : Prop :=
  (∀ a, (k0_off311 v177) a + S1x1024.size a ≤ S79872x1024.size a)
theorem k0_off311_inb : ∀ (v177 : BitVec 32) (k0_hw269 : k0_chk269 v177), ∀ a, (k0_off311 v177) a + S1x1024.size a ≤ S79872x1024.size a := fun v177 k0_hw269 => k0_hw269

def k0_off312 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_87 : BitVec 32 := 256#32
  let v183 : BitVec 32 := Scalar.muli v54 c256_i32_87
  let c13_i32 : BitVec 32 := 13#32
  let v184 : BitVec 32 := Scalar.addi v183 c13_i32
  let v185 : Index := Scalar.indexCast v184
  ![v185.toNat]
def k0_off313 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off314 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c13_i32_88 : BitVec 32 := 13#32
  let c0_i32_89 : BitVec 32 := 0#32
  ![v65.toNat, 13, 0]
def k0_off315 (v186 : BitVec 32) : Fin 2 → Nat :=
  let c0_i32_90 : BitVec 32 := 0#32
  ![v186.toNat, 0]

def k0_chk270 (v186 : BitVec 32) : Prop :=
  (∀ a, (k0_off315 v186) a + S1x1024.size a ≤ S79872x1024.size a)
theorem k0_off315_inb : ∀ (v186 : BitVec 32) (k0_hw270 : k0_chk270 v186), ∀ a, (k0_off315 v186) a + S1x1024.size a ≤ S79872x1024.size a := fun v186 k0_hw270 => k0_hw270

def k0_off316 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_91 : BitVec 32 := 256#32
  let v192 : BitVec 32 := Scalar.muli v54 c256_i32_91
  let c14_i32 : BitVec 32 := 14#32
  let v193 : BitVec 32 := Scalar.addi v192 c14_i32
  let v194 : Index := Scalar.indexCast v193
  ![v194.toNat]
def k0_off317 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off318 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c14_i32_92 : BitVec 32 := 14#32
  let c0_i32_93 : BitVec 32 := 0#32
  ![v65.toNat, 14, 0]
def k0_off319 (v195 : BitVec 32) : Fin 2 → Nat :=
  let c0_i32_94 : BitVec 32 := 0#32
  ![v195.toNat, 0]

def k0_chk271 (v195 : BitVec 32) : Prop :=
  (∀ a, (k0_off319 v195) a + S1x1024.size a ≤ S79872x1024.size a)
theorem k0_off319_inb : ∀ (v195 : BitVec 32) (k0_hw271 : k0_chk271 v195), ∀ a, (k0_off319 v195) a + S1x1024.size a ≤ S79872x1024.size a := fun v195 k0_hw271 => k0_hw271

def k0_off320 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_95 : BitVec 32 := 256#32
  let v201 : BitVec 32 := Scalar.muli v54 c256_i32_95
  let c15_i32 : BitVec 32 := 15#32
  let v202 : BitVec 32 := Scalar.addi v201 c15_i32
  let v203 : Index := Scalar.indexCast v202
  ![v203.toNat]
def k0_off321 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off322 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c15_i32_96 : BitVec 32 := 15#32
  let c0_i32_97 : BitVec 32 := 0#32
  ![v65.toNat, 15, 0]
def k0_off323 (v204 : BitVec 32) : Fin 2 → Nat :=
  let c0_i32_98 : BitVec 32 := 0#32
  ![v204.toNat, 0]

def k0_chk272 (v204 : BitVec 32) : Prop :=
  (∀ a, (k0_off323 v204) a + S1x1024.size a ≤ S79872x1024.size a)
theorem k0_off323_inb : ∀ (v204 : BitVec 32) (k0_hw272 : k0_chk272 v204), ∀ a, (k0_off323 v204) a + S1x1024.size a ≤ S79872x1024.size a := fun v204 k0_hw272 => k0_hw272

def k0_off324 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_99 : BitVec 32 := 256#32
  let v210 : BitVec 32 := Scalar.muli v54 c256_i32_99
  let c16_i32_100 : BitVec 32 := 16#32
  let v211 : BitVec 32 := Scalar.addi v210 c16_i32_100
  let v212 : Index := Scalar.indexCast v211
  ![v212.toNat]
def k0_off325 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off326 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c16_i32_101 : BitVec 32 := 16#32
  let c0_i32_102 : BitVec 32 := 0#32
  ![v65.toNat, 16, 0]
def k0_off327 (v213 : BitVec 32) : Fin 2 → Nat :=
  let c0_i32_103 : BitVec 32 := 0#32
  ![v213.toNat, 0]

def k0_chk273 (v213 : BitVec 32) : Prop :=
  (∀ a, (k0_off327 v213) a + S1x1024.size a ≤ S79872x1024.size a)
theorem k0_off327_inb : ∀ (v213 : BitVec 32) (k0_hw273 : k0_chk273 v213), ∀ a, (k0_off327 v213) a + S1x1024.size a ≤ S79872x1024.size a := fun v213 k0_hw273 => k0_hw273

def k0_off328 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_104 : BitVec 32 := 256#32
  let v219 : BitVec 32 := Scalar.muli v54 c256_i32_104
  let c17_i32 : BitVec 32 := 17#32
  let v220 : BitVec 32 := Scalar.addi v219 c17_i32
  let v221 : Index := Scalar.indexCast v220
  ![v221.toNat]
def k0_off329 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off330 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c17_i32_105 : BitVec 32 := 17#32
  let c0_i32_106 : BitVec 32 := 0#32
  ![v65.toNat, 17, 0]
def k0_off331 (v222 : BitVec 32) : Fin 2 → Nat :=
  let c0_i32_107 : BitVec 32 := 0#32
  ![v222.toNat, 0]

def k0_chk274 (v222 : BitVec 32) : Prop :=
  (∀ a, (k0_off331 v222) a + S1x1024.size a ≤ S79872x1024.size a)
theorem k0_off331_inb : ∀ (v222 : BitVec 32) (k0_hw274 : k0_chk274 v222), ∀ a, (k0_off331 v222) a + S1x1024.size a ≤ S79872x1024.size a := fun v222 k0_hw274 => k0_hw274

def k0_off332 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_108 : BitVec 32 := 256#32
  let v228 : BitVec 32 := Scalar.muli v54 c256_i32_108
  let c18_i32 : BitVec 32 := 18#32
  let v229 : BitVec 32 := Scalar.addi v228 c18_i32
  let v230 : Index := Scalar.indexCast v229
  ![v230.toNat]
def k0_off333 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off334 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c18_i32_109 : BitVec 32 := 18#32
  let c0_i32_110 : BitVec 32 := 0#32
  ![v65.toNat, 18, 0]
def k0_off335 (v231 : BitVec 32) : Fin 2 → Nat :=
  let c0_i32_111 : BitVec 32 := 0#32
  ![v231.toNat, 0]

def k0_chk275 (v231 : BitVec 32) : Prop :=
  (∀ a, (k0_off335 v231) a + S1x1024.size a ≤ S79872x1024.size a)
theorem k0_off335_inb : ∀ (v231 : BitVec 32) (k0_hw275 : k0_chk275 v231), ∀ a, (k0_off335 v231) a + S1x1024.size a ≤ S79872x1024.size a := fun v231 k0_hw275 => k0_hw275

def k0_off336 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_112 : BitVec 32 := 256#32
  let v237 : BitVec 32 := Scalar.muli v54 c256_i32_112
  let c19_i32 : BitVec 32 := 19#32
  let v238 : BitVec 32 := Scalar.addi v237 c19_i32
  let v239 : Index := Scalar.indexCast v238
  ![v239.toNat]
def k0_off337 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off338 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c19_i32_113 : BitVec 32 := 19#32
  let c0_i32_114 : BitVec 32 := 0#32
  ![v65.toNat, 19, 0]
def k0_off339 (v240 : BitVec 32) : Fin 2 → Nat :=
  let c0_i32_115 : BitVec 32 := 0#32
  ![v240.toNat, 0]

def k0_chk276 (v240 : BitVec 32) : Prop :=
  (∀ a, (k0_off339 v240) a + S1x1024.size a ≤ S79872x1024.size a)
theorem k0_off339_inb : ∀ (v240 : BitVec 32) (k0_hw276 : k0_chk276 v240), ∀ a, (k0_off339 v240) a + S1x1024.size a ≤ S79872x1024.size a := fun v240 k0_hw276 => k0_hw276

def k0_off340 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_116 : BitVec 32 := 256#32
  let v246 : BitVec 32 := Scalar.muli v54 c256_i32_116
  let c20_i32 : BitVec 32 := 20#32
  let v247 : BitVec 32 := Scalar.addi v246 c20_i32
  let v248 : Index := Scalar.indexCast v247
  ![v248.toNat]
def k0_off341 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off342 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c20_i32_117 : BitVec 32 := 20#32
  let c0_i32_118 : BitVec 32 := 0#32
  ![v65.toNat, 20, 0]
def k0_off343 (v249 : BitVec 32) : Fin 2 → Nat :=
  let c0_i32_119 : BitVec 32 := 0#32
  ![v249.toNat, 0]

def k0_chk277 (v249 : BitVec 32) : Prop :=
  (∀ a, (k0_off343 v249) a + S1x1024.size a ≤ S79872x1024.size a)
theorem k0_off343_inb : ∀ (v249 : BitVec 32) (k0_hw277 : k0_chk277 v249), ∀ a, (k0_off343 v249) a + S1x1024.size a ≤ S79872x1024.size a := fun v249 k0_hw277 => k0_hw277

def k0_off344 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_120 : BitVec 32 := 256#32
  let v255 : BitVec 32 := Scalar.muli v54 c256_i32_120
  let c21_i32 : BitVec 32 := 21#32
  let v256 : BitVec 32 := Scalar.addi v255 c21_i32
  let v257 : Index := Scalar.indexCast v256
  ![v257.toNat]
def k0_off345 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off346 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c21_i32_121 : BitVec 32 := 21#32
  let c0_i32_122 : BitVec 32 := 0#32
  ![v65.toNat, 21, 0]
def k0_off347 (v258 : BitVec 32) : Fin 2 → Nat :=
  let c0_i32_123 : BitVec 32 := 0#32
  ![v258.toNat, 0]

def k0_chk278 (v258 : BitVec 32) : Prop :=
  (∀ a, (k0_off347 v258) a + S1x1024.size a ≤ S79872x1024.size a)
theorem k0_off347_inb : ∀ (v258 : BitVec 32) (k0_hw278 : k0_chk278 v258), ∀ a, (k0_off347 v258) a + S1x1024.size a ≤ S79872x1024.size a := fun v258 k0_hw278 => k0_hw278

def k0_off348 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_124 : BitVec 32 := 256#32
  let v264 : BitVec 32 := Scalar.muli v54 c256_i32_124
  let c22_i32 : BitVec 32 := 22#32
  let v265 : BitVec 32 := Scalar.addi v264 c22_i32
  let v266 : Index := Scalar.indexCast v265
  ![v266.toNat]
def k0_off349 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off350 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c22_i32_125 : BitVec 32 := 22#32
  let c0_i32_126 : BitVec 32 := 0#32
  ![v65.toNat, 22, 0]
def k0_off351 (v267 : BitVec 32) : Fin 2 → Nat :=
  let c0_i32_127 : BitVec 32 := 0#32
  ![v267.toNat, 0]

def k0_chk279 (v267 : BitVec 32) : Prop :=
  (∀ a, (k0_off351 v267) a + S1x1024.size a ≤ S79872x1024.size a)
theorem k0_off351_inb : ∀ (v267 : BitVec 32) (k0_hw279 : k0_chk279 v267), ∀ a, (k0_off351 v267) a + S1x1024.size a ≤ S79872x1024.size a := fun v267 k0_hw279 => k0_hw279

def k0_off352 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_128 : BitVec 32 := 256#32
  let v273 : BitVec 32 := Scalar.muli v54 c256_i32_128
  let c23_i32 : BitVec 32 := 23#32
  let v274 : BitVec 32 := Scalar.addi v273 c23_i32
  let v275 : Index := Scalar.indexCast v274
  ![v275.toNat]
def k0_off353 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off354 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c23_i32_129 : BitVec 32 := 23#32
  let c0_i32_130 : BitVec 32 := 0#32
  ![v65.toNat, 23, 0]
def k0_off355 (v276 : BitVec 32) : Fin 2 → Nat :=
  let c0_i32_131 : BitVec 32 := 0#32
  ![v276.toNat, 0]

def k0_chk280 (v276 : BitVec 32) : Prop :=
  (∀ a, (k0_off355 v276) a + S1x1024.size a ≤ S79872x1024.size a)
theorem k0_off355_inb : ∀ (v276 : BitVec 32) (k0_hw280 : k0_chk280 v276), ∀ a, (k0_off355 v276) a + S1x1024.size a ≤ S79872x1024.size a := fun v276 k0_hw280 => k0_hw280

def k0_off356 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_132 : BitVec 32 := 256#32
  let v282 : BitVec 32 := Scalar.muli v54 c256_i32_132
  let c24_i32 : BitVec 32 := 24#32
  let v283 : BitVec 32 := Scalar.addi v282 c24_i32
  let v284 : Index := Scalar.indexCast v283
  ![v284.toNat]
def k0_off357 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off358 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c24_i32_133 : BitVec 32 := 24#32
  let c0_i32_134 : BitVec 32 := 0#32
  ![v65.toNat, 24, 0]
def k0_off359 (v285 : BitVec 32) : Fin 2 → Nat :=
  let c0_i32_135 : BitVec 32 := 0#32
  ![v285.toNat, 0]

def k0_chk281 (v285 : BitVec 32) : Prop :=
  (∀ a, (k0_off359 v285) a + S1x1024.size a ≤ S79872x1024.size a)
theorem k0_off359_inb : ∀ (v285 : BitVec 32) (k0_hw281 : k0_chk281 v285), ∀ a, (k0_off359 v285) a + S1x1024.size a ≤ S79872x1024.size a := fun v285 k0_hw281 => k0_hw281

def k0_off360 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_136 : BitVec 32 := 256#32
  let v291 : BitVec 32 := Scalar.muli v54 c256_i32_136
  let c25_i32 : BitVec 32 := 25#32
  let v292 : BitVec 32 := Scalar.addi v291 c25_i32
  let v293 : Index := Scalar.indexCast v292
  ![v293.toNat]
def k0_off361 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off362 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c25_i32_137 : BitVec 32 := 25#32
  let c0_i32_138 : BitVec 32 := 0#32
  ![v65.toNat, 25, 0]
def k0_off363 (v294 : BitVec 32) : Fin 2 → Nat :=
  let c0_i32_139 : BitVec 32 := 0#32
  ![v294.toNat, 0]

def k0_chk282 (v294 : BitVec 32) : Prop :=
  (∀ a, (k0_off363 v294) a + S1x1024.size a ≤ S79872x1024.size a)
theorem k0_off363_inb : ∀ (v294 : BitVec 32) (k0_hw282 : k0_chk282 v294), ∀ a, (k0_off363 v294) a + S1x1024.size a ≤ S79872x1024.size a := fun v294 k0_hw282 => k0_hw282

def k0_off364 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_140 : BitVec 32 := 256#32
  let v300 : BitVec 32 := Scalar.muli v54 c256_i32_140
  let c26_i32 : BitVec 32 := 26#32
  let v301 : BitVec 32 := Scalar.addi v300 c26_i32
  let v302 : Index := Scalar.indexCast v301
  ![v302.toNat]
def k0_off365 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off366 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c26_i32_141 : BitVec 32 := 26#32
  let c0_i32_142 : BitVec 32 := 0#32
  ![v65.toNat, 26, 0]
def k0_off367 (v303 : BitVec 32) : Fin 2 → Nat :=
  let c0_i32_143 : BitVec 32 := 0#32
  ![v303.toNat, 0]

def k0_chk283 (v303 : BitVec 32) : Prop :=
  (∀ a, (k0_off367 v303) a + S1x1024.size a ≤ S79872x1024.size a)
theorem k0_off367_inb : ∀ (v303 : BitVec 32) (k0_hw283 : k0_chk283 v303), ∀ a, (k0_off367 v303) a + S1x1024.size a ≤ S79872x1024.size a := fun v303 k0_hw283 => k0_hw283

def k0_off368 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_144 : BitVec 32 := 256#32
  let v309 : BitVec 32 := Scalar.muli v54 c256_i32_144
  let c27_i32 : BitVec 32 := 27#32
  let v310 : BitVec 32 := Scalar.addi v309 c27_i32
  let v311 : Index := Scalar.indexCast v310
  ![v311.toNat]
def k0_off369 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off370 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c27_i32_145 : BitVec 32 := 27#32
  let c0_i32_146 : BitVec 32 := 0#32
  ![v65.toNat, 27, 0]
def k0_off371 (v312 : BitVec 32) : Fin 2 → Nat :=
  let c0_i32_147 : BitVec 32 := 0#32
  ![v312.toNat, 0]

def k0_chk284 (v312 : BitVec 32) : Prop :=
  (∀ a, (k0_off371 v312) a + S1x1024.size a ≤ S79872x1024.size a)
theorem k0_off371_inb : ∀ (v312 : BitVec 32) (k0_hw284 : k0_chk284 v312), ∀ a, (k0_off371 v312) a + S1x1024.size a ≤ S79872x1024.size a := fun v312 k0_hw284 => k0_hw284

def k0_off372 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_148 : BitVec 32 := 256#32
  let v318 : BitVec 32 := Scalar.muli v54 c256_i32_148
  let c28_i32 : BitVec 32 := 28#32
  let v319 : BitVec 32 := Scalar.addi v318 c28_i32
  let v320 : Index := Scalar.indexCast v319
  ![v320.toNat]
def k0_off373 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off374 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c28_i32_149 : BitVec 32 := 28#32
  let c0_i32_150 : BitVec 32 := 0#32
  ![v65.toNat, 28, 0]
def k0_off375 (v321 : BitVec 32) : Fin 2 → Nat :=
  let c0_i32_151 : BitVec 32 := 0#32
  ![v321.toNat, 0]

def k0_chk285 (v321 : BitVec 32) : Prop :=
  (∀ a, (k0_off375 v321) a + S1x1024.size a ≤ S79872x1024.size a)
theorem k0_off375_inb : ∀ (v321 : BitVec 32) (k0_hw285 : k0_chk285 v321), ∀ a, (k0_off375 v321) a + S1x1024.size a ≤ S79872x1024.size a := fun v321 k0_hw285 => k0_hw285

def k0_off376 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_152 : BitVec 32 := 256#32
  let v327 : BitVec 32 := Scalar.muli v54 c256_i32_152
  let c29_i32 : BitVec 32 := 29#32
  let v328 : BitVec 32 := Scalar.addi v327 c29_i32
  let v329 : Index := Scalar.indexCast v328
  ![v329.toNat]
def k0_off377 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off378 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c29_i32_153 : BitVec 32 := 29#32
  let c0_i32_154 : BitVec 32 := 0#32
  ![v65.toNat, 29, 0]
def k0_off379 (v330 : BitVec 32) : Fin 2 → Nat :=
  let c0_i32_155 : BitVec 32 := 0#32
  ![v330.toNat, 0]

def k0_chk286 (v330 : BitVec 32) : Prop :=
  (∀ a, (k0_off379 v330) a + S1x1024.size a ≤ S79872x1024.size a)
theorem k0_off379_inb : ∀ (v330 : BitVec 32) (k0_hw286 : k0_chk286 v330), ∀ a, (k0_off379 v330) a + S1x1024.size a ≤ S79872x1024.size a := fun v330 k0_hw286 => k0_hw286

def k0_off380 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_156 : BitVec 32 := 256#32
  let v336 : BitVec 32 := Scalar.muli v54 c256_i32_156
  let c30_i32 : BitVec 32 := 30#32
  let v337 : BitVec 32 := Scalar.addi v336 c30_i32
  let v338 : Index := Scalar.indexCast v337
  ![v338.toNat]
def k0_off381 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off382 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c30_i32_157 : BitVec 32 := 30#32
  let c0_i32_158 : BitVec 32 := 0#32
  ![v65.toNat, 30, 0]
def k0_off383 (v339 : BitVec 32) : Fin 2 → Nat :=
  let c0_i32_159 : BitVec 32 := 0#32
  ![v339.toNat, 0]

def k0_chk287 (v339 : BitVec 32) : Prop :=
  (∀ a, (k0_off383 v339) a + S1x1024.size a ≤ S79872x1024.size a)
theorem k0_off383_inb : ∀ (v339 : BitVec 32) (k0_hw287 : k0_chk287 v339), ∀ a, (k0_off383 v339) a + S1x1024.size a ≤ S79872x1024.size a := fun v339 k0_hw287 => k0_hw287

def k0_off384 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_160 : BitVec 32 := 256#32
  let v345 : BitVec 32 := Scalar.muli v54 c256_i32_160
  let c31_i32 : BitVec 32 := 31#32
  let v346 : BitVec 32 := Scalar.addi v345 c31_i32
  let v347 : Index := Scalar.indexCast v346
  ![v347.toNat]
def k0_off385 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off386 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c31_i32_161 : BitVec 32 := 31#32
  let c0_i32_162 : BitVec 32 := 0#32
  ![v65.toNat, 31, 0]
def k0_off387 (v348 : BitVec 32) : Fin 2 → Nat :=
  let c0_i32_163 : BitVec 32 := 0#32
  ![v348.toNat, 0]

def k0_chk288 (v348 : BitVec 32) : Prop :=
  (∀ a, (k0_off387 v348) a + S1x1024.size a ≤ S79872x1024.size a)
theorem k0_off387_inb : ∀ (v348 : BitVec 32) (k0_hw288 : k0_chk288 v348), ∀ a, (k0_off387 v348) a + S1x1024.size a ≤ S79872x1024.size a := fun v348 k0_hw288 => k0_hw288

def k0_off388 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_164 : BitVec 32 := 256#32
  let v354 : BitVec 32 := Scalar.muli v54 c256_i32_164
  let c32_i32 : BitVec 32 := 32#32
  let v355 : BitVec 32 := Scalar.addi v354 c32_i32
  let v356 : Index := Scalar.indexCast v355
  ![v356.toNat]
def k0_off389 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off390 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c32_i32_165 : BitVec 32 := 32#32
  let c0_i32_166 : BitVec 32 := 0#32
  ![v65.toNat, 32, 0]
def k0_off391 (v357 : BitVec 32) : Fin 2 → Nat :=
  let c0_i32_167 : BitVec 32 := 0#32
  ![v357.toNat, 0]

def k0_chk289 (v357 : BitVec 32) : Prop :=
  (∀ a, (k0_off391 v357) a + S1x1024.size a ≤ S79872x1024.size a)
theorem k0_off391_inb : ∀ (v357 : BitVec 32) (k0_hw289 : k0_chk289 v357), ∀ a, (k0_off391 v357) a + S1x1024.size a ≤ S79872x1024.size a := fun v357 k0_hw289 => k0_hw289

def k0_off392 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_168 : BitVec 32 := 256#32
  let v363 : BitVec 32 := Scalar.muli v54 c256_i32_168
  let c33_i32 : BitVec 32 := 33#32
  let v364 : BitVec 32 := Scalar.addi v363 c33_i32
  let v365 : Index := Scalar.indexCast v364
  ![v365.toNat]
def k0_off393 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off394 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c33_i32_169 : BitVec 32 := 33#32
  let c0_i32_170 : BitVec 32 := 0#32
  ![v65.toNat, 33, 0]
def k0_off395 (v366 : BitVec 32) : Fin 2 → Nat :=
  let c0_i32_171 : BitVec 32 := 0#32
  ![v366.toNat, 0]

def k0_chk290 (v366 : BitVec 32) : Prop :=
  (∀ a, (k0_off395 v366) a + S1x1024.size a ≤ S79872x1024.size a)
theorem k0_off395_inb : ∀ (v366 : BitVec 32) (k0_hw290 : k0_chk290 v366), ∀ a, (k0_off395 v366) a + S1x1024.size a ≤ S79872x1024.size a := fun v366 k0_hw290 => k0_hw290

def k0_off396 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_172 : BitVec 32 := 256#32
  let v372 : BitVec 32 := Scalar.muli v54 c256_i32_172
  let c34_i32 : BitVec 32 := 34#32
  let v373 : BitVec 32 := Scalar.addi v372 c34_i32
  let v374 : Index := Scalar.indexCast v373
  ![v374.toNat]
def k0_off397 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off398 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c34_i32_173 : BitVec 32 := 34#32
  let c0_i32_174 : BitVec 32 := 0#32
  ![v65.toNat, 34, 0]
def k0_off399 (v375 : BitVec 32) : Fin 2 → Nat :=
  let c0_i32_175 : BitVec 32 := 0#32
  ![v375.toNat, 0]

def k0_chk291 (v375 : BitVec 32) : Prop :=
  (∀ a, (k0_off399 v375) a + S1x1024.size a ≤ S79872x1024.size a)
theorem k0_off399_inb : ∀ (v375 : BitVec 32) (k0_hw291 : k0_chk291 v375), ∀ a, (k0_off399 v375) a + S1x1024.size a ≤ S79872x1024.size a := fun v375 k0_hw291 => k0_hw291

def k0_off400 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_176 : BitVec 32 := 256#32
  let v381 : BitVec 32 := Scalar.muli v54 c256_i32_176
  let c35_i32 : BitVec 32 := 35#32
  let v382 : BitVec 32 := Scalar.addi v381 c35_i32
  let v383 : Index := Scalar.indexCast v382
  ![v383.toNat]
def k0_off401 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off402 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c35_i32_177 : BitVec 32 := 35#32
  let c0_i32_178 : BitVec 32 := 0#32
  ![v65.toNat, 35, 0]
def k0_off403 (v384 : BitVec 32) : Fin 2 → Nat :=
  let c0_i32_179 : BitVec 32 := 0#32
  ![v384.toNat, 0]

def k0_chk292 (v384 : BitVec 32) : Prop :=
  (∀ a, (k0_off403 v384) a + S1x1024.size a ≤ S79872x1024.size a)
theorem k0_off403_inb : ∀ (v384 : BitVec 32) (k0_hw292 : k0_chk292 v384), ∀ a, (k0_off403 v384) a + S1x1024.size a ≤ S79872x1024.size a := fun v384 k0_hw292 => k0_hw292

def k0_off404 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_180 : BitVec 32 := 256#32
  let v390 : BitVec 32 := Scalar.muli v54 c256_i32_180
  let c36_i32 : BitVec 32 := 36#32
  let v391 : BitVec 32 := Scalar.addi v390 c36_i32
  let v392 : Index := Scalar.indexCast v391
  ![v392.toNat]
def k0_off405 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off406 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c36_i32_181 : BitVec 32 := 36#32
  let c0_i32_182 : BitVec 32 := 0#32
  ![v65.toNat, 36, 0]
def k0_off407 (v393 : BitVec 32) : Fin 2 → Nat :=
  let c0_i32_183 : BitVec 32 := 0#32
  ![v393.toNat, 0]

def k0_chk293 (v393 : BitVec 32) : Prop :=
  (∀ a, (k0_off407 v393) a + S1x1024.size a ≤ S79872x1024.size a)
theorem k0_off407_inb : ∀ (v393 : BitVec 32) (k0_hw293 : k0_chk293 v393), ∀ a, (k0_off407 v393) a + S1x1024.size a ≤ S79872x1024.size a := fun v393 k0_hw293 => k0_hw293

def k0_off408 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_184 : BitVec 32 := 256#32
  let v399 : BitVec 32 := Scalar.muli v54 c256_i32_184
  let c37_i32 : BitVec 32 := 37#32
  let v400 : BitVec 32 := Scalar.addi v399 c37_i32
  let v401 : Index := Scalar.indexCast v400
  ![v401.toNat]
def k0_off409 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off410 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c37_i32_185 : BitVec 32 := 37#32
  let c0_i32_186 : BitVec 32 := 0#32
  ![v65.toNat, 37, 0]
def k0_off411 (v402 : BitVec 32) : Fin 2 → Nat :=
  let c0_i32_187 : BitVec 32 := 0#32
  ![v402.toNat, 0]

def k0_chk294 (v402 : BitVec 32) : Prop :=
  (∀ a, (k0_off411 v402) a + S1x1024.size a ≤ S79872x1024.size a)
theorem k0_off411_inb : ∀ (v402 : BitVec 32) (k0_hw294 : k0_chk294 v402), ∀ a, (k0_off411 v402) a + S1x1024.size a ≤ S79872x1024.size a := fun v402 k0_hw294 => k0_hw294

def k0_off412 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_188 : BitVec 32 := 256#32
  let v408 : BitVec 32 := Scalar.muli v54 c256_i32_188
  let c38_i32 : BitVec 32 := 38#32
  let v409 : BitVec 32 := Scalar.addi v408 c38_i32
  let v410 : Index := Scalar.indexCast v409
  ![v410.toNat]
def k0_off413 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off414 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c38_i32_189 : BitVec 32 := 38#32
  let c0_i32_190 : BitVec 32 := 0#32
  ![v65.toNat, 38, 0]
def k0_off415 (v411 : BitVec 32) : Fin 2 → Nat :=
  let c0_i32_191 : BitVec 32 := 0#32
  ![v411.toNat, 0]

def k0_chk295 (v411 : BitVec 32) : Prop :=
  (∀ a, (k0_off415 v411) a + S1x1024.size a ≤ S79872x1024.size a)
theorem k0_off415_inb : ∀ (v411 : BitVec 32) (k0_hw295 : k0_chk295 v411), ∀ a, (k0_off415 v411) a + S1x1024.size a ≤ S79872x1024.size a := fun v411 k0_hw295 => k0_hw295

def k0_off416 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_192 : BitVec 32 := 256#32
  let v417 : BitVec 32 := Scalar.muli v54 c256_i32_192
  let c39_i32 : BitVec 32 := 39#32
  let v418 : BitVec 32 := Scalar.addi v417 c39_i32
  let v419 : Index := Scalar.indexCast v418
  ![v419.toNat]
def k0_off417 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off418 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c39_i32_193 : BitVec 32 := 39#32
  let c0_i32_194 : BitVec 32 := 0#32
  ![v65.toNat, 39, 0]
def k0_off419 (v420 : BitVec 32) : Fin 2 → Nat :=
  let c0_i32_195 : BitVec 32 := 0#32
  ![v420.toNat, 0]

def k0_chk296 (v420 : BitVec 32) : Prop :=
  (∀ a, (k0_off419 v420) a + S1x1024.size a ≤ S79872x1024.size a)
theorem k0_off419_inb : ∀ (v420 : BitVec 32) (k0_hw296 : k0_chk296 v420), ∀ a, (k0_off419 v420) a + S1x1024.size a ≤ S79872x1024.size a := fun v420 k0_hw296 => k0_hw296

def k0_off420 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_196 : BitVec 32 := 256#32
  let v426 : BitVec 32 := Scalar.muli v54 c256_i32_196
  let c40_i32 : BitVec 32 := 40#32
  let v427 : BitVec 32 := Scalar.addi v426 c40_i32
  let v428 : Index := Scalar.indexCast v427
  ![v428.toNat]
def k0_off421 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off422 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c40_i32_197 : BitVec 32 := 40#32
  let c0_i32_198 : BitVec 32 := 0#32
  ![v65.toNat, 40, 0]
def k0_off423 (v429 : BitVec 32) : Fin 2 → Nat :=
  let c0_i32_199 : BitVec 32 := 0#32
  ![v429.toNat, 0]

def k0_chk297 (v429 : BitVec 32) : Prop :=
  (∀ a, (k0_off423 v429) a + S1x1024.size a ≤ S79872x1024.size a)
theorem k0_off423_inb : ∀ (v429 : BitVec 32) (k0_hw297 : k0_chk297 v429), ∀ a, (k0_off423 v429) a + S1x1024.size a ≤ S79872x1024.size a := fun v429 k0_hw297 => k0_hw297

def k0_off424 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_200 : BitVec 32 := 256#32
  let v435 : BitVec 32 := Scalar.muli v54 c256_i32_200
  let c41_i32 : BitVec 32 := 41#32
  let v436 : BitVec 32 := Scalar.addi v435 c41_i32
  let v437 : Index := Scalar.indexCast v436
  ![v437.toNat]
def k0_off425 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off426 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c41_i32_201 : BitVec 32 := 41#32
  let c0_i32_202 : BitVec 32 := 0#32
  ![v65.toNat, 41, 0]
def k0_off427 (v438 : BitVec 32) : Fin 2 → Nat :=
  let c0_i32_203 : BitVec 32 := 0#32
  ![v438.toNat, 0]

def k0_chk298 (v438 : BitVec 32) : Prop :=
  (∀ a, (k0_off427 v438) a + S1x1024.size a ≤ S79872x1024.size a)
theorem k0_off427_inb : ∀ (v438 : BitVec 32) (k0_hw298 : k0_chk298 v438), ∀ a, (k0_off427 v438) a + S1x1024.size a ≤ S79872x1024.size a := fun v438 k0_hw298 => k0_hw298

def k0_off428 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_204 : BitVec 32 := 256#32
  let v444 : BitVec 32 := Scalar.muli v54 c256_i32_204
  let c42_i32 : BitVec 32 := 42#32
  let v445 : BitVec 32 := Scalar.addi v444 c42_i32
  let v446 : Index := Scalar.indexCast v445
  ![v446.toNat]
def k0_off429 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off430 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c42_i32_205 : BitVec 32 := 42#32
  let c0_i32_206 : BitVec 32 := 0#32
  ![v65.toNat, 42, 0]
def k0_off431 (v447 : BitVec 32) : Fin 2 → Nat :=
  let c0_i32_207 : BitVec 32 := 0#32
  ![v447.toNat, 0]

def k0_chk299 (v447 : BitVec 32) : Prop :=
  (∀ a, (k0_off431 v447) a + S1x1024.size a ≤ S79872x1024.size a)
theorem k0_off431_inb : ∀ (v447 : BitVec 32) (k0_hw299 : k0_chk299 v447), ∀ a, (k0_off431 v447) a + S1x1024.size a ≤ S79872x1024.size a := fun v447 k0_hw299 => k0_hw299

def k0_off432 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_208 : BitVec 32 := 256#32
  let v453 : BitVec 32 := Scalar.muli v54 c256_i32_208
  let c43_i32 : BitVec 32 := 43#32
  let v454 : BitVec 32 := Scalar.addi v453 c43_i32
  let v455 : Index := Scalar.indexCast v454
  ![v455.toNat]
def k0_off433 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off434 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c43_i32_209 : BitVec 32 := 43#32
  let c0_i32_210 : BitVec 32 := 0#32
  ![v65.toNat, 43, 0]
def k0_off435 (v456 : BitVec 32) : Fin 2 → Nat :=
  let c0_i32_211 : BitVec 32 := 0#32
  ![v456.toNat, 0]

def k0_chk300 (v456 : BitVec 32) : Prop :=
  (∀ a, (k0_off435 v456) a + S1x1024.size a ≤ S79872x1024.size a)
theorem k0_off435_inb : ∀ (v456 : BitVec 32) (k0_hw300 : k0_chk300 v456), ∀ a, (k0_off435 v456) a + S1x1024.size a ≤ S79872x1024.size a := fun v456 k0_hw300 => k0_hw300

def k0_off436 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_212 : BitVec 32 := 256#32
  let v462 : BitVec 32 := Scalar.muli v54 c256_i32_212
  let c44_i32 : BitVec 32 := 44#32
  let v463 : BitVec 32 := Scalar.addi v462 c44_i32
  let v464 : Index := Scalar.indexCast v463
  ![v464.toNat]
def k0_off437 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off438 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c44_i32_213 : BitVec 32 := 44#32
  let c0_i32_214 : BitVec 32 := 0#32
  ![v65.toNat, 44, 0]
def k0_off439 (v465 : BitVec 32) : Fin 2 → Nat :=
  let c0_i32_215 : BitVec 32 := 0#32
  ![v465.toNat, 0]

def k0_chk301 (v465 : BitVec 32) : Prop :=
  (∀ a, (k0_off439 v465) a + S1x1024.size a ≤ S79872x1024.size a)
theorem k0_off439_inb : ∀ (v465 : BitVec 32) (k0_hw301 : k0_chk301 v465), ∀ a, (k0_off439 v465) a + S1x1024.size a ≤ S79872x1024.size a := fun v465 k0_hw301 => k0_hw301

def k0_off440 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_216 : BitVec 32 := 256#32
  let v471 : BitVec 32 := Scalar.muli v54 c256_i32_216
  let c45_i32 : BitVec 32 := 45#32
  let v472 : BitVec 32 := Scalar.addi v471 c45_i32
  let v473 : Index := Scalar.indexCast v472
  ![v473.toNat]
def k0_off441 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off442 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c45_i32_217 : BitVec 32 := 45#32
  let c0_i32_218 : BitVec 32 := 0#32
  ![v65.toNat, 45, 0]
def k0_off443 (v474 : BitVec 32) : Fin 2 → Nat :=
  let c0_i32_219 : BitVec 32 := 0#32
  ![v474.toNat, 0]

def k0_chk302 (v474 : BitVec 32) : Prop :=
  (∀ a, (k0_off443 v474) a + S1x1024.size a ≤ S79872x1024.size a)
theorem k0_off443_inb : ∀ (v474 : BitVec 32) (k0_hw302 : k0_chk302 v474), ∀ a, (k0_off443 v474) a + S1x1024.size a ≤ S79872x1024.size a := fun v474 k0_hw302 => k0_hw302

def k0_off444 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_220 : BitVec 32 := 256#32
  let v480 : BitVec 32 := Scalar.muli v54 c256_i32_220
  let c46_i32 : BitVec 32 := 46#32
  let v481 : BitVec 32 := Scalar.addi v480 c46_i32
  let v482 : Index := Scalar.indexCast v481
  ![v482.toNat]
def k0_off445 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off446 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c46_i32_221 : BitVec 32 := 46#32
  let c0_i32_222 : BitVec 32 := 0#32
  ![v65.toNat, 46, 0]
def k0_off447 (v483 : BitVec 32) : Fin 2 → Nat :=
  let c0_i32_223 : BitVec 32 := 0#32
  ![v483.toNat, 0]

def k0_chk303 (v483 : BitVec 32) : Prop :=
  (∀ a, (k0_off447 v483) a + S1x1024.size a ≤ S79872x1024.size a)
theorem k0_off447_inb : ∀ (v483 : BitVec 32) (k0_hw303 : k0_chk303 v483), ∀ a, (k0_off447 v483) a + S1x1024.size a ≤ S79872x1024.size a := fun v483 k0_hw303 => k0_hw303

def k0_off448 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_224 : BitVec 32 := 256#32
  let v489 : BitVec 32 := Scalar.muli v54 c256_i32_224
  let c47_i32 : BitVec 32 := 47#32
  let v490 : BitVec 32 := Scalar.addi v489 c47_i32
  let v491 : Index := Scalar.indexCast v490
  ![v491.toNat]
def k0_off449 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off450 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c47_i32_225 : BitVec 32 := 47#32
  let c0_i32_226 : BitVec 32 := 0#32
  ![v65.toNat, 47, 0]
def k0_off451 (v492 : BitVec 32) : Fin 2 → Nat :=
  let c0_i32_227 : BitVec 32 := 0#32
  ![v492.toNat, 0]

def k0_chk304 (v492 : BitVec 32) : Prop :=
  (∀ a, (k0_off451 v492) a + S1x1024.size a ≤ S79872x1024.size a)
theorem k0_off451_inb : ∀ (v492 : BitVec 32) (k0_hw304 : k0_chk304 v492), ∀ a, (k0_off451 v492) a + S1x1024.size a ≤ S79872x1024.size a := fun v492 k0_hw304 => k0_hw304

def k0_off452 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_228 : BitVec 32 := 256#32
  let v498 : BitVec 32 := Scalar.muli v54 c256_i32_228
  let c48_i32 : BitVec 32 := 48#32
  let v499 : BitVec 32 := Scalar.addi v498 c48_i32
  let v500 : Index := Scalar.indexCast v499
  ![v500.toNat]
def k0_off453 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off454 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c48_i32_229 : BitVec 32 := 48#32
  let c0_i32_230 : BitVec 32 := 0#32
  ![v65.toNat, 48, 0]
def k0_off455 (v501 : BitVec 32) : Fin 2 → Nat :=
  let c0_i32_231 : BitVec 32 := 0#32
  ![v501.toNat, 0]

def k0_chk305 (v501 : BitVec 32) : Prop :=
  (∀ a, (k0_off455 v501) a + S1x1024.size a ≤ S79872x1024.size a)
theorem k0_off455_inb : ∀ (v501 : BitVec 32) (k0_hw305 : k0_chk305 v501), ∀ a, (k0_off455 v501) a + S1x1024.size a ≤ S79872x1024.size a := fun v501 k0_hw305 => k0_hw305

def k0_off456 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_232 : BitVec 32 := 256#32
  let v507 : BitVec 32 := Scalar.muli v54 c256_i32_232
  let c49_i32 : BitVec 32 := 49#32
  let v508 : BitVec 32 := Scalar.addi v507 c49_i32
  let v509 : Index := Scalar.indexCast v508
  ![v509.toNat]
def k0_off457 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off458 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c49_i32_233 : BitVec 32 := 49#32
  let c0_i32_234 : BitVec 32 := 0#32
  ![v65.toNat, 49, 0]
def k0_off459 (v510 : BitVec 32) : Fin 2 → Nat :=
  let c0_i32_235 : BitVec 32 := 0#32
  ![v510.toNat, 0]

def k0_chk306 (v510 : BitVec 32) : Prop :=
  (∀ a, (k0_off459 v510) a + S1x1024.size a ≤ S79872x1024.size a)
theorem k0_off459_inb : ∀ (v510 : BitVec 32) (k0_hw306 : k0_chk306 v510), ∀ a, (k0_off459 v510) a + S1x1024.size a ≤ S79872x1024.size a := fun v510 k0_hw306 => k0_hw306

def k0_off460 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_236 : BitVec 32 := 256#32
  let v516 : BitVec 32 := Scalar.muli v54 c256_i32_236
  let c50_i32 : BitVec 32 := 50#32
  let v517 : BitVec 32 := Scalar.addi v516 c50_i32
  let v518 : Index := Scalar.indexCast v517
  ![v518.toNat]
def k0_off461 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off462 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c50_i32_237 : BitVec 32 := 50#32
  let c0_i32_238 : BitVec 32 := 0#32
  ![v65.toNat, 50, 0]
def k0_off463 (v519 : BitVec 32) : Fin 2 → Nat :=
  let c0_i32_239 : BitVec 32 := 0#32
  ![v519.toNat, 0]

def k0_chk307 (v519 : BitVec 32) : Prop :=
  (∀ a, (k0_off463 v519) a + S1x1024.size a ≤ S79872x1024.size a)
theorem k0_off463_inb : ∀ (v519 : BitVec 32) (k0_hw307 : k0_chk307 v519), ∀ a, (k0_off463 v519) a + S1x1024.size a ≤ S79872x1024.size a := fun v519 k0_hw307 => k0_hw307

def k0_off464 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_240 : BitVec 32 := 256#32
  let v525 : BitVec 32 := Scalar.muli v54 c256_i32_240
  let c51_i32 : BitVec 32 := 51#32
  let v526 : BitVec 32 := Scalar.addi v525 c51_i32
  let v527 : Index := Scalar.indexCast v526
  ![v527.toNat]
def k0_off465 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off466 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c51_i32_241 : BitVec 32 := 51#32
  let c0_i32_242 : BitVec 32 := 0#32
  ![v65.toNat, 51, 0]
def k0_off467 (v528 : BitVec 32) : Fin 2 → Nat :=
  let c0_i32_243 : BitVec 32 := 0#32
  ![v528.toNat, 0]

def k0_chk308 (v528 : BitVec 32) : Prop :=
  (∀ a, (k0_off467 v528) a + S1x1024.size a ≤ S79872x1024.size a)
theorem k0_off467_inb : ∀ (v528 : BitVec 32) (k0_hw308 : k0_chk308 v528), ∀ a, (k0_off467 v528) a + S1x1024.size a ≤ S79872x1024.size a := fun v528 k0_hw308 => k0_hw308

def k0_off468 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_244 : BitVec 32 := 256#32
  let v534 : BitVec 32 := Scalar.muli v54 c256_i32_244
  let c52_i32 : BitVec 32 := 52#32
  let v535 : BitVec 32 := Scalar.addi v534 c52_i32
  let v536 : Index := Scalar.indexCast v535
  ![v536.toNat]
def k0_off469 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off470 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c52_i32_245 : BitVec 32 := 52#32
  let c0_i32_246 : BitVec 32 := 0#32
  ![v65.toNat, 52, 0]
def k0_off471 (v537 : BitVec 32) : Fin 2 → Nat :=
  let c0_i32_247 : BitVec 32 := 0#32
  ![v537.toNat, 0]

def k0_chk309 (v537 : BitVec 32) : Prop :=
  (∀ a, (k0_off471 v537) a + S1x1024.size a ≤ S79872x1024.size a)
theorem k0_off471_inb : ∀ (v537 : BitVec 32) (k0_hw309 : k0_chk309 v537), ∀ a, (k0_off471 v537) a + S1x1024.size a ≤ S79872x1024.size a := fun v537 k0_hw309 => k0_hw309

def k0_off472 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_248 : BitVec 32 := 256#32
  let v543 : BitVec 32 := Scalar.muli v54 c256_i32_248
  let c53_i32 : BitVec 32 := 53#32
  let v544 : BitVec 32 := Scalar.addi v543 c53_i32
  let v545 : Index := Scalar.indexCast v544
  ![v545.toNat]
def k0_off473 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off474 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c53_i32_249 : BitVec 32 := 53#32
  let c0_i32_250 : BitVec 32 := 0#32
  ![v65.toNat, 53, 0]
def k0_off475 (v546 : BitVec 32) : Fin 2 → Nat :=
  let c0_i32_251 : BitVec 32 := 0#32
  ![v546.toNat, 0]

def k0_chk310 (v546 : BitVec 32) : Prop :=
  (∀ a, (k0_off475 v546) a + S1x1024.size a ≤ S79872x1024.size a)
theorem k0_off475_inb : ∀ (v546 : BitVec 32) (k0_hw310 : k0_chk310 v546), ∀ a, (k0_off475 v546) a + S1x1024.size a ≤ S79872x1024.size a := fun v546 k0_hw310 => k0_hw310

def k0_off476 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_252 : BitVec 32 := 256#32
  let v552 : BitVec 32 := Scalar.muli v54 c256_i32_252
  let c54_i32 : BitVec 32 := 54#32
  let v553 : BitVec 32 := Scalar.addi v552 c54_i32
  let v554 : Index := Scalar.indexCast v553
  ![v554.toNat]
def k0_off477 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off478 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c54_i32_253 : BitVec 32 := 54#32
  let c0_i32_254 : BitVec 32 := 0#32
  ![v65.toNat, 54, 0]
def k0_off479 (v555 : BitVec 32) : Fin 2 → Nat :=
  let c0_i32_255 : BitVec 32 := 0#32
  ![v555.toNat, 0]

def k0_chk311 (v555 : BitVec 32) : Prop :=
  (∀ a, (k0_off479 v555) a + S1x1024.size a ≤ S79872x1024.size a)
theorem k0_off479_inb : ∀ (v555 : BitVec 32) (k0_hw311 : k0_chk311 v555), ∀ a, (k0_off479 v555) a + S1x1024.size a ≤ S79872x1024.size a := fun v555 k0_hw311 => k0_hw311

def k0_off480 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_256 : BitVec 32 := 256#32
  let v561 : BitVec 32 := Scalar.muli v54 c256_i32_256
  let c55_i32 : BitVec 32 := 55#32
  let v562 : BitVec 32 := Scalar.addi v561 c55_i32
  let v563 : Index := Scalar.indexCast v562
  ![v563.toNat]
def k0_off481 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off482 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c55_i32_257 : BitVec 32 := 55#32
  let c0_i32_258 : BitVec 32 := 0#32
  ![v65.toNat, 55, 0]
def k0_off483 (v564 : BitVec 32) : Fin 2 → Nat :=
  let c0_i32_259 : BitVec 32 := 0#32
  ![v564.toNat, 0]

def k0_chk312 (v564 : BitVec 32) : Prop :=
  (∀ a, (k0_off483 v564) a + S1x1024.size a ≤ S79872x1024.size a)
theorem k0_off483_inb : ∀ (v564 : BitVec 32) (k0_hw312 : k0_chk312 v564), ∀ a, (k0_off483 v564) a + S1x1024.size a ≤ S79872x1024.size a := fun v564 k0_hw312 => k0_hw312

def k0_off484 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_260 : BitVec 32 := 256#32
  let v570 : BitVec 32 := Scalar.muli v54 c256_i32_260
  let c56_i32 : BitVec 32 := 56#32
  let v571 : BitVec 32 := Scalar.addi v570 c56_i32
  let v572 : Index := Scalar.indexCast v571
  ![v572.toNat]
def k0_off485 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off486 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c56_i32_261 : BitVec 32 := 56#32
  let c0_i32_262 : BitVec 32 := 0#32
  ![v65.toNat, 56, 0]
def k0_off487 (v573 : BitVec 32) : Fin 2 → Nat :=
  let c0_i32_263 : BitVec 32 := 0#32
  ![v573.toNat, 0]

def k0_chk313 (v573 : BitVec 32) : Prop :=
  (∀ a, (k0_off487 v573) a + S1x1024.size a ≤ S79872x1024.size a)
theorem k0_off487_inb : ∀ (v573 : BitVec 32) (k0_hw313 : k0_chk313 v573), ∀ a, (k0_off487 v573) a + S1x1024.size a ≤ S79872x1024.size a := fun v573 k0_hw313 => k0_hw313

def k0_off488 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_264 : BitVec 32 := 256#32
  let v579 : BitVec 32 := Scalar.muli v54 c256_i32_264
  let c57_i32 : BitVec 32 := 57#32
  let v580 : BitVec 32 := Scalar.addi v579 c57_i32
  let v581 : Index := Scalar.indexCast v580
  ![v581.toNat]
def k0_off489 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off490 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c57_i32_265 : BitVec 32 := 57#32
  let c0_i32_266 : BitVec 32 := 0#32
  ![v65.toNat, 57, 0]
def k0_off491 (v582 : BitVec 32) : Fin 2 → Nat :=
  let c0_i32_267 : BitVec 32 := 0#32
  ![v582.toNat, 0]

def k0_chk314 (v582 : BitVec 32) : Prop :=
  (∀ a, (k0_off491 v582) a + S1x1024.size a ≤ S79872x1024.size a)
theorem k0_off491_inb : ∀ (v582 : BitVec 32) (k0_hw314 : k0_chk314 v582), ∀ a, (k0_off491 v582) a + S1x1024.size a ≤ S79872x1024.size a := fun v582 k0_hw314 => k0_hw314

def k0_off492 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_268 : BitVec 32 := 256#32
  let v588 : BitVec 32 := Scalar.muli v54 c256_i32_268
  let c58_i32 : BitVec 32 := 58#32
  let v589 : BitVec 32 := Scalar.addi v588 c58_i32
  let v590 : Index := Scalar.indexCast v589
  ![v590.toNat]
def k0_off493 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off494 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c58_i32_269 : BitVec 32 := 58#32
  let c0_i32_270 : BitVec 32 := 0#32
  ![v65.toNat, 58, 0]
def k0_off495 (v591 : BitVec 32) : Fin 2 → Nat :=
  let c0_i32_271 : BitVec 32 := 0#32
  ![v591.toNat, 0]

def k0_chk315 (v591 : BitVec 32) : Prop :=
  (∀ a, (k0_off495 v591) a + S1x1024.size a ≤ S79872x1024.size a)
theorem k0_off495_inb : ∀ (v591 : BitVec 32) (k0_hw315 : k0_chk315 v591), ∀ a, (k0_off495 v591) a + S1x1024.size a ≤ S79872x1024.size a := fun v591 k0_hw315 => k0_hw315

def k0_off496 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_272 : BitVec 32 := 256#32
  let v597 : BitVec 32 := Scalar.muli v54 c256_i32_272
  let c59_i32 : BitVec 32 := 59#32
  let v598 : BitVec 32 := Scalar.addi v597 c59_i32
  let v599 : Index := Scalar.indexCast v598
  ![v599.toNat]
def k0_off497 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off498 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c59_i32_273 : BitVec 32 := 59#32
  let c0_i32_274 : BitVec 32 := 0#32
  ![v65.toNat, 59, 0]
def k0_off499 (v600 : BitVec 32) : Fin 2 → Nat :=
  let c0_i32_275 : BitVec 32 := 0#32
  ![v600.toNat, 0]

def k0_chk316 (v600 : BitVec 32) : Prop :=
  (∀ a, (k0_off499 v600) a + S1x1024.size a ≤ S79872x1024.size a)
theorem k0_off499_inb : ∀ (v600 : BitVec 32) (k0_hw316 : k0_chk316 v600), ∀ a, (k0_off499 v600) a + S1x1024.size a ≤ S79872x1024.size a := fun v600 k0_hw316 => k0_hw316

def k0_off500 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_276 : BitVec 32 := 256#32
  let v606 : BitVec 32 := Scalar.muli v54 c256_i32_276
  let c60_i32 : BitVec 32 := 60#32
  let v607 : BitVec 32 := Scalar.addi v606 c60_i32
  let v608 : Index := Scalar.indexCast v607
  ![v608.toNat]
def k0_off501 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off502 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c60_i32_277 : BitVec 32 := 60#32
  let c0_i32_278 : BitVec 32 := 0#32
  ![v65.toNat, 60, 0]
def k0_off503 (v609 : BitVec 32) : Fin 2 → Nat :=
  let c0_i32_279 : BitVec 32 := 0#32
  ![v609.toNat, 0]

def k0_chk317 (v609 : BitVec 32) : Prop :=
  (∀ a, (k0_off503 v609) a + S1x1024.size a ≤ S79872x1024.size a)
theorem k0_off503_inb : ∀ (v609 : BitVec 32) (k0_hw317 : k0_chk317 v609), ∀ a, (k0_off503 v609) a + S1x1024.size a ≤ S79872x1024.size a := fun v609 k0_hw317 => k0_hw317

def k0_off504 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_280 : BitVec 32 := 256#32
  let v615 : BitVec 32 := Scalar.muli v54 c256_i32_280
  let c61_i32 : BitVec 32 := 61#32
  let v616 : BitVec 32 := Scalar.addi v615 c61_i32
  let v617 : Index := Scalar.indexCast v616
  ![v617.toNat]
def k0_off505 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off506 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c61_i32_281 : BitVec 32 := 61#32
  let c0_i32_282 : BitVec 32 := 0#32
  ![v65.toNat, 61, 0]
def k0_off507 (v618 : BitVec 32) : Fin 2 → Nat :=
  let c0_i32_283 : BitVec 32 := 0#32
  ![v618.toNat, 0]

def k0_chk318 (v618 : BitVec 32) : Prop :=
  (∀ a, (k0_off507 v618) a + S1x1024.size a ≤ S79872x1024.size a)
theorem k0_off507_inb : ∀ (v618 : BitVec 32) (k0_hw318 : k0_chk318 v618), ∀ a, (k0_off507 v618) a + S1x1024.size a ≤ S79872x1024.size a := fun v618 k0_hw318 => k0_hw318

def k0_off508 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_284 : BitVec 32 := 256#32
  let v624 : BitVec 32 := Scalar.muli v54 c256_i32_284
  let c62_i32 : BitVec 32 := 62#32
  let v625 : BitVec 32 := Scalar.addi v624 c62_i32
  let v626 : Index := Scalar.indexCast v625
  ![v626.toNat]
def k0_off509 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off510 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c62_i32_285 : BitVec 32 := 62#32
  let c0_i32_286 : BitVec 32 := 0#32
  ![v65.toNat, 62, 0]
def k0_off511 (v627 : BitVec 32) : Fin 2 → Nat :=
  let c0_i32_287 : BitVec 32 := 0#32
  ![v627.toNat, 0]

def k0_chk319 (v627 : BitVec 32) : Prop :=
  (∀ a, (k0_off511 v627) a + S1x1024.size a ≤ S79872x1024.size a)
theorem k0_off511_inb : ∀ (v627 : BitVec 32) (k0_hw319 : k0_chk319 v627), ∀ a, (k0_off511 v627) a + S1x1024.size a ≤ S79872x1024.size a := fun v627 k0_hw319 => k0_hw319

def k0_off512 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_288 : BitVec 32 := 256#32
  let v633 : BitVec 32 := Scalar.muli v54 c256_i32_288
  let c63_i32 : BitVec 32 := 63#32
  let v634 : BitVec 32 := Scalar.addi v633 c63_i32
  let v635 : Index := Scalar.indexCast v634
  ![v635.toNat]
def k0_off513 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off514 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c63_i32_289 : BitVec 32 := 63#32
  let c0_i32_290 : BitVec 32 := 0#32
  ![v65.toNat, 63, 0]
def k0_off515 (v636 : BitVec 32) : Fin 2 → Nat :=
  let c0_i32_291 : BitVec 32 := 0#32
  ![v636.toNat, 0]

def k0_chk320 (v636 : BitVec 32) : Prop :=
  (∀ a, (k0_off515 v636) a + S1x1024.size a ≤ S79872x1024.size a)
theorem k0_off515_inb : ∀ (v636 : BitVec 32) (k0_hw320 : k0_chk320 v636), ∀ a, (k0_off515 v636) a + S1x1024.size a ≤ S79872x1024.size a := fun v636 k0_hw320 => k0_hw320

def k0_off516 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_292 : BitVec 32 := 256#32
  let v642 : BitVec 32 := Scalar.muli v54 c256_i32_292
  let c64_i32 : BitVec 32 := 64#32
  let v643 : BitVec 32 := Scalar.addi v642 c64_i32
  let v644 : Index := Scalar.indexCast v643
  ![v644.toNat]
def k0_off517 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off518 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c64_i32_293 : BitVec 32 := 64#32
  let c0_i32_294 : BitVec 32 := 0#32
  ![v65.toNat, 64, 0]
def k0_off519 (v645 : BitVec 32) : Fin 2 → Nat :=
  let c0_i32_295 : BitVec 32 := 0#32
  ![v645.toNat, 0]

def k0_chk321 (v645 : BitVec 32) : Prop :=
  (∀ a, (k0_off519 v645) a + S1x1024.size a ≤ S79872x1024.size a)
theorem k0_off519_inb : ∀ (v645 : BitVec 32) (k0_hw321 : k0_chk321 v645), ∀ a, (k0_off519 v645) a + S1x1024.size a ≤ S79872x1024.size a := fun v645 k0_hw321 => k0_hw321

def k0_off520 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_296 : BitVec 32 := 256#32
  let v651 : BitVec 32 := Scalar.muli v54 c256_i32_296
  let c65_i32 : BitVec 32 := 65#32
  let v652 : BitVec 32 := Scalar.addi v651 c65_i32
  let v653 : Index := Scalar.indexCast v652
  ![v653.toNat]
def k0_off521 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off522 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c65_i32_297 : BitVec 32 := 65#32
  let c0_i32_298 : BitVec 32 := 0#32
  ![v65.toNat, 65, 0]
def k0_off523 (v654 : BitVec 32) : Fin 2 → Nat :=
  let c0_i32_299 : BitVec 32 := 0#32
  ![v654.toNat, 0]

def k0_chk322 (v654 : BitVec 32) : Prop :=
  (∀ a, (k0_off523 v654) a + S1x1024.size a ≤ S79872x1024.size a)
theorem k0_off523_inb : ∀ (v654 : BitVec 32) (k0_hw322 : k0_chk322 v654), ∀ a, (k0_off523 v654) a + S1x1024.size a ≤ S79872x1024.size a := fun v654 k0_hw322 => k0_hw322

def k0_off524 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_300 : BitVec 32 := 256#32
  let v660 : BitVec 32 := Scalar.muli v54 c256_i32_300
  let c66_i32 : BitVec 32 := 66#32
  let v661 : BitVec 32 := Scalar.addi v660 c66_i32
  let v662 : Index := Scalar.indexCast v661
  ![v662.toNat]
def k0_off525 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off526 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c66_i32_301 : BitVec 32 := 66#32
  let c0_i32_302 : BitVec 32 := 0#32
  ![v65.toNat, 66, 0]
def k0_off527 (v663 : BitVec 32) : Fin 2 → Nat :=
  let c0_i32_303 : BitVec 32 := 0#32
  ![v663.toNat, 0]

def k0_chk323 (v663 : BitVec 32) : Prop :=
  (∀ a, (k0_off527 v663) a + S1x1024.size a ≤ S79872x1024.size a)
theorem k0_off527_inb : ∀ (v663 : BitVec 32) (k0_hw323 : k0_chk323 v663), ∀ a, (k0_off527 v663) a + S1x1024.size a ≤ S79872x1024.size a := fun v663 k0_hw323 => k0_hw323

def k0_off528 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_304 : BitVec 32 := 256#32
  let v669 : BitVec 32 := Scalar.muli v54 c256_i32_304
  let c67_i32 : BitVec 32 := 67#32
  let v670 : BitVec 32 := Scalar.addi v669 c67_i32
  let v671 : Index := Scalar.indexCast v670
  ![v671.toNat]
def k0_off529 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off530 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c67_i32_305 : BitVec 32 := 67#32
  let c0_i32_306 : BitVec 32 := 0#32
  ![v65.toNat, 67, 0]
def k0_off531 (v672 : BitVec 32) : Fin 2 → Nat :=
  let c0_i32_307 : BitVec 32 := 0#32
  ![v672.toNat, 0]

def k0_chk324 (v672 : BitVec 32) : Prop :=
  (∀ a, (k0_off531 v672) a + S1x1024.size a ≤ S79872x1024.size a)
theorem k0_off531_inb : ∀ (v672 : BitVec 32) (k0_hw324 : k0_chk324 v672), ∀ a, (k0_off531 v672) a + S1x1024.size a ≤ S79872x1024.size a := fun v672 k0_hw324 => k0_hw324

def k0_off532 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_308 : BitVec 32 := 256#32
  let v678 : BitVec 32 := Scalar.muli v54 c256_i32_308
  let c68_i32 : BitVec 32 := 68#32
  let v679 : BitVec 32 := Scalar.addi v678 c68_i32
  let v680 : Index := Scalar.indexCast v679
  ![v680.toNat]
def k0_off533 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off534 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c68_i32_309 : BitVec 32 := 68#32
  let c0_i32_310 : BitVec 32 := 0#32
  ![v65.toNat, 68, 0]
def k0_off535 (v681 : BitVec 32) : Fin 2 → Nat :=
  let c0_i32_311 : BitVec 32 := 0#32
  ![v681.toNat, 0]

def k0_chk325 (v681 : BitVec 32) : Prop :=
  (∀ a, (k0_off535 v681) a + S1x1024.size a ≤ S79872x1024.size a)
theorem k0_off535_inb : ∀ (v681 : BitVec 32) (k0_hw325 : k0_chk325 v681), ∀ a, (k0_off535 v681) a + S1x1024.size a ≤ S79872x1024.size a := fun v681 k0_hw325 => k0_hw325

def k0_off536 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_312 : BitVec 32 := 256#32
  let v687 : BitVec 32 := Scalar.muli v54 c256_i32_312
  let c69_i32 : BitVec 32 := 69#32
  let v688 : BitVec 32 := Scalar.addi v687 c69_i32
  let v689 : Index := Scalar.indexCast v688
  ![v689.toNat]
def k0_off537 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off538 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c69_i32_313 : BitVec 32 := 69#32
  let c0_i32_314 : BitVec 32 := 0#32
  ![v65.toNat, 69, 0]
def k0_off539 (v690 : BitVec 32) : Fin 2 → Nat :=
  let c0_i32_315 : BitVec 32 := 0#32
  ![v690.toNat, 0]

def k0_chk326 (v690 : BitVec 32) : Prop :=
  (∀ a, (k0_off539 v690) a + S1x1024.size a ≤ S79872x1024.size a)
theorem k0_off539_inb : ∀ (v690 : BitVec 32) (k0_hw326 : k0_chk326 v690), ∀ a, (k0_off539 v690) a + S1x1024.size a ≤ S79872x1024.size a := fun v690 k0_hw326 => k0_hw326

def k0_off540 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_316 : BitVec 32 := 256#32
  let v696 : BitVec 32 := Scalar.muli v54 c256_i32_316
  let c70_i32 : BitVec 32 := 70#32
  let v697 : BitVec 32 := Scalar.addi v696 c70_i32
  let v698 : Index := Scalar.indexCast v697
  ![v698.toNat]
def k0_off541 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off542 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c70_i32_317 : BitVec 32 := 70#32
  let c0_i32_318 : BitVec 32 := 0#32
  ![v65.toNat, 70, 0]
def k0_off543 (v699 : BitVec 32) : Fin 2 → Nat :=
  let c0_i32_319 : BitVec 32 := 0#32
  ![v699.toNat, 0]

def k0_chk327 (v699 : BitVec 32) : Prop :=
  (∀ a, (k0_off543 v699) a + S1x1024.size a ≤ S79872x1024.size a)
theorem k0_off543_inb : ∀ (v699 : BitVec 32) (k0_hw327 : k0_chk327 v699), ∀ a, (k0_off543 v699) a + S1x1024.size a ≤ S79872x1024.size a := fun v699 k0_hw327 => k0_hw327

def k0_off544 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_320 : BitVec 32 := 256#32
  let v705 : BitVec 32 := Scalar.muli v54 c256_i32_320
  let c71_i32 : BitVec 32 := 71#32
  let v706 : BitVec 32 := Scalar.addi v705 c71_i32
  let v707 : Index := Scalar.indexCast v706
  ![v707.toNat]
def k0_off545 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off546 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c71_i32_321 : BitVec 32 := 71#32
  let c0_i32_322 : BitVec 32 := 0#32
  ![v65.toNat, 71, 0]
def k0_off547 (v708 : BitVec 32) : Fin 2 → Nat :=
  let c0_i32_323 : BitVec 32 := 0#32
  ![v708.toNat, 0]

def k0_chk328 (v708 : BitVec 32) : Prop :=
  (∀ a, (k0_off547 v708) a + S1x1024.size a ≤ S79872x1024.size a)
theorem k0_off547_inb : ∀ (v708 : BitVec 32) (k0_hw328 : k0_chk328 v708), ∀ a, (k0_off547 v708) a + S1x1024.size a ≤ S79872x1024.size a := fun v708 k0_hw328 => k0_hw328

def k0_off548 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_324 : BitVec 32 := 256#32
  let v714 : BitVec 32 := Scalar.muli v54 c256_i32_324
  let c72_i32 : BitVec 32 := 72#32
  let v715 : BitVec 32 := Scalar.addi v714 c72_i32
  let v716 : Index := Scalar.indexCast v715
  ![v716.toNat]
def k0_off549 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off550 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c72_i32_325 : BitVec 32 := 72#32
  let c0_i32_326 : BitVec 32 := 0#32
  ![v65.toNat, 72, 0]
def k0_off551 (v717 : BitVec 32) : Fin 2 → Nat :=
  let c0_i32_327 : BitVec 32 := 0#32
  ![v717.toNat, 0]

def k0_chk329 (v717 : BitVec 32) : Prop :=
  (∀ a, (k0_off551 v717) a + S1x1024.size a ≤ S79872x1024.size a)
theorem k0_off551_inb : ∀ (v717 : BitVec 32) (k0_hw329 : k0_chk329 v717), ∀ a, (k0_off551 v717) a + S1x1024.size a ≤ S79872x1024.size a := fun v717 k0_hw329 => k0_hw329

def k0_off552 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_328 : BitVec 32 := 256#32
  let v723 : BitVec 32 := Scalar.muli v54 c256_i32_328
  let c73_i32 : BitVec 32 := 73#32
  let v724 : BitVec 32 := Scalar.addi v723 c73_i32
  let v725 : Index := Scalar.indexCast v724
  ![v725.toNat]
def k0_off553 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off554 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c73_i32_329 : BitVec 32 := 73#32
  let c0_i32_330 : BitVec 32 := 0#32
  ![v65.toNat, 73, 0]
def k0_off555 (v726 : BitVec 32) : Fin 2 → Nat :=
  let c0_i32_331 : BitVec 32 := 0#32
  ![v726.toNat, 0]

def k0_chk330 (v726 : BitVec 32) : Prop :=
  (∀ a, (k0_off555 v726) a + S1x1024.size a ≤ S79872x1024.size a)
theorem k0_off555_inb : ∀ (v726 : BitVec 32) (k0_hw330 : k0_chk330 v726), ∀ a, (k0_off555 v726) a + S1x1024.size a ≤ S79872x1024.size a := fun v726 k0_hw330 => k0_hw330

def k0_off556 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_332 : BitVec 32 := 256#32
  let v732 : BitVec 32 := Scalar.muli v54 c256_i32_332
  let c74_i32 : BitVec 32 := 74#32
  let v733 : BitVec 32 := Scalar.addi v732 c74_i32
  let v734 : Index := Scalar.indexCast v733
  ![v734.toNat]
def k0_off557 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off558 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c74_i32_333 : BitVec 32 := 74#32
  let c0_i32_334 : BitVec 32 := 0#32
  ![v65.toNat, 74, 0]
def k0_off559 (v735 : BitVec 32) : Fin 2 → Nat :=
  let c0_i32_335 : BitVec 32 := 0#32
  ![v735.toNat, 0]

def k0_chk331 (v735 : BitVec 32) : Prop :=
  (∀ a, (k0_off559 v735) a + S1x1024.size a ≤ S79872x1024.size a)
theorem k0_off559_inb : ∀ (v735 : BitVec 32) (k0_hw331 : k0_chk331 v735), ∀ a, (k0_off559 v735) a + S1x1024.size a ≤ S79872x1024.size a := fun v735 k0_hw331 => k0_hw331

def k0_off560 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_336 : BitVec 32 := 256#32
  let v741 : BitVec 32 := Scalar.muli v54 c256_i32_336
  let c75_i32 : BitVec 32 := 75#32
  let v742 : BitVec 32 := Scalar.addi v741 c75_i32
  let v743 : Index := Scalar.indexCast v742
  ![v743.toNat]
def k0_off561 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off562 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c75_i32_337 : BitVec 32 := 75#32
  let c0_i32_338 : BitVec 32 := 0#32
  ![v65.toNat, 75, 0]
def k0_off563 (v744 : BitVec 32) : Fin 2 → Nat :=
  let c0_i32_339 : BitVec 32 := 0#32
  ![v744.toNat, 0]

def k0_chk332 (v744 : BitVec 32) : Prop :=
  (∀ a, (k0_off563 v744) a + S1x1024.size a ≤ S79872x1024.size a)
theorem k0_off563_inb : ∀ (v744 : BitVec 32) (k0_hw332 : k0_chk332 v744), ∀ a, (k0_off563 v744) a + S1x1024.size a ≤ S79872x1024.size a := fun v744 k0_hw332 => k0_hw332

def k0_off564 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_340 : BitVec 32 := 256#32
  let v750 : BitVec 32 := Scalar.muli v54 c256_i32_340
  let c76_i32 : BitVec 32 := 76#32
  let v751 : BitVec 32 := Scalar.addi v750 c76_i32
  let v752 : Index := Scalar.indexCast v751
  ![v752.toNat]
def k0_off565 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off566 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c76_i32_341 : BitVec 32 := 76#32
  let c0_i32_342 : BitVec 32 := 0#32
  ![v65.toNat, 76, 0]
def k0_off567 (v753 : BitVec 32) : Fin 2 → Nat :=
  let c0_i32_343 : BitVec 32 := 0#32
  ![v753.toNat, 0]

def k0_chk333 (v753 : BitVec 32) : Prop :=
  (∀ a, (k0_off567 v753) a + S1x1024.size a ≤ S79872x1024.size a)
theorem k0_off567_inb : ∀ (v753 : BitVec 32) (k0_hw333 : k0_chk333 v753), ∀ a, (k0_off567 v753) a + S1x1024.size a ≤ S79872x1024.size a := fun v753 k0_hw333 => k0_hw333

def k0_off568 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_344 : BitVec 32 := 256#32
  let v759 : BitVec 32 := Scalar.muli v54 c256_i32_344
  let c77_i32 : BitVec 32 := 77#32
  let v760 : BitVec 32 := Scalar.addi v759 c77_i32
  let v761 : Index := Scalar.indexCast v760
  ![v761.toNat]
def k0_off569 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off570 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c77_i32_345 : BitVec 32 := 77#32
  let c0_i32_346 : BitVec 32 := 0#32
  ![v65.toNat, 77, 0]
def k0_off571 (v762 : BitVec 32) : Fin 2 → Nat :=
  let c0_i32_347 : BitVec 32 := 0#32
  ![v762.toNat, 0]

def k0_chk334 (v762 : BitVec 32) : Prop :=
  (∀ a, (k0_off571 v762) a + S1x1024.size a ≤ S79872x1024.size a)
theorem k0_off571_inb : ∀ (v762 : BitVec 32) (k0_hw334 : k0_chk334 v762), ∀ a, (k0_off571 v762) a + S1x1024.size a ≤ S79872x1024.size a := fun v762 k0_hw334 => k0_hw334

def k0_off572 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_348 : BitVec 32 := 256#32
  let v768 : BitVec 32 := Scalar.muli v54 c256_i32_348
  let c78_i32 : BitVec 32 := 78#32
  let v769 : BitVec 32 := Scalar.addi v768 c78_i32
  let v770 : Index := Scalar.indexCast v769
  ![v770.toNat]
def k0_off573 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off574 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c78_i32_349 : BitVec 32 := 78#32
  let c0_i32_350 : BitVec 32 := 0#32
  ![v65.toNat, 78, 0]
def k0_off575 (v771 : BitVec 32) : Fin 2 → Nat :=
  let c0_i32_351 : BitVec 32 := 0#32
  ![v771.toNat, 0]

def k0_chk335 (v771 : BitVec 32) : Prop :=
  (∀ a, (k0_off575 v771) a + S1x1024.size a ≤ S79872x1024.size a)
theorem k0_off575_inb : ∀ (v771 : BitVec 32) (k0_hw335 : k0_chk335 v771), ∀ a, (k0_off575 v771) a + S1x1024.size a ≤ S79872x1024.size a := fun v771 k0_hw335 => k0_hw335

def k0_off576 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_352 : BitVec 32 := 256#32
  let v777 : BitVec 32 := Scalar.muli v54 c256_i32_352
  let c79_i32 : BitVec 32 := 79#32
  let v778 : BitVec 32 := Scalar.addi v777 c79_i32
  let v779 : Index := Scalar.indexCast v778
  ![v779.toNat]
def k0_off577 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off578 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c79_i32_353 : BitVec 32 := 79#32
  let c0_i32_354 : BitVec 32 := 0#32
  ![v65.toNat, 79, 0]
def k0_off579 (v780 : BitVec 32) : Fin 2 → Nat :=
  let c0_i32_355 : BitVec 32 := 0#32
  ![v780.toNat, 0]

def k0_chk336 (v780 : BitVec 32) : Prop :=
  (∀ a, (k0_off579 v780) a + S1x1024.size a ≤ S79872x1024.size a)
theorem k0_off579_inb : ∀ (v780 : BitVec 32) (k0_hw336 : k0_chk336 v780), ∀ a, (k0_off579 v780) a + S1x1024.size a ≤ S79872x1024.size a := fun v780 k0_hw336 => k0_hw336

def k0_off580 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_356 : BitVec 32 := 256#32
  let v786 : BitVec 32 := Scalar.muli v54 c256_i32_356
  let c80_i32 : BitVec 32 := 80#32
  let v787 : BitVec 32 := Scalar.addi v786 c80_i32
  let v788 : Index := Scalar.indexCast v787
  ![v788.toNat]
def k0_off581 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off582 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c80_i32_357 : BitVec 32 := 80#32
  let c0_i32_358 : BitVec 32 := 0#32
  ![v65.toNat, 80, 0]
def k0_off583 (v789 : BitVec 32) : Fin 2 → Nat :=
  let c0_i32_359 : BitVec 32 := 0#32
  ![v789.toNat, 0]

def k0_chk337 (v789 : BitVec 32) : Prop :=
  (∀ a, (k0_off583 v789) a + S1x1024.size a ≤ S79872x1024.size a)
theorem k0_off583_inb : ∀ (v789 : BitVec 32) (k0_hw337 : k0_chk337 v789), ∀ a, (k0_off583 v789) a + S1x1024.size a ≤ S79872x1024.size a := fun v789 k0_hw337 => k0_hw337

def k0_off584 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_360 : BitVec 32 := 256#32
  let v795 : BitVec 32 := Scalar.muli v54 c256_i32_360
  let c81_i32 : BitVec 32 := 81#32
  let v796 : BitVec 32 := Scalar.addi v795 c81_i32
  let v797 : Index := Scalar.indexCast v796
  ![v797.toNat]
def k0_off585 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off586 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c81_i32_361 : BitVec 32 := 81#32
  let c0_i32_362 : BitVec 32 := 0#32
  ![v65.toNat, 81, 0]
def k0_off587 (v798 : BitVec 32) : Fin 2 → Nat :=
  let c0_i32_363 : BitVec 32 := 0#32
  ![v798.toNat, 0]

def k0_chk338 (v798 : BitVec 32) : Prop :=
  (∀ a, (k0_off587 v798) a + S1x1024.size a ≤ S79872x1024.size a)
theorem k0_off587_inb : ∀ (v798 : BitVec 32) (k0_hw338 : k0_chk338 v798), ∀ a, (k0_off587 v798) a + S1x1024.size a ≤ S79872x1024.size a := fun v798 k0_hw338 => k0_hw338

def k0_off588 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_364 : BitVec 32 := 256#32
  let v804 : BitVec 32 := Scalar.muli v54 c256_i32_364
  let c82_i32 : BitVec 32 := 82#32
  let v805 : BitVec 32 := Scalar.addi v804 c82_i32
  let v806 : Index := Scalar.indexCast v805
  ![v806.toNat]
def k0_off589 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off590 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c82_i32_365 : BitVec 32 := 82#32
  let c0_i32_366 : BitVec 32 := 0#32
  ![v65.toNat, 82, 0]
def k0_off591 (v807 : BitVec 32) : Fin 2 → Nat :=
  let c0_i32_367 : BitVec 32 := 0#32
  ![v807.toNat, 0]

def k0_chk339 (v807 : BitVec 32) : Prop :=
  (∀ a, (k0_off591 v807) a + S1x1024.size a ≤ S79872x1024.size a)
theorem k0_off591_inb : ∀ (v807 : BitVec 32) (k0_hw339 : k0_chk339 v807), ∀ a, (k0_off591 v807) a + S1x1024.size a ≤ S79872x1024.size a := fun v807 k0_hw339 => k0_hw339

def k0_off592 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_368 : BitVec 32 := 256#32
  let v813 : BitVec 32 := Scalar.muli v54 c256_i32_368
  let c83_i32 : BitVec 32 := 83#32
  let v814 : BitVec 32 := Scalar.addi v813 c83_i32
  let v815 : Index := Scalar.indexCast v814
  ![v815.toNat]
def k0_off593 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off594 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c83_i32_369 : BitVec 32 := 83#32
  let c0_i32_370 : BitVec 32 := 0#32
  ![v65.toNat, 83, 0]
def k0_off595 (v816 : BitVec 32) : Fin 2 → Nat :=
  let c0_i32_371 : BitVec 32 := 0#32
  ![v816.toNat, 0]

def k0_chk340 (v816 : BitVec 32) : Prop :=
  (∀ a, (k0_off595 v816) a + S1x1024.size a ≤ S79872x1024.size a)
theorem k0_off595_inb : ∀ (v816 : BitVec 32) (k0_hw340 : k0_chk340 v816), ∀ a, (k0_off595 v816) a + S1x1024.size a ≤ S79872x1024.size a := fun v816 k0_hw340 => k0_hw340

def k0_off596 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_372 : BitVec 32 := 256#32
  let v822 : BitVec 32 := Scalar.muli v54 c256_i32_372
  let c84_i32 : BitVec 32 := 84#32
  let v823 : BitVec 32 := Scalar.addi v822 c84_i32
  let v824 : Index := Scalar.indexCast v823
  ![v824.toNat]
def k0_off597 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off598 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c84_i32_373 : BitVec 32 := 84#32
  let c0_i32_374 : BitVec 32 := 0#32
  ![v65.toNat, 84, 0]
def k0_off599 (v825 : BitVec 32) : Fin 2 → Nat :=
  let c0_i32_375 : BitVec 32 := 0#32
  ![v825.toNat, 0]

def k0_chk341 (v825 : BitVec 32) : Prop :=
  (∀ a, (k0_off599 v825) a + S1x1024.size a ≤ S79872x1024.size a)
theorem k0_off599_inb : ∀ (v825 : BitVec 32) (k0_hw341 : k0_chk341 v825), ∀ a, (k0_off599 v825) a + S1x1024.size a ≤ S79872x1024.size a := fun v825 k0_hw341 => k0_hw341

def k0_off600 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_376 : BitVec 32 := 256#32
  let v831 : BitVec 32 := Scalar.muli v54 c256_i32_376
  let c85_i32 : BitVec 32 := 85#32
  let v832 : BitVec 32 := Scalar.addi v831 c85_i32
  let v833 : Index := Scalar.indexCast v832
  ![v833.toNat]
def k0_off601 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off602 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c85_i32_377 : BitVec 32 := 85#32
  let c0_i32_378 : BitVec 32 := 0#32
  ![v65.toNat, 85, 0]
def k0_off603 (v834 : BitVec 32) : Fin 2 → Nat :=
  let c0_i32_379 : BitVec 32 := 0#32
  ![v834.toNat, 0]

def k0_chk342 (v834 : BitVec 32) : Prop :=
  (∀ a, (k0_off603 v834) a + S1x1024.size a ≤ S79872x1024.size a)
theorem k0_off603_inb : ∀ (v834 : BitVec 32) (k0_hw342 : k0_chk342 v834), ∀ a, (k0_off603 v834) a + S1x1024.size a ≤ S79872x1024.size a := fun v834 k0_hw342 => k0_hw342

def k0_off604 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_380 : BitVec 32 := 256#32
  let v840 : BitVec 32 := Scalar.muli v54 c256_i32_380
  let c86_i32 : BitVec 32 := 86#32
  let v841 : BitVec 32 := Scalar.addi v840 c86_i32
  let v842 : Index := Scalar.indexCast v841
  ![v842.toNat]
def k0_off605 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off606 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c86_i32_381 : BitVec 32 := 86#32
  let c0_i32_382 : BitVec 32 := 0#32
  ![v65.toNat, 86, 0]
def k0_off607 (v843 : BitVec 32) : Fin 2 → Nat :=
  let c0_i32_383 : BitVec 32 := 0#32
  ![v843.toNat, 0]

def k0_chk343 (v843 : BitVec 32) : Prop :=
  (∀ a, (k0_off607 v843) a + S1x1024.size a ≤ S79872x1024.size a)
theorem k0_off607_inb : ∀ (v843 : BitVec 32) (k0_hw343 : k0_chk343 v843), ∀ a, (k0_off607 v843) a + S1x1024.size a ≤ S79872x1024.size a := fun v843 k0_hw343 => k0_hw343

def k0_off608 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_384 : BitVec 32 := 256#32
  let v849 : BitVec 32 := Scalar.muli v54 c256_i32_384
  let c87_i32 : BitVec 32 := 87#32
  let v850 : BitVec 32 := Scalar.addi v849 c87_i32
  let v851 : Index := Scalar.indexCast v850
  ![v851.toNat]
def k0_off609 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off610 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c87_i32_385 : BitVec 32 := 87#32
  let c0_i32_386 : BitVec 32 := 0#32
  ![v65.toNat, 87, 0]
def k0_off611 (v852 : BitVec 32) : Fin 2 → Nat :=
  let c0_i32_387 : BitVec 32 := 0#32
  ![v852.toNat, 0]

def k0_chk344 (v852 : BitVec 32) : Prop :=
  (∀ a, (k0_off611 v852) a + S1x1024.size a ≤ S79872x1024.size a)
theorem k0_off611_inb : ∀ (v852 : BitVec 32) (k0_hw344 : k0_chk344 v852), ∀ a, (k0_off611 v852) a + S1x1024.size a ≤ S79872x1024.size a := fun v852 k0_hw344 => k0_hw344

def k0_off612 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_388 : BitVec 32 := 256#32
  let v858 : BitVec 32 := Scalar.muli v54 c256_i32_388
  let c88_i32 : BitVec 32 := 88#32
  let v859 : BitVec 32 := Scalar.addi v858 c88_i32
  let v860 : Index := Scalar.indexCast v859
  ![v860.toNat]
def k0_off613 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off614 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c88_i32_389 : BitVec 32 := 88#32
  let c0_i32_390 : BitVec 32 := 0#32
  ![v65.toNat, 88, 0]
def k0_off615 (v861 : BitVec 32) : Fin 2 → Nat :=
  let c0_i32_391 : BitVec 32 := 0#32
  ![v861.toNat, 0]

def k0_chk345 (v861 : BitVec 32) : Prop :=
  (∀ a, (k0_off615 v861) a + S1x1024.size a ≤ S79872x1024.size a)
theorem k0_off615_inb : ∀ (v861 : BitVec 32) (k0_hw345 : k0_chk345 v861), ∀ a, (k0_off615 v861) a + S1x1024.size a ≤ S79872x1024.size a := fun v861 k0_hw345 => k0_hw345

def k0_off616 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_392 : BitVec 32 := 256#32
  let v867 : BitVec 32 := Scalar.muli v54 c256_i32_392
  let c89_i32 : BitVec 32 := 89#32
  let v868 : BitVec 32 := Scalar.addi v867 c89_i32
  let v869 : Index := Scalar.indexCast v868
  ![v869.toNat]
def k0_off617 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off618 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c89_i32_393 : BitVec 32 := 89#32
  let c0_i32_394 : BitVec 32 := 0#32
  ![v65.toNat, 89, 0]
def k0_off619 (v870 : BitVec 32) : Fin 2 → Nat :=
  let c0_i32_395 : BitVec 32 := 0#32
  ![v870.toNat, 0]

def k0_chk346 (v870 : BitVec 32) : Prop :=
  (∀ a, (k0_off619 v870) a + S1x1024.size a ≤ S79872x1024.size a)
theorem k0_off619_inb : ∀ (v870 : BitVec 32) (k0_hw346 : k0_chk346 v870), ∀ a, (k0_off619 v870) a + S1x1024.size a ≤ S79872x1024.size a := fun v870 k0_hw346 => k0_hw346

def k0_off620 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_396 : BitVec 32 := 256#32
  let v876 : BitVec 32 := Scalar.muli v54 c256_i32_396
  let c90_i32 : BitVec 32 := 90#32
  let v877 : BitVec 32 := Scalar.addi v876 c90_i32
  let v878 : Index := Scalar.indexCast v877
  ![v878.toNat]
def k0_off621 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off622 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c90_i32_397 : BitVec 32 := 90#32
  let c0_i32_398 : BitVec 32 := 0#32
  ![v65.toNat, 90, 0]
def k0_off623 (v879 : BitVec 32) : Fin 2 → Nat :=
  let c0_i32_399 : BitVec 32 := 0#32
  ![v879.toNat, 0]

def k0_chk347 (v879 : BitVec 32) : Prop :=
  (∀ a, (k0_off623 v879) a + S1x1024.size a ≤ S79872x1024.size a)
theorem k0_off623_inb : ∀ (v879 : BitVec 32) (k0_hw347 : k0_chk347 v879), ∀ a, (k0_off623 v879) a + S1x1024.size a ≤ S79872x1024.size a := fun v879 k0_hw347 => k0_hw347

def k0_off624 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_400 : BitVec 32 := 256#32
  let v885 : BitVec 32 := Scalar.muli v54 c256_i32_400
  let c91_i32 : BitVec 32 := 91#32
  let v886 : BitVec 32 := Scalar.addi v885 c91_i32
  let v887 : Index := Scalar.indexCast v886
  ![v887.toNat]
def k0_off625 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off626 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c91_i32_401 : BitVec 32 := 91#32
  let c0_i32_402 : BitVec 32 := 0#32
  ![v65.toNat, 91, 0]
def k0_off627 (v888 : BitVec 32) : Fin 2 → Nat :=
  let c0_i32_403 : BitVec 32 := 0#32
  ![v888.toNat, 0]

def k0_chk348 (v888 : BitVec 32) : Prop :=
  (∀ a, (k0_off627 v888) a + S1x1024.size a ≤ S79872x1024.size a)
theorem k0_off627_inb : ∀ (v888 : BitVec 32) (k0_hw348 : k0_chk348 v888), ∀ a, (k0_off627 v888) a + S1x1024.size a ≤ S79872x1024.size a := fun v888 k0_hw348 => k0_hw348

def k0_off628 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_404 : BitVec 32 := 256#32
  let v894 : BitVec 32 := Scalar.muli v54 c256_i32_404
  let c92_i32 : BitVec 32 := 92#32
  let v895 : BitVec 32 := Scalar.addi v894 c92_i32
  let v896 : Index := Scalar.indexCast v895
  ![v896.toNat]
def k0_off629 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off630 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c92_i32_405 : BitVec 32 := 92#32
  let c0_i32_406 : BitVec 32 := 0#32
  ![v65.toNat, 92, 0]
def k0_off631 (v897 : BitVec 32) : Fin 2 → Nat :=
  let c0_i32_407 : BitVec 32 := 0#32
  ![v897.toNat, 0]

def k0_chk349 (v897 : BitVec 32) : Prop :=
  (∀ a, (k0_off631 v897) a + S1x1024.size a ≤ S79872x1024.size a)
theorem k0_off631_inb : ∀ (v897 : BitVec 32) (k0_hw349 : k0_chk349 v897), ∀ a, (k0_off631 v897) a + S1x1024.size a ≤ S79872x1024.size a := fun v897 k0_hw349 => k0_hw349

def k0_off632 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_408 : BitVec 32 := 256#32
  let v903 : BitVec 32 := Scalar.muli v54 c256_i32_408
  let c93_i32 : BitVec 32 := 93#32
  let v904 : BitVec 32 := Scalar.addi v903 c93_i32
  let v905 : Index := Scalar.indexCast v904
  ![v905.toNat]
def k0_off633 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off634 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c93_i32_409 : BitVec 32 := 93#32
  let c0_i32_410 : BitVec 32 := 0#32
  ![v65.toNat, 93, 0]
def k0_off635 (v906 : BitVec 32) : Fin 2 → Nat :=
  let c0_i32_411 : BitVec 32 := 0#32
  ![v906.toNat, 0]

def k0_chk350 (v906 : BitVec 32) : Prop :=
  (∀ a, (k0_off635 v906) a + S1x1024.size a ≤ S79872x1024.size a)
theorem k0_off635_inb : ∀ (v906 : BitVec 32) (k0_hw350 : k0_chk350 v906), ∀ a, (k0_off635 v906) a + S1x1024.size a ≤ S79872x1024.size a := fun v906 k0_hw350 => k0_hw350

def k0_off636 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_412 : BitVec 32 := 256#32
  let v912 : BitVec 32 := Scalar.muli v54 c256_i32_412
  let c94_i32 : BitVec 32 := 94#32
  let v913 : BitVec 32 := Scalar.addi v912 c94_i32
  let v914 : Index := Scalar.indexCast v913
  ![v914.toNat]
def k0_off637 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off638 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c94_i32_413 : BitVec 32 := 94#32
  let c0_i32_414 : BitVec 32 := 0#32
  ![v65.toNat, 94, 0]
def k0_off639 (v915 : BitVec 32) : Fin 2 → Nat :=
  let c0_i32_415 : BitVec 32 := 0#32
  ![v915.toNat, 0]

def k0_chk351 (v915 : BitVec 32) : Prop :=
  (∀ a, (k0_off639 v915) a + S1x1024.size a ≤ S79872x1024.size a)
theorem k0_off639_inb : ∀ (v915 : BitVec 32) (k0_hw351 : k0_chk351 v915), ∀ a, (k0_off639 v915) a + S1x1024.size a ≤ S79872x1024.size a := fun v915 k0_hw351 => k0_hw351

def k0_off640 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_416 : BitVec 32 := 256#32
  let v921 : BitVec 32 := Scalar.muli v54 c256_i32_416
  let c95_i32 : BitVec 32 := 95#32
  let v922 : BitVec 32 := Scalar.addi v921 c95_i32
  let v923 : Index := Scalar.indexCast v922
  ![v923.toNat]
def k0_off641 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off642 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c95_i32_417 : BitVec 32 := 95#32
  let c0_i32_418 : BitVec 32 := 0#32
  ![v65.toNat, 95, 0]
def k0_off643 (v924 : BitVec 32) : Fin 2 → Nat :=
  let c0_i32_419 : BitVec 32 := 0#32
  ![v924.toNat, 0]

def k0_chk352 (v924 : BitVec 32) : Prop :=
  (∀ a, (k0_off643 v924) a + S1x1024.size a ≤ S79872x1024.size a)
theorem k0_off643_inb : ∀ (v924 : BitVec 32) (k0_hw352 : k0_chk352 v924), ∀ a, (k0_off643 v924) a + S1x1024.size a ≤ S79872x1024.size a := fun v924 k0_hw352 => k0_hw352

def k0_off644 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_420 : BitVec 32 := 256#32
  let v930 : BitVec 32 := Scalar.muli v54 c256_i32_420
  let c96_i32 : BitVec 32 := 96#32
  let v931 : BitVec 32 := Scalar.addi v930 c96_i32
  let v932 : Index := Scalar.indexCast v931
  ![v932.toNat]
def k0_off645 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off646 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c96_i32_421 : BitVec 32 := 96#32
  let c0_i32_422 : BitVec 32 := 0#32
  ![v65.toNat, 96, 0]
def k0_off647 (v933 : BitVec 32) : Fin 2 → Nat :=
  let c0_i32_423 : BitVec 32 := 0#32
  ![v933.toNat, 0]

def k0_chk353 (v933 : BitVec 32) : Prop :=
  (∀ a, (k0_off647 v933) a + S1x1024.size a ≤ S79872x1024.size a)
theorem k0_off647_inb : ∀ (v933 : BitVec 32) (k0_hw353 : k0_chk353 v933), ∀ a, (k0_off647 v933) a + S1x1024.size a ≤ S79872x1024.size a := fun v933 k0_hw353 => k0_hw353

def k0_off648 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_424 : BitVec 32 := 256#32
  let v939 : BitVec 32 := Scalar.muli v54 c256_i32_424
  let c97_i32 : BitVec 32 := 97#32
  let v940 : BitVec 32 := Scalar.addi v939 c97_i32
  let v941 : Index := Scalar.indexCast v940
  ![v941.toNat]
def k0_off649 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off650 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c97_i32_425 : BitVec 32 := 97#32
  let c0_i32_426 : BitVec 32 := 0#32
  ![v65.toNat, 97, 0]
def k0_off651 (v942 : BitVec 32) : Fin 2 → Nat :=
  let c0_i32_427 : BitVec 32 := 0#32
  ![v942.toNat, 0]

def k0_chk354 (v942 : BitVec 32) : Prop :=
  (∀ a, (k0_off651 v942) a + S1x1024.size a ≤ S79872x1024.size a)
theorem k0_off651_inb : ∀ (v942 : BitVec 32) (k0_hw354 : k0_chk354 v942), ∀ a, (k0_off651 v942) a + S1x1024.size a ≤ S79872x1024.size a := fun v942 k0_hw354 => k0_hw354

def k0_off652 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_428 : BitVec 32 := 256#32
  let v948 : BitVec 32 := Scalar.muli v54 c256_i32_428
  let c98_i32 : BitVec 32 := 98#32
  let v949 : BitVec 32 := Scalar.addi v948 c98_i32
  let v950 : Index := Scalar.indexCast v949
  ![v950.toNat]
def k0_off653 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off654 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c98_i32_429 : BitVec 32 := 98#32
  let c0_i32_430 : BitVec 32 := 0#32
  ![v65.toNat, 98, 0]
def k0_off655 (v951 : BitVec 32) : Fin 2 → Nat :=
  let c0_i32_431 : BitVec 32 := 0#32
  ![v951.toNat, 0]

def k0_chk355 (v951 : BitVec 32) : Prop :=
  (∀ a, (k0_off655 v951) a + S1x1024.size a ≤ S79872x1024.size a)
theorem k0_off655_inb : ∀ (v951 : BitVec 32) (k0_hw355 : k0_chk355 v951), ∀ a, (k0_off655 v951) a + S1x1024.size a ≤ S79872x1024.size a := fun v951 k0_hw355 => k0_hw355

def k0_off656 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_432 : BitVec 32 := 256#32
  let v957 : BitVec 32 := Scalar.muli v54 c256_i32_432
  let c99_i32 : BitVec 32 := 99#32
  let v958 : BitVec 32 := Scalar.addi v957 c99_i32
  let v959 : Index := Scalar.indexCast v958
  ![v959.toNat]
def k0_off657 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off658 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c99_i32_433 : BitVec 32 := 99#32
  let c0_i32_434 : BitVec 32 := 0#32
  ![v65.toNat, 99, 0]
def k0_off659 (v960 : BitVec 32) : Fin 2 → Nat :=
  let c0_i32_435 : BitVec 32 := 0#32
  ![v960.toNat, 0]

def k0_chk356 (v960 : BitVec 32) : Prop :=
  (∀ a, (k0_off659 v960) a + S1x1024.size a ≤ S79872x1024.size a)
theorem k0_off659_inb : ∀ (v960 : BitVec 32) (k0_hw356 : k0_chk356 v960), ∀ a, (k0_off659 v960) a + S1x1024.size a ≤ S79872x1024.size a := fun v960 k0_hw356 => k0_hw356

def k0_off660 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_436 : BitVec 32 := 256#32
  let v966 : BitVec 32 := Scalar.muli v54 c256_i32_436
  let c100_i32 : BitVec 32 := 100#32
  let v967 : BitVec 32 := Scalar.addi v966 c100_i32
  let v968 : Index := Scalar.indexCast v967
  ![v968.toNat]
def k0_off661 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off662 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c100_i32_437 : BitVec 32 := 100#32
  let c0_i32_438 : BitVec 32 := 0#32
  ![v65.toNat, 100, 0]
def k0_off663 (v969 : BitVec 32) : Fin 2 → Nat :=
  let c0_i32_439 : BitVec 32 := 0#32
  ![v969.toNat, 0]

def k0_chk357 (v969 : BitVec 32) : Prop :=
  (∀ a, (k0_off663 v969) a + S1x1024.size a ≤ S79872x1024.size a)
theorem k0_off663_inb : ∀ (v969 : BitVec 32) (k0_hw357 : k0_chk357 v969), ∀ a, (k0_off663 v969) a + S1x1024.size a ≤ S79872x1024.size a := fun v969 k0_hw357 => k0_hw357

def k0_off664 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_440 : BitVec 32 := 256#32
  let v975 : BitVec 32 := Scalar.muli v54 c256_i32_440
  let c101_i32 : BitVec 32 := 101#32
  let v976 : BitVec 32 := Scalar.addi v975 c101_i32
  let v977 : Index := Scalar.indexCast v976
  ![v977.toNat]
def k0_off665 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off666 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c101_i32_441 : BitVec 32 := 101#32
  let c0_i32_442 : BitVec 32 := 0#32
  ![v65.toNat, 101, 0]
def k0_off667 (v978 : BitVec 32) : Fin 2 → Nat :=
  let c0_i32_443 : BitVec 32 := 0#32
  ![v978.toNat, 0]

def k0_chk358 (v978 : BitVec 32) : Prop :=
  (∀ a, (k0_off667 v978) a + S1x1024.size a ≤ S79872x1024.size a)
theorem k0_off667_inb : ∀ (v978 : BitVec 32) (k0_hw358 : k0_chk358 v978), ∀ a, (k0_off667 v978) a + S1x1024.size a ≤ S79872x1024.size a := fun v978 k0_hw358 => k0_hw358

def k0_off668 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_444 : BitVec 32 := 256#32
  let v984 : BitVec 32 := Scalar.muli v54 c256_i32_444
  let c102_i32 : BitVec 32 := 102#32
  let v985 : BitVec 32 := Scalar.addi v984 c102_i32
  let v986 : Index := Scalar.indexCast v985
  ![v986.toNat]
def k0_off669 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off670 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c102_i32_445 : BitVec 32 := 102#32
  let c0_i32_446 : BitVec 32 := 0#32
  ![v65.toNat, 102, 0]
def k0_off671 (v987 : BitVec 32) : Fin 2 → Nat :=
  let c0_i32_447 : BitVec 32 := 0#32
  ![v987.toNat, 0]

def k0_chk359 (v987 : BitVec 32) : Prop :=
  (∀ a, (k0_off671 v987) a + S1x1024.size a ≤ S79872x1024.size a)
theorem k0_off671_inb : ∀ (v987 : BitVec 32) (k0_hw359 : k0_chk359 v987), ∀ a, (k0_off671 v987) a + S1x1024.size a ≤ S79872x1024.size a := fun v987 k0_hw359 => k0_hw359

def k0_off672 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_448 : BitVec 32 := 256#32
  let v993 : BitVec 32 := Scalar.muli v54 c256_i32_448
  let c103_i32 : BitVec 32 := 103#32
  let v994 : BitVec 32 := Scalar.addi v993 c103_i32
  let v995 : Index := Scalar.indexCast v994
  ![v995.toNat]
def k0_off673 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off674 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c103_i32_449 : BitVec 32 := 103#32
  let c0_i32_450 : BitVec 32 := 0#32
  ![v65.toNat, 103, 0]
def k0_off675 (v996 : BitVec 32) : Fin 2 → Nat :=
  let c0_i32_451 : BitVec 32 := 0#32
  ![v996.toNat, 0]

def k0_chk360 (v996 : BitVec 32) : Prop :=
  (∀ a, (k0_off675 v996) a + S1x1024.size a ≤ S79872x1024.size a)
theorem k0_off675_inb : ∀ (v996 : BitVec 32) (k0_hw360 : k0_chk360 v996), ∀ a, (k0_off675 v996) a + S1x1024.size a ≤ S79872x1024.size a := fun v996 k0_hw360 => k0_hw360

def k0_off676 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_452 : BitVec 32 := 256#32
  let v1002 : BitVec 32 := Scalar.muli v54 c256_i32_452
  let c104_i32 : BitVec 32 := 104#32
  let v1003 : BitVec 32 := Scalar.addi v1002 c104_i32
  let v1004 : Index := Scalar.indexCast v1003
  ![v1004.toNat]
def k0_off677 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off678 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c104_i32_453 : BitVec 32 := 104#32
  let c0_i32_454 : BitVec 32 := 0#32
  ![v65.toNat, 104, 0]
def k0_off679 (v1005 : BitVec 32) : Fin 2 → Nat :=
  let c0_i32_455 : BitVec 32 := 0#32
  ![v1005.toNat, 0]

def k0_chk361 (v1005 : BitVec 32) : Prop :=
  (∀ a, (k0_off679 v1005) a + S1x1024.size a ≤ S79872x1024.size a)
theorem k0_off679_inb : ∀ (v1005 : BitVec 32) (k0_hw361 : k0_chk361 v1005), ∀ a, (k0_off679 v1005) a + S1x1024.size a ≤ S79872x1024.size a := fun v1005 k0_hw361 => k0_hw361

def k0_off680 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_456 : BitVec 32 := 256#32
  let v1011 : BitVec 32 := Scalar.muli v54 c256_i32_456
  let c105_i32 : BitVec 32 := 105#32
  let v1012 : BitVec 32 := Scalar.addi v1011 c105_i32
  let v1013 : Index := Scalar.indexCast v1012
  ![v1013.toNat]
def k0_off681 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off682 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c105_i32_457 : BitVec 32 := 105#32
  let c0_i32_458 : BitVec 32 := 0#32
  ![v65.toNat, 105, 0]
def k0_off683 (v1014 : BitVec 32) : Fin 2 → Nat :=
  let c0_i32_459 : BitVec 32 := 0#32
  ![v1014.toNat, 0]

def k0_chk362 (v1014 : BitVec 32) : Prop :=
  (∀ a, (k0_off683 v1014) a + S1x1024.size a ≤ S79872x1024.size a)
theorem k0_off683_inb : ∀ (v1014 : BitVec 32) (k0_hw362 : k0_chk362 v1014), ∀ a, (k0_off683 v1014) a + S1x1024.size a ≤ S79872x1024.size a := fun v1014 k0_hw362 => k0_hw362

def k0_off684 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_460 : BitVec 32 := 256#32
  let v1020 : BitVec 32 := Scalar.muli v54 c256_i32_460
  let c106_i32 : BitVec 32 := 106#32
  let v1021 : BitVec 32 := Scalar.addi v1020 c106_i32
  let v1022 : Index := Scalar.indexCast v1021
  ![v1022.toNat]
def k0_off685 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off686 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c106_i32_461 : BitVec 32 := 106#32
  let c0_i32_462 : BitVec 32 := 0#32
  ![v65.toNat, 106, 0]
def k0_off687 (v1023 : BitVec 32) : Fin 2 → Nat :=
  let c0_i32_463 : BitVec 32 := 0#32
  ![v1023.toNat, 0]

def k0_chk363 (v1023 : BitVec 32) : Prop :=
  (∀ a, (k0_off687 v1023) a + S1x1024.size a ≤ S79872x1024.size a)
theorem k0_off687_inb : ∀ (v1023 : BitVec 32) (k0_hw363 : k0_chk363 v1023), ∀ a, (k0_off687 v1023) a + S1x1024.size a ≤ S79872x1024.size a := fun v1023 k0_hw363 => k0_hw363

def k0_off688 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_464 : BitVec 32 := 256#32
  let v1029 : BitVec 32 := Scalar.muli v54 c256_i32_464
  let c107_i32 : BitVec 32 := 107#32
  let v1030 : BitVec 32 := Scalar.addi v1029 c107_i32
  let v1031 : Index := Scalar.indexCast v1030
  ![v1031.toNat]
def k0_off689 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off690 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c107_i32_465 : BitVec 32 := 107#32
  let c0_i32_466 : BitVec 32 := 0#32
  ![v65.toNat, 107, 0]
def k0_off691 (v1032 : BitVec 32) : Fin 2 → Nat :=
  let c0_i32_467 : BitVec 32 := 0#32
  ![v1032.toNat, 0]

def k0_chk364 (v1032 : BitVec 32) : Prop :=
  (∀ a, (k0_off691 v1032) a + S1x1024.size a ≤ S79872x1024.size a)
theorem k0_off691_inb : ∀ (v1032 : BitVec 32) (k0_hw364 : k0_chk364 v1032), ∀ a, (k0_off691 v1032) a + S1x1024.size a ≤ S79872x1024.size a := fun v1032 k0_hw364 => k0_hw364

def k0_off692 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_468 : BitVec 32 := 256#32
  let v1038 : BitVec 32 := Scalar.muli v54 c256_i32_468
  let c108_i32 : BitVec 32 := 108#32
  let v1039 : BitVec 32 := Scalar.addi v1038 c108_i32
  let v1040 : Index := Scalar.indexCast v1039
  ![v1040.toNat]
def k0_off693 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off694 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c108_i32_469 : BitVec 32 := 108#32
  let c0_i32_470 : BitVec 32 := 0#32
  ![v65.toNat, 108, 0]
def k0_off695 (v1041 : BitVec 32) : Fin 2 → Nat :=
  let c0_i32_471 : BitVec 32 := 0#32
  ![v1041.toNat, 0]

def k0_chk365 (v1041 : BitVec 32) : Prop :=
  (∀ a, (k0_off695 v1041) a + S1x1024.size a ≤ S79872x1024.size a)
theorem k0_off695_inb : ∀ (v1041 : BitVec 32) (k0_hw365 : k0_chk365 v1041), ∀ a, (k0_off695 v1041) a + S1x1024.size a ≤ S79872x1024.size a := fun v1041 k0_hw365 => k0_hw365

def k0_off696 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_472 : BitVec 32 := 256#32
  let v1047 : BitVec 32 := Scalar.muli v54 c256_i32_472
  let c109_i32 : BitVec 32 := 109#32
  let v1048 : BitVec 32 := Scalar.addi v1047 c109_i32
  let v1049 : Index := Scalar.indexCast v1048
  ![v1049.toNat]
def k0_off697 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off698 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c109_i32_473 : BitVec 32 := 109#32
  let c0_i32_474 : BitVec 32 := 0#32
  ![v65.toNat, 109, 0]
def k0_off699 (v1050 : BitVec 32) : Fin 2 → Nat :=
  let c0_i32_475 : BitVec 32 := 0#32
  ![v1050.toNat, 0]

def k0_chk366 (v1050 : BitVec 32) : Prop :=
  (∀ a, (k0_off699 v1050) a + S1x1024.size a ≤ S79872x1024.size a)
theorem k0_off699_inb : ∀ (v1050 : BitVec 32) (k0_hw366 : k0_chk366 v1050), ∀ a, (k0_off699 v1050) a + S1x1024.size a ≤ S79872x1024.size a := fun v1050 k0_hw366 => k0_hw366

def k0_off700 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_476 : BitVec 32 := 256#32
  let v1056 : BitVec 32 := Scalar.muli v54 c256_i32_476
  let c110_i32 : BitVec 32 := 110#32
  let v1057 : BitVec 32 := Scalar.addi v1056 c110_i32
  let v1058 : Index := Scalar.indexCast v1057
  ![v1058.toNat]
def k0_off701 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off702 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c110_i32_477 : BitVec 32 := 110#32
  let c0_i32_478 : BitVec 32 := 0#32
  ![v65.toNat, 110, 0]
def k0_off703 (v1059 : BitVec 32) : Fin 2 → Nat :=
  let c0_i32_479 : BitVec 32 := 0#32
  ![v1059.toNat, 0]

def k0_chk367 (v1059 : BitVec 32) : Prop :=
  (∀ a, (k0_off703 v1059) a + S1x1024.size a ≤ S79872x1024.size a)
theorem k0_off703_inb : ∀ (v1059 : BitVec 32) (k0_hw367 : k0_chk367 v1059), ∀ a, (k0_off703 v1059) a + S1x1024.size a ≤ S79872x1024.size a := fun v1059 k0_hw367 => k0_hw367

def k0_off704 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_480 : BitVec 32 := 256#32
  let v1065 : BitVec 32 := Scalar.muli v54 c256_i32_480
  let c111_i32 : BitVec 32 := 111#32
  let v1066 : BitVec 32 := Scalar.addi v1065 c111_i32
  let v1067 : Index := Scalar.indexCast v1066
  ![v1067.toNat]
def k0_off705 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off706 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c111_i32_481 : BitVec 32 := 111#32
  let c0_i32_482 : BitVec 32 := 0#32
  ![v65.toNat, 111, 0]
def k0_off707 (v1068 : BitVec 32) : Fin 2 → Nat :=
  let c0_i32_483 : BitVec 32 := 0#32
  ![v1068.toNat, 0]

def k0_chk368 (v1068 : BitVec 32) : Prop :=
  (∀ a, (k0_off707 v1068) a + S1x1024.size a ≤ S79872x1024.size a)
theorem k0_off707_inb : ∀ (v1068 : BitVec 32) (k0_hw368 : k0_chk368 v1068), ∀ a, (k0_off707 v1068) a + S1x1024.size a ≤ S79872x1024.size a := fun v1068 k0_hw368 => k0_hw368

def k0_off708 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_484 : BitVec 32 := 256#32
  let v1074 : BitVec 32 := Scalar.muli v54 c256_i32_484
  let c112_i32 : BitVec 32 := 112#32
  let v1075 : BitVec 32 := Scalar.addi v1074 c112_i32
  let v1076 : Index := Scalar.indexCast v1075
  ![v1076.toNat]
def k0_off709 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off710 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c112_i32_485 : BitVec 32 := 112#32
  let c0_i32_486 : BitVec 32 := 0#32
  ![v65.toNat, 112, 0]
def k0_off711 (v1077 : BitVec 32) : Fin 2 → Nat :=
  let c0_i32_487 : BitVec 32 := 0#32
  ![v1077.toNat, 0]

def k0_chk369 (v1077 : BitVec 32) : Prop :=
  (∀ a, (k0_off711 v1077) a + S1x1024.size a ≤ S79872x1024.size a)
theorem k0_off711_inb : ∀ (v1077 : BitVec 32) (k0_hw369 : k0_chk369 v1077), ∀ a, (k0_off711 v1077) a + S1x1024.size a ≤ S79872x1024.size a := fun v1077 k0_hw369 => k0_hw369

def k0_off712 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_488 : BitVec 32 := 256#32
  let v1083 : BitVec 32 := Scalar.muli v54 c256_i32_488
  let c113_i32 : BitVec 32 := 113#32
  let v1084 : BitVec 32 := Scalar.addi v1083 c113_i32
  let v1085 : Index := Scalar.indexCast v1084
  ![v1085.toNat]
def k0_off713 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off714 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c113_i32_489 : BitVec 32 := 113#32
  let c0_i32_490 : BitVec 32 := 0#32
  ![v65.toNat, 113, 0]
def k0_off715 (v1086 : BitVec 32) : Fin 2 → Nat :=
  let c0_i32_491 : BitVec 32 := 0#32
  ![v1086.toNat, 0]

def k0_chk370 (v1086 : BitVec 32) : Prop :=
  (∀ a, (k0_off715 v1086) a + S1x1024.size a ≤ S79872x1024.size a)
theorem k0_off715_inb : ∀ (v1086 : BitVec 32) (k0_hw370 : k0_chk370 v1086), ∀ a, (k0_off715 v1086) a + S1x1024.size a ≤ S79872x1024.size a := fun v1086 k0_hw370 => k0_hw370

def k0_off716 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_492 : BitVec 32 := 256#32
  let v1092 : BitVec 32 := Scalar.muli v54 c256_i32_492
  let c114_i32 : BitVec 32 := 114#32
  let v1093 : BitVec 32 := Scalar.addi v1092 c114_i32
  let v1094 : Index := Scalar.indexCast v1093
  ![v1094.toNat]
def k0_off717 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off718 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c114_i32_493 : BitVec 32 := 114#32
  let c0_i32_494 : BitVec 32 := 0#32
  ![v65.toNat, 114, 0]
def k0_off719 (v1095 : BitVec 32) : Fin 2 → Nat :=
  let c0_i32_495 : BitVec 32 := 0#32
  ![v1095.toNat, 0]

def k0_chk371 (v1095 : BitVec 32) : Prop :=
  (∀ a, (k0_off719 v1095) a + S1x1024.size a ≤ S79872x1024.size a)
theorem k0_off719_inb : ∀ (v1095 : BitVec 32) (k0_hw371 : k0_chk371 v1095), ∀ a, (k0_off719 v1095) a + S1x1024.size a ≤ S79872x1024.size a := fun v1095 k0_hw371 => k0_hw371

def k0_off720 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_496 : BitVec 32 := 256#32
  let v1101 : BitVec 32 := Scalar.muli v54 c256_i32_496
  let c115_i32 : BitVec 32 := 115#32
  let v1102 : BitVec 32 := Scalar.addi v1101 c115_i32
  let v1103 : Index := Scalar.indexCast v1102
  ![v1103.toNat]
def k0_off721 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off722 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c115_i32_497 : BitVec 32 := 115#32
  let c0_i32_498 : BitVec 32 := 0#32
  ![v65.toNat, 115, 0]
def k0_off723 (v1104 : BitVec 32) : Fin 2 → Nat :=
  let c0_i32_499 : BitVec 32 := 0#32
  ![v1104.toNat, 0]

def k0_chk372 (v1104 : BitVec 32) : Prop :=
  (∀ a, (k0_off723 v1104) a + S1x1024.size a ≤ S79872x1024.size a)
theorem k0_off723_inb : ∀ (v1104 : BitVec 32) (k0_hw372 : k0_chk372 v1104), ∀ a, (k0_off723 v1104) a + S1x1024.size a ≤ S79872x1024.size a := fun v1104 k0_hw372 => k0_hw372

def k0_off724 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_500 : BitVec 32 := 256#32
  let v1110 : BitVec 32 := Scalar.muli v54 c256_i32_500
  let c116_i32 : BitVec 32 := 116#32
  let v1111 : BitVec 32 := Scalar.addi v1110 c116_i32
  let v1112 : Index := Scalar.indexCast v1111
  ![v1112.toNat]
def k0_off725 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off726 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c116_i32_501 : BitVec 32 := 116#32
  let c0_i32_502 : BitVec 32 := 0#32
  ![v65.toNat, 116, 0]
def k0_off727 (v1113 : BitVec 32) : Fin 2 → Nat :=
  let c0_i32_503 : BitVec 32 := 0#32
  ![v1113.toNat, 0]

def k0_chk373 (v1113 : BitVec 32) : Prop :=
  (∀ a, (k0_off727 v1113) a + S1x1024.size a ≤ S79872x1024.size a)
theorem k0_off727_inb : ∀ (v1113 : BitVec 32) (k0_hw373 : k0_chk373 v1113), ∀ a, (k0_off727 v1113) a + S1x1024.size a ≤ S79872x1024.size a := fun v1113 k0_hw373 => k0_hw373

def k0_off728 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_504 : BitVec 32 := 256#32
  let v1119 : BitVec 32 := Scalar.muli v54 c256_i32_504
  let c117_i32 : BitVec 32 := 117#32
  let v1120 : BitVec 32 := Scalar.addi v1119 c117_i32
  let v1121 : Index := Scalar.indexCast v1120
  ![v1121.toNat]
def k0_off729 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off730 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c117_i32_505 : BitVec 32 := 117#32
  let c0_i32_506 : BitVec 32 := 0#32
  ![v65.toNat, 117, 0]
def k0_off731 (v1122 : BitVec 32) : Fin 2 → Nat :=
  let c0_i32_507 : BitVec 32 := 0#32
  ![v1122.toNat, 0]

def k0_chk374 (v1122 : BitVec 32) : Prop :=
  (∀ a, (k0_off731 v1122) a + S1x1024.size a ≤ S79872x1024.size a)
theorem k0_off731_inb : ∀ (v1122 : BitVec 32) (k0_hw374 : k0_chk374 v1122), ∀ a, (k0_off731 v1122) a + S1x1024.size a ≤ S79872x1024.size a := fun v1122 k0_hw374 => k0_hw374

def k0_off732 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_508 : BitVec 32 := 256#32
  let v1128 : BitVec 32 := Scalar.muli v54 c256_i32_508
  let c118_i32 : BitVec 32 := 118#32
  let v1129 : BitVec 32 := Scalar.addi v1128 c118_i32
  let v1130 : Index := Scalar.indexCast v1129
  ![v1130.toNat]
def k0_off733 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off734 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c118_i32_509 : BitVec 32 := 118#32
  let c0_i32_510 : BitVec 32 := 0#32
  ![v65.toNat, 118, 0]
def k0_off735 (v1131 : BitVec 32) : Fin 2 → Nat :=
  let c0_i32_511 : BitVec 32 := 0#32
  ![v1131.toNat, 0]

def k0_chk375 (v1131 : BitVec 32) : Prop :=
  (∀ a, (k0_off735 v1131) a + S1x1024.size a ≤ S79872x1024.size a)
theorem k0_off735_inb : ∀ (v1131 : BitVec 32) (k0_hw375 : k0_chk375 v1131), ∀ a, (k0_off735 v1131) a + S1x1024.size a ≤ S79872x1024.size a := fun v1131 k0_hw375 => k0_hw375

def k0_off736 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_512 : BitVec 32 := 256#32
  let v1137 : BitVec 32 := Scalar.muli v54 c256_i32_512
  let c119_i32 : BitVec 32 := 119#32
  let v1138 : BitVec 32 := Scalar.addi v1137 c119_i32
  let v1139 : Index := Scalar.indexCast v1138
  ![v1139.toNat]
def k0_off737 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off738 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c119_i32_513 : BitVec 32 := 119#32
  let c0_i32_514 : BitVec 32 := 0#32
  ![v65.toNat, 119, 0]
def k0_off739 (v1140 : BitVec 32) : Fin 2 → Nat :=
  let c0_i32_515 : BitVec 32 := 0#32
  ![v1140.toNat, 0]

def k0_chk376 (v1140 : BitVec 32) : Prop :=
  (∀ a, (k0_off739 v1140) a + S1x1024.size a ≤ S79872x1024.size a)
theorem k0_off739_inb : ∀ (v1140 : BitVec 32) (k0_hw376 : k0_chk376 v1140), ∀ a, (k0_off739 v1140) a + S1x1024.size a ≤ S79872x1024.size a := fun v1140 k0_hw376 => k0_hw376

def k0_off740 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_516 : BitVec 32 := 256#32
  let v1146 : BitVec 32 := Scalar.muli v54 c256_i32_516
  let c120_i32 : BitVec 32 := 120#32
  let v1147 : BitVec 32 := Scalar.addi v1146 c120_i32
  let v1148 : Index := Scalar.indexCast v1147
  ![v1148.toNat]
def k0_off741 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off742 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c120_i32_517 : BitVec 32 := 120#32
  let c0_i32_518 : BitVec 32 := 0#32
  ![v65.toNat, 120, 0]
def k0_off743 (v1149 : BitVec 32) : Fin 2 → Nat :=
  let c0_i32_519 : BitVec 32 := 0#32
  ![v1149.toNat, 0]

def k0_chk377 (v1149 : BitVec 32) : Prop :=
  (∀ a, (k0_off743 v1149) a + S1x1024.size a ≤ S79872x1024.size a)
theorem k0_off743_inb : ∀ (v1149 : BitVec 32) (k0_hw377 : k0_chk377 v1149), ∀ a, (k0_off743 v1149) a + S1x1024.size a ≤ S79872x1024.size a := fun v1149 k0_hw377 => k0_hw377

def k0_off744 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_520 : BitVec 32 := 256#32
  let v1155 : BitVec 32 := Scalar.muli v54 c256_i32_520
  let c121_i32 : BitVec 32 := 121#32
  let v1156 : BitVec 32 := Scalar.addi v1155 c121_i32
  let v1157 : Index := Scalar.indexCast v1156
  ![v1157.toNat]
def k0_off745 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off746 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c121_i32_521 : BitVec 32 := 121#32
  let c0_i32_522 : BitVec 32 := 0#32
  ![v65.toNat, 121, 0]
def k0_off747 (v1158 : BitVec 32) : Fin 2 → Nat :=
  let c0_i32_523 : BitVec 32 := 0#32
  ![v1158.toNat, 0]

def k0_chk378 (v1158 : BitVec 32) : Prop :=
  (∀ a, (k0_off747 v1158) a + S1x1024.size a ≤ S79872x1024.size a)
theorem k0_off747_inb : ∀ (v1158 : BitVec 32) (k0_hw378 : k0_chk378 v1158), ∀ a, (k0_off747 v1158) a + S1x1024.size a ≤ S79872x1024.size a := fun v1158 k0_hw378 => k0_hw378

def k0_off748 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_524 : BitVec 32 := 256#32
  let v1164 : BitVec 32 := Scalar.muli v54 c256_i32_524
  let c122_i32 : BitVec 32 := 122#32
  let v1165 : BitVec 32 := Scalar.addi v1164 c122_i32
  let v1166 : Index := Scalar.indexCast v1165
  ![v1166.toNat]
def k0_off749 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off750 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c122_i32_525 : BitVec 32 := 122#32
  let c0_i32_526 : BitVec 32 := 0#32
  ![v65.toNat, 122, 0]
def k0_off751 (v1167 : BitVec 32) : Fin 2 → Nat :=
  let c0_i32_527 : BitVec 32 := 0#32
  ![v1167.toNat, 0]

def k0_chk379 (v1167 : BitVec 32) : Prop :=
  (∀ a, (k0_off751 v1167) a + S1x1024.size a ≤ S79872x1024.size a)
theorem k0_off751_inb : ∀ (v1167 : BitVec 32) (k0_hw379 : k0_chk379 v1167), ∀ a, (k0_off751 v1167) a + S1x1024.size a ≤ S79872x1024.size a := fun v1167 k0_hw379 => k0_hw379

def k0_off752 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_528 : BitVec 32 := 256#32
  let v1173 : BitVec 32 := Scalar.muli v54 c256_i32_528
  let c123_i32 : BitVec 32 := 123#32
  let v1174 : BitVec 32 := Scalar.addi v1173 c123_i32
  let v1175 : Index := Scalar.indexCast v1174
  ![v1175.toNat]
def k0_off753 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off754 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c123_i32_529 : BitVec 32 := 123#32
  let c0_i32_530 : BitVec 32 := 0#32
  ![v65.toNat, 123, 0]
def k0_off755 (v1176 : BitVec 32) : Fin 2 → Nat :=
  let c0_i32_531 : BitVec 32 := 0#32
  ![v1176.toNat, 0]

def k0_chk380 (v1176 : BitVec 32) : Prop :=
  (∀ a, (k0_off755 v1176) a + S1x1024.size a ≤ S79872x1024.size a)
theorem k0_off755_inb : ∀ (v1176 : BitVec 32) (k0_hw380 : k0_chk380 v1176), ∀ a, (k0_off755 v1176) a + S1x1024.size a ≤ S79872x1024.size a := fun v1176 k0_hw380 => k0_hw380

def k0_off756 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_532 : BitVec 32 := 256#32
  let v1182 : BitVec 32 := Scalar.muli v54 c256_i32_532
  let c124_i32 : BitVec 32 := 124#32
  let v1183 : BitVec 32 := Scalar.addi v1182 c124_i32
  let v1184 : Index := Scalar.indexCast v1183
  ![v1184.toNat]
def k0_off757 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off758 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c124_i32_533 : BitVec 32 := 124#32
  let c0_i32_534 : BitVec 32 := 0#32
  ![v65.toNat, 124, 0]
def k0_off759 (v1185 : BitVec 32) : Fin 2 → Nat :=
  let c0_i32_535 : BitVec 32 := 0#32
  ![v1185.toNat, 0]

def k0_chk381 (v1185 : BitVec 32) : Prop :=
  (∀ a, (k0_off759 v1185) a + S1x1024.size a ≤ S79872x1024.size a)
theorem k0_off759_inb : ∀ (v1185 : BitVec 32) (k0_hw381 : k0_chk381 v1185), ∀ a, (k0_off759 v1185) a + S1x1024.size a ≤ S79872x1024.size a := fun v1185 k0_hw381 => k0_hw381

def k0_off760 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_536 : BitVec 32 := 256#32
  let v1191 : BitVec 32 := Scalar.muli v54 c256_i32_536
  let c125_i32 : BitVec 32 := 125#32
  let v1192 : BitVec 32 := Scalar.addi v1191 c125_i32
  let v1193 : Index := Scalar.indexCast v1192
  ![v1193.toNat]
def k0_off761 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off762 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c125_i32_537 : BitVec 32 := 125#32
  let c0_i32_538 : BitVec 32 := 0#32
  ![v65.toNat, 125, 0]
def k0_off763 (v1194 : BitVec 32) : Fin 2 → Nat :=
  let c0_i32_539 : BitVec 32 := 0#32
  ![v1194.toNat, 0]

def k0_chk382 (v1194 : BitVec 32) : Prop :=
  (∀ a, (k0_off763 v1194) a + S1x1024.size a ≤ S79872x1024.size a)
theorem k0_off763_inb : ∀ (v1194 : BitVec 32) (k0_hw382 : k0_chk382 v1194), ∀ a, (k0_off763 v1194) a + S1x1024.size a ≤ S79872x1024.size a := fun v1194 k0_hw382 => k0_hw382

def k0_off764 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_540 : BitVec 32 := 256#32
  let v1200 : BitVec 32 := Scalar.muli v54 c256_i32_540
  let c126_i32 : BitVec 32 := 126#32
  let v1201 : BitVec 32 := Scalar.addi v1200 c126_i32
  let v1202 : Index := Scalar.indexCast v1201
  ![v1202.toNat]
def k0_off765 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off766 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c126_i32_541 : BitVec 32 := 126#32
  let c0_i32_542 : BitVec 32 := 0#32
  ![v65.toNat, 126, 0]
def k0_off767 (v1203 : BitVec 32) : Fin 2 → Nat :=
  let c0_i32_543 : BitVec 32 := 0#32
  ![v1203.toNat, 0]

def k0_chk383 (v1203 : BitVec 32) : Prop :=
  (∀ a, (k0_off767 v1203) a + S1x1024.size a ≤ S79872x1024.size a)
theorem k0_off767_inb : ∀ (v1203 : BitVec 32) (k0_hw383 : k0_chk383 v1203), ∀ a, (k0_off767 v1203) a + S1x1024.size a ≤ S79872x1024.size a := fun v1203 k0_hw383 => k0_hw383

def k0_off768 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_544 : BitVec 32 := 256#32
  let v1209 : BitVec 32 := Scalar.muli v54 c256_i32_544
  let c127_i32 : BitVec 32 := 127#32
  let v1210 : BitVec 32 := Scalar.addi v1209 c127_i32
  let v1211 : Index := Scalar.indexCast v1210
  ![v1211.toNat]
def k0_off769 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off770 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c127_i32_545 : BitVec 32 := 127#32
  let c0_i32_546 : BitVec 32 := 0#32
  ![v65.toNat, 127, 0]
def k0_off771 (v1212 : BitVec 32) : Fin 2 → Nat :=
  let c0_i32_547 : BitVec 32 := 0#32
  ![v1212.toNat, 0]

def k0_chk384 (v1212 : BitVec 32) : Prop :=
  (∀ a, (k0_off771 v1212) a + S1x1024.size a ≤ S79872x1024.size a)
theorem k0_off771_inb : ∀ (v1212 : BitVec 32) (k0_hw384 : k0_chk384 v1212), ∀ a, (k0_off771 v1212) a + S1x1024.size a ≤ S79872x1024.size a := fun v1212 k0_hw384 => k0_hw384

def k0_off772 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_548 : BitVec 32 := 256#32
  let v1218 : BitVec 32 := Scalar.muli v54 c256_i32_548
  let c128_i32 : BitVec 32 := 128#32
  let v1219 : BitVec 32 := Scalar.addi v1218 c128_i32
  let v1220 : Index := Scalar.indexCast v1219
  ![v1220.toNat]
def k0_off773 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off774 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c128_i32_549 : BitVec 32 := 128#32
  let c0_i32_550 : BitVec 32 := 0#32
  ![v65.toNat, 128, 0]
def k0_off775 (v1221 : BitVec 32) : Fin 2 → Nat :=
  let c0_i32_551 : BitVec 32 := 0#32
  ![v1221.toNat, 0]

def k0_chk385 (v1221 : BitVec 32) : Prop :=
  (∀ a, (k0_off775 v1221) a + S1x1024.size a ≤ S79872x1024.size a)
theorem k0_off775_inb : ∀ (v1221 : BitVec 32) (k0_hw385 : k0_chk385 v1221), ∀ a, (k0_off775 v1221) a + S1x1024.size a ≤ S79872x1024.size a := fun v1221 k0_hw385 => k0_hw385

def k0_off776 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_552 : BitVec 32 := 256#32
  let v1227 : BitVec 32 := Scalar.muli v54 c256_i32_552
  let c129_i32 : BitVec 32 := 129#32
  let v1228 : BitVec 32 := Scalar.addi v1227 c129_i32
  let v1229 : Index := Scalar.indexCast v1228
  ![v1229.toNat]
def k0_off777 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off778 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c129_i32_553 : BitVec 32 := 129#32
  let c0_i32_554 : BitVec 32 := 0#32
  ![v65.toNat, 129, 0]
def k0_off779 (v1230 : BitVec 32) : Fin 2 → Nat :=
  let c0_i32_555 : BitVec 32 := 0#32
  ![v1230.toNat, 0]

def k0_chk386 (v1230 : BitVec 32) : Prop :=
  (∀ a, (k0_off779 v1230) a + S1x1024.size a ≤ S79872x1024.size a)
theorem k0_off779_inb : ∀ (v1230 : BitVec 32) (k0_hw386 : k0_chk386 v1230), ∀ a, (k0_off779 v1230) a + S1x1024.size a ≤ S79872x1024.size a := fun v1230 k0_hw386 => k0_hw386

def k0_off780 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_556 : BitVec 32 := 256#32
  let v1236 : BitVec 32 := Scalar.muli v54 c256_i32_556
  let c130_i32 : BitVec 32 := 130#32
  let v1237 : BitVec 32 := Scalar.addi v1236 c130_i32
  let v1238 : Index := Scalar.indexCast v1237
  ![v1238.toNat]
def k0_off781 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off782 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c130_i32_557 : BitVec 32 := 130#32
  let c0_i32_558 : BitVec 32 := 0#32
  ![v65.toNat, 130, 0]
def k0_off783 (v1239 : BitVec 32) : Fin 2 → Nat :=
  let c0_i32_559 : BitVec 32 := 0#32
  ![v1239.toNat, 0]

def k0_chk387 (v1239 : BitVec 32) : Prop :=
  (∀ a, (k0_off783 v1239) a + S1x1024.size a ≤ S79872x1024.size a)
theorem k0_off783_inb : ∀ (v1239 : BitVec 32) (k0_hw387 : k0_chk387 v1239), ∀ a, (k0_off783 v1239) a + S1x1024.size a ≤ S79872x1024.size a := fun v1239 k0_hw387 => k0_hw387

def k0_off784 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_560 : BitVec 32 := 256#32
  let v1245 : BitVec 32 := Scalar.muli v54 c256_i32_560
  let c131_i32 : BitVec 32 := 131#32
  let v1246 : BitVec 32 := Scalar.addi v1245 c131_i32
  let v1247 : Index := Scalar.indexCast v1246
  ![v1247.toNat]
def k0_off785 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off786 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c131_i32_561 : BitVec 32 := 131#32
  let c0_i32_562 : BitVec 32 := 0#32
  ![v65.toNat, 131, 0]
def k0_off787 (v1248 : BitVec 32) : Fin 2 → Nat :=
  let c0_i32_563 : BitVec 32 := 0#32
  ![v1248.toNat, 0]

def k0_chk388 (v1248 : BitVec 32) : Prop :=
  (∀ a, (k0_off787 v1248) a + S1x1024.size a ≤ S79872x1024.size a)
theorem k0_off787_inb : ∀ (v1248 : BitVec 32) (k0_hw388 : k0_chk388 v1248), ∀ a, (k0_off787 v1248) a + S1x1024.size a ≤ S79872x1024.size a := fun v1248 k0_hw388 => k0_hw388

def k0_off788 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_564 : BitVec 32 := 256#32
  let v1254 : BitVec 32 := Scalar.muli v54 c256_i32_564
  let c132_i32 : BitVec 32 := 132#32
  let v1255 : BitVec 32 := Scalar.addi v1254 c132_i32
  let v1256 : Index := Scalar.indexCast v1255
  ![v1256.toNat]
def k0_off789 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off790 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c132_i32_565 : BitVec 32 := 132#32
  let c0_i32_566 : BitVec 32 := 0#32
  ![v65.toNat, 132, 0]
def k0_off791 (v1257 : BitVec 32) : Fin 2 → Nat :=
  let c0_i32_567 : BitVec 32 := 0#32
  ![v1257.toNat, 0]

def k0_chk389 (v1257 : BitVec 32) : Prop :=
  (∀ a, (k0_off791 v1257) a + S1x1024.size a ≤ S79872x1024.size a)
theorem k0_off791_inb : ∀ (v1257 : BitVec 32) (k0_hw389 : k0_chk389 v1257), ∀ a, (k0_off791 v1257) a + S1x1024.size a ≤ S79872x1024.size a := fun v1257 k0_hw389 => k0_hw389

def k0_off792 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_568 : BitVec 32 := 256#32
  let v1263 : BitVec 32 := Scalar.muli v54 c256_i32_568
  let c133_i32 : BitVec 32 := 133#32
  let v1264 : BitVec 32 := Scalar.addi v1263 c133_i32
  let v1265 : Index := Scalar.indexCast v1264
  ![v1265.toNat]
def k0_off793 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off794 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c133_i32_569 : BitVec 32 := 133#32
  let c0_i32_570 : BitVec 32 := 0#32
  ![v65.toNat, 133, 0]
def k0_off795 (v1266 : BitVec 32) : Fin 2 → Nat :=
  let c0_i32_571 : BitVec 32 := 0#32
  ![v1266.toNat, 0]

def k0_chk390 (v1266 : BitVec 32) : Prop :=
  (∀ a, (k0_off795 v1266) a + S1x1024.size a ≤ S79872x1024.size a)
theorem k0_off795_inb : ∀ (v1266 : BitVec 32) (k0_hw390 : k0_chk390 v1266), ∀ a, (k0_off795 v1266) a + S1x1024.size a ≤ S79872x1024.size a := fun v1266 k0_hw390 => k0_hw390

def k0_off796 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_572 : BitVec 32 := 256#32
  let v1272 : BitVec 32 := Scalar.muli v54 c256_i32_572
  let c134_i32 : BitVec 32 := 134#32
  let v1273 : BitVec 32 := Scalar.addi v1272 c134_i32
  let v1274 : Index := Scalar.indexCast v1273
  ![v1274.toNat]
def k0_off797 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off798 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c134_i32_573 : BitVec 32 := 134#32
  let c0_i32_574 : BitVec 32 := 0#32
  ![v65.toNat, 134, 0]
def k0_off799 (v1275 : BitVec 32) : Fin 2 → Nat :=
  let c0_i32_575 : BitVec 32 := 0#32
  ![v1275.toNat, 0]

def k0_chk391 (v1275 : BitVec 32) : Prop :=
  (∀ a, (k0_off799 v1275) a + S1x1024.size a ≤ S79872x1024.size a)
theorem k0_off799_inb : ∀ (v1275 : BitVec 32) (k0_hw391 : k0_chk391 v1275), ∀ a, (k0_off799 v1275) a + S1x1024.size a ≤ S79872x1024.size a := fun v1275 k0_hw391 => k0_hw391

def k0_off800 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_576 : BitVec 32 := 256#32
  let v1281 : BitVec 32 := Scalar.muli v54 c256_i32_576
  let c135_i32 : BitVec 32 := 135#32
  let v1282 : BitVec 32 := Scalar.addi v1281 c135_i32
  let v1283 : Index := Scalar.indexCast v1282
  ![v1283.toNat]
def k0_off801 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off802 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c135_i32_577 : BitVec 32 := 135#32
  let c0_i32_578 : BitVec 32 := 0#32
  ![v65.toNat, 135, 0]
def k0_off803 (v1284 : BitVec 32) : Fin 2 → Nat :=
  let c0_i32_579 : BitVec 32 := 0#32
  ![v1284.toNat, 0]

def k0_chk392 (v1284 : BitVec 32) : Prop :=
  (∀ a, (k0_off803 v1284) a + S1x1024.size a ≤ S79872x1024.size a)
theorem k0_off803_inb : ∀ (v1284 : BitVec 32) (k0_hw392 : k0_chk392 v1284), ∀ a, (k0_off803 v1284) a + S1x1024.size a ≤ S79872x1024.size a := fun v1284 k0_hw392 => k0_hw392

def k0_off804 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_580 : BitVec 32 := 256#32
  let v1290 : BitVec 32 := Scalar.muli v54 c256_i32_580
  let c136_i32 : BitVec 32 := 136#32
  let v1291 : BitVec 32 := Scalar.addi v1290 c136_i32
  let v1292 : Index := Scalar.indexCast v1291
  ![v1292.toNat]
def k0_off805 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off806 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c136_i32_581 : BitVec 32 := 136#32
  let c0_i32_582 : BitVec 32 := 0#32
  ![v65.toNat, 136, 0]
def k0_off807 (v1293 : BitVec 32) : Fin 2 → Nat :=
  let c0_i32_583 : BitVec 32 := 0#32
  ![v1293.toNat, 0]

def k0_chk393 (v1293 : BitVec 32) : Prop :=
  (∀ a, (k0_off807 v1293) a + S1x1024.size a ≤ S79872x1024.size a)
theorem k0_off807_inb : ∀ (v1293 : BitVec 32) (k0_hw393 : k0_chk393 v1293), ∀ a, (k0_off807 v1293) a + S1x1024.size a ≤ S79872x1024.size a := fun v1293 k0_hw393 => k0_hw393

def k0_off808 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_584 : BitVec 32 := 256#32
  let v1299 : BitVec 32 := Scalar.muli v54 c256_i32_584
  let c137_i32 : BitVec 32 := 137#32
  let v1300 : BitVec 32 := Scalar.addi v1299 c137_i32
  let v1301 : Index := Scalar.indexCast v1300
  ![v1301.toNat]
def k0_off809 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off810 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c137_i32_585 : BitVec 32 := 137#32
  let c0_i32_586 : BitVec 32 := 0#32
  ![v65.toNat, 137, 0]
def k0_off811 (v1302 : BitVec 32) : Fin 2 → Nat :=
  let c0_i32_587 : BitVec 32 := 0#32
  ![v1302.toNat, 0]

def k0_chk394 (v1302 : BitVec 32) : Prop :=
  (∀ a, (k0_off811 v1302) a + S1x1024.size a ≤ S79872x1024.size a)
theorem k0_off811_inb : ∀ (v1302 : BitVec 32) (k0_hw394 : k0_chk394 v1302), ∀ a, (k0_off811 v1302) a + S1x1024.size a ≤ S79872x1024.size a := fun v1302 k0_hw394 => k0_hw394

def k0_off812 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_588 : BitVec 32 := 256#32
  let v1308 : BitVec 32 := Scalar.muli v54 c256_i32_588
  let c138_i32 : BitVec 32 := 138#32
  let v1309 : BitVec 32 := Scalar.addi v1308 c138_i32
  let v1310 : Index := Scalar.indexCast v1309
  ![v1310.toNat]
def k0_off813 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off814 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c138_i32_589 : BitVec 32 := 138#32
  let c0_i32_590 : BitVec 32 := 0#32
  ![v65.toNat, 138, 0]
def k0_off815 (v1311 : BitVec 32) : Fin 2 → Nat :=
  let c0_i32_591 : BitVec 32 := 0#32
  ![v1311.toNat, 0]

def k0_chk395 (v1311 : BitVec 32) : Prop :=
  (∀ a, (k0_off815 v1311) a + S1x1024.size a ≤ S79872x1024.size a)
theorem k0_off815_inb : ∀ (v1311 : BitVec 32) (k0_hw395 : k0_chk395 v1311), ∀ a, (k0_off815 v1311) a + S1x1024.size a ≤ S79872x1024.size a := fun v1311 k0_hw395 => k0_hw395

def k0_off816 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_592 : BitVec 32 := 256#32
  let v1317 : BitVec 32 := Scalar.muli v54 c256_i32_592
  let c139_i32 : BitVec 32 := 139#32
  let v1318 : BitVec 32 := Scalar.addi v1317 c139_i32
  let v1319 : Index := Scalar.indexCast v1318
  ![v1319.toNat]
def k0_off817 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off818 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c139_i32_593 : BitVec 32 := 139#32
  let c0_i32_594 : BitVec 32 := 0#32
  ![v65.toNat, 139, 0]
def k0_off819 (v1320 : BitVec 32) : Fin 2 → Nat :=
  let c0_i32_595 : BitVec 32 := 0#32
  ![v1320.toNat, 0]

def k0_chk396 (v1320 : BitVec 32) : Prop :=
  (∀ a, (k0_off819 v1320) a + S1x1024.size a ≤ S79872x1024.size a)
theorem k0_off819_inb : ∀ (v1320 : BitVec 32) (k0_hw396 : k0_chk396 v1320), ∀ a, (k0_off819 v1320) a + S1x1024.size a ≤ S79872x1024.size a := fun v1320 k0_hw396 => k0_hw396

def k0_off820 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_596 : BitVec 32 := 256#32
  let v1326 : BitVec 32 := Scalar.muli v54 c256_i32_596
  let c140_i32 : BitVec 32 := 140#32
  let v1327 : BitVec 32 := Scalar.addi v1326 c140_i32
  let v1328 : Index := Scalar.indexCast v1327
  ![v1328.toNat]
def k0_off821 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off822 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c140_i32_597 : BitVec 32 := 140#32
  let c0_i32_598 : BitVec 32 := 0#32
  ![v65.toNat, 140, 0]
def k0_off823 (v1329 : BitVec 32) : Fin 2 → Nat :=
  let c0_i32_599 : BitVec 32 := 0#32
  ![v1329.toNat, 0]

def k0_chk397 (v1329 : BitVec 32) : Prop :=
  (∀ a, (k0_off823 v1329) a + S1x1024.size a ≤ S79872x1024.size a)
theorem k0_off823_inb : ∀ (v1329 : BitVec 32) (k0_hw397 : k0_chk397 v1329), ∀ a, (k0_off823 v1329) a + S1x1024.size a ≤ S79872x1024.size a := fun v1329 k0_hw397 => k0_hw397

def k0_off824 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_600 : BitVec 32 := 256#32
  let v1335 : BitVec 32 := Scalar.muli v54 c256_i32_600
  let c141_i32 : BitVec 32 := 141#32
  let v1336 : BitVec 32 := Scalar.addi v1335 c141_i32
  let v1337 : Index := Scalar.indexCast v1336
  ![v1337.toNat]
def k0_off825 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off826 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c141_i32_601 : BitVec 32 := 141#32
  let c0_i32_602 : BitVec 32 := 0#32
  ![v65.toNat, 141, 0]
def k0_off827 (v1338 : BitVec 32) : Fin 2 → Nat :=
  let c0_i32_603 : BitVec 32 := 0#32
  ![v1338.toNat, 0]

def k0_chk398 (v1338 : BitVec 32) : Prop :=
  (∀ a, (k0_off827 v1338) a + S1x1024.size a ≤ S79872x1024.size a)
theorem k0_off827_inb : ∀ (v1338 : BitVec 32) (k0_hw398 : k0_chk398 v1338), ∀ a, (k0_off827 v1338) a + S1x1024.size a ≤ S79872x1024.size a := fun v1338 k0_hw398 => k0_hw398

def k0_off828 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_604 : BitVec 32 := 256#32
  let v1344 : BitVec 32 := Scalar.muli v54 c256_i32_604
  let c142_i32 : BitVec 32 := 142#32
  let v1345 : BitVec 32 := Scalar.addi v1344 c142_i32
  let v1346 : Index := Scalar.indexCast v1345
  ![v1346.toNat]
def k0_off829 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off830 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c142_i32_605 : BitVec 32 := 142#32
  let c0_i32_606 : BitVec 32 := 0#32
  ![v65.toNat, 142, 0]
def k0_off831 (v1347 : BitVec 32) : Fin 2 → Nat :=
  let c0_i32_607 : BitVec 32 := 0#32
  ![v1347.toNat, 0]

def k0_chk399 (v1347 : BitVec 32) : Prop :=
  (∀ a, (k0_off831 v1347) a + S1x1024.size a ≤ S79872x1024.size a)
theorem k0_off831_inb : ∀ (v1347 : BitVec 32) (k0_hw399 : k0_chk399 v1347), ∀ a, (k0_off831 v1347) a + S1x1024.size a ≤ S79872x1024.size a := fun v1347 k0_hw399 => k0_hw399

def k0_off832 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_608 : BitVec 32 := 256#32
  let v1353 : BitVec 32 := Scalar.muli v54 c256_i32_608
  let c143_i32 : BitVec 32 := 143#32
  let v1354 : BitVec 32 := Scalar.addi v1353 c143_i32
  let v1355 : Index := Scalar.indexCast v1354
  ![v1355.toNat]
def k0_off833 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off834 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c143_i32_609 : BitVec 32 := 143#32
  let c0_i32_610 : BitVec 32 := 0#32
  ![v65.toNat, 143, 0]
def k0_off835 (v1356 : BitVec 32) : Fin 2 → Nat :=
  let c0_i32_611 : BitVec 32 := 0#32
  ![v1356.toNat, 0]

def k0_chk400 (v1356 : BitVec 32) : Prop :=
  (∀ a, (k0_off835 v1356) a + S1x1024.size a ≤ S79872x1024.size a)
theorem k0_off835_inb : ∀ (v1356 : BitVec 32) (k0_hw400 : k0_chk400 v1356), ∀ a, (k0_off835 v1356) a + S1x1024.size a ≤ S79872x1024.size a := fun v1356 k0_hw400 => k0_hw400

def k0_off836 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_612 : BitVec 32 := 256#32
  let v1362 : BitVec 32 := Scalar.muli v54 c256_i32_612
  let c144_i32 : BitVec 32 := 144#32
  let v1363 : BitVec 32 := Scalar.addi v1362 c144_i32
  let v1364 : Index := Scalar.indexCast v1363
  ![v1364.toNat]
def k0_off837 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off838 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c144_i32_613 : BitVec 32 := 144#32
  let c0_i32_614 : BitVec 32 := 0#32
  ![v65.toNat, 144, 0]
def k0_off839 (v1365 : BitVec 32) : Fin 2 → Nat :=
  let c0_i32_615 : BitVec 32 := 0#32
  ![v1365.toNat, 0]

def k0_chk401 (v1365 : BitVec 32) : Prop :=
  (∀ a, (k0_off839 v1365) a + S1x1024.size a ≤ S79872x1024.size a)
theorem k0_off839_inb : ∀ (v1365 : BitVec 32) (k0_hw401 : k0_chk401 v1365), ∀ a, (k0_off839 v1365) a + S1x1024.size a ≤ S79872x1024.size a := fun v1365 k0_hw401 => k0_hw401

def k0_off840 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_616 : BitVec 32 := 256#32
  let v1371 : BitVec 32 := Scalar.muli v54 c256_i32_616
  let c145_i32 : BitVec 32 := 145#32
  let v1372 : BitVec 32 := Scalar.addi v1371 c145_i32
  let v1373 : Index := Scalar.indexCast v1372
  ![v1373.toNat]
def k0_off841 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off842 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c145_i32_617 : BitVec 32 := 145#32
  let c0_i32_618 : BitVec 32 := 0#32
  ![v65.toNat, 145, 0]
def k0_off843 (v1374 : BitVec 32) : Fin 2 → Nat :=
  let c0_i32_619 : BitVec 32 := 0#32
  ![v1374.toNat, 0]

def k0_chk402 (v1374 : BitVec 32) : Prop :=
  (∀ a, (k0_off843 v1374) a + S1x1024.size a ≤ S79872x1024.size a)
theorem k0_off843_inb : ∀ (v1374 : BitVec 32) (k0_hw402 : k0_chk402 v1374), ∀ a, (k0_off843 v1374) a + S1x1024.size a ≤ S79872x1024.size a := fun v1374 k0_hw402 => k0_hw402

def k0_off844 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_620 : BitVec 32 := 256#32
  let v1380 : BitVec 32 := Scalar.muli v54 c256_i32_620
  let c146_i32 : BitVec 32 := 146#32
  let v1381 : BitVec 32 := Scalar.addi v1380 c146_i32
  let v1382 : Index := Scalar.indexCast v1381
  ![v1382.toNat]
def k0_off845 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off846 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c146_i32_621 : BitVec 32 := 146#32
  let c0_i32_622 : BitVec 32 := 0#32
  ![v65.toNat, 146, 0]
def k0_off847 (v1383 : BitVec 32) : Fin 2 → Nat :=
  let c0_i32_623 : BitVec 32 := 0#32
  ![v1383.toNat, 0]

def k0_chk403 (v1383 : BitVec 32) : Prop :=
  (∀ a, (k0_off847 v1383) a + S1x1024.size a ≤ S79872x1024.size a)
theorem k0_off847_inb : ∀ (v1383 : BitVec 32) (k0_hw403 : k0_chk403 v1383), ∀ a, (k0_off847 v1383) a + S1x1024.size a ≤ S79872x1024.size a := fun v1383 k0_hw403 => k0_hw403

def k0_off848 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_624 : BitVec 32 := 256#32
  let v1389 : BitVec 32 := Scalar.muli v54 c256_i32_624
  let c147_i32 : BitVec 32 := 147#32
  let v1390 : BitVec 32 := Scalar.addi v1389 c147_i32
  let v1391 : Index := Scalar.indexCast v1390
  ![v1391.toNat]
def k0_off849 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off850 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c147_i32_625 : BitVec 32 := 147#32
  let c0_i32_626 : BitVec 32 := 0#32
  ![v65.toNat, 147, 0]
def k0_off851 (v1392 : BitVec 32) : Fin 2 → Nat :=
  let c0_i32_627 : BitVec 32 := 0#32
  ![v1392.toNat, 0]

def k0_chk404 (v1392 : BitVec 32) : Prop :=
  (∀ a, (k0_off851 v1392) a + S1x1024.size a ≤ S79872x1024.size a)
theorem k0_off851_inb : ∀ (v1392 : BitVec 32) (k0_hw404 : k0_chk404 v1392), ∀ a, (k0_off851 v1392) a + S1x1024.size a ≤ S79872x1024.size a := fun v1392 k0_hw404 => k0_hw404

def k0_off852 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_628 : BitVec 32 := 256#32
  let v1398 : BitVec 32 := Scalar.muli v54 c256_i32_628
  let c148_i32 : BitVec 32 := 148#32
  let v1399 : BitVec 32 := Scalar.addi v1398 c148_i32
  let v1400 : Index := Scalar.indexCast v1399
  ![v1400.toNat]
def k0_off853 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off854 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c148_i32_629 : BitVec 32 := 148#32
  let c0_i32_630 : BitVec 32 := 0#32
  ![v65.toNat, 148, 0]
def k0_off855 (v1401 : BitVec 32) : Fin 2 → Nat :=
  let c0_i32_631 : BitVec 32 := 0#32
  ![v1401.toNat, 0]

def k0_chk405 (v1401 : BitVec 32) : Prop :=
  (∀ a, (k0_off855 v1401) a + S1x1024.size a ≤ S79872x1024.size a)
theorem k0_off855_inb : ∀ (v1401 : BitVec 32) (k0_hw405 : k0_chk405 v1401), ∀ a, (k0_off855 v1401) a + S1x1024.size a ≤ S79872x1024.size a := fun v1401 k0_hw405 => k0_hw405

def k0_off856 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_632 : BitVec 32 := 256#32
  let v1407 : BitVec 32 := Scalar.muli v54 c256_i32_632
  let c149_i32 : BitVec 32 := 149#32
  let v1408 : BitVec 32 := Scalar.addi v1407 c149_i32
  let v1409 : Index := Scalar.indexCast v1408
  ![v1409.toNat]
def k0_off857 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off858 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c149_i32_633 : BitVec 32 := 149#32
  let c0_i32_634 : BitVec 32 := 0#32
  ![v65.toNat, 149, 0]
def k0_off859 (v1410 : BitVec 32) : Fin 2 → Nat :=
  let c0_i32_635 : BitVec 32 := 0#32
  ![v1410.toNat, 0]

def k0_chk406 (v1410 : BitVec 32) : Prop :=
  (∀ a, (k0_off859 v1410) a + S1x1024.size a ≤ S79872x1024.size a)
theorem k0_off859_inb : ∀ (v1410 : BitVec 32) (k0_hw406 : k0_chk406 v1410), ∀ a, (k0_off859 v1410) a + S1x1024.size a ≤ S79872x1024.size a := fun v1410 k0_hw406 => k0_hw406

def k0_off860 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_636 : BitVec 32 := 256#32
  let v1416 : BitVec 32 := Scalar.muli v54 c256_i32_636
  let c150_i32 : BitVec 32 := 150#32
  let v1417 : BitVec 32 := Scalar.addi v1416 c150_i32
  let v1418 : Index := Scalar.indexCast v1417
  ![v1418.toNat]
def k0_off861 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off862 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c150_i32_637 : BitVec 32 := 150#32
  let c0_i32_638 : BitVec 32 := 0#32
  ![v65.toNat, 150, 0]
def k0_off863 (v1419 : BitVec 32) : Fin 2 → Nat :=
  let c0_i32_639 : BitVec 32 := 0#32
  ![v1419.toNat, 0]

def k0_chk407 (v1419 : BitVec 32) : Prop :=
  (∀ a, (k0_off863 v1419) a + S1x1024.size a ≤ S79872x1024.size a)
theorem k0_off863_inb : ∀ (v1419 : BitVec 32) (k0_hw407 : k0_chk407 v1419), ∀ a, (k0_off863 v1419) a + S1x1024.size a ≤ S79872x1024.size a := fun v1419 k0_hw407 => k0_hw407

def k0_off864 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_640 : BitVec 32 := 256#32
  let v1425 : BitVec 32 := Scalar.muli v54 c256_i32_640
  let c151_i32 : BitVec 32 := 151#32
  let v1426 : BitVec 32 := Scalar.addi v1425 c151_i32
  let v1427 : Index := Scalar.indexCast v1426
  ![v1427.toNat]
def k0_off865 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off866 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c151_i32_641 : BitVec 32 := 151#32
  let c0_i32_642 : BitVec 32 := 0#32
  ![v65.toNat, 151, 0]
def k0_off867 (v1428 : BitVec 32) : Fin 2 → Nat :=
  let c0_i32_643 : BitVec 32 := 0#32
  ![v1428.toNat, 0]

def k0_chk408 (v1428 : BitVec 32) : Prop :=
  (∀ a, (k0_off867 v1428) a + S1x1024.size a ≤ S79872x1024.size a)
theorem k0_off867_inb : ∀ (v1428 : BitVec 32) (k0_hw408 : k0_chk408 v1428), ∀ a, (k0_off867 v1428) a + S1x1024.size a ≤ S79872x1024.size a := fun v1428 k0_hw408 => k0_hw408

def k0_off868 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_644 : BitVec 32 := 256#32
  let v1434 : BitVec 32 := Scalar.muli v54 c256_i32_644
  let c152_i32 : BitVec 32 := 152#32
  let v1435 : BitVec 32 := Scalar.addi v1434 c152_i32
  let v1436 : Index := Scalar.indexCast v1435
  ![v1436.toNat]
def k0_off869 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off870 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c152_i32_645 : BitVec 32 := 152#32
  let c0_i32_646 : BitVec 32 := 0#32
  ![v65.toNat, 152, 0]
def k0_off871 (v1437 : BitVec 32) : Fin 2 → Nat :=
  let c0_i32_647 : BitVec 32 := 0#32
  ![v1437.toNat, 0]

def k0_chk409 (v1437 : BitVec 32) : Prop :=
  (∀ a, (k0_off871 v1437) a + S1x1024.size a ≤ S79872x1024.size a)
theorem k0_off871_inb : ∀ (v1437 : BitVec 32) (k0_hw409 : k0_chk409 v1437), ∀ a, (k0_off871 v1437) a + S1x1024.size a ≤ S79872x1024.size a := fun v1437 k0_hw409 => k0_hw409

def k0_off872 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_648 : BitVec 32 := 256#32
  let v1443 : BitVec 32 := Scalar.muli v54 c256_i32_648
  let c153_i32 : BitVec 32 := 153#32
  let v1444 : BitVec 32 := Scalar.addi v1443 c153_i32
  let v1445 : Index := Scalar.indexCast v1444
  ![v1445.toNat]
def k0_off873 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off874 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c153_i32_649 : BitVec 32 := 153#32
  let c0_i32_650 : BitVec 32 := 0#32
  ![v65.toNat, 153, 0]
def k0_off875 (v1446 : BitVec 32) : Fin 2 → Nat :=
  let c0_i32_651 : BitVec 32 := 0#32
  ![v1446.toNat, 0]

def k0_chk410 (v1446 : BitVec 32) : Prop :=
  (∀ a, (k0_off875 v1446) a + S1x1024.size a ≤ S79872x1024.size a)
theorem k0_off875_inb : ∀ (v1446 : BitVec 32) (k0_hw410 : k0_chk410 v1446), ∀ a, (k0_off875 v1446) a + S1x1024.size a ≤ S79872x1024.size a := fun v1446 k0_hw410 => k0_hw410

def k0_off876 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_652 : BitVec 32 := 256#32
  let v1452 : BitVec 32 := Scalar.muli v54 c256_i32_652
  let c154_i32 : BitVec 32 := 154#32
  let v1453 : BitVec 32 := Scalar.addi v1452 c154_i32
  let v1454 : Index := Scalar.indexCast v1453
  ![v1454.toNat]
def k0_off877 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off878 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c154_i32_653 : BitVec 32 := 154#32
  let c0_i32_654 : BitVec 32 := 0#32
  ![v65.toNat, 154, 0]
def k0_off879 (v1455 : BitVec 32) : Fin 2 → Nat :=
  let c0_i32_655 : BitVec 32 := 0#32
  ![v1455.toNat, 0]

def k0_chk411 (v1455 : BitVec 32) : Prop :=
  (∀ a, (k0_off879 v1455) a + S1x1024.size a ≤ S79872x1024.size a)
theorem k0_off879_inb : ∀ (v1455 : BitVec 32) (k0_hw411 : k0_chk411 v1455), ∀ a, (k0_off879 v1455) a + S1x1024.size a ≤ S79872x1024.size a := fun v1455 k0_hw411 => k0_hw411

def k0_off880 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_656 : BitVec 32 := 256#32
  let v1461 : BitVec 32 := Scalar.muli v54 c256_i32_656
  let c155_i32 : BitVec 32 := 155#32
  let v1462 : BitVec 32 := Scalar.addi v1461 c155_i32
  let v1463 : Index := Scalar.indexCast v1462
  ![v1463.toNat]
def k0_off881 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off882 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c155_i32_657 : BitVec 32 := 155#32
  let c0_i32_658 : BitVec 32 := 0#32
  ![v65.toNat, 155, 0]
def k0_off883 (v1464 : BitVec 32) : Fin 2 → Nat :=
  let c0_i32_659 : BitVec 32 := 0#32
  ![v1464.toNat, 0]

def k0_chk412 (v1464 : BitVec 32) : Prop :=
  (∀ a, (k0_off883 v1464) a + S1x1024.size a ≤ S79872x1024.size a)
theorem k0_off883_inb : ∀ (v1464 : BitVec 32) (k0_hw412 : k0_chk412 v1464), ∀ a, (k0_off883 v1464) a + S1x1024.size a ≤ S79872x1024.size a := fun v1464 k0_hw412 => k0_hw412

def k0_off884 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_660 : BitVec 32 := 256#32
  let v1470 : BitVec 32 := Scalar.muli v54 c256_i32_660
  let c156_i32 : BitVec 32 := 156#32
  let v1471 : BitVec 32 := Scalar.addi v1470 c156_i32
  let v1472 : Index := Scalar.indexCast v1471
  ![v1472.toNat]
def k0_off885 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off886 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c156_i32_661 : BitVec 32 := 156#32
  let c0_i32_662 : BitVec 32 := 0#32
  ![v65.toNat, 156, 0]
def k0_off887 (v1473 : BitVec 32) : Fin 2 → Nat :=
  let c0_i32_663 : BitVec 32 := 0#32
  ![v1473.toNat, 0]

def k0_chk413 (v1473 : BitVec 32) : Prop :=
  (∀ a, (k0_off887 v1473) a + S1x1024.size a ≤ S79872x1024.size a)
theorem k0_off887_inb : ∀ (v1473 : BitVec 32) (k0_hw413 : k0_chk413 v1473), ∀ a, (k0_off887 v1473) a + S1x1024.size a ≤ S79872x1024.size a := fun v1473 k0_hw413 => k0_hw413

def k0_off888 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_664 : BitVec 32 := 256#32
  let v1479 : BitVec 32 := Scalar.muli v54 c256_i32_664
  let c157_i32 : BitVec 32 := 157#32
  let v1480 : BitVec 32 := Scalar.addi v1479 c157_i32
  let v1481 : Index := Scalar.indexCast v1480
  ![v1481.toNat]
def k0_off889 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off890 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c157_i32_665 : BitVec 32 := 157#32
  let c0_i32_666 : BitVec 32 := 0#32
  ![v65.toNat, 157, 0]
def k0_off891 (v1482 : BitVec 32) : Fin 2 → Nat :=
  let c0_i32_667 : BitVec 32 := 0#32
  ![v1482.toNat, 0]

def k0_chk414 (v1482 : BitVec 32) : Prop :=
  (∀ a, (k0_off891 v1482) a + S1x1024.size a ≤ S79872x1024.size a)
theorem k0_off891_inb : ∀ (v1482 : BitVec 32) (k0_hw414 : k0_chk414 v1482), ∀ a, (k0_off891 v1482) a + S1x1024.size a ≤ S79872x1024.size a := fun v1482 k0_hw414 => k0_hw414

def k0_off892 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_668 : BitVec 32 := 256#32
  let v1488 : BitVec 32 := Scalar.muli v54 c256_i32_668
  let c158_i32 : BitVec 32 := 158#32
  let v1489 : BitVec 32 := Scalar.addi v1488 c158_i32
  let v1490 : Index := Scalar.indexCast v1489
  ![v1490.toNat]
def k0_off893 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off894 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c158_i32_669 : BitVec 32 := 158#32
  let c0_i32_670 : BitVec 32 := 0#32
  ![v65.toNat, 158, 0]
def k0_off895 (v1491 : BitVec 32) : Fin 2 → Nat :=
  let c0_i32_671 : BitVec 32 := 0#32
  ![v1491.toNat, 0]

def k0_chk415 (v1491 : BitVec 32) : Prop :=
  (∀ a, (k0_off895 v1491) a + S1x1024.size a ≤ S79872x1024.size a)
theorem k0_off895_inb : ∀ (v1491 : BitVec 32) (k0_hw415 : k0_chk415 v1491), ∀ a, (k0_off895 v1491) a + S1x1024.size a ≤ S79872x1024.size a := fun v1491 k0_hw415 => k0_hw415

def k0_off896 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_672 : BitVec 32 := 256#32
  let v1497 : BitVec 32 := Scalar.muli v54 c256_i32_672
  let c159_i32 : BitVec 32 := 159#32
  let v1498 : BitVec 32 := Scalar.addi v1497 c159_i32
  let v1499 : Index := Scalar.indexCast v1498
  ![v1499.toNat]
def k0_off897 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off898 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c159_i32_673 : BitVec 32 := 159#32
  let c0_i32_674 : BitVec 32 := 0#32
  ![v65.toNat, 159, 0]
def k0_off899 (v1500 : BitVec 32) : Fin 2 → Nat :=
  let c0_i32_675 : BitVec 32 := 0#32
  ![v1500.toNat, 0]

def k0_chk416 (v1500 : BitVec 32) : Prop :=
  (∀ a, (k0_off899 v1500) a + S1x1024.size a ≤ S79872x1024.size a)
theorem k0_off899_inb : ∀ (v1500 : BitVec 32) (k0_hw416 : k0_chk416 v1500), ∀ a, (k0_off899 v1500) a + S1x1024.size a ≤ S79872x1024.size a := fun v1500 k0_hw416 => k0_hw416

def k0_off900 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_676 : BitVec 32 := 256#32
  let v1506 : BitVec 32 := Scalar.muli v54 c256_i32_676
  let c160_i32 : BitVec 32 := 160#32
  let v1507 : BitVec 32 := Scalar.addi v1506 c160_i32
  let v1508 : Index := Scalar.indexCast v1507
  ![v1508.toNat]
def k0_off901 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off902 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c160_i32_677 : BitVec 32 := 160#32
  let c0_i32_678 : BitVec 32 := 0#32
  ![v65.toNat, 160, 0]
def k0_off903 (v1509 : BitVec 32) : Fin 2 → Nat :=
  let c0_i32_679 : BitVec 32 := 0#32
  ![v1509.toNat, 0]

def k0_chk417 (v1509 : BitVec 32) : Prop :=
  (∀ a, (k0_off903 v1509) a + S1x1024.size a ≤ S79872x1024.size a)
theorem k0_off903_inb : ∀ (v1509 : BitVec 32) (k0_hw417 : k0_chk417 v1509), ∀ a, (k0_off903 v1509) a + S1x1024.size a ≤ S79872x1024.size a := fun v1509 k0_hw417 => k0_hw417

def k0_off904 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_680 : BitVec 32 := 256#32
  let v1515 : BitVec 32 := Scalar.muli v54 c256_i32_680
  let c161_i32 : BitVec 32 := 161#32
  let v1516 : BitVec 32 := Scalar.addi v1515 c161_i32
  let v1517 : Index := Scalar.indexCast v1516
  ![v1517.toNat]
def k0_off905 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off906 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c161_i32_681 : BitVec 32 := 161#32
  let c0_i32_682 : BitVec 32 := 0#32
  ![v65.toNat, 161, 0]
def k0_off907 (v1518 : BitVec 32) : Fin 2 → Nat :=
  let c0_i32_683 : BitVec 32 := 0#32
  ![v1518.toNat, 0]

def k0_chk418 (v1518 : BitVec 32) : Prop :=
  (∀ a, (k0_off907 v1518) a + S1x1024.size a ≤ S79872x1024.size a)
theorem k0_off907_inb : ∀ (v1518 : BitVec 32) (k0_hw418 : k0_chk418 v1518), ∀ a, (k0_off907 v1518) a + S1x1024.size a ≤ S79872x1024.size a := fun v1518 k0_hw418 => k0_hw418

def k0_off908 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_684 : BitVec 32 := 256#32
  let v1524 : BitVec 32 := Scalar.muli v54 c256_i32_684
  let c162_i32 : BitVec 32 := 162#32
  let v1525 : BitVec 32 := Scalar.addi v1524 c162_i32
  let v1526 : Index := Scalar.indexCast v1525
  ![v1526.toNat]
def k0_off909 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off910 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c162_i32_685 : BitVec 32 := 162#32
  let c0_i32_686 : BitVec 32 := 0#32
  ![v65.toNat, 162, 0]
def k0_off911 (v1527 : BitVec 32) : Fin 2 → Nat :=
  let c0_i32_687 : BitVec 32 := 0#32
  ![v1527.toNat, 0]

def k0_chk419 (v1527 : BitVec 32) : Prop :=
  (∀ a, (k0_off911 v1527) a + S1x1024.size a ≤ S79872x1024.size a)
theorem k0_off911_inb : ∀ (v1527 : BitVec 32) (k0_hw419 : k0_chk419 v1527), ∀ a, (k0_off911 v1527) a + S1x1024.size a ≤ S79872x1024.size a := fun v1527 k0_hw419 => k0_hw419

def k0_off912 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_688 : BitVec 32 := 256#32
  let v1533 : BitVec 32 := Scalar.muli v54 c256_i32_688
  let c163_i32 : BitVec 32 := 163#32
  let v1534 : BitVec 32 := Scalar.addi v1533 c163_i32
  let v1535 : Index := Scalar.indexCast v1534
  ![v1535.toNat]
def k0_off913 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off914 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c163_i32_689 : BitVec 32 := 163#32
  let c0_i32_690 : BitVec 32 := 0#32
  ![v65.toNat, 163, 0]
def k0_off915 (v1536 : BitVec 32) : Fin 2 → Nat :=
  let c0_i32_691 : BitVec 32 := 0#32
  ![v1536.toNat, 0]

def k0_chk420 (v1536 : BitVec 32) : Prop :=
  (∀ a, (k0_off915 v1536) a + S1x1024.size a ≤ S79872x1024.size a)
theorem k0_off915_inb : ∀ (v1536 : BitVec 32) (k0_hw420 : k0_chk420 v1536), ∀ a, (k0_off915 v1536) a + S1x1024.size a ≤ S79872x1024.size a := fun v1536 k0_hw420 => k0_hw420

def k0_off916 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_692 : BitVec 32 := 256#32
  let v1542 : BitVec 32 := Scalar.muli v54 c256_i32_692
  let c164_i32 : BitVec 32 := 164#32
  let v1543 : BitVec 32 := Scalar.addi v1542 c164_i32
  let v1544 : Index := Scalar.indexCast v1543
  ![v1544.toNat]
def k0_off917 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off918 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c164_i32_693 : BitVec 32 := 164#32
  let c0_i32_694 : BitVec 32 := 0#32
  ![v65.toNat, 164, 0]
def k0_off919 (v1545 : BitVec 32) : Fin 2 → Nat :=
  let c0_i32_695 : BitVec 32 := 0#32
  ![v1545.toNat, 0]

def k0_chk421 (v1545 : BitVec 32) : Prop :=
  (∀ a, (k0_off919 v1545) a + S1x1024.size a ≤ S79872x1024.size a)
theorem k0_off919_inb : ∀ (v1545 : BitVec 32) (k0_hw421 : k0_chk421 v1545), ∀ a, (k0_off919 v1545) a + S1x1024.size a ≤ S79872x1024.size a := fun v1545 k0_hw421 => k0_hw421

def k0_off920 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_696 : BitVec 32 := 256#32
  let v1551 : BitVec 32 := Scalar.muli v54 c256_i32_696
  let c165_i32 : BitVec 32 := 165#32
  let v1552 : BitVec 32 := Scalar.addi v1551 c165_i32
  let v1553 : Index := Scalar.indexCast v1552
  ![v1553.toNat]
def k0_off921 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off922 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c165_i32_697 : BitVec 32 := 165#32
  let c0_i32_698 : BitVec 32 := 0#32
  ![v65.toNat, 165, 0]
def k0_off923 (v1554 : BitVec 32) : Fin 2 → Nat :=
  let c0_i32_699 : BitVec 32 := 0#32
  ![v1554.toNat, 0]

def k0_chk422 (v1554 : BitVec 32) : Prop :=
  (∀ a, (k0_off923 v1554) a + S1x1024.size a ≤ S79872x1024.size a)
theorem k0_off923_inb : ∀ (v1554 : BitVec 32) (k0_hw422 : k0_chk422 v1554), ∀ a, (k0_off923 v1554) a + S1x1024.size a ≤ S79872x1024.size a := fun v1554 k0_hw422 => k0_hw422

def k0_off924 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_700 : BitVec 32 := 256#32
  let v1560 : BitVec 32 := Scalar.muli v54 c256_i32_700
  let c166_i32 : BitVec 32 := 166#32
  let v1561 : BitVec 32 := Scalar.addi v1560 c166_i32
  let v1562 : Index := Scalar.indexCast v1561
  ![v1562.toNat]
def k0_off925 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off926 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c166_i32_701 : BitVec 32 := 166#32
  let c0_i32_702 : BitVec 32 := 0#32
  ![v65.toNat, 166, 0]
def k0_off927 (v1563 : BitVec 32) : Fin 2 → Nat :=
  let c0_i32_703 : BitVec 32 := 0#32
  ![v1563.toNat, 0]

def k0_chk423 (v1563 : BitVec 32) : Prop :=
  (∀ a, (k0_off927 v1563) a + S1x1024.size a ≤ S79872x1024.size a)
theorem k0_off927_inb : ∀ (v1563 : BitVec 32) (k0_hw423 : k0_chk423 v1563), ∀ a, (k0_off927 v1563) a + S1x1024.size a ≤ S79872x1024.size a := fun v1563 k0_hw423 => k0_hw423

def k0_off928 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_704 : BitVec 32 := 256#32
  let v1569 : BitVec 32 := Scalar.muli v54 c256_i32_704
  let c167_i32 : BitVec 32 := 167#32
  let v1570 : BitVec 32 := Scalar.addi v1569 c167_i32
  let v1571 : Index := Scalar.indexCast v1570
  ![v1571.toNat]
def k0_off929 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off930 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c167_i32_705 : BitVec 32 := 167#32
  let c0_i32_706 : BitVec 32 := 0#32
  ![v65.toNat, 167, 0]
def k0_off931 (v1572 : BitVec 32) : Fin 2 → Nat :=
  let c0_i32_707 : BitVec 32 := 0#32
  ![v1572.toNat, 0]

def k0_chk424 (v1572 : BitVec 32) : Prop :=
  (∀ a, (k0_off931 v1572) a + S1x1024.size a ≤ S79872x1024.size a)
theorem k0_off931_inb : ∀ (v1572 : BitVec 32) (k0_hw424 : k0_chk424 v1572), ∀ a, (k0_off931 v1572) a + S1x1024.size a ≤ S79872x1024.size a := fun v1572 k0_hw424 => k0_hw424

def k0_off932 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_708 : BitVec 32 := 256#32
  let v1578 : BitVec 32 := Scalar.muli v54 c256_i32_708
  let c168_i32 : BitVec 32 := 168#32
  let v1579 : BitVec 32 := Scalar.addi v1578 c168_i32
  let v1580 : Index := Scalar.indexCast v1579
  ![v1580.toNat]
def k0_off933 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off934 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c168_i32_709 : BitVec 32 := 168#32
  let c0_i32_710 : BitVec 32 := 0#32
  ![v65.toNat, 168, 0]
def k0_off935 (v1581 : BitVec 32) : Fin 2 → Nat :=
  let c0_i32_711 : BitVec 32 := 0#32
  ![v1581.toNat, 0]

def k0_chk425 (v1581 : BitVec 32) : Prop :=
  (∀ a, (k0_off935 v1581) a + S1x1024.size a ≤ S79872x1024.size a)
theorem k0_off935_inb : ∀ (v1581 : BitVec 32) (k0_hw425 : k0_chk425 v1581), ∀ a, (k0_off935 v1581) a + S1x1024.size a ≤ S79872x1024.size a := fun v1581 k0_hw425 => k0_hw425

def k0_off936 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_712 : BitVec 32 := 256#32
  let v1587 : BitVec 32 := Scalar.muli v54 c256_i32_712
  let c169_i32 : BitVec 32 := 169#32
  let v1588 : BitVec 32 := Scalar.addi v1587 c169_i32
  let v1589 : Index := Scalar.indexCast v1588
  ![v1589.toNat]
def k0_off937 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off938 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c169_i32_713 : BitVec 32 := 169#32
  let c0_i32_714 : BitVec 32 := 0#32
  ![v65.toNat, 169, 0]
def k0_off939 (v1590 : BitVec 32) : Fin 2 → Nat :=
  let c0_i32_715 : BitVec 32 := 0#32
  ![v1590.toNat, 0]

def k0_chk426 (v1590 : BitVec 32) : Prop :=
  (∀ a, (k0_off939 v1590) a + S1x1024.size a ≤ S79872x1024.size a)
theorem k0_off939_inb : ∀ (v1590 : BitVec 32) (k0_hw426 : k0_chk426 v1590), ∀ a, (k0_off939 v1590) a + S1x1024.size a ≤ S79872x1024.size a := fun v1590 k0_hw426 => k0_hw426

def k0_off940 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_716 : BitVec 32 := 256#32
  let v1596 : BitVec 32 := Scalar.muli v54 c256_i32_716
  let c170_i32 : BitVec 32 := 170#32
  let v1597 : BitVec 32 := Scalar.addi v1596 c170_i32
  let v1598 : Index := Scalar.indexCast v1597
  ![v1598.toNat]
def k0_off941 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off942 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c170_i32_717 : BitVec 32 := 170#32
  let c0_i32_718 : BitVec 32 := 0#32
  ![v65.toNat, 170, 0]
def k0_off943 (v1599 : BitVec 32) : Fin 2 → Nat :=
  let c0_i32_719 : BitVec 32 := 0#32
  ![v1599.toNat, 0]

def k0_chk427 (v1599 : BitVec 32) : Prop :=
  (∀ a, (k0_off943 v1599) a + S1x1024.size a ≤ S79872x1024.size a)
theorem k0_off943_inb : ∀ (v1599 : BitVec 32) (k0_hw427 : k0_chk427 v1599), ∀ a, (k0_off943 v1599) a + S1x1024.size a ≤ S79872x1024.size a := fun v1599 k0_hw427 => k0_hw427

def k0_off944 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_720 : BitVec 32 := 256#32
  let v1605 : BitVec 32 := Scalar.muli v54 c256_i32_720
  let c171_i32 : BitVec 32 := 171#32
  let v1606 : BitVec 32 := Scalar.addi v1605 c171_i32
  let v1607 : Index := Scalar.indexCast v1606
  ![v1607.toNat]
def k0_off945 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off946 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c171_i32_721 : BitVec 32 := 171#32
  let c0_i32_722 : BitVec 32 := 0#32
  ![v65.toNat, 171, 0]
def k0_off947 (v1608 : BitVec 32) : Fin 2 → Nat :=
  let c0_i32_723 : BitVec 32 := 0#32
  ![v1608.toNat, 0]

def k0_chk428 (v1608 : BitVec 32) : Prop :=
  (∀ a, (k0_off947 v1608) a + S1x1024.size a ≤ S79872x1024.size a)
theorem k0_off947_inb : ∀ (v1608 : BitVec 32) (k0_hw428 : k0_chk428 v1608), ∀ a, (k0_off947 v1608) a + S1x1024.size a ≤ S79872x1024.size a := fun v1608 k0_hw428 => k0_hw428

def k0_off948 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_724 : BitVec 32 := 256#32
  let v1614 : BitVec 32 := Scalar.muli v54 c256_i32_724
  let c172_i32 : BitVec 32 := 172#32
  let v1615 : BitVec 32 := Scalar.addi v1614 c172_i32
  let v1616 : Index := Scalar.indexCast v1615
  ![v1616.toNat]
def k0_off949 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off950 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c172_i32_725 : BitVec 32 := 172#32
  let c0_i32_726 : BitVec 32 := 0#32
  ![v65.toNat, 172, 0]
def k0_off951 (v1617 : BitVec 32) : Fin 2 → Nat :=
  let c0_i32_727 : BitVec 32 := 0#32
  ![v1617.toNat, 0]

def k0_chk429 (v1617 : BitVec 32) : Prop :=
  (∀ a, (k0_off951 v1617) a + S1x1024.size a ≤ S79872x1024.size a)
theorem k0_off951_inb : ∀ (v1617 : BitVec 32) (k0_hw429 : k0_chk429 v1617), ∀ a, (k0_off951 v1617) a + S1x1024.size a ≤ S79872x1024.size a := fun v1617 k0_hw429 => k0_hw429

def k0_off952 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_728 : BitVec 32 := 256#32
  let v1623 : BitVec 32 := Scalar.muli v54 c256_i32_728
  let c173_i32 : BitVec 32 := 173#32
  let v1624 : BitVec 32 := Scalar.addi v1623 c173_i32
  let v1625 : Index := Scalar.indexCast v1624
  ![v1625.toNat]
def k0_off953 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off954 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c173_i32_729 : BitVec 32 := 173#32
  let c0_i32_730 : BitVec 32 := 0#32
  ![v65.toNat, 173, 0]
def k0_off955 (v1626 : BitVec 32) : Fin 2 → Nat :=
  let c0_i32_731 : BitVec 32 := 0#32
  ![v1626.toNat, 0]

def k0_chk430 (v1626 : BitVec 32) : Prop :=
  (∀ a, (k0_off955 v1626) a + S1x1024.size a ≤ S79872x1024.size a)
theorem k0_off955_inb : ∀ (v1626 : BitVec 32) (k0_hw430 : k0_chk430 v1626), ∀ a, (k0_off955 v1626) a + S1x1024.size a ≤ S79872x1024.size a := fun v1626 k0_hw430 => k0_hw430

def k0_off956 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_732 : BitVec 32 := 256#32
  let v1632 : BitVec 32 := Scalar.muli v54 c256_i32_732
  let c174_i32 : BitVec 32 := 174#32
  let v1633 : BitVec 32 := Scalar.addi v1632 c174_i32
  let v1634 : Index := Scalar.indexCast v1633
  ![v1634.toNat]
def k0_off957 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off958 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c174_i32_733 : BitVec 32 := 174#32
  let c0_i32_734 : BitVec 32 := 0#32
  ![v65.toNat, 174, 0]
def k0_off959 (v1635 : BitVec 32) : Fin 2 → Nat :=
  let c0_i32_735 : BitVec 32 := 0#32
  ![v1635.toNat, 0]

def k0_chk431 (v1635 : BitVec 32) : Prop :=
  (∀ a, (k0_off959 v1635) a + S1x1024.size a ≤ S79872x1024.size a)
theorem k0_off959_inb : ∀ (v1635 : BitVec 32) (k0_hw431 : k0_chk431 v1635), ∀ a, (k0_off959 v1635) a + S1x1024.size a ≤ S79872x1024.size a := fun v1635 k0_hw431 => k0_hw431

def k0_off960 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_736 : BitVec 32 := 256#32
  let v1641 : BitVec 32 := Scalar.muli v54 c256_i32_736
  let c175_i32 : BitVec 32 := 175#32
  let v1642 : BitVec 32 := Scalar.addi v1641 c175_i32
  let v1643 : Index := Scalar.indexCast v1642
  ![v1643.toNat]
def k0_off961 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off962 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c175_i32_737 : BitVec 32 := 175#32
  let c0_i32_738 : BitVec 32 := 0#32
  ![v65.toNat, 175, 0]
def k0_off963 (v1644 : BitVec 32) : Fin 2 → Nat :=
  let c0_i32_739 : BitVec 32 := 0#32
  ![v1644.toNat, 0]

def k0_chk432 (v1644 : BitVec 32) : Prop :=
  (∀ a, (k0_off963 v1644) a + S1x1024.size a ≤ S79872x1024.size a)
theorem k0_off963_inb : ∀ (v1644 : BitVec 32) (k0_hw432 : k0_chk432 v1644), ∀ a, (k0_off963 v1644) a + S1x1024.size a ≤ S79872x1024.size a := fun v1644 k0_hw432 => k0_hw432

def k0_off964 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_740 : BitVec 32 := 256#32
  let v1650 : BitVec 32 := Scalar.muli v54 c256_i32_740
  let c176_i32 : BitVec 32 := 176#32
  let v1651 : BitVec 32 := Scalar.addi v1650 c176_i32
  let v1652 : Index := Scalar.indexCast v1651
  ![v1652.toNat]
def k0_off965 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off966 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c176_i32_741 : BitVec 32 := 176#32
  let c0_i32_742 : BitVec 32 := 0#32
  ![v65.toNat, 176, 0]
def k0_off967 (v1653 : BitVec 32) : Fin 2 → Nat :=
  let c0_i32_743 : BitVec 32 := 0#32
  ![v1653.toNat, 0]

def k0_chk433 (v1653 : BitVec 32) : Prop :=
  (∀ a, (k0_off967 v1653) a + S1x1024.size a ≤ S79872x1024.size a)
theorem k0_off967_inb : ∀ (v1653 : BitVec 32) (k0_hw433 : k0_chk433 v1653), ∀ a, (k0_off967 v1653) a + S1x1024.size a ≤ S79872x1024.size a := fun v1653 k0_hw433 => k0_hw433

def k0_off968 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_744 : BitVec 32 := 256#32
  let v1659 : BitVec 32 := Scalar.muli v54 c256_i32_744
  let c177_i32 : BitVec 32 := 177#32
  let v1660 : BitVec 32 := Scalar.addi v1659 c177_i32
  let v1661 : Index := Scalar.indexCast v1660
  ![v1661.toNat]
def k0_off969 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off970 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c177_i32_745 : BitVec 32 := 177#32
  let c0_i32_746 : BitVec 32 := 0#32
  ![v65.toNat, 177, 0]
def k0_off971 (v1662 : BitVec 32) : Fin 2 → Nat :=
  let c0_i32_747 : BitVec 32 := 0#32
  ![v1662.toNat, 0]

def k0_chk434 (v1662 : BitVec 32) : Prop :=
  (∀ a, (k0_off971 v1662) a + S1x1024.size a ≤ S79872x1024.size a)
theorem k0_off971_inb : ∀ (v1662 : BitVec 32) (k0_hw434 : k0_chk434 v1662), ∀ a, (k0_off971 v1662) a + S1x1024.size a ≤ S79872x1024.size a := fun v1662 k0_hw434 => k0_hw434

def k0_off972 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_748 : BitVec 32 := 256#32
  let v1668 : BitVec 32 := Scalar.muli v54 c256_i32_748
  let c178_i32 : BitVec 32 := 178#32
  let v1669 : BitVec 32 := Scalar.addi v1668 c178_i32
  let v1670 : Index := Scalar.indexCast v1669
  ![v1670.toNat]
def k0_off973 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off974 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c178_i32_749 : BitVec 32 := 178#32
  let c0_i32_750 : BitVec 32 := 0#32
  ![v65.toNat, 178, 0]
def k0_off975 (v1671 : BitVec 32) : Fin 2 → Nat :=
  let c0_i32_751 : BitVec 32 := 0#32
  ![v1671.toNat, 0]

def k0_chk435 (v1671 : BitVec 32) : Prop :=
  (∀ a, (k0_off975 v1671) a + S1x1024.size a ≤ S79872x1024.size a)
theorem k0_off975_inb : ∀ (v1671 : BitVec 32) (k0_hw435 : k0_chk435 v1671), ∀ a, (k0_off975 v1671) a + S1x1024.size a ≤ S79872x1024.size a := fun v1671 k0_hw435 => k0_hw435

def k0_off976 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_752 : BitVec 32 := 256#32
  let v1677 : BitVec 32 := Scalar.muli v54 c256_i32_752
  let c179_i32 : BitVec 32 := 179#32
  let v1678 : BitVec 32 := Scalar.addi v1677 c179_i32
  let v1679 : Index := Scalar.indexCast v1678
  ![v1679.toNat]
def k0_off977 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off978 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c179_i32_753 : BitVec 32 := 179#32
  let c0_i32_754 : BitVec 32 := 0#32
  ![v65.toNat, 179, 0]
def k0_off979 (v1680 : BitVec 32) : Fin 2 → Nat :=
  let c0_i32_755 : BitVec 32 := 0#32
  ![v1680.toNat, 0]

def k0_chk436 (v1680 : BitVec 32) : Prop :=
  (∀ a, (k0_off979 v1680) a + S1x1024.size a ≤ S79872x1024.size a)
theorem k0_off979_inb : ∀ (v1680 : BitVec 32) (k0_hw436 : k0_chk436 v1680), ∀ a, (k0_off979 v1680) a + S1x1024.size a ≤ S79872x1024.size a := fun v1680 k0_hw436 => k0_hw436

def k0_off980 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_756 : BitVec 32 := 256#32
  let v1686 : BitVec 32 := Scalar.muli v54 c256_i32_756
  let c180_i32 : BitVec 32 := 180#32
  let v1687 : BitVec 32 := Scalar.addi v1686 c180_i32
  let v1688 : Index := Scalar.indexCast v1687
  ![v1688.toNat]
def k0_off981 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off982 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c180_i32_757 : BitVec 32 := 180#32
  let c0_i32_758 : BitVec 32 := 0#32
  ![v65.toNat, 180, 0]
def k0_off983 (v1689 : BitVec 32) : Fin 2 → Nat :=
  let c0_i32_759 : BitVec 32 := 0#32
  ![v1689.toNat, 0]

def k0_chk437 (v1689 : BitVec 32) : Prop :=
  (∀ a, (k0_off983 v1689) a + S1x1024.size a ≤ S79872x1024.size a)
theorem k0_off983_inb : ∀ (v1689 : BitVec 32) (k0_hw437 : k0_chk437 v1689), ∀ a, (k0_off983 v1689) a + S1x1024.size a ≤ S79872x1024.size a := fun v1689 k0_hw437 => k0_hw437

def k0_off984 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_760 : BitVec 32 := 256#32
  let v1695 : BitVec 32 := Scalar.muli v54 c256_i32_760
  let c181_i32 : BitVec 32 := 181#32
  let v1696 : BitVec 32 := Scalar.addi v1695 c181_i32
  let v1697 : Index := Scalar.indexCast v1696
  ![v1697.toNat]
def k0_off985 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off986 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c181_i32_761 : BitVec 32 := 181#32
  let c0_i32_762 : BitVec 32 := 0#32
  ![v65.toNat, 181, 0]
def k0_off987 (v1698 : BitVec 32) : Fin 2 → Nat :=
  let c0_i32_763 : BitVec 32 := 0#32
  ![v1698.toNat, 0]

def k0_chk438 (v1698 : BitVec 32) : Prop :=
  (∀ a, (k0_off987 v1698) a + S1x1024.size a ≤ S79872x1024.size a)
theorem k0_off987_inb : ∀ (v1698 : BitVec 32) (k0_hw438 : k0_chk438 v1698), ∀ a, (k0_off987 v1698) a + S1x1024.size a ≤ S79872x1024.size a := fun v1698 k0_hw438 => k0_hw438

def k0_off988 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_764 : BitVec 32 := 256#32
  let v1704 : BitVec 32 := Scalar.muli v54 c256_i32_764
  let c182_i32 : BitVec 32 := 182#32
  let v1705 : BitVec 32 := Scalar.addi v1704 c182_i32
  let v1706 : Index := Scalar.indexCast v1705
  ![v1706.toNat]
def k0_off989 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off990 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c182_i32_765 : BitVec 32 := 182#32
  let c0_i32_766 : BitVec 32 := 0#32
  ![v65.toNat, 182, 0]
def k0_off991 (v1707 : BitVec 32) : Fin 2 → Nat :=
  let c0_i32_767 : BitVec 32 := 0#32
  ![v1707.toNat, 0]

def k0_chk439 (v1707 : BitVec 32) : Prop :=
  (∀ a, (k0_off991 v1707) a + S1x1024.size a ≤ S79872x1024.size a)
theorem k0_off991_inb : ∀ (v1707 : BitVec 32) (k0_hw439 : k0_chk439 v1707), ∀ a, (k0_off991 v1707) a + S1x1024.size a ≤ S79872x1024.size a := fun v1707 k0_hw439 => k0_hw439

def k0_off992 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_768 : BitVec 32 := 256#32
  let v1713 : BitVec 32 := Scalar.muli v54 c256_i32_768
  let c183_i32 : BitVec 32 := 183#32
  let v1714 : BitVec 32 := Scalar.addi v1713 c183_i32
  let v1715 : Index := Scalar.indexCast v1714
  ![v1715.toNat]
def k0_off993 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off994 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c183_i32_769 : BitVec 32 := 183#32
  let c0_i32_770 : BitVec 32 := 0#32
  ![v65.toNat, 183, 0]
def k0_off995 (v1716 : BitVec 32) : Fin 2 → Nat :=
  let c0_i32_771 : BitVec 32 := 0#32
  ![v1716.toNat, 0]

def k0_chk440 (v1716 : BitVec 32) : Prop :=
  (∀ a, (k0_off995 v1716) a + S1x1024.size a ≤ S79872x1024.size a)
theorem k0_off995_inb : ∀ (v1716 : BitVec 32) (k0_hw440 : k0_chk440 v1716), ∀ a, (k0_off995 v1716) a + S1x1024.size a ≤ S79872x1024.size a := fun v1716 k0_hw440 => k0_hw440

def k0_off996 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_772 : BitVec 32 := 256#32
  let v1722 : BitVec 32 := Scalar.muli v54 c256_i32_772
  let c184_i32 : BitVec 32 := 184#32
  let v1723 : BitVec 32 := Scalar.addi v1722 c184_i32
  let v1724 : Index := Scalar.indexCast v1723
  ![v1724.toNat]
def k0_off997 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off998 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c184_i32_773 : BitVec 32 := 184#32
  let c0_i32_774 : BitVec 32 := 0#32
  ![v65.toNat, 184, 0]
def k0_off999 (v1725 : BitVec 32) : Fin 2 → Nat :=
  let c0_i32_775 : BitVec 32 := 0#32
  ![v1725.toNat, 0]

def k0_chk441 (v1725 : BitVec 32) : Prop :=
  (∀ a, (k0_off999 v1725) a + S1x1024.size a ≤ S79872x1024.size a)
theorem k0_off999_inb : ∀ (v1725 : BitVec 32) (k0_hw441 : k0_chk441 v1725), ∀ a, (k0_off999 v1725) a + S1x1024.size a ≤ S79872x1024.size a := fun v1725 k0_hw441 => k0_hw441

def k0_off1000 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_776 : BitVec 32 := 256#32
  let v1731 : BitVec 32 := Scalar.muli v54 c256_i32_776
  let c185_i32 : BitVec 32 := 185#32
  let v1732 : BitVec 32 := Scalar.addi v1731 c185_i32
  let v1733 : Index := Scalar.indexCast v1732
  ![v1733.toNat]
def k0_off1001 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1002 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c185_i32_777 : BitVec 32 := 185#32
  let c0_i32_778 : BitVec 32 := 0#32
  ![v65.toNat, 185, 0]
def k0_off1003 (v1734 : BitVec 32) : Fin 2 → Nat :=
  let c0_i32_779 : BitVec 32 := 0#32
  ![v1734.toNat, 0]

def k0_chk442 (v1734 : BitVec 32) : Prop :=
  (∀ a, (k0_off1003 v1734) a + S1x1024.size a ≤ S79872x1024.size a)
theorem k0_off1003_inb : ∀ (v1734 : BitVec 32) (k0_hw442 : k0_chk442 v1734), ∀ a, (k0_off1003 v1734) a + S1x1024.size a ≤ S79872x1024.size a := fun v1734 k0_hw442 => k0_hw442

def k0_off1004 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_780 : BitVec 32 := 256#32
  let v1740 : BitVec 32 := Scalar.muli v54 c256_i32_780
  let c186_i32 : BitVec 32 := 186#32
  let v1741 : BitVec 32 := Scalar.addi v1740 c186_i32
  let v1742 : Index := Scalar.indexCast v1741
  ![v1742.toNat]
def k0_off1005 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1006 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c186_i32_781 : BitVec 32 := 186#32
  let c0_i32_782 : BitVec 32 := 0#32
  ![v65.toNat, 186, 0]
def k0_off1007 (v1743 : BitVec 32) : Fin 2 → Nat :=
  let c0_i32_783 : BitVec 32 := 0#32
  ![v1743.toNat, 0]

def k0_chk443 (v1743 : BitVec 32) : Prop :=
  (∀ a, (k0_off1007 v1743) a + S1x1024.size a ≤ S79872x1024.size a)
theorem k0_off1007_inb : ∀ (v1743 : BitVec 32) (k0_hw443 : k0_chk443 v1743), ∀ a, (k0_off1007 v1743) a + S1x1024.size a ≤ S79872x1024.size a := fun v1743 k0_hw443 => k0_hw443

def k0_off1008 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_784 : BitVec 32 := 256#32
  let v1749 : BitVec 32 := Scalar.muli v54 c256_i32_784
  let c187_i32 : BitVec 32 := 187#32
  let v1750 : BitVec 32 := Scalar.addi v1749 c187_i32
  let v1751 : Index := Scalar.indexCast v1750
  ![v1751.toNat]
def k0_off1009 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1010 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c187_i32_785 : BitVec 32 := 187#32
  let c0_i32_786 : BitVec 32 := 0#32
  ![v65.toNat, 187, 0]
def k0_off1011 (v1752 : BitVec 32) : Fin 2 → Nat :=
  let c0_i32_787 : BitVec 32 := 0#32
  ![v1752.toNat, 0]

def k0_chk444 (v1752 : BitVec 32) : Prop :=
  (∀ a, (k0_off1011 v1752) a + S1x1024.size a ≤ S79872x1024.size a)
theorem k0_off1011_inb : ∀ (v1752 : BitVec 32) (k0_hw444 : k0_chk444 v1752), ∀ a, (k0_off1011 v1752) a + S1x1024.size a ≤ S79872x1024.size a := fun v1752 k0_hw444 => k0_hw444

def k0_off1012 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_788 : BitVec 32 := 256#32
  let v1758 : BitVec 32 := Scalar.muli v54 c256_i32_788
  let c188_i32 : BitVec 32 := 188#32
  let v1759 : BitVec 32 := Scalar.addi v1758 c188_i32
  let v1760 : Index := Scalar.indexCast v1759
  ![v1760.toNat]
def k0_off1013 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1014 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c188_i32_789 : BitVec 32 := 188#32
  let c0_i32_790 : BitVec 32 := 0#32
  ![v65.toNat, 188, 0]
def k0_off1015 (v1761 : BitVec 32) : Fin 2 → Nat :=
  let c0_i32_791 : BitVec 32 := 0#32
  ![v1761.toNat, 0]

def k0_chk445 (v1761 : BitVec 32) : Prop :=
  (∀ a, (k0_off1015 v1761) a + S1x1024.size a ≤ S79872x1024.size a)
theorem k0_off1015_inb : ∀ (v1761 : BitVec 32) (k0_hw445 : k0_chk445 v1761), ∀ a, (k0_off1015 v1761) a + S1x1024.size a ≤ S79872x1024.size a := fun v1761 k0_hw445 => k0_hw445

def k0_off1016 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_792 : BitVec 32 := 256#32
  let v1767 : BitVec 32 := Scalar.muli v54 c256_i32_792
  let c189_i32 : BitVec 32 := 189#32
  let v1768 : BitVec 32 := Scalar.addi v1767 c189_i32
  let v1769 : Index := Scalar.indexCast v1768
  ![v1769.toNat]
def k0_off1017 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1018 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c189_i32_793 : BitVec 32 := 189#32
  let c0_i32_794 : BitVec 32 := 0#32
  ![v65.toNat, 189, 0]
def k0_off1019 (v1770 : BitVec 32) : Fin 2 → Nat :=
  let c0_i32_795 : BitVec 32 := 0#32
  ![v1770.toNat, 0]

def k0_chk446 (v1770 : BitVec 32) : Prop :=
  (∀ a, (k0_off1019 v1770) a + S1x1024.size a ≤ S79872x1024.size a)
theorem k0_off1019_inb : ∀ (v1770 : BitVec 32) (k0_hw446 : k0_chk446 v1770), ∀ a, (k0_off1019 v1770) a + S1x1024.size a ≤ S79872x1024.size a := fun v1770 k0_hw446 => k0_hw446

def k0_off1020 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_796 : BitVec 32 := 256#32
  let v1776 : BitVec 32 := Scalar.muli v54 c256_i32_796
  let c190_i32 : BitVec 32 := 190#32
  let v1777 : BitVec 32 := Scalar.addi v1776 c190_i32
  let v1778 : Index := Scalar.indexCast v1777
  ![v1778.toNat]
def k0_off1021 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1022 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c190_i32_797 : BitVec 32 := 190#32
  let c0_i32_798 : BitVec 32 := 0#32
  ![v65.toNat, 190, 0]
def k0_off1023 (v1779 : BitVec 32) : Fin 2 → Nat :=
  let c0_i32_799 : BitVec 32 := 0#32
  ![v1779.toNat, 0]

def k0_chk447 (v1779 : BitVec 32) : Prop :=
  (∀ a, (k0_off1023 v1779) a + S1x1024.size a ≤ S79872x1024.size a)
theorem k0_off1023_inb : ∀ (v1779 : BitVec 32) (k0_hw447 : k0_chk447 v1779), ∀ a, (k0_off1023 v1779) a + S1x1024.size a ≤ S79872x1024.size a := fun v1779 k0_hw447 => k0_hw447

def k0_off1024 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_800 : BitVec 32 := 256#32
  let v1785 : BitVec 32 := Scalar.muli v54 c256_i32_800
  let c191_i32 : BitVec 32 := 191#32
  let v1786 : BitVec 32 := Scalar.addi v1785 c191_i32
  let v1787 : Index := Scalar.indexCast v1786
  ![v1787.toNat]
def k0_off1025 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1026 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c191_i32_801 : BitVec 32 := 191#32
  let c0_i32_802 : BitVec 32 := 0#32
  ![v65.toNat, 191, 0]
def k0_off1027 (v1788 : BitVec 32) : Fin 2 → Nat :=
  let c0_i32_803 : BitVec 32 := 0#32
  ![v1788.toNat, 0]

def k0_chk448 (v1788 : BitVec 32) : Prop :=
  (∀ a, (k0_off1027 v1788) a + S1x1024.size a ≤ S79872x1024.size a)
theorem k0_off1027_inb : ∀ (v1788 : BitVec 32) (k0_hw448 : k0_chk448 v1788), ∀ a, (k0_off1027 v1788) a + S1x1024.size a ≤ S79872x1024.size a := fun v1788 k0_hw448 => k0_hw448

def k0_off1028 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_804 : BitVec 32 := 256#32
  let v1794 : BitVec 32 := Scalar.muli v54 c256_i32_804
  let c192_i32 : BitVec 32 := 192#32
  let v1795 : BitVec 32 := Scalar.addi v1794 c192_i32
  let v1796 : Index := Scalar.indexCast v1795
  ![v1796.toNat]
def k0_off1029 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1030 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c192_i32_805 : BitVec 32 := 192#32
  let c0_i32_806 : BitVec 32 := 0#32
  ![v65.toNat, 192, 0]
def k0_off1031 (v1797 : BitVec 32) : Fin 2 → Nat :=
  let c0_i32_807 : BitVec 32 := 0#32
  ![v1797.toNat, 0]

def k0_chk449 (v1797 : BitVec 32) : Prop :=
  (∀ a, (k0_off1031 v1797) a + S1x1024.size a ≤ S79872x1024.size a)
theorem k0_off1031_inb : ∀ (v1797 : BitVec 32) (k0_hw449 : k0_chk449 v1797), ∀ a, (k0_off1031 v1797) a + S1x1024.size a ≤ S79872x1024.size a := fun v1797 k0_hw449 => k0_hw449

def k0_off1032 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_808 : BitVec 32 := 256#32
  let v1803 : BitVec 32 := Scalar.muli v54 c256_i32_808
  let c193_i32 : BitVec 32 := 193#32
  let v1804 : BitVec 32 := Scalar.addi v1803 c193_i32
  let v1805 : Index := Scalar.indexCast v1804
  ![v1805.toNat]
def k0_off1033 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1034 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c193_i32_809 : BitVec 32 := 193#32
  let c0_i32_810 : BitVec 32 := 0#32
  ![v65.toNat, 193, 0]
def k0_off1035 (v1806 : BitVec 32) : Fin 2 → Nat :=
  let c0_i32_811 : BitVec 32 := 0#32
  ![v1806.toNat, 0]

def k0_chk450 (v1806 : BitVec 32) : Prop :=
  (∀ a, (k0_off1035 v1806) a + S1x1024.size a ≤ S79872x1024.size a)
theorem k0_off1035_inb : ∀ (v1806 : BitVec 32) (k0_hw450 : k0_chk450 v1806), ∀ a, (k0_off1035 v1806) a + S1x1024.size a ≤ S79872x1024.size a := fun v1806 k0_hw450 => k0_hw450

def k0_off1036 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_812 : BitVec 32 := 256#32
  let v1812 : BitVec 32 := Scalar.muli v54 c256_i32_812
  let c194_i32 : BitVec 32 := 194#32
  let v1813 : BitVec 32 := Scalar.addi v1812 c194_i32
  let v1814 : Index := Scalar.indexCast v1813
  ![v1814.toNat]
def k0_off1037 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1038 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c194_i32_813 : BitVec 32 := 194#32
  let c0_i32_814 : BitVec 32 := 0#32
  ![v65.toNat, 194, 0]
def k0_off1039 (v1815 : BitVec 32) : Fin 2 → Nat :=
  let c0_i32_815 : BitVec 32 := 0#32
  ![v1815.toNat, 0]

def k0_chk451 (v1815 : BitVec 32) : Prop :=
  (∀ a, (k0_off1039 v1815) a + S1x1024.size a ≤ S79872x1024.size a)
theorem k0_off1039_inb : ∀ (v1815 : BitVec 32) (k0_hw451 : k0_chk451 v1815), ∀ a, (k0_off1039 v1815) a + S1x1024.size a ≤ S79872x1024.size a := fun v1815 k0_hw451 => k0_hw451

def k0_off1040 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_816 : BitVec 32 := 256#32
  let v1821 : BitVec 32 := Scalar.muli v54 c256_i32_816
  let c195_i32 : BitVec 32 := 195#32
  let v1822 : BitVec 32 := Scalar.addi v1821 c195_i32
  let v1823 : Index := Scalar.indexCast v1822
  ![v1823.toNat]
def k0_off1041 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1042 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c195_i32_817 : BitVec 32 := 195#32
  let c0_i32_818 : BitVec 32 := 0#32
  ![v65.toNat, 195, 0]
def k0_off1043 (v1824 : BitVec 32) : Fin 2 → Nat :=
  let c0_i32_819 : BitVec 32 := 0#32
  ![v1824.toNat, 0]

def k0_chk452 (v1824 : BitVec 32) : Prop :=
  (∀ a, (k0_off1043 v1824) a + S1x1024.size a ≤ S79872x1024.size a)
theorem k0_off1043_inb : ∀ (v1824 : BitVec 32) (k0_hw452 : k0_chk452 v1824), ∀ a, (k0_off1043 v1824) a + S1x1024.size a ≤ S79872x1024.size a := fun v1824 k0_hw452 => k0_hw452

def k0_off1044 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_820 : BitVec 32 := 256#32
  let v1830 : BitVec 32 := Scalar.muli v54 c256_i32_820
  let c196_i32 : BitVec 32 := 196#32
  let v1831 : BitVec 32 := Scalar.addi v1830 c196_i32
  let v1832 : Index := Scalar.indexCast v1831
  ![v1832.toNat]
def k0_off1045 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1046 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c196_i32_821 : BitVec 32 := 196#32
  let c0_i32_822 : BitVec 32 := 0#32
  ![v65.toNat, 196, 0]
def k0_off1047 (v1833 : BitVec 32) : Fin 2 → Nat :=
  let c0_i32_823 : BitVec 32 := 0#32
  ![v1833.toNat, 0]

def k0_chk453 (v1833 : BitVec 32) : Prop :=
  (∀ a, (k0_off1047 v1833) a + S1x1024.size a ≤ S79872x1024.size a)
theorem k0_off1047_inb : ∀ (v1833 : BitVec 32) (k0_hw453 : k0_chk453 v1833), ∀ a, (k0_off1047 v1833) a + S1x1024.size a ≤ S79872x1024.size a := fun v1833 k0_hw453 => k0_hw453

def k0_off1048 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_824 : BitVec 32 := 256#32
  let v1839 : BitVec 32 := Scalar.muli v54 c256_i32_824
  let c197_i32 : BitVec 32 := 197#32
  let v1840 : BitVec 32 := Scalar.addi v1839 c197_i32
  let v1841 : Index := Scalar.indexCast v1840
  ![v1841.toNat]
def k0_off1049 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1050 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c197_i32_825 : BitVec 32 := 197#32
  let c0_i32_826 : BitVec 32 := 0#32
  ![v65.toNat, 197, 0]
def k0_off1051 (v1842 : BitVec 32) : Fin 2 → Nat :=
  let c0_i32_827 : BitVec 32 := 0#32
  ![v1842.toNat, 0]

def k0_chk454 (v1842 : BitVec 32) : Prop :=
  (∀ a, (k0_off1051 v1842) a + S1x1024.size a ≤ S79872x1024.size a)
theorem k0_off1051_inb : ∀ (v1842 : BitVec 32) (k0_hw454 : k0_chk454 v1842), ∀ a, (k0_off1051 v1842) a + S1x1024.size a ≤ S79872x1024.size a := fun v1842 k0_hw454 => k0_hw454

def k0_off1052 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_828 : BitVec 32 := 256#32
  let v1848 : BitVec 32 := Scalar.muli v54 c256_i32_828
  let c198_i32 : BitVec 32 := 198#32
  let v1849 : BitVec 32 := Scalar.addi v1848 c198_i32
  let v1850 : Index := Scalar.indexCast v1849
  ![v1850.toNat]
def k0_off1053 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1054 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c198_i32_829 : BitVec 32 := 198#32
  let c0_i32_830 : BitVec 32 := 0#32
  ![v65.toNat, 198, 0]
def k0_off1055 (v1851 : BitVec 32) : Fin 2 → Nat :=
  let c0_i32_831 : BitVec 32 := 0#32
  ![v1851.toNat, 0]

def k0_chk455 (v1851 : BitVec 32) : Prop :=
  (∀ a, (k0_off1055 v1851) a + S1x1024.size a ≤ S79872x1024.size a)
theorem k0_off1055_inb : ∀ (v1851 : BitVec 32) (k0_hw455 : k0_chk455 v1851), ∀ a, (k0_off1055 v1851) a + S1x1024.size a ≤ S79872x1024.size a := fun v1851 k0_hw455 => k0_hw455

def k0_off1056 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_832 : BitVec 32 := 256#32
  let v1857 : BitVec 32 := Scalar.muli v54 c256_i32_832
  let c199_i32 : BitVec 32 := 199#32
  let v1858 : BitVec 32 := Scalar.addi v1857 c199_i32
  let v1859 : Index := Scalar.indexCast v1858
  ![v1859.toNat]
def k0_off1057 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1058 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c199_i32_833 : BitVec 32 := 199#32
  let c0_i32_834 : BitVec 32 := 0#32
  ![v65.toNat, 199, 0]
def k0_off1059 (v1860 : BitVec 32) : Fin 2 → Nat :=
  let c0_i32_835 : BitVec 32 := 0#32
  ![v1860.toNat, 0]

def k0_chk456 (v1860 : BitVec 32) : Prop :=
  (∀ a, (k0_off1059 v1860) a + S1x1024.size a ≤ S79872x1024.size a)
theorem k0_off1059_inb : ∀ (v1860 : BitVec 32) (k0_hw456 : k0_chk456 v1860), ∀ a, (k0_off1059 v1860) a + S1x1024.size a ≤ S79872x1024.size a := fun v1860 k0_hw456 => k0_hw456

def k0_off1060 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_836 : BitVec 32 := 256#32
  let v1866 : BitVec 32 := Scalar.muli v54 c256_i32_836
  let c200_i32 : BitVec 32 := 200#32
  let v1867 : BitVec 32 := Scalar.addi v1866 c200_i32
  let v1868 : Index := Scalar.indexCast v1867
  ![v1868.toNat]
def k0_off1061 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1062 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c200_i32_837 : BitVec 32 := 200#32
  let c0_i32_838 : BitVec 32 := 0#32
  ![v65.toNat, 200, 0]
def k0_off1063 (v1869 : BitVec 32) : Fin 2 → Nat :=
  let c0_i32_839 : BitVec 32 := 0#32
  ![v1869.toNat, 0]

def k0_chk457 (v1869 : BitVec 32) : Prop :=
  (∀ a, (k0_off1063 v1869) a + S1x1024.size a ≤ S79872x1024.size a)
theorem k0_off1063_inb : ∀ (v1869 : BitVec 32) (k0_hw457 : k0_chk457 v1869), ∀ a, (k0_off1063 v1869) a + S1x1024.size a ≤ S79872x1024.size a := fun v1869 k0_hw457 => k0_hw457

def k0_off1064 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_840 : BitVec 32 := 256#32
  let v1875 : BitVec 32 := Scalar.muli v54 c256_i32_840
  let c201_i32 : BitVec 32 := 201#32
  let v1876 : BitVec 32 := Scalar.addi v1875 c201_i32
  let v1877 : Index := Scalar.indexCast v1876
  ![v1877.toNat]
def k0_off1065 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1066 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c201_i32_841 : BitVec 32 := 201#32
  let c0_i32_842 : BitVec 32 := 0#32
  ![v65.toNat, 201, 0]
def k0_off1067 (v1878 : BitVec 32) : Fin 2 → Nat :=
  let c0_i32_843 : BitVec 32 := 0#32
  ![v1878.toNat, 0]

def k0_chk458 (v1878 : BitVec 32) : Prop :=
  (∀ a, (k0_off1067 v1878) a + S1x1024.size a ≤ S79872x1024.size a)
theorem k0_off1067_inb : ∀ (v1878 : BitVec 32) (k0_hw458 : k0_chk458 v1878), ∀ a, (k0_off1067 v1878) a + S1x1024.size a ≤ S79872x1024.size a := fun v1878 k0_hw458 => k0_hw458

def k0_off1068 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_844 : BitVec 32 := 256#32
  let v1884 : BitVec 32 := Scalar.muli v54 c256_i32_844
  let c202_i32 : BitVec 32 := 202#32
  let v1885 : BitVec 32 := Scalar.addi v1884 c202_i32
  let v1886 : Index := Scalar.indexCast v1885
  ![v1886.toNat]
def k0_off1069 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1070 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c202_i32_845 : BitVec 32 := 202#32
  let c0_i32_846 : BitVec 32 := 0#32
  ![v65.toNat, 202, 0]
def k0_off1071 (v1887 : BitVec 32) : Fin 2 → Nat :=
  let c0_i32_847 : BitVec 32 := 0#32
  ![v1887.toNat, 0]

def k0_chk459 (v1887 : BitVec 32) : Prop :=
  (∀ a, (k0_off1071 v1887) a + S1x1024.size a ≤ S79872x1024.size a)
theorem k0_off1071_inb : ∀ (v1887 : BitVec 32) (k0_hw459 : k0_chk459 v1887), ∀ a, (k0_off1071 v1887) a + S1x1024.size a ≤ S79872x1024.size a := fun v1887 k0_hw459 => k0_hw459

def k0_off1072 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_848 : BitVec 32 := 256#32
  let v1893 : BitVec 32 := Scalar.muli v54 c256_i32_848
  let c203_i32 : BitVec 32 := 203#32
  let v1894 : BitVec 32 := Scalar.addi v1893 c203_i32
  let v1895 : Index := Scalar.indexCast v1894
  ![v1895.toNat]
def k0_off1073 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1074 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c203_i32_849 : BitVec 32 := 203#32
  let c0_i32_850 : BitVec 32 := 0#32
  ![v65.toNat, 203, 0]
def k0_off1075 (v1896 : BitVec 32) : Fin 2 → Nat :=
  let c0_i32_851 : BitVec 32 := 0#32
  ![v1896.toNat, 0]

def k0_chk460 (v1896 : BitVec 32) : Prop :=
  (∀ a, (k0_off1075 v1896) a + S1x1024.size a ≤ S79872x1024.size a)
theorem k0_off1075_inb : ∀ (v1896 : BitVec 32) (k0_hw460 : k0_chk460 v1896), ∀ a, (k0_off1075 v1896) a + S1x1024.size a ≤ S79872x1024.size a := fun v1896 k0_hw460 => k0_hw460

def k0_off1076 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_852 : BitVec 32 := 256#32
  let v1902 : BitVec 32 := Scalar.muli v54 c256_i32_852
  let c204_i32 : BitVec 32 := 204#32
  let v1903 : BitVec 32 := Scalar.addi v1902 c204_i32
  let v1904 : Index := Scalar.indexCast v1903
  ![v1904.toNat]
def k0_off1077 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1078 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c204_i32_853 : BitVec 32 := 204#32
  let c0_i32_854 : BitVec 32 := 0#32
  ![v65.toNat, 204, 0]
def k0_off1079 (v1905 : BitVec 32) : Fin 2 → Nat :=
  let c0_i32_855 : BitVec 32 := 0#32
  ![v1905.toNat, 0]

def k0_chk461 (v1905 : BitVec 32) : Prop :=
  (∀ a, (k0_off1079 v1905) a + S1x1024.size a ≤ S79872x1024.size a)
theorem k0_off1079_inb : ∀ (v1905 : BitVec 32) (k0_hw461 : k0_chk461 v1905), ∀ a, (k0_off1079 v1905) a + S1x1024.size a ≤ S79872x1024.size a := fun v1905 k0_hw461 => k0_hw461

def k0_off1080 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_856 : BitVec 32 := 256#32
  let v1911 : BitVec 32 := Scalar.muli v54 c256_i32_856
  let c205_i32 : BitVec 32 := 205#32
  let v1912 : BitVec 32 := Scalar.addi v1911 c205_i32
  let v1913 : Index := Scalar.indexCast v1912
  ![v1913.toNat]
def k0_off1081 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1082 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c205_i32_857 : BitVec 32 := 205#32
  let c0_i32_858 : BitVec 32 := 0#32
  ![v65.toNat, 205, 0]
def k0_off1083 (v1914 : BitVec 32) : Fin 2 → Nat :=
  let c0_i32_859 : BitVec 32 := 0#32
  ![v1914.toNat, 0]

def k0_chk462 (v1914 : BitVec 32) : Prop :=
  (∀ a, (k0_off1083 v1914) a + S1x1024.size a ≤ S79872x1024.size a)
theorem k0_off1083_inb : ∀ (v1914 : BitVec 32) (k0_hw462 : k0_chk462 v1914), ∀ a, (k0_off1083 v1914) a + S1x1024.size a ≤ S79872x1024.size a := fun v1914 k0_hw462 => k0_hw462

def k0_off1084 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_860 : BitVec 32 := 256#32
  let v1920 : BitVec 32 := Scalar.muli v54 c256_i32_860
  let c206_i32 : BitVec 32 := 206#32
  let v1921 : BitVec 32 := Scalar.addi v1920 c206_i32
  let v1922 : Index := Scalar.indexCast v1921
  ![v1922.toNat]
def k0_off1085 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1086 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c206_i32_861 : BitVec 32 := 206#32
  let c0_i32_862 : BitVec 32 := 0#32
  ![v65.toNat, 206, 0]
def k0_off1087 (v1923 : BitVec 32) : Fin 2 → Nat :=
  let c0_i32_863 : BitVec 32 := 0#32
  ![v1923.toNat, 0]

def k0_chk463 (v1923 : BitVec 32) : Prop :=
  (∀ a, (k0_off1087 v1923) a + S1x1024.size a ≤ S79872x1024.size a)
theorem k0_off1087_inb : ∀ (v1923 : BitVec 32) (k0_hw463 : k0_chk463 v1923), ∀ a, (k0_off1087 v1923) a + S1x1024.size a ≤ S79872x1024.size a := fun v1923 k0_hw463 => k0_hw463

def k0_off1088 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_864 : BitVec 32 := 256#32
  let v1929 : BitVec 32 := Scalar.muli v54 c256_i32_864
  let c207_i32 : BitVec 32 := 207#32
  let v1930 : BitVec 32 := Scalar.addi v1929 c207_i32
  let v1931 : Index := Scalar.indexCast v1930
  ![v1931.toNat]
def k0_off1089 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1090 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c207_i32_865 : BitVec 32 := 207#32
  let c0_i32_866 : BitVec 32 := 0#32
  ![v65.toNat, 207, 0]
def k0_off1091 (v1932 : BitVec 32) : Fin 2 → Nat :=
  let c0_i32_867 : BitVec 32 := 0#32
  ![v1932.toNat, 0]

def k0_chk464 (v1932 : BitVec 32) : Prop :=
  (∀ a, (k0_off1091 v1932) a + S1x1024.size a ≤ S79872x1024.size a)
theorem k0_off1091_inb : ∀ (v1932 : BitVec 32) (k0_hw464 : k0_chk464 v1932), ∀ a, (k0_off1091 v1932) a + S1x1024.size a ≤ S79872x1024.size a := fun v1932 k0_hw464 => k0_hw464

def k0_off1092 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_868 : BitVec 32 := 256#32
  let v1938 : BitVec 32 := Scalar.muli v54 c256_i32_868
  let c208_i32 : BitVec 32 := 208#32
  let v1939 : BitVec 32 := Scalar.addi v1938 c208_i32
  let v1940 : Index := Scalar.indexCast v1939
  ![v1940.toNat]
def k0_off1093 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1094 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c208_i32_869 : BitVec 32 := 208#32
  let c0_i32_870 : BitVec 32 := 0#32
  ![v65.toNat, 208, 0]
def k0_off1095 (v1941 : BitVec 32) : Fin 2 → Nat :=
  let c0_i32_871 : BitVec 32 := 0#32
  ![v1941.toNat, 0]

def k0_chk465 (v1941 : BitVec 32) : Prop :=
  (∀ a, (k0_off1095 v1941) a + S1x1024.size a ≤ S79872x1024.size a)
theorem k0_off1095_inb : ∀ (v1941 : BitVec 32) (k0_hw465 : k0_chk465 v1941), ∀ a, (k0_off1095 v1941) a + S1x1024.size a ≤ S79872x1024.size a := fun v1941 k0_hw465 => k0_hw465

def k0_off1096 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_872 : BitVec 32 := 256#32
  let v1947 : BitVec 32 := Scalar.muli v54 c256_i32_872
  let c209_i32 : BitVec 32 := 209#32
  let v1948 : BitVec 32 := Scalar.addi v1947 c209_i32
  let v1949 : Index := Scalar.indexCast v1948
  ![v1949.toNat]
def k0_off1097 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1098 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c209_i32_873 : BitVec 32 := 209#32
  let c0_i32_874 : BitVec 32 := 0#32
  ![v65.toNat, 209, 0]
def k0_off1099 (v1950 : BitVec 32) : Fin 2 → Nat :=
  let c0_i32_875 : BitVec 32 := 0#32
  ![v1950.toNat, 0]

def k0_chk466 (v1950 : BitVec 32) : Prop :=
  (∀ a, (k0_off1099 v1950) a + S1x1024.size a ≤ S79872x1024.size a)
theorem k0_off1099_inb : ∀ (v1950 : BitVec 32) (k0_hw466 : k0_chk466 v1950), ∀ a, (k0_off1099 v1950) a + S1x1024.size a ≤ S79872x1024.size a := fun v1950 k0_hw466 => k0_hw466

def k0_off1100 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_876 : BitVec 32 := 256#32
  let v1956 : BitVec 32 := Scalar.muli v54 c256_i32_876
  let c210_i32 : BitVec 32 := 210#32
  let v1957 : BitVec 32 := Scalar.addi v1956 c210_i32
  let v1958 : Index := Scalar.indexCast v1957
  ![v1958.toNat]
def k0_off1101 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1102 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c210_i32_877 : BitVec 32 := 210#32
  let c0_i32_878 : BitVec 32 := 0#32
  ![v65.toNat, 210, 0]
def k0_off1103 (v1959 : BitVec 32) : Fin 2 → Nat :=
  let c0_i32_879 : BitVec 32 := 0#32
  ![v1959.toNat, 0]

def k0_chk467 (v1959 : BitVec 32) : Prop :=
  (∀ a, (k0_off1103 v1959) a + S1x1024.size a ≤ S79872x1024.size a)
theorem k0_off1103_inb : ∀ (v1959 : BitVec 32) (k0_hw467 : k0_chk467 v1959), ∀ a, (k0_off1103 v1959) a + S1x1024.size a ≤ S79872x1024.size a := fun v1959 k0_hw467 => k0_hw467

def k0_off1104 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_880 : BitVec 32 := 256#32
  let v1965 : BitVec 32 := Scalar.muli v54 c256_i32_880
  let c211_i32 : BitVec 32 := 211#32
  let v1966 : BitVec 32 := Scalar.addi v1965 c211_i32
  let v1967 : Index := Scalar.indexCast v1966
  ![v1967.toNat]
def k0_off1105 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1106 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c211_i32_881 : BitVec 32 := 211#32
  let c0_i32_882 : BitVec 32 := 0#32
  ![v65.toNat, 211, 0]
def k0_off1107 (v1968 : BitVec 32) : Fin 2 → Nat :=
  let c0_i32_883 : BitVec 32 := 0#32
  ![v1968.toNat, 0]

def k0_chk468 (v1968 : BitVec 32) : Prop :=
  (∀ a, (k0_off1107 v1968) a + S1x1024.size a ≤ S79872x1024.size a)
theorem k0_off1107_inb : ∀ (v1968 : BitVec 32) (k0_hw468 : k0_chk468 v1968), ∀ a, (k0_off1107 v1968) a + S1x1024.size a ≤ S79872x1024.size a := fun v1968 k0_hw468 => k0_hw468

def k0_off1108 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_884 : BitVec 32 := 256#32
  let v1974 : BitVec 32 := Scalar.muli v54 c256_i32_884
  let c212_i32 : BitVec 32 := 212#32
  let v1975 : BitVec 32 := Scalar.addi v1974 c212_i32
  let v1976 : Index := Scalar.indexCast v1975
  ![v1976.toNat]
def k0_off1109 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1110 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c212_i32_885 : BitVec 32 := 212#32
  let c0_i32_886 : BitVec 32 := 0#32
  ![v65.toNat, 212, 0]
def k0_off1111 (v1977 : BitVec 32) : Fin 2 → Nat :=
  let c0_i32_887 : BitVec 32 := 0#32
  ![v1977.toNat, 0]

def k0_chk469 (v1977 : BitVec 32) : Prop :=
  (∀ a, (k0_off1111 v1977) a + S1x1024.size a ≤ S79872x1024.size a)
theorem k0_off1111_inb : ∀ (v1977 : BitVec 32) (k0_hw469 : k0_chk469 v1977), ∀ a, (k0_off1111 v1977) a + S1x1024.size a ≤ S79872x1024.size a := fun v1977 k0_hw469 => k0_hw469

def k0_off1112 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_888 : BitVec 32 := 256#32
  let v1983 : BitVec 32 := Scalar.muli v54 c256_i32_888
  let c213_i32 : BitVec 32 := 213#32
  let v1984 : BitVec 32 := Scalar.addi v1983 c213_i32
  let v1985 : Index := Scalar.indexCast v1984
  ![v1985.toNat]
def k0_off1113 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1114 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c213_i32_889 : BitVec 32 := 213#32
  let c0_i32_890 : BitVec 32 := 0#32
  ![v65.toNat, 213, 0]
def k0_off1115 (v1986 : BitVec 32) : Fin 2 → Nat :=
  let c0_i32_891 : BitVec 32 := 0#32
  ![v1986.toNat, 0]

def k0_chk470 (v1986 : BitVec 32) : Prop :=
  (∀ a, (k0_off1115 v1986) a + S1x1024.size a ≤ S79872x1024.size a)
theorem k0_off1115_inb : ∀ (v1986 : BitVec 32) (k0_hw470 : k0_chk470 v1986), ∀ a, (k0_off1115 v1986) a + S1x1024.size a ≤ S79872x1024.size a := fun v1986 k0_hw470 => k0_hw470

def k0_off1116 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_892 : BitVec 32 := 256#32
  let v1992 : BitVec 32 := Scalar.muli v54 c256_i32_892
  let c214_i32 : BitVec 32 := 214#32
  let v1993 : BitVec 32 := Scalar.addi v1992 c214_i32
  let v1994 : Index := Scalar.indexCast v1993
  ![v1994.toNat]
def k0_off1117 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1118 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c214_i32_893 : BitVec 32 := 214#32
  let c0_i32_894 : BitVec 32 := 0#32
  ![v65.toNat, 214, 0]
def k0_off1119 (v1995 : BitVec 32) : Fin 2 → Nat :=
  let c0_i32_895 : BitVec 32 := 0#32
  ![v1995.toNat, 0]

def k0_chk471 (v1995 : BitVec 32) : Prop :=
  (∀ a, (k0_off1119 v1995) a + S1x1024.size a ≤ S79872x1024.size a)
theorem k0_off1119_inb : ∀ (v1995 : BitVec 32) (k0_hw471 : k0_chk471 v1995), ∀ a, (k0_off1119 v1995) a + S1x1024.size a ≤ S79872x1024.size a := fun v1995 k0_hw471 => k0_hw471

def k0_off1120 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_896 : BitVec 32 := 256#32
  let v2001 : BitVec 32 := Scalar.muli v54 c256_i32_896
  let c215_i32 : BitVec 32 := 215#32
  let v2002 : BitVec 32 := Scalar.addi v2001 c215_i32
  let v2003 : Index := Scalar.indexCast v2002
  ![v2003.toNat]
def k0_off1121 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1122 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c215_i32_897 : BitVec 32 := 215#32
  let c0_i32_898 : BitVec 32 := 0#32
  ![v65.toNat, 215, 0]
def k0_off1123 (v2004 : BitVec 32) : Fin 2 → Nat :=
  let c0_i32_899 : BitVec 32 := 0#32
  ![v2004.toNat, 0]

def k0_chk472 (v2004 : BitVec 32) : Prop :=
  (∀ a, (k0_off1123 v2004) a + S1x1024.size a ≤ S79872x1024.size a)
theorem k0_off1123_inb : ∀ (v2004 : BitVec 32) (k0_hw472 : k0_chk472 v2004), ∀ a, (k0_off1123 v2004) a + S1x1024.size a ≤ S79872x1024.size a := fun v2004 k0_hw472 => k0_hw472

def k0_off1124 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_900 : BitVec 32 := 256#32
  let v2010 : BitVec 32 := Scalar.muli v54 c256_i32_900
  let c216_i32 : BitVec 32 := 216#32
  let v2011 : BitVec 32 := Scalar.addi v2010 c216_i32
  let v2012 : Index := Scalar.indexCast v2011
  ![v2012.toNat]
def k0_off1125 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1126 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c216_i32_901 : BitVec 32 := 216#32
  let c0_i32_902 : BitVec 32 := 0#32
  ![v65.toNat, 216, 0]
def k0_off1127 (v2013 : BitVec 32) : Fin 2 → Nat :=
  let c0_i32_903 : BitVec 32 := 0#32
  ![v2013.toNat, 0]

def k0_chk473 (v2013 : BitVec 32) : Prop :=
  (∀ a, (k0_off1127 v2013) a + S1x1024.size a ≤ S79872x1024.size a)
theorem k0_off1127_inb : ∀ (v2013 : BitVec 32) (k0_hw473 : k0_chk473 v2013), ∀ a, (k0_off1127 v2013) a + S1x1024.size a ≤ S79872x1024.size a := fun v2013 k0_hw473 => k0_hw473

def k0_off1128 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_904 : BitVec 32 := 256#32
  let v2019 : BitVec 32 := Scalar.muli v54 c256_i32_904
  let c217_i32 : BitVec 32 := 217#32
  let v2020 : BitVec 32 := Scalar.addi v2019 c217_i32
  let v2021 : Index := Scalar.indexCast v2020
  ![v2021.toNat]
def k0_off1129 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1130 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c217_i32_905 : BitVec 32 := 217#32
  let c0_i32_906 : BitVec 32 := 0#32
  ![v65.toNat, 217, 0]
def k0_off1131 (v2022 : BitVec 32) : Fin 2 → Nat :=
  let c0_i32_907 : BitVec 32 := 0#32
  ![v2022.toNat, 0]

def k0_chk474 (v2022 : BitVec 32) : Prop :=
  (∀ a, (k0_off1131 v2022) a + S1x1024.size a ≤ S79872x1024.size a)
theorem k0_off1131_inb : ∀ (v2022 : BitVec 32) (k0_hw474 : k0_chk474 v2022), ∀ a, (k0_off1131 v2022) a + S1x1024.size a ≤ S79872x1024.size a := fun v2022 k0_hw474 => k0_hw474

def k0_off1132 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_908 : BitVec 32 := 256#32
  let v2028 : BitVec 32 := Scalar.muli v54 c256_i32_908
  let c218_i32 : BitVec 32 := 218#32
  let v2029 : BitVec 32 := Scalar.addi v2028 c218_i32
  let v2030 : Index := Scalar.indexCast v2029
  ![v2030.toNat]
def k0_off1133 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1134 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c218_i32_909 : BitVec 32 := 218#32
  let c0_i32_910 : BitVec 32 := 0#32
  ![v65.toNat, 218, 0]
def k0_off1135 (v2031 : BitVec 32) : Fin 2 → Nat :=
  let c0_i32_911 : BitVec 32 := 0#32
  ![v2031.toNat, 0]

def k0_chk475 (v2031 : BitVec 32) : Prop :=
  (∀ a, (k0_off1135 v2031) a + S1x1024.size a ≤ S79872x1024.size a)
theorem k0_off1135_inb : ∀ (v2031 : BitVec 32) (k0_hw475 : k0_chk475 v2031), ∀ a, (k0_off1135 v2031) a + S1x1024.size a ≤ S79872x1024.size a := fun v2031 k0_hw475 => k0_hw475

def k0_off1136 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_912 : BitVec 32 := 256#32
  let v2037 : BitVec 32 := Scalar.muli v54 c256_i32_912
  let c219_i32 : BitVec 32 := 219#32
  let v2038 : BitVec 32 := Scalar.addi v2037 c219_i32
  let v2039 : Index := Scalar.indexCast v2038
  ![v2039.toNat]
def k0_off1137 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1138 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c219_i32_913 : BitVec 32 := 219#32
  let c0_i32_914 : BitVec 32 := 0#32
  ![v65.toNat, 219, 0]
def k0_off1139 (v2040 : BitVec 32) : Fin 2 → Nat :=
  let c0_i32_915 : BitVec 32 := 0#32
  ![v2040.toNat, 0]

def k0_chk476 (v2040 : BitVec 32) : Prop :=
  (∀ a, (k0_off1139 v2040) a + S1x1024.size a ≤ S79872x1024.size a)
theorem k0_off1139_inb : ∀ (v2040 : BitVec 32) (k0_hw476 : k0_chk476 v2040), ∀ a, (k0_off1139 v2040) a + S1x1024.size a ≤ S79872x1024.size a := fun v2040 k0_hw476 => k0_hw476

def k0_off1140 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_916 : BitVec 32 := 256#32
  let v2046 : BitVec 32 := Scalar.muli v54 c256_i32_916
  let c220_i32 : BitVec 32 := 220#32
  let v2047 : BitVec 32 := Scalar.addi v2046 c220_i32
  let v2048 : Index := Scalar.indexCast v2047
  ![v2048.toNat]
def k0_off1141 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1142 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c220_i32_917 : BitVec 32 := 220#32
  let c0_i32_918 : BitVec 32 := 0#32
  ![v65.toNat, 220, 0]
def k0_off1143 (v2049 : BitVec 32) : Fin 2 → Nat :=
  let c0_i32_919 : BitVec 32 := 0#32
  ![v2049.toNat, 0]

def k0_chk477 (v2049 : BitVec 32) : Prop :=
  (∀ a, (k0_off1143 v2049) a + S1x1024.size a ≤ S79872x1024.size a)
theorem k0_off1143_inb : ∀ (v2049 : BitVec 32) (k0_hw477 : k0_chk477 v2049), ∀ a, (k0_off1143 v2049) a + S1x1024.size a ≤ S79872x1024.size a := fun v2049 k0_hw477 => k0_hw477

def k0_off1144 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_920 : BitVec 32 := 256#32
  let v2055 : BitVec 32 := Scalar.muli v54 c256_i32_920
  let c221_i32 : BitVec 32 := 221#32
  let v2056 : BitVec 32 := Scalar.addi v2055 c221_i32
  let v2057 : Index := Scalar.indexCast v2056
  ![v2057.toNat]
def k0_off1145 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1146 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c221_i32_921 : BitVec 32 := 221#32
  let c0_i32_922 : BitVec 32 := 0#32
  ![v65.toNat, 221, 0]
def k0_off1147 (v2058 : BitVec 32) : Fin 2 → Nat :=
  let c0_i32_923 : BitVec 32 := 0#32
  ![v2058.toNat, 0]

def k0_chk478 (v2058 : BitVec 32) : Prop :=
  (∀ a, (k0_off1147 v2058) a + S1x1024.size a ≤ S79872x1024.size a)
theorem k0_off1147_inb : ∀ (v2058 : BitVec 32) (k0_hw478 : k0_chk478 v2058), ∀ a, (k0_off1147 v2058) a + S1x1024.size a ≤ S79872x1024.size a := fun v2058 k0_hw478 => k0_hw478

def k0_off1148 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_924 : BitVec 32 := 256#32
  let v2064 : BitVec 32 := Scalar.muli v54 c256_i32_924
  let c222_i32 : BitVec 32 := 222#32
  let v2065 : BitVec 32 := Scalar.addi v2064 c222_i32
  let v2066 : Index := Scalar.indexCast v2065
  ![v2066.toNat]
def k0_off1149 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1150 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c222_i32_925 : BitVec 32 := 222#32
  let c0_i32_926 : BitVec 32 := 0#32
  ![v65.toNat, 222, 0]
def k0_off1151 (v2067 : BitVec 32) : Fin 2 → Nat :=
  let c0_i32_927 : BitVec 32 := 0#32
  ![v2067.toNat, 0]

def k0_chk479 (v2067 : BitVec 32) : Prop :=
  (∀ a, (k0_off1151 v2067) a + S1x1024.size a ≤ S79872x1024.size a)
theorem k0_off1151_inb : ∀ (v2067 : BitVec 32) (k0_hw479 : k0_chk479 v2067), ∀ a, (k0_off1151 v2067) a + S1x1024.size a ≤ S79872x1024.size a := fun v2067 k0_hw479 => k0_hw479

def k0_off1152 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_928 : BitVec 32 := 256#32
  let v2073 : BitVec 32 := Scalar.muli v54 c256_i32_928
  let c223_i32 : BitVec 32 := 223#32
  let v2074 : BitVec 32 := Scalar.addi v2073 c223_i32
  let v2075 : Index := Scalar.indexCast v2074
  ![v2075.toNat]
def k0_off1153 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1154 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c223_i32_929 : BitVec 32 := 223#32
  let c0_i32_930 : BitVec 32 := 0#32
  ![v65.toNat, 223, 0]
def k0_off1155 (v2076 : BitVec 32) : Fin 2 → Nat :=
  let c0_i32_931 : BitVec 32 := 0#32
  ![v2076.toNat, 0]

def k0_chk480 (v2076 : BitVec 32) : Prop :=
  (∀ a, (k0_off1155 v2076) a + S1x1024.size a ≤ S79872x1024.size a)
theorem k0_off1155_inb : ∀ (v2076 : BitVec 32) (k0_hw480 : k0_chk480 v2076), ∀ a, (k0_off1155 v2076) a + S1x1024.size a ≤ S79872x1024.size a := fun v2076 k0_hw480 => k0_hw480

def k0_off1156 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_932 : BitVec 32 := 256#32
  let v2082 : BitVec 32 := Scalar.muli v54 c256_i32_932
  let c224_i32 : BitVec 32 := 224#32
  let v2083 : BitVec 32 := Scalar.addi v2082 c224_i32
  let v2084 : Index := Scalar.indexCast v2083
  ![v2084.toNat]
def k0_off1157 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1158 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c224_i32_933 : BitVec 32 := 224#32
  let c0_i32_934 : BitVec 32 := 0#32
  ![v65.toNat, 224, 0]
def k0_off1159 (v2085 : BitVec 32) : Fin 2 → Nat :=
  let c0_i32_935 : BitVec 32 := 0#32
  ![v2085.toNat, 0]

def k0_chk481 (v2085 : BitVec 32) : Prop :=
  (∀ a, (k0_off1159 v2085) a + S1x1024.size a ≤ S79872x1024.size a)
theorem k0_off1159_inb : ∀ (v2085 : BitVec 32) (k0_hw481 : k0_chk481 v2085), ∀ a, (k0_off1159 v2085) a + S1x1024.size a ≤ S79872x1024.size a := fun v2085 k0_hw481 => k0_hw481

def k0_off1160 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_936 : BitVec 32 := 256#32
  let v2091 : BitVec 32 := Scalar.muli v54 c256_i32_936
  let c225_i32 : BitVec 32 := 225#32
  let v2092 : BitVec 32 := Scalar.addi v2091 c225_i32
  let v2093 : Index := Scalar.indexCast v2092
  ![v2093.toNat]
def k0_off1161 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1162 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c225_i32_937 : BitVec 32 := 225#32
  let c0_i32_938 : BitVec 32 := 0#32
  ![v65.toNat, 225, 0]
def k0_off1163 (v2094 : BitVec 32) : Fin 2 → Nat :=
  let c0_i32_939 : BitVec 32 := 0#32
  ![v2094.toNat, 0]

def k0_chk482 (v2094 : BitVec 32) : Prop :=
  (∀ a, (k0_off1163 v2094) a + S1x1024.size a ≤ S79872x1024.size a)
theorem k0_off1163_inb : ∀ (v2094 : BitVec 32) (k0_hw482 : k0_chk482 v2094), ∀ a, (k0_off1163 v2094) a + S1x1024.size a ≤ S79872x1024.size a := fun v2094 k0_hw482 => k0_hw482

def k0_off1164 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_940 : BitVec 32 := 256#32
  let v2100 : BitVec 32 := Scalar.muli v54 c256_i32_940
  let c226_i32 : BitVec 32 := 226#32
  let v2101 : BitVec 32 := Scalar.addi v2100 c226_i32
  let v2102 : Index := Scalar.indexCast v2101
  ![v2102.toNat]
def k0_off1165 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1166 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c226_i32_941 : BitVec 32 := 226#32
  let c0_i32_942 : BitVec 32 := 0#32
  ![v65.toNat, 226, 0]
def k0_off1167 (v2103 : BitVec 32) : Fin 2 → Nat :=
  let c0_i32_943 : BitVec 32 := 0#32
  ![v2103.toNat, 0]

def k0_chk483 (v2103 : BitVec 32) : Prop :=
  (∀ a, (k0_off1167 v2103) a + S1x1024.size a ≤ S79872x1024.size a)
theorem k0_off1167_inb : ∀ (v2103 : BitVec 32) (k0_hw483 : k0_chk483 v2103), ∀ a, (k0_off1167 v2103) a + S1x1024.size a ≤ S79872x1024.size a := fun v2103 k0_hw483 => k0_hw483

def k0_off1168 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_944 : BitVec 32 := 256#32
  let v2109 : BitVec 32 := Scalar.muli v54 c256_i32_944
  let c227_i32 : BitVec 32 := 227#32
  let v2110 : BitVec 32 := Scalar.addi v2109 c227_i32
  let v2111 : Index := Scalar.indexCast v2110
  ![v2111.toNat]
def k0_off1169 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1170 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c227_i32_945 : BitVec 32 := 227#32
  let c0_i32_946 : BitVec 32 := 0#32
  ![v65.toNat, 227, 0]
def k0_off1171 (v2112 : BitVec 32) : Fin 2 → Nat :=
  let c0_i32_947 : BitVec 32 := 0#32
  ![v2112.toNat, 0]

def k0_chk484 (v2112 : BitVec 32) : Prop :=
  (∀ a, (k0_off1171 v2112) a + S1x1024.size a ≤ S79872x1024.size a)
theorem k0_off1171_inb : ∀ (v2112 : BitVec 32) (k0_hw484 : k0_chk484 v2112), ∀ a, (k0_off1171 v2112) a + S1x1024.size a ≤ S79872x1024.size a := fun v2112 k0_hw484 => k0_hw484

def k0_off1172 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_948 : BitVec 32 := 256#32
  let v2118 : BitVec 32 := Scalar.muli v54 c256_i32_948
  let c228_i32 : BitVec 32 := 228#32
  let v2119 : BitVec 32 := Scalar.addi v2118 c228_i32
  let v2120 : Index := Scalar.indexCast v2119
  ![v2120.toNat]
def k0_off1173 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1174 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c228_i32_949 : BitVec 32 := 228#32
  let c0_i32_950 : BitVec 32 := 0#32
  ![v65.toNat, 228, 0]
def k0_off1175 (v2121 : BitVec 32) : Fin 2 → Nat :=
  let c0_i32_951 : BitVec 32 := 0#32
  ![v2121.toNat, 0]

def k0_chk485 (v2121 : BitVec 32) : Prop :=
  (∀ a, (k0_off1175 v2121) a + S1x1024.size a ≤ S79872x1024.size a)
theorem k0_off1175_inb : ∀ (v2121 : BitVec 32) (k0_hw485 : k0_chk485 v2121), ∀ a, (k0_off1175 v2121) a + S1x1024.size a ≤ S79872x1024.size a := fun v2121 k0_hw485 => k0_hw485

def k0_off1176 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_952 : BitVec 32 := 256#32
  let v2127 : BitVec 32 := Scalar.muli v54 c256_i32_952
  let c229_i32 : BitVec 32 := 229#32
  let v2128 : BitVec 32 := Scalar.addi v2127 c229_i32
  let v2129 : Index := Scalar.indexCast v2128
  ![v2129.toNat]
def k0_off1177 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1178 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c229_i32_953 : BitVec 32 := 229#32
  let c0_i32_954 : BitVec 32 := 0#32
  ![v65.toNat, 229, 0]
def k0_off1179 (v2130 : BitVec 32) : Fin 2 → Nat :=
  let c0_i32_955 : BitVec 32 := 0#32
  ![v2130.toNat, 0]

def k0_chk486 (v2130 : BitVec 32) : Prop :=
  (∀ a, (k0_off1179 v2130) a + S1x1024.size a ≤ S79872x1024.size a)
theorem k0_off1179_inb : ∀ (v2130 : BitVec 32) (k0_hw486 : k0_chk486 v2130), ∀ a, (k0_off1179 v2130) a + S1x1024.size a ≤ S79872x1024.size a := fun v2130 k0_hw486 => k0_hw486

def k0_off1180 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_956 : BitVec 32 := 256#32
  let v2136 : BitVec 32 := Scalar.muli v54 c256_i32_956
  let c230_i32 : BitVec 32 := 230#32
  let v2137 : BitVec 32 := Scalar.addi v2136 c230_i32
  let v2138 : Index := Scalar.indexCast v2137
  ![v2138.toNat]
def k0_off1181 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1182 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c230_i32_957 : BitVec 32 := 230#32
  let c0_i32_958 : BitVec 32 := 0#32
  ![v65.toNat, 230, 0]
def k0_off1183 (v2139 : BitVec 32) : Fin 2 → Nat :=
  let c0_i32_959 : BitVec 32 := 0#32
  ![v2139.toNat, 0]

def k0_chk487 (v2139 : BitVec 32) : Prop :=
  (∀ a, (k0_off1183 v2139) a + S1x1024.size a ≤ S79872x1024.size a)
theorem k0_off1183_inb : ∀ (v2139 : BitVec 32) (k0_hw487 : k0_chk487 v2139), ∀ a, (k0_off1183 v2139) a + S1x1024.size a ≤ S79872x1024.size a := fun v2139 k0_hw487 => k0_hw487

def k0_off1184 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_960 : BitVec 32 := 256#32
  let v2145 : BitVec 32 := Scalar.muli v54 c256_i32_960
  let c231_i32 : BitVec 32 := 231#32
  let v2146 : BitVec 32 := Scalar.addi v2145 c231_i32
  let v2147 : Index := Scalar.indexCast v2146
  ![v2147.toNat]
def k0_off1185 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1186 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c231_i32_961 : BitVec 32 := 231#32
  let c0_i32_962 : BitVec 32 := 0#32
  ![v65.toNat, 231, 0]
def k0_off1187 (v2148 : BitVec 32) : Fin 2 → Nat :=
  let c0_i32_963 : BitVec 32 := 0#32
  ![v2148.toNat, 0]

def k0_chk488 (v2148 : BitVec 32) : Prop :=
  (∀ a, (k0_off1187 v2148) a + S1x1024.size a ≤ S79872x1024.size a)
theorem k0_off1187_inb : ∀ (v2148 : BitVec 32) (k0_hw488 : k0_chk488 v2148), ∀ a, (k0_off1187 v2148) a + S1x1024.size a ≤ S79872x1024.size a := fun v2148 k0_hw488 => k0_hw488

def k0_off1188 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_964 : BitVec 32 := 256#32
  let v2154 : BitVec 32 := Scalar.muli v54 c256_i32_964
  let c232_i32 : BitVec 32 := 232#32
  let v2155 : BitVec 32 := Scalar.addi v2154 c232_i32
  let v2156 : Index := Scalar.indexCast v2155
  ![v2156.toNat]
def k0_off1189 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1190 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c232_i32_965 : BitVec 32 := 232#32
  let c0_i32_966 : BitVec 32 := 0#32
  ![v65.toNat, 232, 0]
def k0_off1191 (v2157 : BitVec 32) : Fin 2 → Nat :=
  let c0_i32_967 : BitVec 32 := 0#32
  ![v2157.toNat, 0]

def k0_chk489 (v2157 : BitVec 32) : Prop :=
  (∀ a, (k0_off1191 v2157) a + S1x1024.size a ≤ S79872x1024.size a)
theorem k0_off1191_inb : ∀ (v2157 : BitVec 32) (k0_hw489 : k0_chk489 v2157), ∀ a, (k0_off1191 v2157) a + S1x1024.size a ≤ S79872x1024.size a := fun v2157 k0_hw489 => k0_hw489

def k0_off1192 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_968 : BitVec 32 := 256#32
  let v2163 : BitVec 32 := Scalar.muli v54 c256_i32_968
  let c233_i32 : BitVec 32 := 233#32
  let v2164 : BitVec 32 := Scalar.addi v2163 c233_i32
  let v2165 : Index := Scalar.indexCast v2164
  ![v2165.toNat]
def k0_off1193 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1194 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c233_i32_969 : BitVec 32 := 233#32
  let c0_i32_970 : BitVec 32 := 0#32
  ![v65.toNat, 233, 0]
def k0_off1195 (v2166 : BitVec 32) : Fin 2 → Nat :=
  let c0_i32_971 : BitVec 32 := 0#32
  ![v2166.toNat, 0]

def k0_chk490 (v2166 : BitVec 32) : Prop :=
  (∀ a, (k0_off1195 v2166) a + S1x1024.size a ≤ S79872x1024.size a)
theorem k0_off1195_inb : ∀ (v2166 : BitVec 32) (k0_hw490 : k0_chk490 v2166), ∀ a, (k0_off1195 v2166) a + S1x1024.size a ≤ S79872x1024.size a := fun v2166 k0_hw490 => k0_hw490

def k0_off1196 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_972 : BitVec 32 := 256#32
  let v2172 : BitVec 32 := Scalar.muli v54 c256_i32_972
  let c234_i32 : BitVec 32 := 234#32
  let v2173 : BitVec 32 := Scalar.addi v2172 c234_i32
  let v2174 : Index := Scalar.indexCast v2173
  ![v2174.toNat]
def k0_off1197 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1198 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c234_i32_973 : BitVec 32 := 234#32
  let c0_i32_974 : BitVec 32 := 0#32
  ![v65.toNat, 234, 0]
def k0_off1199 (v2175 : BitVec 32) : Fin 2 → Nat :=
  let c0_i32_975 : BitVec 32 := 0#32
  ![v2175.toNat, 0]

def k0_chk491 (v2175 : BitVec 32) : Prop :=
  (∀ a, (k0_off1199 v2175) a + S1x1024.size a ≤ S79872x1024.size a)
theorem k0_off1199_inb : ∀ (v2175 : BitVec 32) (k0_hw491 : k0_chk491 v2175), ∀ a, (k0_off1199 v2175) a + S1x1024.size a ≤ S79872x1024.size a := fun v2175 k0_hw491 => k0_hw491

def k0_off1200 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_976 : BitVec 32 := 256#32
  let v2181 : BitVec 32 := Scalar.muli v54 c256_i32_976
  let c235_i32 : BitVec 32 := 235#32
  let v2182 : BitVec 32 := Scalar.addi v2181 c235_i32
  let v2183 : Index := Scalar.indexCast v2182
  ![v2183.toNat]
def k0_off1201 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1202 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c235_i32_977 : BitVec 32 := 235#32
  let c0_i32_978 : BitVec 32 := 0#32
  ![v65.toNat, 235, 0]
def k0_off1203 (v2184 : BitVec 32) : Fin 2 → Nat :=
  let c0_i32_979 : BitVec 32 := 0#32
  ![v2184.toNat, 0]

def k0_chk492 (v2184 : BitVec 32) : Prop :=
  (∀ a, (k0_off1203 v2184) a + S1x1024.size a ≤ S79872x1024.size a)
theorem k0_off1203_inb : ∀ (v2184 : BitVec 32) (k0_hw492 : k0_chk492 v2184), ∀ a, (k0_off1203 v2184) a + S1x1024.size a ≤ S79872x1024.size a := fun v2184 k0_hw492 => k0_hw492

def k0_off1204 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_980 : BitVec 32 := 256#32
  let v2190 : BitVec 32 := Scalar.muli v54 c256_i32_980
  let c236_i32 : BitVec 32 := 236#32
  let v2191 : BitVec 32 := Scalar.addi v2190 c236_i32
  let v2192 : Index := Scalar.indexCast v2191
  ![v2192.toNat]
def k0_off1205 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1206 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c236_i32_981 : BitVec 32 := 236#32
  let c0_i32_982 : BitVec 32 := 0#32
  ![v65.toNat, 236, 0]
def k0_off1207 (v2193 : BitVec 32) : Fin 2 → Nat :=
  let c0_i32_983 : BitVec 32 := 0#32
  ![v2193.toNat, 0]

def k0_chk493 (v2193 : BitVec 32) : Prop :=
  (∀ a, (k0_off1207 v2193) a + S1x1024.size a ≤ S79872x1024.size a)
theorem k0_off1207_inb : ∀ (v2193 : BitVec 32) (k0_hw493 : k0_chk493 v2193), ∀ a, (k0_off1207 v2193) a + S1x1024.size a ≤ S79872x1024.size a := fun v2193 k0_hw493 => k0_hw493

def k0_off1208 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_984 : BitVec 32 := 256#32
  let v2199 : BitVec 32 := Scalar.muli v54 c256_i32_984
  let c237_i32 : BitVec 32 := 237#32
  let v2200 : BitVec 32 := Scalar.addi v2199 c237_i32
  let v2201 : Index := Scalar.indexCast v2200
  ![v2201.toNat]
def k0_off1209 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1210 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c237_i32_985 : BitVec 32 := 237#32
  let c0_i32_986 : BitVec 32 := 0#32
  ![v65.toNat, 237, 0]
def k0_off1211 (v2202 : BitVec 32) : Fin 2 → Nat :=
  let c0_i32_987 : BitVec 32 := 0#32
  ![v2202.toNat, 0]

def k0_chk494 (v2202 : BitVec 32) : Prop :=
  (∀ a, (k0_off1211 v2202) a + S1x1024.size a ≤ S79872x1024.size a)
theorem k0_off1211_inb : ∀ (v2202 : BitVec 32) (k0_hw494 : k0_chk494 v2202), ∀ a, (k0_off1211 v2202) a + S1x1024.size a ≤ S79872x1024.size a := fun v2202 k0_hw494 => k0_hw494

def k0_off1212 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_988 : BitVec 32 := 256#32
  let v2208 : BitVec 32 := Scalar.muli v54 c256_i32_988
  let c238_i32 : BitVec 32 := 238#32
  let v2209 : BitVec 32 := Scalar.addi v2208 c238_i32
  let v2210 : Index := Scalar.indexCast v2209
  ![v2210.toNat]
def k0_off1213 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1214 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c238_i32_989 : BitVec 32 := 238#32
  let c0_i32_990 : BitVec 32 := 0#32
  ![v65.toNat, 238, 0]
def k0_off1215 (v2211 : BitVec 32) : Fin 2 → Nat :=
  let c0_i32_991 : BitVec 32 := 0#32
  ![v2211.toNat, 0]

def k0_chk495 (v2211 : BitVec 32) : Prop :=
  (∀ a, (k0_off1215 v2211) a + S1x1024.size a ≤ S79872x1024.size a)
theorem k0_off1215_inb : ∀ (v2211 : BitVec 32) (k0_hw495 : k0_chk495 v2211), ∀ a, (k0_off1215 v2211) a + S1x1024.size a ≤ S79872x1024.size a := fun v2211 k0_hw495 => k0_hw495

def k0_off1216 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_992 : BitVec 32 := 256#32
  let v2217 : BitVec 32 := Scalar.muli v54 c256_i32_992
  let c239_i32 : BitVec 32 := 239#32
  let v2218 : BitVec 32 := Scalar.addi v2217 c239_i32
  let v2219 : Index := Scalar.indexCast v2218
  ![v2219.toNat]
def k0_off1217 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1218 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c239_i32_993 : BitVec 32 := 239#32
  let c0_i32_994 : BitVec 32 := 0#32
  ![v65.toNat, 239, 0]
def k0_off1219 (v2220 : BitVec 32) : Fin 2 → Nat :=
  let c0_i32_995 : BitVec 32 := 0#32
  ![v2220.toNat, 0]

def k0_chk496 (v2220 : BitVec 32) : Prop :=
  (∀ a, (k0_off1219 v2220) a + S1x1024.size a ≤ S79872x1024.size a)
theorem k0_off1219_inb : ∀ (v2220 : BitVec 32) (k0_hw496 : k0_chk496 v2220), ∀ a, (k0_off1219 v2220) a + S1x1024.size a ≤ S79872x1024.size a := fun v2220 k0_hw496 => k0_hw496

def k0_off1220 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_996 : BitVec 32 := 256#32
  let v2226 : BitVec 32 := Scalar.muli v54 c256_i32_996
  let c240_i32 : BitVec 32 := 240#32
  let v2227 : BitVec 32 := Scalar.addi v2226 c240_i32
  let v2228 : Index := Scalar.indexCast v2227
  ![v2228.toNat]
def k0_off1221 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1222 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c240_i32_997 : BitVec 32 := 240#32
  let c0_i32_998 : BitVec 32 := 0#32
  ![v65.toNat, 240, 0]
def k0_off1223 (v2229 : BitVec 32) : Fin 2 → Nat :=
  let c0_i32_999 : BitVec 32 := 0#32
  ![v2229.toNat, 0]

def k0_chk497 (v2229 : BitVec 32) : Prop :=
  (∀ a, (k0_off1223 v2229) a + S1x1024.size a ≤ S79872x1024.size a)
theorem k0_off1223_inb : ∀ (v2229 : BitVec 32) (k0_hw497 : k0_chk497 v2229), ∀ a, (k0_off1223 v2229) a + S1x1024.size a ≤ S79872x1024.size a := fun v2229 k0_hw497 => k0_hw497

def k0_off1224 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1000 : BitVec 32 := 256#32
  let v2235 : BitVec 32 := Scalar.muli v54 c256_i32_1000
  let c241_i32 : BitVec 32 := 241#32
  let v2236 : BitVec 32 := Scalar.addi v2235 c241_i32
  let v2237 : Index := Scalar.indexCast v2236
  ![v2237.toNat]
def k0_off1225 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1226 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c241_i32_1001 : BitVec 32 := 241#32
  let c0_i32_1002 : BitVec 32 := 0#32
  ![v65.toNat, 241, 0]
def k0_off1227 (v2238 : BitVec 32) : Fin 2 → Nat :=
  let c0_i32_1003 : BitVec 32 := 0#32
  ![v2238.toNat, 0]

def k0_chk498 (v2238 : BitVec 32) : Prop :=
  (∀ a, (k0_off1227 v2238) a + S1x1024.size a ≤ S79872x1024.size a)
theorem k0_off1227_inb : ∀ (v2238 : BitVec 32) (k0_hw498 : k0_chk498 v2238), ∀ a, (k0_off1227 v2238) a + S1x1024.size a ≤ S79872x1024.size a := fun v2238 k0_hw498 => k0_hw498

def k0_off1228 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1004 : BitVec 32 := 256#32
  let v2244 : BitVec 32 := Scalar.muli v54 c256_i32_1004
  let c242_i32 : BitVec 32 := 242#32
  let v2245 : BitVec 32 := Scalar.addi v2244 c242_i32
  let v2246 : Index := Scalar.indexCast v2245
  ![v2246.toNat]
def k0_off1229 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1230 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c242_i32_1005 : BitVec 32 := 242#32
  let c0_i32_1006 : BitVec 32 := 0#32
  ![v65.toNat, 242, 0]
def k0_off1231 (v2247 : BitVec 32) : Fin 2 → Nat :=
  let c0_i32_1007 : BitVec 32 := 0#32
  ![v2247.toNat, 0]

def k0_chk499 (v2247 : BitVec 32) : Prop :=
  (∀ a, (k0_off1231 v2247) a + S1x1024.size a ≤ S79872x1024.size a)
theorem k0_off1231_inb : ∀ (v2247 : BitVec 32) (k0_hw499 : k0_chk499 v2247), ∀ a, (k0_off1231 v2247) a + S1x1024.size a ≤ S79872x1024.size a := fun v2247 k0_hw499 => k0_hw499

def k0_off1232 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1008 : BitVec 32 := 256#32
  let v2253 : BitVec 32 := Scalar.muli v54 c256_i32_1008
  let c243_i32 : BitVec 32 := 243#32
  let v2254 : BitVec 32 := Scalar.addi v2253 c243_i32
  let v2255 : Index := Scalar.indexCast v2254
  ![v2255.toNat]
def k0_off1233 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1234 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c243_i32_1009 : BitVec 32 := 243#32
  let c0_i32_1010 : BitVec 32 := 0#32
  ![v65.toNat, 243, 0]
def k0_off1235 (v2256 : BitVec 32) : Fin 2 → Nat :=
  let c0_i32_1011 : BitVec 32 := 0#32
  ![v2256.toNat, 0]

def k0_chk500 (v2256 : BitVec 32) : Prop :=
  (∀ a, (k0_off1235 v2256) a + S1x1024.size a ≤ S79872x1024.size a)
theorem k0_off1235_inb : ∀ (v2256 : BitVec 32) (k0_hw500 : k0_chk500 v2256), ∀ a, (k0_off1235 v2256) a + S1x1024.size a ≤ S79872x1024.size a := fun v2256 k0_hw500 => k0_hw500

def k0_off1236 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1012 : BitVec 32 := 256#32
  let v2262 : BitVec 32 := Scalar.muli v54 c256_i32_1012
  let c244_i32 : BitVec 32 := 244#32
  let v2263 : BitVec 32 := Scalar.addi v2262 c244_i32
  let v2264 : Index := Scalar.indexCast v2263
  ![v2264.toNat]
def k0_off1237 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1238 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c244_i32_1013 : BitVec 32 := 244#32
  let c0_i32_1014 : BitVec 32 := 0#32
  ![v65.toNat, 244, 0]
def k0_off1239 (v2265 : BitVec 32) : Fin 2 → Nat :=
  let c0_i32_1015 : BitVec 32 := 0#32
  ![v2265.toNat, 0]

def k0_chk501 (v2265 : BitVec 32) : Prop :=
  (∀ a, (k0_off1239 v2265) a + S1x1024.size a ≤ S79872x1024.size a)
theorem k0_off1239_inb : ∀ (v2265 : BitVec 32) (k0_hw501 : k0_chk501 v2265), ∀ a, (k0_off1239 v2265) a + S1x1024.size a ≤ S79872x1024.size a := fun v2265 k0_hw501 => k0_hw501

def k0_off1240 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1016 : BitVec 32 := 256#32
  let v2271 : BitVec 32 := Scalar.muli v54 c256_i32_1016
  let c245_i32 : BitVec 32 := 245#32
  let v2272 : BitVec 32 := Scalar.addi v2271 c245_i32
  let v2273 : Index := Scalar.indexCast v2272
  ![v2273.toNat]
def k0_off1241 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1242 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c245_i32_1017 : BitVec 32 := 245#32
  let c0_i32_1018 : BitVec 32 := 0#32
  ![v65.toNat, 245, 0]
def k0_off1243 (v2274 : BitVec 32) : Fin 2 → Nat :=
  let c0_i32_1019 : BitVec 32 := 0#32
  ![v2274.toNat, 0]

def k0_chk502 (v2274 : BitVec 32) : Prop :=
  (∀ a, (k0_off1243 v2274) a + S1x1024.size a ≤ S79872x1024.size a)
theorem k0_off1243_inb : ∀ (v2274 : BitVec 32) (k0_hw502 : k0_chk502 v2274), ∀ a, (k0_off1243 v2274) a + S1x1024.size a ≤ S79872x1024.size a := fun v2274 k0_hw502 => k0_hw502

def k0_off1244 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1020 : BitVec 32 := 256#32
  let v2280 : BitVec 32 := Scalar.muli v54 c256_i32_1020
  let c246_i32 : BitVec 32 := 246#32
  let v2281 : BitVec 32 := Scalar.addi v2280 c246_i32
  let v2282 : Index := Scalar.indexCast v2281
  ![v2282.toNat]
def k0_off1245 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1246 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c246_i32_1021 : BitVec 32 := 246#32
  let c0_i32_1022 : BitVec 32 := 0#32
  ![v65.toNat, 246, 0]
def k0_off1247 (v2283 : BitVec 32) : Fin 2 → Nat :=
  let c0_i32_1023 : BitVec 32 := 0#32
  ![v2283.toNat, 0]

def k0_chk503 (v2283 : BitVec 32) : Prop :=
  (∀ a, (k0_off1247 v2283) a + S1x1024.size a ≤ S79872x1024.size a)
theorem k0_off1247_inb : ∀ (v2283 : BitVec 32) (k0_hw503 : k0_chk503 v2283), ∀ a, (k0_off1247 v2283) a + S1x1024.size a ≤ S79872x1024.size a := fun v2283 k0_hw503 => k0_hw503

def k0_off1248 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1024 : BitVec 32 := 256#32
  let v2289 : BitVec 32 := Scalar.muli v54 c256_i32_1024
  let c247_i32 : BitVec 32 := 247#32
  let v2290 : BitVec 32 := Scalar.addi v2289 c247_i32
  let v2291 : Index := Scalar.indexCast v2290
  ![v2291.toNat]
def k0_off1249 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1250 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c247_i32_1025 : BitVec 32 := 247#32
  let c0_i32_1026 : BitVec 32 := 0#32
  ![v65.toNat, 247, 0]
def k0_off1251 (v2292 : BitVec 32) : Fin 2 → Nat :=
  let c0_i32_1027 : BitVec 32 := 0#32
  ![v2292.toNat, 0]

def k0_chk504 (v2292 : BitVec 32) : Prop :=
  (∀ a, (k0_off1251 v2292) a + S1x1024.size a ≤ S79872x1024.size a)
theorem k0_off1251_inb : ∀ (v2292 : BitVec 32) (k0_hw504 : k0_chk504 v2292), ∀ a, (k0_off1251 v2292) a + S1x1024.size a ≤ S79872x1024.size a := fun v2292 k0_hw504 => k0_hw504

def k0_off1252 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1028 : BitVec 32 := 256#32
  let v2298 : BitVec 32 := Scalar.muli v54 c256_i32_1028
  let c248_i32 : BitVec 32 := 248#32
  let v2299 : BitVec 32 := Scalar.addi v2298 c248_i32
  let v2300 : Index := Scalar.indexCast v2299
  ![v2300.toNat]
def k0_off1253 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1254 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c248_i32_1029 : BitVec 32 := 248#32
  let c0_i32_1030 : BitVec 32 := 0#32
  ![v65.toNat, 248, 0]
def k0_off1255 (v2301 : BitVec 32) : Fin 2 → Nat :=
  let c0_i32_1031 : BitVec 32 := 0#32
  ![v2301.toNat, 0]

def k0_chk505 (v2301 : BitVec 32) : Prop :=
  (∀ a, (k0_off1255 v2301) a + S1x1024.size a ≤ S79872x1024.size a)
theorem k0_off1255_inb : ∀ (v2301 : BitVec 32) (k0_hw505 : k0_chk505 v2301), ∀ a, (k0_off1255 v2301) a + S1x1024.size a ≤ S79872x1024.size a := fun v2301 k0_hw505 => k0_hw505

def k0_off1256 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1032 : BitVec 32 := 256#32
  let v2307 : BitVec 32 := Scalar.muli v54 c256_i32_1032
  let c249_i32 : BitVec 32 := 249#32
  let v2308 : BitVec 32 := Scalar.addi v2307 c249_i32
  let v2309 : Index := Scalar.indexCast v2308
  ![v2309.toNat]
def k0_off1257 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1258 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c249_i32_1033 : BitVec 32 := 249#32
  let c0_i32_1034 : BitVec 32 := 0#32
  ![v65.toNat, 249, 0]
def k0_off1259 (v2310 : BitVec 32) : Fin 2 → Nat :=
  let c0_i32_1035 : BitVec 32 := 0#32
  ![v2310.toNat, 0]

def k0_chk506 (v2310 : BitVec 32) : Prop :=
  (∀ a, (k0_off1259 v2310) a + S1x1024.size a ≤ S79872x1024.size a)
theorem k0_off1259_inb : ∀ (v2310 : BitVec 32) (k0_hw506 : k0_chk506 v2310), ∀ a, (k0_off1259 v2310) a + S1x1024.size a ≤ S79872x1024.size a := fun v2310 k0_hw506 => k0_hw506

def k0_off1260 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1036 : BitVec 32 := 256#32
  let v2316 : BitVec 32 := Scalar.muli v54 c256_i32_1036
  let c250_i32 : BitVec 32 := 250#32
  let v2317 : BitVec 32 := Scalar.addi v2316 c250_i32
  let v2318 : Index := Scalar.indexCast v2317
  ![v2318.toNat]
def k0_off1261 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1262 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c250_i32_1037 : BitVec 32 := 250#32
  let c0_i32_1038 : BitVec 32 := 0#32
  ![v65.toNat, 250, 0]
def k0_off1263 (v2319 : BitVec 32) : Fin 2 → Nat :=
  let c0_i32_1039 : BitVec 32 := 0#32
  ![v2319.toNat, 0]

def k0_chk507 (v2319 : BitVec 32) : Prop :=
  (∀ a, (k0_off1263 v2319) a + S1x1024.size a ≤ S79872x1024.size a)
theorem k0_off1263_inb : ∀ (v2319 : BitVec 32) (k0_hw507 : k0_chk507 v2319), ∀ a, (k0_off1263 v2319) a + S1x1024.size a ≤ S79872x1024.size a := fun v2319 k0_hw507 => k0_hw507

def k0_off1264 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1040 : BitVec 32 := 256#32
  let v2325 : BitVec 32 := Scalar.muli v54 c256_i32_1040
  let c251_i32 : BitVec 32 := 251#32
  let v2326 : BitVec 32 := Scalar.addi v2325 c251_i32
  let v2327 : Index := Scalar.indexCast v2326
  ![v2327.toNat]
def k0_off1265 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1266 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c251_i32_1041 : BitVec 32 := 251#32
  let c0_i32_1042 : BitVec 32 := 0#32
  ![v65.toNat, 251, 0]
def k0_off1267 (v2328 : BitVec 32) : Fin 2 → Nat :=
  let c0_i32_1043 : BitVec 32 := 0#32
  ![v2328.toNat, 0]

def k0_chk508 (v2328 : BitVec 32) : Prop :=
  (∀ a, (k0_off1267 v2328) a + S1x1024.size a ≤ S79872x1024.size a)
theorem k0_off1267_inb : ∀ (v2328 : BitVec 32) (k0_hw508 : k0_chk508 v2328), ∀ a, (k0_off1267 v2328) a + S1x1024.size a ≤ S79872x1024.size a := fun v2328 k0_hw508 => k0_hw508

def k0_off1268 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1044 : BitVec 32 := 256#32
  let v2334 : BitVec 32 := Scalar.muli v54 c256_i32_1044
  let c252_i32 : BitVec 32 := 252#32
  let v2335 : BitVec 32 := Scalar.addi v2334 c252_i32
  let v2336 : Index := Scalar.indexCast v2335
  ![v2336.toNat]
def k0_off1269 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1270 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c252_i32_1045 : BitVec 32 := 252#32
  let c0_i32_1046 : BitVec 32 := 0#32
  ![v65.toNat, 252, 0]
def k0_off1271 (v2337 : BitVec 32) : Fin 2 → Nat :=
  let c0_i32_1047 : BitVec 32 := 0#32
  ![v2337.toNat, 0]

def k0_chk509 (v2337 : BitVec 32) : Prop :=
  (∀ a, (k0_off1271 v2337) a + S1x1024.size a ≤ S79872x1024.size a)
theorem k0_off1271_inb : ∀ (v2337 : BitVec 32) (k0_hw509 : k0_chk509 v2337), ∀ a, (k0_off1271 v2337) a + S1x1024.size a ≤ S79872x1024.size a := fun v2337 k0_hw509 => k0_hw509

def k0_off1272 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1048 : BitVec 32 := 256#32
  let v2343 : BitVec 32 := Scalar.muli v54 c256_i32_1048
  let c253_i32 : BitVec 32 := 253#32
  let v2344 : BitVec 32 := Scalar.addi v2343 c253_i32
  let v2345 : Index := Scalar.indexCast v2344
  ![v2345.toNat]
def k0_off1273 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1274 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c253_i32_1049 : BitVec 32 := 253#32
  let c0_i32_1050 : BitVec 32 := 0#32
  ![v65.toNat, 253, 0]
def k0_off1275 (v2346 : BitVec 32) : Fin 2 → Nat :=
  let c0_i32_1051 : BitVec 32 := 0#32
  ![v2346.toNat, 0]

def k0_chk510 (v2346 : BitVec 32) : Prop :=
  (∀ a, (k0_off1275 v2346) a + S1x1024.size a ≤ S79872x1024.size a)
theorem k0_off1275_inb : ∀ (v2346 : BitVec 32) (k0_hw510 : k0_chk510 v2346), ∀ a, (k0_off1275 v2346) a + S1x1024.size a ≤ S79872x1024.size a := fun v2346 k0_hw510 => k0_hw510

def k0_off1276 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1052 : BitVec 32 := 256#32
  let v2352 : BitVec 32 := Scalar.muli v54 c256_i32_1052
  let c254_i32 : BitVec 32 := 254#32
  let v2353 : BitVec 32 := Scalar.addi v2352 c254_i32
  let v2354 : Index := Scalar.indexCast v2353
  ![v2354.toNat]
def k0_off1277 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1278 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c254_i32_1053 : BitVec 32 := 254#32
  let c0_i32_1054 : BitVec 32 := 0#32
  ![v65.toNat, 254, 0]
def k0_off1279 (v2355 : BitVec 32) : Fin 2 → Nat :=
  let c0_i32_1055 : BitVec 32 := 0#32
  ![v2355.toNat, 0]

def k0_chk511 (v2355 : BitVec 32) : Prop :=
  (∀ a, (k0_off1279 v2355) a + S1x1024.size a ≤ S79872x1024.size a)
theorem k0_off1279_inb : ∀ (v2355 : BitVec 32) (k0_hw511 : k0_chk511 v2355), ∀ a, (k0_off1279 v2355) a + S1x1024.size a ≤ S79872x1024.size a := fun v2355 k0_hw511 => k0_hw511

def k0_off1280 (i : grid0.Coords) : Fin 1 → Nat :=
  let arg0 : BitVec 32 := BitVec.ofNat 32 (i 0).val
  let c1_i32_25 : BitVec 32 := 1#32
  let v53 : BitVec 32 := Scalar.addi arg0 c1_i32_25
  let c255_i32 : BitVec 32 := 255#32
  let v54 : BitVec 32 := Scalar.minsi v53 c255_i32
  let c256_i32_1056 : BitVec 32 := 256#32
  let v2361 : BitVec 32 := Scalar.muli v54 c256_i32_1056
  let c255_i32_1057 : BitVec 32 := 255#32
  let v2362 : BitVec 32 := Scalar.addi v2361 c255_i32_1057
  let v2363 : Index := Scalar.indexCast v2362
  ![v2363.toNat]
def k0_off1281 (i : grid0.Coords) : Fin 1 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  ![v65.toNat]
def k0_off1282 (i : grid0.Coords) : Fin 3 → Nat :=
  let arg0 : BitVec 32 := BitVec.ofNat 32 (i 0).val
  let c1_i32_26 : BitVec 32 := 1#32
  let v55 : BitVec 32 := Scalar.addi arg0 c1_i32_26
  let c2_i32_27 : BitVec 32 := 2#32
  let c0_i32_28 : BitVec 32 := 0#32
  let v56 : BitVec 1 := Scalar.cmpi .eq c2_i32_27 c0_i32_28
  let c1_i32_29 : BitVec 32 := 1#32
  let v57 : BitVec 32 := Scalar.select v56 c1_i32_29 c2_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c255_i32_1058 : BitVec 32 := 255#32
  let c0_i32_1059 : BitVec 32 := 0#32
  ![v65.toNat, 255, 0]
def k0_off1283 (v2364 : BitVec 32) : Fin 2 → Nat :=
  let c0_i32_1060 : BitVec 32 := 0#32
  ![v2364.toNat, 0]

def k0_chk512 (v2364 : BitVec 32) : Prop :=
  (∀ a, (k0_off1283 v2364) a + S1x1024.size a ≤ S79872x1024.size a)
theorem k0_off1283_inb : ∀ (v2364 : BitVec 32) (k0_hw512 : k0_chk512 v2364), ∀ a, (k0_off1283 v2364) a + S1x1024.size a ≤ S79872x1024.size a := fun v2364 k0_hw512 => k0_hw512

def k0_cond2 (i : grid0.Coords) : BitVec 1 :=
  let arg0 : BitVec 32 := BitVec.ofNat 32 (i 0).val
  let c255_i32_1061 : BitVec 32 := 255#32
  let v2370 : BitVec 1 := Scalar.cmpi .eq arg0 c255_i32_1061
  let v2371 : BitVec 32 := Scalar.extui v2370
  let c0_i32_1062 : BitVec 32 := 0#32
  let v2372 : BitVec 1 := Scalar.cmpi .ne v2371 c0_i32_1062
  v2372

def k0_off1284 (i : grid0.Coords) : Fin 1 → Nat :=
  let arg0 : BitVec 32 := BitVec.ofNat 32 (i 0).val
  let c1_i32_1063 : BitVec 32 := 1#32
  let v2373 : BitVec 32 := Scalar.addi arg0 c1_i32_1063
  let c2_i32_1064 : BitVec 32 := 2#32
  let c0_i32_1065 : BitVec 32 := 0#32
  let v2374 : BitVec 1 := Scalar.cmpi .eq c2_i32_1064 c0_i32_1065
  let c1_i32_1066 : BitVec 32 := 1#32
  let v2375 : BitVec 32 := Scalar.select v2374 c1_i32_1066 c2_i32_1064
  let v2376 : BitVec 32 := Scalar.remsi v2373 v2375
  let c0_i32_1068 : BitVec 32 := 0#32
  let v2378 : BitVec 1 := Scalar.cmpi .slt v2376 c0_i32_1068
  let c0_i32_1069 : BitVec 32 := 0#32
  let v2379 : BitVec 1 := Scalar.cmpi .slt v2375 c0_i32_1069
  let v2380 : BitVec 1 := Scalar.xori v2378 v2379
  let c0_i32_1067 : BitVec 32 := 0#32
  let v2377 : BitVec 1 := Scalar.cmpi .ne v2376 c0_i32_1067
  let v2381 : BitVec 1 := Scalar.andi v2380 v2377
  let v2382 : BitVec 32 := Scalar.addi v2376 v2375
  let v2383 : BitVec 32 := Scalar.select v2381 v2382 v2376
  ![v2383.toNat]
def k0_off1285 (i : grid0.Coords) : Fin 3 → Nat :=
  let arg0 : BitVec 32 := BitVec.ofNat 32 (i 0).val
  let c1_i32_1063 : BitVec 32 := 1#32
  let v2373 : BitVec 32 := Scalar.addi arg0 c1_i32_1063
  let c2_i32_1064 : BitVec 32 := 2#32
  let c0_i32_1065 : BitVec 32 := 0#32
  let v2374 : BitVec 1 := Scalar.cmpi .eq c2_i32_1064 c0_i32_1065
  let c1_i32_1066 : BitVec 32 := 1#32
  let v2375 : BitVec 32 := Scalar.select v2374 c1_i32_1066 c2_i32_1064
  let v2376 : BitVec 32 := Scalar.remsi v2373 v2375
  let c0_i32_1068 : BitVec 32 := 0#32
  let v2378 : BitVec 1 := Scalar.cmpi .slt v2376 c0_i32_1068
  let c0_i32_1069 : BitVec 32 := 0#32
  let v2379 : BitVec 1 := Scalar.cmpi .slt v2375 c0_i32_1069
  let v2380 : BitVec 1 := Scalar.xori v2378 v2379
  let c0_i32_1067 : BitVec 32 := 0#32
  let v2377 : BitVec 1 := Scalar.cmpi .ne v2376 c0_i32_1067
  let v2381 : BitVec 1 := Scalar.andi v2380 v2377
  let v2382 : BitVec 32 := Scalar.addi v2376 v2375
  let v2383 : BitVec 32 := Scalar.select v2381 v2382 v2376
  let c0_i32_1070 : BitVec 32 := 0#32
  let c0_i32_1071 : BitVec 32 := 0#32
  ![v2383.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S65536 : Shape := ⟨1, ![65536]⟩
abbrev S65536x1024 : Shape := ⟨2, ![65536, 1024]⟩
abbrev S8x65536 : Shape := ⟨2, ![8, 65536]⟩
abbrev S8x1x1024 : Shape := ⟨3, ![8, 1, 1024]⟩
abbrev S79872x1024 : Shape := ⟨2, ![79872, 1024]⟩
abbrev S_ : Shape := ⟨0, ![]⟩
abbrev S65536x1 : Shape := ⟨2, ![65536, 1]⟩
abbrev S1x65536 : Shape := ⟨2, ![1, 65536]⟩
abbrev S8x8192x1024 : Shape := ⟨3, ![8, 8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x1024, .f32⟩
  | .hbm, ⟨2, _⟩ => ⟨S8x65536, .f32⟩
  | .hbm, ⟨3, _⟩ => ⟨S8x1x1024, .f32⟩
  | .hbm, ⟨4, _⟩ => ⟨S79872x1024, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536x1024, .i32⟩
  | .hbm, ⟨14, _⟩ => ⟨S_, .i32⟩
  | .hbm, ⟨15, _⟩ => ⟨S65536x1024, .i32⟩
  | .hbm, ⟨16, _⟩ => ⟨S65536x1024, .i32⟩
  | .hbm, ⟨17, _⟩ => ⟨S65536x1024, .f32⟩
  | .hbm, ⟨18, _⟩ => ⟨S_, .i32⟩
  | .hbm, ⟨19, _⟩ => ⟨S65536x1024, .i32⟩
  | .hbm, ⟨20, _⟩ => ⟨S65536x1024, .i32⟩
  | .hbm, ⟨21, _⟩ => ⟨S65536x1024, .f32⟩
  | .hbm, ⟨22, _⟩ => ⟨S1x65536, .f32⟩
  | .hbm, ⟨23, _⟩ => ⟨S65536, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x65536, .f32⟩
  | .hbm, ⟨28, _⟩ => ⟨S65536, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S65536x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Attention.lean ====
abbrev S8x8192x2x4x64 : Shape := ⟨5, ![8, 8192, 2, 4, 64]⟩
abbrev S8x8448x2x64 : Shape := ⟨4, ![8, 8448, 2, 64]⟩
abbrev S1x128 : Shape := ⟨2, ![1, 128]⟩
abbrev S_ : Shape := ⟨0, ![]⟩
abbrev S65536x2x4x64 : Shape := ⟨4, ![65536, 2, 4, 64]⟩
abbrev S4x65536x2x64 : Shape := ⟨4, ![4, 65536, 2, 64]⟩
abbrev S4x65536x128 : Shape := ⟨3, ![4, 65536, 128]⟩
abbrev S8x65536x128 : Shape := ⟨3, ![8, 65536, 128]⟩
abbrev S8x8448x128 : Shape := ⟨3, ![8, 8448, 128]⟩
abbrev S1x8x8448x128 : Shape := ⟨4, ![1, 8, 8448, 128]⟩
abbrev S2x8x8448x128 : Shape := ⟨4, ![2, 8, 8448, 128]⟩
abbrev S65536x512 : Shape := ⟨2, ![65536, 512]⟩
abbrev S8x256x128 : Shape := ⟨3, ![8, 256, 128]⟩
abbrev S1x8448x128 : Shape := ⟨3, ![1, 8448, 128]⟩
abbrev S2x1x8448x128 : Shape := ⟨4, ![2, 1, 8448, 128]⟩
abbrev S256x512 : Shape := ⟨2, ![256, 512]⟩
abbrev S4x256x128 : Shape := ⟨3, ![4, 256, 128]⟩
abbrev S256x128 : Shape := ⟨2, ![256, 128]⟩
abbrev S1x256x128 : Shape := ⟨3, ![1, 256, 128]⟩
abbrev S8448x128 : Shape := ⟨2, ![8448, 128]⟩
abbrev S256x8448 : Shape := ⟨2, ![256, 8448]⟩
abbrev S256 : Shape := ⟨1, ![256]⟩
abbrev S256x1 : Shape := ⟨2, ![256, 1]⟩
abbrev S1x1x8448x128 : Shape := ⟨4, ![1, 1, 8448, 128]⟩

abbrev nBuf : Space → Nat
  | .hbm => 44
  | .vmem => 9
  | .smem => 0
  | _ => 0

abbrev bufTy : (tb : Table) → Fin (tcTables nBuf tb) → BufTy
  | .hbm, ⟨0, _⟩ => ⟨S8x8192x2x4x64, .f32⟩
  | .hbm, ⟨1, _⟩ => ⟨S8x8448x2x64, .f32⟩
  | .hbm, ⟨2, _⟩ => ⟨S8x8448x2x64, .f32⟩
  | .hbm, ⟨3, _⟩ => ⟨S1x128, .i32⟩
  | .hbm, ⟨4, _⟩ => ⟨S_, .i32⟩
  | .hbm, ⟨5, _⟩ => ⟨S1x128, .i32⟩
  | .hbm, ⟨6, _⟩ => ⟨S1x128, .i1⟩
  | .hbm, ⟨7, _⟩ => ⟨S65536x2x4x64, .f32⟩
  | .hbm, ⟨8, _⟩ => ⟨S4x65536x2x64, .f32⟩
  | .hbm, ⟨9, _⟩ => ⟨S4x65536x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x65536x128, .f32⟩
  | .hbm, ⟨15, _⟩ => ⟨S4x65536x128, .f32⟩
  | .hbm, ⟨16, _⟩ => ⟨S_, .f32⟩
  | .hbm, ⟨17, _⟩ => ⟨S_, .f32⟩
  | .hbm, ⟨18, _⟩ => ⟨S4x65536x128, .i1⟩
  | .hbm, ⟨19, _⟩ => ⟨S4x65536x128, .f32⟩
  | .hbm, ⟨20, _⟩ => ⟨S4x65536x128, .f32⟩
  | .hbm, ⟨21, _⟩ => ⟨S_, .f32⟩
  | .hbm, ⟨22, _⟩ => ⟨S_, .f32⟩
  | .hbm, ⟨23, _⟩ => ⟨S4x65536x128, .i1⟩
  | .hbm, ⟨24, _⟩ => ⟨S4x65536x128, .f32⟩
  | .hbm, ⟨25, _⟩ => ⟨S4x65536x128, .f32⟩
  | .hbm, ⟨26, _⟩ => ⟨S8x65536x128, .f32⟩
  | .hbm, ⟨27, _⟩ => ⟨S8x65536x128, .bf16⟩
  | .hbm, ⟨28, _⟩ => ⟨S8x8448x128, .f32⟩
  | .hbm, ⟨29, _⟩ => ⟨S8x8448x128, .bf16⟩
  | .hbm, ⟨30, _⟩ => ⟨S1x8x8448x128, .f32⟩
  | .hbm, ⟨31, _⟩ => ⟨S_, .f32⟩
  | .hbm, ⟨32, _⟩ => ⟨S_, .f32⟩
  | .hbm, ⟨33, _⟩ => ⟨S1x8x8448x128, .i1⟩
  | .hbm, ⟨34, _⟩ => ⟨S1x8x8448x128, .f32⟩
  | .hbm, ⟨35, _⟩ => ⟨S1x8x8448x128, .f32⟩
  | .hbm, ⟨36, _⟩ => ⟨S_, .f32⟩
  | .hbm, ⟨37, _⟩ => ⟨S_, .f32⟩
  | .hbm, ⟨38, _⟩ => ⟨S1x8x8448x128, .i1⟩
  | .hbm, ⟨39, _⟩ => ⟨S1x8x8448x128, .f32⟩
  | .hbm, ⟨40, _⟩ => ⟨S1x8x8448x128, .f32⟩
  | .hbm, ⟨41, _⟩ => ⟨S2x8x8448x128, .f32⟩
  | .hbm, ⟨42, _⟩ => ⟨S2x8x8448x128, .bf16⟩
  | .hbm, ⟨43, _⟩ => ⟨S65536x512, .bf16⟩
  | .local _ .vmem, ⟨0, _⟩ => ⟨S8x256x128, .bf16⟩
  | .local _ .vmem, ⟨1, _⟩ => ⟨S8x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S2x1x8448x128, .bf16⟩
  | .local _ .vmem, ⟨5, _⟩ => ⟨S2x1x8448x128, .bf16⟩
  | .local _ .vmem, ⟨6, _⟩ => ⟨S256x512, .bf16⟩
  | .local _ .vmem, ⟨7, _⟩ => ⟨S256x512, .bf16⟩
  | .local _ .vmem, ⟨8, _⟩ => ⟨S4x256x128, .f32⟩
  | _, _ => ⟨S8x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v17 : Ref sig .tc := ⟨.hbm, 35, rfl⟩
abbrev main_cst_4 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionReferenceIdeal.lean ====
abbrev S8x8192x2x4x64 : Shape := ⟨5, ![8, 8192, 2, 4, 64]⟩
abbrev S8x8448x2x64 : Shape := ⟨4, ![8, 8448, 2, 64]⟩
abbrev S_ : Shape := ⟨0, ![]⟩
abbrev S8x2x8448x8192x4 : Shape := ⟨5, ![8, 2, 8448, 8192, 4]⟩
abbrev S8x2x4x8192x8448 : Shape := ⟨5, ![8, 2, 4, 8192, 8448]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x4x2x64 : Shape := ⟨5, ![8, 8192, 4, 2, 64]⟩
abbrev S65536x512 : Shape := ⟨2, ![65536, 512]⟩

abbrev nBuf : Space → Nat
  | .hbm => 27
  | .vmem => 0
  | .smem => 0
  | _ => 0

abbrev bufTy : (tb : Table) → Fin (tcTables nBuf tb) → BufTy
  | .hbm, ⟨0, _⟩ => ⟨S8x8192x2x4x64, .f32⟩
  | .hbm, ⟨1, _⟩ => ⟨S8x8448x2x64, .f32⟩
  | .hbm, ⟨2, _⟩ => ⟨S8x8448x2x64, .f32⟩
  | .hbm, ⟨3, _⟩ => ⟨S_, .f32⟩
  | .hbm, ⟨4, _⟩ => ⟨S8x8192x2x4x64, .f32⟩
  | .hbm, ⟨5, _⟩ => ⟨S8x8192x2x4x64, .f32⟩
  | .hbm, ⟨6, _⟩ => ⟨S8x2x8448x8192x4, .f32⟩
  | .hbm, ⟨7, _⟩ => ⟨S8x2x4x8192x8448, .f32⟩
  | .hbm, ⟨8, _⟩ => ⟨S_, .f32⟩
  | .hbm, ⟨9, _⟩ => ⟨S8x2x4x8192, .f32⟩
  | .hbm, ⟨10, _⟩ => ⟨S_, .f32⟩
  | .hbm, ⟨11, _⟩ => ⟨S8x2x4x8192, .f32⟩
  | .hbm, ⟨12, _⟩ => ⟨S8x2x4x8192, .f32⟩
  | .hbm, ⟨13, _⟩ => ⟨S8x2x4x8192x1, .f32⟩
  | .hbm, ⟨14, _⟩ => ⟨S8x2x4x8192x8448, .f32⟩
  | .hbm, ⟨15, _⟩ => ⟨S8x2x4x8192x8448, .f32⟩
  | .hbm, ⟨16, _⟩ => ⟨S8x2x4x8192x8448, .f32⟩
  | .hbm, ⟨17, _⟩ => ⟨S_, .f32⟩
  | .hbm, ⟨18, _⟩ => ⟨S8x2x4x8192, .f32⟩
  | .hbm, ⟨19, _⟩ => ⟨S8x2x4x8192x1, .f32⟩
  | .hbm, ⟨20, _⟩ => ⟨S8x2x4x8192x8448, .f32⟩
  | .hbm, ⟨21, _⟩ => ⟨S8x2x4x8192x8448, .f32⟩
  | .hbm, ⟨22, _⟩ => ⟨S8x2x64x4x8192, .f32⟩
  | .hbm, ⟨23, _⟩ => ⟨S8x8192x2x4x64, .f32⟩
  | .hbm, ⟨24, _⟩ => ⟨S8x8192x4x2x64, .f32⟩
  | .hbm, ⟨25, _⟩ => ⟨S65536x512, .f32⟩
  | .hbm, ⟨26, _⟩ => ⟨S65536x512, .bf16⟩
  | _, _ => ⟨S8x8192x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Experts.lean ====
abbrev S156 : Shape := ⟨1, ![156]⟩
abbrev S1 : Shape := ⟨1, ![1]⟩
abbrev S79872x1024 : Shape := ⟨2, ![79872, 1024]⟩
abbrev S4x16x1024x512 : Shape := ⟨4, ![4, 16, 1024, 512]⟩
abbrev S4x16x512x1024 : Shape := ⟨4, ![4, 16, 512, 1024]⟩
abbrev S79872x512 : Shape := ⟨2, ![79872, 512]⟩
abbrev S79872x1x512 : Shape := ⟨3, ![79872, 1, 512]⟩
abbrev S79872x2x512 : Shape := ⟨3, ![79872, 2, 512]⟩
abbrev S159744x512 : Shape := ⟨2, ![159744, 512]⟩
abbrev S159744x1024 : Shape := ⟨2, ![159744, 1024]⟩
abbrev S1024x512 : Shape := ⟨2, ![1024, 512]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 15
  | .vmem => 16
  | .smem => 3
  | _ => 0

abbrev bufTy : (tb : Table) → Fin (tcTables nBuf tb) → BufTy
  | .hbm, ⟨0, _⟩ => ⟨S79872x1024, .f32⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S79872x512, .f32⟩
  | .hbm, ⟨5, _⟩ => ⟨S79872x512, .f32⟩
  | .hbm, ⟨6, _⟩ => ⟨S79872x1x512, .f32⟩
  | .hbm, ⟨7, _⟩ => ⟨S79872x1x512, .f32⟩
  | .hbm, ⟨8, _⟩ => ⟨S79872x2x512, .f32⟩
  | .hbm, ⟨9, _⟩ => ⟨S159744x512, .f32⟩
  | .hbm, ⟨10, _⟩ => ⟨S159744x512, .bf16⟩
  | .hbm, ⟨11, _⟩ => ⟨S4x16x1024x512, .bf16⟩
  | .hbm, ⟨12, _⟩ => ⟨S4x16x1024x512, .bf16⟩
  | .hbm, ⟨13, _⟩ => ⟨S4x16x512x1024, .bf16⟩
  | .hbm, ⟨14, _⟩ => ⟨S159744x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x1024x512, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1024x1024, .bf16⟩
  | .local _ .vmem, ⟨15, _⟩ => ⟨S1024x1024, .bf16⟩
  | .local _ .smem, ⟨0, _⟩ => ⟨S156, .i32⟩
  | .local _ .smem, ⟨1, _⟩ => ⟨S156, .i32⟩
  | .local _ .smem, ⟨2, _⟩ => ⟨S1, .i32⟩
  | _, _ => ⟨S79872x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![156], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S156.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S156.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_3 (k0_off1_inb : ∀ i : grid0.Coords, ∀ a, (k0_off1 i) a + S1.size a ≤ S156.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (k0_off1_inb : ∀ i : grid0.Coords, ∀ a, (k0_off1 i) a + S1.size a ≤ S156.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_5 (k0_off1_inb : ∀ i : grid0.Coords, ∀ a, (k0_off1 i) a + S1.size a ≤ S156.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_6 (k0_off1_inb : ∀ i : grid0.Coords, ∀ a, (k0_off1 i) a + S1.size a ≤ S156.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsIdeal.lean ====
variable {F : FTy → Type} [FloatOps F]
-- ==== ExpertsReferenceIdeal.lean ====
abbrev S156 : Shape := ⟨1, ![156]⟩
abbrev S1 : Shape := ⟨1, ![1]⟩
abbrev S79872x1024 : Shape := ⟨2, ![79872, 1024]⟩
abbrev S4x16x1024x512 : Shape := ⟨4, ![4, 16, 1024, 512]⟩
abbrev S4x16x512x1024 : Shape := ⟨4, ![4, 16, 512, 1024]⟩
abbrev S156x512x1024 : Shape := ⟨3, ![156, 512, 1024]⟩
abbrev S1x16x1024x512 : Shape := ⟨4, ![1, 16, 1024, 512]⟩
abbrev S16x1024x512 : Shape := ⟨3, ![16, 1024, 512]⟩
abbrev S_ : Shape := ⟨0, ![]⟩
abbrev S156x1 : Shape := ⟨2, ![156, 1]⟩
abbrev S156x1024x512 : Shape := ⟨3, ![156, 1024, 512]⟩
abbrev S156x512x512 : Shape := ⟨3, ![156, 512, 512]⟩
abbrev S1x16x512x1024 : Shape := ⟨4, ![1, 16, 512, 1024]⟩
abbrev S16x512x1024 : Shape := ⟨3, ![16, 512, 1024]⟩
abbrev S156x512x1x1024 : Shape := ⟨4, ![156, 512, 1, 1024]⟩
abbrev S156x512x2x1024 : Shape := ⟨4, ![156, 512, 2, 1024]⟩
abbrev S156x1x1x1 : Shape := ⟨4, ![156, 1, 1, 1]⟩
abbrev S159744x1024 : Shape := ⟨2, ![159744, 1024]⟩

abbrev nBuf : Space → Nat
  | .hbm => 115
  | .vmem => 0
  | .smem => 0
  | _ => 0

abbrev bufTy : (tb : Table) → Fin (tcTables nBuf tb) → BufTy
  | .hbm, ⟨0, _⟩ => ⟨S156, .i32⟩
  | .hbm, ⟨1, _⟩ => ⟨S156, .i32⟩
  | .hbm, ⟨2, _⟩ => ⟨S1, .i32⟩
  | .hbm, ⟨3, _⟩ => ⟨S79872x1024, .f32⟩
  | .hbm, ⟨4, _⟩ => ⟨S4x16x1024x512, .f32⟩
  | .hbm, ⟨5, _⟩ => ⟨S4x16x1024x512, .f32⟩
  | .hbm, ⟨6, _⟩ => ⟨S4x16x512x1024, .f32⟩
  | .hbm, ⟨7, _⟩ => ⟨S156x512x1024, .f32⟩
  | .hbm, ⟨8, _⟩ => ⟨S1x16x1024x512, .f32⟩
  | .hbm, ⟨9, _⟩ => ⟨S16x1024x512, .f32⟩
  | .hbm, ⟨10, _⟩ => ⟨S_, .i32⟩
  | .hbm, ⟨11, _⟩ => ⟨S156, .i32⟩
  | .hbm, ⟨12, _⟩ => ⟨S156, .i1⟩
  | .hbm, ⟨13, _⟩ => ⟨S_, .i32⟩
  | .hbm, ⟨14, _⟩ => ⟨S156, .i32⟩
  | .hbm, ⟨15, _⟩ => ⟨S156, .i32⟩
  | .hbm, ⟨16, _⟩ => ⟨S156, .i32⟩
  | .hbm, ⟨17, _⟩ => ⟨S156x1, .i32⟩
  | .hbm, ⟨18, _⟩ => ⟨S156x1024x512, .f32⟩
  | .hbm, ⟨19, _⟩ => ⟨S156x512x512, .f32⟩
  | .hbm, ⟨20, _⟩ => ⟨S1x16x1024x512, .f32⟩
  | .hbm, ⟨21, _⟩ => ⟨S16x1024x512, .f32⟩
  | .hbm, ⟨22, _⟩ => ⟨S_, .i32⟩
  | .hbm, ⟨23, _⟩ => ⟨S156, .i32⟩
  | .hbm, ⟨24, _⟩ => ⟨S156, .i1⟩
  | .hbm, ⟨25, _⟩ => ⟨S_, .i32⟩
  | .hbm, ⟨26, _⟩ => ⟨S156, .i32⟩
  | .hbm, ⟨27, _⟩ => ⟨S156, .i32⟩
  | .hbm, ⟨28, _⟩ => ⟨S156, .i32⟩
  | .hbm, ⟨29, _⟩ => ⟨S156x1, .i32⟩
  | .hbm, ⟨30, _⟩ => ⟨S156x1024x512, .f32⟩
  | .hbm, ⟨31, _⟩ => ⟨S156x512x512, .f32⟩
  | .hbm, ⟨32, _⟩ => ⟨S156x512x512, .f32⟩
  | .hbm, ⟨33, _⟩ => ⟨S156x512x512, .f32⟩
  | .hbm, ⟨34, _⟩ => ⟨S_, .f32⟩
  | .hbm, ⟨35, _⟩ => ⟨S156x512x512, .f32⟩
  | .hbm, ⟨36, _⟩ => ⟨S156x512x512, .f32⟩
  | .hbm, ⟨37, _⟩ => ⟨S_, .f32⟩
  | .hbm, ⟨38, _⟩ => ⟨S156x512x512, .f32⟩
  | .hbm, ⟨39, _⟩ => ⟨S156x512x512, .f32⟩
  | .hbm, ⟨40, _⟩ => ⟨S156x512x512, .f32⟩
  | .hbm, ⟨41, _⟩ => ⟨S156x512x512, .f32⟩
  | .hbm, ⟨42, _⟩ => ⟨S1x16x512x1024, .f32⟩
  | .hbm, ⟨43, _⟩ => ⟨S16x512x1024, .f32⟩
  | .hbm, ⟨44, _⟩ => ⟨S_, .i32⟩
  | .hbm, ⟨45, _⟩ => ⟨S156, .i32⟩
  | .hbm, ⟨46, _⟩ => ⟨S156, .i1⟩
  | .hbm, ⟨47, _⟩ => ⟨S_, .i32⟩
  | .hbm, ⟨48, _⟩ => ⟨S156, .i32⟩
  | .hbm, ⟨49, _⟩ => ⟨S156, .i32⟩
  | .hbm, ⟨50, _⟩ => ⟨S156, .i32⟩
  | .hbm, ⟨51, _⟩ => ⟨S156x1, .i32⟩
  | .hbm, ⟨52, _⟩ => ⟨S156x512x1024, .f32⟩
  | .hbm, ⟨53, _⟩ => ⟨S156x512x1024, .f32⟩
  | .hbm, ⟨54, _⟩ => ⟨S1x16x1024x512, .f32⟩
  | .hbm, ⟨55, _⟩ => ⟨S16x1024x512, .f32⟩
  | .hbm, ⟨56, _⟩ => ⟨S_, .i32⟩
  | .hbm, ⟨57, _⟩ => ⟨S156, .i32⟩
  | .hbm, ⟨58, _⟩ => ⟨S156, .i1⟩
  | .hbm, ⟨59, _⟩ => ⟨S_, .i32⟩
  | .hbm, ⟨60, _⟩ => ⟨S156, .i32⟩
  | .hbm, ⟨61, _⟩ => ⟨S156, .i32⟩
  | .hbm, ⟨62, _⟩ => ⟨S156, .i32⟩
  | .hbm, ⟨63, _⟩ => ⟨S156x1, .i32⟩
  | .hbm, ⟨64, _⟩ => ⟨S156x1024x512, .f32⟩
  | .hbm, ⟨65, _⟩ => ⟨S156x512x512, .f32⟩
  | .hbm, ⟨66, _⟩ => ⟨S1x16x1024x512, .f32⟩
  | .hbm, ⟨67, _⟩ => ⟨S16x1024x512, .f32⟩
  | .hbm, ⟨68, _⟩ => ⟨S_, .i32⟩
  | .hbm, ⟨69, _⟩ => ⟨S156, .i32⟩
  | .hbm, ⟨70, _⟩ => ⟨S156, .i1⟩
  | .hbm, ⟨71, _⟩ => ⟨S_, .i32⟩
  | .hbm, ⟨72, _⟩ => ⟨S156, .i32⟩
  | .hbm, ⟨73, _⟩ => ⟨S156, .i32⟩
  | .hbm, ⟨74, _⟩ => ⟨S156, .i32⟩
  | .hbm, ⟨75, _⟩ => ⟨S156x1, .i32⟩
  | .hbm, ⟨76, _⟩ => ⟨S156x1024x512, .f32⟩
  | .hbm, ⟨77, _⟩ => ⟨S156x512x512, .f32⟩
  | .hbm, ⟨78, _⟩ => ⟨S156x512x512, .f32⟩
  | .hbm, ⟨79, _⟩ => ⟨S156x512x512, .f32⟩
  | .hbm, ⟨80, _⟩ => ⟨S_, .f32⟩
  | .hbm, ⟨81, _⟩ => ⟨S156x512x512, .f32⟩
  | .hbm, ⟨82, _⟩ => ⟨S156x512x512, .f32⟩
  | .hbm, ⟨83, _⟩ => ⟨S_, .f32⟩
  | .hbm, ⟨84, _⟩ => ⟨S156x512x512, .f32⟩
  | .hbm, ⟨85, _⟩ => ⟨S156x512x512, .f32⟩
  | .hbm, ⟨86, _⟩ => ⟨S156x512x512, .f32⟩
  | .hbm, ⟨87, _⟩ => ⟨S156x512x512, .f32⟩
  | .hbm, ⟨88, _⟩ => ⟨S1x16x512x1024, .f32⟩
  | .hbm, ⟨89, _⟩ => ⟨S16x512x1024, .f32⟩
  | .hbm, ⟨90, _⟩ => ⟨S_, .i32⟩
  | .hbm, ⟨91, _⟩ => ⟨S156, .i32⟩
  | .hbm, ⟨92, _⟩ => ⟨S156, .i1⟩
  | .hbm, ⟨93, _⟩ => ⟨S_, .i32⟩
  | .hbm, ⟨94, _⟩ => ⟨S156, .i32⟩
  | .hbm, ⟨95, _⟩ => ⟨S156, .i32⟩
  | .hbm, ⟨96, _⟩ => ⟨S156, .i32⟩
  | .hbm, ⟨97, _⟩ => ⟨S156x1, .i32⟩
  | .hbm, ⟨98, _⟩ => ⟨S156x512x1024, .f32⟩
  | .hbm, ⟨99, _⟩ => ⟨S156x512x1024, .f32⟩
  | .hbm, ⟨100, _⟩ => ⟨S156x512x1x1024, .f32⟩
  | .hbm, ⟨101, _⟩ => ⟨S156x512x1x1024, .f32⟩
  | .hbm, ⟨102, _⟩ => ⟨S156x512x2x1024, .f32⟩
  | .hbm, ⟨103, _⟩ => ⟨S156, .i32⟩
  | .hbm, ⟨104, _⟩ => ⟨S156x1x1x1, .i32⟩
  | .hbm, ⟨105, _⟩ => ⟨S_, .i32⟩
  | .hbm, ⟨106, _⟩ => ⟨S156x1x1x1, .i32⟩
  | .hbm, ⟨107, _⟩ => ⟨S156x1x1x1, .i1⟩
  | .hbm, ⟨108, _⟩ => ⟨S_, .f32⟩
  | .hbm, ⟨109, _⟩ => ⟨S_, .f32⟩
  | .hbm, ⟨110, _⟩ => ⟨S156x512x2x1024, .i1⟩
  | .hbm, ⟨111, _⟩ => ⟨S156x512x2x1024, .f32⟩
  | .hbm, ⟨112, _⟩ => ⟨S156x512x2x1024, .f32⟩
  | .hbm, ⟨113, _⟩ => ⟨S159744x1024, .f32⟩
  | .hbm, ⟨114, _⟩ => ⟨S159744x1024, .bf16⟩
  | _, _ => ⟨S156, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_9 : Ref sig .tc := ⟨.hbm, 90, rfl⟩
abbrev main_v57 : Ref sig .tc := ⟨.hbm, 91, rfl⟩
abbrev main_v58 : Ref sig .tc := ⟨.hbm, 92, rfl⟩
abbrev main_c_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩

abbrev nD : Nat := 1
abbrev τ : Topo := Topo.v7x

variable {F : FTy → Type} [FloatOps F]
-- ==== ShortConv.lean ====
abbrev S8x8192x1024 : Shape := ⟨3, ![8, 8192, 1024]⟩
abbrev S3x1024 : Shape := ⟨2, ![3, 1024]⟩
abbrev S1024x1024 : Shape := ⟨2, ![1024, 1024]⟩
abbrev S8x1x1024 : Shape := ⟨3, ![8, 1, 1024]⟩
abbrev S1024 : Shape := ⟨1, ![1024]⟩
abbrev S3x8x1024 : Shape := ⟨3, ![3, 8, 1024]⟩
abbrev S24x1024 : Shape := ⟨2, ![24, 1024]⟩
abbrev S65536x1024 : Shape := ⟨2, ![65536, 1024]⟩
abbrev S1x1024 : Shape := ⟨2, ![1, 1024]⟩
abbrev S131072x512 : Shape := ⟨2, ![131072, 512]⟩
abbrev S512x1024 : Shape := ⟨2, ![512, 1024]⟩
abbrev S16x1024 : Shape := ⟨2, ![16, 1024]⟩
abbrev S1x1x1024 : Shape := ⟨3, ![1, 1, 1024]⟩
abbrev S1024x512 : Shape := ⟨2, ![1024, 512]⟩
abbrev S544x1024 : Shape := ⟨2, ![544, 1024]⟩
abbrev S64x1024 : Shape := ⟨2, ![64, 1024]⟩
abbrev S8x8x1024 : Shape := ⟨3, ![8, 8, 1024]⟩
abbrev S8x1024 : Shape := ⟨2, ![8, 1024]⟩
abbrev S1x8x1024 : Shape := ⟨3, ![1, 8, 1024]⟩
abbrev S512 : Shape := ⟨1, ![512]⟩
abbrev S512x1 : Shape := ⟨2, ![512, 1]⟩
abbrev S512x512 : Shape := ⟨2, ![512, 512]⟩

abbrev nBuf : Space → Nat
  | .hbm => 20
  | .vmem => 25
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S3x1024, .f32⟩
  | .hbm, ⟨4, _⟩ => ⟨S1024x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S3x8x1024, .f32⟩
  | .hbm, ⟨10, _⟩ => ⟨S24x1024, .f32⟩
  | .hbm, ⟨11, _⟩ => ⟨S65536x1024, .f32⟩
  | .hbm, ⟨12, _⟩ => ⟨S65536x1024, .f32⟩
  | .hbm, ⟨13, _⟩ => ⟨S65536x1024, .bf16⟩
  | .hbm, ⟨14, _⟩ => ⟨S65536x1024, .f32⟩
  | .hbm, ⟨15, _⟩ => ⟨S65536x1024, .bf16⟩
  | .hbm, ⟨16, _⟩ => ⟨S1024x1024, .bf16⟩
  | .hbm, ⟨17, _⟩ => ⟨S1x1024, .f32⟩
  | .hbm, ⟨18, _⟩ => ⟨S65536x1024, .f32⟩
  | .hbm, ⟨19, _⟩ => ⟨S131072x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S24x1024, .f32⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S512x1024, .f32⟩
  | .local _ .vmem, ⟨20, _⟩ => ⟨S512x1024, .f32⟩
  | .local _ .vmem, ⟨21, _⟩ => ⟨S1024x512, .bf16⟩
  | .local _ .vmem, ⟨22, _⟩ => ⟨S1024x512, .bf16⟩
  | .local _ .vmem, ⟨23, _⟩ => ⟨S544x1024, .f32⟩
  | .local _ .vmem, ⟨24, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ShortConvIdeal.lean ====
variable {F : FTy → Type} [FloatOps F]
-- ==== ShortConvReferenceIdeal.lean ====
abbrev S8x8192x1024 : Shape := ⟨3, ![8, 8192, 1024]⟩
abbrev S3x1024 : Shape := ⟨2, ![3, 1024]⟩
abbrev S1024x1024 : Shape := ⟨2, ![1024, 1024]⟩
abbrev S8x1x1024 : Shape := ⟨3, ![8, 1, 1024]⟩
abbrev S1024 : Shape := ⟨1, ![1024]⟩
abbrev S_ : Shape := ⟨0, ![]⟩
abbrev S8x8194x1024 : Shape := ⟨3, ![8, 8194, 1024]⟩
abbrev S1x1024 : Shape := ⟨2, ![1, 1024]⟩
abbrev S1x1x1024 : Shape := ⟨3, ![1, 1, 1024]⟩
abbrev S8x8192 : Shape := ⟨2, ![8, 8192]⟩
abbrev S8x8192x1 : Shape := ⟨3, ![8, 8192, 1]⟩
abbrev S8x8192x512 : Shape := ⟨3, ![8, 8192, 512]⟩
abbrev S8x8192x1x512 : Shape := ⟨4, ![8, 8192, 1, 512]⟩
abbrev S8x8192x2x512 : Shape := ⟨4, ![8, 8192, 2, 512]⟩
abbrev S65536x1024 : Shape := ⟨2, ![65536, 1024]⟩
abbrev S131072x512 : Shape := ⟨2, ![131072, 512]⟩

abbrev nBuf : Space → Nat
  | .hbm => 68
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S3x1024, .f32⟩
  | .hbm, ⟨4, _⟩ => ⟨S1024x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S_, .i32⟩
  | .hbm, ⟨10, _⟩ => ⟨S_, .f32⟩
  | .hbm, ⟨11, _⟩ => ⟨S8x8194x1024, .f32⟩
  | .hbm, ⟨12, _⟩ => ⟨S8x8192x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S_, .f32⟩
  | .hbm, ⟨42, _⟩ => ⟨S8x8192x1, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x8192x1, .f32⟩
  | .hbm, ⟨48, _⟩ => ⟨S8x8192x1024, .f32⟩
  | .hbm, ⟨49, _⟩ => ⟨S8x8192x1024, .f32⟩
  | .hbm, ⟨50, _⟩ => ⟨S1x1x1024, .f32⟩
  | .hbm, ⟨51, _⟩ => ⟨S8x8192x1024, .f32⟩
  | .hbm, ⟨52, _⟩ => ⟨S8x8192x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S8x8192x512, .f32⟩
  | .hbm, ⟨61, _⟩ => ⟨S8x8192x512, .f32⟩
  | .hbm, ⟨62, _⟩ => ⟨S8x8192x1x512, .f32⟩
  | .hbm, ⟨63, _⟩ => ⟨S8x8192x1x512, .f32⟩
  | .hbm, ⟨64, _⟩ => ⟨S8x8192x2x512, .f32⟩
  | .hbm, ⟨65, _⟩ => ⟨S65536x1024, .f32⟩
  | .hbm, ⟨66, _⟩ => ⟨S131072x512, .f32⟩
  | .hbm, ⟨67, _⟩ => ⟨S131072x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Modulation.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Rows.lean ====
/- The body of the combine kernel, read as two loops over the rows of a tile and a middle part: each row is
   "read the row's position, check it, start the copy of that row into the buffer". -/
module

public import proofs.«01_k».proof.Proof.Gen.Kernel.Skeleton
public import proofs.«01_k».proof.Proof.Gen.Kernel.Launch

@[expose] public section

noncomputable section

namespace Cert.Kernel.Combine

open Idealize.ShloMosaic Idealize.SL.Sem Cert.Kernel Cert.Kernel.Gen

variable {F : FTy → Type} [FloatOps F]

abbrev Body (F : FTy → Type) (α : Type) := Prog (TpuEff nD τ sig (Elt F) Λ₀ .tc) α

/-- Start the copy of one row: the position is read at `ot`, `chk` is what the body checks of it, the row goes to
    the window of the buffer at `od` and counts on the semaphore at `os`. -/
def issueAt (a1 : Memref sig .tc .smem S65536 .i32) (a5 : Memref sig .tc .hbm S79872x1024 .i32)
    (a7 : Memref sig .tc .vmem S2x256x1024 .i32) (a8 : DmaSems sig S2)
    (ot : Fin 1 → Nat) (hot : ∀ a, ot a + S1.size a ≤ S65536.size a)
    (os : Fin 1 → Nat) (hos : ∀ a, os a + S1.size a ≤ S2.size a)
    (od : Fin 3 → Nat) (hod : ∀ a, od a + S1x1x1024.size a ≤ S2x256x1024.size a)
    (chk : BitVec 32 → Prop) (dec : ∀ v, Decidable (chk v))
    (hchk : ∀ v, chk v → ∀ a, (![v.toNat, 0] : Fin 2 → Nat) a + S1x1024.size a ≤ S79872x1024.size a) :
    Body F PUnit := do
  let v : Elt F .i32 ← smemLoad a1 (Rect.unit (s := S65536) ot S1.size hot) numel1_S1 rfl
  have hw : chk v := (← Prog.lift (TpuEff.assume (chk v) (dec v))).down
  Prog.lift (.enqueueDma
    (a5.slice (Rect.unit (s := S79872x1024) ![v.toNat, 0] S1x1024.size (hchk v hw)) (fun _ => rfl))
    (.here ((a7.slice (Rect.unit (s := S2x256x1024) od S1x1x1024.size hod) (fun _ => rfl)).squeeze S1x1024
      squeezes_S1x1x1024_S1x1024))
    (.dma ((a8.slice (Rect.unit (s := S2) os S1.size hos)).squeeze S_ squeezes_S1_S_).sem)
    (View.wordExact_bits rfl) ((View.wordExact_bits rfl).reshape _ _) ⟨Or.inl rfl, trivial⟩)

/-- Run `f` at the rows `256 - n, …, 255`, in order. -/
def rowsOf (f : Fin 256 → Body F PUnit) : Nat → Body F PUnit
  | 0 => pure ⟨⟩
  | n + 1 => f ⟨255 - n, by omega⟩ >>= fun _ => rowsOf f n

theorem hot0 (r : Fin 256) : ∀ a, (![r.val] : Fin 1 → Nat) a + S1.size a ≤ S65536.size a := by
  intro a; have := r.2; fin_cases a; simp [Shape.size]; omega

theorem hod0 (r : Fin 256) : ∀ a, (![0, r.val, 0] : Fin 3 → Nat) a + S1x1x1024.size a ≤ S2x256x1024.size a := by
  intro a; have := r.2; fin_cases a <;> simp [Shape.size] <;> omega

/-- Row `r` of the first branch: tile 0 into slot 0. -/
def issue0 (i : grid0.Coords) (h1 : k0_cond1 i = 1#1) (a1 : Memref sig .tc .smem S65536 .i32)
    (a5 : Memref sig .tc .hbm S79872x1024 .i32)
    (a7 : Memref sig .tc .vmem S2x256x1024 .i32) (a8 : DmaSems sig S2) (r : Fin 256) : Body F PUnit :=
  issueAt a1 a5 a7 a8 ![r.val] (hot0 r) ![0] inb_S2_S1_0 ![0, r.val, 0] (hod0 r) (k0_chk1 i) (k0_chk1.dec i)
    (fun _ h => h h1)

/-- The tile the body starts at point `i`: the next one, the last again at the last point. -/
def nxt (i : grid0.Coords) : BitVec 32 := Scalar.minsi (Scalar.addi (BitVec.ofNat 32 (i 0).val) 1#32) 255#32

/-- Where its row `r`'s position lies. -/
def offT (i : grid0.Coords) (r : Nat) : Fin 1 → Nat :=
  ![(Scalar.indexCast (Scalar.addi (Scalar.muli (nxt i) 256#32) (BitVec.ofNat 32 r))).toNat]

/-- The slot it goes to. -/
def slot (i : grid0.Coords) : Nat := k0_off261 i 0

theorem offT_eq (i : grid0.Coords) (r : Fin 256) : offT i r.val = ![256 * min ((i 0).val + 1) 255 + r.val] := by
  have r_i0 : (i 0).val < 256 := (i 0).isLt
  have hr := r.2
  have h0 : Affine.IsInt (BitVec.ofNat 32 (i 0).val) (((i 0).val : Int)) := Affine.ofNat _ (by omega)
  have h1 : Affine.IsInt 1#32 (1) := Affine.ofNat _ (by omega)
  have h2 : Affine.IsInt _ (((i 0).val : Int) + 1) := Affine.addi h0 h1 (by omega)
  have h3 : Affine.IsInt 255#32 (255) := Affine.ofNat _ (by omega)
  have h4 : Affine.IsInt _ ((min (((i 0).val : Int) + 1) 255)) := Affine.minsi h2 h3 (by omega)
  have h5 : Affine.IsInt 256#32 (256) := Affine.ofNat _ (by omega)
  have h6 : Affine.IsInt _ (256 * (min (((i 0).val : Int) + 1) 255)) := Affine.muli h4 h5 (by omega)
  have h7 : Affine.IsInt (BitVec.ofNat 32 r.val) ((r.val : Int)) := Affine.ofNat _ (by omega)
  have h8 : Affine.IsInt _ (256 * (min (((i 0).val : Int) + 1) 255) + (r.val : Int)) := Affine.addi h6 h7 (by omega)
  have h9 : Affine.IsInt _ (256 * (min (((i 0).val : Int) + 1) 255) + (r.val : Int)) := Affine.indexCast h8
  exact Affine.vec_cons h9 (by omega) <| Affine.vec_nil

/-- The grid point with coordinate `n`. -/
def pt (n : Fin 256) : grid0.Coords := fun a => match a with | ⟨0, _⟩ => n

theorem eq_pt (i : grid0.Coords) : ∃ n : Fin 256, i = pt n := ⟨i 0, by
  funext a; match a with | ⟨0, _⟩ => rfl⟩

theorem off261_eq (i : grid0.Coords) : k0_off261 i = ![((i 0).val + 1) % 2] := by
  obtain ⟨n, rfl⟩ := eq_pt i
  have h : ∀ n : Fin 256, k0_off261 (pt n) 0 = (n.val + 1) % 2 := by decide +kernel
  funext a; match a with | ⟨0, _⟩ => exact h n

theorem off257_eq (i : grid0.Coords) : k0_off257 i = ![(i 0).val % 2] := by
  obtain ⟨n, rfl⟩ := eq_pt i
  have h : ∀ n : Fin 256, k0_off257 (pt n) 0 = n.val % 2 := by decide +kernel
  funext a; match a with | ⟨0, _⟩ => exact h n

theorem off258_eq (i : grid0.Coords) : k0_off258 i = ![(i 0).val % 2, 0, 0] := by
  have h := congrFun (off257_eq i) 0
  funext a; match a with | ⟨0, _⟩ => exact h | ⟨1, _⟩ => rfl | ⟨2, _⟩ => rfl

theorem off259_eq (i : grid0.Coords) : k0_off259 i = ![(i 0).val % 2, 0, 0] := by
  obtain ⟨n, rfl⟩ := eq_pt i
  have h : ∀ n : Fin 256, k0_off259 (pt n) 0 = n.val % 2 := by decide +kernel
  funext a; match a with | ⟨0, _⟩ => exact h n | ⟨1, _⟩ => rfl | ⟨2, _⟩ => rfl

theorem off1284_eq (i : grid0.Coords) : k0_off1284 i = ![((i 0).val + 1) % 2] := off261_eq i

theorem off1285_eq (i : grid0.Coords) : k0_off1285 i = ![((i 0).val + 1) % 2, 0, 0] := by
  have h := congrFun (off261_eq i) 0
  funext a; match a with | ⟨0, _⟩ => exact h | ⟨1, _⟩ => rfl | ⟨2, _⟩ => rfl

theorem cond1_iff (i : grid0.Coords) : k0_cond1 i = 1#1 ↔ (i 0).val = 0 := by
  obtain ⟨n, rfl⟩ := eq_pt i
  have h : ∀ n : Fin 256, k0_cond1 (pt n) = 1#1 ↔ n.val = 0 := by decide +kernel
  exact h n

theorem cond2_iff (i : grid0.Coords) : k0_cond2 i = 1#1 ↔ (i 0).val = 255 := by
  obtain ⟨n, rfl⟩ := eq_pt i
  have h : ∀ n : Fin 256, k0_cond2 (pt n) = 1#1 ↔ n.val = 255 := by decide +kernel
  exact h n

theorem slot_eq (i : grid0.Coords) : slot i = ((i 0).val + 1) % 2 := congrFun (off261_eq i) 0

theorem hot1 (i : grid0.Coords) (r : Fin 256) : ∀ a, (offT i r.val) a + S1.size a ≤ S65536.size a := by
  rw [offT_eq]; intro a; have := r.2; fin_cases a; simp [Shape.size]; omega

theorem hod1 (i : grid0.Coords) (r : Fin 256) :
    ∀ a, (![slot i, r.val, 0] : Fin 3 → Nat) a + S1x1x1024.size a ≤ S2x256x1024.size a := by
  rw [slot_eq]; intro a; have := r.2; fin_cases a <;> simp [Shape.size] <;> omega

/-- Row `r` of the second loop. -/
def issue1 (i : grid0.Coords) (a1 : Memref sig .tc .smem S65536 .i32)
    (a5 : Memref sig .tc .hbm S79872x1024 .i32)
    (a7 : Memref sig .tc .vmem S2x256x1024 .i32) (a8 : DmaSems sig S2) (r : Fin 256) : Body F PUnit :=
  issueAt a1 a5 a7 a8 (offT i r.val) (hot1 i r) (k0_off261 i) (k0_off261_inb i) ![slot i, r.val, 0] (hod1 i r)
    k0_chk257 k0_chk257.dec (fun _ h => h)

abbrev Read (F : FTy → Type) := Σ' (arg0 : BitVec 32) (v30 : IVec S256x1024 32) (v33 : FVec F S256x1024 .f32), IVec S256x1024 32

section
variable (i : grid0.Coords) (arg1 : Memref sig .tc .smem S65536 .i32) (harg1 : arg1.IsWhole) (arg2 : Memref sig .tc .vmem S256x1024 .f32) (harg2 : arg2.IsWhole) (arg3 : Memref sig .tc .vmem S8x256 .f32) (harg3 : arg3.IsWhole) (arg4 : Memref sig .tc .vmem S1x1x1024 .f32) (harg4 : arg4.IsWhole) (arg5 : Memref sig .tc .hbm S79872x1024 .i32) (harg5 : arg5.IsWhole) (arg6 : Memref sig .tc .vmem S256x1024 .f32) (harg6 : arg6.IsWhole) (arg7 : Memref sig .tc .vmem S2x256x1024 .i32) (harg7 : arg7.IsWhole) (arg8 : DmaSems sig S2)

/-- The wait for the tile of this point, and the read of its slot. -/
def await : Body F (Read F) := do
  Prog.lift (.waitDma2 ((arg8.slice (Rect.unit (s := S2) (k0_off257 i) S1.size (k0_off257_inb i))).squeeze S_ squeezes_S1_S_).sem
    (arg5.slice (Rect.unit (s := S79872x1024) ![0, 0] S256x1024.size inb_S79872x1024_S256x1024_0_0) (fun _ => rfl))
    ((arg7.slice (Rect.unit (s := S2x256x1024) (k0_off258 i) S1x256x1024.size (k0_off258_inb i)) (fun _ => rfl)).squeeze
      S256x1024 squeezes_S1x256x1024_S256x1024)
    (View.wordExact_bits rfl) ((View.wordExact_bits rfl).reshape _ _))
  let v29 : Vec F S1x256x1024 .i32 ← Prog.lift (.load arg7 (Rect.unit (s := S2x256x1024) (k0_off259 i) S1x256x1024.size (k0_off259_inb i)).toLoadRect (View.loadsAt_vmem h_S1x256x1024))
  pure ⟨BitVec.ofNat 32 (i 0).val, k0_pay1 v29, k0_pay2 v29, k0_pay3⟩

theorem part61_pos (h1 : k0_cond1 i = 1#1) :
    k0_part61 (F := F) i arg1 harg1 arg2 harg2 arg3 harg3 arg4 harg4 arg5 harg5 arg6 harg6 arg7 harg7 arg8
      = rowsOf (issue0 i h1 arg1 arg5 arg7 arg8) 256 >>= fun _ => await i arg5 arg7 arg8 := by
  rw [k0_part61_eq_skeleton]; unfold k0_part61_skel; rw [dif_pos h1]; chain_rfl

theorem part61_neg (h1 : ¬ k0_cond1 i = 1#1) :
    k0_part61 (F := F) i arg1 harg1 arg2 harg2 arg3 harg3 arg4 harg4 arg5 harg5 arg6 harg6 arg7 harg7 arg8
      = await i arg5 arg7 arg8 := by
  rw [k0_part61_eq_skeleton]; unfold k0_part61_skel; rw [dif_neg h1]; chain_rfl

/-- The rest of the body after the read of the slot: the output block, the next tile's copies, and at the last
    point the wait for them. -/
def after (x : Read F) : Body F PUnit := do
  let v37 : Vec F S8x256 .f32 ← Prog.lift (.load arg3 (Rect.unit (s := S8x256) ![0, 0] S8x256.size inb_S8x256_S8x256_0_0).toLoadRect (View.loadsAt_vmem h_S8x256))
  let v39 : Vec F S256x1024 .f32 ← Prog.lift (.load arg2 (Rect.unit (s := S256x1024) ![0, 0] S256x1024.size inb_S256x1024_S256x1024_0_0).toLoadRect (View.loadsAt_vmem h_S256x1024))
  let v40 : Vec F S1x1x1024 .f32 ← Prog.lift (.load arg4 (Rect.unit (s := S1x1x1024) ![0, 0, 0] S1x1x1024.size inb_S1x1x1024_S1x1x1024_0_0_0).toLoadRect (View.loadsAt_vmem h_S1x1x1024))
  let v52 : Vec F S256x1024 .f32 ← Prog.lift (.load arg6 (Rect.unit (s := S256x1024) ![0, 0] S256x1024.size inb_S256x1024_S256x1024_0_0).toLoadRect (View.loadsAt_vmem h_S256x1024))
  Prog.lift (.store arg6 (Rect.unit (s := S256x1024) ![0, 0] S256x1024.size inb_S256x1024_S256x1024_0_0) (k0_pay4 x.2.1 x.2.2.1 x.2.2.2 v37 v39 v40) Finset.univ (View.stores_vmem_bits_univ h_S256x1024 rfl) (.inl rfl))
  rowsOf (issue1 i arg1 arg5 arg7 arg8) 256
  if h2 : k0_cond2 i = 1#1 then
    Prog.lift (.waitDma2 ((arg8.slice (Rect.unit (s := S2) (k0_off1284 i) S1.size (k0_off1284_inb i h2))).squeeze S_ squeezes_S1_S_).sem
      (arg5.slice (Rect.unit (s := S79872x1024) ![0, 0] S256x1024.size inb_S79872x1024_S256x1024_0_0) (fun _ => rfl))
      ((arg7.slice (Rect.unit (s := S2x256x1024) (k0_off1285 i) S1x256x1024.size (k0_off1285_inb i h2)) (fun _ => rfl)).squeeze
        S256x1024 squeezes_S1x256x1024_S256x1024)
      (View.wordExact_bits rfl) ((View.wordExact_bits rfl).reshape _ _))
    pure ⟨⟩
  else pure ⟨⟩

theorem body_eq :
    cc0_combine (F := F) i arg1 harg1 arg2 harg2 arg3 harg3 arg4 harg4 arg5 harg5 arg6 harg6 arg7 harg7 arg8
      = k0_part61 i arg1 harg1 arg2 harg2 arg3 harg3 arg4 harg4 arg5 harg5 arg6 harg6 arg7 harg7 arg8
          >>= fun x => after i arg1 arg2 arg3 arg4 arg5 arg6 arg7 arg8 x := by
  rw [cc0_combine_eq_skeleton]; unfold cc0_combine_skel; rw [k0_part131_eq_skeleton]; unfold k0_part131_skel
  rw [bind_assoc]
  chain_rfl

end

end Cert.Kernel.Combine

end
-- ==== Proof.Sets.lean ====
/- The parts of the two buffers the row copies touch: a slot and its rows in the row buffer, a row of the gathered
   array; and what one landed copy leaves. -/
module

public import proofs.«01_k».proof.Proof.Rows
public import Idealize.ShloMosaic.Lib.ValueIdxCore

@[expose] public section

noncomputable section

namespace Cert.Kernel.Combine

open Idealize.ShloMosaic Idealize.ShloMosaic.ValueIdx Idealize.SL.Sem Cert.Kernel Cert.Kernel.Gen

variable {F : FTy → Type} [FloatOps F]

/-- Slot `s` of the row buffer. -/
def slotSet (s : Nat) : Finset S2x256x1024.Idx := Finset.univ.filter fun i => (i 0).val = s

/-- Row `r` of slot `s`. -/
def rowSet (s r : Nat) : Finset S2x256x1024.Idx := Finset.univ.filter fun i => (i 0).val = s ∧ (i 1).val = r

/-- Row `p` of the gathered array. -/
def srcSet (p : Nat) : Finset S79872x1024.Idx := Finset.univ.filter fun i => (i 0).val = p

theorem mem_slotSet {s : Nat} {i : S2x256x1024.Idx} : i ∈ slotSet s ↔ (i 0).val = s := by simp [slotSet]
theorem mem_rowSet {s r : Nat} {i : S2x256x1024.Idx} : i ∈ rowSet s r ↔ (i 0).val = s ∧ (i 1).val = r := by simp [rowSet]
theorem mem_srcSet {p : Nat} {i : S79872x1024.Idx} : i ∈ srcSet p ↔ (i 0).val = p := by simp [srcSet]

/-- A slot is its rows. -/
theorem slotSet_eq (s : Nat) : slotSet s = (Finset.univ : Finset (Fin 256)).biUnion fun r => rowSet s r.val := by
  ext i
  simp only [Finset.mem_biUnion, Finset.mem_univ, true_and, mem_slotSet, mem_rowSet]
  exact ⟨fun h => ⟨i 1, h, rfl⟩, fun ⟨_, h, _⟩ => h⟩

theorem rows_disjoint (s : Nat) : ((Finset.univ : Finset (Fin 256)) : Set (Fin 256)).PairwiseDisjoint fun r => rowSet s r.val := by
  intro a _ b _ hab
  refine Finset.disjoint_left.mpr fun i ha hb => hab (Fin.ext ?_)
  exact (mem_rowSet.mp ha).2.symm.trans (mem_rowSet.mp hb).2

/-- The row buffer is its two slots. -/
theorem slot_compl {s : Nat} (hs : s < 2) : Finset.univ \ slotSet s = slotSet (1 - s) := by
  ext i
  have := (i 0).isLt
  simp only [Finset.mem_sdiff, Finset.mem_univ, true_and, mem_slotSet]
  have h2 : (i 0).val < 2 := (i 0).isLt
  omega

/-- The window of the row buffer a row's copy goes to. -/
abbrev dstM (od : Fin 3 → Nat) (hod : ∀ a, od a + S1x1x1024.size a ≤ S2x256x1024.size a) :
    Memref sig .tc .vmem S1x1024 .i32 :=
  (((Memref.whole cc0_scratch0 : Memref sig .tc .vmem S2x256x1024 .i32).slice
    (Rect.unit (s := S2x256x1024) od S1x1x1024.size hod) (fun _ => rfl)).squeeze S1x1024 squeezes_S1x1x1024_S1x1024)

/-- The row it comes from. -/
abbrev srcM (p : Nat) (hp : ∀ a, (![p, 0] : Fin 2 → Nat) a + S1x1024.size a ≤ S79872x1024.size a) :
    Memref sig .tc .hbm S1x1024 .i32 :=
  ((Memref.whole main_arg4 : Memref sig .tc .hbm S79872x1024 .i32).slice
    (Rect.unit (s := S79872x1024) ![p, 0] S1x1024.size hp) (fun _ => rfl))

theorem dst_set (s r : Nat) (hod : ∀ a, (![s, r, 0] : Fin 3 → Nat) a + S1x1x1024.size a ≤ S2x256x1024.size a) :
    (dstM ![s, r, 0] hod).view.set = rowSet s r := by
  rw [show (dstM ![s, r, 0] hod).view.set = (Rect.unit (s := S2x256x1024) ![s, r, 0] S1x1x1024.size hod).set from
    (View.set_reshape ..).trans (View.set_slice_whole ..)]
  ext i
  rw [Rect.mem_set_unit, mem_rowSet]
  constructor
  · intro h
    have h0 : s ≤ (i 0).val ∧ (i 0).val < s + 1 := h 0
    have h1 : r ≤ (i 1).val ∧ (i 1).val < r + 1 := h 1
    omega
  · rintro ⟨h0, h1⟩ a
    match a with
    | ⟨0, _⟩ => exact ⟨h0.ge, by show (i 0).val < s + 1; omega⟩
    | ⟨1, _⟩ => exact ⟨h1.ge, by show (i 1).val < r + 1; omega⟩
    | ⟨2, _⟩ => exact ⟨Nat.zero_le _, by show (i 2).val < 0 + 1024; have : (i 2).val < 1024 := (i 2).isLt; omega⟩

theorem src_set (p : Nat) (hp : ∀ a, (![p, 0] : Fin 2 → Nat) a + S1x1024.size a ≤ S79872x1024.size a) :
    (srcM p hp).view.set = srcSet p := by
  rw [show (srcM p hp).view.set = (Rect.unit (s := S79872x1024) ![p, 0] S1x1024.size hp).set from
    (View.set_slice_whole ..)]
  ext i
  rw [Rect.mem_set_unit, mem_srcSet]
  constructor
  · intro h
    have h0 : p ≤ (i 0).val ∧ (i 0).val < p + 1 := h 0
    omega
  · rintro h0 a
    match a with
    | ⟨0, _⟩ => exact ⟨h0.ge, by show (i 0).val < p + 1; omega⟩
    | ⟨1, _⟩ => exact ⟨Nat.zero_le _, by show (i 1).val < 0 + 1024; have : (i 1).val < 1024 := (i 1).isLt; omega⟩

/-- The rows `P` of `fs`, in both slots of a row buffer. -/
def gath (P : Fin 256 → Fin 79872) (fs : S79872x1024.Idx → Elt F .i32) : S2x256x1024.Idx → Elt F .i32 :=
  fun i => fs (ix2 (P (i 1)) (i 2))

/-- What one copy leaves on its row: the row of `fs`. -/
theorem landed (s : Nat) (r : Fin 256) (P : Fin 256 → Fin 79872)
    (hod : ∀ a, (![s, r.val, 0] : Fin 3 → Nat) a + S1x1x1024.size a ≤ S2x256x1024.size a)
    (p : Nat) (hP : p = (P r).val) (hp : ∀ a, (![p, 0] : Fin 2 → Nat) a + S1x1024.size a ≤ S79872x1024.size a)
    (fd : S2x256x1024.Idx → Elt F .i32) (fs : S79872x1024.Idx → Elt F .i32) (i : S2x256x1024.Idx) (hi : i ∈ rowSet s r.val) :
    (dstM ![s, r.val, 0] hod).view.write (Elt F) fd (ReadAs.same.apply ((srcM p hp).view.read (Elt F) fs)) Finset.univ i
      = gath P fs i := by
  have hm := hi
  rw [← dst_set s r.val hod, View.set, Finset.mem_map] at hi
  obtain ⟨x, -, rfl⟩ := hi
  rw [View.write_emb_of_mem _ _ (Finset.mem_univ x)]
  show fs ((srcM p hp).view.emb x) = fs _
  congr 1
  have hx : Shape.reshapeEquiv (squeezes_S1x1x1024_S1x1024).numel_eq x = Fin.cons ⟨0, Nat.one_pos⟩ x := Shape.reshapeEquiv_cons_one _ x
  have h0 : (x 0).val = 0 := by have : (x 0).val < 1 := (x 0).isLt; omega
  have e1 : (dstM ![s, r.val, 0] hod).view.emb x 1 = r := by
    have := (mem_rowSet.mp hm).2
    exact Fin.ext this
  have e2 : ((dstM ![s, r.val, 0] hod).view.emb x 2).val = (x 1).val := by
    have h : (dstM ![s, r.val, 0] hod).view.emb x = (Rect.unit (s := S2x256x1024) ![s, r.val, 0] S1x1x1024.size hod).emb
        (Shape.reshapeEquiv (squeezes_S1x1x1024_S1x1024).numel_eq x) := rfl
    rw [h, hx]
    show 0 + 1 * (x 1).val = _
    omega
  funext a
  match a with
  | ⟨0, _⟩ =>
    refine Fin.ext ?_
    show p + 1 * (x 0).val = (P ((dstM ![s, r.val, 0] hod).view.emb x 1)).val
    rw [e1]; omega
  | ⟨1, _⟩ =>
    refine Fin.ext ?_
    show 0 + 1 * (x 1).val = ((dstM ![s, r.val, 0] hod).view.emb x 2).val
    rw [e2]; omega

end Cert.Kernel.Combine
-- ==== Proof.Flight.lean ====
/- The copies of one tile in flight: what each delivers, how one row's copy is started, and the loop that starts
   them all. -/
module

public import proofs.«01_k».proof.Proof.Sets
public import Idealize.ShloMosaic.Lib.Pipeline.FrameBody
public import Idealize.ShloMosaic.Lib.Batch
public import Idealize.ShloMosaic.Lib.Transfers
public import Idealize.ShloMosaic.Lib.Tactic

@[expose] public section

noncomputable section

namespace Cert.Kernel.Combine

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

abbrev tabM : Memref sig .tc .smem S65536 .i32 := Memref.whole main_arg0
abbrev ysM : Memref sig .tc .hbm S79872x1024 .i32 := Memref.whole main_arg4
abbrev ybM : Memref sig .tc .vmem S2x256x1024 .i32 := Memref.whole cc0_scratch0
abbrev tabL (c : Dev nD) := tabM.view.loc (c : Thread nD τ)
abbrev ysL (c : Dev nD) := ysM.view.loc (c : Thread nD τ)
abbrev ybL (c : Dev nD) := ybM.view.loc (c : Thread nD τ)

/-- The cell slot `s`'s copies count on. -/
abbrev cell (s : Fin 2) : DmaSem sig := ⟨8 + s.val, by have := s.2; show 8 + s.val < 10; omega⟩

theorem cell_eq (s : Fin 2) (hos : ∀ a, (![s.val] : Fin 1 → Nat) a + S1.size a ≤ S2.size a) :
    ((cc0_scratch1.slice (Rect.unit (s := S2) ![s.val] S1.size hos)).squeeze S_ squeezes_S1_S_).sem = cell s := by
  refine Fin.ext ?_
  have h := Shape.rowMajor_val_one (d := ![2]) ((Rect.unit (s := S2) ![s.val] S1.size hos).emb
    (Shape.reshapeEquiv (squeezes_S1_S_).numel_eq fun i => i.elim0))
  show 8 + (S2.rowMajor ((Rect.unit (s := S2) ![s.val] S1.size hos).emb
    (Shape.reshapeEquiv (squeezes_S1_S_).numel_eq fun i => i.elim0))).val = 8 + s.val
  have h2 : (S2.rowMajor ((Rect.unit (s := S2) ![s.val] S1.size hos).emb
    (Shape.reshapeEquiv (squeezes_S1_S_).numel_eq fun i => i.elim0))).val = s.val + 1 *
      (Shape.reshapeEquiv (squeezes_S1_S_).numel_eq (fun i => i.elim0) 0).val := h
  have h3 : (Shape.reshapeEquiv (squeezes_S1_S_).numel_eq (fun i => i.elim0) 0).val < 1 := Fin.isLt _
  omega

abbrev EC : UEmb Counters 𝕄 := countersEmb (U := Pipeline.UD sig nD τ)

/-- What row `r`'s copy delivers: its row of the slot at the gathered words, and the read share of the row it came from. -/
def deliv (c : Dev nD) (s : Fin 2) (P : Fin 256 → Fin 79872) (fs : S79872x1024.Idx → Elt F .i32) (r : Fin 256) : sProp 𝕄 :=
  iprop((ybL c ↦[rowSet s.val r.val]{fullShare} gath P fs) ∗ (ysL c ↦[srcSet (P r).val]{shareTok fullShare 256 r} fs))

instance deliv_storable (c : Dev nD) (s : Fin 2) (P : Fin 256 → Fin 79872) (fs : S79872x1024.Idx → Elt F .i32) (r : Fin 256) :
    Storable (upEmb : UEmb _ 𝕄) (deliv c s P fs r) := by unfold deliv; infer_instance

/-- The units one row's copy counts. -/
abbrev units : Nat := 128

/-- What is held of row `r` before its copy starts, -/
def fresh (c : Dev nD) (s : Fin 2) (fd : S2x256x1024.Idx → Elt F .i32) (fs : S79872x1024.Idx → Elt F .i32) (r : Fin 256) : sProp 𝕄 :=
  iprop((ybL c ↦[rowSet s.val r.val]{fullShare} fd) ∗ (ysL c ↦[Finset.univ]{shareTok fullShare 256 r} fs))

/-- and while it is in flight. -/
def left (c : Dev nD) (P : Fin 256 → Fin 79872) (fs : S79872x1024.Idx → Elt F .i32) (r : Fin 256) : sProp 𝕄 :=
  iprop(ysL c ↦[Finset.univ \ srcSet (P r).val]{shareTok fullShare 256 r} fs)

/-- The copy of row `r` at the head of a program. -/
theorem dma_row (c : Dev nD) (s : Fin 2) (P : Fin 256 → Fin 79872) (fs : S79872x1024.Idx → Elt F .i32)
    (fd : S2x256x1024.Idx → Elt F .i32) (r : Fin 256) (p : Nat) (hP : p = (P r).val) (hp) (hod)
    (sm : DmaSem sig) (hsm : sm = cell s) {hsrc hdst hsem} {k : PUnit → Body F PUnit} {Q : PUnit → sProp 𝕄} :
    iprop((ysL c ↦[srcSet (P r).val]{shareTok fullShare 256 r} fs) ∗ (ybL c ↦[rowSet s.val r.val]{fullShare} fd)
        ∗ Batch EC (c : Thread nD τ) (.dma (cell s)) () units (deliv c s P fs) r.val 0)
      ⊢ iprop((Batch EC (c : Thread nD τ) (.dma (cell s)) () units (deliv c s P fs) (r.val + 1) 0
            -∗ wp frame (wpE (defs₀ (F := F)) Variants.none c none) Set.univ (k ⟨⟩) Q)
        -∗ wp frame (wpE (defs₀ (F := F)) Variants.none c none) Set.univ
            (.op (.enqueueDma (srcM p hp) (.here (dstM ![s.val, r.val, 0] hod)) (.dma sm) hsrc hdst hsem) k) Q) := by
  subst hsm
  have hN : (dstM ![s.val, r.val, 0] hod).view.amount (.dma (cell s)) = units :=
    View.dmaCredit_closed _ S1x1024 rfl 8 rfl units (by decide)
  have hS := src_set p hp
  subst hP
  have hD : iprop((ybL c ↦[rowSet s.val r.val]{fullShare}
        (dstM ![s.val, r.val, 0] hod).view.write (Elt F) fd (ReadAs.same.apply ((srcM (P r).val hp).view.read (Elt F) fs)) Finset.univ)
      ∗ (ysL c ↦[(srcM (P r).val hp).view.set]{shareTok fullShare 256 r} fs)) ⊢ deliv c s P fs ⟨r.val, r.2⟩ := by
    rw [hS]
    unfold deliv
    rw [pointsTo_congr (fun i hi => landed s.val r P hod _ rfl hp fd fs i hi)]
  have h := wp_dmaBatch (Val := Elt F) (Λ := Λ₀) (defs := defs₀) (Q := Q) EC Variants.none (c : Thread nD τ) none (src := srcM (P r).val hp) (via := ReadAs.same)
    (dst := dstM ![s.val, r.val, 0] hod) (sm := .dma (cell s)) (hsrc := hsrc) (hdst := hdst) (hsem := hsem) (k := k)
    (q := shareTok fullShare 256 r)
    (Sd := rowSet s.val r.val) (fd := fd) (fs := fs) (D := deliv c s P fs) (j := r.val) (u := 0) () units hN (dst_set _ _ _).le r.2 (Nat.zero_le _) hD
  rw [hS] at h
  exact h

/-- Starting row `r`'s copy: its position is read and is `P r`, the row of the slot and the share of the gathered row go. -/
theorem issueAt_spec (c : Dev nD) (s : Fin 2) (P : Fin 256 → Fin 79872) (fs : S79872x1024.Idx → Elt F .i32)
    (fd : S2x256x1024.Idx → Elt F .i32) (tab : S65536.Idx → Elt F .i32) (qt : PosShare TreeShare) (r : Fin 256)
    (k : Fin 65536) (hk : (tab (ix1 k)).toNat = (P r).val)
    (ot : Fin 1 → Nat) (hot) (os : Fin 1 → Nat) (hos) (od : Fin 3 → Nat) (hod) (chk : BitVec 32 → Prop) (dec) (hchk)
    (eot : ot = ![k.val]) (eos : os = ![s.val]) (eod : od = ![s.val, r.val, 0]) (hc : chk (tab (ix1 k)))
    (Q : PUnit → sProp 𝕄) :
    iprop((tabL c ↦[Finset.univ]{qt} tab) ∗ fresh c s fd fs r
        ∗ Batch EC (c : Thread nD τ) (.dma (cell s)) () units (deliv c s P fs) r.val 0)
      ⊢ iprop(((tabL c ↦[Finset.univ]{qt} tab) ∗ left c P fs r
            ∗ Batch EC (c : Thread nD τ) (.dma (cell s)) () units (deliv c s P fs) (r.val + 1) 0 -∗ Q ⟨⟩)
        -∗ wp frame (wpE (defs₀ (F := F)) Variants.none c none) Set.univ
            (issueAt tabM ysM ybM cc0_scratch1 ot hot os hos od hod chk dec hchk) Q) := by
  subst eot eos eod
  iintro ⟨Ht, Hf, HB⟩ HQ
  unfold issueAt smemLoad smemLoadElt
  iapply (wp_load (Val := Elt F) Variants.none (c : Thread nD τ) none Set.univ (m := tabM) (S := Finset.univ) (Finset.subset_univ _)) $$ Ht
  iintro Ht
  have hv : ∀ x, tabM.view.readAt (Elt F) (Rect.unit (s := S65536) ![k.val] S1.size hot).toLoadRect tab x = tab (ix1 k) := by
    intro x
    show tab _ = _
    congr 1
    funext a
    match a with
    | ⟨0, _⟩ =>
      have : (x 0).val < 1 := (x 0).isLt
      refine Fin.ext ?_
      show k.val + 1 * (x 0).val = k.val
      omega
  rw [funext hv]
  generalize tab (ix1 k) = v at *
  iapply (wp_assume (Val := Elt F) Variants.none (c : Thread nD τ) none Set.univ hc)
  unfold fresh
  icases Hf with ⟨Hd, Hs⟩
  ihave Hs' := (show (ysL c ↦[Finset.univ]{shareTok fullShare 256 r} fs : sProp 𝕄)
    ⊢ iprop((ysL c ↦[srcSet (P r).val]{shareTok fullShare 256 r} fs) ∗ ysL c ↦[Finset.univ \ srcSet (P r).val]{shareTok fullShare 256 r} fs)
    from (pointsTo_split_subset (Finset.subset_univ _)).1) $$ Hs
  icases Hs' with ⟨Hs, Hl⟩
  iapply (dma_row c s P fs fd r v.toNat hk _ hod _ (cell_eq s hos)) $$ [Hs Hd HB]
  · isplitl [Hs]; · iexact Hs
    isplitl [Hd]; · iexact Hd
    iexact HB
  iintro HB
  rw [wp_ret]
  imodintro
  iapply HQ
  isplitl [Ht]; · iexact Ht
  isplitl [Hl]; · unfold left; iexact Hl
  iexact HB

end Cert.Kernel.Combine
-- ==== Proof.Tile.lean ====
/- A tile of rows: started, in flight, waited for, read. -/
module

public import proofs.«01_k».proof.Proof.Flight

@[expose] public section

noncomputable section

namespace Cert.Kernel.Combine

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

section
variable (c : Dev nD) (P : Fin 256 → Fin 79872) (fs : S79872x1024.Idx → Elt F .i32) (tab : S65536.Idx → Elt F .i32)
  (qt : PosShare TreeShare) (s : Fin 2)

/-- What a row's program does, for any continuation. -/
def RowSpec (fd : S2x256x1024.Idx → Elt F .i32) (f : Fin 256 → Body F PUnit) : Prop :=
  ∀ (r : Fin 256) (Q : PUnit → sProp 𝕄),
    iprop((tabL c ↦[Finset.univ]{qt} tab) ∗ fresh c s fd fs r
        ∗ Batch EC (c : Thread nD τ) (.dma (cell s)) () units (deliv c s P fs) r.val 0)
      ⊢ iprop(((tabL c ↦[Finset.univ]{qt} tab) ∗ left c P fs r
            ∗ Batch EC (c : Thread nD τ) (.dma (cell s)) () units (deliv c s P fs) (r.val + 1) 0 -∗ Q ⟨⟩)
        -∗ wp frame (wpE (defs₀ (F := F)) Variants.none c none) Set.univ (f r) Q)

/-- The rows from `256 - n` on. -/
theorem rowsOf_spec (fd : S2x256x1024.Idx → Elt F .i32) (f : Fin 256 → Body F PUnit) (hf : RowSpec c P fs tab qt s fd f) :
    ∀ (n : Nat) (hn : n ≤ 256) (Q : PUnit → sProp 𝕄),
    iprop((tabL c ↦[Finset.univ]{qt} tab) ∗ bigSep (pending (256 - n)) (fresh c s fd fs)
        ∗ Batch EC (c : Thread nD τ) (.dma (cell s)) () units (deliv c s P fs) (256 - n) 0)
      ⊢ iprop(((tabL c ↦[Finset.univ]{qt} tab) ∗ bigSep (pending (256 - n)) (left c P fs)
            ∗ Batch EC (c : Thread nD τ) (.dma (cell s)) () units (deliv c s P fs) 256 0 -∗ Q ⟨⟩)
        -∗ wp frame (wpE (defs₀ (F := F)) Variants.none c none) Set.univ (rowsOf f n) Q) := by
  intro n
  induction n with
  | zero =>
    intro hn Q
    iintro ⟨Ht, Hf, HB⟩ HQ
    rw [rowsOf, wp_pure]
    imodintro
    iapply HQ
    isplitl [Ht]; · iexact Ht
    isplitl [Hf]
    · have e : (pending (256 - 0) : Finset (Fin 256)) = ∅ := by
        ext t; have := t.2; simp only [pending, Finset.mem_filter, Finset.notMem_empty, iff_false]; omega
      have h : bigSep (pending (256 - 0)) (fresh c s fd fs) ⊢ bigSep (pending (256 - 0)) (left c P fs) := by
        rw [e, bigSep_empty, bigSep_empty]
      iapply h $$ Hf
    iexact HB
  | succ n ih =>
    intro hn Q
    have hk : 256 - (n + 1) < 256 := by omega
    have e : 256 - n = 256 - (n + 1) + 1 := by omega
    have e' : (⟨255 - n, by omega⟩ : Fin 256) = ⟨256 - (n + 1), hk⟩ := Fin.ext (by show 255 - n = 256 - (n + 1); omega)
    rw [bigSep_pending_step _ _ hk, bigSep_pending_step _ _ hk, rowsOf, wp_bind, e', ← e]
    have hr := hf ⟨256 - (n + 1), hk⟩
    have hr' := hr (fun _ => wp frame (wpE (defs₀ (F := F)) Variants.none c none) Set.univ (rowsOf f n) Q)
    rw [show ((⟨256 - (n + 1), hk⟩ : Fin 256).val + 1) = 256 - n from e.symm] at hr'
    have ih' := ih (by omega) Q
    iintro ⟨Ht, ⟨Hf, Hfs⟩, HB⟩ HQ
    iapply hr' $$ [Ht Hf HB]
    · isplitl [Ht]; · iexact Ht
      isplitl [Hf]; · iexact Hf
      iexact HB
    iintro ⟨Ht, Hl, HB⟩
    iapply ih' $$ [Ht Hfs HB]
    · isplitl [Ht]; · iexact Ht
      isplitl [Hfs]; · iexact Hfs
      iexact HB
    iintro ⟨Ht, Hls, HB⟩
    iapply HQ
    isplitl [Ht]; · iexact Ht
    isplitl [Hl Hls]
    · isplitl [Hl]; · iexact Hl
      iexact Hls
    iexact HB

/-- The other slot. -/
def other (s : Fin 2) : Fin 2 := ⟨1 - s.val, by omega⟩

/-- Nothing in flight. -/
def Rest : sProp 𝕄 :=
  iprop((∃ f, ybL c ↦[slotSet s.val]{fullShare} f) ∗ (∃ f, ybL c ↦[slotSet (other s).val]{fullShare} f)
    ∗ semVal ((c : Thread nD τ), SemLoc.dma (cell s)) 0 ∗ semVal ((c : Thread nD τ), SemLoc.dma (cell (other s))) 0
    ∗ (ysL c ↦[Finset.univ]{fullShare} fs))

/-- The rows `P` in flight to slot `s`. -/
def Fly : sProp 𝕄 :=
  iprop(Batch EC (c : Thread nD τ) (.dma (cell s)) () units (deliv c s P fs) 256 0
    ∗ bigSep Finset.univ (left c P fs) ∗ (ysL c ↦[Finset.univ]{shareDrop fullShare 256} fs)
    ∗ (∃ f, ybL c ↦[slotSet (other s).val]{fullShare} f)
    ∗ semVal ((c : Thread nD τ), SemLoc.dma (cell (other s))) 0)

theorem other_other : other (other s) = s := Fin.ext (by show 1 - (1 - s.val) = s.val; omega)

theorem Rest_other : Rest c fs s ⊢ (Rest c fs (other s) : sProp 𝕄) := by
  unfold Rest
  rw [other_other]
  iintro ⟨H1, H2, H3, H4, H5⟩
  isplitl [H2]; · iexact H2
  isplitl [H1]; · iexact H1
  isplitl [H4]; · iexact H4
  isplitl [H3]; · iexact H3
  iexact H5

/-- All rows of a tile started. -/
theorem tile_issue (f : Fin 256 → Body F PUnit) (hf : ∀ fd, RowSpec c P fs tab qt s fd f) (Q : PUnit → sProp 𝕄) :
    iprop((tabL c ↦[Finset.univ]{qt} tab) ∗ Rest c fs s)
      ⊢ iprop(((tabL c ↦[Finset.univ]{qt} tab) ∗ Fly c P fs s -∗ Q ⟨⟩)
        -∗ wp frame (wpE (defs₀ (F := F)) Variants.none c none) Set.univ (rowsOf f 256) Q) := by
  unfold Rest Fly
  iintro ⟨Ht, ⟨%fd, Hd⟩, Ho, Hq, Hq', Hy⟩ HQ
  imod (batch_alloc' (Lvl := ℕ) EC (c : Thread nD τ) () units (deliv c s P fs) (sm := SemLoc.dma (cell s)) (E := Set.univ)) $$ Hq with HB
  ihave Hy' := (pointsTo_toks_split (ℓ := ysL c) (S := Finset.univ) (f := fs) fullShare 256) $$ Hy
  icases Hy' with ⟨Hr, Htk⟩
  have hslot : (ybL c ↦[slotSet s.val]{fullShare} fd : sProp 𝕄) = bigSep Finset.univ fun r : Fin 256 => ybL c ↦[rowSet s.val r.val]{fullShare} fd := by
    rw [slotSet_eq, pointsTo_biUnion _ _ (fun a _ b _ hab => rows_disjoint s.val (Finset.mem_coe.2 (Finset.mem_univ a)) (Finset.mem_coe.2 (Finset.mem_univ b)) hab)]
  ihave Hd := (Entails.of_eq hslot) $$ Hd
  iapply (rowsOf_spec c P fs tab qt s fd f (hf fd) 256 le_rfl Q) $$ [Ht Hd Htk HB]
  · isplitl [Ht]; · iexact Ht
    isplitl [Hd Htk]
    · rw [show (pending (256 - 256) : Finset (Fin 256)) = Finset.univ from pending_zero]
      unfold fresh
      rw [bigSep_sep']
      isplitl [Hd]; · iexact Hd
      iexact Htk
    iexact HB
  iintro ⟨Ht, Hl, HB⟩
  iapply HQ
  isplitl [Ht]; · iexact Ht
  isplitl [HB]; · iexact HB
  isplitl [Hl]
  · rw [show (pending (256 - 256) : Finset (Fin 256)) = Finset.univ from pending_zero]
    iexact Hl
  isplitl [Hr]; · iexact Hr
  isplitl [Ho]; · iexact Ho
  iexact Hq'

/-- What the deliveries and what was left amount to: the slot at the gathered rows, the array whole again. -/
theorem landed_all :
    iprop(bigSep Finset.univ (deliv c s P fs) ∗ bigSep Finset.univ (left c P fs) ∗ (ysL c ↦[Finset.univ]{shareDrop fullShare 256} fs))
      ⊢ (iprop((ybL c ↦[slotSet s.val]{fullShare} gath P fs) ∗ (ysL c ↦[Finset.univ]{fullShare} fs)) : sProp 𝕄) := by
  have hslot : (bigSep Finset.univ fun r : Fin 256 => ybL c ↦[rowSet s.val r.val]{fullShare} gath P fs) = (ybL c ↦[slotSet s.val]{fullShare} gath P fs : sProp 𝕄) := by
    rw [slotSet_eq, pointsTo_biUnion _ _ (fun a _ b _ hab => rows_disjoint s.val (Finset.mem_coe.2 (Finset.mem_univ a)) (Finset.mem_coe.2 (Finset.mem_univ b)) hab)]
  have htok : iprop(bigSep Finset.univ (fun r : Fin 256 => (ysL c ↦[srcSet (P r).val]{shareTok fullShare 256 r} fs)) ∗ bigSep Finset.univ (left c P fs))
      ⊢ (bigSep Finset.univ (fun r : Fin 256 => (ysL c ↦[Finset.univ]{shareTok fullShare 256 r} fs)) : sProp 𝕄) := by
    rw [← bigSep_sep']
    exact bigSep_mono fun r _ => (pointsTo_split_subset (Finset.subset_univ _)).2
  unfold deliv
  rw [bigSep_sep', hslot]
  iintro ⟨⟨Hd, Hs⟩, Hl, Hr⟩
  isplitl [Hd]; · iexact Hd
  iapply (pointsTo_toks_join (ℓ := ysL c) (S := Finset.univ) (f := fs) fullShare 256)
  isplitl [Hr]; · iexact Hr
  iapply htok
  isplitl [Hs]; · iexact Hs
  iexact Hl

/-- The window of the row buffer a wait names. -/
abbrev slotM (od : Fin 3 → Nat) (hod : ∀ a, od a + S1x256x1024.size a ≤ S2x256x1024.size a) : Memref sig .tc .vmem S256x1024 .i32 :=
  ((Memref.whole cc0_scratch0 : Memref sig .tc .vmem S2x256x1024 .i32).slice (Rect.unit (s := S2x256x1024) od S1x256x1024.size hod) (fun _ => rfl)).squeeze
    S256x1024 squeezes_S1x256x1024_S256x1024

/-- The wait for a tile at the head of a program. -/
theorem tile_wait (W : Waits sig Unit) (od) (hod) (sm : DmaSem sig) (hsm : sm = cell s) {srcw : Memref sig .tc .hbm S256x1024 .i32} {hsrc hdst}
    {α : Type} {k : PUnit → Body F α} {Q : α → sProp 𝕄} :
    iprop(Fly c P fs s ∗ owes (c : Thread nD τ) 0 W)
      ⊢ iprop(((ybL c ↦[slotSet s.val]{fullShare} gath P fs) ∗ (∃ f, ybL c ↦[slotSet (other s).val]{fullShare} f)
            ∗ semVal ((c : Thread nD τ), SemLoc.dma (cell s)) 0 ∗ semVal ((c : Thread nD τ), SemLoc.dma (cell (other s))) 0
            ∗ (ysL c ↦[Finset.univ]{fullShare} fs)
            ∗ (∃ W', owes (c : Thread nD τ) 0 W')
            -∗ wp frame (wpE (defs₀ (F := F)) Variants.none c none) Set.univ (k ⟨⟩) Q)
        -∗ wp frame (wpE (defs₀ (F := F)) Variants.none c none) Set.univ
            (.op (.waitDma2 sm srcw (slotM od hod) hsrc hdst) k) Q) := by
  subst hsm
  unfold Fly
  iintro ⟨⟨HB, Hl, Hr, Ho, Hq'⟩, HW⟩ Hk
  have hJ : (slotM od hod).view.dmaCredit = 32768 := View.dmaCredit_closed _ S256x1024 rfl 8 rfl 32768 (by decide)
  iapply (wp_waitBatchAll (Val := Elt F) (Λ := Λ₀) (defs := defs₀) (Q := Q) EC Variants.none (c : Thread nD τ) none (sem := cell s) (srcw := srcw)
    (dstw := slotM od hod) (hsrc := hsrc) (hdst := hdst) (k := k) () (N := units) (J := 32768) hJ (by decide) (n := 256) (D := deliv c s P fs) (u := 0) (by decide) (W := W)) $$ [HB HW]
  · isplitl [HB]; · iexact HB
    iexact HW
  iintro ⟨HD, Hq, HW⟩
  ihave H := (landed_all c P fs s) $$ [HD Hl Hr]
  · isplitl [HD]; · iexact HD
    isplitl [Hl]; · iexact Hl
    iexact Hr
  icases H with ⟨Hd, Hy⟩
  iapply Hk
  isplitl [Hd]; · iexact Hd
  isplitl [Ho]; · iexact Ho
  isplitl [Hq]; · iexact Hq
  isplitl [Hq']; · iexact Hq'
  isplitl [Hy]; · iexact Hy
  iexists _; iexact HW

/-- A tile's rows, as the body reads them. -/
def tileRows : Vec F S1x256x1024 .i32 := fun x => fs (ix2 (P (x 1)) (x 2))

theorem slot_read (od) (eod : od = ![s.val, 0, 0]) (hod : ∀ a, od a + S1x256x1024.size a ≤ S2x256x1024.size a) :
    ybM.view.readAt (Elt F) (Rect.unit (s := S2x256x1024) od S1x256x1024.size hod).toLoadRect (gath P fs) = tileRows P fs := by
  subst eod
  funext x
  show fs _ = fs _
  congr 1
  funext a
  match a with
  | ⟨0, _⟩ =>
    show P _ = P _
    congr 1
    refine Fin.ext ?_
    show 0 + 1 * (x 1).val = (x 1).val
    omega
  | ⟨1, _⟩ =>
    refine Fin.ext ?_
    show 0 + 1 * (x 2).val = (x 2).val
    omega

theorem slot_sub (od) (eod : od = ![s.val, 0, 0]) (hod : ∀ a, od a + S1x256x1024.size a ≤ S2x256x1024.size a) :
    ybM.view.setOn (Rect.unit (s := S2x256x1024) od S1x256x1024.size hod).toLoadRect.set ⊆ slotSet s.val := by
  subst eod
  intro i hi
  rw [mem_slotSet]
  obtain ⟨j, hj, rfl⟩ := Finset.mem_map.mp hi
  have h : s.val ≤ (j 0).val ∧ (j 0).val < s.val + 1 := Rect.mem_set_unit.mp hj 0
  show (j 0).val = s.val
  omega

end

end Cert.Kernel.Combine
-- ==== Proof.Body.lean ====
/- The body at one grid point: what it holds before and after, phase by phase. -/
module

public import proofs.«01_k».proof.Proof.Tile
public import Idealize.ShloMosaic.Lib.VecWindow

@[expose] public section

noncomputable section

namespace Cert.Kernel.Combine

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- Every position names a row of the gathered array. -/
def InRange (tab : S65536.Idx → Elt F .i32) : Prop := ∀ k : Fin 65536, (tab (ix1 k)).toNat < 79872

/-- The token row `r` of tile `T`; past the last tile, the last tile again. -/
def tok (T : Nat) (r : Fin 256) : Fin 65536 := ⟨256 * min T 255 + r.val, by have := r.2; omega⟩

/-- The rows tile `T` gathers. -/
def posOf (tab : S65536.Idx → Elt F .i32) (h : InRange tab) (T : Nat) (r : Fin 256) : Fin 79872 :=
  ⟨(tab (ix1 (tok T r))).toNat, h _⟩

/-- The slot of tile `T`. -/
def slotOf (T : Nat) : Fin 2 := ⟨T % 2, Nat.mod_lt _ (by decide)⟩

section
variable (c : Dev nD) (fs : S79872x1024.Idx → Elt F .i32) (tab : S65536.Idx → Elt F .i32) (h : InRange tab)
  (qt : PosShare TreeShare)

theorem row_ok (v : BitVec 32) (hv : v.toNat < 79872) : ∀ a, (![v.toNat, 0] : Fin 2 → Nat) a + S1x1024.size a ≤ S79872x1024.size a := by
  intro a
  match a with
  | ⟨0, _⟩ => show v.toNat + 1 ≤ 79872; omega
  | ⟨1, _⟩ => show 0 + 1024 ≤ 1024; omega

theorem row0 (i : grid0.Coords) (h1 : k0_cond1 i = 1#1) (fd : S2x256x1024.Idx → Elt F .i32) :
    RowSpec c (posOf tab h 0) fs tab qt (slotOf 0) fd (issue0 i h1 tabM ysM ybM cc0_scratch1) := by
  intro r Q
  exact issueAt_spec c (slotOf 0) (posOf tab h 0) fs fd tab qt r (tok 0 r) rfl _ _ _ _ _ _ _ _ _
    (by show (![r.val] : Fin 1 → Nat) = ![256 * min 0 255 + r.val]; rw [show 256 * min 0 255 + r.val = r.val by omega])
    rfl rfl (fun _ => row_ok _ (h _)) Q

theorem row1 (i : grid0.Coords) (fd : S2x256x1024.Idx → Elt F .i32) :
    RowSpec c (posOf tab h ((i 0).val + 1)) fs tab qt (slotOf ((i 0).val + 1)) fd (issue1 i tabM ysM ybM cc0_scratch1) := by
  intro r Q
  exact issueAt_spec c (slotOf ((i 0).val + 1)) (posOf tab h ((i 0).val + 1)) fs fd tab qt r (tok ((i 0).val + 1) r) rfl _ _ _ _ _ _ _ _ _
    (offT_eq i r) (off261_eq i)
    (by rw [slot_eq]; rfl) (row_ok _ (h _)) Q

/-- What is held of the buffers between the points, before point `n`: nothing in flight at the two ends, the tile of the
    point in flight otherwise. -/
def State (n : Nat) : sProp 𝕄 :=
  if n = 0 ∨ n = 256 then Rest c fs 0 else Fly c (posOf tab h n) fs (slotOf n)

/-- Tile `n`'s rows as the body reads them. -/
abbrev rowsAt (n : Nat) : Vec F S1x256x1024 .i32 := tileRows (posOf tab h n) fs

/-- The wait for tile `T` and the read of its slot. -/
theorem await_spec (i : grid0.Coords) (W : Waits sig Unit) (Q : Read F → sProp 𝕄) :
    iprop(Fly c (posOf tab h (i 0).val) fs (slotOf (i 0).val) ∗ owes (c : Thread nD τ) 0 W)
      ⊢ iprop((Rest c fs (slotOf (i 0).val) ∗ (∃ W', owes (c : Thread nD τ) 0 W')
            -∗ Q ⟨BitVec.ofNat 32 (i 0).val, k0_pay1 (rowsAt fs tab h (i 0).val), k0_pay2 (rowsAt fs tab h (i 0).val), k0_pay3⟩)
        -∗ wp frame (wpE (defs₀ (F := F)) Variants.none c none) Set.univ (await i ysM ybM cc0_scratch1) Q) := by
  iintro HF HQ
  have hsm : ((cc0_scratch1.slice (Rect.unit (s := S2) (k0_off257 i) S1.size (k0_off257_inb i))).squeeze S_ squeezes_S1_S_).sem
      = cell (slotOf (i 0).val) :=
    (congrArg (fun a : SemArray (DmaSem sig) S1 => (a.squeeze S_ squeezes_S1_S_).sem)
      (SemArray.slice_unit_congr cc0_scratch1 (off257_eq i) (size := S1.size) _ _)).trans
      (cell_eq (slotOf (i 0).val) (by rw [← show k0_off257 i = ![(slotOf (i 0).val).val] from off257_eq i]; exact k0_off257_inb i))
  unfold await
  iapply (tile_wait c (posOf tab h (i 0).val) fs (slotOf (i 0).val) W (k0_off258 i) (k0_off258_inb i) _ hsm) $$ HF
  iintro ⟨Hd, Ho, Hq, Hq', Hy, HW⟩
  iapply (wp_load (Val := Elt F) Variants.none (c : Thread nD τ) none Set.univ (m := ybM) (slot_sub (slotOf (i 0).val) _ (off259_eq i) _)) $$ Hd
  iintro Hd
  rw [slot_read (posOf tab h (i 0).val) fs (slotOf (i 0).val) _ (off259_eq i)]
  dsimp only [Prog.bind]
  rw [wp_pure]
  imodintro
  iapply HQ
  isplitr [HW]
  · unfold Rest
    isplitl [Hd]; · iexists _; iexact Hd
    isplitl [Ho]; · iexact Ho
    isplitl [Hq]; · iexact Hq
    isplitl [Hq']; · iexact Hq'
    iexact Hy
  iexact HW

/-- The first part of the body: the tile of the point arrives and is read. -/
theorem part61_spec (i : grid0.Coords) (W : Waits sig Unit) (a2 : Memref sig .tc .vmem S256x1024 .f32) (h2 : a2.IsWhole)
    (a3 : Memref sig .tc .vmem S8x256 .f32) (h3 : a3.IsWhole) (a4 : Memref sig .tc .vmem S1x1x1024 .f32) (h4 : a4.IsWhole)
    (a6 : Memref sig .tc .vmem S256x1024 .f32) (h6 : a6.IsWhole) (Q : Read F → sProp 𝕄) :
    iprop((tabL c ↦[Finset.univ]{qt} tab) ∗ State c fs tab h (i 0).val ∗ owes (c : Thread nD τ) 0 W)
      ⊢ iprop(((tabL c ↦[Finset.univ]{qt} tab) ∗ Rest c fs (slotOf (i 0).val) ∗ (∃ W', owes (c : Thread nD τ) 0 W')
            -∗ Q ⟨BitVec.ofNat 32 (i 0).val, k0_pay1 (rowsAt fs tab h (i 0).val), k0_pay2 (rowsAt fs tab h (i 0).val), k0_pay3⟩)
        -∗ wp frame (wpE (defs₀ (F := F)) Variants.none c none) Set.univ
            (k0_part61 i tabM (Memref.isWhole_whole _) a2 h2 a3 h3 a4 h4 ysM (Memref.isWhole_whole _) a6 h6 ybM (Memref.isWhole_whole _) cc0_scratch1) Q) := by
  have hlt : (i 0).val < 256 := (i 0).isLt
  by_cases h1 : k0_cond1 i = 1#1
  · have h0 : (i 0).val = 0 := (cond1_iff i).mp h1
    rw [part61_pos i _ _ _ _ _ _ _ _ _ _ _ _ _ _ _ h1, wp_bind]
    have ha := await_spec c fs tab h i W Q
    rw [h0] at ha ⊢
    unfold State
    rw [if_pos (Or.inl rfl)]
    iintro ⟨Ht, HS, HW⟩ HQ
    iapply (tile_issue c (posOf tab h 0) fs tab qt (slotOf 0) _ (fun fd => row0 c fs tab h qt i h1 fd)) $$ [Ht HS]
    · isplitl [Ht]; · iexact Ht
      iexact HS
    iintro ⟨Ht, HF⟩
    iapply ha $$ [HF HW]
    · isplitl [HF]; · iexact HF
      iexact HW
    iintro ⟨HR, HW⟩
    iapply HQ
    isplitl [Ht]; · iexact Ht
    isplitl [HR]; · iexact HR
    iexact HW
  · have h0 : ¬ ((i 0).val = 0 ∨ (i 0).val = 256) := by
      rintro (h | h)
      · exact h1 ((cond1_iff i).mpr h)
      · omega
    rw [part61_neg i _ _ _ _ _ _ _ _ _ _ _ _ _ _ _ h1]
    unfold State
    rw [if_neg h0]
    iintro ⟨Ht, HF, HW⟩ HQ
    iapply (await_spec c fs tab h i W Q) $$ [HF HW]
    · isplitl [HF]; · iexact HF
      iexact HW
    iintro ⟨HR, HW⟩
    iapply HQ
    isplitl [Ht]; · iexact Ht
    isplitl [HR]; · iexact HR
    iexact HW

end

section
variable {c : Dev nD} {α : Type} {S : Shape} {e : EltTy}

/-- A load of a whole block, -/
theorem load_full {m : Memref sig .tc .vmem S e} {off : Fin S.rank → Nat} {inb} {hl} {X : S.Idx → Elt F e} {q : PosShare TreeShare}
    {k : (S.Idx → Elt F e) → Body F α} {Q : α → sProp 𝕄} :
    (owns (c : Thread nD τ) m q X)
      ⊢ iprop((owns (c : Thread nD τ) m q X -∗ wp frame (wpE (defs₀ (F := F)) Variants.none c none) Set.univ (k X) Q)
        -∗ wp frame (wpE (defs₀ (F := F)) Variants.none c none) Set.univ (.op (.load m (Rect.unit (s := S) off S.size inb).toLoadRect hl) k) Q) := by
  unfold owns
  iintro ⟨%f, %hf, H⟩ Hk
  iapply (wp_load (Val := Elt F) Variants.none (c : Thread nD τ) none Set.univ (m := m) (View.setOn_subset_set _ _)) $$ H
  iintro H
  rw [View.readAt_full, hf]
  iapply Hk
  iexists f
  isplitr
  · ipureintro; exact hf
  iexact H

/-- and a store of one. -/
theorem store_full {m : Memref sig .tc .vmem S e} {off : Fin S.rank → Nat} {inb} {hx} {hm} {X w : S.Idx → Elt F e}
    {k : PUnit → Body F α} {Q : α → sProp 𝕄} :
    (owns (c : Thread nD τ) m fullShare X)
      ⊢ iprop((owns (c : Thread nD τ) m fullShare w -∗ wp frame (wpE (defs₀ (F := F)) Variants.none c none) Set.univ (k ⟨⟩) Q)
        -∗ wp frame (wpE (defs₀ (F := F)) Variants.none c none) Set.univ (.op (.store m (Rect.unit (s := S) off S.size inb) w Finset.univ hx hm) k) Q) := by
  unfold owns
  iintro ⟨%f, %hf, H⟩ Hk
  iapply (wp_store (Val := Elt F) Variants.none (c : Thread nD τ) none Set.univ (m := m) (r := Rect.unit (s := S) off S.size inb) (Mk := Finset.univ) (S := m.view.set) ?hS) $$ H
  case hS => exact View.set_slice_subset m.view _
  iintro H
  iapply Hk
  iexists _
  isplitr
  swap; · iexact H
  ipureintro
  funext x
  have h := View.read_slice_write_emb (Val := Elt F) (v := m.view) (Rect.unit (s := S) off S.size inb) f w (Finset.mem_univ x)
  have ex : (Rect.unit (s := S) off S.size inb).emb x = x := funext fun a => Fin.ext (by
    show off a + 1 * (x a).val = (x a).val
    have := inb a; omega)
  rw [ex] at h
  exact h

end

section
variable (c : Dev nD) (fs : S79872x1024.Idx → Elt F .i32) (tab : S65536.Idx → Elt F .i32) (h : InRange tab)
  (qt : PosShare TreeShare)

/-- The block the body writes, of the rows read and the three other blocks. -/
def outBlk (v : Vec F S1x256x1024 .i32) (x2 : Vec F S256x1024 .f32) (x3 : Vec F S8x256 .f32) (x4 : Vec F S1x1x1024 .f32) : Vec F S256x1024 .f32 :=
  k0_pay4 (k0_pay1 v) (k0_pay2 v) k0_pay3 x3 x2 x4

/-- The copies of the next tile, and at the last point the wait for them. -/
def tail (i : grid0.Coords) : Body F PUnit :=
  rowsOf (issue1 i tabM ysM ybM cc0_scratch1) 256 >>= fun _ =>
  if h2 : k0_cond2 i = 1#1 then
    Prog.lift (.waitDma2 ((cc0_scratch1.slice (Rect.unit (s := S2) (k0_off1284 i) S1.size (k0_off1284_inb i h2))).squeeze S_ squeezes_S1_S_).sem
      (ysM.slice (Rect.unit (s := S79872x1024) ![0, 0] S256x1024.size inb_S79872x1024_S256x1024_0_0) (fun _ => rfl))
      (slotM (k0_off1285 i) (k0_off1285_inb i h2))
      (View.wordExact_bits rfl) ((View.wordExact_bits rfl).reshape _ _)) >>= fun _ => pure ⟨⟩
  else pure ⟨⟩

/-- The loads of the three blocks and the store of the output's. -/
def blk (a2 : Memref sig .tc .vmem S256x1024 .f32) (a3 : Memref sig .tc .vmem S8x256 .f32) (a4 : Memref sig .tc .vmem S1x1x1024 .f32)
    (a6 : Memref sig .tc .vmem S256x1024 .f32) (x : Read F) : Body F PUnit := do
  let v37 : Vec F S8x256 .f32 ← Prog.lift (.load a3 (Rect.unit (s := S8x256) ![0, 0] S8x256.size inb_S8x256_S8x256_0_0).toLoadRect (View.loadsAt_vmem h_S8x256))
  let v39 : Vec F S256x1024 .f32 ← Prog.lift (.load a2 (Rect.unit (s := S256x1024) ![0, 0] S256x1024.size inb_S256x1024_S256x1024_0_0).toLoadRect (View.loadsAt_vmem h_S256x1024))
  let v40 : Vec F S1x1x1024 .f32 ← Prog.lift (.load a4 (Rect.unit (s := S1x1x1024) ![0, 0, 0] S1x1x1024.size inb_S1x1x1024_S1x1x1024_0_0_0).toLoadRect (View.loadsAt_vmem h_S1x1x1024))
  let v52 : Vec F S256x1024 .f32 ← Prog.lift (.load a6 (Rect.unit (s := S256x1024) ![0, 0] S256x1024.size inb_S256x1024_S256x1024_0_0).toLoadRect (View.loadsAt_vmem h_S256x1024))
  Prog.lift (.store a6 (Rect.unit (s := S256x1024) ![0, 0] S256x1024.size inb_S256x1024_S256x1024_0_0) (k0_pay4 x.2.1 x.2.2.1 x.2.2.2 v37 v39 v40) Finset.univ (View.stores_vmem_bits_univ h_S256x1024 rfl) (.inl rfl))

theorem after_eq (i : grid0.Coords) (a2 : Memref sig .tc .vmem S256x1024 .f32) (a3 : Memref sig .tc .vmem S8x256 .f32) (a4 : Memref sig .tc .vmem S1x1x1024 .f32)
    (a6 : Memref sig .tc .vmem S256x1024 .f32) (x : Read F) :
    after i tabM a2 a3 a4 ysM a6 ybM cc0_scratch1 x = blk a2 a3 a4 a6 x >>= fun _ => tail i := by
  unfold after blk tail; chain_rfl

theorem Rest_slot (s t : Fin 2) : Rest c fs s ⊢ (Rest c fs t : sProp 𝕄) := by
  by_cases e : s = t
  · subst e; exact .rfl
  · have : other s = t := Fin.ext (by show 1 - s.val = t.val; have := s.2; have := t.2; have : s.val ≠ t.val := fun h => e (Fin.ext h); omega)
    rw [← this]; exact Rest_other c fs s

theorem tail_spec (i : grid0.Coords) (W : Waits sig Unit) (Q : PUnit → sProp 𝕄) :
    iprop((tabL c ↦[Finset.univ]{qt} tab) ∗ Rest c fs (slotOf (i 0).val) ∗ owes (c : Thread nD τ) 0 W)
      ⊢ iprop(((tabL c ↦[Finset.univ]{qt} tab) ∗ State c fs tab h ((i 0).val + 1) ∗ (∃ W', owes (c : Thread nD τ) 0 W') -∗ Q ⟨⟩)
        -∗ wp frame (wpE (defs₀ (F := F)) Variants.none c none) Set.univ (tail i) Q) := by
  have hlt : (i 0).val < 256 := (i 0).isLt
  unfold tail
  rw [wp_bind]
  iintro ⟨Ht, HR, HW⟩ HQ
  ihave HR := (Rest_slot c fs (slotOf (i 0).val) (slotOf ((i 0).val + 1))) $$ HR
  iapply (tile_issue c (posOf tab h ((i 0).val + 1)) fs tab qt (slotOf ((i 0).val + 1)) _ (fun fd => row1 c fs tab h qt i fd)) $$ [Ht HR]
  · isplitl [Ht]; · iexact Ht
    iexact HR
  iintro ⟨Ht, HF⟩
  by_cases h2 : k0_cond2 i = 1#1
  · have h0 : (i 0).val = 255 := (cond2_iff i).mp h2
    have hsm : ((cc0_scratch1.slice (Rect.unit (s := S2) (k0_off1284 i) S1.size (k0_off1284_inb i h2))).squeeze S_ squeezes_S1_S_).sem
        = cell (slotOf ((i 0).val + 1)) :=
      (congrArg (fun a : SemArray (DmaSem sig) S1 => (a.squeeze S_ squeezes_S1_S_).sem)
        (SemArray.slice_unit_congr cc0_scratch1 (off1284_eq i) (size := S1.size) _ _)).trans
        (cell_eq (slotOf ((i 0).val + 1)) (by rw [← show k0_off1284 i = ![(slotOf ((i 0).val + 1)).val] from off1284_eq i]; exact k0_off1284_inb i h2))
    rw [dif_pos h2]
    iapply (tile_wait c (posOf tab h ((i 0).val + 1)) fs (slotOf ((i 0).val + 1)) W (k0_off1285 i) (k0_off1285_inb i h2) _ hsm) $$ [HF HW]
    · isplitl [HF]; · iexact HF
      iexact HW
    iintro ⟨Hd, Ho, Hq, Hq', Hy, HW⟩
    dsimp only [Prog.bind]
    rw [wp_pure]
    imodintro
    iapply HQ
    isplitl [Ht]; · iexact Ht
    isplitr [HW]
    · unfold State
      rw [if_pos (Or.inr (by omega))]
      iapply (Rest_slot c fs (slotOf ((i 0).val + 1)) 0)
      unfold Rest
      isplitl [Hd]; · iexists _; iexact Hd
      isplitl [Ho]; · iexact Ho
      isplitl [Hq]; · iexact Hq
      isplitl [Hq']; · iexact Hq'
      iexact Hy
    iexact HW
  · have h0 : ¬ ((i 0).val + 1 = 0 ∨ (i 0).val + 1 = 256) := by
      rintro (h | h)
      · omega
      · exact h2 ((cond2_iff i).mpr (by omega))
    rw [dif_neg h2, wp_pure]
    imodintro
    iapply HQ
    isplitl [Ht]; · iexact Ht
    isplitl [HF]
    · unfold State
      rw [if_neg h0]
      iexact HF
    iexists _; iexact HW

/-- The body at a point: the output's block is written from the tile's rows and the other blocks. -/
theorem body_spec (i : grid0.Coords) (W : Waits sig Unit) (a2 : Memref sig .tc .vmem S256x1024 .f32) (h2 : a2.IsWhole)
    (a3 : Memref sig .tc .vmem S8x256 .f32) (h3 : a3.IsWhole) (a4 : Memref sig .tc .vmem S1x1x1024 .f32) (h4 : a4.IsWhole)
    (a6 : Memref sig .tc .vmem S256x1024 .f32) (h6 : a6.IsWhole) (x2 : Vec F S256x1024 .f32) (x3 : Vec F S8x256 .f32)
    (x4 : Vec F S1x1x1024 .f32) (x6 : Vec F S256x1024 .f32) (Q : PUnit → sProp 𝕄) :
    iprop((tabL c ↦[Finset.univ]{qt} tab) ∗ State c fs tab h (i 0).val ∗ owes (c : Thread nD τ) 0 W
        ∗ owns (c : Thread nD τ) a2 fullShare x2 ∗ owns (c : Thread nD τ) a3 fullShare x3 ∗ owns (c : Thread nD τ) a4 fullShare x4
        ∗ owns (c : Thread nD τ) a6 fullShare x6)
      ⊢ iprop(((tabL c ↦[Finset.univ]{qt} tab) ∗ State c fs tab h ((i 0).val + 1) ∗ (∃ W', owes (c : Thread nD τ) 0 W')
            ∗ owns (c : Thread nD τ) a2 fullShare x2 ∗ owns (c : Thread nD τ) a3 fullShare x3 ∗ owns (c : Thread nD τ) a4 fullShare x4
            ∗ owns (c : Thread nD τ) a6 fullShare (outBlk (rowsAt fs tab h (i 0).val) x2 x3 x4) -∗ Q ⟨⟩)
        -∗ wp frame (wpE (defs₀ (F := F)) Variants.none c none) Set.univ
            (cc0_combine i tabM (Memref.isWhole_whole _) a2 h2 a3 h3 a4 h4 ysM (Memref.isWhole_whole _) a6 h6 ybM (Memref.isWhole_whole _) cc0_scratch1) Q) := by
  rw [body_eq i tabM (Memref.isWhole_whole _) a2 h2 a3 h3 a4 h4 ysM (Memref.isWhole_whole _) a6 h6 ybM (Memref.isWhole_whole _) cc0_scratch1, wp_bind]
  iintro ⟨Ht, HS, HW, H2, H3, H4, H6⟩ HQ
  iapply (part61_spec c fs tab h qt i W a2 h2 a3 h3 a4 h4 a6 h6) $$ [Ht HS HW]
  · isplitl [Ht]; · iexact Ht
    isplitl [HS]; · iexact HS
    iexact HW
  iintro ⟨Ht, HR, ⟨%W', HW⟩⟩
  rw [after_eq, wp_bind]
  unfold blk
  iapply (load_full (m := a3)) $$ H3
  iintro H3
  iapply (load_full (m := a2)) $$ H2
  iintro H2
  iapply (load_full (m := a4)) $$ H4
  iintro H4
  iapply (load_full (m := a6)) $$ H6
  iintro H6
  iapply (store_full (m := a6)) $$ H6
  iintro H6
  rw [wp_ret]
  imodintro
  iapply (tail_spec c fs tab h qt i W' Q) $$ [Ht HR HW]
  · isplitl [Ht]; · iexact Ht
    isplitl [HR]; · iexact HR
    iexact HW
  iintro ⟨Ht, HS, HW⟩
  iapply HQ
  isplitl [Ht]; · iexact Ht
  isplitl [HS]; · iexact HS
  isplitl [HW]; · iexact HW
  isplitl [H2]; · iexact H2
  isplitl [H3]; · iexact H3
  isplitl [H4]; · iexact H4
  iexact H6

end

end Cert.Kernel.Combine
-- ==== Proof.Launch.lean ====
/- The launch: the whole run from the body at a point. -/
module

public import proofs.«01_k».proof.Proof.Body
public import proofs.«01_k».proof.Proof.Gen.Kernel.Launch
public import Idealize.ShloMosaic.Lib.Pipeline.Frame

@[expose] public section

noncomputable section

namespace Cert.Kernel.Combine

open Cert.Kernel Cert.Kernel.Gen
open Idealize.ShloMosaic Idealize.ShloMosaic.TcCoe Idealize.ShloMosaic.Tactic Idealize.ShloMosaic.ValueIdx
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- The contents a core's buffers start from. -/
def V (c : Dev nD) (b : Ref sig .tc) : Buf (Elt F) ((c : Thread nD τ).loc b) := m ((c : Thread nD τ).loc b)

/-- The positions. -/
def tab (c : Dev nD) : S65536.Idx → Elt F .i32 := V m c main_arg0

/-- The gathered array. -/
def fs (c : Dev nD) : S79872x1024.Idx → Elt F .i32 := V m c main_arg4

/-- The prefetched table is the one device's positions. -/
def adm : (p : Fin 1) → (pcfgs (F := F) p).Adm := fun _ => ⟨fun k => V m 0 (pre0.ref k), trivial⟩

/-- The block of window `w` at point `t`. -/
def iblk (c : Dev nD) (w : Fin 4) (t : Fin grid0.N) : ((win0 (adm m 0) w).xblock (grid0.coords t)).Idx → Elt F (win0 (adm m 0) w).elt :=
  ((win0 (adm m 0) w).blk t).view.read (Elt F) (V m c (Pipeline.arrRef spec0 w))

variable (h : ∀ c, InRange (tab m c))

/-- The output's block at point `t`. -/
def outAt (c : Dev nD) (t : Fin grid0.N) : Vec F S256x1024 .f32 :=
  outBlk (rowsAt (fs m c) (tab m c) (h c) (grid0.coords t 0).val) (iblk m c 0 t) (iblk m c 1 t) (iblk m c 2 t)

/-- The run's proof data. -/
def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | 0 => iblk m c 0 t
    | 1 => iblk m c 1 t
    | 2 => iblk m c 2 t
    | 3 => outAt m h c t
    | ⟨_ + 4, hw⟩ => absurd hw (Nat.not_lt.2 (Nat.le_add_left _ _))
  Φ t := iprop((tabL c ↦[Finset.univ]{fullShare.right} tab m c) ∗ State c (fs m c) (tab m c) (h c) t.val ∗ (∃ r, prngReg c r))
  q _ := fullShare
  owed _ := 0

theorem A_eq (c : Dev nD) (w : Fin 4) : (dats m h 0 c).A w = V m c (Pipeline.arrRef spec0 w) := rfl

theorem Φ_eq (c : Dev nD) (t : Fin (grid0.N + 1)) : (dats m h 0 c).Φ t
    = iprop((tabL c ↦[Finset.univ]{fullShare.right} tab m c) ∗ State c (fs m c) (tab m c) (h c) t.val ∗ (∃ r, prngReg c r)) := rfl

theorem before0 (c : Dev nD) (t : Fin grid0.N) (d) : (dats m h 0 c).before 0 t d = iblk m c 0 t :=
  ((dats m h 0 c).before_in_eq_fetched 0 rfl (fun _ => rfl) (fun _ _ _ => rfl) (fun _ => rfl) t d).trans rfl
theorem before1 (c : Dev nD) (t : Fin grid0.N) (d) : (dats m h 0 c).before 1 t d = iblk m c 1 t :=
  ((dats m h 0 c).before_in_eq_fetched 1 rfl (fun _ => rfl) (fun _ _ _ => rfl) (fun _ => rfl) t d).trans rfl
theorem before2 (c : Dev nD) (t : Fin grid0.N) (d) : (dats m h 0 c).before 2 t d = iblk m c 2 t :=
  ((dats m h 0 c).before_in_eq_fetched 2 rfl (fun _ => rfl) (fun _ _ _ => rfl) (fun _ => rfl) t d).trans rfl

theorem coords_eq (t : Fin grid0.N) : (grid0.coords t 0).val = t.val := by
  have ht : t.val < 256 := t.isLt
  rw [Pipeline.Grid.coords_val t 0 (S := 1) (B := 256) (by decide) (by decide)]
  omega

/-- The body's buffers at a point. -/
abbrev ms (w : Fin 4) (t : Fin grid0.N) := ((cfg0 (F := F) (adm m 0)).win w).stage ((cfg0 (F := F) (adm m 0)).slots t w)

theorem body_obligation (c : Dev nD) : BodyObligation (dats m h 0 c) (defs₀ (F := F)) Variants.none () Set.univ := fun t => by
  rw [bigSep_W0, bigSep_W0, Φ_eq m h c t.castSucc, Φ_eq m h c t.succ]
  unfold Dat.owesAt Pipeline.owesWithin
  unfold defs₀
  rw [Defs.onTc_tc]
  have ht := coords_eq t
  rw [show t.castSucc.val = t.val from rfl, show t.succ.val = t.val + 1 from rfl]
  iintro ⟨⟨Ht, HS, Hg⟩, ⟨%W, -, HW⟩, ⟨%d0, H0⟩, ⟨%d1, H1⟩, ⟨%d2, H2⟩, ⟨%d3, H3⟩⟩
  ihave H0 := (Entails.of_eq (congrArg (fun X => (owns (c : Thread nD τ) (ms m 0 t) fullShare X : sProp 𝕄)) (before0 m h c t d0))) $$ H0
  ihave H1 := (Entails.of_eq (congrArg (fun X => (owns (c : Thread nD τ) (ms m 1 t) fullShare X : sProp 𝕄)) (before1 m h c t d1))) $$ H1
  ihave H2 := (Entails.of_eq (congrArg (fun X => (owns (c : Thread nD τ) (ms m 2 t) fullShare X : sProp 𝕄)) (before2 m h c t d2))) $$ H2
  ihave HS := (Entails.of_eq (congrArg (State c (fs m c) (tab m c) (h c)) ht.symm)) $$ HS
  iapply (body_spec c (fs m c) (tab m c) (h c) fullShare.right (grid0.coords t) W _ _ _ _ _ _ _ _ _ _ _ _ _) $$ [Ht HS HW H0 H1 H2 H3]
  · isplitl [Ht]; · iexact Ht
    isplitl [HS]; · iexact HS
    isplitl [HW]; · iexact HW
    isplitl [H0]; · iexact H0
    isplitl [H1]; · iexact H1
    isplitl [H2]; · iexact H2
    iexact H3
  iintro ⟨Ht, HS, ⟨%W', HW⟩, H0, H1, H2, H3⟩
  ihave HS := (Entails.of_eq (congrArg (fun n => State c (fs m c) (tab m c) (h c) (n + 1)) ht)) $$ HS
  isplitl [Ht HS Hg]
  · isplitl [Ht]; · iexact Ht
    isplitl [HS]; · iexact HS
    iexact Hg
  isplitl [HW]
  · iexists W'; isplitr; · ipureintro; exact fun _ _ => Or.inl trivial
    iexact HW
  isplitl [H0]; · iexact H0
  isplitl [H1]; · iexact H1
  isplitl [H2]; · iexact H2
  iexact H3

/-- The semaphores the body keeps for itself. -/
abbrev osem0 : Fin 2 → SemLoc sig := fun j => (![SemLoc.dma 8, SemLoc.dma 9]) j

theorem ownSemFacts0 : Pipeline.OwnSemFacts spec0 osem0 := by decide

/-- The array the body addresses itself. -/
abbrev H0 : Finset (Ref sig .tc) := {main_arg4}

theorem H0_sub : H0 ⊆ Pipeline.restRefsP sig pre0 spec0 := by decide

theorem hmain (𝒱₀ : Variants) : Pipeline.HMainP (Ix := Unit) (Name := ℕ) (U := Pipeline.UD sig nD τ) (Lvl := ℕ) (pcfgs (F := F)) 0 defs₀ 𝒱₀ m main (V m) :=
  by
  refine Pipeline.hmainP_region (pcs := pcfgs (F := F)) (p := (0 : Fin 1)) (defs₀ := defs₀) (𝒱₀ := 𝒱₀) m main fun _ => rfl

theorem ownSems_eq (c : Dev nD) : Pipeline.ownSems0 (Ix := Unit) (Name := ℕ) (U := Pipeline.UD sig nD τ) (Lvl := ℕ) (Val := Elt F) (τ := τ) osem0 c
    = (iprop(semVal ((c : Thread nD τ), SemLoc.dma (cell 0)) 0 ∗ semVal ((c : Thread nD τ), SemLoc.dma (cell 1)) 0) : sProp 𝕄) :=
  Pipeline.ownSems0_eq_of_list c osem0 [0, 1] (by decide) (by decide)

theorem held_eq (c : Dev nD) : bigSep H0 (fun b => ((c : Thread nD τ).loc b) ↦{fullShare} V m c b)
    = (iprop(ysL c ↦[Finset.univ]{fullShare} fs m c) : sProp 𝕄) :=
  BI.bigSep_eq_bigSepL_of_eq [main_arg4] (by decide) (by decide) _

theorem tables_eq (c : Dev nD) : (Pipeline.ΦT pre0 (adm (F := F) m 0).1 c : sProp 𝕄)
    = (iprop(tabL c ↦[Finset.univ]{fullShare.right} tab m c) : sProp 𝕄) := by
  rw [Subsingleton.elim c 0]
  exact bigSep_univ_eq_bigSepL (M := 𝕄) [(0 : Fin 1)] (by decide) (by decide) _

theorem slots_split (c : Dev nD) (f : Buf (Elt F) (ybL c)) : (ybL c ↦[Finset.univ]{fullShare} f)
    ⊢ (iprop((ybL c ↦[slotSet 0]{fullShare} f) ∗ (ybL c ↦[slotSet 1]{fullShare} f)) : sProp 𝕄) := by
  have e : Finset.univ \ slotSet 0 = slotSet 1 := slot_compl (by decide)
  rw [← e]
  exact (pointsTo_split_subset (Finset.subset_univ _)).1

theorem slots_join (c : Dev nD) (f g : Buf (Elt F) (ybL c)) : (iprop((ybL c ↦[slotSet 0]{fullShare} f) ∗ (ybL c ↦[slotSet 1]{fullShare} g)) : sProp 𝕄)
    ⊢ iprop(∃ f, ybL c ↦[Finset.univ]{fullShare} f) := by
  have e : Finset.univ \ slotSet 0 = slotSet 1 := slot_compl (by decide)
  have d : Disjoint (slotSet 0) (slotSet 1) := by rw [← e]; exact Finset.disjoint_sdiff
  have u : slotSet 0 ∪ slotSet 1 = Finset.univ := by rw [← e]; exact Finset.union_sdiff_of_subset (Finset.subset_univ _)
  refine (pointsTo_join d).trans ?_
  rw [u]
  iintro H
  iexists _
  iexact H

theorem hin (c : Dev nD) : iprop(Pipeline.ΦD osem0 spec0 H0 (V m) c ∗ Pipeline.ΦT pre0 (adm (F := F) m 0).1 c) ⊢ (dats m h 0 c).Φ 0 := by
  rw [Φ_eq, Pipeline.ΦD_eq, scopedRest0_eq, ownSems_eq, held_eq, tables_eq, show State c (fs m c) (tab m c) (h c) (0 : Fin (grid0.N + 1)).val
    = Rest c (fs m c) 0 from if_pos (Or.inl rfl)]
  unfold Rest
  iintro ⟨⟨⟨%f, Hb⟩, Hg, ⟨Hq, Hq'⟩, Hy⟩, Ht⟩
  ihave ⟨Hb, Hb'⟩ := (slots_split c f) $$ Hb
  isplitl [Ht]; · iexact Ht
  isplitr [Hg]
  · isplitl [Hb]; · iexists _; iexact Hb
    isplitl [Hb']; · iexists _; iexact Hb'
    isplitl [Hq]; · iexact Hq
    isplitl [Hq']; · iexact Hq'
    iexact Hy
  iexact Hg

theorem hout (c : Dev nD) : (dats m h 0 c).Φ (Fin.last grid0.N) ⊢ Pipeline.ΦD osem0 spec0 H0 (V m) c := by
  rw [Φ_eq, Pipeline.ΦD_eq, scopedRest0_eq, ownSems_eq, held_eq, show State c (fs m c) (tab m c) (h c) (Fin.last grid0.N).val
    = Rest c (fs m c) 0 from if_pos (Or.inr N_0)]
  unfold Rest
  iintro ⟨Ht, ⟨⟨%f, Hb⟩, ⟨%g, Hb'⟩, Hq, Hq', Hy⟩, Hg⟩
  isplitl [Hb Hb']
  · iapply (slots_join c f g)
    isplitl [Hb]; · iexact Hb
    iexact Hb'
  isplitl [Hg]; · iexact Hg
  isplitl [Hq Hq']
  · isplitl [Hq]; · iexact Hq
    iexact Hq'
  iexact Hy

set_option backward.isDefEq.respectTransparency.types false in
theorem run_main (ρ : Dev nD → PrngReg) : θ_run defs (onTc (τ := τ) (main (F := F))) ⟨m, fun _ => 0, ρ⟩
    (fun r => Pipeline.FramePost (Pipeline.pin (pcfgs (F := F)) (adm m)) (dats m h) 0 (V m) r ∧ r.2.sem = fun _ => 0) :=
  Pipeline.θ_run_frameP_dma (Q' := _) (pcfgs (F := F)) (adm m) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m) (hmain := hmain m Variants.none) (hA := A_eq m h)
    (hpf := fun c k => by rw [Subsingleton.elim c 0]; rfl)
    (hin := hin m h) (hout := hout m h)

end Cert.Kernel.Combine

end
-- ==== Proof.Value.lean ====
/- The value: what the run leaves in the result, element by element. -/
module

public import proofs.«01_k».proof.Proof.Launch
public import Idealize.ShloMosaic.Lib.Pipeline.Value
public import Idealize.ShloMosaic.Lib.Routing.Ops

@[expose] public section

noncomputable section

namespace Cert.Kernel.Combine

open Cert.Kernel Cert.Kernel.Gen
open Idealize.ShloMosaic Idealize.ShloMosaic.TcCoe Idealize.ShloMosaic.ValueIdx
open Idealize.ShloMosaic.Pipeline (Dat)
open Idealize.SL Idealize.SL.Sem

variable {F : FTy → Type} [FloatOps F]

/-- One element of the layer's result: the residual plus the gate times the two experts' rows, each half of the gathered
    word read as a number, weighted. -/
def elem (w : BitVec 32) (ra rb g x : F .f32) : F .f32 :=
  FloatOps.addf x (FloatOps.mulf g (FloatOps.addf (FloatOps.mulf ra (FloatOps.ofBits .f32 (w <<< 16#32)))
    (FloatOps.mulf rb (FloatOps.ofBits .f32 (w &&& 4294901760#32)))))

theorem half_shift (u : ArithUnit) (w : BitVec 32) : IntOp.shli u w 16#32 = w <<< 16#32 := if_pos (by decide)

theorem outBlk_apply (v : Vec F S1x256x1024 .i32) (x2 : Vec F S256x1024 .f32) (x3 : Vec F S8x256 .f32) (x4 : Vec F S1x1x1024 .f32)
    (a : Fin 256) (b : Fin 1024) : outBlk v x2 x3 x4 (ix2 a b)
      = elem (v (ix3 0 a b)) (x3 (ix2 2 a)) (x3 (ix2 3 a)) (x4 (ix3 0 0 b)) (x2 (ix2 a b)) := by
  have e1 : shapeCast S256x1024 v shapeCasts_S1x256x1024_S256x1024 (ix2 a b) = v (ix3 0 a b) :=
    shapeCast_apply _ _ _ _ (by rw [Shape.rowMajor_val_three, Shape.rowMajor_val_two]; show (0 * 256 + a.val) * 1024 + b.val = a.val * 1024 + b.val; omega)
  have e2 : broadcastTo S256x1024 (shapeCast S1x1024 x4 shapeCasts_S1x1x1024_S1x1024) broadcasts_S1x1024_S256x1024 (ix2 a b) = x4 (ix3 0 0 b) :=
    (broadcastTo_apply _ _ _ (ix2 0 b) fun k => match k with | ⟨0, _⟩ => rfl | ⟨1, _⟩ => rfl).trans
      (shapeCast_apply _ _ _ _ (by rw [Shape.rowMajor_val_three, Shape.rowMajor_val_two]; rfl))
  have ht (k : Fin 8) : transpose S256x8 [1, 0] x3 transposes_S8x256_p1_0_S256x8 (ix2 a k) = x3 (ix2 k a) :=
    transpose_apply _ _ _ _ _ fun k => match k with | ⟨0, _⟩ => rfl | ⟨1, _⟩ => rfl
  have e3 : broadcastTo S256x1024 (extractStridedSlice S256x1 ![0, 2] (transpose S256x8 [1, 0] x3 transposes_S8x256_p1_0_S256x8) slices_S256x8_o0_2_S256x1)
      broadcasts_S256x1_S256x1024 (ix2 a b) = x3 (ix2 2 a) :=
    (broadcastTo_apply _ _ _ (ix2 a 0) fun k => match k with | ⟨0, _⟩ => rfl | ⟨1, _⟩ => rfl).trans
      ((extractStridedSlice_apply _ _ _ _ (ix2 a 2) fun k => match k with | ⟨0, _⟩ => (Nat.zero_add _).symm | ⟨1, _⟩ => rfl).trans (ht 2))
  have e4 : broadcastTo S256x1024 (extractStridedSlice S256x1 ![0, 3] (transpose S256x8 [1, 0] x3 transposes_S8x256_p1_0_S256x8) slices_S256x8_o0_3_S256x1)
      broadcasts_S256x1_S256x1024 (ix2 a b) = x3 (ix2 3 a) :=
    (broadcastTo_apply _ _ _ (ix2 a 0) fun k => match k with | ⟨0, _⟩ => rfl | ⟨1, _⟩ => rfl).trans
      ((extractStridedSlice_apply _ _ _ _ (ix2 a 3) fun k => match k with | ⟨0, _⟩ => (Nat.zero_add _).symm | ⟨1, _⟩ => rfl).trans (ht 3))
  unfold outBlk k0_pay4 k0_pay2 k0_pay1 k0_pay3 elem
  rw [← e1, ← e2, ← e3, ← e4, ← half_shift .vector]
  rfl

/-- A point of the grid as a number. -/
theorem index0 (t : Fin grid0.N) : cc0_transform_0 (grid0.coords t) = ![t.val, 0] := by
  have h : ∀ t : Fin 256, cc0_transform_0 (grid0.coords t) 0 = t.val := by decide +kernel
  funext a; match a with | ⟨0, _⟩ => exact h t | ⟨1, _⟩ => rfl
theorem index1 (t : Fin grid0.N) : cc0_transform_1 (grid0.coords t) = ![0, t.val] := by
  have h : ∀ t : Fin 256, cc0_transform_1 (grid0.coords t) 1 = t.val := by decide +kernel
  funext a; match a with | ⟨0, _⟩ => rfl | ⟨1, _⟩ => exact h t
theorem index2 (t : Fin grid0.N) : cc0_transform_2 (grid0.coords t) = ![t.val / 32, 0, 0] := by
  have h : ∀ t : Fin 256, cc0_transform_2 (grid0.coords t) 0 = t.val / 32 := by decide +kernel
  funext a; match a with | ⟨0, _⟩ => exact h t | ⟨1, _⟩ => rfl | ⟨2, _⟩ => rfl
theorem index3 (t : Fin grid0.N) : cc0_transform_4 (grid0.coords t) = ![t.val, 0] := by
  have h : ∀ t : Fin 256, cc0_transform_4 (grid0.coords t) 0 = t.val := by decide +kernel
  funext a; match a with | ⟨0, _⟩ => exact h t | ⟨1, _⟩ => rfl

variable (m : (ℓ : Loc nD τ sig) → Buf (Elt F) ℓ)

theorem flush3 (t : Fin grid0.N) : (win0 (adm m 0) 3).flush t = true := by
  have h : ∀ t : Fin grid0.N, Pipeline.Window.flushOf grid0 true cc0_transform_4 t = true := by decide +kernel
  exact h t

/-- Row `a` of tile `t`. -/
def row (t : Fin grid0.N) (a : Fin 256) : Fin 65536 := ⟨256 * t.val + a.val, by have : t.val < 256 := t.isLt; have := a.2; omega⟩

theorem blk0 (c : Dev nD) (t : Fin grid0.N) (a : Fin 256) (b : Fin 1024) : iblk m c 0 t (ix2 a b) = V m c main_arg1 (ix2 (row t a) b) := by
  refine (congrArg (V m c main_arg1) (funext fun k => Fin.ext ?_) : V m c main_arg1 (((win0 (adm m 0) 0).rect t).emb (ix2 a b)) = _)
  refine (Pipeline.Window.rect_emb_val (win0 (adm m 0) 0) t (ix2 a b) k).trans ?_
  have e := index0 t
  match k with
  | ⟨0, _⟩ => show cc0_transform_0 (grid0.coords t) 0 * 256 + a.val = 256 * t.val + a.val; rw [e]; show t.val * 256 + _ = _; omega
  | ⟨1, _⟩ => show cc0_transform_0 (grid0.coords t) 1 * 1024 + b.val = b.val; rw [e]; show 0 * 1024 + _ = _; omega

theorem blk1 (c : Dev nD) (t : Fin grid0.N) (k : Fin 8) (a : Fin 256) : iblk m c 1 t (ix2 k a) = V m c main_arg2 (ix2 k (row t a)) := by
  refine (congrArg (V m c main_arg2) (funext fun k => Fin.ext ?_) : V m c main_arg2 (((win0 (adm m 0) 1).rect t).emb (ix2 k a)) = _)
  rename_i k0
  refine (Pipeline.Window.rect_emb_val (win0 (adm m 0) 1) t (ix2 k0 a) k).trans ?_
  have e := index1 t
  match k with
  | ⟨0, _⟩ => show cc0_transform_1 (grid0.coords t) 0 * 8 + k0.val = k0.val; rw [e]; show 0 * 8 + _ = _; omega
  | ⟨1, _⟩ => show cc0_transform_1 (grid0.coords t) 1 * 256 + a.val = 256 * t.val + a.val; rw [e]; show t.val * 256 + _ = _; omega

/-- The sequence a token belongs to. -/
def seqOf (j : Fin 65536) : Fin 8 := ⟨j.val / 8192, by omega⟩

theorem blk2 (c : Dev nD) (t : Fin grid0.N) (a : Fin 256) (b : Fin 1024) :
    iblk m c 2 t (ix3 0 0 b) = V m c main_arg3 (ix3 (seqOf (row t a)) 0 b) := by
  refine (congrArg (V m c main_arg3) (funext fun k => Fin.ext ?_) : V m c main_arg3 (((win0 (adm m 0) 2).rect t).emb (ix3 0 0 b)) = _)
  refine (Pipeline.Window.rect_emb_val (win0 (adm m 0) 2) t (ix3 0 0 b) k).trans ?_
  have e := index2 t
  have := a.2
  match k with
  | ⟨0, _⟩ => show cc0_transform_2 (grid0.coords t) 0 * 1 + 0 = (256 * t.val + a.val) / 8192; rw [e]; show t.val / 32 * 1 + 0 = _; omega
  | ⟨1, _⟩ => show cc0_transform_2 (grid0.coords t) 1 * 1 + 0 = 0; rw [e]; rfl
  | ⟨2, _⟩ => show cc0_transform_2 (grid0.coords t) 2 * 1024 + b.val = b.val; rw [e]; show 0 * 1024 + _ = _; omega

theorem emb3 (t : Fin grid0.N) (a : Fin 256) (b : Fin 1024) : ((win0 (adm m 0) 3).rect t).emb (ix2 a b) = (ix2 (row t a) b : S65536x1024.Idx) := by
  refine funext fun k => Fin.ext ?_
  refine (Pipeline.Window.rect_emb_val (win0 (adm m 0) 3) t (ix2 a b) k).trans ?_
  have e := index3 t
  match k with
  | ⟨0, _⟩ => show cc0_transform_4 (grid0.coords t) 0 * 256 + a.val = 256 * t.val + a.val; rw [e]; show t.val * 256 + _ = _; omega
  | ⟨1, _⟩ => show cc0_transform_4 (grid0.coords t) 1 * 1024 + b.val = b.val; rw [e]; show 0 * 1024 + _ = _; omega

variable (h : ∀ c, InRange (tab m c))

/-- The result, element by element. -/
def result (c : Dev nD) : Buf (Elt F) ((c : Thread nD τ).loc main_v0) := fun j : S65536x1024.Idx =>
  elem (fs m c (ix2 ⟨(tab m c (ix1 (j 0))).toNat, h c _⟩ (j 1))) (V m c main_arg2 (ix2 2 (j 0))) (V m c main_arg2 (ix2 3 (j 0)))
    (V m c main_arg3 (ix3 (seqOf (j 0)) 0 (j 1))) (V m c main_arg1 j)

theorem flushed_eq (c : Dev nD) (t : Fin grid0.N) :
    (dats m h 0 c).flushed 3 t = ((win0 (adm m 0) 3).blk t).view.read (Elt F) (result m h c) := by
  refine funext fun (y : S256x1024.Idx) => ?_
  obtain ⟨a, b, rfl⟩ : ∃ (a : Fin 256) (b : Fin 1024), y = (ix2 a b : S256x1024.Idx) := ⟨y 0, y 1, eq_ix2 y⟩
  show outAt m h c t (ix2 a b) = result m h c (((win0 (adm m 0) 3).rect t).emb (ix2 a b))
  rw [emb3]
  unfold outAt
  rw [outBlk_apply, blk0, blk1, blk1, blk2 m c t a b]
  have ht := coords_eq t
  have hlt : t.val < 256 := t.isLt
  have e : tok (grid0.coords t 0).val a = row t a := Fin.ext (by
    show 256 * min (grid0.coords t 0).val 255 + a.val = 256 * t.val + a.val; omega)
  have ep : posOf (tab m c) (h c) (grid0.coords t 0).val a = ⟨(tab m c (ix1 (row t a))).toNat, h c _⟩ := Fin.ext (by
    show (tab m c (ix1 (tok (grid0.coords t 0).val a))).toNat = _; rw [e])
  show elem (fs m c (ix2 (posOf (tab m c) (h c) (grid0.coords t 0).val a) b)) _ _ _ _ = _
  rw [ep]
  rfl

theorem cover (i : S65536x1024.Idx) : ∃ t : Fin grid0.N, (win0 (adm m 0) 3).flush t = true ∧ i ∈ ((win0 (adm m 0) 3).blk t).view.set := by
  have h0 : (i 0).val < 65536 := (i 0).isLt
  have hN : (i 0).val / 256 < grid0.N := by rw [N_0]; omega
  refine ⟨⟨(i 0).val / 256, hN⟩, flush3 m _, ?_⟩
  refine Finset.mem_map.mpr ⟨(ix2 ⟨(i 0).val % 256, by omega⟩ (i 1) : S256x1024.Idx), Finset.mem_univ _, ?_⟩
  refine (emb3 m _ _ _).trans (((congrArg (fun a => ix2 a (i 1)) (Fin.ext ?_)).trans (eq_ix2 i).symm))
  show 256 * ((i 0).val / 256) + (i 0).val % 256 = (i 0).val
  omega

theorem final (c : Dev nD) : (dats m h 0 c).arrAt 3 grid0.N = result m h c :=
  (dats m h 0 c).arrAt_eq_of_cover 3 (result m h c) (fun t _ => flushed_eq m h c t) (cover m)

end Cert.Kernel.Combine

end
-- ==== Proof.Reference.lean ====
/- The reference's result, element by element. -/
module

public import proofs.«01_k».proof.Proof.Gen.Reference.Run
public import proofs.«01_k».proof.Proof.Value

@[expose] public section

noncomputable section

namespace Cert.Reference.Combine

open Cert.Reference Cert.Reference.Gen
open Idealize.ShloMosaic Idealize.ShloMosaic.ValueIdx
open Cert.Kernel.Combine (elem half_shift InRange seqOf)

variable {F : FTy → Type} [FloatOps F]

/-- The words the reference gathers. -/
def words (p : S65536.Idx → Elt F .i32) (ys : S79872x1024.Idx → Elt F .i32) : S65536x1024.Idx → Elt F .i32 :=
  Host.gather gather_S79872x1024_S65536x1_S65536x1024_1_0_n_n_0_1_11024 ys (broadcastInDim S65536x1 ![0] bcast_S65536_S65536x1_0
    (select (cmpi .slt p (broadcastInDim S65536 ![] bcast_S_S65536 (constantI S_ 32 0#32)))
      (addi p (broadcastInDim S65536 ![] bcast_S_S65536 (constantI S_ 32 79872#32))) p))

/-- A position in range is read as it is. -/
theorem words_apply (p : S65536.Idx → Elt F .i32) (ys : S79872x1024.Idx → Elt F .i32) (h : InRange p) (j : Fin 65536) (b : Fin 1024) :
    words p ys (ix2 j b) = ys (ix2 ⟨(p (ix1 j)).toNat, h j⟩ b) := by
  refine Routing.gather_row gather_S79872x1024_S65536x1_S65536x1024_1_0_n_n_0_1_11024 rfl rfl rfl rfl rfl ys _ j b ⟨(p (ix1 j)).toNat, h j⟩ ?_ (by decide)
  rw [broadcastInDim_apply _ _ _ _ (ix1 j) fun k => match k with | ⟨0, _⟩ => rfl]
  have hj : (p (ix1 j)).toNat < 79872 := h j
  have hs : BitVec.slt (p (ix1 j)) 0#32 = false := by
    simp only [BitVec.slt, BitVec.toInt, BitVec.toNat_ofNat, decide_eq_false_iff_not]
    omega
  show (if BitVec.ofBool (BitVec.slt (p (ix1 j)) 0#32) = 1#1 then _ else p (ix1 j)) = _
  rw [hs, if_neg (by decide)]
  exact (BitVec.eq_of_toNat_eq (by rw [BitVec.toNat_ofNat]; show (p (ix1 j)).toNat = (p (ix1 j)).toNat % 2 ^ 32; omega))

/-- What the reference computes. -/
def out (p : S65536.Idx → Elt F .i32) (x : S65536x1024.Idx → F .f32) (rc : S8x65536.Idx → F .f32) (gate : S8x1x1024.Idx → F .f32)
    (ys : S79872x1024.Idx → Elt F .i32) : S65536x1024.Idx → F .f32 :=
  shapeCast _ (addf (shapeCast _ x shapeCasts_S65536x1024_S8x8192x1024) (mulf (broadcastInDim S8x8192x1024 ![0, 1, 2] bcast_S8x1x1024_S8x8192x1024_0_1_2 gate) (shapeCast _ (addf (mulf (broadcastInDim S65536x1024 ![0, 1] bcast_S65536x1_S65536x1024_0_1 (broadcastInDim S65536x1 ![0] bcast_S65536_S65536x1_0 (shapeCast _ (extractStridedSlice S1x65536 ![2, 0] rc slices_S8x65536_S1x65536_2_0) shapeCasts_S1x65536_S65536))) (bitcastToFloat (F := F) .f32 (Host.shli (words p ys) (broadcastInDim S65536x1024 ![] bcast_S_S65536x1024 (constantI S_ 32 16#32))))) (mulf (broadcastInDim S65536x1024 ![0, 1] bcast_S65536x1_S65536x1024_0_1 (broadcastInDim S65536x1 ![0] bcast_S65536_S65536x1_0 (shapeCast _ (extractStridedSlice S1x65536 ![3, 0] rc slices_S8x65536_S1x65536_3_0) shapeCasts_S1x65536_S65536))) (bitcastToFloat (F := F) .f32 (andi (words p ys) (broadcastInDim S65536x1024 ![] bcast_S_S65536x1024 (constantI S_ 32 4294901760#32)))))) shapeCasts_S65536x1024_S8x8192x1024))) shapeCasts_S8x8192x1024_S65536x1024

theorem out_eq (p : S65536.Idx → Elt F .i32) (x : S65536x1024.Idx → F .f32) (rc : S8x65536.Idx → F .f32) (gate : S8x1x1024.Idx → F .f32)
    (ys : S79872x1024.Idx → Elt F .i32) (h : InRange p) : out p x rc gate ys
      = fun i : S65536x1024.Idx => elem (ys (ix2 ⟨(p (ix1 (i 0))).toNat, h _⟩ (i 1))) (rc (ix2 2 (i 0))) (rc (ix2 3 (i 0)))
          (gate (ix3 (seqOf (i 0)) 0 (i 1))) (x i) := by
  refine funext fun (i : S65536x1024.Idx) => ?_
  obtain ⟨j, b, rfl⟩ : ∃ (j : Fin 65536) (b : Fin 1024), i = (ix2 j b : S65536x1024.Idx) := ⟨i 0, i 1, eq_ix2 i⟩
  have hj := j.2
  have hi : ((j.val / 8192 * 8192 + j.val % 8192) * 1024 + b.val) = j.val * 1024 + b.val := by omega
  have flat (y : S65536x1024.Idx → F .f32) : shapeCast S8x8192x1024 y shapeCasts_S65536x1024_S8x8192x1024
      (ix3 (seqOf j) ⟨j.val % 8192, Nat.mod_lt _ (by decide)⟩ b) = y (ix2 j b) :=
    shapeCast_apply _ _ _ _ (by rw [Shape.rowMajor_val_three, Shape.rowMajor_val_two]; exact hi.symm)
  have hg : broadcastInDim S8x8192x1024 ![0, 1, 2] bcast_S8x1x1024_S8x8192x1024_0_1_2 gate
      (ix3 (seqOf j) ⟨j.val % 8192, Nat.mod_lt _ (by decide)⟩ b) = gate (ix3 (seqOf j) 0 b) :=
    broadcastInDim_apply _ _ _ _ _ fun k => match k with | ⟨0, _⟩ => rfl | ⟨1, _⟩ => rfl | ⟨2, _⟩ => rfl
  have coef (q : Fin 8) (z : S1x65536.Idx → F .f32) (hz : z (ix2 0 j) = rc (ix2 q j)) :
      broadcastInDim S65536x1024 ![0, 1] bcast_S65536x1_S65536x1024_0_1 (broadcastInDim S65536x1 ![0] bcast_S65536_S65536x1_0
        (shapeCast S65536 z shapeCasts_S1x65536_S65536)) (ix2 j b) = rc (ix2 q j) :=
    ((broadcastInDim_apply _ _ _ _ (ix2 j 0) fun k => match k with | ⟨0, _⟩ => rfl | ⟨1, _⟩ => rfl).trans
      ((broadcastInDim_apply _ _ _ _ (ix1 j) fun k => match k with | ⟨0, _⟩ => rfl).trans
        (shapeCast_apply _ _ _ (ix2 0 j) (by rw [Shape.rowMajor_val_two, Shape.rowMajor_val_one]; simp)))).trans hz
  refine (shapeCast_apply _ _ _ (ix3 (seqOf j) ⟨j.val % 8192, Nat.mod_lt _ (by decide)⟩ b)
    (by rw [Shape.rowMajor_val_three, Shape.rowMajor_val_two]; exact hi)).trans ?_
  show FloatOps.addf (shapeCast _ _ _ _) (FloatOps.mulf (broadcastInDim _ _ _ _ _) (shapeCast _ _ _ _)) = _
  rw [flat, hg, flat]
  show FloatOps.addf _ (FloatOps.mulf _ (FloatOps.addf (FloatOps.mulf _ (FloatOps.ofBits .f32 (IntOp.shli .host (words p ys (ix2 j b)) 16#32)))
    (FloatOps.mulf _ (FloatOps.ofBits .f32 (words p ys (ix2 j b) &&& 4294901760#32))))) = _
  rw [words_apply p ys h j b, half_shift,
    coef 2 _ (extractStridedSlice_apply _ _ _ _ (ix2 2 j) fun k => match k with | ⟨0, _⟩ => rfl | ⟨1, _⟩ => (Nat.zero_add _).symm),
    coef 3 _ (extractStridedSlice_apply _ _ _ _ (ix2 3 j) fun k => match k with | ⟨0, _⟩ => rfl | ⟨1, _⟩ => (Nat.zero_add _).symm)]
  rfl

end Cert.Reference.Combine

end
-- ==== Proof.AttnMath.lean ====
/- Softmax attention of one query over the keys, in two forms that agree over the extended reals: with powers of two, the
   normalisation at the end; and with exponentials, the weights normalised first. -/
module

public import Idealize.ShloMosaic.PureOps.Ideal.Laws
public import Idealize.ShloMosaic.Lib.IdealHost
public import Mathlib.Analysis.SpecialFunctions.Pow.Real

@[expose] public section

noncomputable section

namespace Cert.Attn

open Idealize.ShloMosaic

variable {n : ℕ}

/-- A sum times a real that is not negative is the sum of the products, at the infinities too. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a t ha ih =>
    rw [Finset.sum_insert ha, Finset.sum_insert ha,
      EReal.right_distrib_of_nonneg_of_ne_top (by exact_mod_cast hc) (EReal.coe_ne_top c), ih]

/-- A sum of reals is a real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a t ha ih => rw [Finset.sum_insert ha, Finset.sum_insert ha, ih, EReal.coe_add]

/-- The greatest of some reals, taken from minus infinity on, is a real, and all are at most that. -/
theorem fold_max_coe [NeZero n] (f : Fin n → ℝ) :
    (Finset.univ : Finset (Fin n)).fold max (⊥ : EReal) (fun j => ((f j : ℝ) : EReal))
      = ((Finset.univ.sup' Finset.univ_nonempty f : ℝ) : EReal) := by
  apply le_antisymm
  · rw [Finset.fold_max_le]
    exact ⟨bot_le, fun j hj => EReal.coe_le_coe_iff.2 (Finset.le_sup' f hj)⟩
  · obtain ⟨j, hj, e⟩ := Finset.exists_mem_eq_sup' (Finset.univ_nonempty (α := Fin n)) f
    rw [e, Finset.le_fold_max]
    exact Or.inr ⟨j, hj, le_rfl⟩

/-- The greatest of some reals each times the same positive number. -/
theorem sup_mul [NeZero n] (f : Fin n → ℝ) {c : ℝ} (hc : 0 < c) :
    Finset.univ.sup' Finset.univ_nonempty (fun j => f j * c) = Finset.univ.sup' (Finset.univ_nonempty (α := Fin n)) f * c := by
  apply le_antisymm
  · exact Finset.sup'_le _ _ fun j hj => mul_le_mul_of_nonneg_right (Finset.le_sup' f hj) hc.le
  · obtain ⟨j, hj, e⟩ := Finset.exists_mem_eq_sup' (Finset.univ_nonempty (α := Fin n)) f
    rw [e]; exact Finset.le_sup' (fun j => f j * c) hj

/-- A power of two of a number over log 2 is the exponential of it. -/
theorem exp2_div_log (x : ℝ) : Ideal.exp2 ((x * (Real.log 2)⁻¹ : ℝ) : EReal) = Ideal.exp (x : EReal) := by
  rw [Ideal.exp2_coe, Ideal.exp_coe]
  congr 1
  show (2 : ℝ) ^ (x * (Real.log 2)⁻¹) = _
  have h : Real.log 2 ≠ 0 := (Real.log_pos (by norm_num)).ne'
  rw [Real.rpow_def_of_pos (by norm_num)]
  congr 1; field_simp

/-- The words of minus infinity, of an eighth, of two and of one. -/
theorem bot_word : Ideal.ofBits FTy.f32 4286578688#32 = ⊥ := by simp [Ideal.ofBits, Ideal.ieee]

theorem eighth_word : Ideal.ofBits FTy.f32 1040187392#32 = ((1 / 8 : ℝ) : EReal) := by
  simp [Ideal.ofBits, Ideal.ieee, -EReal.coe_mul]; norm_num

theorem two_word : Ideal.ofBits FTy.f32 1073741824#32 = ((2 : ℝ) : EReal) := by
  simp [Ideal.ofBits, Ideal.ieee, -EReal.coe_mul]; norm_num

theorem one_word : Ideal.ofBits FTy.f32 1065353216#32 = 1 := by
  simp [Ideal.ofBits, Ideal.ieee, -EReal.coe_mul]; norm_num

/-- The scale of the packed queries: an eighth over log 2. -/
theorem scale_eq : Ideal.div (Ideal.ofBits FTy.f32 1040187392#32) (Ideal.log (Ideal.ofBits FTy.f32 1073741824#32))
    = ((1 / 8 * (Real.log 2)⁻¹ : ℝ) : EReal) := by
  rw [eighth_word, two_word, Ideal.log_coe, if_neg (by norm_num), Ideal.div_coe (Real.log_pos (by norm_num)).ne', ← EReal.coe_mul, one_div (Real.log 2)]

/-- The weight of key `j` before normalisation, by exponentials of the scores less the greatest one. -/
def weight (s : Fin n → EReal) (j : Fin n) : EReal := Ideal.exp (s j - (Finset.univ : Finset (Fin n)).fold max ⊥ s)

/-- The same by powers of two. -/
def weight2 (s : Fin n → EReal) (j : Fin n) : EReal := Ideal.exp2 (s j - (Finset.univ : Finset (Fin n)).fold max ⊥ s)

/-- At scores that are numbers, powers of two of the scores over log 2 are the exponentials. -/
theorem weight2_eq [NeZero n] (σ : Fin n → ℝ) (j : Fin n) :
    weight2 (fun j => ((σ j * (Real.log 2)⁻¹ : ℝ) : EReal)) j = weight (fun j => ((σ j : ℝ) : EReal)) j := by
  unfold weight2 weight
  rw [fold_max_coe, fold_max_coe, sup_mul σ (inv_pos.2 (Real.log_pos (by norm_num))), ← EReal.coe_sub, ← EReal.coe_sub, ← sub_mul,
    exp2_div_log]

/-- At scores that are numbers the sum of the weights is a positive number. -/
theorem sum_weight [NeZero n] (σ : Fin n → ℝ) :
    ∃ l : ℝ, 0 < l ∧ ∑ j, weight (fun j => ((σ j : ℝ) : EReal)) j = (l : EReal) := by
  refine ⟨∑ j, Real.exp (σ j - Finset.univ.sup' Finset.univ_nonempty σ), Finset.sum_pos (fun j _ => Real.exp_pos _) Finset.univ_nonempty, ?_⟩
  rw [← coe_sum]
  refine Finset.sum_congr rfl fun j _ => ?_
  unfold weight
  rw [fold_max_coe, ← EReal.coe_sub, Ideal.exp_coe]

/-- Attention normalised at the end is attention with normalised weights. -/
theorem attend_eq [NeZero n] (σ : Fin n → ℝ) (v : Fin n → EReal) :
    Ideal.div (∑ j, weight2 (fun j => ((σ j * (Real.log 2)⁻¹ : ℝ) : EReal)) j * v j)
        (∑ j, weight2 (fun j => ((σ j * (Real.log 2)⁻¹ : ℝ) : EReal)) j)
      = ∑ j, v j * Ideal.div (weight (fun j => ((σ j : ℝ) : EReal)) j) (∑ i, weight (fun j => ((σ j : ℝ) : EReal)) i) := by
  simp only [weight2_eq]
  obtain ⟨l, hl, e⟩ := sum_weight σ
  rw [e, Ideal.div_coe hl.ne', sum_mul_coe _ _ (one_div_pos.2 hl).le]
  refine Finset.sum_congr rfl fun j _ => ?_
  rw [Ideal.div_coe hl.ne', mul_comm (weight _ j) (v j), mul_assoc]

end Cert.Attn

end
-- ==== Proof.AttnTile.lean ====
/- One block of the attention kernel: the 256 rows written are, per row and lane, the weighted sum of the values over the sum of the
   weights, of the head that the lane belongs to. -/
module

public import proofs.«01_k».proof.Proof.Gen.AttentionIdeal.Value
public import proofs.«01_k».proof.Proof.AttnMath
public import Idealize.ShloMosaic.Lib.Pipeline.ValueKit
public import Idealize.ShloMosaic.Lib.Pipeline.ReadBack
public import Idealize.ShloMosaic.Lib.Pointwise

@[expose] public section

noncomputable section

namespace Cert.Attn

open Cert.AttentionIdeal Cert.AttentionIdeal.Gen Idealize.ShloMosaic

set_option maxRecDepth 16384
/-- What the kernel stores of one query, at one column of a group's tile: the sum of the values by their weights over the same sum at the
    column `one` that holds ones. -/
def cell (a : Vec Ideal S1x256x128 .bf16) (b : Vec Ideal S1x8448x128 .bf16) (w : Vec Ideal S1x1x8448x128 .bf16) (r : Fin 256) (lane one : Fin 128) : EReal :=
  Ideal.div (∑ j : Fin 8448, weight2 (fun j => ∑ l : Fin 128, a (ix3 0 r l) * b (ix3 0 j l)) j * w (ix4 0 0 j lane))
    (∑ j : Fin 8448, weight2 (fun j => ∑ l : Fin 128, a (ix3 0 r l) * b (ix3 0 j l)) j * w (ix4 0 0 j one))

/-- One head pair's tile: the first 64 columns are the first group's, the others the second's. -/
theorem head_apply (a a' : Vec Ideal S1x256x128 .bf16) (b b' : Vec Ideal S1x8448x128 .bf16) (w w' : Vec Ideal S1x1x8448x128 .bf16)
    (r : Fin 256) (lane : Fin 128) :
    k0_pay4 k0_pay1 (k0_pay2 a b w) (k0_pay3 a' b') w' (ix3 0 r lane) = if lane.val < 64 then cell a b w r lane 64 else cell a' b' w' r lane 0 := by
  pointwise [k0_pay4, k0_pay1, k0_pay2, k0_pay3]
  simp only [bot_word]
  rw [show (64#32) = BitVec.ofNat 32 64 from rfl, WordCmp.cmpi_slt_ofNat (by omega) (by norm_num)]
  by_cases h : lane.val < 64
  · rw [if_pos h]; simp [h, Scalar.select]; rfl
  · rw [if_neg h]; simp [h, Scalar.select]; rfl

/-- Four runs of 128 side by side, read at position `128 k + lane`. -/
theorem side_by_side {α : Type} (f : Fin 4 → Fin 128 → α) (k : Fin 4) (lane : Fin 128) (n : ℕ) (hn : n = 128 * k.val + lane.val) :
    (if h : n < 128 then f 0 ⟨n, h⟩ else if h : n - 128 < 128 then f 1 ⟨n - 128, h⟩
      else if h : n - 128 - 128 < 128 then f 2 ⟨n - 128 - 128, h⟩ else f 3 ⟨n - 128 - 128 - 128, by omega⟩) = f k lane := by
  subst hn
  obtain ⟨k, hk⟩ := k
  interval_cases k <;> dsimp only <;> (repeat' split) <;> first | omega | (congr 1; apply Fin.ext; dsimp only; omega)

/-- The four tiles stand side by side in the block of the result. -/
theorem row_apply (x : Fin 4 → Vec Ideal S1x256x128 .f32) (r : Fin 256) (k : Fin 4) (lane : Fin 128) :
    k0_pay14 (x 0) (x 1) (x 2) (x 3) (ix2 r ⟨128 * k.val + lane.val, by omega⟩) = x k (ix3 0 r lane) := by
  pointwise [k0_pay14]
  exact side_by_side (fun k l => x k (ix3 0 r l)) k lane _ rfl

variable (m : (ℓ : Loc nD τ sig) → Buf (Elt Ideal) ℓ) (c : Dev nD)

/-- The windows' blocks at a point: tile `t` of the queries and the result, batch `t / 32` of the keys and values. -/
theorem idx : ∀ t : Fin cfg0.N, win0_0.index t = ![0, t.val, 0] ∧ win0_1.index t = ![t.val / 32, 0, 0] ∧ win0_2.index t = ![0, t.val / 32, 0, 0]
    ∧ win0_3.index t = ![t.val, 0] :=
  (by decide +kernel : ∀ t : Fin grid0.N, _)

theorem q_block (t : Fin cfg0.N) (h : Fin 8) (inb) (r : Fin 256) (l : Fin 128) (row : Fin 65536) (hr : row.val = 256 * t.val + r.val) :
    View.ld (iblk m c 0 t) (Rect.unit (s := S8x256x128) ![h.val, 0, 0] ![1, 256, 128] inb) (ix3 0 r l) = V m c main_v13 (ix3 h row l) := by
  blk_ext! [iblk, idx t]

theorem k_block (t : Fin cfg0.N) (j : Fin 8448) (l : Fin 128) (b : Fin 8) (hb : b.val = t.val / 32) :
    iblk m c 1 t (ix3 0 j l) = V m c main_v15 (ix3 b j l) := by
  blk_ext! [iblk, idx t]

theorem v_block (t : Fin cfg0.N) (g : Fin 2) (inb) (j : Fin 8448) (l : Fin 128) (b : Fin 8) (hb : b.val = t.val / 32) :
    View.ld (iblk m c 2 t) (Rect.unit (s := S2x1x8448x128) ![g.val, 0, 0, 0] ![1, 1, 8448, 128] inb) (ix4 0 0 j l) = V m c main_v20 (ix4 g b j l) := by
  blk_ext! [iblk, idx t]

/-- The score of key `j` for packed query row `row` of head `h`. -/
def score (qp : Vec Ideal S8x65536x128 .bf16) (kp : Vec Ideal S8x8448x128 .bf16) (h : Fin 8) (b : Fin 8) (row : Fin 65536) (j : Fin 8448) : EReal :=
  ∑ l : Fin 128, qp (ix3 h row l) * kp (ix3 b j l)

/-- What the kernel makes of the packed arrays at one query row, head and column of the tile of group `g`. -/
def attend (qp : Vec Ideal S8x65536x128 .bf16) (kp : Vec Ideal S8x8448x128 .bf16) (vp : Vec Ideal S2x8x8448x128 .bf16) (g : Fin 2) (h : Fin 8) (b : Fin 8)
    (row : Fin 65536) (lane one : Fin 128) : EReal :=
  Ideal.div (∑ j, weight2 (score qp kp h b row) j * vp (ix4 g b j lane)) (∑ j, weight2 (score qp kp h b row) j * vp (ix4 g b j one))

theorem cell_eq (t : Fin cfg0.N) (h : Fin 8) (g : Fin 2) (inb) (inb') (r : Fin 256) (lane one : Fin 128) (row : Fin 65536) (b : Fin 8)
    (hr : row.val = 256 * t.val + r.val) (hb : b.val = t.val / 32) :
    cell (View.ld (iblk m c 0 t) (Rect.unit (s := S8x256x128) ![h.val, 0, 0] ![1, 256, 128] inb)) (iblk m c 1 t)
      (View.ld (iblk m c 2 t) (Rect.unit (s := S2x1x8448x128) ![g.val, 0, 0, 0] ![1, 1, 8448, 128] inb')) r lane one
      = attend (V m c main_v13) (V m c main_v15) (V m c main_v20) g h b row lane one := by
  unfold cell attend score
  simp only [q_block m c t h inb r _ row hr, k_block m c t _ _ b hb, v_block m c t g inb' _ _ b hb]

/-- What a point writes at one element of the result's block. -/
theorem piece (t : Fin cfg0.N) (r : Fin 256) (k : Fin 4) (lane : Fin 128) (row : Fin 65536) (b : Fin 8)
    (hr : row.val = 256 * t.val + r.val) (hb : b.val = t.val / 32) :
    outsAt0 m c t (ix2 r ⟨128 * k.val + lane.val, by omega⟩)
      = if lane.val < 64 then attend (V m c main_v13) (V m c main_v15) (V m c main_v20) 0 ⟨k.val, by omega⟩ b row lane 64
        else attend (V m c main_v13) (V m c main_v15) (V m c main_v20) 1 ⟨k.val + 4, by omega⟩ b row lane 0 := by
  unfold outsAt0
  frame_open
  simp (disch := decide) only [↓ View.readCov_skip, ↓ View.readCov_cons_toLoadRect, ↓ View.readCov_fill]
  frame_out
  have inb0 : ∀ h : Fin 8, ∀ a, ![h.val, 0, 0] a + ![1, 256, 128] a ≤ S8x256x128.size a := by decide
  have inb2 : ∀ g : Fin 2, ∀ a, ![g.val, 0, 0, 0] a + ![1, 1, 8448, 128] a ≤ S2x1x8448x128.size a := by decide
  refine (row_apply (fun k => k0_pay4 k0_pay1
      (k0_pay2 (View.ld (iblk m c 0 t) (Rect.unit (s := S8x256x128) ![k.val, 0, 0] ![1, 256, 128] (inb0 ⟨k.val, by omega⟩))) (iblk m c 1 t)
        (View.ld (iblk m c 2 t) (Rect.unit (s := S2x1x8448x128) ![0, 0, 0, 0] ![1, 1, 8448, 128] (inb2 0))))
      (k0_pay3 (View.ld (iblk m c 0 t) (Rect.unit (s := S8x256x128) ![k.val + 4, 0, 0] ![1, 256, 128] (inb0 ⟨k.val + 4, by omega⟩))) (iblk m c 1 t))
      (View.ld (iblk m c 2 t) (Rect.unit (s := S2x1x8448x128) ![1, 0, 0, 0] ![1, 1, 8448, 128] (inb2 1)))) r k lane).trans ?_
  rw [head_apply]
  exact if_congr Iff.rfl (cell_eq m c t ⟨k.val, by omega⟩ 0 _ _ r lane 64 row b hr hb) (cell_eq m c t ⟨k.val + 4, by omega⟩ 1 _ _ r lane 0 row b hr hb)

end Cert.Attn

end
-- ==== Proof.AttnPack.lean ====
/- The arrays that the attention kernel is called with, read at an index: the packed queries, keys and values. -/
module

public import proofs.«01_k».proof.Proof.AttnTile
public import Idealize.ShloMosaic.Lib.StableHlo.ReadAt

@[expose] public section

noncomputable section

namespace Cert.Attn

open Cert.AttentionIdeal Cert.AttentionIdeal.Gen Idealize.ShloMosaic

set_option maxRecDepth 16384

variable (m : (ℓ : Loc nD τ sig) → Buf (Elt Ideal) ℓ) (c : Dev nD)

/-- The first 64 columns tested as the programs test them. -/
theorem lane_select {α : Type} (l : Fin 128) (x y : α) :
    Scalar.select (IntOp.cmpi CmpIPredicate.slt (BitVec.ofNat 32 l.val) 64#32) x y = if l.val < 64 then x else y := by
  rw [show (64#32) = BitVec.ofNat 32 64 from rfl, WordCmp.cmpi_slt_ofNat (by omega) (by norm_num)]
  by_cases h : l.val < 64
  · rw [if_pos h]; simp [h, Scalar.select]
  · rw [if_neg h]; simp [h, Scalar.select]

/-- The queries as launched. -/
abbrev argQ : FVec Ideal S8x8192x2x4x64 .f32 := m ((c.tc : Thread nD τ).loc main_arg0)
/-- The keys as launched. -/
abbrev argK : FVec Ideal S8x8448x2x64 .f32 := m ((c.tc : Thread nD τ).loc main_arg1)
/-- The values as launched. -/
abbrev argV : FVec Ideal S8x8448x2x64 .f32 := m ((c.tc : Thread nD τ).loc main_arg2)

/-- The word of zero as the host code broadcasts it, and that of one. -/
theorem zero_const : id (constant (F := Ideal) S_ FTy.f32 0#32) ix0 = (0 : EReal) := Ideal.ofBits_zero_f32
theorem one_const : id (constant (F := Ideal) S_ FTy.f32 1065353216#32) ix0 = (1 : EReal) := one_word

/-- The packed queries: head `k` of group `g` scaled, in its group's half of the row, the other half zero. -/
theorem q_pack (g : Fin 2) (k : Fin 4) (h : Fin 8) (hh : h.val = k.val + 4 * g.val) (row : Fin 65536) (b : Fin 8) (i : Fin 8192)
    (hb : b.val = row.val / 8192) (hi : i.val = row.val % 8192) (l : Fin 128) :
    (V m c main_v13 : FVec Ideal S8x65536x128 .bf16) (ix3 h row l) = (if l.val / 64 = g.val then
      argQ m c (ix5 b i g k ⟨l.val % 64, by omega⟩) * ((1 / 8 * (Real.log 2)⁻¹ : ℝ) : EReal) else 0 : EReal) := by
  by_cases h4 : h.val < 4
  · have e3 : g.val = 0 := by omega
    have key : (V m c main_v13 : FVec Ideal S8x65536x128 .bf16) (ix3 h row l) = (if l.val < 64 then
        argQ m c (ix5 ⟨row.val / 8192, by omega⟩ ⟨row.val % 8192, by omega⟩ ⟨l.val / 64, by omega⟩ ⟨h.val, h4⟩ ⟨l.val % 64, by omega⟩)
          * ((1 / 8 * (Real.log 2)⁻¹ : ℝ) : EReal) else 0 : EReal) := by
      unfold V
      after_reads_at
      rw [dif_pos h4]
      after_reads_at
      simp only [lane_select, scale_eq]
      exact if_congr Iff.rfl rfl zero_const
    rw [key]
    by_cases hl : l.val < 64
    · rw [if_pos hl, if_pos (by omega)]
      exact congrArg (fun x => argQ m c x * ((1 / 8 * (Real.log 2)⁻¹ : ℝ) : EReal)) (by congr 1 <;> apply Fin.ext <;> dsimp only <;> omega)
    · rw [if_neg hl, if_neg (by omega)]
  · have e3 : g.val = 1 := by omega
    have key : (V m c main_v13 : FVec Ideal S8x65536x128 .bf16) (ix3 h row l) = (if l.val < 64 then 0 else
        argQ m c (ix5 ⟨row.val / 8192, by omega⟩ ⟨row.val % 8192, by omega⟩ ⟨l.val / 64, by omega⟩ ⟨h.val - 4, by omega⟩ ⟨l.val % 64, by omega⟩)
          * ((1 / 8 * (Real.log 2)⁻¹ : ℝ) : EReal) : EReal) := by
      unfold V
      after_reads_at
      rw [dif_neg h4]
      after_reads_at
      simp only [lane_select, scale_eq]
      exact if_congr Iff.rfl zero_const rfl
    rw [key]
    by_cases hl : l.val < 64
    · rw [if_pos hl, if_neg (by omega)]
    · rw [if_neg hl, if_pos (by omega)]
      exact congrArg (fun x => argQ m c x * ((1 / 8 * (Real.log 2)⁻¹ : ℝ) : EReal)) (by congr 1 <;> apply Fin.ext <;> dsimp only <;> omega)

/-- The packed values: group `g`'s in its half of the row, ones in the other half. -/
theorem v_pack (g : Fin 2) (b : Fin 8) (j : Fin 8448) (l : Fin 128) :
    (V m c main_v20 : FVec Ideal S2x8x8448x128 .bf16) (ix4 g b j l)
      = (if l.val / 64 = g.val then argV m c (ix4 b j g ⟨l.val % 64, by omega⟩) else 1 : EReal) := by
  by_cases h1 : g.val < 1
  · have key : (V m c main_v20 : FVec Ideal S2x8x8448x128 .bf16) (ix4 g b j l)
        = (if l.val < 64 then argV m c (ix4 b j ⟨l.val / 64, by omega⟩ ⟨l.val % 64, by omega⟩) else 1 : EReal) := by
      unfold V
      after_reads_at
      rw [dif_pos h1]
      after_reads_at
      rw [lane_select, one_const]
    rw [key]
    by_cases hl : l.val < 64
    · rw [if_pos hl, if_pos (by omega), show g = ⟨l.val / 64, by omega⟩ from Fin.ext (by simp only; omega)]
    · rw [if_neg hl, if_neg (by omega)]
  · have key : (V m c main_v20 : FVec Ideal S2x8x8448x128 .bf16) (ix4 g b j l)
        = (if l.val < 64 then 1 else argV m c (ix4 b j ⟨l.val / 64, by omega⟩ ⟨l.val % 64, by omega⟩) : EReal) := by
      unfold V
      after_reads_at
      rw [dif_neg h1]
      after_reads_at
      rw [lane_select, one_const]
    rw [key]
    by_cases hl : l.val < 64
    · rw [if_pos hl, if_neg (by omega)]
    · rw [if_neg hl, if_pos (by omega), show g = ⟨l.val / 64, by omega⟩ from Fin.ext (by simp only; omega)]

/-- The packed keys: both groups in one row. -/
theorem k_pack (b : Fin 8) (j : Fin 8448) (l : Fin 128) :
    (V m c main_v15 : FVec Ideal S8x8448x128 .bf16) (ix3 b j l) = argK m c (ix4 b j ⟨l.val / 64, by omega⟩ ⟨l.val % 64, by omega⟩) := by
  unfold V
  after_reads_at

end Cert.Attn

end
-- ==== Proof.AttnRef.lean ====
/- The attention reference's result, read at an index: scores, softmax over the keys, and the mixed values. -/
module

public import proofs.«01_k».proof.Proof.Gen.AttentionReferenceIdeal.Run
public import proofs.«01_k».proof.Proof.AttnMath
public import Idealize.ShloMosaic.Lib.Pointwise
public import Idealize.ShloMosaic.Lib.StableHlo.ReadAt

@[expose] public section

noncomputable section

namespace Cert.Attn

open Cert.AttentionReferenceIdeal Cert.AttentionReferenceIdeal.Gen Idealize.ShloMosaic

set_option maxRecDepth 16384

/-- The reference's scores of all keys for all queries. -/
def scores (q : FVec Ideal S8x8192x2x4x64 .f32) (k : FVec Ideal S8x8448x2x64 .f32) : FVec Ideal S8x2x4x8192x8448 .f32 :=
  transpose S8x2x4x8192x8448 [0, 1, 4, 3, 2] (Host.dotGeneral dot_S8x8448x2x64_S8x8192x2x4x64_S8x2x8448x8192x4_3_4_1_13_02_02 none k
    (mulf q (broadcastInDim S8x8192x2x4x64 ![] bcast_S_S8x8192x2x4x64 (constant S_ .f32 0x3E000000#32)))) transposes_S8x2x8448x8192x4_S8x2x4x8192x8448_0_1_4_3_2

/-- The greatest score of each query. -/
def top (s : FVec Ideal S8x2x4x8192x8448 .f32) : FVec Ideal S8x2x4x8192 .f32 :=
  Host.reduce FloatOps.maximumf s (constant S_ .f32 0xFF800000#32) reducesTo_S8x2x4x8192x8448_S8x2x4x8192_d4 h_S_

/-- The exponentials of the scores less their greatest. -/
def weights (s : FVec Ideal S8x2x4x8192x8448 .f32) (t : FVec Ideal S8x2x4x8192 .f32) : FVec Ideal S8x2x4x8192x8448 .f32 :=
  Host.exp (subf s (broadcastInDim S8x2x4x8192x8448 ![0, 1, 2, 3, 4] bcast_S8x2x4x8192x1_S8x2x4x8192x8448_0_1_2_3_4
    (broadcastInDim S8x2x4x8192x1 ![0, 1, 2, 3] bcast_S8x2x4x8192_S8x2x4x8192x1_0_1_2_3
      (maximumf (broadcastInDim S8x2x4x8192 ![] bcast_S_S8x2x4x8192 (constant S_ .f32 0xFF800000#32)) t))))

/-- The weights over their sum. -/
def normed (p : FVec Ideal S8x2x4x8192x8448 .f32) : FVec Ideal S8x2x4x8192x8448 .f32 :=
  Host.divf p (broadcastInDim S8x2x4x8192x8448 ![0, 1, 2, 3, 4] bcast_S8x2x4x8192x1_S8x2x4x8192x8448_0_1_2_3_4
    (broadcastInDim S8x2x4x8192x1 ![0, 1, 2, 3] bcast_S8x2x4x8192_S8x2x4x8192x1_0_1_2_3
      (Host.reduceAdd p (constant S_ .f32 0x00000000#32) reducesTo_S8x2x4x8192x8448_S8x2x4x8192_d4 h_S_)))

/-- The values summed by normalised weights, laid out as the result is. -/
def mixed (p : FVec Ideal S8x2x4x8192x8448 .f32) (v : FVec Ideal S8x8448x2x64 .f32) : FVec Ideal S65536x512 .bf16 :=
  truncf .bf16 (shapeCast S65536x512 (transpose S8x8192x4x2x64 [0, 1, 3, 2, 4] (transpose S8x8192x2x4x64 [0, 4, 1, 3, 2]
    (Host.dotGeneral dot_S8x8448x2x64_S8x2x4x8192x8448_S8x2x64x4x8192_1_4_3_23_02_01 none v p)
    transposes_S8x2x64x4x8192_S8x8192x2x4x64_0_4_1_3_2) transposes_S8x8192x2x4x64_S8x8192x4x2x64_0_1_3_2_4)
    shapeCasts_S8x8192x4x2x64_S65536x512) bitsLt_bf16_f32

theorem scores_apply (q : FVec Ideal S8x8192x2x4x64 .f32) (k : FVec Ideal S8x8448x2x64 .f32) (b : Fin 8) (g : Fin 2) (h : Fin 4) (s : Fin 8192) (j : Fin 8448) :
    scores q k (ix5 b g h s j) = ∑ d : Fin 64, k (ix4 b j g d) * (q (ix5 b s g h d) * ((1 / 8 : ℝ) : EReal)) := by
  pointwise [scores]
  rw [eighth_word]

theorem top_apply (s : FVec Ideal S8x2x4x8192x8448 .f32) (b : Fin 8) (g : Fin 2) (h : Fin 4) (i : Fin 8192) :
    top s (ix4 b g h i) = (Finset.univ : Finset (Fin 8448)).fold max ⊥ (fun j => s (ix5 b g h i j)) := by
  have hr : S8x2x4x8192x8448.Reduces [4] S8x2x4x8192 := by decide
  unfold top
  rw [Host.reduce_eq_fold_single _ _ _ _ hr]
  have e : (s ∘ hr.lift (ix4 b g h i)) = fun j : Fin 8448 => s (ix5 b g h i j) := by
    funext j
    show s _ = s _
    congr 1
    funext a
    apply Fin.ext
    fin_cases a <;> rfl
  rw [e]
  show (Finset.univ : Finset (Fin 8448)).fold max (Ideal.ofBits FTy.f32 4286578688#32) _ = _
  rw [bot_word]

theorem weights_apply (s : FVec Ideal S8x2x4x8192x8448 .f32) (t : FVec Ideal S8x2x4x8192 .f32) (b : Fin 8) (g : Fin 2) (h : Fin 4) (i : Fin 8192) (j : Fin 8448) :
    weights s t (ix5 b g h i j) = Ideal.exp (s (ix5 b g h i j) - t (ix4 b g h i)) := by
  pointwise [weights]
  rw [bot_word, max_eq_right bot_le]

theorem normed_apply (p : FVec Ideal S8x2x4x8192x8448 .f32) (b : Fin 8) (g : Fin 2) (h : Fin 4) (i : Fin 8192) (j : Fin 8448) :
    normed p (ix5 b g h i j) = Ideal.div (p (ix5 b g h i j)) (∑ j, p (ix5 b g h i j)) := by
  pointwise [normed]

theorem mixed_apply (p : FVec Ideal S8x2x4x8192x8448 .f32) (v : FVec Ideal S8x8448x2x64 .f32) (row : Fin 65536) (col : Fin 512) :
    mixed p v (ix2 row col)
      = ∑ j : Fin 8448, v (ix4 ⟨row.val / 8192, by omega⟩ j ⟨col.val / 64 % 2, by omega⟩ ⟨col.val % 64, by omega⟩)
          * p (ix5 ⟨row.val / 8192, by omega⟩ ⟨col.val / 64 % 2, by omega⟩ ⟨col.val / 128, by omega⟩ ⟨row.val % 8192, by omega⟩ j) := by
  pointwise [mixed]

/-- The reference's result of the arguments. -/
def out (q : FVec Ideal S8x8192x2x4x64 .f32) (k v : FVec Ideal S8x8448x2x64 .f32) : FVec Ideal S65536x512 .bf16 :=
  mixed (normed (weights (scores q k) (top (scores q k)))) v

/-- The reference at one element, the result's row and column taken apart: batch, position, group, head and feature. -/
theorem out_apply (q : FVec Ideal S8x8192x2x4x64 .f32) (k v : FVec Ideal S8x8448x2x64 .f32) (row : Fin 65536) (col : Fin 512) (b : Fin 8) (i : Fin 8192)
    (g : Fin 2) (h : Fin 4) (d : Fin 64) (hb : b.val = row.val / 8192) (hi : i.val = row.val % 8192) (hh : h.val = col.val / 128)
    (hg : g.val = col.val / 64 % 2) (hd : d.val = col.val % 64) :
    out q k v (ix2 row col) = ∑ j : Fin 8448, v (ix4 b j g d) * Ideal.div (weight (fun j => scores q k (ix5 b g h i j)) j)
      (∑ j, weight (fun j => scores q k (ix5 b g h i j)) j) := by
  have h1 : ∀ j, weights (scores q k) (top (scores q k)) (ix5 b g h i j) = weight (fun j => scores q k (ix5 b g h i j)) j := fun j => by
    rw [weights_apply, top_apply]; rfl
  obtain ⟨b, hb'⟩ := b; obtain ⟨i, hi'⟩ := i; obtain ⟨g, hg'⟩ := g; obtain ⟨h, hh'⟩ := h; obtain ⟨d, hd'⟩ := d
  dsimp only at hb hi hh hg hd
  subst hb hi hh hg hd
  unfold out
  rw [mixed_apply]
  simp only [normed_apply, h1]

end Cert.Attn

end
-- ==== Proof.AttnArray.lean ====
/- The attention kernel's result array is the reference's, when the queries and the keys are numbers. -/
module

public import proofs.«01_k».proof.Proof.AttnPack
public import proofs.«01_k».proof.Proof.AttnRef

@[expose] public section

noncomputable section

namespace Cert.Attn

open Cert.AttentionIdeal Cert.AttentionIdeal.Gen Idealize.ShloMosaic

set_option maxRecDepth 16384

variable (m : (ℓ : Loc nD τ sig) → Buf (Elt Ideal) ℓ) (c : Dev nD)

/-- A sum over a row of 128 of which only the half of group `g` counts. -/
theorem sum_half (g : Fin 2) (f : Fin 128 → EReal) (hf : ∀ l : Fin 128, l.val / 64 ≠ g.val → f l = 0) :
    ∑ l : Fin 128, f l = ∑ d : Fin 64, f ⟨64 * g.val + d.val, by omega⟩ := by
  rw [Fin.sum_univ_two_halves 64 64 rfl f]
  obtain ⟨g, hg⟩ := g
  interval_cases g
  · rw [Finset.sum_eq_zero (s := Finset.univ) (f := fun k : Fin 64 => f ⟨64 + k.val, _⟩) fun k _ => hf _ (by dsimp only; omega), add_zero]
    exact Finset.sum_congr rfl fun d _ => congrArg f (Fin.ext (by simp))
  · rw [Finset.sum_eq_zero (s := Finset.univ) (f := fun k : Fin 64 => f ⟨k.val, _⟩) fun k _ => hf _ (by dsimp only; omega), zero_add]
    exact Finset.sum_congr rfl fun d _ => congrArg f (Fin.ext (by simp))

/-- The score of a packed query is that of its head's query, times an eighth over log 2. -/
theorem score_eq (g : Fin 2) (k : Fin 4) (h : Fin 8) (hh : h.val = k.val + 4 * g.val) (row : Fin 65536) (b : Fin 8) (i : Fin 8192)
    (hb : b.val = row.val / 8192) (hi : i.val = row.val % 8192) (j : Fin 8448) :
    score (V m c main_v13) (V m c main_v15) h b row j
      = ∑ d : Fin 64, argQ m c (ix5 b i g k d) * ((1 / 8 * (Real.log 2)⁻¹ : ℝ) : EReal) * argK m c (ix4 b j g d) := by
  unfold score
  rw [sum_half g _ fun l hl => by rw [q_pack m c g k h hh row b i hb hi, if_neg hl, zero_mul]]
  refine Finset.sum_congr rfl fun d _ => ?_
  rw [q_pack m c g k h hh row b i hb hi, k_pack, if_pos (by dsimp only; omega)]
  exact congrArg₂ (fun x y => argQ m c x * ((1 / 8 * (Real.log 2)⁻¹ : ℝ) : EReal) * argK m c y)
    (by congr 1; apply Fin.ext; dsimp only; omega) (by congr 1 <;> apply Fin.ext <;> dsimp only <;> omega)

/-- With queries and keys that are numbers, what the kernel makes of the packed arrays is the reference's attention. -/
theorem attend_packed (q : S8x8192x2x4x64.Idx → ℝ) (k : S8x8448x2x64.Idx → ℝ) (hq : argQ m c = fun i => ((q i : ℝ) : EReal)) (hk : argK m c = fun i => ((k i : ℝ) : EReal))
    (g : Fin 2) (n : Fin 4) (h : Fin 8) (hh : h.val = n.val + 4 * g.val) (row : Fin 65536) (b : Fin 8) (i : Fin 8192)
    (hb : b.val = row.val / 8192) (hi : i.val = row.val % 8192) (lane one : Fin 128) (hl : lane.val / 64 = g.val) (ho : one.val / 64 ≠ g.val) (d : Fin 64)
    (hd : d.val = lane.val % 64) :
    attend (V m c main_v13) (V m c main_v15) (V m c main_v20) g h b row lane one
      = ∑ j : Fin 8448, argV m c (ix4 b j g d) * Ideal.div (weight (fun j => scores (argQ m c) (argK m c) (ix5 b g n i j)) j)
        (∑ j, weight (fun j => scores (argQ m c) (argK m c) (ix5 b g n i j)) j) := by
  have hs : ∀ j, scores (argQ m c) (argK m c) (ix5 b g n i j) = ((∑ d : Fin 64, k (ix4 b j g d) * (q (ix5 b i g n d) * (1 / 8)) : ℝ) : EReal) := fun j => by
    rw [scores_apply, hq, hk, ← coe_sum]
    exact Finset.sum_congr rfl fun d _ => by simp only [EReal.coe_mul]
  have hs2 : score (V m c main_v13) (V m c main_v15) h b row
      = fun j => (((∑ d : Fin 64, k (ix4 b j g d) * (q (ix5 b i g n d) * (1 / 8))) * (Real.log 2)⁻¹ : ℝ) : EReal) := by
    funext j
    rw [score_eq m c g n h hh row b i hb hi, hq, hk, Finset.sum_mul, ← coe_sum]
    refine Finset.sum_congr rfl fun d _ => ?_
    rw [← EReal.coe_mul, ← EReal.coe_mul]
    congr 1; ring
  have hv : ∀ j, (V m c main_v20 : FVec Ideal S2x8x8448x128 .bf16) (ix4 g b j lane) = argV m c (ix4 b j g d) := fun j => by
    rw [v_pack, if_pos hl]
    exact congrArg (fun x => argV m c (ix4 b j g x)) (Fin.ext hd.symm)
  have h1 : ∀ j, (V m c main_v20 : FVec Ideal S2x8x8448x128 .bf16) (ix4 g b j one) = (1 : EReal) := fun j => by rw [v_pack, if_neg ho]
  unfold attend
  simp only [hs, hs2, hv, h1, mul_one]
  exact attend_eq _ _

/-- The kernel's result array is the reference's. -/
theorem array_eq (q : S8x8192x2x4x64.Idx → ℝ) (k : S8x8448x2x64.Idx → ℝ) (hq : argQ m c = fun i => ((q i : ℝ) : EReal)) (hk : argK m c = fun i => ((k i : ℝ) : EReal)) :
    (dats m 0 c).arrAt 3 cfg0.N = out (argQ m c) (argK m c) (argV m c) := by
  refine (dats m 0 c).arrAt_eq_of_covers 3 _ (by decide +kernel) fun t hf y => ?_
  blk_simp
  rw [after0_3]
  have ht : t.val < 256 := t.isLt
  obtain ⟨r, col, rfl⟩ : ∃ (r : Fin 256) (col : Fin 512), y = ix2 r col := ⟨y 0, y 1, by funext a; fin_cases a <;> rfl⟩
  have e : (win0_3.blk t).view.emb (ix2 r col) = ix2 (⟨256 * t.val + r.val, by omega⟩ : Fin 65536) col := by
    funext a
    apply Fin.ext
    fin_cases a
    · blk_simp [idx t]; dsimp only [ix2]; omega
    · blk_simp [idx t]; rfl
  have ec : col = ⟨128 * (col.val / 128) + col.val % 128, by omega⟩ := Fin.ext (by dsimp only; omega)
  rw [e]
  have hp := piece m c t r ⟨col.val / 128, by omega⟩ ⟨col.val % 128, by omega⟩ ⟨256 * t.val + r.val, by omega⟩ ⟨t.val / 32, by omega⟩ rfl rfl
  dsimp only at hp
  rw [← ec] at hp
  have hr := fun g d => out_apply (argQ m c) (argK m c) (argV m c) (⟨256 * t.val + r.val, by omega⟩ : Fin 65536) col ⟨t.val / 32, by omega⟩
    ⟨(256 * t.val + r.val) % 8192, by omega⟩ g ⟨col.val / 128, by omega⟩ d (by dsimp only; omega) rfl rfl
  have hn : col.val / 128 < 4 := by omega
  have ha := fun g h hh lane one hl ho d hd => attend_packed m c q k hq hk g ⟨col.val / 128, hn⟩ h hh (⟨256 * t.val + r.val, by omega⟩ : Fin 65536)
    ⟨t.val / 32, by omega⟩ ⟨(256 * t.val + r.val) % 8192, by omega⟩ (by dsimp only; omega) rfl lane one hl ho d hd
  refine hp.trans ?_
  split
  · exact (ha 0 _ (by simp) _ _ (by simp; omega) (by simp) ⟨col.val % 64, by omega⟩ (by dsimp only; omega)).trans (hr 0 ⟨col.val % 64, by omega⟩ (by simp; omega) rfl).symm
  · exact (ha 1 _ (by simp) _ _ (by simp; omega) (by simp) ⟨col.val % 64, by omega⟩ (by dsimp only; omega)).trans (hr 1 ⟨col.val % 64, by omega⟩ (by simp; omega) rfl).symm

end Cert.Attn

end
-- ==== Proof.AttnFrame.lean ====
/- The attention's program as compiled and its program read at the extended reals have the same text: one run serves both. -/
module

public import proofs.«01_k».proof.Proof.Gen.AttentionIdeal.Frame
public import proofs.«01_k».proof.Proof.Gen.Attention

@[expose] public section

noncomputable section

namespace Cert.Attn

open Idealize.ShloMosaic

variable {F : FTy → Type} [FloatOps F]

/-- The kernel bodies of the two programs are the same. -/
theorem bodies_eq : Cert.Attention.defs₀ (F := F) = Cert.AttentionIdeal.defs₀ (F := F) := by
  refine congrArg Defs.onTc ?_
  funext ℓ a
  match ℓ, a with
  | 0, (t, s) => rfl

/-- So the two programs call the same pipelines. -/
theorem defs_eq : Cert.Attention.defs (F := F) = Cert.AttentionIdeal.defs (F := F) :=
  congrArg (Pipeline.defs (Cert.AttentionIdeal.pcfgs (F := F))) bodies_eq

open Cert.Attention in
/-- The frame of the program as compiled. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.AttentionIdeal.Gen.frame m ρ

end Cert.Attn

end
-- ==== Proof.ExpRun.lean ====
/- The experts' kernel body at the extended reals, run on any staging buffers: in a block past the last used one it writes zeros,
   otherwise both experts' rows, interleaved. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.VecWindow
public import Idealize.ShloMosaic.Lib.Pipeline.ValueKit.Basic
public import Idealize.ShloMosaic.Lib.Tactic
public import Idealize.ShloMosaic.Lib.WordCmp

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tables as the body is handed them. -/
abbrev loM : Memref sig .tc .smem S156 .i32 := Memref.whole main_arg0
abbrev hiM : Memref sig .tc .smem S156 .i32 := Memref.whole main_arg1
abbrev usedM : Memref sig .tc .smem S1 .i32 := Memref.whole main_arg2

/-- A table's contents on a core, and half of it held: the pipeline keeps the other half. -/
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- The number of used blocks as the body reads it from its table. -/
abbrev usedOf (c : Dev nD) (f : TableBuf (F := F) c usedM) : BitVec 32 :=
  usedM.view.readAt (Elt F) (Rect.unit (s := S1) ![0] S1.size inb_S1_S1_0).toLoadRect f (Shape.Idx.first (numel1_S1.symm ▸ Nat.one_pos))

/-- A block is computed exactly when it comes before the number of used blocks. -/
theorem used_iff (i : grid0.Coords) (v : BitVec 32) : k0_cond2 i v = 1#1 ↔ (BitVec.ofNat 32 (i 0).val).toInt < v.toInt := by
  have key : ∀ b : BitVec 1, Scalar.cmpi .ne (Scalar.extui b : BitVec 32) 0#32 = 1#1 ↔ b = 1#1 := by decide
  refine (key _).trans ?_
  show BitVec.ofBool (decide ((BitVec.ofNat 32 (i 0).val).toInt < v.toInt)) = 1#1 ↔ _
  by_cases h : (BitVec.ofNat 32 (i 0).val).toInt < v.toInt <;> simp [h]

/-- The two conditions are each other's negation. -/
theorem past_iff (i : grid0.Coords) (v : BitVec 32) : k0_cond1 i v = 1#1 ↔ ¬ k0_cond2 i v = 1#1 := by
  rw [used_iff]
  have key : ∀ b : BitVec 1, Scalar.cmpi .ne (Scalar.extui b : BitVec 32) 0#32 = 1#1 ↔ b = 1#1 := by decide
  refine (key _).trans ?_
  show BitVec.ofBool (decide (v.toInt ≤ (BitVec.ofNat 32 (i 0).val).toInt)) = 1#1 ↔ _
  by_cases h : v.toInt ≤ (BitVec.ofNat 32 (i 0).val).toInt
  · simp [h]
  · simp [h]

/-- A load of a whole staging buffer reads what it holds. -/
theorem loaded {S : Shape} {e : EltTy} {M : Memref sig .tc .vmem S e} (hM : M.IsWhole) {off : Fin S.rank → ℕ}
    (inb : ∀ a, off a + S.size a ≤ S.size a) (x : S.Idx → Elt F e) :
    M.view.readAt (Elt F) (Rect.unit off S.size inb).toLoadRect (hM.unread x) = x :=
  (View.readAt_full _ _ _).trans (hM.read_unread _)

/-- What the body leaves of a block: zeros past the last used block, else the two halves' rows interleaved. -/
def result (i : grid0.Coords) (used : BitVec 32) (x0 : Vec F S1024x512 .bf16) (x1 x2 : Vec F S1x1x1024x512 .bf16) (x3 : Vec F S1x1x512x1024 .bf16)
    (x4 x5 : Vec F S1x1x1024x512 .bf16) (x6 : Vec F S1x1x512x1024 .bf16) : Vec F S1024x1024 .bf16 :=
  if k0_cond2 i used = 1#1 then k0_pay2 (k0_pay3 x0) (k0_pay4 x0 x1 x2 x3) (k0_pay5 x4) x5 x6 else k0_pay1

set_option maxHeartbeats 1000000 in
/-- The body runs, leaves its inputs and tables as they were, and the result in the output's buffer. -/
theorem run (c : Dev nD) (i : grid0.Coords) (h1 : loM.IsWhole) (h2 : hiM.IsWhole) (h3 : usedM.IsWhole)
    (arg4 : Memref sig .tc .vmem S1024x512 .bf16) (harg4 : arg4.IsWhole) (arg5 : Memref sig .tc .vmem S1x1x1024x512 .bf16) (harg5 : arg5.IsWhole)
    (arg6 : Memref sig .tc .vmem S1x1x1024x512 .bf16) (harg6 : arg6.IsWhole) (arg7 : Memref sig .tc .vmem S1x1x512x1024 .bf16) (harg7 : arg7.IsWhole)
    (arg8 : Memref sig .tc .vmem S1x1x1024x512 .bf16) (harg8 : arg8.IsWhole) (arg9 : Memref sig .tc .vmem S1x1x1024x512 .bf16) (harg9 : arg9.IsWhole)
    (arg10 : Memref sig .tc .vmem S1x1x512x1024 .bf16) (harg10 : arg10.IsWhole) (arg11 : Memref sig .tc .vmem S1024x1024 .bf16) (harg11 : arg11.IsWhole)
    (x0 : Vec F S1024x512 .bf16) (x1 x2 : Vec F S1x1x1024x512 .bf16) (x3 : Vec F S1x1x512x1024 .bf16) (x4 x5 : Vec F S1x1x1024x512 .bf16)
    (x6 : Vec F S1x1x512x1024 .bf16) (t0 : TableBuf (F := F) c loM) (t1 : TableBuf (F := F) c hiM) (t2 : TableBuf (F := F) c usedM)
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare x6 ∗ (∃ d, owns (c : Thread nD τ) arg11 fullShare d)
        ∗ tableHeld c loM t0 ∗ tableHeld c hiM t1 ∗ tableHeld c usedM t2
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare x6 ∗ owns (c : Thread nD τ) arg11 fullShare (result i (usedOf c t2) x0 x1 x2 x3 x4 x5 x6)
            ∗ tableHeld c loM t0 ∗ tableHeld c hiM t1 ∗ tableHeld c usedM t2) -∗ K ⟨⟩))
      ⊢ wp frame (wpE (defs₀ (F := F)) Variants.none c none) E
          (cc0_experts i loM h1 hiM h2 usedM h3 arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  by_cases hc : k0_cond2 i (usedOf c t2) = 1#1
  · have hp : ¬ k0_cond1 i (usedOf c t2) = 1#1 := fun h => (past_iff i _).mp h hc
    rw [result, if_pos hc]
    sl_exec (disch := first | sl_exact hc | sl_exact hp)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr
      swap; · iexact H7
      ipureintro
      refine (View.read_writes_full _ _ _ _ _).trans ?_
      delta run.sl.r_1 run.sl.r_2 run.sl.r_3 run.sl.v44 run.sl.v57
      exact congr (congr (congr (congr (congrArg k0_pay2 (congrArg k0_pay3 (loaded harg4 _ x0)))
        (congr (congr (congr (congrArg k0_pay4 (loaded harg4 _ x0)) (loaded harg5 _ x1)) (loaded harg6 _ x2)) (loaded harg7 _ x3)))
        (congrArg k0_pay5 (loaded harg8 _ x4))) (loaded harg9 _ x5)) (loaded harg10 _ x6)
    isplitl [HT0]; · iexact HT0
    isplitl [HT1]; · iexact HT1
    iexact HT2
  · have hp : k0_cond1 i (usedOf c t2) = 1#1 := (past_iff i _).mpr hc
    rw [result, if_neg hc]
    sl_exec (disch := first | sl_exact hc | sl_exact hp)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr
      swap; · iexact H7
      ipureintro
      exact View.read_writes_full _ _ _ _ _
    isplitl [HT0]; · iexact HT0
    isplitl [HT1]; · iexact HT1
    iexact HT2

end Cert.Exp

end
-- ==== Proof.ExpFrame.lean ====
/- The launch of the experts' program at the extended reals: what its staging buffers hold point by point, the body's obligation
   there, and the run of the whole program, for any tables within bounds. -/
module

public import proofs.«01_k».proof.Proof.ExpRun
public import Idealize.ShloMosaic.Lib.Claim

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Every buffer of a core as the region finds it: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The buffers the host operations write: none is an argument. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) _ _ (List.forall_iff_forall_mem.mp (by
    obtain ⟨h0, h1, h2, h3, h4, h5, h6, h7, h8, h9⟩ := hb
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The tables -/

/-- The tables as the region finds them. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block that the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables that the region hands the body, one by one. -/
theorem held_eq (c : Dev nD) : (Pipeline.ΦT pre0 (tbl m) c : sProp 𝕄)
    = iprop(tableHeld c loM (tbl m 0) ∗ tableHeld c hiM (tbl m 1) ∗ tableHeld c usedM (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- A window's block at a point, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's staging buffer holds after a point. -/
def left (hO : Ok m) (c : Dev nD) (t : Fin (cfgM m hO).N) : Vec F S1024x1024 .bf16 :=
  result (grid0.coords t) (usedOf c (tbl m 2)) (iblk m hO c 0 t) (iblk m hO c 1 t) (iblk m hO c 2 t) (iblk m hO c 3 t)
    (iblk m hO c 4 t) (iblk m hO c 5 t) (iblk m hO c 6 t)

/-- What the pipeline's buffers hold: each input its block, the output what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => left m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_in (hO : Ok m) (c : Dev nD) (t : Fin (cfgM m hO).N) :
    (dats m hO 0 c).after 0 t = iblk m hO c 0 t ∧ (dats m hO 0 c).after 1 t = iblk m hO c 1 t ∧ (dats m hO 0 c).after 2 t = iblk m hO c 2 t
      ∧ (dats m hO 0 c).after 3 t = iblk m hO c 3 t ∧ (dats m hO 0 c).after 4 t = iblk m hO c 4 t ∧ (dats m hO 0 c).after 5 t = iblk m hO c 5 t
      ∧ (dats m hO 0 c).after 6 t = iblk m hO c 6 t := by
  refine ⟨?_, ?_, ?_, ?_, ?_, ?_, ?_⟩ <;> dsimp only [dats] <;> rfl
theorem after_out (hO : Ok m) (c : Dev nD) (t : Fin (cfgM m hO).N) : (dats m hO 0 c).after 7 t = left m hO c t := by dsimp only [dats]; rfl

/-- An input's buffer holds its block whenever the body runs, fetched there or not. -/
theorem before_in (hO : Ok m) (c : Dev nD) (w : Fin (cfgM m hO).W) (hw : w.val ≠ 7) (t : Fin (cfgM m hO).N) (d) :
    (dats m hO 0 c).before w t d = iblk m hO c w t :=
  match w, hw with
  | ⟨0, h⟩, _ | ⟨1, h⟩, _ | ⟨2, h⟩, _ | ⟨3, h⟩, _ | ⟨4, h⟩, _ | ⟨5, h⟩, _ | ⟨6, h⟩, _ =>
    ((dats m hO 0 c).before_in_eq_fetched ⟨_, h⟩ rfl (fun _ => rfl) (fun _ _ _ => rfl) (fun _ => rfl) t d).trans rfl
  | ⟨7, _⟩, hw => absurd rfl hw

/-! ## The body's obligation -/

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ owns (c : Thread nD τ) (spec0_7.stage ((cfgM m hO).slots t 7)) fullShare ((dats m hO 0 c).after 7 t))

/-- The body at a point, on what the pipeline calls it with. -/
abbrev bodyAt (hO : Ok m) (t : Fin (cfgM m hO).N) : Prog (TpuEff nD τ sig (Elt F) Λ₀ .tc) PUnit :=
  cc0_experts (grid0.coords t) loM (Memref.isWhole_whole _) hiM (Memref.isWhole_whole _) usedM (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    (spec0_6.stage ((cfgM m hO).slots t 6)) (hstage0_6 (((cfgM m hO).slots t 6).cast nbuf0_6))
    (spec0_7.stage ((cfgM m hO).slots t 7)) (hstage0_7 (((cfgM m hO).slots t 7).cast nbuf0_7))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  obtain ⟨a0, a1, a2, a3, a4, a5, a6⟩ := after_in m hO c t
  unfold bodyPre bodyPost
  simp only [before_in m hO c 0 (show (0 : ℕ) ≠ 7 by decide), before_in m hO c 1 (show (1 : ℕ) ≠ 7 by decide), before_in m hO c 2 (show (2 : ℕ) ≠ 7 by decide), before_in m hO c 3 (show (3 : ℕ) ≠ 7 by decide),
    before_in m hO c 4 (show (4 : ℕ) ≠ 7 by decide), before_in m hO c 5 (show (5 : ℕ) ≠ 7 by decide), before_in m hO c 6 (show (6 : ℕ) ≠ 7 by decide)]
  rw [show (dats m hO 0 c).Φ t.succ = (dats m hO 0 c).Φ t.castSucc from rfl,
    show (dats m hO 0 c).owesAt () t.succ = (dats m hO 0 c).owesAt () t.castSucc from rfl,
    a0, a1, a2, a3, a4, a5, a6, after_out,
    show (dats m hO 0 c).Φ t.castSucc = iprop(Pipeline.ΦA spec0 c ∗ Pipeline.ΦT pre0 (tbl m) c) from rfl, held_eq]
  unfold left
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ (iblk m hO c 0 t) (iblk m hO c 1 t) (iblk m hO c 2 t) (iblk m hO c 3 t)
    (iblk m hO c 4 t) (iblk m hO c 5 t) (iblk m hO c 6 t) (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  isplitl [HT2]; · iexact HT2
  iintro ⟨H0, H1, H2, H3, H4, H5, H6, H7, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output's block is written at every point: one of the two conditions holds. -/
theorem never_idle (hO : Ok m) (i : grid0.Coords) : (cfgM m hO).idle 7 i = false := by
  show (!(k0_cond1 i ((tbl m).atD 2 ![0]) == 1#1) && !(k0_cond2 i ((tbl m).atD 2 ![0]) == 1#1)) = false
  by_cases h : k0_cond2 i ((tbl m).atD 2 ![0]) = 1#1
  · simp [h]
  · simp [(past_iff i _).mpr h]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  dsimp only
  rw [show idle0 (tbl m) 7 ((pcfg0.gridAt (tbl m)).coords t) = false from never_idle m hO _]
  exact .rfl

/-! ## The run -/

set_option backward.isDefEq.respectTransparency.types false in
/-- The whole program terminates with every array at what the pipeline writes there, and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- An argument ends as it was launched. -/
theorem kept (c : Dev nD) (b : Ref sig .tc) (s : MemSt nD τ sig (Elt F)) (h : ∀ b ∈ Pipeline.restRefs sig spec0, s.mem ((c.tc : Thread nD τ).loc b) = V m c b)
    (hb : b ∈ Pipeline.restRefs sig spec0 ∧ b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    s.mem ((c.tc : Thread nD τ).loc b) = m ((c.tc : Thread nD τ).loc b) := (h b hb.1).trans (V_arg m c b hb.2)

/-- The frame. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨kept m c _ r.2 (h.1 c).2 (by decide), kept m c _ r.2 (h.1 c).2 (by decide), kept m c _ r.2 (h.1 c).2 (by decide),
    kept m c _ r.2 (h.1 c).2 (by decide), kept m c _ r.2 (h.1 c).2 (by decide), kept m c _ r.2 (h.1 c).2 (by decide), kept m c _ r.2 (h.1 c).2 (by decide)⟩, h.2⟩)
    (run_quiescent m ρ hO)

end Cert.Exp

end
-- ==== Proof.ExpMath.lean ====
/- What one expert makes of one row: a gated layer of 512 hidden units. -/
module

public import Idealize.ShloMosaic.PureOps.Ideal
public import Idealize.ShloMosaic.Lib.IdealHost
public import Idealize.ShloMosaic.Lib.ValueIdx

@[expose] public section

noncomputable section

namespace Cert.Exp

open Idealize.ShloMosaic

/-- `g` times its logistic. -/
def silu (g : EReal) : EReal := g * Ideal.div 1 (1 + Ideal.exp (-g))

/-- One output of an expert: the hidden units are the gate's silu times the up projection, and the down projection sums them. -/
def expert (x : Fin 1024 → EReal) (gate up : Fin 1024 → Fin 512 → EReal) (down : Fin 512 → Fin 1024 → EReal) (o : Fin 1024) : EReal :=
  ∑ f : Fin 512, silu (∑ l : Fin 1024, x l * gate l f) * (∑ l : Fin 1024, x l * up l f) * down f o

end Cert.Exp

end
-- ==== Proof.ExpTables.lean ====
/- The experts' tables within bounds: each block's two experts are among the sixteen and at least one block is used, so every
   block that the tables choose lies inside its array. -/
module

public import proofs.«01_k».proof.Proof.Gen.ExpertsIdeal
public import proofs.«01_k».proof.Proof.Gen.Experts
public import Idealize.ShloMosaic.Lib.WordCmp

@[expose] public section

noncomputable section

namespace Cert.Exp

open Idealize.ShloMosaic

/-- The tables are those of a routing: each expert's number below sixteen, and at least one block used. -/
structure Routed (lo hi : IVec ⟨1, ![156]⟩ 32) (used : IVec ⟨1, ![1]⟩ 32) : Prop where
  lo : ∀ j, (lo j).toNat < 16
  hi : ∀ j, (hi j).toNat < 16
  used : ∀ j, 1 ≤ (used j).toInt

/-- The row block that a point reads: its own, or the last used one. -/
theorem rowBlock (i : Fin 156) (v : BitVec 32) (h : 1 ≤ v.toInt) :
    (Scalar.minsi (BitVec.ofNat 32 i.val) (Scalar.subi v 1#32)).toNat = min i.val (v.toNat - 1) := by
  have hv : v.toNat < 2 ^ 31 := by rw [BitVec.toInt] at h; omega
  have hv1 : 1 ≤ v.toNat := by rw [BitVec.toInt] at h; omega
  have hs : (v - 1#32).toNat = v.toNat - 1 := by rw [BitVec.toNat_sub]; simp; omega
  have hi : (BitVec.ofNat 32 i.val).toNat = i.val := by simp; omega
  have hsi : (v - 1#32).toInt = (v.toNat : Int) - 1 := by rw [BitVec.toInt, hs]; omega
  have hii : (BitVec.ofNat 32 i.val).toInt = i.val := by rw [BitVec.toInt, hi]; omega
  show (if (BitVec.ofNat 32 i.val).slt (v - 1#32) then BitVec.ofNat 32 i.val else v - 1#32).toNat = _
  simp only [BitVec.slt, hii, hsi, decide_eq_true_eq]
  split
  · rw [hi]; omega
  · rw [hs]; omega

section
open Cert.ExpertsIdeal Cert.ExpertsIdeal.Gen

variable {F : FTy → Type} [FloatOps F]

theorem ok_of (pf : pre0.Contents (Elt F)) (h : Routed (pf 0) (pf 1) (pf 2)) : ok0 pf := by
  have up (n : ℕ) (hn : n < 16) : ∀ a : Fin 4, (![3, n, 0, 0] a + 1) * S1x1x1024x512.size a ≤ S4x16x1024x512.size a := by
    intro a; fin_cases a <;> simp [S1x1x1024x512, S4x16x1024x512]; omega
  have down (n : ℕ) (hn : n < 16) : ∀ a : Fin 4, (![3, n, 0, 0] a + 1) * S1x1x512x1024.size a ≤ S4x16x512x1024.size a := by
    intro a; fin_cases a <;> simp [S1x1x512x1024, S4x16x512x1024]; omega
  have rows (n : ℕ) (hn : n < 156) : ∀ a : Fin 2, (![n, 0] a + 1) * S1024x512.size a ≤ S159744x512.size a := by
    intro a; fin_cases a <;> simp [S1024x512, S159744x512]; omega
  refine ⟨fun i => ⟨?_, .inr (Affine.block_words_dvd (of_decide_eq_true rfl) (by decide))⟩,
    fun i => ⟨up _ (h.lo _), .inr (Affine.block_words_dvd (of_decide_eq_true rfl) (by decide))⟩,
    fun i => ⟨up _ (h.lo _), .inr (Affine.block_words_dvd (of_decide_eq_true rfl) (by decide))⟩,
    fun i => ⟨down _ (h.lo _), .inr (Affine.block_words_dvd (of_decide_eq_true rfl) (by decide))⟩,
    fun i => ⟨up _ (h.hi _), .inr (Affine.block_words_dvd (of_decide_eq_true rfl) (by decide))⟩,
    fun i => ⟨up _ (h.hi _), .inr (Affine.block_words_dvd (of_decide_eq_true rfl) (by decide))⟩,
    fun i => ⟨down _ (h.hi _), .inr (Affine.block_words_dvd (of_decide_eq_true rfl) (by decide))⟩⟩
  exact rows _ ((rowBlock (i 0) _ (h.used _)).trans_lt (lt_of_le_of_lt (min_le_left _ _) (i 0).isLt))

end

theorem ok_bits_of {F : FTy → Type} [BitOps F] (pf : Cert.Experts.pre0.Contents (Elt F)) (h : Routed (pf 0) (pf 1) (pf 2)) :
    Cert.Experts.ok0 pf := ok_of (F := F) pf h

end Cert.Exp

end
-- ==== Proof.ExpTile.lean ====
/- One block of the experts' kernel: a row of the block is its first or its second expert's, by the row's parity. -/
module

public import proofs.«01_k».proof.Proof.ExpFrame
public import proofs.«01_k».proof.Proof.ExpMath
public import proofs.«01_k».proof.Proof.ExpTables
public import proofs.«01_k».proof.Proof.AttnMath
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

noncomputable section

namespace Cert.Exp

open Cert.ExpertsIdeal Cert.ExpertsIdeal.Gen Idealize.ShloMosaic

set_option maxRecDepth 16384

/-- A row as the body puts it together from two packed rows. -/
theorem row_apply (x : Vec Ideal S1024x512 .bf16) (r : Fin 512) (l : Fin 1024) :
    k0_pay3 x (ix2 r l) = x (ix2 ⟨2 * r.val + l.val / 512, by omega⟩ ⟨l.val % 512, by omega⟩) := by
  pointwise [k0_pay3]
  split
  · congr 2 <;> apply Fin.ext <;> dsimp only <;> omega
  · congr 2 <;> apply Fin.ext <;> dsimp only <;> omega

theorem lo_apply (x : Vec Ideal S1024x512 .bf16) (wg wu : Vec Ideal S1x1x1024x512 .bf16) (wd : Vec Ideal S1x1x512x1024 .bf16) (r : Fin 512) (o : Fin 1024) :
    k0_pay4 x wg wu wd (ix2 r o) = expert (fun l => k0_pay3 x (ix2 r l)) (fun l f => wg (ix4 0 0 l f)) (fun l f => wu (ix4 0 0 l f)) (fun f o => wd (ix4 0 0 f o)) o := by
  generalize hx : k0_pay3 x = y
  unfold k0_pay4
  rw [hx]
  pointwise
  simp only [zero_sub]
  rfl

theorem pair_apply (y : FVec Ideal S512x1024 .bf16) (z : FVec Ideal S512x1024 .f32) (wg : Vec Ideal S1x1x1024x512 .bf16) (wu : Vec Ideal S1x1x1024x512 .bf16) (wd : Vec Ideal S1x1x512x1024 .bf16)
    (r : Fin 512) (p : Fin 2) (o : Fin 1024) :
    k0_pay2 y z (k0_pay5 wg) wu wd (ix2 ⟨2 * r.val + p.val, by omega⟩ o) = if p.val = 0 then z (ix2 r o) else
      expert (fun l => y (ix2 r l)) (fun l f => wg (ix4 0 0 l f)) (fun l f => wu (ix4 0 0 l f)) (fun f o => wd (ix4 0 0 f o)) o := by
  pointwise [k0_pay2, k0_pay5]
  have e : (⟨(2 * r.val + p.val) / 2, by omega⟩ : Fin 512) = r := Fin.ext (by dsimp only; omega)
  rw [e]
  simp only [zero_sub]
  exact if_congr (by omega) rfl rfl

end Cert.Exp

end
-- ==== Proof.ExpBlock.lean ====
/- The arrays that the experts' kernel is called with, read at an index, and the blocks that its tables choose of them. -/
module

public import proofs.«01_k».proof.Proof.ExpTile

@[expose] public section

noncomputable section

namespace Cert.Exp

open Cert.ExpertsIdeal Cert.ExpertsIdeal.Gen Idealize.ShloMosaic

set_option maxRecDepth 16384

variable (m : (ℓ : Loc nD τ sig) → Buf (Elt Ideal) ℓ) (c : Dev nD)

/-- The first experts' table as launched. -/
abbrev argLo : IVec S156 32 := m ((c.tc : Thread nD τ).loc main_arg0)
/-- The second experts' table as launched. -/
abbrev argHi : IVec S156 32 := m ((c.tc : Thread nD τ).loc main_arg1)
/-- The number of used blocks as launched. -/
abbrev argUsed : IVec S1 32 := m ((c.tc : Thread nD τ).loc main_arg2)
/-- The rows as launched. -/
abbrev argX : FVec Ideal S79872x1024 .f32 := m ((c.tc : Thread nD τ).loc main_arg3)
/-- The gate weights as launched. -/
abbrev argG : FVec Ideal S4x16x1024x512 .f32 := m ((c.tc : Thread nD τ).loc main_arg4)
/-- The up weights as launched. -/
abbrev argU : FVec Ideal S4x16x1024x512 .f32 := m ((c.tc : Thread nD τ).loc main_arg5)
/-- The down weights as launched. -/
abbrev argD : FVec Ideal S4x16x512x1024 .f32 := m ((c.tc : Thread nD τ).loc main_arg6)

/-- The packed rows: row `q` in two halves, one under the other. -/
theorem x_pack (q : Fin 79872) (p : Fin 2) (row : Fin 159744) (hr : row.val = 2 * q.val + p.val) (l : Fin 512) :
    (V m c main_v6 : FVec Ideal S159744x512 .bf16) (ix2 row l) = argX m c (ix2 q ⟨512 * p.val + l.val, by omega⟩) := by
  unfold V
  after_reads_at
  split
  · after_reads_at
    exact congrArg (argX m c) (by congr 1 <;> apply Fin.ext <;> dsimp only <;> omega)
  · after_reads_at
    exact congrArg (argX m c) (by congr 1 <;> apply Fin.ext <;> dsimp only <;> omega)

theorem g_pack (i : S4x16x1024x512.Idx) : (V m c main_v7 : FVec Ideal S4x16x1024x512 .bf16) i = argG m c i := by
  unfold V
  after_reads_at
theorem u_pack (i : S4x16x1024x512.Idx) : (V m c main_v8 : FVec Ideal S4x16x1024x512 .bf16) i = argU m c i := by
  unfold V
  after_reads_at
theorem d_pack (i : S4x16x512x1024.Idx) : (V m c main_v9 : FVec Ideal S4x16x512x1024 .bf16) i = argD m c i := by
  unfold V
  after_reads_at

/-! ## The tables -/

theorem tbl_lo : (tbl m 0 : IVec S156 32) = argLo m c := (V_pre m c 0).symm.trans (V_arg m c main_arg0 (by decide))
theorem tbl_hi : (tbl m 1 : IVec S156 32) = argHi m c := (V_pre m c 1).symm.trans (V_arg m c main_arg1 (by decide))
theorem tbl_used : (tbl m 2 : IVec S1 32) = argUsed m c := (V_pre m c 2).symm.trans (V_arg m c main_arg2 (by decide))

/-- The word of a table that a point reads. -/
theorem word_at (f : IVec S156 32) (i : grid0.Coords) (h : S1.numel = 1) :
    f ((Rect.unit (s := S156) ![(Scalar.indexCast (BitVec.ofNat 32 (i 0).val) : Index).toNat] S1.size (k0_off1_inb i)).emb (Shape.Idx.first (h.symm ▸ Nat.one_pos)))
      = f (ix1 (i 0)) := by
  refine congrArg f (funext fun a => Fin.ext ?_)
  fin_cases a
  exact (ValueKit.rect_emb_unit_val _ _ _ _ _).trans (by
    have e : (Scalar.indexCast (BitVec.ofNat 32 (i 0).val) : Index).toNat = (i 0).val := congrFun (k0_off1_eq i) 0
    show (Scalar.indexCast (BitVec.ofNat 32 (i 0).val) : Index).toNat + 0 = (i 0).val
    rw [e]; rfl)

variable (hO : Ok m) (t : Fin (cfgM m hO).N)

/-- The one index of an array of one word. -/
theorem one_index (i j : S1.Idx) : i = j := funext fun a => by
  fin_cases a
  exact Subsingleton.elim (α := Fin 1) (i 0) (j 0)

/-- The number of used blocks as the body reads it. -/
theorem used_eq : usedOf c (tbl m 2) = argUsed m c (ix1 0) := by
  rw [← tbl_used]
  exact congrArg (tbl m 2 : IVec S1 32) (one_index _ _)

/-- The rows' block at a used point: the point's own. -/
theorem index_x (h : (BitVec.ofNat 32 (grid0.coords t 0).val).toInt < (argUsed m c (ix1 0)).toInt) (h1 : 1 ≤ (argUsed m c (ix1 0)).toInt) :
    ((cfgM m hO).win 0).index t = ![(grid0.coords t 0).val, 0] := by
  have e : (tbl m 2 : IVec S1 32) ((Rect.unit (s := S1) ![0] S1.size inb_S1_S1_0).emb (Shape.Idx.first (numel1_S1.symm ▸ Nat.one_pos))) = argUsed m c (ix1 0) := by
    rw [← tbl_used]
    exact congrArg (tbl m 2 : IVec S1 32) (one_index _ _)
  refine (congrArg (fun v : BitVec 32 => ![(Scalar.minsi (BitVec.ofNat 32 (grid0.coords t 0).val) (Scalar.subi v 1#32)).toNat, 0]) e).trans ?_
  rw [rowBlock (grid0.coords t 0) _ h1]
  have hb : (grid0.coords t 0).val < 156 := (grid0.coords t 0).isLt
  have hi : (BitVec.ofNat 32 (grid0.coords t 0).val).toInt = (grid0.coords t 0).val := by
    rw [BitVec.toInt, BitVec.toNat_ofNat]; omega
  rw [hi, BitVec.toInt] at h
  rw [BitVec.toInt] at h1
  rw [Nat.min_eq_left (by omega)]

theorem index_lo : ((cfgM m hO).win 1).index t = ![3, (argLo m c (ix1 (grid0.coords t 0))).toNat, 0, 0]
    ∧ ((cfgM m hO).win 2).index t = ![3, (argLo m c (ix1 (grid0.coords t 0))).toNat, 0, 0]
    ∧ ((cfgM m hO).win 3).index t = ![3, (argLo m c (ix1 (grid0.coords t 0))).toNat, 0, 0] := by
  rw [← tbl_lo]
  have h := congrArg (fun v : BitVec 32 => ![3, v.toNat, 0, 0]) (word_at (tbl m 0) (grid0.coords t) numel1_S1)
  exact ⟨h, h, h⟩

theorem index_hi : ((cfgM m hO).win 4).index t = ![3, (argHi m c (ix1 (grid0.coords t 0))).toNat, 0, 0]
    ∧ ((cfgM m hO).win 5).index t = ![3, (argHi m c (ix1 (grid0.coords t 0))).toNat, 0, 0]
    ∧ ((cfgM m hO).win 6).index t = ![3, (argHi m c (ix1 (grid0.coords t 0))).toNat, 0, 0] := by
  rw [← tbl_hi]
  have h := congrArg (fun v : BitVec 32 => ![3, v.toNat, 0, 0]) (word_at (tbl m 1) (grid0.coords t) numel1_S1)
  exact ⟨h, h, h⟩

/-! ## The blocks -/

/-- Where an expert's weights lie among all. -/
theorem place {A B : ℕ} (e : Fin 16) (n : ℕ) (he : n = e.val) (x : Fin A) (y : Fin B) (a : Fin 4) :
    ![3, n, 0, 0] a * ![1, 1, A, B] a + (ix4 (n0 := 1) (n1 := 1) 0 0 x y a).val = (ix4 (n0 := 4) 3 e x y a).val := by
  subst he
  fin_cases a
  · rfl
  · show e.val * 1 + 0 = e.val; omega
  · show 0 * A + x.val = x.val; omega
  · show 0 * B + y.val = y.val; omega

theorem x_block (h : (BitVec.ofNat 32 (grid0.coords t 0).val).toInt < (argUsed m c (ix1 0)).toInt) (h1 : 1 ≤ (argUsed m c (ix1 0)).toInt)
    (y : Fin 1024) (l : Fin 512) (row : Fin 159744) (hr : row.val = 1024 * (grid0.coords t 0).val + y.val) :
    (iblk m hO c 0 t : Vec Ideal S1024x512 .bf16) (ix2 y l) = (V m c main_v6 : FVec Ideal S159744x512 .bf16) (ix2 row l) := by
  refine congrArg (V m c main_v6 : FVec Ideal S159744x512 .bf16) (funext fun a => Fin.ext ?_)
  refine (Pipeline.Window.rect_emb_val ((cfgM m hO).win 0) t (ix2 y l) a).trans ?_
  rw [index_x m c hO t h h1]
  fin_cases a
  · show (grid0.coords t 0).val * 1024 + y.val = row.val; omega
  · show 0 * 512 + l.val = l.val; omega

/-- The first expert's weights at a point. -/
theorem lo_blocks (e : Fin 16) (he : (argLo m c (ix1 (grid0.coords t 0))).toNat = e.val) (l : Fin 1024) (f : Fin 512) :
    (iblk m hO c 1 t : Vec Ideal S1x1x1024x512 .bf16) (ix4 0 0 l f) = argG m c (ix4 3 e l f)
    ∧ (iblk m hO c 2 t : Vec Ideal S1x1x1024x512 .bf16) (ix4 0 0 l f) = argU m c (ix4 3 e l f)
    ∧ (iblk m hO c 3 t : Vec Ideal S1x1x512x1024 .bf16) (ix4 0 0 f l) = argD m c (ix4 3 e f l) := by
  obtain ⟨i1, i2, i3⟩ := index_lo m c hO t
  refine ⟨Eq.trans (congrArg (V m c main_v7 : FVec Ideal S4x16x1024x512 .bf16) (funext fun a => Fin.ext ?_)) (g_pack m c _),
    Eq.trans (congrArg (V m c main_v8 : FVec Ideal S4x16x1024x512 .bf16) (funext fun a => Fin.ext ?_)) (u_pack m c _),
    Eq.trans (congrArg (V m c main_v9 : FVec Ideal S4x16x512x1024 .bf16) (funext fun a => Fin.ext ?_)) (d_pack m c _)⟩
  · refine (Pipeline.Window.rect_emb_val ((cfgM m hO).win 1) t (ix4 0 0 l f) a).trans ?_
    rw [i1]; exact place e _ he l f a
  · refine (Pipeline.Window.rect_emb_val ((cfgM m hO).win 2) t (ix4 0 0 l f) a).trans ?_
    rw [i2]; exact place e _ he l f a
  · refine (Pipeline.Window.rect_emb_val ((cfgM m hO).win 3) t (ix4 0 0 f l) a).trans ?_
    rw [i3]; exact place e _ he f l a

/-- The second expert's weights at a point. -/
theorem hi_blocks (e : Fin 16) (he : (argHi m c (ix1 (grid0.coords t 0))).toNat = e.val) (l : Fin 1024) (f : Fin 512) :
    (iblk m hO c 4 t : Vec Ideal S1x1x1024x512 .bf16) (ix4 0 0 l f) = argG m c (ix4 3 e l f)
    ∧ (iblk m hO c 5 t : Vec Ideal S1x1x1024x512 .bf16) (ix4 0 0 l f) = argU m c (ix4 3 e l f)
    ∧ (iblk m hO c 6 t : Vec Ideal S1x1x512x1024 .bf16) (ix4 0 0 f l) = argD m c (ix4 3 e f l) := by
  obtain ⟨i4, i5, i6⟩ := index_hi m c hO t
  refine ⟨Eq.trans (congrArg (V m c main_v7 : FVec Ideal S4x16x1024x512 .bf16) (funext fun a => Fin.ext ?_)) (g_pack m c _),
    Eq.trans (congrArg (V m c main_v8 : FVec Ideal S4x16x1024x512 .bf16) (funext fun a => Fin.ext ?_)) (u_pack m c _),
    Eq.trans (congrArg (V m c main_v9 : FVec Ideal S4x16x512x1024 .bf16) (funext fun a => Fin.ext ?_)) (d_pack m c _)⟩
  · refine (Pipeline.Window.rect_emb_val ((cfgM m hO).win 4) t (ix4 0 0 l f) a).trans ?_
    rw [i4]; exact place e _ he l f a
  · refine (Pipeline.Window.rect_emb_val ((cfgM m hO).win 5) t (ix4 0 0 l f) a).trans ?_
    rw [i5]; exact place e _ he l f a
  · refine (Pipeline.Window.rect_emb_val ((cfgM m hO).win 6) t (ix4 0 0 f l) a).trans ?_
    rw [i6]; exact place e _ he f l a

end Cert.Exp

end
-- ==== Proof.ExpRef.lean ====
/- The experts' reference, read at an index: each row of a used block is that of its block's first or second expert. -/
module

public import proofs.«01_k».proof.Proof.Gen.ExpertsReferenceIdeal.Run
public import proofs.«01_k».proof.Proof.ExpMath
public import proofs.«01_k».proof.Proof.ExpTables
public import proofs.«01_k».proof.Proof.AttnMath
public import Idealize.ShloMosaic.Lib.Pointwise
public import Idealize.ShloMosaic.Lib.StableHlo.ReadAt
public import Idealize.ShloMosaic.Lib.WordCmp

@[expose] public section

noncomputable section

namespace Cert.Exp

open Cert.ExpertsReferenceIdeal Cert.ExpertsReferenceIdeal.Gen Idealize.ShloMosaic

set_option maxRecDepth 16384

/-- A gather of whole `A × B` blocks by their number: the block whose number the index holds. -/
theorem gather_block {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (r : Fin A) (s : Fin B) (k : Fin N)
    (hk : (idx (ix2 b 0)).toInt = k.val) :
    Host.gather (⟨[1, 2], [0], [], [], [0], 1, ![1, A, B], wf⟩ : GatherDims ⟨3, ![N, A, B]⟩ ⟨2, ![n, 1]⟩ ⟨3, ![n, A, B]⟩) x idx (ix3 b r s) = x (ix3 k r s) := by
  unfold Host.gather
  refine congrArg x (funext fun a => Fin.ext ?_)
  have hN := k.isLt
  match a with
  | ⟨0, _⟩ =>
    have hs : GatherDims.siIdx (⟨[1, 2], [0], [], [], [0], 1, ![1, A, B], wf⟩ : GatherDims ⟨3, ![N, A, B]⟩ ⟨2, ![n, 1]⟩ ⟨3, ![n, A, B]⟩) (ix3 b r s)
        ⟨0, Nat.one_pos⟩ = ix2 b 0 := by
      funext a
      match a with
      | ⟨0, _⟩ => exact Fin.ext rfl
      | ⟨1, _⟩ => exact Subsingleton.elim (α := Fin 1) _ _
    exact (congrArg (fun j => min (idx j).toInt.toNat (N - 1) + 0 + 0) hs).trans (by
      show min (idx (ix2 b 0)).toInt.toNat (N - 1) + 0 + 0 = k.val
      rw [hk]; omega)
  | ⟨1, _⟩ => show 0 + 0 + r.val = r.val; omega
  | ⟨2, _⟩ => show 0 + 0 + s.val = s.val; omega

/-- The experts' numbers as the reference indexes with them: a negative one would count from the end. -/
def picked (e : IVec S156 32) : IVec S156x1 32 :=
  broadcastInDim S156x1 ![0] bcast_S156_S156x1_0 (select (cmpi .slt e (broadcastInDim S156 ![] bcast_S_S156 (constantI S_ 32 0#32)))
    (addi e (broadcastInDim S156 ![] bcast_S_S156 (constantI S_ 32 16#32))) e)

/-- A number below sixteen is read as it is. -/
theorem picked_apply (e : IVec S156 32) (b : Fin 156) (h : (e (ix1 b)).toNat < 16) : (picked e (ix2 b 0)).toInt = (e (ix1 b)).toNat := by
  unfold picked
  rw [broadcastInDim_apply _ _ _ _ (ix1 b) fun k => match k with | ⟨0, _⟩ => rfl]
  have hs : BitVec.slt (e (ix1 b)) 0#32 = false := by
    simp only [BitVec.slt, BitVec.toInt, BitVec.toNat_ofNat, decide_eq_false_iff_not]
    omega
  show (if BitVec.ofBool (BitVec.slt (e (ix1 b)) 0#32) = 1#1 then _ else e (ix1 b)).toInt = _
  rw [hs, if_neg (by decide), BitVec.toInt]
  omega

/-- A block's gate or up weights. -/
def wide (w : FVec Ideal S4x16x1024x512 .f32) (e : IVec S156 32) : FVec Ideal S156x1024x512 .f32 :=
  Host.gather gather_S16x1024x512_S156x1_S156x1024x512_12_0_n_n_0_1_11024512 (shapeCast S16x1024x512 (extractStridedSlice S1x16x1024x512 ![3, 0, 0, 0] w
    slices_S4x16x1024x512_S1x16x1024x512_3_0_0_0) shapeCasts_S1x16x1024x512_S16x1024x512) (picked e)

/-- A block's down weights. -/
def narrow (w : FVec Ideal S4x16x512x1024 .f32) (e : IVec S156 32) : FVec Ideal S156x512x1024 .f32 :=
  Host.gather gather_S16x512x1024_S156x1_S156x512x1024_12_0_n_n_0_1_15121024 (shapeCast S16x512x1024 (extractStridedSlice S1x16x512x1024 ![3, 0, 0, 0] w
    slices_S4x16x512x1024_S1x16x512x1024_3_0_0_0) shapeCasts_S1x16x512x1024_S16x512x1024) (picked e)

theorem wide_apply (w : FVec Ideal S4x16x1024x512 .f32) (e : IVec S156 32) (b : Fin 156) (h : (e (ix1 b)).toNat < 16) (l : Fin 1024) (f : Fin 512) :
    wide w e (ix3 b l f) = w (ix4 3 ⟨(e (ix1 b)).toNat, h⟩ l f) := by
  unfold wide
  refine (gather_block _ _ _ b l f ⟨(e (ix1 b)).toNat, h⟩ (picked_apply e b h)).trans ?_
  pointwise

theorem narrow_apply (w : FVec Ideal S4x16x512x1024 .f32) (e : IVec S156 32) (b : Fin 156) (h : (e (ix1 b)).toNat < 16) (f : Fin 512) (o : Fin 1024) :
    narrow w e (ix3 b f o) = w (ix4 3 ⟨(e (ix1 b)).toNat, h⟩ f o) := by
  unfold narrow
  refine (gather_block _ _ _ b f o ⟨(e (ix1 b)).toNat, h⟩ (picked_apply e b h)).trans ?_
  pointwise

/-- A block's rows times its expert's gate or up weights. -/
def project (x : FVec Ideal S79872x1024 .f32) (w : FVec Ideal S156x1024x512 .f32) : FVec Ideal S156x512x512 .f32 :=
  Host.dotGeneral dot_S156x512x1024_S156x1024x512_S156x512x512_2_1_1_2_0_0 none (shapeCast S156x512x1024 x shapeCasts_S79872x1024_S156x512x1024) w

theorem project_apply (x : FVec Ideal S79872x1024 .f32) (w : FVec Ideal S156x1024x512 .f32) (b : Fin 156) (r f : Fin 512) :
    project x w (ix3 b r f) = ∑ l : Fin 1024, x (ix2 ⟨b.val * 512 + r.val, by omega⟩ l) * w (ix3 b l f) := by
  pointwise [project]

/-- The hidden units. -/
def units (g u : FVec Ideal S156x512x512 .f32) : FVec Ideal S156x512x512 .f32 :=
  mulf (mulf g (Host.divf (broadcastInDim S156x512x512 ![] bcast_S_S156x512x512 (constant S_ .f32 0x3F800000#32))
    (addf (broadcastInDim S156x512x512 ![] bcast_S_S156x512x512 (constant S_ .f32 0x3F800000#32)) (Host.exp (Host.negf g))))) u

theorem units_apply (g u : FVec Ideal S156x512x512 .f32) (i : S156x512x512.Idx) : units g u i = silu (g i) * u i := by
  show g i * Ideal.div (Ideal.ofBits FTy.f32 1065353216#32) (Ideal.ofBits FTy.f32 1065353216#32 + Ideal.exp (-(g i))) * u i = _
  rw [Cert.Attn.one_word]
  rfl

/-- Every block's rows by the experts that `e` names. -/
def byExpert (e : IVec S156 32) (x : FVec Ideal S79872x1024 .f32) (wg wu : FVec Ideal S4x16x1024x512 .f32) (wd : FVec Ideal S4x16x512x1024 .f32) :
    FVec Ideal S156x512x1024 .f32 :=
  Host.dotGeneral dot_S156x512x512_S156x512x1024_S156x512x1024_2_1_1_2_0_0 none (units (project x (wide wg e)) (project x (wide wu e))) (narrow wd e)

theorem byExpert_apply (e : IVec S156 32) (x : FVec Ideal S79872x1024 .f32) (wg wu : FVec Ideal S4x16x1024x512 .f32) (wd : FVec Ideal S4x16x512x1024 .f32)
    (b : Fin 156) (h : (e (ix1 b)).toNat < 16) (r : Fin 512) (o : Fin 1024) :
    byExpert e x wg wu wd (ix3 b r o) = expert (fun l => x (ix2 ⟨b.val * 512 + r.val, by omega⟩ l)) (fun l f => wg (ix4 3 ⟨(e (ix1 b)).toNat, h⟩ l f))
      (fun l f => wu (ix4 3 ⟨(e (ix1 b)).toNat, h⟩ l f)) (fun f o => wd (ix4 3 ⟨(e (ix1 b)).toNat, h⟩ f o)) o := by
  have key : byExpert e x wg wu wd (ix3 b r o)
      = ∑ f : Fin 512, units (project x (wide wg e)) (project x (wide wu e)) (ix3 b r f) * narrow wd e (ix3 b f o) := by
    pointwise [byExpert]
  rw [key]
  simp only [units_apply, project_apply, wide_apply _ e b h, narrow_apply _ e b h]
  rfl

/-- The two experts' rows interleaved, the unused blocks zero. -/
def out (lo hi : IVec S156 32) (used : IVec S1 32) (x : FVec Ideal S79872x1024 .f32) (wg wu : FVec Ideal S4x16x1024x512 .f32)
    (wd : FVec Ideal S4x16x512x1024 .f32) : FVec Ideal S159744x1024 .bf16 :=
  truncf .bf16 (shapeCast S159744x1024 (select
    (broadcastInDim S156x512x2x1024 ![0, 1, 2, 3] bcast_S156x1x1x1_S156x512x2x1024_0_1_2_3 (cmpi .slt
      (broadcastInDim S156x1x1x1 ![0] bcast_S156_S156x1x1x1_0 (iotaInDim S156 32 0))
      (broadcastInDim S156x1x1x1 ![] bcast_S_S156x1x1x1 (shapeCast S_ used shapeCasts_S1_S_))))
    (concatenate S156x512x2x1024 2 [⟨S156x512x1x1024, broadcastInDim S156x512x1x1024 ![0, 1, 3] bcast_S156x512x1024_S156x512x1x1024_0_1_3 (byExpert lo x wg wu wd)⟩,
      ⟨S156x512x1x1024, broadcastInDim S156x512x1x1024 ![0, 1, 3] bcast_S156x512x1024_S156x512x1x1024_0_1_3 (byExpert hi x wg wu wd)⟩]
      concatenates_S156x512x1x1024_S156x512x1x1024_S156x512x2x1024_d2)
    (broadcastInDim S156x512x2x1024 ![] bcast_S_S156x512x2x1024 (id (constant S_ .f32 0x00000000#32)))) shapeCasts_S156x512x2x1024_S159744x1024) bitsLt_bf16_f32

theorem out_apply (lo hi : IVec S156 32) (used : IVec S1 32) (x : FVec Ideal S79872x1024 .f32) (wg wu : FVec Ideal S4x16x1024x512 .f32)
    (wd : FVec Ideal S4x16x512x1024 .f32) (row : Fin 159744) (b : Fin 156) (r : Fin 512) (p : Fin 2) (hr : row.val = 1024 * b.val + 2 * r.val + p.val) (o : Fin 1024) :
    out lo hi used x wg wu wd (ix2 row o) = if (BitVec.ofNat 32 b.val).toInt < (used (ix1 0)).toInt then
      byExpert (if p.val = 0 then lo else hi) x wg wu wd (ix3 b r o) else 0 := by
  obtain ⟨row, hrow⟩ := row
  dsimp only at hr
  subst hr
  pointwise [out]
  show (if BitVec.ofBool (decide ((BitVec.ofNat 32 b.val).toInt < (used (ix1 0)).toInt)) = 1#1 then _ else Ideal.ofBits FTy.f32 0#32) = _
  have hz : (Ideal.ofBits FTy.f32 0#32 : EReal) = 0 := Ideal.ofBits_zero_f32
  have hp : (if h : p.val < 1 then byExpert lo x wg wu wd (ix3 b r o) else byExpert hi x wg wu wd (ix3 b r o))
      = byExpert (if p.val = 0 then lo else hi) x wg wu wd (ix3 b r o) := by
    by_cases h : p.val = 0
    · rw [dif_pos (by omega), if_pos h]
    · rw [dif_neg (by omega), if_neg h]
  rw [hz, hp]
  by_cases h : (BitVec.ofNat 32 b.val).toInt < (used (ix1 0)).toInt
  · rw [if_pos h, if_pos (by rw [decide_eq_true h]; rfl)]
  · rw [if_neg h, if_neg (by rw [decide_eq_false h]; decide)]

/-- The program's composed term is this. -/
theorem res_eq (m : (ℓ : Loc nD τ sig) → Buf (Elt Ideal) ℓ) (c : Dev nD) : Value.res_main_v75 m c = out (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) := rfl

end Cert.Exp

end
-- ==== Proof.ExpArray.lean ====
/- The experts' result array is the reference's, when the tables are those of a routing. -/
module

public import proofs.«01_k».proof.Proof.ExpBlock
public import proofs.«01_k».proof.Proof.ExpRef
public import Idealize.ShloMosaic.Lib.Pipeline.Covers

@[expose] public section

noncomputable section

namespace Cert.Exp

open Cert.ExpertsIdeal Cert.ExpertsIdeal.Gen Idealize.ShloMosaic

set_option maxRecDepth 16384

variable (m : (ℓ : Loc nD τ sig) → Buf (Elt Ideal) ℓ) (c : Dev nD) (hO : Ok m)

/-- A row that the body puts together is a row of the argument. -/
theorem row_eq (t : Fin (cfgM m hO).N) (h : (BitVec.ofNat 32 (grid0.coords t 0).val).toInt < (argUsed m c (ix1 0)).toInt) (h1 : 1 ≤ (argUsed m c (ix1 0)).toInt)
    (r : Fin 512) (l : Fin 1024) (row : Fin 79872) (hr : row.val = (grid0.coords t 0).val * 512 + r.val) :
    k0_pay3 (iblk m hO c 0 t) (ix2 r l) = argX m c (ix2 row l) := by
  have hb : (grid0.coords t 0).val < 156 := (grid0.coords t 0).isLt
  refine (row_apply _ r l).trans ((x_block m c hO t h h1 _ _ ⟨1024 * (grid0.coords t 0).val + (2 * r.val + l.val / 512), by omega⟩ rfl).trans
    ((x_pack m c row ⟨l.val / 512, by omega⟩ _ (by dsimp only; omega) _).trans (congrArg (fun k => argX m c (ix2 row k)) (Fin.ext ?_))))
  dsimp only
  omega

/-- What the body leaves in its block, at row `2 r + p`. -/
theorem result_apply (i : grid0.Coords) (u : BitVec 32) (x0 : Vec Ideal S1024x512 .bf16) (x1 x2 : Vec Ideal S1x1x1024x512 .bf16) (x3 : Vec Ideal S1x1x512x1024 .bf16)
    (x4 x5 : Vec Ideal S1x1x1024x512 .bf16) (x6 : Vec Ideal S1x1x512x1024 .bf16) (r : Fin 512) (p : Fin 2) (o : Fin 1024) :
    result i u x0 x1 x2 x3 x4 x5 x6 (ix2 ⟨2 * r.val + p.val, by omega⟩ o) = if (BitVec.ofNat 32 (i 0).val).toInt < u.toInt then
      if p.val = 0 then expert (fun l => k0_pay3 x0 (ix2 r l)) (fun l f => x1 (ix4 0 0 l f)) (fun l f => x2 (ix4 0 0 l f)) (fun f o => x3 (ix4 0 0 f o)) o
      else expert (fun l => k0_pay3 x0 (ix2 r l)) (fun l f => x4 (ix4 0 0 l f)) (fun l f => x5 (ix4 0 0 l f)) (fun f o => x6 (ix4 0 0 f o)) o
      else 0 := by
  unfold result
  by_cases h : (BitVec.ofNat 32 (i 0).val).toInt < u.toInt
  · rw [if_pos ((used_iff _ _).mpr h), if_pos h, pair_apply, lo_apply]
  · rw [if_neg fun k => h ((used_iff _ _).mp k), if_neg h]
    exact Ideal.ofBits_zero .bf16

theorem expert_congr {x x' : Fin 1024 → EReal} {g g' u u' : Fin 1024 → Fin 512 → EReal} {d d' : Fin 512 → Fin 1024 → EReal} (o : Fin 1024)
    (hx : ∀ l, x l = x' l) (hw : ∀ l f, g l f = g' l f ∧ u l f = u' l f ∧ d f l = d' f l) : expert x g u d o = expert x' g' u' d' o := by
  rw [show x = x' from funext hx, show g = g' from funext fun l => funext fun f => (hw l f).1, show u = u' from funext fun l => funext fun f => (hw l f).2.1,
    show d = d' from funext fun f => funext fun l => (hw l f).2.2]

/-- What the body leaves at a point, at row `2 r + p` of its block: the reference's row. -/
theorem left_apply (h : Routed (argLo m c) (argHi m c) (argUsed m c)) (t : Fin (cfgM m hO).N) (r : Fin 512) (p : Fin 2) (o : Fin 1024)
    (row : Fin 159744) (hr : row.val = 1024 * (grid0.coords t 0).val + 2 * r.val + p.val) :
    left m hO c t (ix2 ⟨2 * r.val + p.val, by omega⟩ o)
      = out (argLo m c) (argHi m c) (argUsed m c) (argX m c) (argG m c) (argU m c) (argD m c) (ix2 row o) := by
  refine (result_apply (grid0.coords t) (usedOf c (tbl m 2)) (iblk m hO c 0 t) (iblk m hO c 1 t) (iblk m hO c 2 t) (iblk m hO c 3 t)
    (iblk m hO c 4 t) (iblk m hO c 5 t) (iblk m hO c 6 t) r p o).trans ?_
  rw [out_apply _ _ _ _ _ _ _ row (grid0.coords t 0) r p hr o, used_eq]
  by_cases hu : (BitVec.ofNat 32 (grid0.coords t 0).val).toInt < (argUsed m c (ix1 0)).toInt
  · rw [if_pos hu, if_pos hu]
    have hx := fun (l : Fin 1024) row hr => row_eq m c hO t hu (h.used _) r l row hr
    by_cases hp : p.val = 0
    · rw [if_pos hp, if_pos hp]
      exact (expert_congr o (fun l => hx l _ rfl) (lo_blocks m c hO t ⟨_, h.lo _⟩ rfl)).trans (byExpert_apply _ _ _ _ _ (grid0.coords t 0) (h.lo _) r o).symm
    · rw [if_neg hp, if_neg hp]
      exact (expert_congr o (fun l => hx l _ rfl) (hi_blocks m c hO t ⟨_, h.hi _⟩ rfl)).trans (byExpert_apply _ _ _ _ _ (grid0.coords t 0) (h.hi _) r o).symm
  · rw [if_neg hu, if_neg hu]

theorem index_out (t : Fin (cfgM m hO).N) : ((cfgM m hO).win 7).index t = ![(grid0.coords t 0).val, 0] := by
  refine Eq.trans (b := ![(BitVec.ofNat 32 (grid0.coords t 0).val).toNat, 0]) rfl ?_
  have hb : (grid0.coords t 0).val < 156 := (grid0.coords t 0).isLt
  rw [BitVec.toNat_ofNat, Nat.mod_eq_of_lt (by omega)]

/-- The result window covers the result array: block `i` at point `i`. -/
theorem covers : ((cfgM m hO).win 7).Covers :=
  Pipeline.Window.covers_of_indexMap_surj _ rfl (fun a => (by decide : ∀ a : Fin 2, 0 < S1024x1024.size a) a) fun β => by
    have h0 : (β (0 : Fin 2)).val < 156 := (β (0 : Fin 2)).isLt.trans_eq
      (show (S159744x1024.size 0 + S1024x1024.size 0 - 1) / S1024x1024.size 0 = 156 by decide)
    have h1 : (β (1 : Fin 2)).val < 1 := (β (1 : Fin 2)).isLt.trans_eq
      (show (S159744x1024.size 1 + S1024x1024.size 1 - 1) / S1024x1024.size 1 = 1 by decide)
    refine ⟨(fun a => ⟨(β (0 : Fin 2)).val, h0.trans_le ((by decide : ∀ a : Fin 1, 156 ≤ grid0.bound a) a)⟩ : grid0.Coords), fun a => ?_⟩
    revert a
    show ∀ a : Fin 2, (![(BitVec.ofNat 32 (β (0 : Fin 2)).val).toNat, 0] : Fin 2 → ℕ) a = (β a).val
    intro a
    fin_cases a
    · show (BitVec.ofNat 32 (β (0 : Fin 2)).val).toNat = (β (0 : Fin 2)).val
      rw [BitVec.toNat_ofNat, Nat.mod_eq_of_lt (by omega)]
    · show 0 = (β (1 : Fin 2)).val
      omega

/-- What the body leaves at a point is the reference's, under its block. -/
theorem left_emb (h : Routed (argLo m c) (argHi m c) (argUsed m c)) (t : Fin (cfgM m hO).N) (y : S1024x1024.Idx) :
    left m hO c t y = out (argLo m c) (argHi m c) (argUsed m c) (argX m c) (argG m c) (argU m c) (argD m c) ((((cfgM m hO).win 7).blk t).view.emb y) := by
  obtain ⟨a, col, rfl⟩ : ∃ (r : Fin 1024) (col : Fin 1024), y = ix2 r col := ⟨y 0, y 1, by funext a; fin_cases a <;> rfl⟩
  have hb : (grid0.coords t 0).val < 156 := (grid0.coords t 0).isLt
  have e : (((cfgM m hO).win 7).blk t).view.emb (ix2 a col) = ix2 (⟨1024 * (grid0.coords t 0).val + a.val, by omega⟩ : Fin 159744) col := by
    funext k
    apply Fin.ext
    refine (Pipeline.Window.rect_emb_val ((cfgM m hO).win 7) t (ix2 a col) k).trans ?_
    rw [index_out]
    fin_cases k
    · show (grid0.coords t 0).val * 1024 + a.val = 1024 * (grid0.coords t 0).val + a.val; omega
    · show 0 * 1024 + col.val = col.val; omega
  have hp := left_apply m c hO h t ⟨a.val / 2, by omega⟩ ⟨a.val % 2, by omega⟩ col ⟨1024 * (grid0.coords t 0).val + a.val, by omega⟩ (by dsimp only; omega)
  have ea : (⟨2 * (a.val / 2) + a.val % 2, by omega⟩ : Fin 1024) = a := Fin.ext (by dsimp only; omega)
  dsimp only at hp
  rw [ea] at hp
  exact hp.trans (congrArg _ e.symm)

/-- The experts' result array is the reference's. -/
theorem array_eq (h : Routed (argLo m c) (argHi m c) (argUsed m c)) :
    (dats m hO 0 c).arrAt 7 (cfgM m hO).N = out (argLo m c) (argHi m c) (argUsed m c) (argX m c) (argG m c) (argU m c) (argD m c) :=
  (dats m hO 0 c).arrAt_eq_of_covers 7 _ (covers m hO) (fun t _ y =>
    (eq_of_heq (cast_heq _ _)).trans ((congrFun (after_out m hO c t) _).trans (left_emb m c hO h t y))) (Memref.isWhole_whole _)

open Idealize.SL.Sem in
/-- The run: the result at the reference's value, the arguments unchanged. -/
theorem run_value (g : Dev nD → PrngReg) (hO : Ok m) (hr : ∀ c, Routed (argLo m c) (argHi m c) (argUsed m c)) :
    θ_run defs (onTc (τ := τ) (main (F := Ideal))) ⟨m, fun _ => 0, g⟩ (fun r => ∀ c : Dev nD,
      r.2.mem ((c.tc : Thread nD τ).loc main_v10) = out (argLo m c) (argHi m c) (argUsed m c) (argX m c) (argG m c) (argU m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (array_eq m c hO (hr c)), kept m c _ r.2 (h.1 c).2 (by decide), kept m c _ r.2 (h.1 c).2 (by decide), kept m c _ r.2 (h.1 c).2 (by decide), kept m c _ r.2 (h.1 c).2 (by decide), kept m c _ r.2 (h.1 c).2 (by decide), kept m c _ r.2 (h.1 c).2 (by decide), kept m c _ r.2 (h.1 c).2 (by decide)⟩)
    (run_quiescent m g hO)

end Cert.Exp

end
-- ==== Proof.ExpBitsRun.lean ====
/- The experts' kernel body as compiled, run on any staging buffers. Its text differs from the body's at the extended reals (words
   in place of pairs of rows), so it has its own run; only the frame is claimed of it, so nothing is said of what it writes. -/
module

public import proofs.«01_k».proof.Proof.Gen.Experts.Launch
public import proofs.«01_k».proof.Proof.Gen.Experts.Skeleton
public import Idealize.ShloMosaic.Lib.Pipeline.FrameBody
public import Idealize.ShloMosaic.Lib.VecWindow
public import Idealize.ShloMosaic.Lib.Pipeline.ValueKit.Basic
public import Idealize.ShloMosaic.Lib.Tactic
public import Idealize.ShloMosaic.Lib.WordCmp

@[expose] public section

set_option maxRecDepth 16384

noncomputable section

namespace Cert.ExpBits

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The tables as the body is handed them. -/
abbrev loM : Memref sig .tc .smem S156 .i32 := Memref.whole main_arg0
abbrev hiM : Memref sig .tc .smem S156 .i32 := Memref.whole main_arg1
abbrev usedM : Memref sig .tc .smem S1 .i32 := Memref.whole main_arg2

/-- A table's contents on a core, and half of it held: the pipeline keeps the other half. -/
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- The number of used blocks as the body reads it from its table. -/
abbrev usedOf (c : Dev nD) (f : TableBuf (F := F) c usedM) : BitVec 32 :=
  usedM.view.readAt (Elt F) (Rect.unit (s := S1) ![0] S1.size inb_S1_S1_0).toLoadRect f (Shape.Idx.first (numel1_S1.symm ▸ Nat.one_pos))

set_option maxHeartbeats 1000000 in
/-- The body runs, leaves its inputs and tables as they were, and something in the output's buffer. -/
theorem run (c : Dev nD) (i : grid0.Coords) (h1 : loM.IsWhole) (h2 : hiM.IsWhole) (h3 : usedM.IsWhole)
    (arg4 : Memref sig .tc .vmem S1024x512 .bf16) (harg4 : arg4.IsWhole) (arg5 : Memref sig .tc .vmem S1x1x1024x512 .bf16) (harg5 : arg5.IsWhole)
    (arg6 : Memref sig .tc .vmem S1x1x1024x512 .bf16) (harg6 : arg6.IsWhole) (arg7 : Memref sig .tc .vmem S1x1x512x1024 .bf16) (harg7 : arg7.IsWhole)
    (arg8 : Memref sig .tc .vmem S1x1x1024x512 .bf16) (harg8 : arg8.IsWhole) (arg9 : Memref sig .tc .vmem S1x1x1024x512 .bf16) (harg9 : arg9.IsWhole)
    (arg10 : Memref sig .tc .vmem S1x1x512x1024 .bf16) (harg10 : arg10.IsWhole) (arg11 : Memref sig .tc .vmem S1024x1024 .bf16) (harg11 : arg11.IsWhole)
    (x0 : Vec F S1024x512 .bf16) (x1 x2 : Vec F S1x1x1024x512 .bf16) (x3 : Vec F S1x1x512x1024 .bf16) (x4 x5 : Vec F S1x1x1024x512 .bf16)
    (x6 : Vec F S1x1x512x1024 .bf16) (t0 : TableBuf (F := F) c loM) (t1 : TableBuf (F := F) c hiM) (t2 : TableBuf (F := F) c usedM)
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare x6 ∗ (∃ d, owns (c : Thread nD τ) arg11 fullShare d)
        ∗ tableHeld c loM t0 ∗ tableHeld c hiM t1 ∗ tableHeld c usedM t2
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare x6 ∗ (∃ d, owns (c : Thread nD τ) arg11 fullShare d)
            ∗ tableHeld c loM t0 ∗ tableHeld c hiM t1 ∗ tableHeld c usedM t2) -∗ K ⟨⟩))
      ⊢ wp frame (wpE (defs₀ (F := F)) Variants.none c none) E
          (cc0_experts i loM h1 hiM h2 usedM h3 arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  by_cases hp : k0_cond1 i (usedOf c t2) = 1#1 <;> by_cases hc : k0_cond2 i (usedOf c t2) = 1#1
  all_goals
    sl_exec (disch := first | sl_exact hc | sl_exact hp)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; iexists _; isplitr
      swap; · iexact H7
      ipureintro; rfl
    isplitl [HT0]; · iexact HT0
    isplitl [HT1]; · iexact HT1
    iexact HT2

end Cert.ExpBits

end
-- ==== Proof.ScMath.lean ====
/- The output projection after a convolution of three taps: what it makes of one token. -/
module

public import Idealize.ShloMosaic.PureOps.Ideal
public import Idealize.ShloMosaic.Lib.IdealHost
public import Idealize.ShloMosaic.Lib.ValueIdx
public import Idealize.ShloMosaic.Lib.Pipeline.ValueKit

@[expose] public section

noncomputable section

namespace Cert.Sc

open Idealize.ShloMosaic

/-- Eight sequences of 8192 tokens of 1024 numbers. -/
abbrev Tokens := FVec Ideal ⟨3, ![8, 8192, 1024]⟩ .f32
/-- One row of 1024 numbers for each sequence. -/
abbrev PerSeq := FVec Ideal ⟨3, ![8, 1, 1024]⟩ .f32

/-- Row `p` of a sequence with one row of zeros before it and zeros after it. -/
def padded (u : Tokens) (b : Fin 8) (p : ℕ) (l : Fin 1024) : EReal := if h : 1 ≤ p ∧ p < 8193 then u (ix3 b ⟨p - 1, by omega⟩ l) else 0

/-- The convolution of three taps, times the gate branch. -/
def mix (gb u : Tokens) (cw : FVec Ideal ⟨2, ![3, 1024]⟩ .f32) (b : Fin 8) (i : Fin 8192) (l : Fin 1024) : EReal :=
  gb (ix3 b i l) * (padded u b i.val l * cw (ix2 0 l) + padded u b (i.val + 1) l * cw (ix2 1 l) + padded u b (i.val + 2) l * cw (ix2 2 l))

/-- The residual stream after the layer's mixer. -/
def stream (x gb u : Tokens) (cw : FVec Ideal ⟨2, ![3, 1024]⟩ .f32) (w : FVec Ideal ⟨2, ![1024, 1024]⟩ .f32) (gate : PerSeq) (b : Fin 8) (i : Fin 8192)
    (n : Fin 1024) : EReal :=
  x (ix3 b i n) + gate (ix3 b 0 n) * ∑ l : Fin 1024, mix gb u cw b i l * w (ix2 l n)

/-- A row normalised by its mean square, then scaled and shifted. -/
def normed (x g shift scale : Fin 1024 → EReal) (n : Fin 1024) : EReal :=
  x n * Ideal.rsqrt (Ideal.div (∑ l : Fin 1024, x l * x l) (Ideal.ofBits .f32 0x44800000#32) + Ideal.ofBits .f32 0x358637BD#32) * g n * (1 + scale n) + shift n

/-- The residual stream as the call writes it. -/
def outX (x gb u : Tokens) (cw : FVec Ideal ⟨2, ![3, 1024]⟩ .f32) (w : FVec Ideal ⟨2, ![1024, 1024]⟩ .f32) (gate : PerSeq) : FVec Ideal ⟨2, ![65536, 1024]⟩ .f32 :=
  fun i => have h : (i 0).val < 65536 := (i 0).isLt
    stream x gb u cw w gate ⟨(i 0).val / 8192, by omega⟩ ⟨(i 0).val % 8192, by omega⟩ (i 1)

/-- The experts' tokens as the call writes them: the two halves of a row one under the other. -/
def outH (x gb u : Tokens) (cw : FVec Ideal ⟨2, ![3, 1024]⟩ .f32) (w : FVec Ideal ⟨2, ![1024, 1024]⟩ .f32) (gate : PerSeq) (g : FVec Ideal ⟨1, ![1024]⟩ .f32)
    (shift scale : PerSeq) : FVec Ideal ⟨2, ![131072, 512]⟩ .bf16 :=
  fun i => have h : (i 0).val < 131072 := (i 0).isLt
    have h1 : (i 1).val < 512 := (i 1).isLt
    normed (fun n => stream x gb u cw w gate ⟨(i 0).val / 2 / 8192, by omega⟩ ⟨(i 0).val / 2 % 8192, by omega⟩ n) (fun n => g (ix1 n))
      (fun n => shift (ix3 ⟨(i 0).val / 2 / 8192, by omega⟩ 0 n)) (fun n => scale (ix3 ⟨(i 0).val / 2 / 8192, by omega⟩ 0 n))
      ⟨512 * ((i 0).val % 2) + (i 1).val, by omega⟩

end Cert.Sc

end
-- ==== Proof.ScTile.lean ====
/- One tile of the output projection after a convolution of three taps. -/
module

public import proofs.«01_k».proof.Proof.Gen.ShortConvIdeal.Value
public import proofs.«01_k».proof.Proof.ScMath
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

noncomputable section

namespace Cert.Sc

open Cert.ShortConvIdeal Cert.ShortConvIdeal.Gen Idealize.ShloMosaic

set_option maxRecDepth 16384

theorem ix3_congr {x y z : ℕ} {a a' : Fin x} {b b' : Fin y} {d d' : Fin z} (ha : a = a') (hb : b = b') (hd : d = d') :
    ix3 a b d = ix3 a' b' d' := by subst ha; subst hb; subst hd; rfl

/-- Rows loaded out of an array of rows. -/
theorem ld_rows {H h : ℕ} {e : EltTy} (X : Vec Ideal ⟨2, ![H, 1024]⟩ e) (o : ℕ) (inb) (s : Fin h) (l : Fin 1024) (r : Fin H) (hr : r.val = o + s.val) :
    View.ld X (Rect.unit (s := ⟨2, ![H, 1024]⟩) ![o, 0] ![h, 1024] inb) (ix2 s l) = X (ix2 r l) := by
  refine congrArg X (funext fun a => Fin.ext ?_)
  match a with
  | 0 => show o + 1 * s.val = r.val; omega
  | 1 => show 0 + 1 * l.val = l.val; omega

/-- 64 rows of the convolution: three windows, each times its tap, and the gate branch. -/
theorem chunk_apply (a b d : Vec Ideal S64x1024 .f32) (wa wb wd : Vec Ideal S8x1024 .f32) (g : Vec Ideal S64x1024 .bf16) (r : Fin 64) (l : Fin 1024) :
    k0_pay5 a wa b wb d wd g (ix2 r l) = g (ix2 r l) * (a (ix2 r l) * wa (ix2 ⟨r.val % 8, by omega⟩ l) + b (ix2 r l) * wb (ix2 ⟨r.val % 8, by omega⟩ l)
      + d (ix2 r l) * wd (ix2 ⟨r.val % 8, by omega⟩ l)) := by
  pointwise [k0_pay5]

/-- The projection, the gate and the residual. -/
theorem stream_apply (y : Vec Ideal S512x1024 .bf16) (w : Vec Ideal S1024x1024 .bf16) (x : Vec Ideal S512x1024 .f32) (gate : Vec Ideal S1x1x1024 .f32)
    (r : Fin 512) (n : Fin 1024) :
    k0_pay23 y w x gate (ix2 r n) = x (ix2 r n) + gate (ix3 0 0 n) * ∑ l : Fin 1024, y (ix2 r l) * w (ix2 l n) := by
  pointwise [k0_pay23]

/-- The norm, and the two halves of a row one under the other. -/
theorem normed_apply (x : FVec Ideal S512x1024 .f32) (g : Vec Ideal S1x1024 .f32) (shift scale : Vec Ideal S1x1x1024 .f32) (r : Fin 512) (p : Fin 2) (o : Fin 512) :
    k0_pay1 x g shift scale (ix2 ⟨2 * r.val + p.val, by omega⟩ o) = normed (fun l => x (ix2 r l)) (fun l => g (ix2 0 l)) (fun l => shift (ix3 0 0 l))
      (fun l => scale (ix3 0 0 l)) ⟨512 * p.val + o.val, by omega⟩ := by
  pointwise [k0_pay1]
  have e : (⟨(2 * r.val + p.val) / 2, by omega⟩ : Fin 512) = r := Fin.ext (by show (2 * r.val + p.val) / 2 = r.val; omega)
  simp only [e]
  rcases Nat.lt_or_ge p.val 1 with hp | hp
  · rw [if_pos (by omega), show (⟨512 * p.val + o.val, by omega⟩ : Fin 1024) = ⟨o.val, by omega⟩ from Fin.ext (by show 512 * p.val + o.val = o.val; omega)]
    rfl
  · rw [if_neg (by omega), show (⟨512 * p.val + o.val, by omega⟩ : Fin 1024) = ⟨512 + o.val, by omega⟩ from
      Fin.ext (by show 512 * p.val + o.val = 512 + o.val; omega)]
    rfl

/-- The point of its sequence that a step is, as the kernel computes it. -/
def seqWord (k : Fin 128) : BitVec 32 :=
  Scalar.select (Scalar.andi (Scalar.xori (Scalar.cmpi .slt (Scalar.remsi (BitVec.ofNat 32 k.val)
      (Scalar.select (Scalar.cmpi .eq 16#32 0#32) 1#32 16#32)) 0#32) (Scalar.cmpi .slt (Scalar.select (Scalar.cmpi .eq 16#32 0#32) 1#32 16#32) 0#32))
      (Scalar.cmpi .ne (Scalar.remsi (BitVec.ofNat 32 k.val) (Scalar.select (Scalar.cmpi .eq 16#32 0#32) 1#32 16#32)) 0#32))
      (Scalar.addi (Scalar.remsi (BitVec.ofNat 32 k.val) (Scalar.select (Scalar.cmpi .eq 16#32 0#32) 1#32 16#32)) (Scalar.select (Scalar.cmpi .eq 16#32 0#32) 1#32 16#32))
      (Scalar.remsi (BitVec.ofNat 32 k.val) (Scalar.select (Scalar.cmpi .eq 16#32 0#32) 1#32 16#32))

theorem word_eq (v : Fin 16) (k : Fin 128) : Scalar.cmpi .eq (seqWord k) (BitVec.ofNat 32 v.val) = BitVec.ofBool (decide (k.val % 16 = v.val)) :=
  (by decide +kernel : ∀ v : Fin 16, ∀ k : Fin 128, Scalar.cmpi .eq (seqWord k) (BitVec.ofNat 32 v.val) = BitVec.ofBool (decide (k.val % 16 = v.val))) v k

theorem word_select (v : Fin 16) (k : Fin 128) (a b : EReal) :
    Scalar.select (Scalar.cmpi .eq (seqWord k) (BitVec.ofNat 32 v.val)) a b = if k.val % 16 = v.val then a else b := by
  rw [word_eq]; by_cases h : k.val % 16 = v.val <;> simp only [h, if_true, if_false, decide_true, decide_false] <;> rfl

theorem first_apply (i : grid0.Coords) (x : Vec Ideal S16x1024 .bf16) (r : Fin 16) (l : Fin 1024) :
    k0_pay2 i x (ix2 r l) = if (i 0).val % 16 = 0 then (0 : EReal) else x (ix2 r l) := by
  pointwise [k0_pay2]
  exact word_select 0 (i 0) _ _

theorem last_apply (i : grid0.Coords) (x : Vec Ideal S16x1024 .bf16) (r : Fin 16) (l : Fin 1024) :
    k0_pay4 i x (ix2 r l) = if (i 0).val % 16 = 15 then (0 : EReal) else x (ix2 r l) := by
  pointwise [k0_pay4]
  exact word_select 15 (i 0) _ _

variable (m : (ℓ : Loc nD τ sig) → Buf (Elt Ideal) ℓ) (c : Dev nD)

abbrev argX : Tokens := m ((c.tc : Thread nD τ).loc main_arg0)
abbrev argB : Tokens := m ((c.tc : Thread nD τ).loc main_arg1)
abbrev argU : Tokens := m ((c.tc : Thread nD τ).loc main_arg2)
abbrev argC : FVec Ideal S3x1024 .f32 := m ((c.tc : Thread nD τ).loc main_arg3)
abbrev argW : FVec Ideal S1024x1024 .f32 := m ((c.tc : Thread nD τ).loc main_arg4)
abbrev argGate : PerSeq := m ((c.tc : Thread nD τ).loc main_arg5)
abbrev argG : FVec Ideal S1024 .f32 := m ((c.tc : Thread nD τ).loc main_arg6)
abbrev argShift : PerSeq := m ((c.tc : Thread nD τ).loc main_arg7)
abbrev argScale : PerSeq := m ((c.tc : Thread nD τ).loc main_arg8)

/-- The windows' blocks at a point. -/
theorem idx : ∀ t : Fin cfg0.N, win0_0.index t = ![t.val, 0] ∧ win0_1.index t = ![t.val, 0] ∧ win0_2.index t = ![t.val, 0]
    ∧ win0_3.index t = ![32 * t.val - 1, 0] ∧ win0_4.index t = ![min (32 * t.val + 32) 4095, 0] ∧ win0_5.index t = ![0, 0] ∧ win0_6.index t = ![0, 0]
    ∧ win0_7.index t = ![t.val / 16, 0, 0] ∧ win0_8.index t = ![0, 0] ∧ win0_9.index t = ![t.val / 16, 0, 0] ∧ win0_10.index t = ![t.val / 16, 0, 0]
    ∧ win0_11.index t = ![t.val, 0] ∧ win0_12.index t = ![t.val, 0] :=
  (by decide +kernel : ∀ t : Fin grid0.N, _)

theorem coord : ∀ t : Fin cfg0.N, (grid0.coords t 0).val = t.val := (by decide +kernel : ∀ t : Fin grid0.N, _)

section
variable (t : Fin cfg0.N) (r : Fin 512) (l n : Fin 1024) (b : Fin 8) (i : Fin 8192) (hb : b.val = t.val / 16) (hi : i.val = 512 * (t.val % 16) + r.val)
include hb hi

theorem x_block : iblk m c 0 t (ix2 r l) = argX m c (ix3 b i l) := by
  have e : iblk m c 0 t (ix2 r l) = V m c main_v2 (ix2 ⟨512 * t.val + r.val, by have : t.val < 128 := t.isLt; omega⟩ l) := by blk_ext! [iblk, idx t]
  refine e.trans ?_
  unfold V
  after_reads_at
  exact congrArg _ (ix3_congr (Fin.ext (by have : t.val < 128 := t.isLt; show _ / 8192 = b.val; omega)) (Fin.ext (by have : t.val < 128 := t.isLt; show _ % 8192 = i.val; omega)) rfl)

theorem b_block : iblk m c 1 t (ix2 r l) = argB m c (ix3 b i l) := by
  have e : iblk m c 1 t (ix2 r l) = V m c main_v4 (ix2 ⟨512 * t.val + r.val, by have : t.val < 128 := t.isLt; omega⟩ l) := by blk_ext! [iblk, idx t]
  refine e.trans ?_
  unfold V
  after_reads_at
  exact congrArg _ (ix3_congr (Fin.ext (by have : t.val < 128 := t.isLt; show _ / 8192 = b.val; omega)) (Fin.ext (by have : t.val < 128 := t.isLt; show _ % 8192 = i.val; omega)) rfl)

theorem u_block : iblk m c 2 t (ix2 r l) = argU m c (ix3 b i l) := by
  have e : iblk m c 2 t (ix2 r l) = V m c main_v6 (ix2 ⟨512 * t.val + r.val, by have : t.val < 128 := t.isLt; omega⟩ l) := by blk_ext! [iblk, idx t]
  refine e.trans ?_
  unfold V
  after_reads_at
  exact congrArg _ (ix3_congr (Fin.ext (by have : t.val < 128 := t.isLt; show _ / 8192 = b.val; omega)) (Fin.ext (by have : t.val < 128 := t.isLt; show _ % 8192 = i.val; omega)) rfl)

end

theorem prev_block (t : Fin cfg0.N) (r : Fin 16) (l : Fin 1024) (b : Fin 8) (i : Fin 8192) (hb : b.val = t.val / 16) (h0 : t.val % 16 ≠ 0)
    (hi : i.val + 16 = 512 * (t.val % 16) + r.val) : iblk m c 3 t (ix2 r l) = argU m c (ix3 b i l) := by
  have e : iblk m c 3 t (ix2 r l) = V m c main_v6 (ix2 ⟨16 * (32 * t.val - 1) + r.val, by have : t.val < 128 := t.isLt; omega⟩ l) := by blk_ext! [iblk, idx t]
  refine e.trans ?_
  unfold V
  after_reads_at
  exact congrArg _ (ix3_congr (Fin.ext (by have : t.val < 128 := t.isLt; show _ / 8192 = b.val; omega)) (Fin.ext (by have : t.val < 128 := t.isLt; show _ % 8192 = i.val; omega)) rfl)

theorem next_block (t : Fin cfg0.N) (r : Fin 16) (l : Fin 1024) (b : Fin 8) (i : Fin 8192) (hb : b.val = t.val / 16) (h0 : t.val % 16 ≠ 15)
    (hi : i.val = 512 * (t.val % 16) + 512 + r.val) : iblk m c 4 t (ix2 r l) = argU m c (ix3 b i l) := by
  have e : iblk m c 4 t (ix2 r l) = V m c main_v6 (ix2 ⟨16 * (32 * t.val + 32) + r.val, by have : t.val < 128 := t.isLt; omega⟩ l) := by
    have : t.val < 128 := t.isLt
    have : min (32 * t.val + 32) 4095 = 32 * t.val + 32 := by omega
    blk_ext! [iblk, idx t, this]
  refine e.trans ?_
  unfold V
  after_reads_at
  exact congrArg _ (ix3_congr (Fin.ext (by have : t.val < 128 := t.isLt; show _ / 8192 = b.val; omega)) (Fin.ext (by have : t.val < 128 := t.isLt; show _ % 8192 = i.val; omega)) rfl)

theorem c_block (t : Fin cfg0.N) (k : Fin 3) (s : Fin 8) (l : Fin 1024) : iblk m c 5 t (ix2 ⟨8 * k.val + s.val, by omega⟩ l) = argC m c (ix2 k l) := by
  have e : iblk m c 5 t (ix2 ⟨8 * k.val + s.val, by omega⟩ l) = V m c main_v1 (ix2 ⟨8 * k.val + s.val, by omega⟩ l) := by blk_ext! [iblk, idx t]
  refine e.trans ?_
  unfold V
  after_reads_at

theorem w_block (t : Fin cfg0.N) (l n : Fin 1024) : iblk m c 6 t (ix2 l n) = argW m c (ix2 l n) := by
  have e : iblk m c 6 t (ix2 l n) = V m c main_v7 (ix2 l n) := by blk_ext! [iblk, idx t]
  refine e.trans ?_
  unfold V
  after_reads_at

theorem g_block (t : Fin cfg0.N) (n : Fin 1024) : iblk m c 8 t (ix2 0 n) = argG m c (ix1 n) := by
  have e : iblk m c 8 t (ix2 0 n) = V m c main_v8 (ix2 0 n) := by blk_ext! [iblk, idx t]
  refine e.trans ?_
  unfold V
  after_reads_at

theorem gate_block (t : Fin cfg0.N) (n : Fin 1024) (b : Fin 8) (hb : b.val = t.val / 16) : iblk m c 7 t (ix3 0 0 n) = argGate m c (ix3 b 0 n) :=
  (show iblk m c 7 t (ix3 0 0 n) = V m c main_arg5 (ix3 b 0 n) by blk_ext! [iblk, idx t]).trans (congrFun (V_main_arg5 m c) _)

theorem shift_block (t : Fin cfg0.N) (n : Fin 1024) (b : Fin 8) (hb : b.val = t.val / 16) : iblk m c 9 t (ix3 0 0 n) = argShift m c (ix3 b 0 n) :=
  (show iblk m c 9 t (ix3 0 0 n) = V m c main_arg7 (ix3 b 0 n) by blk_ext! [iblk, idx t]).trans (congrFun (V_main_arg7 m c) _)

theorem scale_block (t : Fin cfg0.N) (n : Fin 1024) (b : Fin 8) (hb : b.val = t.val / 16) : iblk m c 10 t (ix3 0 0 n) = argScale m c (ix3 b 0 n) :=
  (show iblk m c 10 t (ix3 0 0 n) = V m c main_arg8 (ix3 b 0 n) by blk_ext! [iblk, idx t]).trans (congrFun (V_main_arg8 m c) _)

end Cert.Sc

end
-- ==== Proof.ScArray.lean ====
/- The two results of the output projection after a convolution of three taps, as one array each. -/
module

public import proofs.«01_k».proof.Proof.ScTile

@[expose] public section

noncomputable section

namespace Cert.Sc

open Cert.ShortConvIdeal Cert.ShortConvIdeal.Gen Idealize.ShloMosaic

set_option maxRecDepth 16384

variable (m : (ℓ : Loc nD τ sig) → Buf (Elt Ideal) ℓ) (c : Dev nD) (t : Fin cfg0.N)

theorem forall_ix2 {x y : ℕ} {P : (⟨2, ![x, y]⟩ : Shape).Idx → Prop} (h : ∀ a b, P (ix2 a b)) : ∀ i, P i := fun i =>
  (show i = ix2 (i 0) (i 1) from funext fun a => match a with | 0 => rfl | 1 => rfl) ▸ h (i 0) (i 1)

/-- The sequence of a step, and the token of a row of its tile. -/
abbrev seq : Fin 8 := ⟨t.val / 16, by have : t.val < 128 := t.isLt; omega⟩
abbrev tok (r : Fin 512) : Fin 8192 := ⟨512 * (t.val % 16) + r.val, by omega⟩

theorem padded_at (u : Tokens) (b : Fin 8) (p : ℕ) (i : Fin 8192) (h : p = i.val + 1) (l : Fin 1024) : padded u b p l = u (ix3 b i l) := by
  subst h
  unfold padded
  rw [dif_pos (by omega)]
  rfl

theorem padded_out (u : Tokens) (b : Fin 8) (p : ℕ) (h : ¬(1 ≤ p ∧ p < 8193)) (l : Fin 1024) : padded u b p l = 0 := dif_neg h

/-- The window that the kernel assembles: 16 rows before the tile, the tile, 16 rows after it. -/
abbrev pieces : List (View.Piece (Elt Ideal) S544x1024 .f32) :=
  [⟨Rect.unit ![528, 0] ![16, 1024] inb_S544x1024_S16x1024_528_0, k0_pay4 (grid0.coords t) (iblk m c 4 t)⟩,
   ⟨Rect.unit ![16, 0] ![512, 1024] inb_S544x1024_S512x1024_16_0, k0_pay3 (iblk m c 2 t)⟩,
   ⟨Rect.unit ![0, 0] ![16, 1024] inb_S544x1024_S16x1024_0_0, k0_pay2 (grid0.coords t) (iblk m c 3 t)⟩]

def winRow (y : S544x1024.Idx) : EReal := padded (argU m c) (seq t) (512 * (t.val % 16) + (y 0).val - 15) (y 1)

theorem winRow_at (y : S544x1024.Idx) (p : ℕ) (l : Fin 1024) (hp : 512 * (t.val % 16) + (y 0).val - 15 = p) (hl : y 1 = l) :
    winRow m c t y = padded (argU m c) (seq t) p l := by subst hp; subst hl; rfl

theorem window_apply (y : S544x1024.Idx) : View.canon (pieces m c t) y = winRow m c t y := by
  have h16 : t.val % 16 < 16 := Nat.mod_lt _ (by omega)
  have ht : t.val < 128 := t.isLt
  refine View.canon_apply_of_pieces (Val := Elt Ideal) (e := .f32) (winRow m c t) _ ?_ y ?_
  · simp only [pieces, List.mem_cons, List.not_mem_nil, or_false, forall_eq_or_imp, forall_eq]
    refine ⟨forall_ix2 fun r l => ?_, forall_ix2 fun r l => ?_, forall_ix2 fun r l => ?_⟩
    · refine ((last_apply _ _ r l).trans ?_).trans (winRow_at m c t _ (512 * (t.val % 16) + 513 + r.val) l ?_ ?_).symm
      · rw [coord]
        have : r.val < 16 := r.isLt
        by_cases h : t.val % 16 = 15
        · rw [if_pos h, padded_out _ _ _ (by omega)]
        · rw [if_neg h, padded_at _ _ _ ⟨512 * (t.val % 16) + 512 + r.val, by omega⟩ (by show 512 * (t.val % 16) + 513 + r.val = 512 * (t.val % 16) + 512 + r.val + 1; omega)]
          exact next_block m c t r l _ _ rfl h rfl
      · show 512 * (t.val % 16) + (528 + 1 * r.val) - 15 = _; omega
      · exact Fin.ext (by show 0 + 1 * l.val = l.val; omega)
    · refine ((show k0_pay3 (iblk m c 2 t) (ix2 r l) = iblk m c 2 t (ix2 r l) by pointwise [k0_pay3]).trans ?_).trans
        (winRow_at m c t _ (512 * (t.val % 16) + 1 + r.val) l ?_ ?_).symm
      · have : r.val < 512 := r.isLt
        rw [padded_at _ _ _ (tok t r) (by show _ = _ + _ + 1; omega)]
        exact u_block m c t r l _ _ rfl rfl
      · show 512 * (t.val % 16) + (16 + 1 * r.val) - 15 = _; omega
      · exact Fin.ext (by show 0 + 1 * l.val = l.val; omega)
    · refine ((first_apply _ _ r l).trans ?_).trans (winRow_at m c t _ (512 * (t.val % 16) + r.val - 15) l ?_ ?_).symm
      · rw [coord]
        have : r.val < 16 := r.isLt
        by_cases h : t.val % 16 = 0
        · rw [if_pos h, padded_out _ _ _ (by omega)]
        · rw [if_neg h, padded_at _ _ _ ⟨512 * (t.val % 16) + r.val - 16, by omega⟩ (by show 512 * (t.val % 16) + r.val - 15 = 512 * (t.val % 16) + r.val - 16 + 1; omega)]
          exact prev_block m c t r l _ _ rfl h (by show _ - _ + _ = _; omega)
      · show 512 * (t.val % 16) + (0 + 1 * r.val) - 15 = _; omega
      · exact Fin.ext (by show 0 + 1 * l.val = l.val; omega)
  · have h0 : (y 0).val < 544 := (y 0).isLt
    have h1 : (y 1).val < 1024 := (y 1).isLt
    simp only [pieces, List.mem_cons, List.not_mem_nil, or_false, exists_eq_or_imp, exists_eq_left, Rect.mem_set_unit]
    rcases Nat.lt_or_ge (y 0).val 16 with h | h
    · refine .inr (.inr fun a => ?_)
      match a with
      | 0 => exact ⟨Nat.zero_le _, h⟩
      | 1 => exact ⟨Nat.zero_le _, h1⟩
    · rcases Nat.lt_or_ge (y 0).val 528 with h' | h'
      · refine .inr (.inl fun a => ?_)
        match a with
        | 0 => exact ⟨h, h'⟩
        | 1 => exact ⟨Nat.zero_le _, h1⟩
      · refine .inl fun a => ?_
        match a with
        | 0 => exact ⟨h', h0⟩
        | 1 => exact ⟨Nat.zero_le _, h1⟩

/-- 64 rows read out of the window. -/
theorem window_rows (o : ℕ) (inb) (s : Fin 64) (l : Fin 1024) (p : ℕ) (hp : 512 * (t.val % 16) + (o + s.val) - 15 = p) :
    (View.whole cc0_scratch0).readCov (pieces m c t) (Rect.unit (s := S544x1024) ![o, 0] ![64, 1024] inb).toLoadRect (ix2 s l)
      = padded (argU m c) (seq t) p l := by
  rw [View.readCov_eq_canon']
  refine (window_apply m c t _).trans (winRow_at m c t _ p l ?_ ?_)
  · rw [← hp]; show 512 * (t.val % 16) + (o + 1 * s.val) - 15 = _; omega
  · exact Fin.ext (by show 0 + 1 * l.val = l.val; omega)

/-- The convolution at 64 rows of a tile. -/
theorem chunk (o : ℕ) (ho : o + 64 ≤ 512) (i1 i2 i3 i4 i5 i6 i7) (s : Fin 64) (l : Fin 1024) :
    k0_pay5 ((View.whole cc0_scratch0).readCov (pieces m c t) (Rect.unit (s := S544x1024) ![o + 15, 0] ![64, 1024] i1).toLoadRect)
      (View.ld (iblk m c 5 t) (Rect.unit (s := S24x1024) ![0, 0] ![8, 1024] i2))
      ((View.whole cc0_scratch0).readCov (pieces m c t) (Rect.unit (s := S544x1024) ![o + 16, 0] ![64, 1024] i3).toLoadRect)
      (View.ld (iblk m c 5 t) (Rect.unit (s := S24x1024) ![8, 0] ![8, 1024] i4))
      ((View.whole cc0_scratch0).readCov (pieces m c t) (Rect.unit (s := S544x1024) ![o + 17, 0] ![64, 1024] i5).toLoadRect)
      (View.ld (iblk m c 5 t) (Rect.unit (s := S24x1024) ![16, 0] ![8, 1024] i6))
      (View.ld (iblk m c 1 t) (Rect.unit (s := S512x1024) ![o, 0] ![64, 1024] i7)) (ix2 s l)
      = mix (argB m c) (argU m c) (argC m c) (seq t) (tok t ⟨o + s.val, by omega⟩) l := by
  have hs : s.val < 64 := s.isLt
  have hm : s.val % 8 < 8 := Nat.mod_lt _ (by omega)
  refine (chunk_apply _ _ _ _ _ _ _ s l).trans ?_
  rw [window_rows m c t (o + 15) i1 s l (tok t ⟨o + s.val, by omega⟩).val (by show _ = 512 * (t.val % 16) + (o + s.val); omega),
    window_rows m c t (o + 16) i3 s l ((tok t ⟨o + s.val, by omega⟩).val + 1) (by show _ = 512 * (t.val % 16) + (o + s.val) + 1; omega),
    window_rows m c t (o + 17) i5 s l ((tok t ⟨o + s.val, by omega⟩).val + 2) (by show _ = 512 * (t.val % 16) + (o + s.val) + 2; omega),
    ld_rows _ 0 i2 _ l ⟨8 * (0 : Fin 3).val + s.val % 8, by show 8 * 0 + _ < 24; omega⟩ (by show 8 * 0 + _ = _; rfl),
    ld_rows _ 8 i4 _ l ⟨8 * (1 : Fin 3).val + s.val % 8, by show 8 * 1 + _ < 24; omega⟩ (by show 8 * 1 + _ = _; rfl),
    ld_rows _ 16 i6 _ l ⟨8 * (2 : Fin 3).val + s.val % 8, by show 8 * 2 + _ < 24; omega⟩ (by show 8 * 2 + _ = _; rfl),
    ld_rows _ o i7 s l ⟨o + s.val, by omega⟩ rfl, b_block m c t ⟨o + s.val, by omega⟩ l (seq t) (tok t ⟨o + s.val, by omega⟩) rfl rfl]
  rw [show iblk m c 5 t (ix2 ⟨8 * (0 : Fin 3).val + s.val % 8, by show 8 * 0 + _ < 24; omega⟩ l) = argC m c (ix2 0 l) from c_block m c t 0 ⟨s.val % 8, hm⟩ l,
    show iblk m c 5 t (ix2 ⟨8 * (1 : Fin 3).val + s.val % 8, by show 8 * 1 + _ < 24; omega⟩ l) = argC m c (ix2 1 l) from c_block m c t 1 ⟨s.val % 8, hm⟩ l,
    show iblk m c 5 t (ix2 ⟨8 * (2 : Fin 3).val + s.val % 8, by show 8 * 2 + _ < 24; omega⟩ l) = argC m c (ix2 2 l) from c_block m c t 2 ⟨s.val % 8, hm⟩ l]
  rfl

/-- The convolution of a tile, at an index. -/
def mixRow (y : S512x1024.Idx) : EReal := mix (argB m c) (argU m c) (argC m c) (seq t) (tok t (y 0)) (y 1)

theorem mixRow_at (y : S512x1024.Idx) (r : Fin 512) (l : Fin 1024) (hr : (y 0).val = r.val) (hl : (y 1).val = l.val) :
    mixRow m c t y = mix (argB m c) (argU m c) (argC m c) (seq t) (tok t r) l := by
  have e0 : y 0 = r := Fin.ext hr
  have e1 : y 1 = l := Fin.ext hl
  unfold mixRow; rw [e0, e1]

/-- The 64 rows that a chunk writes. -/
theorem chunk_row (o : ℕ) (ho : o + 64 ≤ 512) (i1 i2 i3 i4 i5 i6 i7 i8) (s : Fin 64) (l : Fin 1024) :
    k0_pay5 ((View.whole cc0_scratch0).readCov (pieces m c t) (Rect.unit (s := S544x1024) ![o + 15, 0] ![64, 1024] i1).toLoadRect)
      (View.ld (iblk m c 5 t) (Rect.unit (s := S24x1024) ![0, 0] ![8, 1024] i2))
      ((View.whole cc0_scratch0).readCov (pieces m c t) (Rect.unit (s := S544x1024) ![o + 16, 0] ![64, 1024] i3).toLoadRect)
      (View.ld (iblk m c 5 t) (Rect.unit (s := S24x1024) ![8, 0] ![8, 1024] i4))
      ((View.whole cc0_scratch0).readCov (pieces m c t) (Rect.unit (s := S544x1024) ![o + 17, 0] ![64, 1024] i5).toLoadRect)
      (View.ld (iblk m c 5 t) (Rect.unit (s := S24x1024) ![16, 0] ![8, 1024] i6))
      (View.ld (iblk m c 1 t) (Rect.unit (s := S512x1024) ![o, 0] ![64, 1024] i7)) (ix2 s l)
      = mixRow m c t ((Rect.unit (s := S512x1024) ![o, 0] ![64, 1024] i8).emb (ix2 s l)) :=
  (chunk m c t o ho i1 i2 i3 i4 i5 i6 i7 s l).trans (mixRow_at m c t _ _ l (by show o + 1 * s.val = o + s.val; omega) (by show 0 + 1 * l.val = _; omega)).symm

set_option maxHeartbeats 1000000 in
/-- The tile of the residual stream that a step writes. -/
theorem outs_x (r : Fin 512) (n : Fin 1024) :
    (outsAt0 m c t).1 (ix2 r n) = stream (argX m c) (argB m c) (argU m c) (argC m c) (argW m c) (argGate m c) (seq t) (tok t r) n := by
  unfold outsAt0
  dsimp only
  frame_open
  frame_out
  refine (stream_apply _ _ _ _ r n).trans ?_
  rw [x_block m c t r n (seq t) (tok t r) rfl rfl, gate_block m c t n (seq t) rfl]
  refine congrArg (fun z : EReal => _ + _ * z) (Finset.sum_congr rfl fun l _ => ?_)
  rw [w_block, View.readCov_eq_canon']
  refine congrArg (· * _) ?_
  dsimp only
  rw [View.canon_apply_of_pieces (Val := Elt Ideal) (e := .bf16) (mixRow m c t)]
  · exact mixRow_at m c t _ r l (by show 0 + 1 * r.val = r.val; omega) (by show 0 + 1 * l.val = l.val; omega)
  · simp only [List.mem_cons, List.not_mem_nil, or_false, forall_eq_or_imp, forall_eq]
    exact ⟨forall_ix2 fun s l => chunk_row m c t 448 (by omega) _ _ _ _ _ _ _ _ s l, forall_ix2 fun s l => chunk_row m c t 384 (by omega) _ _ _ _ _ _ _ _ s l,
      forall_ix2 fun s l => chunk_row m c t 320 (by omega) _ _ _ _ _ _ _ _ s l, forall_ix2 fun s l => chunk_row m c t 256 (by omega) _ _ _ _ _ _ _ _ s l,
      forall_ix2 fun s l => chunk_row m c t 192 (by omega) _ _ _ _ _ _ _ _ s l, forall_ix2 fun s l => chunk_row m c t 128 (by omega) _ _ _ _ _ _ _ _ s l,
      forall_ix2 fun s l => chunk_row m c t 64 (by omega) _ _ _ _ _ _ _ _ s l, forall_ix2 fun s l => chunk_row m c t 0 (by omega) _ _ _ _ _ _ _ _ s l⟩
  · exact View.cover_of_tiled (s := S512x1024) _ S64x1024.size (by rfl) _

/-- The tile of packed rows that a step writes. -/
theorem outs_h : (outsAt0 m c t).2 = k0_pay1 (outsAt0 m c t).1 (iblk m c 8 t) (iblk m c 9 t) (iblk m c 10 t) := by
  unfold outsAt0
  dsimp only
  frame_open
  frame_out

theorem normed_congr {x x' g g' s s' z z' : Fin 1024 → EReal} (n : Fin 1024) (hx : ∀ l, x l = x' l) (hg : ∀ l, g l = g' l) (hs : ∀ l, s l = s' l) (hz : ∀ l, z l = z' l) :
    normed x g s z n = normed x' g' s' z' n := by
  obtain rfl : x = x' := funext hx
  obtain rfl : g = g' := funext hg
  obtain rfl : s = s' := funext hs
  obtain rfl : z = z' := funext hz
  rfl

/-- The packed rows of a step, at an element. -/
theorem outs_h_apply (r : Fin 512) (p : Fin 2) (o : Fin 512) :
    (outsAt0 m c t).2 (ix2 ⟨2 * r.val + p.val, by omega⟩ o)
      = normed (fun n => stream (argX m c) (argB m c) (argU m c) (argC m c) (argW m c) (argGate m c) (seq t) (tok t r) n) (fun n => argG m c (ix1 n))
        (fun n => argShift m c (ix3 (seq t) 0 n)) (fun n => argScale m c (ix3 (seq t) 0 n)) ⟨512 * p.val + o.val, by omega⟩ := by
  rw [outs_h]
  refine (normed_apply _ _ _ _ r p o).trans ?_
  exact normed_congr _ (fun l => outs_x m c t r l) (fun l => g_block m c t l) (fun l => shift_block m c t l _ rfl) (fun l => scale_block m c t l _ rfl)

/-- The residual stream's array. -/
theorem array_x : (dats m 0 c).arrAt 11 cfg0.N = outX (argX m c) (argB m c) (argU m c) (argC m c) (argW m c) (argGate m c) := by
  refine (dats m 0 c).arrAt_eq_of_covers 11 _ (by decide +kernel) fun t hf y => ?_
  blk_simp
  rw [after0_11]
  have ht : t.val < 128 := t.isLt
  obtain ⟨r, n, rfl⟩ : ∃ (r : Fin 512) (n : Fin 1024), y = ix2 r n := ⟨y 0, y 1, by funext a; fin_cases a <;> rfl⟩
  have e : (win0_11.blk t).view.emb (ix2 r n) = ix2 (⟨512 * t.val + r.val, by omega⟩ : Fin 65536) n := by
    funext a
    apply Fin.ext
    fin_cases a
    · blk_simp [idx t]; dsimp only [ix2]; omega
    · blk_simp [idx t]; rfl
  rw [e]
  refine (outs_x m c t r n).trans ?_
  unfold outX
  exact congrArg₂ (fun b i => stream _ _ _ _ _ _ b i n) (Fin.ext (by show t.val / 16 = (512 * t.val + r.val) / 8192; omega))
    (Fin.ext (by show 512 * (t.val % 16) + r.val = (512 * t.val + r.val) % 8192; omega))

/-- The packed rows' array. -/
theorem array_h : (dats m 0 c).arrAt 12 cfg0.N
    = outH (argX m c) (argB m c) (argU m c) (argC m c) (argW m c) (argGate m c) (argG m c) (argShift m c) (argScale m c) := by
  refine (dats m 0 c).arrAt_eq_of_covers 12 _ (by decide +kernel) fun t hf y => ?_
  blk_simp
  rw [after0_12]
  have ht : t.val < 128 := t.isLt
  obtain ⟨r, p, o, rfl⟩ : ∃ (r : Fin 512) (p : Fin 2) (o : Fin 512), y = ix2 (⟨2 * r.val + p.val, by omega⟩ : Fin 1024) o :=
    have h0 : (y 0).val < 1024 := (y 0).isLt
    ⟨⟨(y 0).val / 2, by omega⟩, ⟨(y 0).val % 2, by omega⟩, y 1, by
      funext a; fin_cases a
      · exact Fin.ext (by show (y 0).val = 2 * ((y 0).val / 2) + (y 0).val % 2; omega)
      · rfl⟩
  have e : (win0_12.blk t).view.emb (ix2 (⟨2 * r.val + p.val, by omega⟩ : Fin 1024) o) = ix2 (⟨1024 * t.val + (2 * r.val + p.val), by omega⟩ : Fin 131072) o := by
    funext a
    apply Fin.ext
    fin_cases a
    · blk_simp [idx t]; dsimp only [ix2]; omega
    · blk_simp [idx t]; rfl
  rw [e]
  refine (outs_h_apply m c t r p o).trans ?_
  unfold outH
  have hb : seq t = (⟨(1024 * t.val + (2 * r.val + p.val)) / 2 / 8192, by omega⟩ : Fin 8) := Fin.ext (by show t.val / 16 = (1024 * t.val + (2 * r.val + p.val)) / 2 / 8192; omega)
  have hi : tok t r = (⟨(1024 * t.val + (2 * r.val + p.val)) / 2 % 8192, by omega⟩ : Fin 8192) :=
    Fin.ext (by show 512 * (t.val % 16) + r.val = (1024 * t.val + (2 * r.val + p.val)) / 2 % 8192; omega)
  have hn : (⟨512 * p.val + o.val, by omega⟩ : Fin 1024) = ⟨512 * ((1024 * t.val + (2 * r.val + p.val)) % 2) + o.val, by omega⟩ :=
    Fin.ext (by show 512 * p.val + o.val = 512 * ((1024 * t.val + (2 * r.val + p.val)) % 2) + o.val; omega)
  rw [hb, hi, hn]
  rfl

end Cert.Sc

end
-- ==== Proof.ScRef.lean ====
/- The two results of the reference of the output projection after a convolution of three taps. -/
module

public import proofs.«01_k».proof.Proof.Gen.ShortConvReferenceIdeal.Run
public import proofs.«01_k».proof.Proof.ScMath
public import Idealize.ShloMosaic.Lib.Pipeline.ValueKit
public import Idealize.ShloMosaic.Lib.KernelVsHost
public import Idealize.ShloMosaic.Lib.Pointwise

@[expose] public section

noncomputable section

namespace Cert.Sc

open Cert.ShortConvReferenceIdeal Cert.ShortConvReferenceIdeal.Gen Idealize.ShloMosaic

set_option maxRecDepth 16384

variable (x gb u : Tokens) (cw : FVec Ideal S3x1024 .f32) (w : FVec Ideal S1024x1024 .f32) (gate : PerSeq) (g : FVec Ideal S1024 .f32) (shift scale : PerSeq)

/-- The reference's sequences with their rows of zeros. -/
def padTerm : FVec Ideal S8x8194x1024 .f32 :=
  pad S8x8194x1024 ![0, 1, 0] ![0, 1, 0] ![0, 0, 0] u (sitofp .f32 (constantI S_ 32 0#32)) pads_S8x8192x1024_S8x8194x1024_000_110_000 h_S_

/-- The reference's residual stream, as its run states it. -/
def xTerm : FVec Ideal S8x8192x1024 .f32 :=
  addf x (mulf (broadcastInDim S8x8192x1024 ![0, 1, 2] bcast_S8x1x1024_S8x8192x1024_0_1_2 gate) (Host.dotGeneral dot_S8x8192x1024_S1024x1024_S8x8192x1024_2_0_01_1_n_n none (mulf gb (addf (addf (mulf (extractStridedSlice S8x8192x1024 ![0, 0, 0] (padTerm u) slices_S8x8194x1024_S8x8192x1024_0_0_0) (broadcastInDim S8x8192x1024 ![0, 1, 2] bcast_S1x1x1024_S8x8192x1024_0_1_2 (broadcastInDim S1x1x1024 ![2] bcast_S1024_S1x1x1024_2 (shapeCast _ (extractStridedSlice S1x1024 ![0, 0] cw slices_S3x1024_S1x1024_0_0) shapeCasts_S1x1024_S1024)))) (mulf (extractStridedSlice S8x8192x1024 ![0, 1, 0] (padTerm u) slices_S8x8194x1024_S8x8192x1024_0_1_0) (broadcastInDim S8x8192x1024 ![0, 1, 2] bcast_S1x1x1024_S8x8192x1024_0_1_2 (broadcastInDim S1x1x1024 ![2] bcast_S1024_S1x1x1024_2 (shapeCast _ (extractStridedSlice S1x1024 ![1, 0] cw slices_S3x1024_S1x1024_1_0) shapeCasts_S1x1024_S1024))))) (mulf (extractStridedSlice S8x8192x1024 ![0, 2, 0] (padTerm u) slices_S8x8194x1024_S8x8192x1024_0_2_0) (broadcastInDim S8x8192x1024 ![0, 1, 2] bcast_S1x1x1024_S8x8192x1024_0_1_2 (broadcastInDim S1x1x1024 ![2] bcast_S1024_S1x1x1024_2 (shapeCast _ (extractStridedSlice S1x1024 ![2, 0] cw slices_S3x1024_S1x1024_2_0) shapeCasts_S1x1024_S1024)))))) w))

/-- The reference's packed rows out of its residual stream, as its run states them. -/
def hTerm (X : FVec Ideal S8x8192x1024 .f32) : FVec Ideal S131072x512 .bf16 :=
  truncf .bf16 (shapeCast _ (concatenate S8x8192x2x512 2 [⟨S8x8192x1x512, (broadcastInDim S8x8192x1x512 ![0, 1, 3] bcast_S8x8192x512_S8x8192x1x512_0_1_3 (extractStridedSlice S8x8192x512 ![0, 0, 0] (addf (mulf (mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) scale))) (broadcastInDim S8x8192x1024 ![0, 1, 2] bcast_S8x1x1024_S8x8192x1024_0_1_2 shift)) slices_S8x8192x1024_S8x8192x512_0_0_0))⟩, ⟨S8x8192x1x512, (broadcastInDim S8x8192x1x512 ![0, 1, 3] bcast_S8x8192x512_S8x8192x1x512_0_1_3 (extractStridedSlice S8x8192x512 ![0, 0, 512] (addf (mulf (mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) scale))) (broadcastInDim S8x8192x1024 ![0, 1, 2] bcast_S8x1x1024_S8x8192x1024_0_1_2 shift)) slices_S8x8192x1024_S8x8192x512_0_0_512))⟩] concatenates_S8x8192x1x512_S8x8192x1x512_S8x8192x2x512_d2) shapeCasts_S8x8192x2x512_S131072x512) bitsLt_bf16_f32

theorem padTerm_apply (b : Fin 8) (p : Fin 8194) (l : Fin 1024) : padTerm u (ix3 b p l) = padded u b p.val l := by
  pointwise [padTerm]
  unfold padded
  by_cases h : 1 ≤ p.val ∧ p.val < 8193
  · rw [dif_pos h, dif_pos (by omega)]
  · rw [dif_neg h, dif_neg (by omega)]
    show (((0#32 : BitVec 32).toInt : ℝ) : EReal) = 0
    simp

theorem xTerm_apply (b : Fin 8) (i : Fin 8192) (n : Fin 1024) : xTerm x gb u cw w gate (ix3 b i n) = stream x gb u cw w gate b i n := by
  pointwise [xTerm]
  simp only [padTerm_apply, Nat.add_comm 1 i.val, Nat.add_comm 2 i.val]
  rfl

theorem hTerm_apply (X : FVec Ideal S8x8192x1024 .f32) (b : Fin 8) (i : Fin 8192) (p : Fin 2) (o : Fin 512) :
    hTerm g shift scale X (ix2 ⟨2 * (8192 * b.val + i.val) + p.val, by omega⟩ o)
      = normed (fun n => X (ix3 b i n)) (fun n => g (ix1 n)) (fun n => shift (ix3 b 0 n)) (fun n => scale (ix3 b 0 n)) ⟨512 * p.val + o.val, by omega⟩ := by
  pointwise [hTerm]
  rcases Nat.lt_or_ge p.val 1 with hp | hp
  · rw [dif_pos hp, show (⟨512 * p.val + o.val, by omega⟩ : Fin 1024) = ⟨o.val, by omega⟩ from Fin.ext (by show 512 * p.val + o.val = o.val; omega)]
    rfl
  · rw [dif_neg (by omega), show (⟨512 * p.val + o.val, by omega⟩ : Fin 1024) = ⟨512 + o.val, by omega⟩ from
      Fin.ext (by show 512 * p.val + o.val = 512 + o.val; omega)]
    rfl

/-- The reference's residual stream. -/
theorem ref_x : shapeCast S65536x1024 (xTerm x gb u cw w gate) shapeCasts_S8x8192x1024_S65536x1024 = outX x gb u cw w gate := by
  funext i
  obtain ⟨r, n, rfl⟩ : ∃ (r : Fin 65536) (n : Fin 1024), i = ix2 r n := ⟨i 0, i 1, by funext a; fin_cases a <;> rfl⟩
  pointwise
  rw [xTerm_apply]
  rfl

/-- The reference's packed rows. -/
theorem hTerm_eq : hTerm g shift scale (xTerm x gb u cw w gate) = outH x gb u cw w gate g shift scale := by
  funext i
  obtain ⟨b, k, p, o, rfl⟩ : ∃ (b : Fin 8) (k : Fin 8192) (p : Fin 2) (o : Fin 512), i = ix2 (⟨2 * (8192 * b.val + k.val) + p.val, by omega⟩ : Fin 131072) o :=
    have h0 : (i 0).val < 131072 := (i 0).isLt
    ⟨⟨(i 0).val / 2 / 8192, by omega⟩, ⟨(i 0).val / 2 % 8192, by omega⟩, ⟨(i 0).val % 2, by omega⟩, i 1, by
      funext a; fin_cases a
      · exact Fin.ext (by show (i 0).val = 2 * (8192 * ((i 0).val / 2 / 8192) + (i 0).val / 2 % 8192) + (i 0).val % 2; omega)
      · rfl⟩
  refine (hTerm_apply g shift scale _ b k p o).trans ?_
  simp only [xTerm_apply]
  unfold outH
  have hb : b = (⟨(2 * (8192 * b.val + k.val) + p.val) / 2 / 8192, by omega⟩ : Fin 8) := Fin.ext (by show b.val = (2 * (8192 * b.val + k.val) + p.val) / 2 / 8192; omega)
  have hk : k = (⟨(2 * (8192 * b.val + k.val) + p.val) / 2 % 8192, by omega⟩ : Fin 8192) :=
    Fin.ext (by show k.val = (2 * (8192 * b.val + k.val) + p.val) / 2 % 8192; omega)
  have hn : (⟨512 * p.val + o.val, by omega⟩ : Fin 1024) = ⟨512 * ((2 * (8192 * b.val + k.val) + p.val) % 2) + o.val, by omega⟩ :=
    Fin.ext (by show 512 * p.val + o.val = 512 * ((2 * (8192 * b.val + k.val) + p.val) % 2) + o.val; omega)
  have e := congrArg₂ (fun (b : Fin 8) (k : Fin 8192) => normed (fun n => stream x gb u cw w gate b k n) (fun n => g (ix1 n)) (fun n => shift (ix3 b 0 n))
    (fun n => scale (ix3 b 0 n)) ⟨512 * p.val + o.val, by omega⟩) hb hk
  refine e.trans ?_
  dsimp only
  rw [hn]
  rfl

/-- The packed rows, as the run names them. -/
theorem ref_h (m : (ℓ : Loc nD τ sig) → Buf (Elt Ideal) ℓ) (c : Dev nD) : Value.res_main_v52 m c = hTerm (m ((c.tc : Thread nD τ).loc main_arg6))
    (m ((c.tc : Thread nD τ).loc main_arg7)) (m ((c.tc : Thread nD τ).loc main_arg8)) (xTerm (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))) := rfl

end Cert.Sc

end
-- ==== Proof.ModArray.lean ====
/- The modulation kernel's result array is the reference's. -/
module

public import proofs.«01_k».proof.Proof.Gen.ModulationIdeal.Value
public import proofs.«01_k».proof.Proof.Gen.ModulationReferenceIdeal.Run
public import proofs.«01_k».proof.Proof.ExpMath
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

noncomputable section

namespace Cert.Mod

open Idealize.ShloMosaic

set_option maxRecDepth 16384

/-- One number of the modulation: a layer's row of the weights with the activated conditioning vector, and the bias. -/
def entry (x : Fin 1024 → EReal) (w : Fin 1024 → EReal) (b : EReal) : EReal := ∑ l : Fin 1024, Exp.silu (x l) * w l + b

/-- The modulation of every row in every layer. -/
def out (x : FVec Ideal ⟨2, ![16, 1024]⟩ .f32) (w : FVec Ideal ⟨3, ![4, 1024, 6144]⟩ .f32) (b : FVec Ideal ⟨2, ![4, 6144]⟩ .f32) :
    FVec Ideal ⟨3, ![4, 16, 6144]⟩ .f32 :=
  fun i => entry (fun l => x (ix2 (i 1) l)) (fun l => w (ix3 (i 0) l (i 2))) (b (ix2 (i 0) (i 2)))

section
open Cert.ModulationIdeal Cert.ModulationIdeal.Gen

/-- One tile of the kernel, at an element. -/
theorem tile_apply (x : Vec Ideal S16x1024 .f32) (w : Vec Ideal S1x1024x1024 .f32) (b : Vec Ideal S1x1x1024 .f32) (r : Fin 16) (n : Fin 1024) :
    k0_pay1 x w b (ix3 0 r n) = entry (fun l => x (ix2 r l)) (fun l => w (ix3 0 l n)) (b (ix3 0 0 n)) := by
  pointwise [k0_pay1]
  simp only [entry, Exp.silu, zero_sub]

variable (m : (ℓ : Loc nD τ sig) → Buf (Elt Ideal) ℓ) (c : Dev nD)

/-- The windows' blocks at a point: layer `t / 6`, columns `t % 6`. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

theorem x_block (t : Fin cfg0.N) (r : Fin 16) (l : Fin 1024) : iblk m c 0 t (ix2 r l) = V m c main_arg0 (ix2 r l) := by
  blk_ext! [iblk, idx t]

theorem w_block (t : Fin cfg0.N) (l n : Fin 1024) (k : Fin 4) (col : Fin 6144) (hk : k.val = t.val / 6) (hc : col.val = 1024 * (t.val % 6) + n.val) :
    iblk m c 1 t (ix3 0 l n) = V m c main_arg1 (ix3 k l col) := by
  blk_ext! [iblk, idx t]

theorem b_block (t : Fin cfg0.N) (n : Fin 1024) (k : Fin 4) (col : Fin 6144) (hk : k.val = t.val / 6) (hc : col.val = 1024 * (t.val % 6) + n.val) :
    iblk m c 2 t (ix3 0 0 n) = V m c main_v0 (ix3 k 0 col) := by
  blk_ext! [iblk, idx t]

theorem bias (k : Fin 4) (col : Fin 6144) : (V m c main_v0 : FVec Ideal S4x1x6144 .f32) (ix3 k 0 col) = (m ((c.tc : Thread nD τ).loc main_arg2) : FVec Ideal S4x6144 .f32) (ix2 k col) := by
  unfold V
  after_reads_at

/-- The kernel's result array. -/
theorem array_eq : (dats m 0 c).arrAt 3 cfg0.N
    = out (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht : t.val < 24 := t.isLt
  obtain ⟨r, n, rfl⟩ : ∃ (r : Fin 16) (n : Fin 1024), y = ix3 0 r n := ⟨y 1, y 2, by
    funext a; fin_cases a
    · exact Subsingleton.elim (α := Fin 1) _ _
    · rfl
    · rfl⟩
  have e : (win0_3.blk t).view.emb (ix3 0 r n) = ix3 (⟨t.val / 6, by omega⟩ : Fin 4) r (⟨1024 * (t.val % 6) + n.val, by omega⟩ : Fin 6144) := by
    funext a
    apply Fin.ext
    fin_cases a
    · blk_simp [idx t]; rfl
    · blk_simp [idx t]; rfl
    · blk_simp [idx t]; dsimp only [ix3]; omega
  rw [e]
  unfold out0_3
  frame_out
  refine (tile_apply _ _ _ r n).trans ?_
  have hx := fun l => (x_block m c t r l).trans (congrFun (V_main_arg0 m c) _)
  have hw := fun l => (w_block m c t l n ⟨t.val / 6, by omega⟩ ⟨1024 * (t.val % 6) + n.val, by omega⟩ rfl rfl).trans (congrFun (V_main_arg1 m c) _)
  have hb := (b_block m c t n ⟨t.val / 6, by omega⟩ ⟨1024 * (t.val % 6) + n.val, by omega⟩ rfl rfl).trans (bias m c _ _)
  rw [hb]
  simp only [hx, hw]
  rfl

end

section
open Cert.ModulationReferenceIdeal Cert.ModulationReferenceIdeal.Gen

/-- The reference's result. -/
theorem ref_eq (x : FVec Ideal S16x1024 .f32) (w : FVec Ideal S4x1024x6144 .f32) (b : FVec Ideal S4x6144 .f32) :
    addf (transpose S4x16x6144 [0, 2, 1] (Host.dotGeneral dot_S4x1024x6144_S16x1024_S4x6144x16_1_1_02_0_n_n none w (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x)))))) transposes_S4x6144x16_S4x16x6144_0_2_1)
      (broadcastInDim S4x16x6144 ![0, 1, 2] bcast_S4x1x6144_S4x16x6144_0_1_2 (broadcastInDim S4x1x6144 ![0, 2] bcast_S4x6144_S4x1x6144_0_2 b)) = out x w b := by
  funext i
  obtain ⟨k, r, n, rfl⟩ : ∃ (k : Fin 4) (r : Fin 16) (n : Fin 6144), i = ix3 k r n := ⟨i 0, i 1, i 2, by funext a; fin_cases a <;> rfl⟩
  pointwise
  simp only [mul_comm (w _)]
  rfl

end

end Cert.Mod

end
-- ==== Proof.ModFrame.lean ====
/- The modulation's program as compiled and its program read at the extended reals have the same text: one run serves both. -/
module

public import proofs.«01_k».proof.Proof.Gen.ModulationIdeal.Frame
public import proofs.«01_k».proof.Proof.Gen.Modulation

@[expose] public section

noncomputable section

namespace Cert.Mod

open Idealize.ShloMosaic

variable {F : FTy → Type} [FloatOps F]

/-- The kernel bodies of the two programs are the same. -/
theorem bodies_eq : Cert.Modulation.defs₀ (F := F) = Cert.ModulationIdeal.defs₀ (F := F) := by
  refine congrArg Defs.onTc ?_
  funext ℓ a
  match ℓ, a with
  | 0, (t, s) => rfl

/-- So the two programs call the same pipelines. -/
theorem defs_eq : Cert.Modulation.defs (F := F) = Cert.ModulationIdeal.defs (F := F) :=
  congrArg (Pipeline.defs (Cert.ModulationIdeal.pcfgs (F := F))) bodies_eq

open Cert.Modulation in
/-- The frame of the program as compiled. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.ModulationIdeal.Gen.frame m ρ

end Cert.Mod

end
-- ==== Proof.lean ====
/- The claims, from the run of the kernel and the run of the reference. -/
module

public import proofs.«01_k».proof.Defs
public import proofs.«01_k».proof.Proof.Value
public import proofs.«01_k».proof.Proof.Reference
public import proofs.«01_k».proof.Proof.Gen.Reference.Run
public import proofs.«01_k».proof.Proof.Gen.Pre_positions
public import proofs.«01_k».proof.Proof.AttnArray
public import proofs.«01_k».proof.Proof.AttnFrame
public import proofs.«01_k».proof.Proof.Gen.Attention
public import proofs.«01_k».proof.Proof.Gen.Pre_finite
public import proofs.«01_k».proof.Proof.ExpArray
public import proofs.«01_k».proof.Proof.ExpBitsFrame
public import proofs.«01_k».proof.Proof.Gen.Pre_routed
public import proofs.«01_k».proof.Proof.ScArray
public import proofs.«01_k».proof.Proof.ScRef
public import proofs.«01_k».proof.Proof.Gen.ShortConv.Frame
public import proofs.«01_k».proof.Proof.ModArray
public import proofs.«01_k».proof.Proof.ModFrame
public import Idealize.ShloMosaic.Lib.WordCmp
public import Idealize.ShloMosaic.Lib.ReduceAll
public import Idealize.ShloMosaic.Lib.Bf16Pair

@[expose] public section

noncomputable section

namespace Cert.Proof

open Idealize.ShloMosaic Idealize.ShloMosaic.ValueIdx Idealize.SL.Sem
open Cert.Kernel.Combine (InRange tab fs V dats adm A_eq run_main final result)

/-- The precondition, read: every position names a row. -/
theorem inRange {p : Cert.Kernel.S65536.Idx → Elt Bits .i32} {x rc gate ys}
    (h : Cert.Pre_positions.fn (F := Bits) p x rc gate ys = fun _ => 1#1) : InRange (F := Bits) p := fun k => by
  have e := congrFun h (ValueIdx.ix1 k)
  simp only [Cert.Pre_positions.fn, andi, cmpi, broadcastInDim, constantI, IntOp.cmpi, WordCmp.andi_ofBool, WordCmp.ofBool_eq_one_iff, Bool.and_eq_true] at e
  obtain ⟨hge, hlt⟩ := e
  simp only [BitVec.sle, BitVec.slt, decide_eq_true_eq, BitVec.toInt, BitVec.toNat_ofNat] at hge hlt
  omega

/-- An extended real whose magnitude is below infinity is a real. -/
theorem real_of_abs_lt {s : Shape} (x : FVec Ideal s .f32) (hb : (⟨0, ![]⟩ : Shape).BroadcastsInDim s (![] : Fin 0 → Fin s.rank)) (i : s.Idx)
    (h : cmpf .olt (Host.absf x) (broadcastInDim s ![] hb (constant ⟨0, ![]⟩ .f32 0x7F800000#32)) i = 1#1) : x i = ((x i).toReal : EReal) := by
  have htop : Ideal.ofBits .f32 0x7F800000#32 = ⊤ := by simp [Ideal.ofBits, Ideal.ieee]
  have e : BitVec.ofBool (decide (max (x i : EReal) (-(x i : EReal)) < Ideal.ofBits .f32 0x7F800000#32)) = 1#1 := h
  rw [htop, WordCmp.ofBool_eq_one_iff, decide_eq_true_eq, max_lt_iff] at e
  refine (EReal.coe_toReal e.1.ne fun hb => ?_).symm
  rw [hb] at e
  exact absurd e.2 (by simp)

/-- The precondition of the attention, read: the queries and the keys are numbers. -/
theorem numbers {q k v} (h : Cert.Pre_finite.fn (F := Ideal) q k v = fun _ => 1#1) :
    (q = fun i => (((q i : EReal).toReal : ℝ) : EReal)) ∧ (k = fun i => (((k i : EReal).toReal : ℝ) : EReal)) := by
  have e := congrFun h (Shape.Idx.first Cert.Pre_finite.Facts.h_S_)
  dsimp only [Cert.Pre_finite.fn] at e
  haveI : Subsingleton Cert.Pre_finite.S_.Idx := ⟨fun a b => funext fun d => d.elim0⟩
  obtain ⟨hq, hk⟩ := IntOp.andi_eq_one.mp e
  exact ⟨funext fun i => real_of_abs_lt q _ i (Host.reduce_andi_all _ _ _ _ _ hq i),
    funext fun i => real_of_abs_lt k _ i (Host.reduce_andi_all _ _ _ _ _ hk i)⟩

/-- The precondition of the experts, read: the tables are those of a routing. -/
theorem routed {F : FTy → Type} [FloatOps F] {lo hi used x wg wu wd} (h : Cert.Pre_routed.fn (F := F) lo hi used x wg wu wd = fun _ => 1#1) :
    Cert.Exp.Routed lo hi used := by
  have e := congrFun h (Shape.Idx.first Cert.Pre_routed.Facts.h_S_)
  dsimp only [Cert.Pre_routed.fn, Cert.Pre_routed.fn_part1] at e
  haveI : Subsingleton Cert.Pre_routed.S_.Idx := ⟨fun a b => funext fun d => d.elim0⟩
  obtain ⟨e, hu⟩ := IntOp.andi_eq_one.mp e
  obtain ⟨hl, hh⟩ := IntOp.andi_eq_one.mp e
  have below (f : IVec ⟨1, ![156]⟩ 32) (j : (⟨1, ![156]⟩ : Shape).Idx)
      (e : IntOp.andi (IntOp.cmpi .sge (f j) 0#32) (IntOp.cmpi .slt (f j) 16#32) = 1#1) : (f j).toNat < 16 := by
    simp only [IntOp.cmpi, WordCmp.andi_ofBool, WordCmp.ofBool_eq_one_iff, Bool.and_eq_true] at e
    obtain ⟨hge, hlt⟩ := e
    simp only [BitVec.sle, BitVec.slt, decide_eq_true_eq, BitVec.toInt, BitVec.toNat_ofNat] at hge hlt
    omega
  refine ⟨fun j => below lo j (Host.reduce_andi_all _ _ _ _ _ hl j), fun j => below hi j (Host.reduce_andi_all _ _ _ _ _ hh j), fun j => ?_⟩
  have e : IntOp.cmpi .sge (used j) 1#32 = 1#1 := Host.reduce_andi_all _ _ _ _ _ hu j
  simp only [IntOp.cmpi, WordCmp.ofBool_eq_one_iff, BitVec.sle, decide_eq_true_eq] at e
  exact e

section
open Cert.Kernel Cert.Kernel.Gen

variable {F : FTy → Type} [FloatOps F] (m : (ℓ : Loc nD τ sig) → Buf (Elt F) ℓ) (h : ∀ c, InRange (tab m c)) (g : Dev nD → PrngReg)

/-- The kernel's run: the result at its value, the arguments unchanged, every counter at zero. -/
theorem kernel_run : θ_run defs (onTc (τ := τ) (main (F := F))) ⟨m, fun _ => 0, g⟩ (fun r => (∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => by
    have hw := (hr.1 c).1
    have hb := (hr.1 c).2
    refine ⟨(hw 3).trans (final m h c), hb main_arg0 (Pipeline.mem_restRefs_of (win := spec0) main_arg0 (by decide) (by decide)),
      (hw 0).trans ((dats m h 0 c).arrAt_in 0 rfl _), (hw 1).trans ((dats m h 0 c).arrAt_in 1 rfl _),
      (hw 2).trans ((dats m h 0 c).arrAt_in 2 rfl _), hb main_arg4 (Pipeline.mem_restRefs_of (win := spec0) main_arg4 (by decide) (by decide))⟩, hr.2⟩)
    (run_main m h g)

end

section
open Cert.Reference Cert.Reference.Gen

variable {F : FTy → Type} [FloatOps F] (m : (ℓ : Loc nD τ sig) → Buf (Elt F) ℓ) (g : Dev nD → PrngReg)

/-- The reference's run: the arguments unchanged; it has no counter. -/
theorem reference_frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => (hr c).2, sem_eq_zero_of_no_sems (by decide) r.2⟩) (Cert.Reference.Value.run m g)

end

section
open Cert.AttentionReferenceIdeal Cert.AttentionReferenceIdeal.Gen

variable (m : (ℓ : Loc nD τ sig) → Buf (Elt Ideal) ℓ) (g : Dev nD → PrngReg)

/-- The attention reference's run: the arguments unchanged; it has no counter. -/
theorem attention_reference_frame : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => (hr c).2, sem_eq_zero_of_no_sems (by decide) r.2⟩) (Cert.AttentionReferenceIdeal.Value.run m g)

end

section
open Cert.ExpertsReferenceIdeal Cert.ExpertsReferenceIdeal.Gen

variable (m : (ℓ : Loc nD τ sig) → Buf (Elt Ideal) ℓ) (g : Dev nD → PrngReg)

/-- The experts' reference's run: the arguments unchanged; it has no counter. -/
theorem experts_reference_frame : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨fun c => (hr c).2, sem_eq_zero_of_no_sems (by decide) r.2⟩) (Cert.ExpertsReferenceIdeal.Value.run m g)

end

section
open Cert.ShortConvReferenceIdeal Cert.ShortConvReferenceIdeal.Gen

variable (m : (ℓ : Loc nD τ sig) → Buf (Elt Ideal) ℓ) (g : Dev nD → PrngReg)

/-- The short convolution's reference's run: the arguments unchanged; it has no counter. -/
theorem short_conv_reference_frame : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hr => ⟨fun c => (hr c).2.2, sem_eq_zero_of_no_sems (by decide) r.2⟩) (Cert.ShortConvReferenceIdeal.Value.run m g)

end

section
open Cert.ModulationReferenceIdeal Cert.ModulationReferenceIdeal.Gen

variable (m : (ℓ : Loc nD τ sig) → Buf (Elt Ideal) ℓ) (g : Dev nD → PrngReg)

/-- The modulation's reference's run: the arguments unchanged; it has no counter. -/
theorem modulation_reference_frame : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => (hr c).2, sem_eq_zero_of_no_sems (by decide) r.2⟩) (Cert.ModulationReferenceIdeal.Value.run m g)

end

/-- The experts' tables as the run finds them are those of a routing, at either instance. -/
theorem experts_ok (m : (ℓ : Loc Cert.ExpertsIdeal.nD Cert.ExpertsIdeal.τ Cert.ExpertsIdeal.sig) → Buf (Elt Ideal) ℓ) (h : Cert.Pre_ExpertsIdeal m) : Cert.Exp.Ok m :=
  Cert.Exp.ok_of _ (by rw [Cert.Exp.tbl_lo m 0, Cert.Exp.tbl_hi m 0, Cert.Exp.tbl_used m 0]; exact routed (h 0))

theorem experts_bits_ok (m : (ℓ : Loc Cert.Experts.nD Cert.Experts.τ Cert.Experts.sig) → Buf (Elt Bits) ℓ) (h : Cert.Pre_Experts m) : Cert.ExpBits.Ok m :=
  Cert.Exp.ok_bits_of _ (by
    have e0 := (Cert.ExpBits.V_pre m 0 0).symm.trans (Cert.ExpBits.V_arg m 0 Cert.Experts.main_arg0 (by decide))
    have e1 := (Cert.ExpBits.V_pre m 0 1).symm.trans (Cert.ExpBits.V_arg m 0 Cert.Experts.main_arg1 (by decide))
    have e2 := (Cert.ExpBits.V_pre m 0 2).symm.trans (Cert.ExpBits.V_arg m 0 Cert.Experts.main_arg2 (by decide))
    rw [e0, e1, e2]; exact routed (h 0))

/-- The experts at the extended reals: the kernel's array is the reference's. -/
theorem experts_algebraic : Cert.algebraic_ExpertsIdeal_ExpertsReferenceIdeal := by
  intro m g m' g' hp hm
  have hO := experts_ok m hp
  refine ⟨fun c => Cert.Exp.out (Cert.Exp.argLo m c) (Cert.Exp.argHi m c) (Cert.Exp.argUsed m c) (Cert.Exp.argX m c) (Cert.Exp.argG m c) (Cert.Exp.argU m c) (Cert.Exp.argD m c),
    Cert.Exp.run_value m g hO fun c => routed (hp c),
    (θ_run _ _ _).mono (fun r hr c => ⟨(hr c).1.trans ?_, (hr c).2⟩) (Cert.ExpertsReferenceIdeal.Value.run m' g')⟩
  obtain ⟨h0, h1, h2, h3, h4, h5, h6⟩ := hm c
  rw [Cert.Exp.res_eq, h0, h1, h2, h3, h4, h5, h6]

/-- The attention at the extended reals: the kernel's array is the reference's. -/
theorem attention_algebraic : Cert.algebraic_AttentionIdeal_AttentionReferenceIdeal_pre_finite := by
  intro m g m' g' hp hm
  refine ⟨fun c => Cert.Attn.out (Cert.Attn.argQ m c) (Cert.Attn.argK m c) (Cert.Attn.argV m c),
    (θ_run _ _ _).mono (fun r hr c => ⟨(hr c).1.trans ?_, (hr c).2⟩) (Cert.AttentionIdeal.Value.run_blocks m g),
    (θ_run _ _ _).mono (fun r hr c => ⟨(hr c).1.trans ?_, (hr c).2⟩) (Cert.AttentionReferenceIdeal.Value.run m' g')⟩
  · have hn := numbers (hp c)
    exact Cert.Attn.array_eq m c _ _ hn.1 hn.2
  · obtain ⟨h0, h1, h2⟩ := hm c
    rw [h0, h1, h2]
    rfl

/-- The output projection after the short convolution, at the extended reals: the kernel's two arrays are the reference's. -/
theorem short_conv_algebraic : Cert.algebraic_ShortConvIdeal_ShortConvReferenceIdeal := by
  intro m g m' g' _ hm
  refine ⟨fun c => Cert.Sc.outX (Cert.Sc.argX m c) (Cert.Sc.argB m c) (Cert.Sc.argU m c) (Cert.Sc.argC m c) (Cert.Sc.argW m c) (Cert.Sc.argGate m c),
    fun c => Cert.Sc.outH (Cert.Sc.argX m c) (Cert.Sc.argB m c) (Cert.Sc.argU m c) (Cert.Sc.argC m c) (Cert.Sc.argW m c) (Cert.Sc.argGate m c)
      (Cert.Sc.argG m c) (Cert.Sc.argShift m c) (Cert.Sc.argScale m c),
    (θ_run _ _ _).mono (fun r hr c => ⟨(hr c).1.trans (Cert.Sc.array_x m c), (hr c).2.1.trans (Cert.Sc.array_h m c), (hr c).2.2⟩)
      (Cert.ShortConvIdeal.Value.run_blocks m g),
    (θ_run _ _ _).mono (fun r hr c => ⟨(hr c).1.trans ?_, (hr c).2.1.trans ?_, (hr c).2.2⟩) (Cert.ShortConvReferenceIdeal.Value.run m' g')⟩
  · obtain ⟨h0, h1, h2, h3, h4, h5, -⟩ := hm c
    rw [h0, h1, h2, h3, h4, h5]
    exact Cert.Sc.ref_x _ _ _ _ _ _
  · obtain ⟨h0, h1, h2, h3, h4, h5, h6, h7, h8⟩ := hm c
    rw [Cert.Sc.ref_h, h0, h1, h2, h3, h4, h5, h6, h7, h8]
    exact Cert.Sc.hTerm_eq _ _ _ _ _ _ _ _ _

/-- The modulation at the extended reals: the kernel's array is the reference's. -/
theorem modulation_algebraic : Cert.algebraic_ModulationIdeal_ModulationReferenceIdeal := by
  intro m g m' g' _ hm
  refine ⟨fun c => Cert.Mod.out _ _ _,
    (θ_run _ _ _).mono (fun r hr c => ⟨(hr c).1.trans (Cert.Mod.array_eq m c), (hr c).2⟩) (Cert.ModulationIdeal.Value.run_blocks m g),
    (θ_run _ _ _).mono (fun r hr c => ⟨(hr c).1.trans ?_, (hr c).2⟩) (Cert.ModulationReferenceIdeal.Value.run m' g')⟩
  obtain ⟨h0, h1, h2⟩ := hm c
  rw [h0, h1, h2]
  exact Cert.Mod.ref_eq _ _ _

/-- The claims, each from the two runs: the gathered rows put together are the reference's value. -/
theorem claim : Cert.Claim := by
  refine ⟨Cert.Kernel.Gen.facts, Cert.Reference.Gen.facts, Cert.Attention.Gen.facts, Cert.AttentionIdeal.Gen.facts, Cert.AttentionReferenceIdeal.Gen.facts,
    Cert.Experts.Gen.facts, Cert.ExpertsIdeal.Gen.facts, Cert.ExpertsReferenceIdeal.Gen.facts, Cert.ShortConv.Gen.facts, Cert.ShortConvIdeal.Gen.facts,
    Cert.ShortConvReferenceIdeal.Gen.facts, Cert.Modulation.Gen.facts, Cert.ModulationIdeal.Gen.facts, Cert.ModulationReferenceIdeal.Gen.facts,
    Cert.Pre_positions.Gen.facts, Cert.Pre_finite.Gen.facts, Cert.Pre_routed.Gen.facts, ?_, ?_, ?_, ?_, ?_, ?_, ?_, ?_, ?_, ?_, ?_, ?_, ?_, ?_, ?_, ?_, ?_, ?_, ?_, trivial, attention_algebraic,
    ⟨IdealRules.bf16_pair.statement _ _, IdealRules.bf16_pair.statement _ _, IdealRules.bf16_pack.statement _⟩, experts_algebraic,
    ⟨IdealRules.bf16_pair.statement _ _, IdealRules.bf16_pack.statement _⟩, short_conv_algebraic, trivial, modulation_algebraic⟩
  · intro m g hp
    exact (θ_run _ _ _).mono (fun r hr => ⟨fun c => (hr.1 c).2, hr.2⟩) (kernel_run m (fun c => inRange (hp c)) g)
  · exact fun m g _ => reference_frame m g
  · exact fun m g _ => reference_frame m g
  · exact fun m g _ => Cert.Attn.frame (F := Bits) m g
  · exact fun m g _ => Cert.AttentionIdeal.Gen.frame m g
  · exact fun m g _ => Cert.AttentionIdeal.Gen.frame m g
  · exact fun m g _ => attention_reference_frame m g
  · exact fun m g _ => attention_reference_frame m g
  · exact fun m g hp => Cert.ExpBits.frame m g (experts_bits_ok m hp)
  · exact fun m g hp => Cert.Exp.frame m g (experts_ok m hp)
  · exact fun m g _ => experts_reference_frame m g
  · exact fun m g _ => experts_reference_frame m g
  · exact fun m g _ => Cert.ShortConv.Gen.frame m g
  · exact fun m g _ => Cert.ShortConvIdeal.Gen.frame m g
  · exact fun m g _ => short_conv_reference_frame m g
  · exact fun m g _ => Cert.Mod.frame (F := Bits) m g
  · exact fun m g _ => Cert.ModulationIdeal.Gen.frame m g
  · exact fun m g _ => modulation_reference_frame m g
  · intro m g m' g' hp hm
    have h : ∀ c, InRange (tab m c) := fun c => inRange (hp c)
    refine ⟨result m h, (θ_run _ _ _).mono (fun r hr c => hr.1 c) (kernel_run m h g), ?_⟩
    refine (θ_run _ _ _).mono (fun r hr c => ?_) (Cert.Reference.Value.run m' g')
    obtain ⟨h0, h1, h2, h3, h4⟩ := hm c
    refine ⟨(hr c).1.trans ?_, (hr c).2⟩
    rw [h0, h1, h2, h3, h4]
    exact Cert.Reference.Combine.out_eq _ _ _ _ _ (h c)

end Cert.Proof

end
